-- ==== Defs.lean ====
def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_DownDxKernel (m : (ℓ : Loc Cert.DownDxKernel.nD Cert.DownDxKernel.τ Cert.DownDxKernel.sig) → Buf (Elt Bits) ℓ) : Prop :=
  True

def Pre_DownDxKernelIdeal (m : (ℓ : Loc Cert.DownDxKernelIdeal.nD Cert.DownDxKernelIdeal.τ Cert.DownDxKernelIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_DownDwKernel (m : (ℓ : Loc Cert.DownDwKernel.nD Cert.DownDwKernel.τ Cert.DownDwKernel.sig) → Buf (Elt Bits) ℓ) : Prop :=
  True

def Pre_DownDwKernelIdeal (m : (ℓ : Loc Cert.DownDwKernelIdeal.nD Cert.DownDwKernelIdeal.τ Cert.DownDwKernelIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_GuDxKernel (m : (ℓ : Loc Cert.GuDxKernel.nD Cert.GuDxKernel.τ Cert.GuDxKernel.sig) → Buf (Elt Bits) ℓ) : Prop :=
  True

def Pre_GuDxKernelIdeal (m : (ℓ : Loc Cert.GuDxKernelIdeal.nD Cert.GuDxKernelIdeal.τ Cert.GuDxKernelIdeal.sig) → Buf (Elt Ideal) ℓ) : Prop :=
  True

def Pre_GuDxReferenceIdeal (m : (ℓ : Loc Cert.GuDxReferenceIdeal.nD Cert.GuDxReferenceIdeal.τ Cert.GuDxReferenceIdeal.sig) → Buf (Elt Ideal) ℓ) : Prop :=
  True

def Pre_GuDwKernel (m : (ℓ : Loc Cert.GuDwKernel.nD Cert.GuDwKernel.τ Cert.GuDwKernel.sig) → Buf (Elt Bits) ℓ) : Prop :=
  True

def Pre_GuDwKernelIdeal (m : (ℓ : Loc Cert.GuDwKernelIdeal.nD Cert.GuDwKernelIdeal.τ Cert.GuDwKernelIdeal.sig) → Buf (Elt Ideal) ℓ) : Prop :=
  True

def Pre_GuDwReferenceIdeal (m : (ℓ : Loc Cert.GuDwReferenceIdeal.nD Cert.GuDwReferenceIdeal.τ Cert.GuDwReferenceIdeal.sig) → Buf (Elt Ideal) ℓ) : Prop :=
  True

def Pre_AOutDxKernel (m : (ℓ : Loc Cert.AOutDxKernel.nD Cert.AOutDxKernel.τ Cert.AOutDxKernel.sig) → Buf (Elt Bits) ℓ) : Prop :=
  True

def Pre_AOutDxKernelIdeal (m : (ℓ : Loc Cert.AOutDxKernelIdeal.nD Cert.AOutDxKernelIdeal.τ Cert.AOutDxKernelIdeal.sig) → Buf (Elt Ideal) ℓ) : Prop :=
  True

def Pre_AOutDxReferenceIdeal (m : (ℓ : Loc Cert.AOutDxReferenceIdeal.nD Cert.AOutDxReferenceIdeal.τ Cert.AOutDxReferenceIdeal.sig) → Buf (Elt Ideal) ℓ) : Prop :=
  True

def Pre_AOutDwKernel (m : (ℓ : Loc Cert.AOutDwKernel.nD Cert.AOutDwKernel.τ Cert.AOutDwKernel.sig) → Buf (Elt Bits) ℓ) : Prop :=
  True

def Pre_AOutDwKernelIdeal (m : (ℓ : Loc Cert.AOutDwKernelIdeal.nD Cert.AOutDwKernelIdeal.τ Cert.AOutDwKernelIdeal.sig) → Buf (Elt Ideal) ℓ) : Prop :=
  True

def Pre_AOutDwReferenceIdeal (m : (ℓ : Loc Cert.AOutDwReferenceIdeal.nD Cert.AOutDwReferenceIdeal.τ Cert.AOutDwReferenceIdeal.sig) → Buf (Elt Ideal) ℓ) : Prop :=
  True

def Pre_AInDxKernel (m : (ℓ : Loc Cert.AInDxKernel.nD Cert.AInDxKernel.τ Cert.AInDxKernel.sig) → Buf (Elt Bits) ℓ) : Prop :=
  True

def Pre_AInDxKernelIdeal (m : (ℓ : Loc Cert.AInDxKernelIdeal.nD Cert.AInDxKernelIdeal.τ Cert.AInDxKernelIdeal.sig) → Buf (Elt Ideal) ℓ) : Prop :=
  True

def Pre_AInDxReferenceIdeal (m : (ℓ : Loc Cert.AInDxReferenceIdeal.nD Cert.AInDxReferenceIdeal.τ Cert.AInDxReferenceIdeal.sig) → Buf (Elt Ideal) ℓ) : Prop :=
  True

def Pre_AInDwKernel (m : (ℓ : Loc Cert.AInDwKernel.nD Cert.AInDwKernel.τ Cert.AInDwKernel.sig) → Buf (Elt Bits) ℓ) : Prop :=
  True

def Pre_AInDwKernelIdeal (m : (ℓ : Loc Cert.AInDwKernelIdeal.nD Cert.AInDwKernelIdeal.τ Cert.AInDwKernelIdeal.sig) → Buf (Elt Ideal) ℓ) : Prop :=
  True

def Pre_AInDwReferenceIdeal (m : (ℓ : Loc Cert.AInDwReferenceIdeal.nD Cert.AInDwReferenceIdeal.τ Cert.AInDwReferenceIdeal.sig) → Buf (Elt Ideal) ℓ) : Prop :=
  True

def Pre_BODxKernel (m : (ℓ : Loc Cert.BODxKernel.nD Cert.BODxKernel.τ Cert.BODxKernel.sig) → Buf (Elt Bits) ℓ) : Prop :=
  True

def Pre_BODxKernelIdeal (m : (ℓ : Loc Cert.BODxKernelIdeal.nD Cert.BODxKernelIdeal.τ Cert.BODxKernelIdeal.sig) → Buf (Elt Ideal) ℓ) : Prop :=
  True

def Pre_BODxReferenceIdeal (m : (ℓ : Loc Cert.BODxReferenceIdeal.nD Cert.BODxReferenceIdeal.τ Cert.BODxReferenceIdeal.sig) → Buf (Elt Ideal) ℓ) : Prop :=
  True

def Pre_BODwKernel (m : (ℓ : Loc Cert.BODwKernel.nD Cert.BODwKernel.τ Cert.BODwKernel.sig) → Buf (Elt Bits) ℓ) : Prop :=
  True

def Pre_BODwKernelIdeal (m : (ℓ : Loc Cert.BODwKernelIdeal.nD Cert.BODwKernelIdeal.τ Cert.BODwKernelIdeal.sig) → Buf (Elt Ideal) ℓ) : Prop :=
  True

def Pre_BODwReferenceIdeal (m : (ℓ : Loc Cert.BODwReferenceIdeal.nD Cert.BODwReferenceIdeal.τ Cert.BODwReferenceIdeal.sig) → Buf (Elt Ideal) ℓ) : Prop :=
  True

def Pre_KvDxKernel (m : (ℓ : Loc Cert.KvDxKernel.nD Cert.KvDxKernel.τ Cert.KvDxKernel.sig) → Buf (Elt Bits) ℓ) : Prop :=
  True

def Pre_KvDxKernelIdeal (m : (ℓ : Loc Cert.KvDxKernelIdeal.nD Cert.KvDxKernelIdeal.τ Cert.KvDxKernelIdeal.sig) → Buf (Elt Ideal) ℓ) : Prop :=
  True

def Pre_KvDxReferenceIdeal (m : (ℓ : Loc Cert.KvDxReferenceIdeal.nD Cert.KvDxReferenceIdeal.τ Cert.KvDxReferenceIdeal.sig) → Buf (Elt Ideal) ℓ) : Prop :=
  True

def Pre_KvDwKernel (m : (ℓ : Loc Cert.KvDwKernel.nD Cert.KvDwKernel.τ Cert.KvDwKernel.sig) → Buf (Elt Bits) ℓ) : Prop :=
  True

def Pre_KvDwKernelIdeal (m : (ℓ : Loc Cert.KvDwKernelIdeal.nD Cert.KvDwKernelIdeal.τ Cert.KvDwKernelIdeal.sig) → Buf (Elt Ideal) ℓ) : Prop :=
  True

def Pre_KvDwReferenceIdeal (m : (ℓ : Loc Cert.KvDwReferenceIdeal.nD Cert.KvDwReferenceIdeal.τ Cert.KvDwReferenceIdeal.sig) → Buf (Elt Ideal) ℓ) : Prop :=
  True

def Pre_GuKernel (m : (ℓ : Loc Cert.GuKernel.nD Cert.GuKernel.τ Cert.GuKernel.sig) → Buf (Elt Bits) ℓ) : Prop :=
  True

def Pre_GuKernelIdeal (m : (ℓ : Loc Cert.GuKernelIdeal.nD Cert.GuKernelIdeal.τ Cert.GuKernelIdeal.sig) → Buf (Elt Ideal) ℓ) : Prop :=
  True

def Pre_GuReferenceIdeal (m : (ℓ : Loc Cert.GuReferenceIdeal.nD Cert.GuReferenceIdeal.τ Cert.GuReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_AInKernel (m : (ℓ : Loc Cert.AInKernel.nD Cert.AInKernel.τ Cert.AInKernel.sig) → Buf (Elt Bits) ℓ) : Prop :=
  True

def Pre_AInKernelIdeal (m : (ℓ : Loc Cert.AInKernelIdeal.nD Cert.AInKernelIdeal.τ Cert.AInKernelIdeal.sig) → Buf (Elt Ideal) ℓ) : Prop :=
  True

def Pre_AInReferenceIdeal (m : (ℓ : Loc Cert.AInReferenceIdeal.nD Cert.AInReferenceIdeal.τ Cert.AInReferenceIdeal.sig) → Buf (Elt Ideal) ℓ) : Prop :=
  True

def Pre_AOutKernel (m : (ℓ : Loc Cert.AOutKernel.nD Cert.AOutKernel.τ Cert.AOutKernel.sig) → Buf (Elt Bits) ℓ) : Prop :=
  True

def Pre_AOutKernelIdeal (m : (ℓ : Loc Cert.AOutKernelIdeal.nD Cert.AOutKernelIdeal.τ Cert.AOutKernelIdeal.sig) → Buf (Elt Ideal) ℓ) : Prop :=
  True

def Pre_AOutReferenceIdeal (m : (ℓ : Loc Cert.AOutReferenceIdeal.nD Cert.AOutReferenceIdeal.τ Cert.AOutReferenceIdeal.sig) → Buf (Elt Ideal) ℓ) : Prop :=
  True

def Pre_KvKernel (m : (ℓ : Loc Cert.KvKernel.nD Cert.KvKernel.τ Cert.KvKernel.sig) → Buf (Elt Bits) ℓ) : Prop :=
  True

def Pre_KvKernelIdeal (m : (ℓ : Loc Cert.KvKernelIdeal.nD Cert.KvKernelIdeal.τ Cert.KvKernelIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_BQKernel (m : (ℓ : Loc Cert.BQKernel.nD Cert.BQKernel.τ Cert.BQKernel.sig) → Buf (Elt Bits) ℓ) : Prop :=
  True

def Pre_BQKernelIdeal (m : (ℓ : Loc Cert.BQKernelIdeal.nD Cert.BQKernelIdeal.τ Cert.BQKernelIdeal.sig) → Buf (Elt Ideal) ℓ) : Prop :=
  True

def Pre_BQReferenceIdeal (m : (ℓ : Loc Cert.BQReferenceIdeal.nD Cert.BQReferenceIdeal.τ Cert.BQReferenceIdeal.sig) → Buf (Elt Ideal) ℓ) : Prop :=
  True

def Pre_BOKernel (m : (ℓ : Loc Cert.BOKernel.nD Cert.BOKernel.τ Cert.BOKernel.sig) → Buf (Elt Bits) ℓ) : Prop :=
  True

def Pre_BOKernelIdeal (m : (ℓ : Loc Cert.BOKernelIdeal.nD Cert.BOKernelIdeal.τ Cert.BOKernelIdeal.sig) → Buf (Elt Ideal) ℓ) : Prop :=
  True

def Pre_BOReferenceIdeal (m : (ℓ : Loc Cert.BOReferenceIdeal.nD Cert.BOReferenceIdeal.τ Cert.BOReferenceIdeal.sig) → Buf (Elt Ideal) ℓ) : Prop :=
  True

def Pre_AttnTwoKernel (m : (ℓ : Loc Cert.AttnTwoKernel.nD Cert.AttnTwoKernel.τ Cert.AttnTwoKernel.sig) → Buf (Elt Bits) ℓ) : Prop :=
  True

def Pre_AttnTwoKernelIdeal (m : (ℓ : Loc Cert.AttnTwoKernelIdeal.nD Cert.AttnTwoKernelIdeal.τ Cert.AttnTwoKernelIdeal.sig) → Buf (Elt Ideal) ℓ) : Prop :=
  True

def Pre_AttnTwoKernelIdeal_finite_two [hPre_finite_two : Cert.Pre_finite_two.Facts] (m : (ℓ : Loc Cert.AttnTwoKernelIdeal.nD Cert.AttnTwoKernelIdeal.τ Cert.AttnTwoKernelIdeal.sig) → Buf (Elt Ideal) ℓ) : Prop :=
  ∀ c : Dev Cert.AttnTwoKernelIdeal.nD,
    (Cert.Pre_finite_two.fn (F := Ideal) (m ((c.tc : Thread Cert.AttnTwoKernelIdeal.nD Cert.AttnTwoKernelIdeal.τ).loc Cert.AttnTwoKernelIdeal.main_arg0)) (m ((c.tc : Thread Cert.AttnTwoKernelIdeal.nD Cert.AttnTwoKernelIdeal.τ).loc Cert.AttnTwoKernelIdeal.main_arg1)) (m ((c.tc : Thread Cert.AttnTwoKernelIdeal.nD Cert.AttnTwoKernelIdeal.τ).loc Cert.AttnTwoKernelIdeal.main_arg2)) (m ((c.tc : Thread Cert.AttnTwoKernelIdeal.nD Cert.AttnTwoKernelIdeal.τ).loc Cert.AttnTwoKernelIdeal.main_arg3)) (m ((c.tc : Thread Cert.AttnTwoKernelIdeal.nD Cert.AttnTwoKernelIdeal.τ).loc Cert.AttnTwoKernelIdeal.main_arg4)) (m ((c.tc : Thread Cert.AttnTwoKernelIdeal.nD Cert.AttnTwoKernelIdeal.τ).loc Cert.AttnTwoKernelIdeal.main_arg5)) (m ((c.tc : Thread Cert.AttnTwoKernelIdeal.nD Cert.AttnTwoKernelIdeal.τ).loc Cert.AttnTwoKernelIdeal.main_arg6)) (m ((c.tc : Thread Cert.AttnTwoKernelIdeal.nD Cert.AttnTwoKernelIdeal.τ).loc Cert.AttnTwoKernelIdeal.main_arg7))) = (fun _ => 1#1)

def Pre_AttnTwoReferenceIdeal (m : (ℓ : Loc Cert.AttnTwoReferenceIdeal.nD Cert.AttnTwoReferenceIdeal.τ Cert.AttnTwoReferenceIdeal.sig) → Buf (Elt Ideal) ℓ) : Prop :=
  True

def Pre_AttnTwoReferenceIdeal_finite_two [hPre_finite_two : Cert.Pre_finite_two.Facts] (m : (ℓ : Loc Cert.AttnTwoReferenceIdeal.nD Cert.AttnTwoReferenceIdeal.τ Cert.AttnTwoReferenceIdeal.sig) → Buf (Elt Ideal) ℓ) : Prop :=
  ∀ c : Dev Cert.AttnTwoReferenceIdeal.nD,
    (Cert.Pre_finite_two.fn (F := Ideal) (m ((c.tc : Thread Cert.AttnTwoReferenceIdeal.nD Cert.AttnTwoReferenceIdeal.τ).loc Cert.AttnTwoReferenceIdeal.main_arg0)) (m ((c.tc : Thread Cert.AttnTwoReferenceIdeal.nD Cert.AttnTwoReferenceIdeal.τ).loc Cert.AttnTwoReferenceIdeal.main_arg1)) (m ((c.tc : Thread Cert.AttnTwoReferenceIdeal.nD Cert.AttnTwoReferenceIdeal.τ).loc Cert.AttnTwoReferenceIdeal.main_arg2)) (m ((c.tc : Thread Cert.AttnTwoReferenceIdeal.nD Cert.AttnTwoReferenceIdeal.τ).loc Cert.AttnTwoReferenceIdeal.main_arg3)) (m ((c.tc : Thread Cert.AttnTwoReferenceIdeal.nD Cert.AttnTwoReferenceIdeal.τ).loc Cert.AttnTwoReferenceIdeal.main_arg4)) (m ((c.tc : Thread Cert.AttnTwoReferenceIdeal.nD Cert.AttnTwoReferenceIdeal.τ).loc Cert.AttnTwoReferenceIdeal.main_arg5)) (m ((c.tc : Thread Cert.AttnTwoReferenceIdeal.nD Cert.AttnTwoReferenceIdeal.τ).loc Cert.AttnTwoReferenceIdeal.main_arg6)) (m ((c.tc : Thread Cert.AttnTwoReferenceIdeal.nD Cert.AttnTwoReferenceIdeal.τ).loc Cert.AttnTwoReferenceIdeal.main_arg7))) = (fun _ => 1#1)

def Pre_DownDepKernel (m : (ℓ : Loc Cert.DownDepKernel.nD Cert.DownDepKernel.τ Cert.DownDepKernel.sig) → Buf (Elt Bits) ℓ) : Prop :=
  True

def Pre_DownDepKernelIdeal (m : (ℓ : Loc Cert.DownDepKernelIdeal.nD Cert.DownDepKernelIdeal.τ Cert.DownDepKernelIdeal.sig) → Buf (Elt Ideal) ℓ) : Prop :=
  True

def Pre_DownDepReferenceIdeal (m : (ℓ : Loc Cert.DownDepReferenceIdeal.nD Cert.DownDepReferenceIdeal.τ Cert.DownDepReferenceIdeal.sig) → Buf (Elt Ideal) ℓ) : Prop :=
  True

def Pre_AOutDepKernel (m : (ℓ : Loc Cert.AOutDepKernel.nD Cert.AOutDepKernel.τ Cert.AOutDepKernel.sig) → Buf (Elt Bits) ℓ) : Prop :=
  True

def Pre_AOutDepKernelIdeal (m : (ℓ : Loc Cert.AOutDepKernelIdeal.nD Cert.AOutDepKernelIdeal.τ Cert.AOutDepKernelIdeal.sig) → Buf (Elt Ideal) ℓ) : Prop :=
  True

def Pre_AOutDepReferenceIdeal (m : (ℓ : Loc Cert.AOutDepReferenceIdeal.nD Cert.AOutDepReferenceIdeal.τ Cert.AOutDepReferenceIdeal.sig) → Buf (Elt Ideal) ℓ) : Prop :=
  True

def Pre_BODepKernel (m : (ℓ : Loc Cert.BODepKernel.nD Cert.BODepKernel.τ Cert.BODepKernel.sig) → Buf (Elt Bits) ℓ) : Prop :=
  True

def Pre_BODepKernelIdeal (m : (ℓ : Loc Cert.BODepKernelIdeal.nD Cert.BODepKernelIdeal.τ Cert.BODepKernelIdeal.sig) → Buf (Elt Ideal) ℓ) : Prop :=
  True

def Pre_BODepReferenceIdeal (m : (ℓ : Loc Cert.BODepReferenceIdeal.nD Cert.BODepReferenceIdeal.τ Cert.BODepReferenceIdeal.sig) → Buf (Elt Ideal) ℓ) : Prop :=
  True

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DownDxKernel [hDownDxKernel : Cert.DownDxKernel.Facts] : Prop :=
  ∀ (m : (ℓ : Loc Cert.DownDxKernel.nD Cert.DownDxKernel.τ Cert.DownDxKernel.sig) → Buf (Elt Bits) ℓ) (g : Dev Cert.DownDxKernel.nD → PrngReg), Pre_DownDxKernel m →
    θ_run (Cert.DownDxKernel.defs (F := Bits)) (onTc (τ := Cert.DownDxKernel.τ) (Cert.DownDxKernel.main (F := Bits))) ⟨m, fun _ => 0, g⟩ (fun r => (∀ c : Dev Cert.DownDxKernel.nD,
      r.2.mem ((c.tc : Thread Cert.DownDxKernel.nD Cert.DownDxKernel.τ).loc Cert.DownDxKernel.main_arg0) = m ((c.tc : Thread Cert.DownDxKernel.nD Cert.DownDxKernel.τ).loc Cert.DownDxKernel.main_arg0)
      ∧ r.2.mem ((c.tc : Thread Cert.DownDxKernel.nD Cert.DownDxKernel.τ).loc Cert.DownDxKernel.main_arg1) = m ((c.tc : Thread Cert.DownDxKernel.nD Cert.DownDxKernel.τ).loc Cert.DownDxKernel.main_arg1))
      ∧ r.2.sem = fun _ => 0)

def quiescent_DownDxKernelIdeal [hDownDxKernelIdeal : Cert.DownDxKernelIdeal.Facts] : Prop :=
  ∀ (m : (ℓ : Loc Cert.DownDxKernelIdeal.nD Cert.DownDxKernelIdeal.τ Cert.DownDxKernelIdeal.sig) → Buf (Elt Ideal) ℓ) (g : Dev Cert.DownDxKernelIdeal.nD → PrngReg), Pre_DownDxKernelIdeal m →
    θ_run (Cert.DownDxKernelIdeal.defs (F := Ideal)) (onTc (τ := Cert.DownDxKernelIdeal.τ) (Cert.DownDxKernelIdeal.main (F := Ideal))) ⟨m, fun _ => 0, g⟩ (fun r => (∀ c : Dev Cert.DownDxKernelIdeal.nD,
      r.2.mem ((c.tc : Thread Cert.DownDxKernelIdeal.nD Cert.DownDxKernelIdeal.τ).loc Cert.DownDxKernelIdeal.main_arg0) = m ((c.tc : Thread Cert.DownDxKernelIdeal.nD Cert.DownDxKernelIdeal.τ).loc Cert.DownDxKernelIdeal.main_arg0)
      ∧ r.2.mem ((c.tc : Thread Cert.DownDxKernelIdeal.nD Cert.DownDxKernelIdeal.τ).loc Cert.DownDxKernelIdeal.main_arg1) = m ((c.tc : Thread Cert.DownDxKernelIdeal.nD Cert.DownDxKernelIdeal.τ).loc Cert.DownDxKernelIdeal.main_arg1))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1))
      ∧ r.2.sem = fun _ => 0)

def quiescent_DownDwKernel [hDownDwKernel : Cert.DownDwKernel.Facts] : Prop :=
  ∀ (m : (ℓ : Loc Cert.DownDwKernel.nD Cert.DownDwKernel.τ Cert.DownDwKernel.sig) → Buf (Elt Bits) ℓ) (g : Dev Cert.DownDwKernel.nD → PrngReg), Pre_DownDwKernel m →
    θ_run (Cert.DownDwKernel.defs (F := Bits)) (onTc (τ := Cert.DownDwKernel.τ) (Cert.DownDwKernel.main (F := Bits))) ⟨m, fun _ => 0, g⟩ (fun r => (∀ c : Dev Cert.DownDwKernel.nD,
      r.2.mem ((c.tc : Thread Cert.DownDwKernel.nD Cert.DownDwKernel.τ).loc Cert.DownDwKernel.main_arg0) = m ((c.tc : Thread Cert.DownDwKernel.nD Cert.DownDwKernel.τ).loc Cert.DownDwKernel.main_arg0)
      ∧ r.2.mem ((c.tc : Thread Cert.DownDwKernel.nD Cert.DownDwKernel.τ).loc Cert.DownDwKernel.main_arg1) = m ((c.tc : Thread Cert.DownDwKernel.nD Cert.DownDwKernel.τ).loc Cert.DownDwKernel.main_arg1))
      ∧ r.2.sem = fun _ => 0)

def quiescent_DownDwKernelIdeal [hDownDwKernelIdeal : Cert.DownDwKernelIdeal.Facts] : Prop :=
  ∀ (m : (ℓ : Loc Cert.DownDwKernelIdeal.nD Cert.DownDwKernelIdeal.τ Cert.DownDwKernelIdeal.sig) → Buf (Elt Ideal) ℓ) (g : Dev Cert.DownDwKernelIdeal.nD → PrngReg), Pre_DownDwKernelIdeal m →
    θ_run (Cert.DownDwKernelIdeal.defs (F := Ideal)) (onTc (τ := Cert.DownDwKernelIdeal.τ) (Cert.DownDwKernelIdeal.main (F := Ideal))) ⟨m, fun _ => 0, g⟩ (fun r => (∀ c : Dev Cert.DownDwKernelIdeal.nD,
      r.2.mem ((c.tc : Thread Cert.DownDwKernelIdeal.nD Cert.DownDwKernelIdeal.τ).loc Cert.DownDwKernelIdeal.main_arg0) = m ((c.tc : Thread Cert.DownDwKernelIdeal.nD Cert.DownDwKernelIdeal.τ).loc Cert.DownDwKernelIdeal.main_arg0)
      ∧ r.2.mem ((c.tc : Thread Cert.DownDwKernelIdeal.nD Cert.DownDwKernelIdeal.τ).loc Cert.DownDwKernelIdeal.main_arg1) = m ((c.tc : Thread Cert.DownDwKernelIdeal.nD Cert.DownDwKernelIdeal.τ).loc Cert.DownDwKernelIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_GuDxKernel [hGuDxKernel : Cert.GuDxKernel.Facts] : Prop :=
  ∀ (m : (ℓ : Loc Cert.GuDxKernel.nD Cert.GuDxKernel.τ Cert.GuDxKernel.sig) → Buf (Elt Bits) ℓ) (g : Dev Cert.GuDxKernel.nD → PrngReg), Pre_GuDxKernel m →
    θ_run (Cert.GuDxKernel.defs (F := Bits)) (onTc (τ := Cert.GuDxKernel.τ) (Cert.GuDxKernel.main (F := Bits))) ⟨m, fun _ => 0, g⟩ (fun r => (∀ c : Dev Cert.GuDxKernel.nD,
      r.2.mem ((c.tc : Thread Cert.GuDxKernel.nD Cert.GuDxKernel.τ).loc Cert.GuDxKernel.main_arg0) = m ((c.tc : Thread Cert.GuDxKernel.nD Cert.GuDxKernel.τ).loc Cert.GuDxKernel.main_arg0)
      ∧ r.2.mem ((c.tc : Thread Cert.GuDxKernel.nD Cert.GuDxKernel.τ).loc Cert.GuDxKernel.main_arg1) = m ((c.tc : Thread Cert.GuDxKernel.nD Cert.GuDxKernel.τ).loc Cert.GuDxKernel.main_arg1))
      ∧ r.2.sem = fun _ => 0)

def quiescent_GuDxKernelIdeal [hGuDxKernelIdeal : Cert.GuDxKernelIdeal.Facts] : Prop :=
  ∀ (m : (ℓ : Loc Cert.GuDxKernelIdeal.nD Cert.GuDxKernelIdeal.τ Cert.GuDxKernelIdeal.sig) → Buf (Elt Ideal) ℓ) (g : Dev Cert.GuDxKernelIdeal.nD → PrngReg), Pre_GuDxKernelIdeal m →
    θ_run (Cert.GuDxKernelIdeal.defs (F := Ideal)) (onTc (τ := Cert.GuDxKernelIdeal.τ) (Cert.GuDxKernelIdeal.main (F := Ideal))) ⟨m, fun _ => 0, g⟩ (fun r => (∀ c : Dev Cert.GuDxKernelIdeal.nD,
      r.2.mem ((c.tc : Thread Cert.GuDxKernelIdeal.nD Cert.GuDxKernelIdeal.τ).loc Cert.GuDxKernelIdeal.main_arg0) = m ((c.tc : Thread Cert.GuDxKernelIdeal.nD Cert.GuDxKernelIdeal.τ).loc Cert.GuDxKernelIdeal.main_arg0)
      ∧ r.2.mem ((c.tc : Thread Cert.GuDxKernelIdeal.nD Cert.GuDxKernelIdeal.τ).loc Cert.GuDxKernelIdeal.main_arg1) = m ((c.tc : Thread Cert.GuDxKernelIdeal.nD Cert.GuDxKernelIdeal.τ).loc Cert.GuDxKernelIdeal.main_arg1))
      ∧ r.2.sem = fun _ => 0)

def quiescent_GuDxReferenceIdeal [hGuDxReferenceIdeal : Cert.GuDxReferenceIdeal.Facts] : Prop :=
  ∀ (m : (ℓ : Loc Cert.GuDxReferenceIdeal.nD Cert.GuDxReferenceIdeal.τ Cert.GuDxReferenceIdeal.sig) → Buf (Elt Ideal) ℓ) (g : Dev Cert.GuDxReferenceIdeal.nD → PrngReg), Pre_GuDxReferenceIdeal m →
    θ_run (Cert.GuDxReferenceIdeal.defs (F := Ideal)) (onTc (τ := Cert.GuDxReferenceIdeal.τ) (Cert.GuDxReferenceIdeal.main (F := Ideal))) ⟨m, fun _ => 0, g⟩ (fun r => (∀ c : Dev Cert.GuDxReferenceIdeal.nD,
      r.2.mem ((c.tc : Thread Cert.GuDxReferenceIdeal.nD Cert.GuDxReferenceIdeal.τ).loc Cert.GuDxReferenceIdeal.main_arg0) = m ((c.tc : Thread Cert.GuDxReferenceIdeal.nD Cert.GuDxReferenceIdeal.τ).loc Cert.GuDxReferenceIdeal.main_arg0)
      ∧ r.2.mem ((c.tc : Thread Cert.GuDxReferenceIdeal.nD Cert.GuDxReferenceIdeal.τ).loc Cert.GuDxReferenceIdeal.main_arg1) = m ((c.tc : Thread Cert.GuDxReferenceIdeal.nD Cert.GuDxReferenceIdeal.τ).loc Cert.GuDxReferenceIdeal.main_arg1))
      ∧ r.2.sem = fun _ => 0)

def quiescent_GuDwKernel [hGuDwKernel : Cert.GuDwKernel.Facts] : Prop :=
  ∀ (m : (ℓ : Loc Cert.GuDwKernel.nD Cert.GuDwKernel.τ Cert.GuDwKernel.sig) → Buf (Elt Bits) ℓ) (g : Dev Cert.GuDwKernel.nD → PrngReg), Pre_GuDwKernel m →
    θ_run (Cert.GuDwKernel.defs (F := Bits)) (onTc (τ := Cert.GuDwKernel.τ) (Cert.GuDwKernel.main (F := Bits))) ⟨m, fun _ => 0, g⟩ (fun r => (∀ c : Dev Cert.GuDwKernel.nD,
      r.2.mem ((c.tc : Thread Cert.GuDwKernel.nD Cert.GuDwKernel.τ).loc Cert.GuDwKernel.main_arg0) = m ((c.tc : Thread Cert.GuDwKernel.nD Cert.GuDwKernel.τ).loc Cert.GuDwKernel.main_arg0)
      ∧ r.2.mem ((c.tc : Thread Cert.GuDwKernel.nD Cert.GuDwKernel.τ).loc Cert.GuDwKernel.main_arg1) = m ((c.tc : Thread Cert.GuDwKernel.nD Cert.GuDwKernel.τ).loc Cert.GuDwKernel.main_arg1))
      ∧ r.2.sem = fun _ => 0)

def quiescent_GuDwKernelIdeal [hGuDwKernelIdeal : Cert.GuDwKernelIdeal.Facts] : Prop :=
  ∀ (m : (ℓ : Loc Cert.GuDwKernelIdeal.nD Cert.GuDwKernelIdeal.τ Cert.GuDwKernelIdeal.sig) → Buf (Elt Ideal) ℓ) (g : Dev Cert.GuDwKernelIdeal.nD → PrngReg), Pre_GuDwKernelIdeal m →
    θ_run (Cert.GuDwKernelIdeal.defs (F := Ideal)) (onTc (τ := Cert.GuDwKernelIdeal.τ) (Cert.GuDwKernelIdeal.main (F := Ideal))) ⟨m, fun _ => 0, g⟩ (fun r => (∀ c : Dev Cert.GuDwKernelIdeal.nD,
      r.2.mem ((c.tc : Thread Cert.GuDwKernelIdeal.nD Cert.GuDwKernelIdeal.τ).loc Cert.GuDwKernelIdeal.main_arg0) = m ((c.tc : Thread Cert.GuDwKernelIdeal.nD Cert.GuDwKernelIdeal.τ).loc Cert.GuDwKernelIdeal.main_arg0)
      ∧ r.2.mem ((c.tc : Thread Cert.GuDwKernelIdeal.nD Cert.GuDwKernelIdeal.τ).loc Cert.GuDwKernelIdeal.main_arg1) = m ((c.tc : Thread Cert.GuDwKernelIdeal.nD Cert.GuDwKernelIdeal.τ).loc Cert.GuDwKernelIdeal.main_arg1))
      ∧ r.2.sem = fun _ => 0)

def quiescent_GuDwReferenceIdeal [hGuDwReferenceIdeal : Cert.GuDwReferenceIdeal.Facts] : Prop :=
  ∀ (m : (ℓ : Loc Cert.GuDwReferenceIdeal.nD Cert.GuDwReferenceIdeal.τ Cert.GuDwReferenceIdeal.sig) → Buf (Elt Ideal) ℓ) (g : Dev Cert.GuDwReferenceIdeal.nD → PrngReg), Pre_GuDwReferenceIdeal m →
    θ_run (Cert.GuDwReferenceIdeal.defs (F := Ideal)) (onTc (τ := Cert.GuDwReferenceIdeal.τ) (Cert.GuDwReferenceIdeal.main (F := Ideal))) ⟨m, fun _ => 0, g⟩ (fun r => (∀ c : Dev Cert.GuDwReferenceIdeal.nD,
      r.2.mem ((c.tc : Thread Cert.GuDwReferenceIdeal.nD Cert.GuDwReferenceIdeal.τ).loc Cert.GuDwReferenceIdeal.main_arg0) = m ((c.tc : Thread Cert.GuDwReferenceIdeal.nD Cert.GuDwReferenceIdeal.τ).loc Cert.GuDwReferenceIdeal.main_arg0)
      ∧ r.2.mem ((c.tc : Thread Cert.GuDwReferenceIdeal.nD Cert.GuDwReferenceIdeal.τ).loc Cert.GuDwReferenceIdeal.main_arg1) = m ((c.tc : Thread Cert.GuDwReferenceIdeal.nD Cert.GuDwReferenceIdeal.τ).loc Cert.GuDwReferenceIdeal.main_arg1))
      ∧ r.2.sem = fun _ => 0)

def quiescent_AOutDxKernel [hAOutDxKernel : Cert.AOutDxKernel.Facts] : Prop :=
  ∀ (m : (ℓ : Loc Cert.AOutDxKernel.nD Cert.AOutDxKernel.τ Cert.AOutDxKernel.sig) → Buf (Elt Bits) ℓ) (g : Dev Cert.AOutDxKernel.nD → PrngReg), Pre_AOutDxKernel m →
    θ_run (Cert.AOutDxKernel.defs (F := Bits)) (onTc (τ := Cert.AOutDxKernel.τ) (Cert.AOutDxKernel.main (F := Bits))) ⟨m, fun _ => 0, g⟩ (fun r => (∀ c : Dev Cert.AOutDxKernel.nD,
      r.2.mem ((c.tc : Thread Cert.AOutDxKernel.nD Cert.AOutDxKernel.τ).loc Cert.AOutDxKernel.main_arg0) = m ((c.tc : Thread Cert.AOutDxKernel.nD Cert.AOutDxKernel.τ).loc Cert.AOutDxKernel.main_arg0)
      ∧ r.2.mem ((c.tc : Thread Cert.AOutDxKernel.nD Cert.AOutDxKernel.τ).loc Cert.AOutDxKernel.main_arg1) = m ((c.tc : Thread Cert.AOutDxKernel.nD Cert.AOutDxKernel.τ).loc Cert.AOutDxKernel.main_arg1))
      ∧ r.2.sem = fun _ => 0)

def quiescent_AOutDxKernelIdeal [hAOutDxKernelIdeal : Cert.AOutDxKernelIdeal.Facts] : Prop :=
  ∀ (m : (ℓ : Loc Cert.AOutDxKernelIdeal.nD Cert.AOutDxKernelIdeal.τ Cert.AOutDxKernelIdeal.sig) → Buf (Elt Ideal) ℓ) (g : Dev Cert.AOutDxKernelIdeal.nD → PrngReg), Pre_AOutDxKernelIdeal m →
    θ_run (Cert.AOutDxKernelIdeal.defs (F := Ideal)) (onTc (τ := Cert.AOutDxKernelIdeal.τ) (Cert.AOutDxKernelIdeal.main (F := Ideal))) ⟨m, fun _ => 0, g⟩ (fun r => (∀ c : Dev Cert.AOutDxKernelIdeal.nD,
      r.2.mem ((c.tc : Thread Cert.AOutDxKernelIdeal.nD Cert.AOutDxKernelIdeal.τ).loc Cert.AOutDxKernelIdeal.main_arg0) = m ((c.tc : Thread Cert.AOutDxKernelIdeal.nD Cert.AOutDxKernelIdeal.τ).loc Cert.AOutDxKernelIdeal.main_arg0)
      ∧ r.2.mem ((c.tc : Thread Cert.AOutDxKernelIdeal.nD Cert.AOutDxKernelIdeal.τ).loc Cert.AOutDxKernelIdeal.main_arg1) = m ((c.tc : Thread Cert.AOutDxKernelIdeal.nD Cert.AOutDxKernelIdeal.τ).loc Cert.AOutDxKernelIdeal.main_arg1))
      ∧ r.2.sem = fun _ => 0)

def quiescent_AOutDxReferenceIdeal [hAOutDxReferenceIdeal : Cert.AOutDxReferenceIdeal.Facts] : Prop :=
  ∀ (m : (ℓ : Loc Cert.AOutDxReferenceIdeal.nD Cert.AOutDxReferenceIdeal.τ Cert.AOutDxReferenceIdeal.sig) → Buf (Elt Ideal) ℓ) (g : Dev Cert.AOutDxReferenceIdeal.nD → PrngReg), Pre_AOutDxReferenceIdeal m →
    θ_run (Cert.AOutDxReferenceIdeal.defs (F := Ideal)) (onTc (τ := Cert.AOutDxReferenceIdeal.τ) (Cert.AOutDxReferenceIdeal.main (F := Ideal))) ⟨m, fun _ => 0, g⟩ (fun r => (∀ c : Dev Cert.AOutDxReferenceIdeal.nD,
      r.2.mem ((c.tc : Thread Cert.AOutDxReferenceIdeal.nD Cert.AOutDxReferenceIdeal.τ).loc Cert.AOutDxReferenceIdeal.main_arg0) = m ((c.tc : Thread Cert.AOutDxReferenceIdeal.nD Cert.AOutDxReferenceIdeal.τ).loc Cert.AOutDxReferenceIdeal.main_arg0)
      ∧ r.2.mem ((c.tc : Thread Cert.AOutDxReferenceIdeal.nD Cert.AOutDxReferenceIdeal.τ).loc Cert.AOutDxReferenceIdeal.main_arg1) = m ((c.tc : Thread Cert.AOutDxReferenceIdeal.nD Cert.AOutDxReferenceIdeal.τ).loc Cert.AOutDxReferenceIdeal.main_arg1))
      ∧ r.2.sem = fun _ => 0)

def quiescent_AOutDwKernel [hAOutDwKernel : Cert.AOutDwKernel.Facts] : Prop :=
  ∀ (m : (ℓ : Loc Cert.AOutDwKernel.nD Cert.AOutDwKernel.τ Cert.AOutDwKernel.sig) → Buf (Elt Bits) ℓ) (g : Dev Cert.AOutDwKernel.nD → PrngReg), Pre_AOutDwKernel m →
    θ_run (Cert.AOutDwKernel.defs (F := Bits)) (onTc (τ := Cert.AOutDwKernel.τ) (Cert.AOutDwKernel.main (F := Bits))) ⟨m, fun _ => 0, g⟩ (fun r => (∀ c : Dev Cert.AOutDwKernel.nD,
      r.2.mem ((c.tc : Thread Cert.AOutDwKernel.nD Cert.AOutDwKernel.τ).loc Cert.AOutDwKernel.main_arg0) = m ((c.tc : Thread Cert.AOutDwKernel.nD Cert.AOutDwKernel.τ).loc Cert.AOutDwKernel.main_arg0)
      ∧ r.2.mem ((c.tc : Thread Cert.AOutDwKernel.nD Cert.AOutDwKernel.τ).loc Cert.AOutDwKernel.main_arg1) = m ((c.tc : Thread Cert.AOutDwKernel.nD Cert.AOutDwKernel.τ).loc Cert.AOutDwKernel.main_arg1))
      ∧ r.2.sem = fun _ => 0)

def quiescent_AOutDwKernelIdeal [hAOutDwKernelIdeal : Cert.AOutDwKernelIdeal.Facts] : Prop :=
  ∀ (m : (ℓ : Loc Cert.AOutDwKernelIdeal.nD Cert.AOutDwKernelIdeal.τ Cert.AOutDwKernelIdeal.sig) → Buf (Elt Ideal) ℓ) (g : Dev Cert.AOutDwKernelIdeal.nD → PrngReg), Pre_AOutDwKernelIdeal m →
    θ_run (Cert.AOutDwKernelIdeal.defs (F := Ideal)) (onTc (τ := Cert.AOutDwKernelIdeal.τ) (Cert.AOutDwKernelIdeal.main (F := Ideal))) ⟨m, fun _ => 0, g⟩ (fun r => (∀ c : Dev Cert.AOutDwKernelIdeal.nD,
      r.2.mem ((c.tc : Thread Cert.AOutDwKernelIdeal.nD Cert.AOutDwKernelIdeal.τ).loc Cert.AOutDwKernelIdeal.main_arg0) = m ((c.tc : Thread Cert.AOutDwKernelIdeal.nD Cert.AOutDwKernelIdeal.τ).loc Cert.AOutDwKernelIdeal.main_arg0)
      ∧ r.2.mem ((c.tc : Thread Cert.AOutDwKernelIdeal.nD Cert.AOutDwKernelIdeal.τ).loc Cert.AOutDwKernelIdeal.main_arg1) = m ((c.tc : Thread Cert.AOutDwKernelIdeal.nD Cert.AOutDwKernelIdeal.τ).loc Cert.AOutDwKernelIdeal.main_arg1))
      ∧ r.2.sem = fun _ => 0)

def quiescent_AOutDwReferenceIdeal [hAOutDwReferenceIdeal : Cert.AOutDwReferenceIdeal.Facts] : Prop :=
  ∀ (m : (ℓ : Loc Cert.AOutDwReferenceIdeal.nD Cert.AOutDwReferenceIdeal.τ Cert.AOutDwReferenceIdeal.sig) → Buf (Elt Ideal) ℓ) (g : Dev Cert.AOutDwReferenceIdeal.nD → PrngReg), Pre_AOutDwReferenceIdeal m →
    θ_run (Cert.AOutDwReferenceIdeal.defs (F := Ideal)) (onTc (τ := Cert.AOutDwReferenceIdeal.τ) (Cert.AOutDwReferenceIdeal.main (F := Ideal))) ⟨m, fun _ => 0, g⟩ (fun r => (∀ c : Dev Cert.AOutDwReferenceIdeal.nD,
      r.2.mem ((c.tc : Thread Cert.AOutDwReferenceIdeal.nD Cert.AOutDwReferenceIdeal.τ).loc Cert.AOutDwReferenceIdeal.main_arg0) = m ((c.tc : Thread Cert.AOutDwReferenceIdeal.nD Cert.AOutDwReferenceIdeal.τ).loc Cert.AOutDwReferenceIdeal.main_arg0)
      ∧ r.2.mem ((c.tc : Thread Cert.AOutDwReferenceIdeal.nD Cert.AOutDwReferenceIdeal.τ).loc Cert.AOutDwReferenceIdeal.main_arg1) = m ((c.tc : Thread Cert.AOutDwReferenceIdeal.nD Cert.AOutDwReferenceIdeal.τ).loc Cert.AOutDwReferenceIdeal.main_arg1))
      ∧ r.2.sem = fun _ => 0)

def quiescent_AInDxKernel [hAInDxKernel : Cert.AInDxKernel.Facts] : Prop :=
  ∀ (m : (ℓ : Loc Cert.AInDxKernel.nD Cert.AInDxKernel.τ Cert.AInDxKernel.sig) → Buf (Elt Bits) ℓ) (g : Dev Cert.AInDxKernel.nD → PrngReg), Pre_AInDxKernel m →
    θ_run (Cert.AInDxKernel.defs (F := Bits)) (onTc (τ := Cert.AInDxKernel.τ) (Cert.AInDxKernel.main (F := Bits))) ⟨m, fun _ => 0, g⟩ (fun r => (∀ c : Dev Cert.AInDxKernel.nD,
      r.2.mem ((c.tc : Thread Cert.AInDxKernel.nD Cert.AInDxKernel.τ).loc Cert.AInDxKernel.main_arg0) = m ((c.tc : Thread Cert.AInDxKernel.nD Cert.AInDxKernel.τ).loc Cert.AInDxKernel.main_arg0)
      ∧ r.2.mem ((c.tc : Thread Cert.AInDxKernel.nD Cert.AInDxKernel.τ).loc Cert.AInDxKernel.main_arg1) = m ((c.tc : Thread Cert.AInDxKernel.nD Cert.AInDxKernel.τ).loc Cert.AInDxKernel.main_arg1))
      ∧ r.2.sem = fun _ => 0)

def quiescent_AInDxKernelIdeal [hAInDxKernelIdeal : Cert.AInDxKernelIdeal.Facts] : Prop :=
  ∀ (m : (ℓ : Loc Cert.AInDxKernelIdeal.nD Cert.AInDxKernelIdeal.τ Cert.AInDxKernelIdeal.sig) → Buf (Elt Ideal) ℓ) (g : Dev Cert.AInDxKernelIdeal.nD → PrngReg), Pre_AInDxKernelIdeal m →
    θ_run (Cert.AInDxKernelIdeal.defs (F := Ideal)) (onTc (τ := Cert.AInDxKernelIdeal.τ) (Cert.AInDxKernelIdeal.main (F := Ideal))) ⟨m, fun _ => 0, g⟩ (fun r => (∀ c : Dev Cert.AInDxKernelIdeal.nD,
      r.2.mem ((c.tc : Thread Cert.AInDxKernelIdeal.nD Cert.AInDxKernelIdeal.τ).loc Cert.AInDxKernelIdeal.main_arg0) = m ((c.tc : Thread Cert.AInDxKernelIdeal.nD Cert.AInDxKernelIdeal.τ).loc Cert.AInDxKernelIdeal.main_arg0)
      ∧ r.2.mem ((c.tc : Thread Cert.AInDxKernelIdeal.nD Cert.AInDxKernelIdeal.τ).loc Cert.AInDxKernelIdeal.main_arg1) = m ((c.tc : Thread Cert.AInDxKernelIdeal.nD Cert.AInDxKernelIdeal.τ).loc Cert.AInDxKernelIdeal.main_arg1))
      ∧ r.2.sem = fun _ => 0)

def quiescent_AInDxReferenceIdeal [hAInDxReferenceIdeal : Cert.AInDxReferenceIdeal.Facts] : Prop :=
  ∀ (m : (ℓ : Loc Cert.AInDxReferenceIdeal.nD Cert.AInDxReferenceIdeal.τ Cert.AInDxReferenceIdeal.sig) → Buf (Elt Ideal) ℓ) (g : Dev Cert.AInDxReferenceIdeal.nD → PrngReg), Pre_AInDxReferenceIdeal m →
    θ_run (Cert.AInDxReferenceIdeal.defs (F := Ideal)) (onTc (τ := Cert.AInDxReferenceIdeal.τ) (Cert.AInDxReferenceIdeal.main (F := Ideal))) ⟨m, fun _ => 0, g⟩ (fun r => (∀ c : Dev Cert.AInDxReferenceIdeal.nD,
      r.2.mem ((c.tc : Thread Cert.AInDxReferenceIdeal.nD Cert.AInDxReferenceIdeal.τ).loc Cert.AInDxReferenceIdeal.main_arg0) = m ((c.tc : Thread Cert.AInDxReferenceIdeal.nD Cert.AInDxReferenceIdeal.τ).loc Cert.AInDxReferenceIdeal.main_arg0)
      ∧ r.2.mem ((c.tc : Thread Cert.AInDxReferenceIdeal.nD Cert.AInDxReferenceIdeal.τ).loc Cert.AInDxReferenceIdeal.main_arg1) = m ((c.tc : Thread Cert.AInDxReferenceIdeal.nD Cert.AInDxReferenceIdeal.τ).loc Cert.AInDxReferenceIdeal.main_arg1))
      ∧ r.2.sem = fun _ => 0)

def quiescent_AInDwKernel [hAInDwKernel : Cert.AInDwKernel.Facts] : Prop :=
  ∀ (m : (ℓ : Loc Cert.AInDwKernel.nD Cert.AInDwKernel.τ Cert.AInDwKernel.sig) → Buf (Elt Bits) ℓ) (g : Dev Cert.AInDwKernel.nD → PrngReg), Pre_AInDwKernel m →
    θ_run (Cert.AInDwKernel.defs (F := Bits)) (onTc (τ := Cert.AInDwKernel.τ) (Cert.AInDwKernel.main (F := Bits))) ⟨m, fun _ => 0, g⟩ (fun r => (∀ c : Dev Cert.AInDwKernel.nD,
      r.2.mem ((c.tc : Thread Cert.AInDwKernel.nD Cert.AInDwKernel.τ).loc Cert.AInDwKernel.main_arg0) = m ((c.tc : Thread Cert.AInDwKernel.nD Cert.AInDwKernel.τ).loc Cert.AInDwKernel.main_arg0)
      ∧ r.2.mem ((c.tc : Thread Cert.AInDwKernel.nD Cert.AInDwKernel.τ).loc Cert.AInDwKernel.main_arg1) = m ((c.tc : Thread Cert.AInDwKernel.nD Cert.AInDwKernel.τ).loc Cert.AInDwKernel.main_arg1))
      ∧ r.2.sem = fun _ => 0)

def quiescent_AInDwKernelIdeal [hAInDwKernelIdeal : Cert.AInDwKernelIdeal.Facts] : Prop :=
  ∀ (m : (ℓ : Loc Cert.AInDwKernelIdeal.nD Cert.AInDwKernelIdeal.τ Cert.AInDwKernelIdeal.sig) → Buf (Elt Ideal) ℓ) (g : Dev Cert.AInDwKernelIdeal.nD → PrngReg), Pre_AInDwKernelIdeal m →
    θ_run (Cert.AInDwKernelIdeal.defs (F := Ideal)) (onTc (τ := Cert.AInDwKernelIdeal.τ) (Cert.AInDwKernelIdeal.main (F := Ideal))) ⟨m, fun _ => 0, g⟩ (fun r => (∀ c : Dev Cert.AInDwKernelIdeal.nD,
      r.2.mem ((c.tc : Thread Cert.AInDwKernelIdeal.nD Cert.AInDwKernelIdeal.τ).loc Cert.AInDwKernelIdeal.main_arg0) = m ((c.tc : Thread Cert.AInDwKernelIdeal.nD Cert.AInDwKernelIdeal.τ).loc Cert.AInDwKernelIdeal.main_arg0)
      ∧ r.2.mem ((c.tc : Thread Cert.AInDwKernelIdeal.nD Cert.AInDwKernelIdeal.τ).loc Cert.AInDwKernelIdeal.main_arg1) = m ((c.tc : Thread Cert.AInDwKernelIdeal.nD Cert.AInDwKernelIdeal.τ).loc Cert.AInDwKernelIdeal.main_arg1))
      ∧ r.2.sem = fun _ => 0)

def quiescent_AInDwReferenceIdeal [hAInDwReferenceIdeal : Cert.AInDwReferenceIdeal.Facts] : Prop :=
  ∀ (m : (ℓ : Loc Cert.AInDwReferenceIdeal.nD Cert.AInDwReferenceIdeal.τ Cert.AInDwReferenceIdeal.sig) → Buf (Elt Ideal) ℓ) (g : Dev Cert.AInDwReferenceIdeal.nD → PrngReg), Pre_AInDwReferenceIdeal m →
    θ_run (Cert.AInDwReferenceIdeal.defs (F := Ideal)) (onTc (τ := Cert.AInDwReferenceIdeal.τ) (Cert.AInDwReferenceIdeal.main (F := Ideal))) ⟨m, fun _ => 0, g⟩ (fun r => (∀ c : Dev Cert.AInDwReferenceIdeal.nD,
      r.2.mem ((c.tc : Thread Cert.AInDwReferenceIdeal.nD Cert.AInDwReferenceIdeal.τ).loc Cert.AInDwReferenceIdeal.main_arg0) = m ((c.tc : Thread Cert.AInDwReferenceIdeal.nD Cert.AInDwReferenceIdeal.τ).loc Cert.AInDwReferenceIdeal.main_arg0)
      ∧ r.2.mem ((c.tc : Thread Cert.AInDwReferenceIdeal.nD Cert.AInDwReferenceIdeal.τ).loc Cert.AInDwReferenceIdeal.main_arg1) = m ((c.tc : Thread Cert.AInDwReferenceIdeal.nD Cert.AInDwReferenceIdeal.τ).loc Cert.AInDwReferenceIdeal.main_arg1))
      ∧ r.2.sem = fun _ => 0)

def quiescent_BODxKernel [hBODxKernel : Cert.BODxKernel.Facts] : Prop :=
  ∀ (m : (ℓ : Loc Cert.BODxKernel.nD Cert.BODxKernel.τ Cert.BODxKernel.sig) → Buf (Elt Bits) ℓ) (g : Dev Cert.BODxKernel.nD → PrngReg), Pre_BODxKernel m →
    θ_run (Cert.BODxKernel.defs (F := Bits)) (onTc (τ := Cert.BODxKernel.τ) (Cert.BODxKernel.main (F := Bits))) ⟨m, fun _ => 0, g⟩ (fun r => (∀ c : Dev Cert.BODxKernel.nD,
      r.2.mem ((c.tc : Thread Cert.BODxKernel.nD Cert.BODxKernel.τ).loc Cert.BODxKernel.main_arg0) = m ((c.tc : Thread Cert.BODxKernel.nD Cert.BODxKernel.τ).loc Cert.BODxKernel.main_arg0)
      ∧ r.2.mem ((c.tc : Thread Cert.BODxKernel.nD Cert.BODxKernel.τ).loc Cert.BODxKernel.main_arg1) = m ((c.tc : Thread Cert.BODxKernel.nD Cert.BODxKernel.τ).loc Cert.BODxKernel.main_arg1))
      ∧ r.2.sem = fun _ => 0)

def quiescent_BODxKernelIdeal [hBODxKernelIdeal : Cert.BODxKernelIdeal.Facts] : Prop :=
  ∀ (m : (ℓ : Loc Cert.BODxKernelIdeal.nD Cert.BODxKernelIdeal.τ Cert.BODxKernelIdeal.sig) → Buf (Elt Ideal) ℓ) (g : Dev Cert.BODxKernelIdeal.nD → PrngReg), Pre_BODxKernelIdeal m →
    θ_run (Cert.BODxKernelIdeal.defs (F := Ideal)) (onTc (τ := Cert.BODxKernelIdeal.τ) (Cert.BODxKernelIdeal.main (F := Ideal))) ⟨m, fun _ => 0, g⟩ (fun r => (∀ c : Dev Cert.BODxKernelIdeal.nD,
      r.2.mem ((c.tc : Thread Cert.BODxKernelIdeal.nD Cert.BODxKernelIdeal.τ).loc Cert.BODxKernelIdeal.main_arg0) = m ((c.tc : Thread Cert.BODxKernelIdeal.nD Cert.BODxKernelIdeal.τ).loc Cert.BODxKernelIdeal.main_arg0)
      ∧ r.2.mem ((c.tc : Thread Cert.BODxKernelIdeal.nD Cert.BODxKernelIdeal.τ).loc Cert.BODxKernelIdeal.main_arg1) = m ((c.tc : Thread Cert.BODxKernelIdeal.nD Cert.BODxKernelIdeal.τ).loc Cert.BODxKernelIdeal.main_arg1))
      ∧ r.2.sem = fun _ => 0)

def quiescent_BODxReferenceIdeal [hBODxReferenceIdeal : Cert.BODxReferenceIdeal.Facts] : Prop :=
  ∀ (m : (ℓ : Loc Cert.BODxReferenceIdeal.nD Cert.BODxReferenceIdeal.τ Cert.BODxReferenceIdeal.sig) → Buf (Elt Ideal) ℓ) (g : Dev Cert.BODxReferenceIdeal.nD → PrngReg), Pre_BODxReferenceIdeal m →
    θ_run (Cert.BODxReferenceIdeal.defs (F := Ideal)) (onTc (τ := Cert.BODxReferenceIdeal.τ) (Cert.BODxReferenceIdeal.main (F := Ideal))) ⟨m, fun _ => 0, g⟩ (fun r => (∀ c : Dev Cert.BODxReferenceIdeal.nD,
      r.2.mem ((c.tc : Thread Cert.BODxReferenceIdeal.nD Cert.BODxReferenceIdeal.τ).loc Cert.BODxReferenceIdeal.main_arg0) = m ((c.tc : Thread Cert.BODxReferenceIdeal.nD Cert.BODxReferenceIdeal.τ).loc Cert.BODxReferenceIdeal.main_arg0)
      ∧ r.2.mem ((c.tc : Thread Cert.BODxReferenceIdeal.nD Cert.BODxReferenceIdeal.τ).loc Cert.BODxReferenceIdeal.main_arg1) = m ((c.tc : Thread Cert.BODxReferenceIdeal.nD Cert.BODxReferenceIdeal.τ).loc Cert.BODxReferenceIdeal.main_arg1))
      ∧ r.2.sem = fun _ => 0)

def quiescent_BODwKernel [hBODwKernel : Cert.BODwKernel.Facts] : Prop :=
  ∀ (m : (ℓ : Loc Cert.BODwKernel.nD Cert.BODwKernel.τ Cert.BODwKernel.sig) → Buf (Elt Bits) ℓ) (g : Dev Cert.BODwKernel.nD → PrngReg), Pre_BODwKernel m →
    θ_run (Cert.BODwKernel.defs (F := Bits)) (onTc (τ := Cert.BODwKernel.τ) (Cert.BODwKernel.main (F := Bits))) ⟨m, fun _ => 0, g⟩ (fun r => (∀ c : Dev Cert.BODwKernel.nD,
      r.2.mem ((c.tc : Thread Cert.BODwKernel.nD Cert.BODwKernel.τ).loc Cert.BODwKernel.main_arg0) = m ((c.tc : Thread Cert.BODwKernel.nD Cert.BODwKernel.τ).loc Cert.BODwKernel.main_arg0)
      ∧ r.2.mem ((c.tc : Thread Cert.BODwKernel.nD Cert.BODwKernel.τ).loc Cert.BODwKernel.main_arg1) = m ((c.tc : Thread Cert.BODwKernel.nD Cert.BODwKernel.τ).loc Cert.BODwKernel.main_arg1))
      ∧ r.2.sem = fun _ => 0)

def quiescent_BODwKernelIdeal [hBODwKernelIdeal : Cert.BODwKernelIdeal.Facts] : Prop :=
  ∀ (m : (ℓ : Loc Cert.BODwKernelIdeal.nD Cert.BODwKernelIdeal.τ Cert.BODwKernelIdeal.sig) → Buf (Elt Ideal) ℓ) (g : Dev Cert.BODwKernelIdeal.nD → PrngReg), Pre_BODwKernelIdeal m →
    θ_run (Cert.BODwKernelIdeal.defs (F := Ideal)) (onTc (τ := Cert.BODwKernelIdeal.τ) (Cert.BODwKernelIdeal.main (F := Ideal))) ⟨m, fun _ => 0, g⟩ (fun r => (∀ c : Dev Cert.BODwKernelIdeal.nD,
      r.2.mem ((c.tc : Thread Cert.BODwKernelIdeal.nD Cert.BODwKernelIdeal.τ).loc Cert.BODwKernelIdeal.main_arg0) = m ((c.tc : Thread Cert.BODwKernelIdeal.nD Cert.BODwKernelIdeal.τ).loc Cert.BODwKernelIdeal.main_arg0)
      ∧ r.2.mem ((c.tc : Thread Cert.BODwKernelIdeal.nD Cert.BODwKernelIdeal.τ).loc Cert.BODwKernelIdeal.main_arg1) = m ((c.tc : Thread Cert.BODwKernelIdeal.nD Cert.BODwKernelIdeal.τ).loc Cert.BODwKernelIdeal.main_arg1))
      ∧ r.2.sem = fun _ => 0)

def quiescent_BODwReferenceIdeal [hBODwReferenceIdeal : Cert.BODwReferenceIdeal.Facts] : Prop :=
  ∀ (m : (ℓ : Loc Cert.BODwReferenceIdeal.nD Cert.BODwReferenceIdeal.τ Cert.BODwReferenceIdeal.sig) → Buf (Elt Ideal) ℓ) (g : Dev Cert.BODwReferenceIdeal.nD → PrngReg), Pre_BODwReferenceIdeal m →
    θ_run (Cert.BODwReferenceIdeal.defs (F := Ideal)) (onTc (τ := Cert.BODwReferenceIdeal.τ) (Cert.BODwReferenceIdeal.main (F := Ideal))) ⟨m, fun _ => 0, g⟩ (fun r => (∀ c : Dev Cert.BODwReferenceIdeal.nD,
      r.2.mem ((c.tc : Thread Cert.BODwReferenceIdeal.nD Cert.BODwReferenceIdeal.τ).loc Cert.BODwReferenceIdeal.main_arg0) = m ((c.tc : Thread Cert.BODwReferenceIdeal.nD Cert.BODwReferenceIdeal.τ).loc Cert.BODwReferenceIdeal.main_arg0)
      ∧ r.2.mem ((c.tc : Thread Cert.BODwReferenceIdeal.nD Cert.BODwReferenceIdeal.τ).loc Cert.BODwReferenceIdeal.main_arg1) = m ((c.tc : Thread Cert.BODwReferenceIdeal.nD Cert.BODwReferenceIdeal.τ).loc Cert.BODwReferenceIdeal.main_arg1))
      ∧ r.2.sem = fun _ => 0)

def quiescent_KvDxKernel [hKvDxKernel : Cert.KvDxKernel.Facts] : Prop :=
  ∀ (m : (ℓ : Loc Cert.KvDxKernel.nD Cert.KvDxKernel.τ Cert.KvDxKernel.sig) → Buf (Elt Bits) ℓ) (g : Dev Cert.KvDxKernel.nD → PrngReg), Pre_KvDxKernel m →
    θ_run (Cert.KvDxKernel.defs (F := Bits)) (onTc (τ := Cert.KvDxKernel.τ) (Cert.KvDxKernel.main (F := Bits))) ⟨m, fun _ => 0, g⟩ (fun r => (∀ c : Dev Cert.KvDxKernel.nD,
      r.2.mem ((c.tc : Thread Cert.KvDxKernel.nD Cert.KvDxKernel.τ).loc Cert.KvDxKernel.main_arg0) = m ((c.tc : Thread Cert.KvDxKernel.nD Cert.KvDxKernel.τ).loc Cert.KvDxKernel.main_arg0)
      ∧ r.2.mem ((c.tc : Thread Cert.KvDxKernel.nD Cert.KvDxKernel.τ).loc Cert.KvDxKernel.main_arg1) = m ((c.tc : Thread Cert.KvDxKernel.nD Cert.KvDxKernel.τ).loc Cert.KvDxKernel.main_arg1))
      ∧ r.2.sem = fun _ => 0)

def quiescent_KvDxKernelIdeal [hKvDxKernelIdeal : Cert.KvDxKernelIdeal.Facts] : Prop :=
  ∀ (m : (ℓ : Loc Cert.KvDxKernelIdeal.nD Cert.KvDxKernelIdeal.τ Cert.KvDxKernelIdeal.sig) → Buf (Elt Ideal) ℓ) (g : Dev Cert.KvDxKernelIdeal.nD → PrngReg), Pre_KvDxKernelIdeal m →
    θ_run (Cert.KvDxKernelIdeal.defs (F := Ideal)) (onTc (τ := Cert.KvDxKernelIdeal.τ) (Cert.KvDxKernelIdeal.main (F := Ideal))) ⟨m, fun _ => 0, g⟩ (fun r => (∀ c : Dev Cert.KvDxKernelIdeal.nD,
      r.2.mem ((c.tc : Thread Cert.KvDxKernelIdeal.nD Cert.KvDxKernelIdeal.τ).loc Cert.KvDxKernelIdeal.main_arg0) = m ((c.tc : Thread Cert.KvDxKernelIdeal.nD Cert.KvDxKernelIdeal.τ).loc Cert.KvDxKernelIdeal.main_arg0)
      ∧ r.2.mem ((c.tc : Thread Cert.KvDxKernelIdeal.nD Cert.KvDxKernelIdeal.τ).loc Cert.KvDxKernelIdeal.main_arg1) = m ((c.tc : Thread Cert.KvDxKernelIdeal.nD Cert.KvDxKernelIdeal.τ).loc Cert.KvDxKernelIdeal.main_arg1))
      ∧ r.2.sem = fun _ => 0)

def quiescent_KvDxReferenceIdeal [hKvDxReferenceIdeal : Cert.KvDxReferenceIdeal.Facts] : Prop :=
  ∀ (m : (ℓ : Loc Cert.KvDxReferenceIdeal.nD Cert.KvDxReferenceIdeal.τ Cert.KvDxReferenceIdeal.sig) → Buf (Elt Ideal) ℓ) (g : Dev Cert.KvDxReferenceIdeal.nD → PrngReg), Pre_KvDxReferenceIdeal m →
    θ_run (Cert.KvDxReferenceIdeal.defs (F := Ideal)) (onTc (τ := Cert.KvDxReferenceIdeal.τ) (Cert.KvDxReferenceIdeal.main (F := Ideal))) ⟨m, fun _ => 0, g⟩ (fun r => (∀ c : Dev Cert.KvDxReferenceIdeal.nD,
      r.2.mem ((c.tc : Thread Cert.KvDxReferenceIdeal.nD Cert.KvDxReferenceIdeal.τ).loc Cert.KvDxReferenceIdeal.main_arg0) = m ((c.tc : Thread Cert.KvDxReferenceIdeal.nD Cert.KvDxReferenceIdeal.τ).loc Cert.KvDxReferenceIdeal.main_arg0)
      ∧ r.2.mem ((c.tc : Thread Cert.KvDxReferenceIdeal.nD Cert.KvDxReferenceIdeal.τ).loc Cert.KvDxReferenceIdeal.main_arg1) = m ((c.tc : Thread Cert.KvDxReferenceIdeal.nD Cert.KvDxReferenceIdeal.τ).loc Cert.KvDxReferenceIdeal.main_arg1))
      ∧ r.2.sem = fun _ => 0)

def quiescent_KvDwKernel [hKvDwKernel : Cert.KvDwKernel.Facts] : Prop :=
  ∀ (m : (ℓ : Loc Cert.KvDwKernel.nD Cert.KvDwKernel.τ Cert.KvDwKernel.sig) → Buf (Elt Bits) ℓ) (g : Dev Cert.KvDwKernel.nD → PrngReg), Pre_KvDwKernel m →
    θ_run (Cert.KvDwKernel.defs (F := Bits)) (onTc (τ := Cert.KvDwKernel.τ) (Cert.KvDwKernel.main (F := Bits))) ⟨m, fun _ => 0, g⟩ (fun r => (∀ c : Dev Cert.KvDwKernel.nD,
      r.2.mem ((c.tc : Thread Cert.KvDwKernel.nD Cert.KvDwKernel.τ).loc Cert.KvDwKernel.main_arg0) = m ((c.tc : Thread Cert.KvDwKernel.nD Cert.KvDwKernel.τ).loc Cert.KvDwKernel.main_arg0)
      ∧ r.2.mem ((c.tc : Thread Cert.KvDwKernel.nD Cert.KvDwKernel.τ).loc Cert.KvDwKernel.main_arg1) = m ((c.tc : Thread Cert.KvDwKernel.nD Cert.KvDwKernel.τ).loc Cert.KvDwKernel.main_arg1))
      ∧ r.2.sem = fun _ => 0)

def quiescent_KvDwKernelIdeal [hKvDwKernelIdeal : Cert.KvDwKernelIdeal.Facts] : Prop :=
  ∀ (m : (ℓ : Loc Cert.KvDwKernelIdeal.nD Cert.KvDwKernelIdeal.τ Cert.KvDwKernelIdeal.sig) → Buf (Elt Ideal) ℓ) (g : Dev Cert.KvDwKernelIdeal.nD → PrngReg), Pre_KvDwKernelIdeal m →
    θ_run (Cert.KvDwKernelIdeal.defs (F := Ideal)) (onTc (τ := Cert.KvDwKernelIdeal.τ) (Cert.KvDwKernelIdeal.main (F := Ideal))) ⟨m, fun _ => 0, g⟩ (fun r => (∀ c : Dev Cert.KvDwKernelIdeal.nD,
      r.2.mem ((c.tc : Thread Cert.KvDwKernelIdeal.nD Cert.KvDwKernelIdeal.τ).loc Cert.KvDwKernelIdeal.main_arg0) = m ((c.tc : Thread Cert.KvDwKernelIdeal.nD Cert.KvDwKernelIdeal.τ).loc Cert.KvDwKernelIdeal.main_arg0)
      ∧ r.2.mem ((c.tc : Thread Cert.KvDwKernelIdeal.nD Cert.KvDwKernelIdeal.τ).loc Cert.KvDwKernelIdeal.main_arg1) = m ((c.tc : Thread Cert.KvDwKernelIdeal.nD Cert.KvDwKernelIdeal.τ).loc Cert.KvDwKernelIdeal.main_arg1))
      ∧ r.2.sem = fun _ => 0)

def quiescent_KvDwReferenceIdeal [hKvDwReferenceIdeal : Cert.KvDwReferenceIdeal.Facts] : Prop :=
  ∀ (m : (ℓ : Loc Cert.KvDwReferenceIdeal.nD Cert.KvDwReferenceIdeal.τ Cert.KvDwReferenceIdeal.sig) → Buf (Elt Ideal) ℓ) (g : Dev Cert.KvDwReferenceIdeal.nD → PrngReg), Pre_KvDwReferenceIdeal m →
    θ_run (Cert.KvDwReferenceIdeal.defs (F := Ideal)) (onTc (τ := Cert.KvDwReferenceIdeal.τ) (Cert.KvDwReferenceIdeal.main (F := Ideal))) ⟨m, fun _ => 0, g⟩ (fun r => (∀ c : Dev Cert.KvDwReferenceIdeal.nD,
      r.2.mem ((c.tc : Thread Cert.KvDwReferenceIdeal.nD Cert.KvDwReferenceIdeal.τ).loc Cert.KvDwReferenceIdeal.main_arg0) = m ((c.tc : Thread Cert.KvDwReferenceIdeal.nD Cert.KvDwReferenceIdeal.τ).loc Cert.KvDwReferenceIdeal.main_arg0)
      ∧ r.2.mem ((c.tc : Thread Cert.KvDwReferenceIdeal.nD Cert.KvDwReferenceIdeal.τ).loc Cert.KvDwReferenceIdeal.main_arg1) = m ((c.tc : Thread Cert.KvDwReferenceIdeal.nD Cert.KvDwReferenceIdeal.τ).loc Cert.KvDwReferenceIdeal.main_arg1))
      ∧ r.2.sem = fun _ => 0)

def quiescent_GuKernel [hGuKernel : Cert.GuKernel.Facts] : Prop :=
  ∀ (m : (ℓ : Loc Cert.GuKernel.nD Cert.GuKernel.τ Cert.GuKernel.sig) → Buf (Elt Bits) ℓ) (g : Dev Cert.GuKernel.nD → PrngReg), Pre_GuKernel m →
    θ_run (Cert.GuKernel.defs (F := Bits)) (onTc (τ := Cert.GuKernel.τ) (Cert.GuKernel.main (F := Bits))) ⟨m, fun _ => 0, g⟩ (fun r => (∀ c : Dev Cert.GuKernel.nD,
      r.2.mem ((c.tc : Thread Cert.GuKernel.nD Cert.GuKernel.τ).loc Cert.GuKernel.main_arg0) = m ((c.tc : Thread Cert.GuKernel.nD Cert.GuKernel.τ).loc Cert.GuKernel.main_arg0)
      ∧ r.2.mem ((c.tc : Thread Cert.GuKernel.nD Cert.GuKernel.τ).loc Cert.GuKernel.main_arg1) = m ((c.tc : Thread Cert.GuKernel.nD Cert.GuKernel.τ).loc Cert.GuKernel.main_arg1))
      ∧ r.2.sem = fun _ => 0)

def quiescent_GuKernelIdeal [hGuKernelIdeal : Cert.GuKernelIdeal.Facts] : Prop :=
  ∀ (m : (ℓ : Loc Cert.GuKernelIdeal.nD Cert.GuKernelIdeal.τ Cert.GuKernelIdeal.sig) → Buf (Elt Ideal) ℓ) (g : Dev Cert.GuKernelIdeal.nD → PrngReg), Pre_GuKernelIdeal m →
    θ_run (Cert.GuKernelIdeal.defs (F := Ideal)) (onTc (τ := Cert.GuKernelIdeal.τ) (Cert.GuKernelIdeal.main (F := Ideal))) ⟨m, fun _ => 0, g⟩ (fun r => (∀ c : Dev Cert.GuKernelIdeal.nD,
      r.2.mem ((c.tc : Thread Cert.GuKernelIdeal.nD Cert.GuKernelIdeal.τ).loc Cert.GuKernelIdeal.main_arg0) = m ((c.tc : Thread Cert.GuKernelIdeal.nD Cert.GuKernelIdeal.τ).loc Cert.GuKernelIdeal.main_arg0)
      ∧ r.2.mem ((c.tc : Thread Cert.GuKernelIdeal.nD Cert.GuKernelIdeal.τ).loc Cert.GuKernelIdeal.main_arg1) = m ((c.tc : Thread Cert.GuKernelIdeal.nD Cert.GuKernelIdeal.τ).loc Cert.GuKernelIdeal.main_arg1))
      ∧ r.2.sem = fun _ => 0)

def quiescent_GuReferenceIdeal [hGuReferenceIdeal : Cert.GuReferenceIdeal.Facts] : Prop :=
  ∀ (m : (ℓ : Loc Cert.GuReferenceIdeal.nD Cert.GuReferenceIdeal.τ Cert.GuReferenceIdeal.sig) → Buf (Elt Ideal) ℓ) (g : Dev Cert.GuReferenceIdeal.nD → PrngReg), Pre_GuReferenceIdeal m →
    θ_run (Cert.GuReferenceIdeal.defs (F := Ideal)) (onTc (τ := Cert.GuReferenceIdeal.τ) (Cert.GuReferenceIdeal.main (F := Ideal))) ⟨m, fun _ => 0, g⟩ (fun r => (∀ c : Dev Cert.GuReferenceIdeal.nD,
      r.2.mem ((c.tc : Thread Cert.GuReferenceIdeal.nD Cert.GuReferenceIdeal.τ).loc Cert.GuReferenceIdeal.main_arg0) = m ((c.tc : Thread Cert.GuReferenceIdeal.nD Cert.GuReferenceIdeal.τ).loc Cert.GuReferenceIdeal.main_arg0)
      ∧ r.2.mem ((c.tc : Thread Cert.GuReferenceIdeal.nD Cert.GuReferenceIdeal.τ).loc Cert.GuReferenceIdeal.main_arg1) = m ((c.tc : Thread Cert.GuReferenceIdeal.nD Cert.GuReferenceIdeal.τ).loc Cert.GuReferenceIdeal.main_arg1))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_AInKernel [hAInKernel : Cert.AInKernel.Facts] : Prop :=
  ∀ (m : (ℓ : Loc Cert.AInKernel.nD Cert.AInKernel.τ Cert.AInKernel.sig) → Buf (Elt Bits) ℓ) (g : Dev Cert.AInKernel.nD → PrngReg), Pre_AInKernel m →
    θ_run (Cert.AInKernel.defs (F := Bits)) (onTc (τ := Cert.AInKernel.τ) (Cert.AInKernel.main (F := Bits))) ⟨m, fun _ => 0, g⟩ (fun r => (∀ c : Dev Cert.AInKernel.nD,
      r.2.mem ((c.tc : Thread Cert.AInKernel.nD Cert.AInKernel.τ).loc Cert.AInKernel.main_arg0) = m ((c.tc : Thread Cert.AInKernel.nD Cert.AInKernel.τ).loc Cert.AInKernel.main_arg0)
      ∧ r.2.mem ((c.tc : Thread Cert.AInKernel.nD Cert.AInKernel.τ).loc Cert.AInKernel.main_arg1) = m ((c.tc : Thread Cert.AInKernel.nD Cert.AInKernel.τ).loc Cert.AInKernel.main_arg1))
      ∧ r.2.sem = fun _ => 0)

def quiescent_AInKernelIdeal [hAInKernelIdeal : Cert.AInKernelIdeal.Facts] : Prop :=
  ∀ (m : (ℓ : Loc Cert.AInKernelIdeal.nD Cert.AInKernelIdeal.τ Cert.AInKernelIdeal.sig) → Buf (Elt Ideal) ℓ) (g : Dev Cert.AInKernelIdeal.nD → PrngReg), Pre_AInKernelIdeal m →
    θ_run (Cert.AInKernelIdeal.defs (F := Ideal)) (onTc (τ := Cert.AInKernelIdeal.τ) (Cert.AInKernelIdeal.main (F := Ideal))) ⟨m, fun _ => 0, g⟩ (fun r => (∀ c : Dev Cert.AInKernelIdeal.nD,
      r.2.mem ((c.tc : Thread Cert.AInKernelIdeal.nD Cert.AInKernelIdeal.τ).loc Cert.AInKernelIdeal.main_arg0) = m ((c.tc : Thread Cert.AInKernelIdeal.nD Cert.AInKernelIdeal.τ).loc Cert.AInKernelIdeal.main_arg0)
      ∧ r.2.mem ((c.tc : Thread Cert.AInKernelIdeal.nD Cert.AInKernelIdeal.τ).loc Cert.AInKernelIdeal.main_arg1) = m ((c.tc : Thread Cert.AInKernelIdeal.nD Cert.AInKernelIdeal.τ).loc Cert.AInKernelIdeal.main_arg1))
      ∧ r.2.sem = fun _ => 0)

def quiescent_AInReferenceIdeal [hAInReferenceIdeal : Cert.AInReferenceIdeal.Facts] : Prop :=
  ∀ (m : (ℓ : Loc Cert.AInReferenceIdeal.nD Cert.AInReferenceIdeal.τ Cert.AInReferenceIdeal.sig) → Buf (Elt Ideal) ℓ) (g : Dev Cert.AInReferenceIdeal.nD → PrngReg), Pre_AInReferenceIdeal m →
    θ_run (Cert.AInReferenceIdeal.defs (F := Ideal)) (onTc (τ := Cert.AInReferenceIdeal.τ) (Cert.AInReferenceIdeal.main (F := Ideal))) ⟨m, fun _ => 0, g⟩ (fun r => (∀ c : Dev Cert.AInReferenceIdeal.nD,
      r.2.mem ((c.tc : Thread Cert.AInReferenceIdeal.nD Cert.AInReferenceIdeal.τ).loc Cert.AInReferenceIdeal.main_arg0) = m ((c.tc : Thread Cert.AInReferenceIdeal.nD Cert.AInReferenceIdeal.τ).loc Cert.AInReferenceIdeal.main_arg0)
      ∧ r.2.mem ((c.tc : Thread Cert.AInReferenceIdeal.nD Cert.AInReferenceIdeal.τ).loc Cert.AInReferenceIdeal.main_arg1) = m ((c.tc : Thread Cert.AInReferenceIdeal.nD Cert.AInReferenceIdeal.τ).loc Cert.AInReferenceIdeal.main_arg1))
      ∧ r.2.sem = fun _ => 0)

def quiescent_AOutKernel [hAOutKernel : Cert.AOutKernel.Facts] : Prop :=
  ∀ (m : (ℓ : Loc Cert.AOutKernel.nD Cert.AOutKernel.τ Cert.AOutKernel.sig) → Buf (Elt Bits) ℓ) (g : Dev Cert.AOutKernel.nD → PrngReg), Pre_AOutKernel m →
    θ_run (Cert.AOutKernel.defs (F := Bits)) (onTc (τ := Cert.AOutKernel.τ) (Cert.AOutKernel.main (F := Bits))) ⟨m, fun _ => 0, g⟩ (fun r => (∀ c : Dev Cert.AOutKernel.nD,
      r.2.mem ((c.tc : Thread Cert.AOutKernel.nD Cert.AOutKernel.τ).loc Cert.AOutKernel.main_arg0) = m ((c.tc : Thread Cert.AOutKernel.nD Cert.AOutKernel.τ).loc Cert.AOutKernel.main_arg0)
      ∧ r.2.mem ((c.tc : Thread Cert.AOutKernel.nD Cert.AOutKernel.τ).loc Cert.AOutKernel.main_arg1) = m ((c.tc : Thread Cert.AOutKernel.nD Cert.AOutKernel.τ).loc Cert.AOutKernel.main_arg1)
      ∧ r.2.mem ((c.tc : Thread Cert.AOutKernel.nD Cert.AOutKernel.τ).loc Cert.AOutKernel.main_arg2) = m ((c.tc : Thread Cert.AOutKernel.nD Cert.AOutKernel.τ).loc Cert.AOutKernel.main_arg2))
      ∧ r.2.sem = fun _ => 0)

def quiescent_AOutKernelIdeal [hAOutKernelIdeal : Cert.AOutKernelIdeal.Facts] : Prop :=
  ∀ (m : (ℓ : Loc Cert.AOutKernelIdeal.nD Cert.AOutKernelIdeal.τ Cert.AOutKernelIdeal.sig) → Buf (Elt Ideal) ℓ) (g : Dev Cert.AOutKernelIdeal.nD → PrngReg), Pre_AOutKernelIdeal m →
    θ_run (Cert.AOutKernelIdeal.defs (F := Ideal)) (onTc (τ := Cert.AOutKernelIdeal.τ) (Cert.AOutKernelIdeal.main (F := Ideal))) ⟨m, fun _ => 0, g⟩ (fun r => (∀ c : Dev Cert.AOutKernelIdeal.nD,
      r.2.mem ((c.tc : Thread Cert.AOutKernelIdeal.nD Cert.AOutKernelIdeal.τ).loc Cert.AOutKernelIdeal.main_arg0) = m ((c.tc : Thread Cert.AOutKernelIdeal.nD Cert.AOutKernelIdeal.τ).loc Cert.AOutKernelIdeal.main_arg0)
      ∧ r.2.mem ((c.tc : Thread Cert.AOutKernelIdeal.nD Cert.AOutKernelIdeal.τ).loc Cert.AOutKernelIdeal.main_arg1) = m ((c.tc : Thread Cert.AOutKernelIdeal.nD Cert.AOutKernelIdeal.τ).loc Cert.AOutKernelIdeal.main_arg1)
      ∧ r.2.mem ((c.tc : Thread Cert.AOutKernelIdeal.nD Cert.AOutKernelIdeal.τ).loc Cert.AOutKernelIdeal.main_arg2) = m ((c.tc : Thread Cert.AOutKernelIdeal.nD Cert.AOutKernelIdeal.τ).loc Cert.AOutKernelIdeal.main_arg2))
      ∧ r.2.sem = fun _ => 0)

def quiescent_AOutReferenceIdeal [hAOutReferenceIdeal : Cert.AOutReferenceIdeal.Facts] : Prop :=
  ∀ (m : (ℓ : Loc Cert.AOutReferenceIdeal.nD Cert.AOutReferenceIdeal.τ Cert.AOutReferenceIdeal.sig) → Buf (Elt Ideal) ℓ) (g : Dev Cert.AOutReferenceIdeal.nD → PrngReg), Pre_AOutReferenceIdeal m →
    θ_run (Cert.AOutReferenceIdeal.defs (F := Ideal)) (onTc (τ := Cert.AOutReferenceIdeal.τ) (Cert.AOutReferenceIdeal.main (F := Ideal))) ⟨m, fun _ => 0, g⟩ (fun r => (∀ c : Dev Cert.AOutReferenceIdeal.nD,
      r.2.mem ((c.tc : Thread Cert.AOutReferenceIdeal.nD Cert.AOutReferenceIdeal.τ).loc Cert.AOutReferenceIdeal.main_arg0) = m ((c.tc : Thread Cert.AOutReferenceIdeal.nD Cert.AOutReferenceIdeal.τ).loc Cert.AOutReferenceIdeal.main_arg0)
      ∧ r.2.mem ((c.tc : Thread Cert.AOutReferenceIdeal.nD Cert.AOutReferenceIdeal.τ).loc Cert.AOutReferenceIdeal.main_arg1) = m ((c.tc : Thread Cert.AOutReferenceIdeal.nD Cert.AOutReferenceIdeal.τ).loc Cert.AOutReferenceIdeal.main_arg1)
      ∧ r.2.mem ((c.tc : Thread Cert.AOutReferenceIdeal.nD Cert.AOutReferenceIdeal.τ).loc Cert.AOutReferenceIdeal.main_arg2) = m ((c.tc : Thread Cert.AOutReferenceIdeal.nD Cert.AOutReferenceIdeal.τ).loc Cert.AOutReferenceIdeal.main_arg2))
      ∧ r.2.sem = fun _ => 0)

def quiescent_KvKernel [hKvKernel : Cert.KvKernel.Facts] : Prop :=
  ∀ (m : (ℓ : Loc Cert.KvKernel.nD Cert.KvKernel.τ Cert.KvKernel.sig) → Buf (Elt Bits) ℓ) (g : Dev Cert.KvKernel.nD → PrngReg), Pre_KvKernel m →
    θ_run (Cert.KvKernel.defs (F := Bits)) (onTc (τ := Cert.KvKernel.τ) (Cert.KvKernel.main (F := Bits))) ⟨m, fun _ => 0, g⟩ (fun r => (∀ c : Dev Cert.KvKernel.nD,
      r.2.mem ((c.tc : Thread Cert.KvKernel.nD Cert.KvKernel.τ).loc Cert.KvKernel.main_arg0) = m ((c.tc : Thread Cert.KvKernel.nD Cert.KvKernel.τ).loc Cert.KvKernel.main_arg0)
      ∧ r.2.mem ((c.tc : Thread Cert.KvKernel.nD Cert.KvKernel.τ).loc Cert.KvKernel.main_arg1) = m ((c.tc : Thread Cert.KvKernel.nD Cert.KvKernel.τ).loc Cert.KvKernel.main_arg1))
      ∧ r.2.sem = fun _ => 0)

def quiescent_KvKernelIdeal [hKvKernelIdeal : Cert.KvKernelIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg), Pre_KvKernelIdeal m →
    θ_run (Cert.KvKernelIdeal.defs (F := Ideal)) (onTc (τ := Cert.KvKernelIdeal.τ) (Cert.KvKernelIdeal.main (F := Ideal))) ⟨m, fun _ => 0, g⟩ (fun r => (∀ c : Dev Cert.KvKernelIdeal.nD,
      r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
      ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1))
      ∧ r.2.sem = fun _ => 0)

def quiescent_BQKernel [hBQKernel : Cert.BQKernel.Facts] : Prop :=
  ∀ (m : (ℓ : Loc Cert.BQKernel.nD Cert.BQKernel.τ Cert.BQKernel.sig) → Buf (Elt Bits) ℓ) (g : Dev Cert.BQKernel.nD → PrngReg), Pre_BQKernel m →
    θ_run (Cert.BQKernel.defs (F := Bits)) (onTc (τ := Cert.BQKernel.τ) (Cert.BQKernel.main (F := Bits))) ⟨m, fun _ => 0, g⟩ (fun r => (∀ c : Dev Cert.BQKernel.nD,
      r.2.mem ((c.tc : Thread Cert.BQKernel.nD Cert.BQKernel.τ).loc Cert.BQKernel.main_arg0) = m ((c.tc : Thread Cert.BQKernel.nD Cert.BQKernel.τ).loc Cert.BQKernel.main_arg0)
      ∧ r.2.mem ((c.tc : Thread Cert.BQKernel.nD Cert.BQKernel.τ).loc Cert.BQKernel.main_arg1) = m ((c.tc : Thread Cert.BQKernel.nD Cert.BQKernel.τ).loc Cert.BQKernel.main_arg1))
      ∧ r.2.sem = fun _ => 0)

def quiescent_BQKernelIdeal [hBQKernelIdeal : Cert.BQKernelIdeal.Facts] : Prop :=
  ∀ (m : (ℓ : Loc Cert.BQKernelIdeal.nD Cert.BQKernelIdeal.τ Cert.BQKernelIdeal.sig) → Buf (Elt Ideal) ℓ) (g : Dev Cert.BQKernelIdeal.nD → PrngReg), Pre_BQKernelIdeal m →
    θ_run (Cert.BQKernelIdeal.defs (F := Ideal)) (onTc (τ := Cert.BQKernelIdeal.τ) (Cert.BQKernelIdeal.main (F := Ideal))) ⟨m, fun _ => 0, g⟩ (fun r => (∀ c : Dev Cert.BQKernelIdeal.nD,
      r.2.mem ((c.tc : Thread Cert.BQKernelIdeal.nD Cert.BQKernelIdeal.τ).loc Cert.BQKernelIdeal.main_arg0) = m ((c.tc : Thread Cert.BQKernelIdeal.nD Cert.BQKernelIdeal.τ).loc Cert.BQKernelIdeal.main_arg0)
      ∧ r.2.mem ((c.tc : Thread Cert.BQKernelIdeal.nD Cert.BQKernelIdeal.τ).loc Cert.BQKernelIdeal.main_arg1) = m ((c.tc : Thread Cert.BQKernelIdeal.nD Cert.BQKernelIdeal.τ).loc Cert.BQKernelIdeal.main_arg1))
      ∧ r.2.sem = fun _ => 0)

def quiescent_BQReferenceIdeal [hBQReferenceIdeal : Cert.BQReferenceIdeal.Facts] : Prop :=
  ∀ (m : (ℓ : Loc Cert.BQReferenceIdeal.nD Cert.BQReferenceIdeal.τ Cert.BQReferenceIdeal.sig) → Buf (Elt Ideal) ℓ) (g : Dev Cert.BQReferenceIdeal.nD → PrngReg), Pre_BQReferenceIdeal m →
    θ_run (Cert.BQReferenceIdeal.defs (F := Ideal)) (onTc (τ := Cert.BQReferenceIdeal.τ) (Cert.BQReferenceIdeal.main (F := Ideal))) ⟨m, fun _ => 0, g⟩ (fun r => (∀ c : Dev Cert.BQReferenceIdeal.nD,
      r.2.mem ((c.tc : Thread Cert.BQReferenceIdeal.nD Cert.BQReferenceIdeal.τ).loc Cert.BQReferenceIdeal.main_arg0) = m ((c.tc : Thread Cert.BQReferenceIdeal.nD Cert.BQReferenceIdeal.τ).loc Cert.BQReferenceIdeal.main_arg0)
      ∧ r.2.mem ((c.tc : Thread Cert.BQReferenceIdeal.nD Cert.BQReferenceIdeal.τ).loc Cert.BQReferenceIdeal.main_arg1) = m ((c.tc : Thread Cert.BQReferenceIdeal.nD Cert.BQReferenceIdeal.τ).loc Cert.BQReferenceIdeal.main_arg1))
      ∧ r.2.sem = fun _ => 0)

def quiescent_BOKernel [hBOKernel : Cert.BOKernel.Facts] : Prop :=
  ∀ (m : (ℓ : Loc Cert.BOKernel.nD Cert.BOKernel.τ Cert.BOKernel.sig) → Buf (Elt Bits) ℓ) (g : Dev Cert.BOKernel.nD → PrngReg), Pre_BOKernel m →
    θ_run (Cert.BOKernel.defs (F := Bits)) (onTc (τ := Cert.BOKernel.τ) (Cert.BOKernel.main (F := Bits))) ⟨m, fun _ => 0, g⟩ (fun r => (∀ c : Dev Cert.BOKernel.nD,
      r.2.mem ((c.tc : Thread Cert.BOKernel.nD Cert.BOKernel.τ).loc Cert.BOKernel.main_arg0) = m ((c.tc : Thread Cert.BOKernel.nD Cert.BOKernel.τ).loc Cert.BOKernel.main_arg0)
      ∧ r.2.mem ((c.tc : Thread Cert.BOKernel.nD Cert.BOKernel.τ).loc Cert.BOKernel.main_arg1) = m ((c.tc : Thread Cert.BOKernel.nD Cert.BOKernel.τ).loc Cert.BOKernel.main_arg1)
      ∧ r.2.mem ((c.tc : Thread Cert.BOKernel.nD Cert.BOKernel.τ).loc Cert.BOKernel.main_arg2) = m ((c.tc : Thread Cert.BOKernel.nD Cert.BOKernel.τ).loc Cert.BOKernel.main_arg2))
      ∧ r.2.sem = fun _ => 0)

def quiescent_BOKernelIdeal [hBOKernelIdeal : Cert.BOKernelIdeal.Facts] : Prop :=
  ∀ (m : (ℓ : Loc Cert.BOKernelIdeal.nD Cert.BOKernelIdeal.τ Cert.BOKernelIdeal.sig) → Buf (Elt Ideal) ℓ) (g : Dev Cert.BOKernelIdeal.nD → PrngReg), Pre_BOKernelIdeal m →
    θ_run (Cert.BOKernelIdeal.defs (F := Ideal)) (onTc (τ := Cert.BOKernelIdeal.τ) (Cert.BOKernelIdeal.main (F := Ideal))) ⟨m, fun _ => 0, g⟩ (fun r => (∀ c : Dev Cert.BOKernelIdeal.nD,
      r.2.mem ((c.tc : Thread Cert.BOKernelIdeal.nD Cert.BOKernelIdeal.τ).loc Cert.BOKernelIdeal.main_arg0) = m ((c.tc : Thread Cert.BOKernelIdeal.nD Cert.BOKernelIdeal.τ).loc Cert.BOKernelIdeal.main_arg0)
      ∧ r.2.mem ((c.tc : Thread Cert.BOKernelIdeal.nD Cert.BOKernelIdeal.τ).loc Cert.BOKernelIdeal.main_arg1) = m ((c.tc : Thread Cert.BOKernelIdeal.nD Cert.BOKernelIdeal.τ).loc Cert.BOKernelIdeal.main_arg1)
      ∧ r.2.mem ((c.tc : Thread Cert.BOKernelIdeal.nD Cert.BOKernelIdeal.τ).loc Cert.BOKernelIdeal.main_arg2) = m ((c.tc : Thread Cert.BOKernelIdeal.nD Cert.BOKernelIdeal.τ).loc Cert.BOKernelIdeal.main_arg2))
      ∧ r.2.sem = fun _ => 0)

def quiescent_BOReferenceIdeal [hBOReferenceIdeal : Cert.BOReferenceIdeal.Facts] : Prop :=
  ∀ (m : (ℓ : Loc Cert.BOReferenceIdeal.nD Cert.BOReferenceIdeal.τ Cert.BOReferenceIdeal.sig) → Buf (Elt Ideal) ℓ) (g : Dev Cert.BOReferenceIdeal.nD → PrngReg), Pre_BOReferenceIdeal m →
    θ_run (Cert.BOReferenceIdeal.defs (F := Ideal)) (onTc (τ := Cert.BOReferenceIdeal.τ) (Cert.BOReferenceIdeal.main (F := Ideal))) ⟨m, fun _ => 0, g⟩ (fun r => (∀ c : Dev Cert.BOReferenceIdeal.nD,
      r.2.mem ((c.tc : Thread Cert.BOReferenceIdeal.nD Cert.BOReferenceIdeal.τ).loc Cert.BOReferenceIdeal.main_arg0) = m ((c.tc : Thread Cert.BOReferenceIdeal.nD Cert.BOReferenceIdeal.τ).loc Cert.BOReferenceIdeal.main_arg0)
      ∧ r.2.mem ((c.tc : Thread Cert.BOReferenceIdeal.nD Cert.BOReferenceIdeal.τ).loc Cert.BOReferenceIdeal.main_arg1) = m ((c.tc : Thread Cert.BOReferenceIdeal.nD Cert.BOReferenceIdeal.τ).loc Cert.BOReferenceIdeal.main_arg1)
      ∧ r.2.mem ((c.tc : Thread Cert.BOReferenceIdeal.nD Cert.BOReferenceIdeal.τ).loc Cert.BOReferenceIdeal.main_arg2) = m ((c.tc : Thread Cert.BOReferenceIdeal.nD Cert.BOReferenceIdeal.τ).loc Cert.BOReferenceIdeal.main_arg2))
      ∧ r.2.sem = fun _ => 0)

def quiescent_AttnTwoKernel [hAttnTwoKernel : Cert.AttnTwoKernel.Facts] : Prop :=
  ∀ (m : (ℓ : Loc Cert.AttnTwoKernel.nD Cert.AttnTwoKernel.τ Cert.AttnTwoKernel.sig) → Buf (Elt Bits) ℓ) (g : Dev Cert.AttnTwoKernel.nD → PrngReg), Pre_AttnTwoKernel m →
    θ_run (Cert.AttnTwoKernel.defs (F := Bits)) (onTc (τ := Cert.AttnTwoKernel.τ) (Cert.AttnTwoKernel.main (F := Bits))) ⟨m, fun _ => 0, g⟩ (fun r => (∀ c : Dev Cert.AttnTwoKernel.nD,
      r.2.mem ((c.tc : Thread Cert.AttnTwoKernel.nD Cert.AttnTwoKernel.τ).loc Cert.AttnTwoKernel.main_arg0) = m ((c.tc : Thread Cert.AttnTwoKernel.nD Cert.AttnTwoKernel.τ).loc Cert.AttnTwoKernel.main_arg0)
      ∧ r.2.mem ((c.tc : Thread Cert.AttnTwoKernel.nD Cert.AttnTwoKernel.τ).loc Cert.AttnTwoKernel.main_arg1) = m ((c.tc : Thread Cert.AttnTwoKernel.nD Cert.AttnTwoKernel.τ).loc Cert.AttnTwoKernel.main_arg1)
      ∧ r.2.mem ((c.tc : Thread Cert.AttnTwoKernel.nD Cert.AttnTwoKernel.τ).loc Cert.AttnTwoKernel.main_arg2) = m ((c.tc : Thread Cert.AttnTwoKernel.nD Cert.AttnTwoKernel.τ).loc Cert.AttnTwoKernel.main_arg2)
      ∧ r.2.mem ((c.tc : Thread Cert.AttnTwoKernel.nD Cert.AttnTwoKernel.τ).loc Cert.AttnTwoKernel.main_arg3) = m ((c.tc : Thread Cert.AttnTwoKernel.nD Cert.AttnTwoKernel.τ).loc Cert.AttnTwoKernel.main_arg3)
      ∧ r.2.mem ((c.tc : Thread Cert.AttnTwoKernel.nD Cert.AttnTwoKernel.τ).loc Cert.AttnTwoKernel.main_arg4) = m ((c.tc : Thread Cert.AttnTwoKernel.nD Cert.AttnTwoKernel.τ).loc Cert.AttnTwoKernel.main_arg4)
      ∧ r.2.mem ((c.tc : Thread Cert.AttnTwoKernel.nD Cert.AttnTwoKernel.τ).loc Cert.AttnTwoKernel.main_arg5) = m ((c.tc : Thread Cert.AttnTwoKernel.nD Cert.AttnTwoKernel.τ).loc Cert.AttnTwoKernel.main_arg5)
      ∧ r.2.mem ((c.tc : Thread Cert.AttnTwoKernel.nD Cert.AttnTwoKernel.τ).loc Cert.AttnTwoKernel.main_arg6) = m ((c.tc : Thread Cert.AttnTwoKernel.nD Cert.AttnTwoKernel.τ).loc Cert.AttnTwoKernel.main_arg6)
      ∧ r.2.mem ((c.tc : Thread Cert.AttnTwoKernel.nD Cert.AttnTwoKernel.τ).loc Cert.AttnTwoKernel.main_arg7) = m ((c.tc : Thread Cert.AttnTwoKernel.nD Cert.AttnTwoKernel.τ).loc Cert.AttnTwoKernel.main_arg7))
      ∧ r.2.sem = fun _ => 0)

def quiescent_AttnTwoKernelIdeal [hAttnTwoKernelIdeal : Cert.AttnTwoKernelIdeal.Facts] : Prop :=
  ∀ (m : (ℓ : Loc Cert.AttnTwoKernelIdeal.nD Cert.AttnTwoKernelIdeal.τ Cert.AttnTwoKernelIdeal.sig) → Buf (Elt Ideal) ℓ) (g : Dev Cert.AttnTwoKernelIdeal.nD → PrngReg), Pre_AttnTwoKernelIdeal m →
    θ_run (Cert.AttnTwoKernelIdeal.defs (F := Ideal)) (onTc (τ := Cert.AttnTwoKernelIdeal.τ) (Cert.AttnTwoKernelIdeal.main (F := Ideal))) ⟨m, fun _ => 0, g⟩ (fun r => (∀ c : Dev Cert.AttnTwoKernelIdeal.nD,
      r.2.mem ((c.tc : Thread Cert.AttnTwoKernelIdeal.nD Cert.AttnTwoKernelIdeal.τ).loc Cert.AttnTwoKernelIdeal.main_arg0) = m ((c.tc : Thread Cert.AttnTwoKernelIdeal.nD Cert.AttnTwoKernelIdeal.τ).loc Cert.AttnTwoKernelIdeal.main_arg0)
      ∧ r.2.mem ((c.tc : Thread Cert.AttnTwoKernelIdeal.nD Cert.AttnTwoKernelIdeal.τ).loc Cert.AttnTwoKernelIdeal.main_arg1) = m ((c.tc : Thread Cert.AttnTwoKernelIdeal.nD Cert.AttnTwoKernelIdeal.τ).loc Cert.AttnTwoKernelIdeal.main_arg1)
      ∧ r.2.mem ((c.tc : Thread Cert.AttnTwoKernelIdeal.nD Cert.AttnTwoKernelIdeal.τ).loc Cert.AttnTwoKernelIdeal.main_arg2) = m ((c.tc : Thread Cert.AttnTwoKernelIdeal.nD Cert.AttnTwoKernelIdeal.τ).loc Cert.AttnTwoKernelIdeal.main_arg2)
      ∧ r.2.mem ((c.tc : Thread Cert.AttnTwoKernelIdeal.nD Cert.AttnTwoKernelIdeal.τ).loc Cert.AttnTwoKernelIdeal.main_arg3) = m ((c.tc : Thread Cert.AttnTwoKernelIdeal.nD Cert.AttnTwoKernelIdeal.τ).loc Cert.AttnTwoKernelIdeal.main_arg3)
      ∧ r.2.mem ((c.tc : Thread Cert.AttnTwoKernelIdeal.nD Cert.AttnTwoKernelIdeal.τ).loc Cert.AttnTwoKernelIdeal.main_arg4) = m ((c.tc : Thread Cert.AttnTwoKernelIdeal.nD Cert.AttnTwoKernelIdeal.τ).loc Cert.AttnTwoKernelIdeal.main_arg4)
      ∧ r.2.mem ((c.tc : Thread Cert.AttnTwoKernelIdeal.nD Cert.AttnTwoKernelIdeal.τ).loc Cert.AttnTwoKernelIdeal.main_arg5) = m ((c.tc : Thread Cert.AttnTwoKernelIdeal.nD Cert.AttnTwoKernelIdeal.τ).loc Cert.AttnTwoKernelIdeal.main_arg5)
      ∧ r.2.mem ((c.tc : Thread Cert.AttnTwoKernelIdeal.nD Cert.AttnTwoKernelIdeal.τ).loc Cert.AttnTwoKernelIdeal.main_arg6) = m ((c.tc : Thread Cert.AttnTwoKernelIdeal.nD Cert.AttnTwoKernelIdeal.τ).loc Cert.AttnTwoKernelIdeal.main_arg6)
      ∧ r.2.mem ((c.tc : Thread Cert.AttnTwoKernelIdeal.nD Cert.AttnTwoKernelIdeal.τ).loc Cert.AttnTwoKernelIdeal.main_arg7) = m ((c.tc : Thread Cert.AttnTwoKernelIdeal.nD Cert.AttnTwoKernelIdeal.τ).loc Cert.AttnTwoKernelIdeal.main_arg7))
      ∧ r.2.sem = fun _ => 0)

def quiescent_AttnTwoKernelIdeal_pre_finite_two [hAttnTwoKernelIdeal : Cert.AttnTwoKernelIdeal.Facts] [hPre_finite_two : Cert.Pre_finite_two.Facts] : Prop :=
  ∀ (m : (ℓ : Loc Cert.AttnTwoKernelIdeal.nD Cert.AttnTwoKernelIdeal.τ Cert.AttnTwoKernelIdeal.sig) → Buf (Elt Ideal) ℓ) (g : Dev Cert.AttnTwoKernelIdeal.nD → PrngReg), Pre_AttnTwoKernelIdeal_finite_two m →
    θ_run (Cert.AttnTwoKernelIdeal.defs (F := Ideal)) (onTc (τ := Cert.AttnTwoKernelIdeal.τ) (Cert.AttnTwoKernelIdeal.main (F := Ideal))) ⟨m, fun _ => 0, g⟩ (fun r => (∀ c : Dev Cert.AttnTwoKernelIdeal.nD,
      r.2.mem ((c.tc : Thread Cert.AttnTwoKernelIdeal.nD Cert.AttnTwoKernelIdeal.τ).loc Cert.AttnTwoKernelIdeal.main_arg0) = m ((c.tc : Thread Cert.AttnTwoKernelIdeal.nD Cert.AttnTwoKernelIdeal.τ).loc Cert.AttnTwoKernelIdeal.main_arg0)
      ∧ r.2.mem ((c.tc : Thread Cert.AttnTwoKernelIdeal.nD Cert.AttnTwoKernelIdeal.τ).loc Cert.AttnTwoKernelIdeal.main_arg1) = m ((c.tc : Thread Cert.AttnTwoKernelIdeal.nD Cert.AttnTwoKernelIdeal.τ).loc Cert.AttnTwoKernelIdeal.main_arg1)
      ∧ r.2.mem ((c.tc : Thread Cert.AttnTwoKernelIdeal.nD Cert.AttnTwoKernelIdeal.τ).loc Cert.AttnTwoKernelIdeal.main_arg2) = m ((c.tc : Thread Cert.AttnTwoKernelIdeal.nD Cert.AttnTwoKernelIdeal.τ).loc Cert.AttnTwoKernelIdeal.main_arg2)
      ∧ r.2.mem ((c.tc : Thread Cert.AttnTwoKernelIdeal.nD Cert.AttnTwoKernelIdeal.τ).loc Cert.AttnTwoKernelIdeal.main_arg3) = m ((c.tc : Thread Cert.AttnTwoKernelIdeal.nD Cert.AttnTwoKernelIdeal.τ).loc Cert.AttnTwoKernelIdeal.main_arg3)
      ∧ r.2.mem ((c.tc : Thread Cert.AttnTwoKernelIdeal.nD Cert.AttnTwoKernelIdeal.τ).loc Cert.AttnTwoKernelIdeal.main_arg4) = m ((c.tc : Thread Cert.AttnTwoKernelIdeal.nD Cert.AttnTwoKernelIdeal.τ).loc Cert.AttnTwoKernelIdeal.main_arg4)
      ∧ r.2.mem ((c.tc : Thread Cert.AttnTwoKernelIdeal.nD Cert.AttnTwoKernelIdeal.τ).loc Cert.AttnTwoKernelIdeal.main_arg5) = m ((c.tc : Thread Cert.AttnTwoKernelIdeal.nD Cert.AttnTwoKernelIdeal.τ).loc Cert.AttnTwoKernelIdeal.main_arg5)
      ∧ r.2.mem ((c.tc : Thread Cert.AttnTwoKernelIdeal.nD Cert.AttnTwoKernelIdeal.τ).loc Cert.AttnTwoKernelIdeal.main_arg6) = m ((c.tc : Thread Cert.AttnTwoKernelIdeal.nD Cert.AttnTwoKernelIdeal.τ).loc Cert.AttnTwoKernelIdeal.main_arg6)
      ∧ r.2.mem ((c.tc : Thread Cert.AttnTwoKernelIdeal.nD Cert.AttnTwoKernelIdeal.τ).loc Cert.AttnTwoKernelIdeal.main_arg7) = m ((c.tc : Thread Cert.AttnTwoKernelIdeal.nD Cert.AttnTwoKernelIdeal.τ).loc Cert.AttnTwoKernelIdeal.main_arg7))
      ∧ r.2.sem = fun _ => 0)

def quiescent_AttnTwoReferenceIdeal [hAttnTwoReferenceIdeal : Cert.AttnTwoReferenceIdeal.Facts] : Prop :=
  ∀ (m : (ℓ : Loc Cert.AttnTwoReferenceIdeal.nD Cert.AttnTwoReferenceIdeal.τ Cert.AttnTwoReferenceIdeal.sig) → Buf (Elt Ideal) ℓ) (g : Dev Cert.AttnTwoReferenceIdeal.nD → PrngReg), Pre_AttnTwoReferenceIdeal m →
    θ_run (Cert.AttnTwoReferenceIdeal.defs (F := Ideal)) (onTc (τ := Cert.AttnTwoReferenceIdeal.τ) (Cert.AttnTwoReferenceIdeal.main (F := Ideal))) ⟨m, fun _ => 0, g⟩ (fun r => (∀ c : Dev Cert.AttnTwoReferenceIdeal.nD,
      r.2.mem ((c.tc : Thread Cert.AttnTwoReferenceIdeal.nD Cert.AttnTwoReferenceIdeal.τ).loc Cert.AttnTwoReferenceIdeal.main_arg0) = m ((c.tc : Thread Cert.AttnTwoReferenceIdeal.nD Cert.AttnTwoReferenceIdeal.τ).loc Cert.AttnTwoReferenceIdeal.main_arg0)
      ∧ r.2.mem ((c.tc : Thread Cert.AttnTwoReferenceIdeal.nD Cert.AttnTwoReferenceIdeal.τ).loc Cert.AttnTwoReferenceIdeal.main_arg1) = m ((c.tc : Thread Cert.AttnTwoReferenceIdeal.nD Cert.AttnTwoReferenceIdeal.τ).loc Cert.AttnTwoReferenceIdeal.main_arg1)
      ∧ r.2.mem ((c.tc : Thread Cert.AttnTwoReferenceIdeal.nD Cert.AttnTwoReferenceIdeal.τ).loc Cert.AttnTwoReferenceIdeal.main_arg2) = m ((c.tc : Thread Cert.AttnTwoReferenceIdeal.nD Cert.AttnTwoReferenceIdeal.τ).loc Cert.AttnTwoReferenceIdeal.main_arg2)
      ∧ r.2.mem ((c.tc : Thread Cert.AttnTwoReferenceIdeal.nD Cert.AttnTwoReferenceIdeal.τ).loc Cert.AttnTwoReferenceIdeal.main_arg3) = m ((c.tc : Thread Cert.AttnTwoReferenceIdeal.nD Cert.AttnTwoReferenceIdeal.τ).loc Cert.AttnTwoReferenceIdeal.main_arg3)
      ∧ r.2.mem ((c.tc : Thread Cert.AttnTwoReferenceIdeal.nD Cert.AttnTwoReferenceIdeal.τ).loc Cert.AttnTwoReferenceIdeal.main_arg4) = m ((c.tc : Thread Cert.AttnTwoReferenceIdeal.nD Cert.AttnTwoReferenceIdeal.τ).loc Cert.AttnTwoReferenceIdeal.main_arg4)
      ∧ r.2.mem ((c.tc : Thread Cert.AttnTwoReferenceIdeal.nD Cert.AttnTwoReferenceIdeal.τ).loc Cert.AttnTwoReferenceIdeal.main_arg5) = m ((c.tc : Thread Cert.AttnTwoReferenceIdeal.nD Cert.AttnTwoReferenceIdeal.τ).loc Cert.AttnTwoReferenceIdeal.main_arg5)
      ∧ r.2.mem ((c.tc : Thread Cert.AttnTwoReferenceIdeal.nD Cert.AttnTwoReferenceIdeal.τ).loc Cert.AttnTwoReferenceIdeal.main_arg6) = m ((c.tc : Thread Cert.AttnTwoReferenceIdeal.nD Cert.AttnTwoReferenceIdeal.τ).loc Cert.AttnTwoReferenceIdeal.main_arg6)
      ∧ r.2.mem ((c.tc : Thread Cert.AttnTwoReferenceIdeal.nD Cert.AttnTwoReferenceIdeal.τ).loc Cert.AttnTwoReferenceIdeal.main_arg7) = m ((c.tc : Thread Cert.AttnTwoReferenceIdeal.nD Cert.AttnTwoReferenceIdeal.τ).loc Cert.AttnTwoReferenceIdeal.main_arg7))
      ∧ r.2.sem = fun _ => 0)

def quiescent_AttnTwoReferenceIdeal_pre_finite_two [hAttnTwoReferenceIdeal : Cert.AttnTwoReferenceIdeal.Facts] [hPre_finite_two : Cert.Pre_finite_two.Facts] : Prop :=
  ∀ (m : (ℓ : Loc Cert.AttnTwoReferenceIdeal.nD Cert.AttnTwoReferenceIdeal.τ Cert.AttnTwoReferenceIdeal.sig) → Buf (Elt Ideal) ℓ) (g : Dev Cert.AttnTwoReferenceIdeal.nD → PrngReg), Pre_AttnTwoReferenceIdeal_finite_two m →
    θ_run (Cert.AttnTwoReferenceIdeal.defs (F := Ideal)) (onTc (τ := Cert.AttnTwoReferenceIdeal.τ) (Cert.AttnTwoReferenceIdeal.main (F := Ideal))) ⟨m, fun _ => 0, g⟩ (fun r => (∀ c : Dev Cert.AttnTwoReferenceIdeal.nD,
      r.2.mem ((c.tc : Thread Cert.AttnTwoReferenceIdeal.nD Cert.AttnTwoReferenceIdeal.τ).loc Cert.AttnTwoReferenceIdeal.main_arg0) = m ((c.tc : Thread Cert.AttnTwoReferenceIdeal.nD Cert.AttnTwoReferenceIdeal.τ).loc Cert.AttnTwoReferenceIdeal.main_arg0)
      ∧ r.2.mem ((c.tc : Thread Cert.AttnTwoReferenceIdeal.nD Cert.AttnTwoReferenceIdeal.τ).loc Cert.AttnTwoReferenceIdeal.main_arg1) = m ((c.tc : Thread Cert.AttnTwoReferenceIdeal.nD Cert.AttnTwoReferenceIdeal.τ).loc Cert.AttnTwoReferenceIdeal.main_arg1)
      ∧ r.2.mem ((c.tc : Thread Cert.AttnTwoReferenceIdeal.nD Cert.AttnTwoReferenceIdeal.τ).loc Cert.AttnTwoReferenceIdeal.main_arg2) = m ((c.tc : Thread Cert.AttnTwoReferenceIdeal.nD Cert.AttnTwoReferenceIdeal.τ).loc Cert.AttnTwoReferenceIdeal.main_arg2)
      ∧ r.2.mem ((c.tc : Thread Cert.AttnTwoReferenceIdeal.nD Cert.AttnTwoReferenceIdeal.τ).loc Cert.AttnTwoReferenceIdeal.main_arg3) = m ((c.tc : Thread Cert.AttnTwoReferenceIdeal.nD Cert.AttnTwoReferenceIdeal.τ).loc Cert.AttnTwoReferenceIdeal.main_arg3)
      ∧ r.2.mem ((c.tc : Thread Cert.AttnTwoReferenceIdeal.nD Cert.AttnTwoReferenceIdeal.τ).loc Cert.AttnTwoReferenceIdeal.main_arg4) = m ((c.tc : Thread Cert.AttnTwoReferenceIdeal.nD Cert.AttnTwoReferenceIdeal.τ).loc Cert.AttnTwoReferenceIdeal.main_arg4)
      ∧ r.2.mem ((c.tc : Thread Cert.AttnTwoReferenceIdeal.nD Cert.AttnTwoReferenceIdeal.τ).loc Cert.AttnTwoReferenceIdeal.main_arg5) = m ((c.tc : Thread Cert.AttnTwoReferenceIdeal.nD Cert.AttnTwoReferenceIdeal.τ).loc Cert.AttnTwoReferenceIdeal.main_arg5)
      ∧ r.2.mem ((c.tc : Thread Cert.AttnTwoReferenceIdeal.nD Cert.AttnTwoReferenceIdeal.τ).loc Cert.AttnTwoReferenceIdeal.main_arg6) = m ((c.tc : Thread Cert.AttnTwoReferenceIdeal.nD Cert.AttnTwoReferenceIdeal.τ).loc Cert.AttnTwoReferenceIdeal.main_arg6)
      ∧ r.2.mem ((c.tc : Thread Cert.AttnTwoReferenceIdeal.nD Cert.AttnTwoReferenceIdeal.τ).loc Cert.AttnTwoReferenceIdeal.main_arg7) = m ((c.tc : Thread Cert.AttnTwoReferenceIdeal.nD Cert.AttnTwoReferenceIdeal.τ).loc Cert.AttnTwoReferenceIdeal.main_arg7))
      ∧ r.2.sem = fun _ => 0)

def quiescent_DownDepKernel [hDownDepKernel : Cert.DownDepKernel.Facts] : Prop :=
  ∀ (m : (ℓ : Loc Cert.DownDepKernel.nD Cert.DownDepKernel.τ Cert.DownDepKernel.sig) → Buf (Elt Bits) ℓ) (g : Dev Cert.DownDepKernel.nD → PrngReg), Pre_DownDepKernel m →
    θ_run (Cert.DownDepKernel.defs (F := Bits)) (onTc (τ := Cert.DownDepKernel.τ) (Cert.DownDepKernel.main (F := Bits))) ⟨m, fun _ => 0, g⟩ (fun r => (∀ c : Dev Cert.DownDepKernel.nD,
      r.2.mem ((c.tc : Thread Cert.DownDepKernel.nD Cert.DownDepKernel.τ).loc Cert.DownDepKernel.main_arg0) = m ((c.tc : Thread Cert.DownDepKernel.nD Cert.DownDepKernel.τ).loc Cert.DownDepKernel.main_arg0)
      ∧ r.2.mem ((c.tc : Thread Cert.DownDepKernel.nD Cert.DownDepKernel.τ).loc Cert.DownDepKernel.main_arg1) = m ((c.tc : Thread Cert.DownDepKernel.nD Cert.DownDepKernel.τ).loc Cert.DownDepKernel.main_arg1)
      ∧ r.2.mem ((c.tc : Thread Cert.DownDepKernel.nD Cert.DownDepKernel.τ).loc Cert.DownDepKernel.main_arg2) = m ((c.tc : Thread Cert.DownDepKernel.nD Cert.DownDepKernel.τ).loc Cert.DownDepKernel.main_arg2))
      ∧ r.2.sem = fun _ => 0)

def quiescent_DownDepKernelIdeal [hDownDepKernelIdeal : Cert.DownDepKernelIdeal.Facts] : Prop :=
  ∀ (m : (ℓ : Loc Cert.DownDepKernelIdeal.nD Cert.DownDepKernelIdeal.τ Cert.DownDepKernelIdeal.sig) → Buf (Elt Ideal) ℓ) (g : Dev Cert.DownDepKernelIdeal.nD → PrngReg), Pre_DownDepKernelIdeal m →
    θ_run (Cert.DownDepKernelIdeal.defs (F := Ideal)) (onTc (τ := Cert.DownDepKernelIdeal.τ) (Cert.DownDepKernelIdeal.main (F := Ideal))) ⟨m, fun _ => 0, g⟩ (fun r => (∀ c : Dev Cert.DownDepKernelIdeal.nD,
      r.2.mem ((c.tc : Thread Cert.DownDepKernelIdeal.nD Cert.DownDepKernelIdeal.τ).loc Cert.DownDepKernelIdeal.main_arg0) = m ((c.tc : Thread Cert.DownDepKernelIdeal.nD Cert.DownDepKernelIdeal.τ).loc Cert.DownDepKernelIdeal.main_arg0)
      ∧ r.2.mem ((c.tc : Thread Cert.DownDepKernelIdeal.nD Cert.DownDepKernelIdeal.τ).loc Cert.DownDepKernelIdeal.main_arg1) = m ((c.tc : Thread Cert.DownDepKernelIdeal.nD Cert.DownDepKernelIdeal.τ).loc Cert.DownDepKernelIdeal.main_arg1)
      ∧ r.2.mem ((c.tc : Thread Cert.DownDepKernelIdeal.nD Cert.DownDepKernelIdeal.τ).loc Cert.DownDepKernelIdeal.main_arg2) = m ((c.tc : Thread Cert.DownDepKernelIdeal.nD Cert.DownDepKernelIdeal.τ).loc Cert.DownDepKernelIdeal.main_arg2))
      ∧ r.2.sem = fun _ => 0)

def quiescent_DownDepReferenceIdeal [hDownDepReferenceIdeal : Cert.DownDepReferenceIdeal.Facts] : Prop :=
  ∀ (m : (ℓ : Loc Cert.DownDepReferenceIdeal.nD Cert.DownDepReferenceIdeal.τ Cert.DownDepReferenceIdeal.sig) → Buf (Elt Ideal) ℓ) (g : Dev Cert.DownDepReferenceIdeal.nD → PrngReg), Pre_DownDepReferenceIdeal m →
    θ_run (Cert.DownDepReferenceIdeal.defs (F := Ideal)) (onTc (τ := Cert.DownDepReferenceIdeal.τ) (Cert.DownDepReferenceIdeal.main (F := Ideal))) ⟨m, fun _ => 0, g⟩ (fun r => (∀ c : Dev Cert.DownDepReferenceIdeal.nD,
      r.2.mem ((c.tc : Thread Cert.DownDepReferenceIdeal.nD Cert.DownDepReferenceIdeal.τ).loc Cert.DownDepReferenceIdeal.main_arg0) = m ((c.tc : Thread Cert.DownDepReferenceIdeal.nD Cert.DownDepReferenceIdeal.τ).loc Cert.DownDepReferenceIdeal.main_arg0)
      ∧ r.2.mem ((c.tc : Thread Cert.DownDepReferenceIdeal.nD Cert.DownDepReferenceIdeal.τ).loc Cert.DownDepReferenceIdeal.main_arg1) = m ((c.tc : Thread Cert.DownDepReferenceIdeal.nD Cert.DownDepReferenceIdeal.τ).loc Cert.DownDepReferenceIdeal.main_arg1)
      ∧ r.2.mem ((c.tc : Thread Cert.DownDepReferenceIdeal.nD Cert.DownDepReferenceIdeal.τ).loc Cert.DownDepReferenceIdeal.main_arg2) = m ((c.tc : Thread Cert.DownDepReferenceIdeal.nD Cert.DownDepReferenceIdeal.τ).loc Cert.DownDepReferenceIdeal.main_arg2))
      ∧ r.2.sem = fun _ => 0)

def quiescent_AOutDepKernel [hAOutDepKernel : Cert.AOutDepKernel.Facts] : Prop :=
  ∀ (m : (ℓ : Loc Cert.AOutDepKernel.nD Cert.AOutDepKernel.τ Cert.AOutDepKernel.sig) → Buf (Elt Bits) ℓ) (g : Dev Cert.AOutDepKernel.nD → PrngReg), Pre_AOutDepKernel m →
    θ_run (Cert.AOutDepKernel.defs (F := Bits)) (onTc (τ := Cert.AOutDepKernel.τ) (Cert.AOutDepKernel.main (F := Bits))) ⟨m, fun _ => 0, g⟩ (fun r => (∀ c : Dev Cert.AOutDepKernel.nD,
      r.2.mem ((c.tc : Thread Cert.AOutDepKernel.nD Cert.AOutDepKernel.τ).loc Cert.AOutDepKernel.main_arg0) = m ((c.tc : Thread Cert.AOutDepKernel.nD Cert.AOutDepKernel.τ).loc Cert.AOutDepKernel.main_arg0)
      ∧ r.2.mem ((c.tc : Thread Cert.AOutDepKernel.nD Cert.AOutDepKernel.τ).loc Cert.AOutDepKernel.main_arg1) = m ((c.tc : Thread Cert.AOutDepKernel.nD Cert.AOutDepKernel.τ).loc Cert.AOutDepKernel.main_arg1)
      ∧ r.2.mem ((c.tc : Thread Cert.AOutDepKernel.nD Cert.AOutDepKernel.τ).loc Cert.AOutDepKernel.main_arg2) = m ((c.tc : Thread Cert.AOutDepKernel.nD Cert.AOutDepKernel.τ).loc Cert.AOutDepKernel.main_arg2))
      ∧ r.2.sem = fun _ => 0)

def quiescent_AOutDepKernelIdeal [hAOutDepKernelIdeal : Cert.AOutDepKernelIdeal.Facts] : Prop :=
  ∀ (m : (ℓ : Loc Cert.AOutDepKernelIdeal.nD Cert.AOutDepKernelIdeal.τ Cert.AOutDepKernelIdeal.sig) → Buf (Elt Ideal) ℓ) (g : Dev Cert.AOutDepKernelIdeal.nD → PrngReg), Pre_AOutDepKernelIdeal m →
    θ_run (Cert.AOutDepKernelIdeal.defs (F := Ideal)) (onTc (τ := Cert.AOutDepKernelIdeal.τ) (Cert.AOutDepKernelIdeal.main (F := Ideal))) ⟨m, fun _ => 0, g⟩ (fun r => (∀ c : Dev Cert.AOutDepKernelIdeal.nD,
      r.2.mem ((c.tc : Thread Cert.AOutDepKernelIdeal.nD Cert.AOutDepKernelIdeal.τ).loc Cert.AOutDepKernelIdeal.main_arg0) = m ((c.tc : Thread Cert.AOutDepKernelIdeal.nD Cert.AOutDepKernelIdeal.τ).loc Cert.AOutDepKernelIdeal.main_arg0)
      ∧ r.2.mem ((c.tc : Thread Cert.AOutDepKernelIdeal.nD Cert.AOutDepKernelIdeal.τ).loc Cert.AOutDepKernelIdeal.main_arg1) = m ((c.tc : Thread Cert.AOutDepKernelIdeal.nD Cert.AOutDepKernelIdeal.τ).loc Cert.AOutDepKernelIdeal.main_arg1)
      ∧ r.2.mem ((c.tc : Thread Cert.AOutDepKernelIdeal.nD Cert.AOutDepKernelIdeal.τ).loc Cert.AOutDepKernelIdeal.main_arg2) = m ((c.tc : Thread Cert.AOutDepKernelIdeal.nD Cert.AOutDepKernelIdeal.τ).loc Cert.AOutDepKernelIdeal.main_arg2))
      ∧ r.2.sem = fun _ => 0)

def quiescent_AOutDepReferenceIdeal [hAOutDepReferenceIdeal : Cert.AOutDepReferenceIdeal.Facts] : Prop :=
  ∀ (m : (ℓ : Loc Cert.AOutDepReferenceIdeal.nD Cert.AOutDepReferenceIdeal.τ Cert.AOutDepReferenceIdeal.sig) → Buf (Elt Ideal) ℓ) (g : Dev Cert.AOutDepReferenceIdeal.nD → PrngReg), Pre_AOutDepReferenceIdeal m →
    θ_run (Cert.AOutDepReferenceIdeal.defs (F := Ideal)) (onTc (τ := Cert.AOutDepReferenceIdeal.τ) (Cert.AOutDepReferenceIdeal.main (F := Ideal))) ⟨m, fun _ => 0, g⟩ (fun r => (∀ c : Dev Cert.AOutDepReferenceIdeal.nD,
      r.2.mem ((c.tc : Thread Cert.AOutDepReferenceIdeal.nD Cert.AOutDepReferenceIdeal.τ).loc Cert.AOutDepReferenceIdeal.main_arg0) = m ((c.tc : Thread Cert.AOutDepReferenceIdeal.nD Cert.AOutDepReferenceIdeal.τ).loc Cert.AOutDepReferenceIdeal.main_arg0)
      ∧ r.2.mem ((c.tc : Thread Cert.AOutDepReferenceIdeal.nD Cert.AOutDepReferenceIdeal.τ).loc Cert.AOutDepReferenceIdeal.main_arg1) = m ((c.tc : Thread Cert.AOutDepReferenceIdeal.nD Cert.AOutDepReferenceIdeal.τ).loc Cert.AOutDepReferenceIdeal.main_arg1)
      ∧ r.2.mem ((c.tc : Thread Cert.AOutDepReferenceIdeal.nD Cert.AOutDepReferenceIdeal.τ).loc Cert.AOutDepReferenceIdeal.main_arg2) = m ((c.tc : Thread Cert.AOutDepReferenceIdeal.nD Cert.AOutDepReferenceIdeal.τ).loc Cert.AOutDepReferenceIdeal.main_arg2))
      ∧ r.2.sem = fun _ => 0)

def quiescent_BODepKernel [hBODepKernel : Cert.BODepKernel.Facts] : Prop :=
  ∀ (m : (ℓ : Loc Cert.BODepKernel.nD Cert.BODepKernel.τ Cert.BODepKernel.sig) → Buf (Elt Bits) ℓ) (g : Dev Cert.BODepKernel.nD → PrngReg), Pre_BODepKernel m →
    θ_run (Cert.BODepKernel.defs (F := Bits)) (onTc (τ := Cert.BODepKernel.τ) (Cert.BODepKernel.main (F := Bits))) ⟨m, fun _ => 0, g⟩ (fun r => (∀ c : Dev Cert.BODepKernel.nD,
      r.2.mem ((c.tc : Thread Cert.BODepKernel.nD Cert.BODepKernel.τ).loc Cert.BODepKernel.main_arg0) = m ((c.tc : Thread Cert.BODepKernel.nD Cert.BODepKernel.τ).loc Cert.BODepKernel.main_arg0)
      ∧ r.2.mem ((c.tc : Thread Cert.BODepKernel.nD Cert.BODepKernel.τ).loc Cert.BODepKernel.main_arg1) = m ((c.tc : Thread Cert.BODepKernel.nD Cert.BODepKernel.τ).loc Cert.BODepKernel.main_arg1)
      ∧ r.2.mem ((c.tc : Thread Cert.BODepKernel.nD Cert.BODepKernel.τ).loc Cert.BODepKernel.main_arg2) = m ((c.tc : Thread Cert.BODepKernel.nD Cert.BODepKernel.τ).loc Cert.BODepKernel.main_arg2))
      ∧ r.2.sem = fun _ => 0)

def quiescent_BODepKernelIdeal [hBODepKernelIdeal : Cert.BODepKernelIdeal.Facts] : Prop :=
  ∀ (m : (ℓ : Loc Cert.BODepKernelIdeal.nD Cert.BODepKernelIdeal.τ Cert.BODepKernelIdeal.sig) → Buf (Elt Ideal) ℓ) (g : Dev Cert.BODepKernelIdeal.nD → PrngReg), Pre_BODepKernelIdeal m →
    θ_run (Cert.BODepKernelIdeal.defs (F := Ideal)) (onTc (τ := Cert.BODepKernelIdeal.τ) (Cert.BODepKernelIdeal.main (F := Ideal))) ⟨m, fun _ => 0, g⟩ (fun r => (∀ c : Dev Cert.BODepKernelIdeal.nD,
      r.2.mem ((c.tc : Thread Cert.BODepKernelIdeal.nD Cert.BODepKernelIdeal.τ).loc Cert.BODepKernelIdeal.main_arg0) = m ((c.tc : Thread Cert.BODepKernelIdeal.nD Cert.BODepKernelIdeal.τ).loc Cert.BODepKernelIdeal.main_arg0)
      ∧ r.2.mem ((c.tc : Thread Cert.BODepKernelIdeal.nD Cert.BODepKernelIdeal.τ).loc Cert.BODepKernelIdeal.main_arg1) = m ((c.tc : Thread Cert.BODepKernelIdeal.nD Cert.BODepKernelIdeal.τ).loc Cert.BODepKernelIdeal.main_arg1)
      ∧ r.2.mem ((c.tc : Thread Cert.BODepKernelIdeal.nD Cert.BODepKernelIdeal.τ).loc Cert.BODepKernelIdeal.main_arg2) = m ((c.tc : Thread Cert.BODepKernelIdeal.nD Cert.BODepKernelIdeal.τ).loc Cert.BODepKernelIdeal.main_arg2))
      ∧ r.2.sem = fun _ => 0)

def quiescent_BODepReferenceIdeal [hBODepReferenceIdeal : Cert.BODepReferenceIdeal.Facts] : Prop :=
  ∀ (m : (ℓ : Loc Cert.BODepReferenceIdeal.nD Cert.BODepReferenceIdeal.τ Cert.BODepReferenceIdeal.sig) → Buf (Elt Ideal) ℓ) (g : Dev Cert.BODepReferenceIdeal.nD → PrngReg), Pre_BODepReferenceIdeal m →
    θ_run (Cert.BODepReferenceIdeal.defs (F := Ideal)) (onTc (τ := Cert.BODepReferenceIdeal.τ) (Cert.BODepReferenceIdeal.main (F := Ideal))) ⟨m, fun _ => 0, g⟩ (fun r => (∀ c : Dev Cert.BODepReferenceIdeal.nD,
      r.2.mem ((c.tc : Thread Cert.BODepReferenceIdeal.nD Cert.BODepReferenceIdeal.τ).loc Cert.BODepReferenceIdeal.main_arg0) = m ((c.tc : Thread Cert.BODepReferenceIdeal.nD Cert.BODepReferenceIdeal.τ).loc Cert.BODepReferenceIdeal.main_arg0)
      ∧ r.2.mem ((c.tc : Thread Cert.BODepReferenceIdeal.nD Cert.BODepReferenceIdeal.τ).loc Cert.BODepReferenceIdeal.main_arg1) = m ((c.tc : Thread Cert.BODepReferenceIdeal.nD Cert.BODepReferenceIdeal.τ).loc Cert.BODepReferenceIdeal.main_arg1)
      ∧ r.2.mem ((c.tc : Thread Cert.BODepReferenceIdeal.nD Cert.BODepReferenceIdeal.τ).loc Cert.BODepReferenceIdeal.main_arg2) = m ((c.tc : Thread Cert.BODepReferenceIdeal.nD Cert.BODepReferenceIdeal.τ).loc Cert.BODepReferenceIdeal.main_arg2))
      ∧ r.2.sem = fun _ => 0)

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)) →
    ∃ (v0 : (c : Dev Cert.GateKernelIdeal.nD) → Buf (Elt Ideal) ((c.tc : Thread Cert.GateKernelIdeal.nD Cert.GateKernelIdeal.τ).loc Cert.GateKernelIdeal.main_v0_0)) (v1 : (c : Dev Cert.GateKernelIdeal.nD) → Buf (Elt Ideal) ((c.tc : Thread Cert.GateKernelIdeal.nD Cert.GateKernelIdeal.τ).loc Cert.GateKernelIdeal.main_v0_1)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v0_0) = v0 c
          ∧ r.2.mem ((c.tc : Thread Cert.GateKernelIdeal.nD Cert.GateKernelIdeal.τ).loc Cert.GateKernelIdeal.main_v0_1) = v1 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v79) = v0 c
          ∧ r.2.mem ((c.tc : Thread Cert.GateReferenceIdeal.nD Cert.GateReferenceIdeal.τ).loc Cert.GateReferenceIdeal.main_v64) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)) (v2 : (c : Dev Cert.KernelIdeal.nD) → Buf (Elt Ideal) ((c.tc : Thread Cert.KernelIdeal.nD Cert.KernelIdeal.τ).loc Cert.KernelIdeal.main_v53_2)) (v3 : (c : Dev Cert.KernelIdeal.nD) → Buf (Elt Ideal) ((c.tc : Thread Cert.KernelIdeal.nD Cert.KernelIdeal.τ).loc Cert.KernelIdeal.main_v53_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_v53_2) = v2 c
          ∧ r.2.mem ((c.tc : Thread Cert.KernelIdeal.nD Cert.KernelIdeal.τ).loc Cert.KernelIdeal.main_v53_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v101) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DownDxKernel_DownDxKernelIdeal : Prop :=
  True

def algebraic_DownDxKernelIdeal_DownDxReferenceIdeal [hDownDxKernelIdeal : Cert.DownDxKernelIdeal.Facts] [hDownDxReferenceIdeal : Cert.DownDxReferenceIdeal.Facts] : Prop :=
  ∀ (m : (ℓ : Loc Cert.DownDxKernelIdeal.nD Cert.DownDxKernelIdeal.τ Cert.DownDxKernelIdeal.sig) → Buf (Elt Ideal) ℓ) (g : Dev Cert.DownDxKernelIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxKernelIdeal m →
    (∀ c : Dev Cert.DownDxKernelIdeal.nD,
      m' ((c.tc : Thread Cert.DownDxReferenceIdeal.nD Cert.DownDxReferenceIdeal.τ).loc Cert.DownDxReferenceIdeal.main_arg0) = m ((c.tc : Thread Cert.DownDxKernelIdeal.nD Cert.DownDxKernelIdeal.τ).loc Cert.DownDxKernelIdeal.main_arg0)
      ∧ m' ((c.tc : Thread Cert.DownDxReferenceIdeal.nD Cert.DownDxReferenceIdeal.τ).loc Cert.DownDxReferenceIdeal.main_arg1) = m ((c.tc : Thread Cert.DownDxKernelIdeal.nD Cert.DownDxKernelIdeal.τ).loc Cert.DownDxKernelIdeal.main_arg1)) →
    ∃ (v0 : (c : Dev Cert.DownDxKernelIdeal.nD) → Buf (Elt Ideal) ((c.tc : Thread Cert.DownDxKernelIdeal.nD Cert.DownDxKernelIdeal.τ).loc Cert.DownDxKernelIdeal.main_v0)),
      θ_run (Cert.DownDxKernelIdeal.defs (F := Ideal)) (onTc (τ := Cert.DownDxKernelIdeal.τ) (Cert.DownDxKernelIdeal.main (F := Ideal))) ⟨m, fun _ => 0, g⟩ (fun r => ∀ c : Dev Cert.DownDxKernelIdeal.nD,
          r.2.mem ((c.tc : Thread Cert.DownDxKernelIdeal.nD Cert.DownDxKernelIdeal.τ).loc Cert.DownDxKernelIdeal.main_v0) = v0 c
          ∧ r.2.mem ((c.tc : Thread Cert.DownDxKernelIdeal.nD Cert.DownDxKernelIdeal.τ).loc Cert.DownDxKernelIdeal.main_arg0) = m ((c.tc : Thread Cert.DownDxKernelIdeal.nD Cert.DownDxKernelIdeal.τ).loc Cert.DownDxKernelIdeal.main_arg0)
          ∧ r.2.mem ((c.tc : Thread Cert.DownDxKernelIdeal.nD Cert.DownDxKernelIdeal.τ).loc Cert.DownDxKernelIdeal.main_arg1) = m ((c.tc : Thread Cert.DownDxKernelIdeal.nD Cert.DownDxKernelIdeal.τ).loc Cert.DownDxKernelIdeal.main_arg1))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v5) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1))

def preserves_DownDwKernel_DownDwKernelIdeal : Prop :=
  True

def algebraic_DownDwKernelIdeal_DownDwReferenceIdeal [hDownDwKernelIdeal : Cert.DownDwKernelIdeal.Facts] [hDownDwReferenceIdeal : Cert.DownDwReferenceIdeal.Facts] : Prop :=
  ∀ (m : (ℓ : Loc Cert.DownDwKernelIdeal.nD Cert.DownDwKernelIdeal.τ Cert.DownDwKernelIdeal.sig) → Buf (Elt Ideal) ℓ) (g : Dev Cert.DownDwKernelIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwKernelIdeal m →
    (∀ c : Dev Cert.DownDwKernelIdeal.nD,
      m' ((c.tc : Thread Cert.DownDwReferenceIdeal.nD Cert.DownDwReferenceIdeal.τ).loc Cert.DownDwReferenceIdeal.main_arg0) = m ((c.tc : Thread Cert.DownDwKernelIdeal.nD Cert.DownDwKernelIdeal.τ).loc Cert.DownDwKernelIdeal.main_arg0)
      ∧ m' ((c.tc : Thread Cert.DownDwReferenceIdeal.nD Cert.DownDwReferenceIdeal.τ).loc Cert.DownDwReferenceIdeal.main_arg1) = m ((c.tc : Thread Cert.DownDwKernelIdeal.nD Cert.DownDwKernelIdeal.τ).loc Cert.DownDwKernelIdeal.main_arg1)) →
    ∃ (v0 : (c : Dev Cert.DownDwKernelIdeal.nD) → Buf (Elt Ideal) ((c.tc : Thread Cert.DownDwKernelIdeal.nD Cert.DownDwKernelIdeal.τ).loc Cert.DownDwKernelIdeal.main_v1)),
      θ_run (Cert.DownDwKernelIdeal.defs (F := Ideal)) (onTc (τ := Cert.DownDwKernelIdeal.τ) (Cert.DownDwKernelIdeal.main (F := Ideal))) ⟨m, fun _ => 0, g⟩ (fun r => ∀ c : Dev Cert.DownDwKernelIdeal.nD,
          r.2.mem ((c.tc : Thread Cert.DownDwKernelIdeal.nD Cert.DownDwKernelIdeal.τ).loc Cert.DownDwKernelIdeal.main_v1) = v0 c
          ∧ r.2.mem ((c.tc : Thread Cert.DownDwKernelIdeal.nD Cert.DownDwKernelIdeal.τ).loc Cert.DownDwKernelIdeal.main_arg0) = m ((c.tc : Thread Cert.DownDwKernelIdeal.nD Cert.DownDwKernelIdeal.τ).loc Cert.DownDwKernelIdeal.main_arg0)
          ∧ r.2.mem ((c.tc : Thread Cert.DownDwKernelIdeal.nD Cert.DownDwKernelIdeal.τ).loc Cert.DownDwKernelIdeal.main_arg1) = m ((c.tc : Thread Cert.DownDwKernelIdeal.nD Cert.DownDwKernelIdeal.τ).loc Cert.DownDwKernelIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v6) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_GuDxKernel_GuDxKernelIdeal : Prop :=
  True

def algebraic_GuDxKernelIdeal_GuDxReferenceIdeal [hGuDxKernelIdeal : Cert.GuDxKernelIdeal.Facts] [hGuDxReferenceIdeal : Cert.GuDxReferenceIdeal.Facts] : Prop :=
  ∀ (m : (ℓ : Loc Cert.GuDxKernelIdeal.nD Cert.GuDxKernelIdeal.τ Cert.GuDxKernelIdeal.sig) → Buf (Elt Ideal) ℓ) (g : Dev Cert.GuDxKernelIdeal.nD → PrngReg)
    (m' : (ℓ : Loc Cert.GuDxReferenceIdeal.nD Cert.GuDxReferenceIdeal.τ Cert.GuDxReferenceIdeal.sig) → Buf (Elt Ideal) ℓ) (g' : Dev Cert.GuDxReferenceIdeal.nD → PrngReg), Pre_GuDxKernelIdeal m →
    (∀ c : Dev Cert.GuDxKernelIdeal.nD,
      m' ((c.tc : Thread Cert.GuDxReferenceIdeal.nD Cert.GuDxReferenceIdeal.τ).loc Cert.GuDxReferenceIdeal.main_arg0) = m ((c.tc : Thread Cert.GuDxKernelIdeal.nD Cert.GuDxKernelIdeal.τ).loc Cert.GuDxKernelIdeal.main_arg0)
      ∧ m' ((c.tc : Thread Cert.GuDxReferenceIdeal.nD Cert.GuDxReferenceIdeal.τ).loc Cert.GuDxReferenceIdeal.main_arg1) = m ((c.tc : Thread Cert.GuDxKernelIdeal.nD Cert.GuDxKernelIdeal.τ).loc Cert.GuDxKernelIdeal.main_arg1)) →
    ∃ (v0 : (c : Dev Cert.GuDxKernelIdeal.nD) → Buf (Elt Ideal) ((c.tc : Thread Cert.GuDxKernelIdeal.nD Cert.GuDxKernelIdeal.τ).loc Cert.GuDxKernelIdeal.main_v0)),
      θ_run (Cert.GuDxKernelIdeal.defs (F := Ideal)) (onTc (τ := Cert.GuDxKernelIdeal.τ) (Cert.GuDxKernelIdeal.main (F := Ideal))) ⟨m, fun _ => 0, g⟩ (fun r => ∀ c : Dev Cert.GuDxKernelIdeal.nD,
          r.2.mem ((c.tc : Thread Cert.GuDxKernelIdeal.nD Cert.GuDxKernelIdeal.τ).loc Cert.GuDxKernelIdeal.main_v0) = v0 c
          ∧ r.2.mem ((c.tc : Thread Cert.GuDxKernelIdeal.nD Cert.GuDxKernelIdeal.τ).loc Cert.GuDxKernelIdeal.main_arg0) = m ((c.tc : Thread Cert.GuDxKernelIdeal.nD Cert.GuDxKernelIdeal.τ).loc Cert.GuDxKernelIdeal.main_arg0)
          ∧ r.2.mem ((c.tc : Thread Cert.GuDxKernelIdeal.nD Cert.GuDxKernelIdeal.τ).loc Cert.GuDxKernelIdeal.main_arg1) = m ((c.tc : Thread Cert.GuDxKernelIdeal.nD Cert.GuDxKernelIdeal.τ).loc Cert.GuDxKernelIdeal.main_arg1))
      ∧ θ_run (Cert.GuDxReferenceIdeal.defs (F := Ideal)) (onTc (τ := Cert.GuDxReferenceIdeal.τ) (Cert.GuDxReferenceIdeal.main (F := Ideal))) ⟨m', fun _ => 0, g'⟩ (fun r => ∀ c : Dev Cert.GuDxReferenceIdeal.nD,
          r.2.mem ((c.tc : Thread Cert.GuDxReferenceIdeal.nD Cert.GuDxReferenceIdeal.τ).loc Cert.GuDxReferenceIdeal.main_v12) = v0 c
          ∧ r.2.mem ((c.tc : Thread Cert.GuDxReferenceIdeal.nD Cert.GuDxReferenceIdeal.τ).loc Cert.GuDxReferenceIdeal.main_arg0) = m' ((c.tc : Thread Cert.GuDxReferenceIdeal.nD Cert.GuDxReferenceIdeal.τ).loc Cert.GuDxReferenceIdeal.main_arg0)
          ∧ r.2.mem ((c.tc : Thread Cert.GuDxReferenceIdeal.nD Cert.GuDxReferenceIdeal.τ).loc Cert.GuDxReferenceIdeal.main_arg1) = m' ((c.tc : Thread Cert.GuDxReferenceIdeal.nD Cert.GuDxReferenceIdeal.τ).loc Cert.GuDxReferenceIdeal.main_arg1))

def preserves_GuDwKernel_GuDwKernelIdeal : Prop :=
  True

def algebraic_GuDwKernelIdeal_GuDwReferenceIdeal [hGuDwKernelIdeal : Cert.GuDwKernelIdeal.Facts] [hGuDwReferenceIdeal : Cert.GuDwReferenceIdeal.Facts] : Prop :=
  ∀ (m : (ℓ : Loc Cert.GuDwKernelIdeal.nD Cert.GuDwKernelIdeal.τ Cert.GuDwKernelIdeal.sig) → Buf (Elt Ideal) ℓ) (g : Dev Cert.GuDwKernelIdeal.nD → PrngReg)
    (m' : (ℓ : Loc Cert.GuDwReferenceIdeal.nD Cert.GuDwReferenceIdeal.τ Cert.GuDwReferenceIdeal.sig) → Buf (Elt Ideal) ℓ) (g' : Dev Cert.GuDwReferenceIdeal.nD → PrngReg), Pre_GuDwKernelIdeal m →
    (∀ c : Dev Cert.GuDwKernelIdeal.nD,
      m' ((c.tc : Thread Cert.GuDwReferenceIdeal.nD Cert.GuDwReferenceIdeal.τ).loc Cert.GuDwReferenceIdeal.main_arg0) = m ((c.tc : Thread Cert.GuDwKernelIdeal.nD Cert.GuDwKernelIdeal.τ).loc Cert.GuDwKernelIdeal.main_arg0)
      ∧ m' ((c.tc : Thread Cert.GuDwReferenceIdeal.nD Cert.GuDwReferenceIdeal.τ).loc Cert.GuDwReferenceIdeal.main_arg1) = m ((c.tc : Thread Cert.GuDwKernelIdeal.nD Cert.GuDwKernelIdeal.τ).loc Cert.GuDwKernelIdeal.main_arg1)) →
    ∃ (v0 : (c : Dev Cert.GuDwKernelIdeal.nD) → Buf (Elt Ideal) ((c.tc : Thread Cert.GuDwKernelIdeal.nD Cert.GuDwKernelIdeal.τ).loc Cert.GuDwKernelIdeal.main_v1)),
      θ_run (Cert.GuDwKernelIdeal.defs (F := Ideal)) (onTc (τ := Cert.GuDwKernelIdeal.τ) (Cert.GuDwKernelIdeal.main (F := Ideal))) ⟨m, fun _ => 0, g⟩ (fun r => ∀ c : Dev Cert.GuDwKernelIdeal.nD,
          r.2.mem ((c.tc : Thread Cert.GuDwKernelIdeal.nD Cert.GuDwKernelIdeal.τ).loc Cert.GuDwKernelIdeal.main_v1) = v0 c
          ∧ r.2.mem ((c.tc : Thread Cert.GuDwKernelIdeal.nD Cert.GuDwKernelIdeal.τ).loc Cert.GuDwKernelIdeal.main_arg0) = m ((c.tc : Thread Cert.GuDwKernelIdeal.nD Cert.GuDwKernelIdeal.τ).loc Cert.GuDwKernelIdeal.main_arg0)
          ∧ r.2.mem ((c.tc : Thread Cert.GuDwKernelIdeal.nD Cert.GuDwKernelIdeal.τ).loc Cert.GuDwKernelIdeal.main_arg1) = m ((c.tc : Thread Cert.GuDwKernelIdeal.nD Cert.GuDwKernelIdeal.τ).loc Cert.GuDwKernelIdeal.main_arg1))
      ∧ θ_run (Cert.GuDwReferenceIdeal.defs (F := Ideal)) (onTc (τ := Cert.GuDwReferenceIdeal.τ) (Cert.GuDwReferenceIdeal.main (F := Ideal))) ⟨m', fun _ => 0, g'⟩ (fun r => ∀ c : Dev Cert.GuDwReferenceIdeal.nD,
          r.2.mem ((c.tc : Thread Cert.GuDwReferenceIdeal.nD Cert.GuDwReferenceIdeal.τ).loc Cert.GuDwReferenceIdeal.main_v14) = v0 c
          ∧ r.2.mem ((c.tc : Thread Cert.GuDwReferenceIdeal.nD Cert.GuDwReferenceIdeal.τ).loc Cert.GuDwReferenceIdeal.main_arg0) = m' ((c.tc : Thread Cert.GuDwReferenceIdeal.nD Cert.GuDwReferenceIdeal.τ).loc Cert.GuDwReferenceIdeal.main_arg0)
          ∧ r.2.mem ((c.tc : Thread Cert.GuDwReferenceIdeal.nD Cert.GuDwReferenceIdeal.τ).loc Cert.GuDwReferenceIdeal.main_arg1) = m' ((c.tc : Thread Cert.GuDwReferenceIdeal.nD Cert.GuDwReferenceIdeal.τ).loc Cert.GuDwReferenceIdeal.main_arg1))

def preserves_AOutDxKernel_AOutDxKernelIdeal : Prop :=
  True

def algebraic_AOutDxKernelIdeal_AOutDxReferenceIdeal [hAOutDxKernelIdeal : Cert.AOutDxKernelIdeal.Facts] [hAOutDxReferenceIdeal : Cert.AOutDxReferenceIdeal.Facts] : Prop :=
  ∀ (m : (ℓ : Loc Cert.AOutDxKernelIdeal.nD Cert.AOutDxKernelIdeal.τ Cert.AOutDxKernelIdeal.sig) → Buf (Elt Ideal) ℓ) (g : Dev Cert.AOutDxKernelIdeal.nD → PrngReg)
    (m' : (ℓ : Loc Cert.AOutDxReferenceIdeal.nD Cert.AOutDxReferenceIdeal.τ Cert.AOutDxReferenceIdeal.sig) → Buf (Elt Ideal) ℓ) (g' : Dev Cert.AOutDxReferenceIdeal.nD → PrngReg), Pre_AOutDxKernelIdeal m →
    (∀ c : Dev Cert.AOutDxKernelIdeal.nD,
      m' ((c.tc : Thread Cert.AOutDxReferenceIdeal.nD Cert.AOutDxReferenceIdeal.τ).loc Cert.AOutDxReferenceIdeal.main_arg0) = m ((c.tc : Thread Cert.AOutDxKernelIdeal.nD Cert.AOutDxKernelIdeal.τ).loc Cert.AOutDxKernelIdeal.main_arg0)
      ∧ m' ((c.tc : Thread Cert.AOutDxReferenceIdeal.nD Cert.AOutDxReferenceIdeal.τ).loc Cert.AOutDxReferenceIdeal.main_arg1) = m ((c.tc : Thread Cert.AOutDxKernelIdeal.nD Cert.AOutDxKernelIdeal.τ).loc Cert.AOutDxKernelIdeal.main_arg1)) →
    ∃ (v0 : (c : Dev Cert.AOutDxKernelIdeal.nD) → Buf (Elt Ideal) ((c.tc : Thread Cert.AOutDxKernelIdeal.nD Cert.AOutDxKernelIdeal.τ).loc Cert.AOutDxKernelIdeal.main_v0)),
      θ_run (Cert.AOutDxKernelIdeal.defs (F := Ideal)) (onTc (τ := Cert.AOutDxKernelIdeal.τ) (Cert.AOutDxKernelIdeal.main (F := Ideal))) ⟨m, fun _ => 0, g⟩ (fun r => ∀ c : Dev Cert.AOutDxKernelIdeal.nD,
          r.2.mem ((c.tc : Thread Cert.AOutDxKernelIdeal.nD Cert.AOutDxKernelIdeal.τ).loc Cert.AOutDxKernelIdeal.main_v0) = v0 c
          ∧ r.2.mem ((c.tc : Thread Cert.AOutDxKernelIdeal.nD Cert.AOutDxKernelIdeal.τ).loc Cert.AOutDxKernelIdeal.main_arg0) = m ((c.tc : Thread Cert.AOutDxKernelIdeal.nD Cert.AOutDxKernelIdeal.τ).loc Cert.AOutDxKernelIdeal.main_arg0)
          ∧ r.2.mem ((c.tc : Thread Cert.AOutDxKernelIdeal.nD Cert.AOutDxKernelIdeal.τ).loc Cert.AOutDxKernelIdeal.main_arg1) = m ((c.tc : Thread Cert.AOutDxKernelIdeal.nD Cert.AOutDxKernelIdeal.τ).loc Cert.AOutDxKernelIdeal.main_arg1))
      ∧ θ_run (Cert.AOutDxReferenceIdeal.defs (F := Ideal)) (onTc (τ := Cert.AOutDxReferenceIdeal.τ) (Cert.AOutDxReferenceIdeal.main (F := Ideal))) ⟨m', fun _ => 0, g'⟩ (fun r => ∀ c : Dev Cert.AOutDxReferenceIdeal.nD,
          r.2.mem ((c.tc : Thread Cert.AOutDxReferenceIdeal.nD Cert.AOutDxReferenceIdeal.τ).loc Cert.AOutDxReferenceIdeal.main_v4) = v0 c
          ∧ r.2.mem ((c.tc : Thread Cert.AOutDxReferenceIdeal.nD Cert.AOutDxReferenceIdeal.τ).loc Cert.AOutDxReferenceIdeal.main_arg0) = m' ((c.tc : Thread Cert.AOutDxReferenceIdeal.nD Cert.AOutDxReferenceIdeal.τ).loc Cert.AOutDxReferenceIdeal.main_arg0)
          ∧ r.2.mem ((c.tc : Thread Cert.AOutDxReferenceIdeal.nD Cert.AOutDxReferenceIdeal.τ).loc Cert.AOutDxReferenceIdeal.main_arg1) = m' ((c.tc : Thread Cert.AOutDxReferenceIdeal.nD Cert.AOutDxReferenceIdeal.τ).loc Cert.AOutDxReferenceIdeal.main_arg1))

def preserves_AOutDwKernel_AOutDwKernelIdeal : Prop :=
  True

def algebraic_AOutDwKernelIdeal_AOutDwReferenceIdeal [hAOutDwKernelIdeal : Cert.AOutDwKernelIdeal.Facts] [hAOutDwReferenceIdeal : Cert.AOutDwReferenceIdeal.Facts] : Prop :=
  ∀ (m : (ℓ : Loc Cert.AOutDwKernelIdeal.nD Cert.AOutDwKernelIdeal.τ Cert.AOutDwKernelIdeal.sig) → Buf (Elt Ideal) ℓ) (g : Dev Cert.AOutDwKernelIdeal.nD → PrngReg)
    (m' : (ℓ : Loc Cert.AOutDwReferenceIdeal.nD Cert.AOutDwReferenceIdeal.τ Cert.AOutDwReferenceIdeal.sig) → Buf (Elt Ideal) ℓ) (g' : Dev Cert.AOutDwReferenceIdeal.nD → PrngReg), Pre_AOutDwKernelIdeal m →
    (∀ c : Dev Cert.AOutDwKernelIdeal.nD,
      m' ((c.tc : Thread Cert.AOutDwReferenceIdeal.nD Cert.AOutDwReferenceIdeal.τ).loc Cert.AOutDwReferenceIdeal.main_arg0) = m ((c.tc : Thread Cert.AOutDwKernelIdeal.nD Cert.AOutDwKernelIdeal.τ).loc Cert.AOutDwKernelIdeal.main_arg0)
      ∧ m' ((c.tc : Thread Cert.AOutDwReferenceIdeal.nD Cert.AOutDwReferenceIdeal.τ).loc Cert.AOutDwReferenceIdeal.main_arg1) = m ((c.tc : Thread Cert.AOutDwKernelIdeal.nD Cert.AOutDwKernelIdeal.τ).loc Cert.AOutDwKernelIdeal.main_arg1)) →
    ∃ (v0 : (c : Dev Cert.AOutDwKernelIdeal.nD) → Buf (Elt Ideal) ((c.tc : Thread Cert.AOutDwKernelIdeal.nD Cert.AOutDwKernelIdeal.τ).loc Cert.AOutDwKernelIdeal.main_v1)),
      θ_run (Cert.AOutDwKernelIdeal.defs (F := Ideal)) (onTc (τ := Cert.AOutDwKernelIdeal.τ) (Cert.AOutDwKernelIdeal.main (F := Ideal))) ⟨m, fun _ => 0, g⟩ (fun r => ∀ c : Dev Cert.AOutDwKernelIdeal.nD,
          r.2.mem ((c.tc : Thread Cert.AOutDwKernelIdeal.nD Cert.AOutDwKernelIdeal.τ).loc Cert.AOutDwKernelIdeal.main_v1) = v0 c
          ∧ r.2.mem ((c.tc : Thread Cert.AOutDwKernelIdeal.nD Cert.AOutDwKernelIdeal.τ).loc Cert.AOutDwKernelIdeal.main_arg0) = m ((c.tc : Thread Cert.AOutDwKernelIdeal.nD Cert.AOutDwKernelIdeal.τ).loc Cert.AOutDwKernelIdeal.main_arg0)
          ∧ r.2.mem ((c.tc : Thread Cert.AOutDwKernelIdeal.nD Cert.AOutDwKernelIdeal.τ).loc Cert.AOutDwKernelIdeal.main_arg1) = m ((c.tc : Thread Cert.AOutDwKernelIdeal.nD Cert.AOutDwKernelIdeal.τ).loc Cert.AOutDwKernelIdeal.main_arg1))
      ∧ θ_run (Cert.AOutDwReferenceIdeal.defs (F := Ideal)) (onTc (τ := Cert.AOutDwReferenceIdeal.τ) (Cert.AOutDwReferenceIdeal.main (F := Ideal))) ⟨m', fun _ => 0, g'⟩ (fun r => ∀ c : Dev Cert.AOutDwReferenceIdeal.nD,
          r.2.mem ((c.tc : Thread Cert.AOutDwReferenceIdeal.nD Cert.AOutDwReferenceIdeal.τ).loc Cert.AOutDwReferenceIdeal.main_v6) = v0 c
          ∧ r.2.mem ((c.tc : Thread Cert.AOutDwReferenceIdeal.nD Cert.AOutDwReferenceIdeal.τ).loc Cert.AOutDwReferenceIdeal.main_arg0) = m' ((c.tc : Thread Cert.AOutDwReferenceIdeal.nD Cert.AOutDwReferenceIdeal.τ).loc Cert.AOutDwReferenceIdeal.main_arg0)
          ∧ r.2.mem ((c.tc : Thread Cert.AOutDwReferenceIdeal.nD Cert.AOutDwReferenceIdeal.τ).loc Cert.AOutDwReferenceIdeal.main_arg1) = m' ((c.tc : Thread Cert.AOutDwReferenceIdeal.nD Cert.AOutDwReferenceIdeal.τ).loc Cert.AOutDwReferenceIdeal.main_arg1))

def preserves_AInDxKernel_AInDxKernelIdeal : Prop :=
  True

def algebraic_AInDxKernelIdeal_AInDxReferenceIdeal [hAInDxKernelIdeal : Cert.AInDxKernelIdeal.Facts] [hAInDxReferenceIdeal : Cert.AInDxReferenceIdeal.Facts] : Prop :=
  ∀ (m : (ℓ : Loc Cert.AInDxKernelIdeal.nD Cert.AInDxKernelIdeal.τ Cert.AInDxKernelIdeal.sig) → Buf (Elt Ideal) ℓ) (g : Dev Cert.AInDxKernelIdeal.nD → PrngReg)
    (m' : (ℓ : Loc Cert.AInDxReferenceIdeal.nD Cert.AInDxReferenceIdeal.τ Cert.AInDxReferenceIdeal.sig) → Buf (Elt Ideal) ℓ) (g' : Dev Cert.AInDxReferenceIdeal.nD → PrngReg), Pre_AInDxKernelIdeal m →
    (∀ c : Dev Cert.AInDxKernelIdeal.nD,
      m' ((c.tc : Thread Cert.AInDxReferenceIdeal.nD Cert.AInDxReferenceIdeal.τ).loc Cert.AInDxReferenceIdeal.main_arg0) = m ((c.tc : Thread Cert.AInDxKernelIdeal.nD Cert.AInDxKernelIdeal.τ).loc Cert.AInDxKernelIdeal.main_arg0)
      ∧ m' ((c.tc : Thread Cert.AInDxReferenceIdeal.nD Cert.AInDxReferenceIdeal.τ).loc Cert.AInDxReferenceIdeal.main_arg1) = m ((c.tc : Thread Cert.AInDxKernelIdeal.nD Cert.AInDxKernelIdeal.τ).loc Cert.AInDxKernelIdeal.main_arg1)) →
    ∃ (v0 : (c : Dev Cert.AInDxKernelIdeal.nD) → Buf (Elt Ideal) ((c.tc : Thread Cert.AInDxKernelIdeal.nD Cert.AInDxKernelIdeal.τ).loc Cert.AInDxKernelIdeal.main_v0)),
      θ_run (Cert.AInDxKernelIdeal.defs (F := Ideal)) (onTc (τ := Cert.AInDxKernelIdeal.τ) (Cert.AInDxKernelIdeal.main (F := Ideal))) ⟨m, fun _ => 0, g⟩ (fun r => ∀ c : Dev Cert.AInDxKernelIdeal.nD,
          r.2.mem ((c.tc : Thread Cert.AInDxKernelIdeal.nD Cert.AInDxKernelIdeal.τ).loc Cert.AInDxKernelIdeal.main_v0) = v0 c
          ∧ r.2.mem ((c.tc : Thread Cert.AInDxKernelIdeal.nD Cert.AInDxKernelIdeal.τ).loc Cert.AInDxKernelIdeal.main_arg0) = m ((c.tc : Thread Cert.AInDxKernelIdeal.nD Cert.AInDxKernelIdeal.τ).loc Cert.AInDxKernelIdeal.main_arg0)
          ∧ r.2.mem ((c.tc : Thread Cert.AInDxKernelIdeal.nD Cert.AInDxKernelIdeal.τ).loc Cert.AInDxKernelIdeal.main_arg1) = m ((c.tc : Thread Cert.AInDxKernelIdeal.nD Cert.AInDxKernelIdeal.τ).loc Cert.AInDxKernelIdeal.main_arg1))
      ∧ θ_run (Cert.AInDxReferenceIdeal.defs (F := Ideal)) (onTc (τ := Cert.AInDxReferenceIdeal.τ) (Cert.AInDxReferenceIdeal.main (F := Ideal))) ⟨m', fun _ => 0, g'⟩ (fun r => ∀ c : Dev Cert.AInDxReferenceIdeal.nD,
          r.2.mem ((c.tc : Thread Cert.AInDxReferenceIdeal.nD Cert.AInDxReferenceIdeal.τ).loc Cert.AInDxReferenceIdeal.main_v16) = v0 c
          ∧ r.2.mem ((c.tc : Thread Cert.AInDxReferenceIdeal.nD Cert.AInDxReferenceIdeal.τ).loc Cert.AInDxReferenceIdeal.main_arg0) = m' ((c.tc : Thread Cert.AInDxReferenceIdeal.nD Cert.AInDxReferenceIdeal.τ).loc Cert.AInDxReferenceIdeal.main_arg0)
          ∧ r.2.mem ((c.tc : Thread Cert.AInDxReferenceIdeal.nD Cert.AInDxReferenceIdeal.τ).loc Cert.AInDxReferenceIdeal.main_arg1) = m' ((c.tc : Thread Cert.AInDxReferenceIdeal.nD Cert.AInDxReferenceIdeal.τ).loc Cert.AInDxReferenceIdeal.main_arg1))

def preserves_AInDwKernel_AInDwKernelIdeal : Prop :=
  True

def algebraic_AInDwKernelIdeal_AInDwReferenceIdeal [hAInDwKernelIdeal : Cert.AInDwKernelIdeal.Facts] [hAInDwReferenceIdeal : Cert.AInDwReferenceIdeal.Facts] : Prop :=
  ∀ (m : (ℓ : Loc Cert.AInDwKernelIdeal.nD Cert.AInDwKernelIdeal.τ Cert.AInDwKernelIdeal.sig) → Buf (Elt Ideal) ℓ) (g : Dev Cert.AInDwKernelIdeal.nD → PrngReg)
    (m' : (ℓ : Loc Cert.AInDwReferenceIdeal.nD Cert.AInDwReferenceIdeal.τ Cert.AInDwReferenceIdeal.sig) → Buf (Elt Ideal) ℓ) (g' : Dev Cert.AInDwReferenceIdeal.nD → PrngReg), Pre_AInDwKernelIdeal m →
    (∀ c : Dev Cert.AInDwKernelIdeal.nD,
      m' ((c.tc : Thread Cert.AInDwReferenceIdeal.nD Cert.AInDwReferenceIdeal.τ).loc Cert.AInDwReferenceIdeal.main_arg0) = m ((c.tc : Thread Cert.AInDwKernelIdeal.nD Cert.AInDwKernelIdeal.τ).loc Cert.AInDwKernelIdeal.main_arg0)
      ∧ m' ((c.tc : Thread Cert.AInDwReferenceIdeal.nD Cert.AInDwReferenceIdeal.τ).loc Cert.AInDwReferenceIdeal.main_arg1) = m ((c.tc : Thread Cert.AInDwKernelIdeal.nD Cert.AInDwKernelIdeal.τ).loc Cert.AInDwKernelIdeal.main_arg1)) →
    ∃ (v0 : (c : Dev Cert.AInDwKernelIdeal.nD) → Buf (Elt Ideal) ((c.tc : Thread Cert.AInDwKernelIdeal.nD Cert.AInDwKernelIdeal.τ).loc Cert.AInDwKernelIdeal.main_v1)),
      θ_run (Cert.AInDwKernelIdeal.defs (F := Ideal)) (onTc (τ := Cert.AInDwKernelIdeal.τ) (Cert.AInDwKernelIdeal.main (F := Ideal))) ⟨m, fun _ => 0, g⟩ (fun r => ∀ c : Dev Cert.AInDwKernelIdeal.nD,
          r.2.mem ((c.tc : Thread Cert.AInDwKernelIdeal.nD Cert.AInDwKernelIdeal.τ).loc Cert.AInDwKernelIdeal.main_v1) = v0 c
          ∧ r.2.mem ((c.tc : Thread Cert.AInDwKernelIdeal.nD Cert.AInDwKernelIdeal.τ).loc Cert.AInDwKernelIdeal.main_arg0) = m ((c.tc : Thread Cert.AInDwKernelIdeal.nD Cert.AInDwKernelIdeal.τ).loc Cert.AInDwKernelIdeal.main_arg0)
          ∧ r.2.mem ((c.tc : Thread Cert.AInDwKernelIdeal.nD Cert.AInDwKernelIdeal.τ).loc Cert.AInDwKernelIdeal.main_arg1) = m ((c.tc : Thread Cert.AInDwKernelIdeal.nD Cert.AInDwKernelIdeal.τ).loc Cert.AInDwKernelIdeal.main_arg1))
      ∧ θ_run (Cert.AInDwReferenceIdeal.defs (F := Ideal)) (onTc (τ := Cert.AInDwReferenceIdeal.τ) (Cert.AInDwReferenceIdeal.main (F := Ideal))) ⟨m', fun _ => 0, g'⟩ (fun r => ∀ c : Dev Cert.AInDwReferenceIdeal.nD,
          r.2.mem ((c.tc : Thread Cert.AInDwReferenceIdeal.nD Cert.AInDwReferenceIdeal.τ).loc Cert.AInDwReferenceIdeal.main_v18) = v0 c
          ∧ r.2.mem ((c.tc : Thread Cert.AInDwReferenceIdeal.nD Cert.AInDwReferenceIdeal.τ).loc Cert.AInDwReferenceIdeal.main_arg0) = m' ((c.tc : Thread Cert.AInDwReferenceIdeal.nD Cert.AInDwReferenceIdeal.τ).loc Cert.AInDwReferenceIdeal.main_arg0)
          ∧ r.2.mem ((c.tc : Thread Cert.AInDwReferenceIdeal.nD Cert.AInDwReferenceIdeal.τ).loc Cert.AInDwReferenceIdeal.main_arg1) = m' ((c.tc : Thread Cert.AInDwReferenceIdeal.nD Cert.AInDwReferenceIdeal.τ).loc Cert.AInDwReferenceIdeal.main_arg1))

def preserves_BODxKernel_BODxKernelIdeal : Prop :=
  True

def algebraic_BODxKernelIdeal_BODxReferenceIdeal [hBODxKernelIdeal : Cert.BODxKernelIdeal.Facts] [hBODxReferenceIdeal : Cert.BODxReferenceIdeal.Facts] : Prop :=
  ∀ (m : (ℓ : Loc Cert.BODxKernelIdeal.nD Cert.BODxKernelIdeal.τ Cert.BODxKernelIdeal.sig) → Buf (Elt Ideal) ℓ) (g : Dev Cert.BODxKernelIdeal.nD → PrngReg)
    (m' : (ℓ : Loc Cert.BODxReferenceIdeal.nD Cert.BODxReferenceIdeal.τ Cert.BODxReferenceIdeal.sig) → Buf (Elt Ideal) ℓ) (g' : Dev Cert.BODxReferenceIdeal.nD → PrngReg), Pre_BODxKernelIdeal m →
    (∀ c : Dev Cert.BODxKernelIdeal.nD,
      m' ((c.tc : Thread Cert.BODxReferenceIdeal.nD Cert.BODxReferenceIdeal.τ).loc Cert.BODxReferenceIdeal.main_arg0) = m ((c.tc : Thread Cert.BODxKernelIdeal.nD Cert.BODxKernelIdeal.τ).loc Cert.BODxKernelIdeal.main_arg0)
      ∧ m' ((c.tc : Thread Cert.BODxReferenceIdeal.nD Cert.BODxReferenceIdeal.τ).loc Cert.BODxReferenceIdeal.main_arg1) = m ((c.tc : Thread Cert.BODxKernelIdeal.nD Cert.BODxKernelIdeal.τ).loc Cert.BODxKernelIdeal.main_arg1)) →
    ∃ (v0 : (c : Dev Cert.BODxKernelIdeal.nD) → Buf (Elt Ideal) ((c.tc : Thread Cert.BODxKernelIdeal.nD Cert.BODxKernelIdeal.τ).loc Cert.BODxKernelIdeal.main_v0)),
      θ_run (Cert.BODxKernelIdeal.defs (F := Ideal)) (onTc (τ := Cert.BODxKernelIdeal.τ) (Cert.BODxKernelIdeal.main (F := Ideal))) ⟨m, fun _ => 0, g⟩ (fun r => ∀ c : Dev Cert.BODxKernelIdeal.nD,
          r.2.mem ((c.tc : Thread Cert.BODxKernelIdeal.nD Cert.BODxKernelIdeal.τ).loc Cert.BODxKernelIdeal.main_v0) = v0 c
          ∧ r.2.mem ((c.tc : Thread Cert.BODxKernelIdeal.nD Cert.BODxKernelIdeal.τ).loc Cert.BODxKernelIdeal.main_arg0) = m ((c.tc : Thread Cert.BODxKernelIdeal.nD Cert.BODxKernelIdeal.τ).loc Cert.BODxKernelIdeal.main_arg0)
          ∧ r.2.mem ((c.tc : Thread Cert.BODxKernelIdeal.nD Cert.BODxKernelIdeal.τ).loc Cert.BODxKernelIdeal.main_arg1) = m ((c.tc : Thread Cert.BODxKernelIdeal.nD Cert.BODxKernelIdeal.τ).loc Cert.BODxKernelIdeal.main_arg1))
      ∧ θ_run (Cert.BODxReferenceIdeal.defs (F := Ideal)) (onTc (τ := Cert.BODxReferenceIdeal.τ) (Cert.BODxReferenceIdeal.main (F := Ideal))) ⟨m', fun _ => 0, g'⟩ (fun r => ∀ c : Dev Cert.BODxReferenceIdeal.nD,
          r.2.mem ((c.tc : Thread Cert.BODxReferenceIdeal.nD Cert.BODxReferenceIdeal.τ).loc Cert.BODxReferenceIdeal.main_v5) = v0 c
          ∧ r.2.mem ((c.tc : Thread Cert.BODxReferenceIdeal.nD Cert.BODxReferenceIdeal.τ).loc Cert.BODxReferenceIdeal.main_arg0) = m' ((c.tc : Thread Cert.BODxReferenceIdeal.nD Cert.BODxReferenceIdeal.τ).loc Cert.BODxReferenceIdeal.main_arg0)
          ∧ r.2.mem ((c.tc : Thread Cert.BODxReferenceIdeal.nD Cert.BODxReferenceIdeal.τ).loc Cert.BODxReferenceIdeal.main_arg1) = m' ((c.tc : Thread Cert.BODxReferenceIdeal.nD Cert.BODxReferenceIdeal.τ).loc Cert.BODxReferenceIdeal.main_arg1))

def preserves_BODwKernel_BODwKernelIdeal : Prop :=
  True

def algebraic_BODwKernelIdeal_BODwReferenceIdeal [hBODwKernelIdeal : Cert.BODwKernelIdeal.Facts] [hBODwReferenceIdeal : Cert.BODwReferenceIdeal.Facts] : Prop :=
  ∀ (m : (ℓ : Loc Cert.BODwKernelIdeal.nD Cert.BODwKernelIdeal.τ Cert.BODwKernelIdeal.sig) → Buf (Elt Ideal) ℓ) (g : Dev Cert.BODwKernelIdeal.nD → PrngReg)
    (m' : (ℓ : Loc Cert.BODwReferenceIdeal.nD Cert.BODwReferenceIdeal.τ Cert.BODwReferenceIdeal.sig) → Buf (Elt Ideal) ℓ) (g' : Dev Cert.BODwReferenceIdeal.nD → PrngReg), Pre_BODwKernelIdeal m →
    (∀ c : Dev Cert.BODwKernelIdeal.nD,
      m' ((c.tc : Thread Cert.BODwReferenceIdeal.nD Cert.BODwReferenceIdeal.τ).loc Cert.BODwReferenceIdeal.main_arg0) = m ((c.tc : Thread Cert.BODwKernelIdeal.nD Cert.BODwKernelIdeal.τ).loc Cert.BODwKernelIdeal.main_arg0)
      ∧ m' ((c.tc : Thread Cert.BODwReferenceIdeal.nD Cert.BODwReferenceIdeal.τ).loc Cert.BODwReferenceIdeal.main_arg1) = m ((c.tc : Thread Cert.BODwKernelIdeal.nD Cert.BODwKernelIdeal.τ).loc Cert.BODwKernelIdeal.main_arg1)) →
    ∃ (v0 : (c : Dev Cert.BODwKernelIdeal.nD) → Buf (Elt Ideal) ((c.tc : Thread Cert.BODwKernelIdeal.nD Cert.BODwKernelIdeal.τ).loc Cert.BODwKernelIdeal.main_v2)),
      θ_run (Cert.BODwKernelIdeal.defs (F := Ideal)) (onTc (τ := Cert.BODwKernelIdeal.τ) (Cert.BODwKernelIdeal.main (F := Ideal))) ⟨m, fun _ => 0, g⟩ (fun r => ∀ c : Dev Cert.BODwKernelIdeal.nD,
          r.2.mem ((c.tc : Thread Cert.BODwKernelIdeal.nD Cert.BODwKernelIdeal.τ).loc Cert.BODwKernelIdeal.main_v2) = v0 c
          ∧ r.2.mem ((c.tc : Thread Cert.BODwKernelIdeal.nD Cert.BODwKernelIdeal.τ).loc Cert.BODwKernelIdeal.main_arg0) = m ((c.tc : Thread Cert.BODwKernelIdeal.nD Cert.BODwKernelIdeal.τ).loc Cert.BODwKernelIdeal.main_arg0)
          ∧ r.2.mem ((c.tc : Thread Cert.BODwKernelIdeal.nD Cert.BODwKernelIdeal.τ).loc Cert.BODwKernelIdeal.main_arg1) = m ((c.tc : Thread Cert.BODwKernelIdeal.nD Cert.BODwKernelIdeal.τ).loc Cert.BODwKernelIdeal.main_arg1))
      ∧ θ_run (Cert.BODwReferenceIdeal.defs (F := Ideal)) (onTc (τ := Cert.BODwReferenceIdeal.τ) (Cert.BODwReferenceIdeal.main (F := Ideal))) ⟨m', fun _ => 0, g'⟩ (fun r => ∀ c : Dev Cert.BODwReferenceIdeal.nD,
          r.2.mem ((c.tc : Thread Cert.BODwReferenceIdeal.nD Cert.BODwReferenceIdeal.τ).loc Cert.BODwReferenceIdeal.main_v5) = v0 c
          ∧ r.2.mem ((c.tc : Thread Cert.BODwReferenceIdeal.nD Cert.BODwReferenceIdeal.τ).loc Cert.BODwReferenceIdeal.main_arg0) = m' ((c.tc : Thread Cert.BODwReferenceIdeal.nD Cert.BODwReferenceIdeal.τ).loc Cert.BODwReferenceIdeal.main_arg0)
          ∧ r.2.mem ((c.tc : Thread Cert.BODwReferenceIdeal.nD Cert.BODwReferenceIdeal.τ).loc Cert.BODwReferenceIdeal.main_arg1) = m' ((c.tc : Thread Cert.BODwReferenceIdeal.nD Cert.BODwReferenceIdeal.τ).loc Cert.BODwReferenceIdeal.main_arg1))

def preserves_KvDxKernel_KvDxKernelIdeal : Prop :=
  True

def algebraic_KvDxKernelIdeal_KvDxReferenceIdeal [hKvDxKernelIdeal : Cert.KvDxKernelIdeal.Facts] [hKvDxReferenceIdeal : Cert.KvDxReferenceIdeal.Facts] : Prop :=
  ∀ (m : (ℓ : Loc Cert.KvDxKernelIdeal.nD Cert.KvDxKernelIdeal.τ Cert.KvDxKernelIdeal.sig) → Buf (Elt Ideal) ℓ) (g : Dev Cert.KvDxKernelIdeal.nD → PrngReg)
    (m' : (ℓ : Loc Cert.KvDxReferenceIdeal.nD Cert.KvDxReferenceIdeal.τ Cert.KvDxReferenceIdeal.sig) → Buf (Elt Ideal) ℓ) (g' : Dev Cert.KvDxReferenceIdeal.nD → PrngReg), Pre_KvDxKernelIdeal m →
    (∀ c : Dev Cert.KvDxKernelIdeal.nD,
      m' ((c.tc : Thread Cert.KvDxReferenceIdeal.nD Cert.KvDxReferenceIdeal.τ).loc Cert.KvDxReferenceIdeal.main_arg0) = m ((c.tc : Thread Cert.KvDxKernelIdeal.nD Cert.KvDxKernelIdeal.τ).loc Cert.KvDxKernelIdeal.main_arg0)
      ∧ m' ((c.tc : Thread Cert.KvDxReferenceIdeal.nD Cert.KvDxReferenceIdeal.τ).loc Cert.KvDxReferenceIdeal.main_arg1) = m ((c.tc : Thread Cert.KvDxKernelIdeal.nD Cert.KvDxKernelIdeal.τ).loc Cert.KvDxKernelIdeal.main_arg1)) →
    ∃ (v0 : (c : Dev Cert.KvDxKernelIdeal.nD) → Buf (Elt Ideal) ((c.tc : Thread Cert.KvDxKernelIdeal.nD Cert.KvDxKernelIdeal.τ).loc Cert.KvDxKernelIdeal.main_v0)),
      θ_run (Cert.KvDxKernelIdeal.defs (F := Ideal)) (onTc (τ := Cert.KvDxKernelIdeal.τ) (Cert.KvDxKernelIdeal.main (F := Ideal))) ⟨m, fun _ => 0, g⟩ (fun r => ∀ c : Dev Cert.KvDxKernelIdeal.nD,
          r.2.mem ((c.tc : Thread Cert.KvDxKernelIdeal.nD Cert.KvDxKernelIdeal.τ).loc Cert.KvDxKernelIdeal.main_v0) = v0 c
          ∧ r.2.mem ((c.tc : Thread Cert.KvDxKernelIdeal.nD Cert.KvDxKernelIdeal.τ).loc Cert.KvDxKernelIdeal.main_arg0) = m ((c.tc : Thread Cert.KvDxKernelIdeal.nD Cert.KvDxKernelIdeal.τ).loc Cert.KvDxKernelIdeal.main_arg0)
          ∧ r.2.mem ((c.tc : Thread Cert.KvDxKernelIdeal.nD Cert.KvDxKernelIdeal.τ).loc Cert.KvDxKernelIdeal.main_arg1) = m ((c.tc : Thread Cert.KvDxKernelIdeal.nD Cert.KvDxKernelIdeal.τ).loc Cert.KvDxKernelIdeal.main_arg1))
      ∧ θ_run (Cert.KvDxReferenceIdeal.defs (F := Ideal)) (onTc (τ := Cert.KvDxReferenceIdeal.τ) (Cert.KvDxReferenceIdeal.main (F := Ideal))) ⟨m', fun _ => 0, g'⟩ (fun r => ∀ c : Dev Cert.KvDxReferenceIdeal.nD,
          r.2.mem ((c.tc : Thread Cert.KvDxReferenceIdeal.nD Cert.KvDxReferenceIdeal.τ).loc Cert.KvDxReferenceIdeal.main_v12) = v0 c
          ∧ r.2.mem ((c.tc : Thread Cert.KvDxReferenceIdeal.nD Cert.KvDxReferenceIdeal.τ).loc Cert.KvDxReferenceIdeal.main_arg0) = m' ((c.tc : Thread Cert.KvDxReferenceIdeal.nD Cert.KvDxReferenceIdeal.τ).loc Cert.KvDxReferenceIdeal.main_arg0)
          ∧ r.2.mem ((c.tc : Thread Cert.KvDxReferenceIdeal.nD Cert.KvDxReferenceIdeal.τ).loc Cert.KvDxReferenceIdeal.main_arg1) = m' ((c.tc : Thread Cert.KvDxReferenceIdeal.nD Cert.KvDxReferenceIdeal.τ).loc Cert.KvDxReferenceIdeal.main_arg1))

def preserves_KvDwKernel_KvDwKernelIdeal : Prop :=
  True

def algebraic_KvDwKernelIdeal_KvDwReferenceIdeal [hKvDwKernelIdeal : Cert.KvDwKernelIdeal.Facts] [hKvDwReferenceIdeal : Cert.KvDwReferenceIdeal.Facts] : Prop :=
  ∀ (m : (ℓ : Loc Cert.KvDwKernelIdeal.nD Cert.KvDwKernelIdeal.τ Cert.KvDwKernelIdeal.sig) → Buf (Elt Ideal) ℓ) (g : Dev Cert.KvDwKernelIdeal.nD → PrngReg)
    (m' : (ℓ : Loc Cert.KvDwReferenceIdeal.nD Cert.KvDwReferenceIdeal.τ Cert.KvDwReferenceIdeal.sig) → Buf (Elt Ideal) ℓ) (g' : Dev Cert.KvDwReferenceIdeal.nD → PrngReg), Pre_KvDwKernelIdeal m →
    (∀ c : Dev Cert.KvDwKernelIdeal.nD,
      m' ((c.tc : Thread Cert.KvDwReferenceIdeal.nD Cert.KvDwReferenceIdeal.τ).loc Cert.KvDwReferenceIdeal.main_arg0) = m ((c.tc : Thread Cert.KvDwKernelIdeal.nD Cert.KvDwKernelIdeal.τ).loc Cert.KvDwKernelIdeal.main_arg0)
      ∧ m' ((c.tc : Thread Cert.KvDwReferenceIdeal.nD Cert.KvDwReferenceIdeal.τ).loc Cert.KvDwReferenceIdeal.main_arg1) = m ((c.tc : Thread Cert.KvDwKernelIdeal.nD Cert.KvDwKernelIdeal.τ).loc Cert.KvDwKernelIdeal.main_arg1)) →
    ∃ (v0 : (c : Dev Cert.KvDwKernelIdeal.nD) → Buf (Elt Ideal) ((c.tc : Thread Cert.KvDwKernelIdeal.nD Cert.KvDwKernelIdeal.τ).loc Cert.KvDwKernelIdeal.main_v1)),
      θ_run (Cert.KvDwKernelIdeal.defs (F := Ideal)) (onTc (τ := Cert.KvDwKernelIdeal.τ) (Cert.KvDwKernelIdeal.main (F := Ideal))) ⟨m, fun _ => 0, g⟩ (fun r => ∀ c : Dev Cert.KvDwKernelIdeal.nD,
          r.2.mem ((c.tc : Thread Cert.KvDwKernelIdeal.nD Cert.KvDwKernelIdeal.τ).loc Cert.KvDwKernelIdeal.main_v1) = v0 c
          ∧ r.2.mem ((c.tc : Thread Cert.KvDwKernelIdeal.nD Cert.KvDwKernelIdeal.τ).loc Cert.KvDwKernelIdeal.main_arg0) = m ((c.tc : Thread Cert.KvDwKernelIdeal.nD Cert.KvDwKernelIdeal.τ).loc Cert.KvDwKernelIdeal.main_arg0)
          ∧ r.2.mem ((c.tc : Thread Cert.KvDwKernelIdeal.nD Cert.KvDwKernelIdeal.τ).loc Cert.KvDwKernelIdeal.main_arg1) = m ((c.tc : Thread Cert.KvDwKernelIdeal.nD Cert.KvDwKernelIdeal.τ).loc Cert.KvDwKernelIdeal.main_arg1))
      ∧ θ_run (Cert.KvDwReferenceIdeal.defs (F := Ideal)) (onTc (τ := Cert.KvDwReferenceIdeal.τ) (Cert.KvDwReferenceIdeal.main (F := Ideal))) ⟨m', fun _ => 0, g'⟩ (fun r => ∀ c : Dev Cert.KvDwReferenceIdeal.nD,
          r.2.mem ((c.tc : Thread Cert.KvDwReferenceIdeal.nD Cert.KvDwReferenceIdeal.τ).loc Cert.KvDwReferenceIdeal.main_v14) = v0 c
          ∧ r.2.mem ((c.tc : Thread Cert.KvDwReferenceIdeal.nD Cert.KvDwReferenceIdeal.τ).loc Cert.KvDwReferenceIdeal.main_arg0) = m' ((c.tc : Thread Cert.KvDwReferenceIdeal.nD Cert.KvDwReferenceIdeal.τ).loc Cert.KvDwReferenceIdeal.main_arg0)
          ∧ r.2.mem ((c.tc : Thread Cert.KvDwReferenceIdeal.nD Cert.KvDwReferenceIdeal.τ).loc Cert.KvDwReferenceIdeal.main_arg1) = m' ((c.tc : Thread Cert.KvDwReferenceIdeal.nD Cert.KvDwReferenceIdeal.τ).loc Cert.KvDwReferenceIdeal.main_arg1))

def preserves_GuKernel_GuKernelIdeal : Prop :=
  True

def algebraic_GuKernelIdeal_GuReferenceIdeal [hGuKernelIdeal : Cert.GuKernelIdeal.Facts] [hGuReferenceIdeal : Cert.GuReferenceIdeal.Facts] : Prop :=
  ∀ (m : (ℓ : Loc Cert.GuKernelIdeal.nD Cert.GuKernelIdeal.τ Cert.GuKernelIdeal.sig) → Buf (Elt Ideal) ℓ) (g : Dev Cert.GuKernelIdeal.nD → PrngReg)
    (m' : (ℓ : Loc Cert.GuReferenceIdeal.nD Cert.GuReferenceIdeal.τ Cert.GuReferenceIdeal.sig) → Buf (Elt Ideal) ℓ) (g' : Dev Cert.GuReferenceIdeal.nD → PrngReg), Pre_GuKernelIdeal m →
    (∀ c : Dev Cert.GuKernelIdeal.nD,
      m' ((c.tc : Thread Cert.GuReferenceIdeal.nD Cert.GuReferenceIdeal.τ).loc Cert.GuReferenceIdeal.main_arg0) = m ((c.tc : Thread Cert.GuKernelIdeal.nD Cert.GuKernelIdeal.τ).loc Cert.GuKernelIdeal.main_arg0)
      ∧ m' ((c.tc : Thread Cert.GuReferenceIdeal.nD Cert.GuReferenceIdeal.τ).loc Cert.GuReferenceIdeal.main_arg1) = m ((c.tc : Thread Cert.GuKernelIdeal.nD Cert.GuKernelIdeal.τ).loc Cert.GuKernelIdeal.main_arg1)) →
    ∃ (v0 : (c : Dev Cert.GuKernelIdeal.nD) → Buf (Elt Ideal) ((c.tc : Thread Cert.GuKernelIdeal.nD Cert.GuKernelIdeal.τ).loc Cert.GuKernelIdeal.main_v0)),
      θ_run (Cert.GuKernelIdeal.defs (F := Ideal)) (onTc (τ := Cert.GuKernelIdeal.τ) (Cert.GuKernelIdeal.main (F := Ideal))) ⟨m, fun _ => 0, g⟩ (fun r => ∀ c : Dev Cert.GuKernelIdeal.nD,
          r.2.mem ((c.tc : Thread Cert.GuKernelIdeal.nD Cert.GuKernelIdeal.τ).loc Cert.GuKernelIdeal.main_v0) = v0 c
          ∧ r.2.mem ((c.tc : Thread Cert.GuKernelIdeal.nD Cert.GuKernelIdeal.τ).loc Cert.GuKernelIdeal.main_arg0) = m ((c.tc : Thread Cert.GuKernelIdeal.nD Cert.GuKernelIdeal.τ).loc Cert.GuKernelIdeal.main_arg0)
          ∧ r.2.mem ((c.tc : Thread Cert.GuKernelIdeal.nD Cert.GuKernelIdeal.τ).loc Cert.GuKernelIdeal.main_arg1) = m ((c.tc : Thread Cert.GuKernelIdeal.nD Cert.GuKernelIdeal.τ).loc Cert.GuKernelIdeal.main_arg1))
      ∧ θ_run (Cert.GuReferenceIdeal.defs (F := Ideal)) (onTc (τ := Cert.GuReferenceIdeal.τ) (Cert.GuReferenceIdeal.main (F := Ideal))) ⟨m', fun _ => 0, g'⟩ (fun r => ∀ c : Dev Cert.GuReferenceIdeal.nD,
          r.2.mem ((c.tc : Thread Cert.GuReferenceIdeal.nD Cert.GuReferenceIdeal.τ).loc Cert.GuReferenceIdeal.main_v8) = v0 c
          ∧ r.2.mem ((c.tc : Thread Cert.GuReferenceIdeal.nD Cert.GuReferenceIdeal.τ).loc Cert.GuReferenceIdeal.main_arg0) = m' ((c.tc : Thread Cert.GuReferenceIdeal.nD Cert.GuReferenceIdeal.τ).loc Cert.GuReferenceIdeal.main_arg0)
          ∧ r.2.mem ((c.tc : Thread Cert.GuReferenceIdeal.nD Cert.GuReferenceIdeal.τ).loc Cert.GuReferenceIdeal.main_arg1) = m' ((c.tc : Thread Cert.GuReferenceIdeal.nD Cert.GuReferenceIdeal.τ).loc Cert.GuReferenceIdeal.main_arg1))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)) →
    ∃ (v0 : (c : Dev Cert.DownKernelIdeal.nD) → Buf (Elt Ideal) ((c.tc : Thread Cert.DownKernelIdeal.nD Cert.DownKernelIdeal.τ).loc Cert.DownKernelIdeal.main_v0)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_AInKernel_AInKernelIdeal : Prop :=
  True

def algebraic_AInKernelIdeal_AInReferenceIdeal [hAInKernelIdeal : Cert.AInKernelIdeal.Facts] [hAInReferenceIdeal : Cert.AInReferenceIdeal.Facts] : Prop :=
  ∀ (m : (ℓ : Loc Cert.AInKernelIdeal.nD Cert.AInKernelIdeal.τ Cert.AInKernelIdeal.sig) → Buf (Elt Ideal) ℓ) (g : Dev Cert.AInKernelIdeal.nD → PrngReg)
    (m' : (ℓ : Loc Cert.AInReferenceIdeal.nD Cert.AInReferenceIdeal.τ Cert.AInReferenceIdeal.sig) → Buf (Elt Ideal) ℓ) (g' : Dev Cert.AInReferenceIdeal.nD → PrngReg), Pre_AInKernelIdeal m →
    (∀ c : Dev Cert.AInKernelIdeal.nD,
      m' ((c.tc : Thread Cert.AInReferenceIdeal.nD Cert.AInReferenceIdeal.τ).loc Cert.AInReferenceIdeal.main_arg0) = m ((c.tc : Thread Cert.AInKernelIdeal.nD Cert.AInKernelIdeal.τ).loc Cert.AInKernelIdeal.main_arg0)
      ∧ m' ((c.tc : Thread Cert.AInReferenceIdeal.nD Cert.AInReferenceIdeal.τ).loc Cert.AInReferenceIdeal.main_arg1) = m ((c.tc : Thread Cert.AInKernelIdeal.nD Cert.AInKernelIdeal.τ).loc Cert.AInKernelIdeal.main_arg1)) →
    ∃ (v0 : (c : Dev Cert.AInKernelIdeal.nD) → Buf (Elt Ideal) ((c.tc : Thread Cert.AInKernelIdeal.nD Cert.AInKernelIdeal.τ).loc Cert.AInKernelIdeal.main_v0)),
      θ_run (Cert.AInKernelIdeal.defs (F := Ideal)) (onTc (τ := Cert.AInKernelIdeal.τ) (Cert.AInKernelIdeal.main (F := Ideal))) ⟨m, fun _ => 0, g⟩ (fun r => ∀ c : Dev Cert.AInKernelIdeal.nD,
          r.2.mem ((c.tc : Thread Cert.AInKernelIdeal.nD Cert.AInKernelIdeal.τ).loc Cert.AInKernelIdeal.main_v0) = v0 c
          ∧ r.2.mem ((c.tc : Thread Cert.AInKernelIdeal.nD Cert.AInKernelIdeal.τ).loc Cert.AInKernelIdeal.main_arg0) = m ((c.tc : Thread Cert.AInKernelIdeal.nD Cert.AInKernelIdeal.τ).loc Cert.AInKernelIdeal.main_arg0)
          ∧ r.2.mem ((c.tc : Thread Cert.AInKernelIdeal.nD Cert.AInKernelIdeal.τ).loc Cert.AInKernelIdeal.main_arg1) = m ((c.tc : Thread Cert.AInKernelIdeal.nD Cert.AInKernelIdeal.τ).loc Cert.AInKernelIdeal.main_arg1))
      ∧ θ_run (Cert.AInReferenceIdeal.defs (F := Ideal)) (onTc (τ := Cert.AInReferenceIdeal.τ) (Cert.AInReferenceIdeal.main (F := Ideal))) ⟨m', fun _ => 0, g'⟩ (fun r => ∀ c : Dev Cert.AInReferenceIdeal.nD,
          r.2.mem ((c.tc : Thread Cert.AInReferenceIdeal.nD Cert.AInReferenceIdeal.τ).loc Cert.AInReferenceIdeal.main_v10) = v0 c
          ∧ r.2.mem ((c.tc : Thread Cert.AInReferenceIdeal.nD Cert.AInReferenceIdeal.τ).loc Cert.AInReferenceIdeal.main_arg0) = m' ((c.tc : Thread Cert.AInReferenceIdeal.nD Cert.AInReferenceIdeal.τ).loc Cert.AInReferenceIdeal.main_arg0)
          ∧ r.2.mem ((c.tc : Thread Cert.AInReferenceIdeal.nD Cert.AInReferenceIdeal.τ).loc Cert.AInReferenceIdeal.main_arg1) = m' ((c.tc : Thread Cert.AInReferenceIdeal.nD Cert.AInReferenceIdeal.τ).loc Cert.AInReferenceIdeal.main_arg1))

def preserves_AOutKernel_AOutKernelIdeal : Prop :=
  True

def algebraic_AOutKernelIdeal_AOutReferenceIdeal [hAOutKernelIdeal : Cert.AOutKernelIdeal.Facts] [hAOutReferenceIdeal : Cert.AOutReferenceIdeal.Facts] : Prop :=
  ∀ (m : (ℓ : Loc Cert.AOutKernelIdeal.nD Cert.AOutKernelIdeal.τ Cert.AOutKernelIdeal.sig) → Buf (Elt Ideal) ℓ) (g : Dev Cert.AOutKernelIdeal.nD → PrngReg)
    (m' : (ℓ : Loc Cert.AOutReferenceIdeal.nD Cert.AOutReferenceIdeal.τ Cert.AOutReferenceIdeal.sig) → Buf (Elt Ideal) ℓ) (g' : Dev Cert.AOutReferenceIdeal.nD → PrngReg), Pre_AOutKernelIdeal m →
    (∀ c : Dev Cert.AOutKernelIdeal.nD,
      m' ((c.tc : Thread Cert.AOutReferenceIdeal.nD Cert.AOutReferenceIdeal.τ).loc Cert.AOutReferenceIdeal.main_arg0) = m ((c.tc : Thread Cert.AOutKernelIdeal.nD Cert.AOutKernelIdeal.τ).loc Cert.AOutKernelIdeal.main_arg0)
      ∧ m' ((c.tc : Thread Cert.AOutReferenceIdeal.nD Cert.AOutReferenceIdeal.τ).loc Cert.AOutReferenceIdeal.main_arg1) = m ((c.tc : Thread Cert.AOutKernelIdeal.nD Cert.AOutKernelIdeal.τ).loc Cert.AOutKernelIdeal.main_arg1)
      ∧ m' ((c.tc : Thread Cert.AOutReferenceIdeal.nD Cert.AOutReferenceIdeal.τ).loc Cert.AOutReferenceIdeal.main_arg2) = m ((c.tc : Thread Cert.AOutKernelIdeal.nD Cert.AOutKernelIdeal.τ).loc Cert.AOutKernelIdeal.main_arg2)) →
    ∃ (v0 : (c : Dev Cert.AOutKernelIdeal.nD) → Buf (Elt Ideal) ((c.tc : Thread Cert.AOutKernelIdeal.nD Cert.AOutKernelIdeal.τ).loc Cert.AOutKernelIdeal.main_v0)),
      θ_run (Cert.AOutKernelIdeal.defs (F := Ideal)) (onTc (τ := Cert.AOutKernelIdeal.τ) (Cert.AOutKernelIdeal.main (F := Ideal))) ⟨m, fun _ => 0, g⟩ (fun r => ∀ c : Dev Cert.AOutKernelIdeal.nD,
          r.2.mem ((c.tc : Thread Cert.AOutKernelIdeal.nD Cert.AOutKernelIdeal.τ).loc Cert.AOutKernelIdeal.main_v0) = v0 c
          ∧ r.2.mem ((c.tc : Thread Cert.AOutKernelIdeal.nD Cert.AOutKernelIdeal.τ).loc Cert.AOutKernelIdeal.main_arg0) = m ((c.tc : Thread Cert.AOutKernelIdeal.nD Cert.AOutKernelIdeal.τ).loc Cert.AOutKernelIdeal.main_arg0)
          ∧ r.2.mem ((c.tc : Thread Cert.AOutKernelIdeal.nD Cert.AOutKernelIdeal.τ).loc Cert.AOutKernelIdeal.main_arg1) = m ((c.tc : Thread Cert.AOutKernelIdeal.nD Cert.AOutKernelIdeal.τ).loc Cert.AOutKernelIdeal.main_arg1)
          ∧ r.2.mem ((c.tc : Thread Cert.AOutKernelIdeal.nD Cert.AOutKernelIdeal.τ).loc Cert.AOutKernelIdeal.main_arg2) = m ((c.tc : Thread Cert.AOutKernelIdeal.nD Cert.AOutKernelIdeal.τ).loc Cert.AOutKernelIdeal.main_arg2))
      ∧ θ_run (Cert.AOutReferenceIdeal.defs (F := Ideal)) (onTc (τ := Cert.AOutReferenceIdeal.τ) (Cert.AOutReferenceIdeal.main (F := Ideal))) ⟨m', fun _ => 0, g'⟩ (fun r => ∀ c : Dev Cert.AOutReferenceIdeal.nD,
          r.2.mem ((c.tc : Thread Cert.AOutReferenceIdeal.nD Cert.AOutReferenceIdeal.τ).loc Cert.AOutReferenceIdeal.main_v3) = v0 c
          ∧ r.2.mem ((c.tc : Thread Cert.AOutReferenceIdeal.nD Cert.AOutReferenceIdeal.τ).loc Cert.AOutReferenceIdeal.main_arg0) = m' ((c.tc : Thread Cert.AOutReferenceIdeal.nD Cert.AOutReferenceIdeal.τ).loc Cert.AOutReferenceIdeal.main_arg0)
          ∧ r.2.mem ((c.tc : Thread Cert.AOutReferenceIdeal.nD Cert.AOutReferenceIdeal.τ).loc Cert.AOutReferenceIdeal.main_arg1) = m' ((c.tc : Thread Cert.AOutReferenceIdeal.nD Cert.AOutReferenceIdeal.τ).loc Cert.AOutReferenceIdeal.main_arg1)
          ∧ r.2.mem ((c.tc : Thread Cert.AOutReferenceIdeal.nD Cert.AOutReferenceIdeal.τ).loc Cert.AOutReferenceIdeal.main_arg2) = m' ((c.tc : Thread Cert.AOutReferenceIdeal.nD Cert.AOutReferenceIdeal.τ).loc Cert.AOutReferenceIdeal.main_arg2))

def preserves_KvKernel_KvKernelIdeal : Prop :=
  True

def algebraic_KvKernelIdeal_KvReferenceIdeal [hKvKernelIdeal : Cert.KvKernelIdeal.Facts] [hKvReferenceIdeal : Cert.KvReferenceIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvKernelIdeal m →
    (∀ c : Dev Cert.KvKernelIdeal.nD,
      m' ((c.tc : Thread Cert.KvReferenceIdeal.nD Cert.KvReferenceIdeal.τ).loc Cert.KvReferenceIdeal.main_arg0) = m ((c.tc : Thread Cert.KvKernelIdeal.nD Cert.KvKernelIdeal.τ).loc Cert.KvKernelIdeal.main_arg0)
      ∧ m' ((c.tc : Thread Cert.KvReferenceIdeal.nD Cert.KvReferenceIdeal.τ).loc Cert.KvReferenceIdeal.main_arg1) = m ((c.tc : Thread Cert.KvKernelIdeal.nD Cert.KvKernelIdeal.τ).loc Cert.KvKernelIdeal.main_arg1)) →
    ∃ (v0 : (c : Dev Cert.KvKernelIdeal.nD) → Buf (Elt Ideal) ((c.tc : Thread Cert.KvKernelIdeal.nD Cert.KvKernelIdeal.τ).loc Cert.KvKernelIdeal.main_v0)),
      θ_run (Cert.KvKernelIdeal.defs (F := Ideal)) (onTc (τ := Cert.KvKernelIdeal.τ) (Cert.KvKernelIdeal.main (F := Ideal))) ⟨m, fun _ => 0, g⟩ (fun r => ∀ c : Dev Cert.KvKernelIdeal.nD,
          r.2.mem ((c.tc : Thread Cert.KvKernelIdeal.nD Cert.KvKernelIdeal.τ).loc Cert.KvKernelIdeal.main_v0) = v0 c
          ∧ r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
          ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v7) = v0 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1))

def preserves_BQKernel_BQKernelIdeal : Prop :=
  True

def algebraic_BQKernelIdeal_BQReferenceIdeal [hBQKernelIdeal : Cert.BQKernelIdeal.Facts] [hBQReferenceIdeal : Cert.BQReferenceIdeal.Facts] : Prop :=
  ∀ (m : (ℓ : Loc Cert.BQKernelIdeal.nD Cert.BQKernelIdeal.τ Cert.BQKernelIdeal.sig) → Buf (Elt Ideal) ℓ) (g : Dev Cert.BQKernelIdeal.nD → PrngReg)
    (m' : (ℓ : Loc Cert.BQReferenceIdeal.nD Cert.BQReferenceIdeal.τ Cert.BQReferenceIdeal.sig) → Buf (Elt Ideal) ℓ) (g' : Dev Cert.BQReferenceIdeal.nD → PrngReg), Pre_BQKernelIdeal m →
    (∀ c : Dev Cert.BQKernelIdeal.nD,
      m' ((c.tc : Thread Cert.BQReferenceIdeal.nD Cert.BQReferenceIdeal.τ).loc Cert.BQReferenceIdeal.main_arg0) = m ((c.tc : Thread Cert.BQKernelIdeal.nD Cert.BQKernelIdeal.τ).loc Cert.BQKernelIdeal.main_arg0)
      ∧ m' ((c.tc : Thread Cert.BQReferenceIdeal.nD Cert.BQReferenceIdeal.τ).loc Cert.BQReferenceIdeal.main_arg1) = m ((c.tc : Thread Cert.BQKernelIdeal.nD Cert.BQKernelIdeal.τ).loc Cert.BQKernelIdeal.main_arg1)) →
    ∃ (v0 : (c : Dev Cert.BQKernelIdeal.nD) → Buf (Elt Ideal) ((c.tc : Thread Cert.BQKernelIdeal.nD Cert.BQKernelIdeal.τ).loc Cert.BQKernelIdeal.main_v0)),
      θ_run (Cert.BQKernelIdeal.defs (F := Ideal)) (onTc (τ := Cert.BQKernelIdeal.τ) (Cert.BQKernelIdeal.main (F := Ideal))) ⟨m, fun _ => 0, g⟩ (fun r => ∀ c : Dev Cert.BQKernelIdeal.nD,
          r.2.mem ((c.tc : Thread Cert.BQKernelIdeal.nD Cert.BQKernelIdeal.τ).loc Cert.BQKernelIdeal.main_v0) = v0 c
          ∧ r.2.mem ((c.tc : Thread Cert.BQKernelIdeal.nD Cert.BQKernelIdeal.τ).loc Cert.BQKernelIdeal.main_arg0) = m ((c.tc : Thread Cert.BQKernelIdeal.nD Cert.BQKernelIdeal.τ).loc Cert.BQKernelIdeal.main_arg0)
          ∧ r.2.mem ((c.tc : Thread Cert.BQKernelIdeal.nD Cert.BQKernelIdeal.τ).loc Cert.BQKernelIdeal.main_arg1) = m ((c.tc : Thread Cert.BQKernelIdeal.nD Cert.BQKernelIdeal.τ).loc Cert.BQKernelIdeal.main_arg1))
      ∧ θ_run (Cert.BQReferenceIdeal.defs (F := Ideal)) (onTc (τ := Cert.BQReferenceIdeal.τ) (Cert.BQReferenceIdeal.main (F := Ideal))) ⟨m', fun _ => 0, g'⟩ (fun r => ∀ c : Dev Cert.BQReferenceIdeal.nD,
          r.2.mem ((c.tc : Thread Cert.BQReferenceIdeal.nD Cert.BQReferenceIdeal.τ).loc Cert.BQReferenceIdeal.main_v2) = v0 c
          ∧ r.2.mem ((c.tc : Thread Cert.BQReferenceIdeal.nD Cert.BQReferenceIdeal.τ).loc Cert.BQReferenceIdeal.main_arg0) = m' ((c.tc : Thread Cert.BQReferenceIdeal.nD Cert.BQReferenceIdeal.τ).loc Cert.BQReferenceIdeal.main_arg0)
          ∧ r.2.mem ((c.tc : Thread Cert.BQReferenceIdeal.nD Cert.BQReferenceIdeal.τ).loc Cert.BQReferenceIdeal.main_arg1) = m' ((c.tc : Thread Cert.BQReferenceIdeal.nD Cert.BQReferenceIdeal.τ).loc Cert.BQReferenceIdeal.main_arg1))

def preserves_BOKernel_BOKernelIdeal : Prop :=
  True

def algebraic_BOKernelIdeal_BOReferenceIdeal [hBOKernelIdeal : Cert.BOKernelIdeal.Facts] [hBOReferenceIdeal : Cert.BOReferenceIdeal.Facts] : Prop :=
  ∀ (m : (ℓ : Loc Cert.BOKernelIdeal.nD Cert.BOKernelIdeal.τ Cert.BOKernelIdeal.sig) → Buf (Elt Ideal) ℓ) (g : Dev Cert.BOKernelIdeal.nD → PrngReg)
    (m' : (ℓ : Loc Cert.BOReferenceIdeal.nD Cert.BOReferenceIdeal.τ Cert.BOReferenceIdeal.sig) → Buf (Elt Ideal) ℓ) (g' : Dev Cert.BOReferenceIdeal.nD → PrngReg), Pre_BOKernelIdeal m →
    (∀ c : Dev Cert.BOKernelIdeal.nD,
      m' ((c.tc : Thread Cert.BOReferenceIdeal.nD Cert.BOReferenceIdeal.τ).loc Cert.BOReferenceIdeal.main_arg0) = m ((c.tc : Thread Cert.BOKernelIdeal.nD Cert.BOKernelIdeal.τ).loc Cert.BOKernelIdeal.main_arg0)
      ∧ m' ((c.tc : Thread Cert.BOReferenceIdeal.nD Cert.BOReferenceIdeal.τ).loc Cert.BOReferenceIdeal.main_arg1) = m ((c.tc : Thread Cert.BOKernelIdeal.nD Cert.BOKernelIdeal.τ).loc Cert.BOKernelIdeal.main_arg1)
      ∧ m' ((c.tc : Thread Cert.BOReferenceIdeal.nD Cert.BOReferenceIdeal.τ).loc Cert.BOReferenceIdeal.main_arg2) = m ((c.tc : Thread Cert.BOKernelIdeal.nD Cert.BOKernelIdeal.τ).loc Cert.BOKernelIdeal.main_arg2)) →
    ∃ (v0 : (c : Dev Cert.BOKernelIdeal.nD) → Buf (Elt Ideal) ((c.tc : Thread Cert.BOKernelIdeal.nD Cert.BOKernelIdeal.τ).loc Cert.BOKernelIdeal.main_v0)),
      θ_run (Cert.BOKernelIdeal.defs (F := Ideal)) (onTc (τ := Cert.BOKernelIdeal.τ) (Cert.BOKernelIdeal.main (F := Ideal))) ⟨m, fun _ => 0, g⟩ (fun r => ∀ c : Dev Cert.BOKernelIdeal.nD,
          r.2.mem ((c.tc : Thread Cert.BOKernelIdeal.nD Cert.BOKernelIdeal.τ).loc Cert.BOKernelIdeal.main_v0) = v0 c
          ∧ r.2.mem ((c.tc : Thread Cert.BOKernelIdeal.nD Cert.BOKernelIdeal.τ).loc Cert.BOKernelIdeal.main_arg0) = m ((c.tc : Thread Cert.BOKernelIdeal.nD Cert.BOKernelIdeal.τ).loc Cert.BOKernelIdeal.main_arg0)
          ∧ r.2.mem ((c.tc : Thread Cert.BOKernelIdeal.nD Cert.BOKernelIdeal.τ).loc Cert.BOKernelIdeal.main_arg1) = m ((c.tc : Thread Cert.BOKernelIdeal.nD Cert.BOKernelIdeal.τ).loc Cert.BOKernelIdeal.main_arg1)
          ∧ r.2.mem ((c.tc : Thread Cert.BOKernelIdeal.nD Cert.BOKernelIdeal.τ).loc Cert.BOKernelIdeal.main_arg2) = m ((c.tc : Thread Cert.BOKernelIdeal.nD Cert.BOKernelIdeal.τ).loc Cert.BOKernelIdeal.main_arg2))
      ∧ θ_run (Cert.BOReferenceIdeal.defs (F := Ideal)) (onTc (τ := Cert.BOReferenceIdeal.τ) (Cert.BOReferenceIdeal.main (F := Ideal))) ⟨m', fun _ => 0, g'⟩ (fun r => ∀ c : Dev Cert.BOReferenceIdeal.nD,
          r.2.mem ((c.tc : Thread Cert.BOReferenceIdeal.nD Cert.BOReferenceIdeal.τ).loc Cert.BOReferenceIdeal.main_v2) = v0 c
          ∧ r.2.mem ((c.tc : Thread Cert.BOReferenceIdeal.nD Cert.BOReferenceIdeal.τ).loc Cert.BOReferenceIdeal.main_arg0) = m' ((c.tc : Thread Cert.BOReferenceIdeal.nD Cert.BOReferenceIdeal.τ).loc Cert.BOReferenceIdeal.main_arg0)
          ∧ r.2.mem ((c.tc : Thread Cert.BOReferenceIdeal.nD Cert.BOReferenceIdeal.τ).loc Cert.BOReferenceIdeal.main_arg1) = m' ((c.tc : Thread Cert.BOReferenceIdeal.nD Cert.BOReferenceIdeal.τ).loc Cert.BOReferenceIdeal.main_arg1)
          ∧ r.2.mem ((c.tc : Thread Cert.BOReferenceIdeal.nD Cert.BOReferenceIdeal.τ).loc Cert.BOReferenceIdeal.main_arg2) = m' ((c.tc : Thread Cert.BOReferenceIdeal.nD Cert.BOReferenceIdeal.τ).loc Cert.BOReferenceIdeal.main_arg2))

def preserves_AttnTwoKernel_AttnTwoKernelIdeal : Prop :=
  True

def algebraic_AttnTwoKernelIdeal_AttnTwoReferenceIdeal_pre_finite_two [hAttnTwoKernelIdeal : Cert.AttnTwoKernelIdeal.Facts] [hAttnTwoReferenceIdeal : Cert.AttnTwoReferenceIdeal.Facts] [hPre_finite_two : Cert.Pre_finite_two.Facts] : Prop :=
  ∀ (m : (ℓ : Loc Cert.AttnTwoKernelIdeal.nD Cert.AttnTwoKernelIdeal.τ Cert.AttnTwoKernelIdeal.sig) → Buf (Elt Ideal) ℓ) (g : Dev Cert.AttnTwoKernelIdeal.nD → PrngReg)
    (m' : (ℓ : Loc Cert.AttnTwoReferenceIdeal.nD Cert.AttnTwoReferenceIdeal.τ Cert.AttnTwoReferenceIdeal.sig) → Buf (Elt Ideal) ℓ) (g' : Dev Cert.AttnTwoReferenceIdeal.nD → PrngReg), Pre_AttnTwoKernelIdeal_finite_two m →
    (∀ c : Dev Cert.AttnTwoKernelIdeal.nD,
      m' ((c.tc : Thread Cert.AttnTwoReferenceIdeal.nD Cert.AttnTwoReferenceIdeal.τ).loc Cert.AttnTwoReferenceIdeal.main_arg0) = m ((c.tc : Thread Cert.AttnTwoKernelIdeal.nD Cert.AttnTwoKernelIdeal.τ).loc Cert.AttnTwoKernelIdeal.main_arg0)
      ∧ m' ((c.tc : Thread Cert.AttnTwoReferenceIdeal.nD Cert.AttnTwoReferenceIdeal.τ).loc Cert.AttnTwoReferenceIdeal.main_arg1) = m ((c.tc : Thread Cert.AttnTwoKernelIdeal.nD Cert.AttnTwoKernelIdeal.τ).loc Cert.AttnTwoKernelIdeal.main_arg1)
      ∧ m' ((c.tc : Thread Cert.AttnTwoReferenceIdeal.nD Cert.AttnTwoReferenceIdeal.τ).loc Cert.AttnTwoReferenceIdeal.main_arg2) = m ((c.tc : Thread Cert.AttnTwoKernelIdeal.nD Cert.AttnTwoKernelIdeal.τ).loc Cert.AttnTwoKernelIdeal.main_arg2)
      ∧ m' ((c.tc : Thread Cert.AttnTwoReferenceIdeal.nD Cert.AttnTwoReferenceIdeal.τ).loc Cert.AttnTwoReferenceIdeal.main_arg3) = m ((c.tc : Thread Cert.AttnTwoKernelIdeal.nD Cert.AttnTwoKernelIdeal.τ).loc Cert.AttnTwoKernelIdeal.main_arg3)
      ∧ m' ((c.tc : Thread Cert.AttnTwoReferenceIdeal.nD Cert.AttnTwoReferenceIdeal.τ).loc Cert.AttnTwoReferenceIdeal.main_arg4) = m ((c.tc : Thread Cert.AttnTwoKernelIdeal.nD Cert.AttnTwoKernelIdeal.τ).loc Cert.AttnTwoKernelIdeal.main_arg4)
      ∧ m' ((c.tc : Thread Cert.AttnTwoReferenceIdeal.nD Cert.AttnTwoReferenceIdeal.τ).loc Cert.AttnTwoReferenceIdeal.main_arg5) = m ((c.tc : Thread Cert.AttnTwoKernelIdeal.nD Cert.AttnTwoKernelIdeal.τ).loc Cert.AttnTwoKernelIdeal.main_arg5)
      ∧ m' ((c.tc : Thread Cert.AttnTwoReferenceIdeal.nD Cert.AttnTwoReferenceIdeal.τ).loc Cert.AttnTwoReferenceIdeal.main_arg6) = m ((c.tc : Thread Cert.AttnTwoKernelIdeal.nD Cert.AttnTwoKernelIdeal.τ).loc Cert.AttnTwoKernelIdeal.main_arg6)
      ∧ m' ((c.tc : Thread Cert.AttnTwoReferenceIdeal.nD Cert.AttnTwoReferenceIdeal.τ).loc Cert.AttnTwoReferenceIdeal.main_arg7) = m ((c.tc : Thread Cert.AttnTwoKernelIdeal.nD Cert.AttnTwoKernelIdeal.τ).loc Cert.AttnTwoKernelIdeal.main_arg7)) →
    ∃ (v0 : (c : Dev Cert.AttnTwoKernelIdeal.nD) → Buf (Elt Ideal) ((c.tc : Thread Cert.AttnTwoKernelIdeal.nD Cert.AttnTwoKernelIdeal.τ).loc Cert.AttnTwoKernelIdeal.main_v53_0)) (v1 : (c : Dev Cert.AttnTwoKernelIdeal.nD) → Buf (Elt Ideal) ((c.tc : Thread Cert.AttnTwoKernelIdeal.nD Cert.AttnTwoKernelIdeal.τ).loc Cert.AttnTwoKernelIdeal.main_v53_1)) (v2 : (c : Dev Cert.AttnTwoKernelIdeal.nD) → Buf (Elt Ideal) ((c.tc : Thread Cert.AttnTwoKernelIdeal.nD Cert.AttnTwoKernelIdeal.τ).loc Cert.AttnTwoKernelIdeal.main_v53_2)) (v3 : (c : Dev Cert.AttnTwoKernelIdeal.nD) → Buf (Elt Ideal) ((c.tc : Thread Cert.AttnTwoKernelIdeal.nD Cert.AttnTwoKernelIdeal.τ).loc Cert.AttnTwoKernelIdeal.main_v53_3)),
      θ_run (Cert.AttnTwoKernelIdeal.defs (F := Ideal)) (onTc (τ := Cert.AttnTwoKernelIdeal.τ) (Cert.AttnTwoKernelIdeal.main (F := Ideal))) ⟨m, fun _ => 0, g⟩ (fun r => ∀ c : Dev Cert.AttnTwoKernelIdeal.nD,
          r.2.mem ((c.tc : Thread Cert.AttnTwoKernelIdeal.nD Cert.AttnTwoKernelIdeal.τ).loc Cert.AttnTwoKernelIdeal.main_v53_0) = v0 c
          ∧ r.2.mem ((c.tc : Thread Cert.AttnTwoKernelIdeal.nD Cert.AttnTwoKernelIdeal.τ).loc Cert.AttnTwoKernelIdeal.main_v53_1) = v1 c
          ∧ r.2.mem ((c.tc : Thread Cert.AttnTwoKernelIdeal.nD Cert.AttnTwoKernelIdeal.τ).loc Cert.AttnTwoKernelIdeal.main_v53_2) = v2 c
          ∧ r.2.mem ((c.tc : Thread Cert.AttnTwoKernelIdeal.nD Cert.AttnTwoKernelIdeal.τ).loc Cert.AttnTwoKernelIdeal.main_v53_3) = v3 c
          ∧ r.2.mem ((c.tc : Thread Cert.AttnTwoKernelIdeal.nD Cert.AttnTwoKernelIdeal.τ).loc Cert.AttnTwoKernelIdeal.main_arg0) = m ((c.tc : Thread Cert.AttnTwoKernelIdeal.nD Cert.AttnTwoKernelIdeal.τ).loc Cert.AttnTwoKernelIdeal.main_arg0)
          ∧ r.2.mem ((c.tc : Thread Cert.AttnTwoKernelIdeal.nD Cert.AttnTwoKernelIdeal.τ).loc Cert.AttnTwoKernelIdeal.main_arg1) = m ((c.tc : Thread Cert.AttnTwoKernelIdeal.nD Cert.AttnTwoKernelIdeal.τ).loc Cert.AttnTwoKernelIdeal.main_arg1)
          ∧ r.2.mem ((c.tc : Thread Cert.AttnTwoKernelIdeal.nD Cert.AttnTwoKernelIdeal.τ).loc Cert.AttnTwoKernelIdeal.main_arg2) = m ((c.tc : Thread Cert.AttnTwoKernelIdeal.nD Cert.AttnTwoKernelIdeal.τ).loc Cert.AttnTwoKernelIdeal.main_arg2)
          ∧ r.2.mem ((c.tc : Thread Cert.AttnTwoKernelIdeal.nD Cert.AttnTwoKernelIdeal.τ).loc Cert.AttnTwoKernelIdeal.main_arg3) = m ((c.tc : Thread Cert.AttnTwoKernelIdeal.nD Cert.AttnTwoKernelIdeal.τ).loc Cert.AttnTwoKernelIdeal.main_arg3)
          ∧ r.2.mem ((c.tc : Thread Cert.AttnTwoKernelIdeal.nD Cert.AttnTwoKernelIdeal.τ).loc Cert.AttnTwoKernelIdeal.main_arg4) = m ((c.tc : Thread Cert.AttnTwoKernelIdeal.nD Cert.AttnTwoKernelIdeal.τ).loc Cert.AttnTwoKernelIdeal.main_arg4)
          ∧ r.2.mem ((c.tc : Thread Cert.AttnTwoKernelIdeal.nD Cert.AttnTwoKernelIdeal.τ).loc Cert.AttnTwoKernelIdeal.main_arg5) = m ((c.tc : Thread Cert.AttnTwoKernelIdeal.nD Cert.AttnTwoKernelIdeal.τ).loc Cert.AttnTwoKernelIdeal.main_arg5)
          ∧ r.2.mem ((c.tc : Thread Cert.AttnTwoKernelIdeal.nD Cert.AttnTwoKernelIdeal.τ).loc Cert.AttnTwoKernelIdeal.main_arg6) = m ((c.tc : Thread Cert.AttnTwoKernelIdeal.nD Cert.AttnTwoKernelIdeal.τ).loc Cert.AttnTwoKernelIdeal.main_arg6)
          ∧ r.2.mem ((c.tc : Thread Cert.AttnTwoKernelIdeal.nD Cert.AttnTwoKernelIdeal.τ).loc Cert.AttnTwoKernelIdeal.main_arg7) = m ((c.tc : Thread Cert.AttnTwoKernelIdeal.nD Cert.AttnTwoKernelIdeal.τ).loc Cert.AttnTwoKernelIdeal.main_arg7))
      ∧ θ_run (Cert.AttnTwoReferenceIdeal.defs (F := Ideal)) (onTc (τ := Cert.AttnTwoReferenceIdeal.τ) (Cert.AttnTwoReferenceIdeal.main (F := Ideal))) ⟨m', fun _ => 0, g'⟩ (fun r => ∀ c : Dev Cert.AttnTwoReferenceIdeal.nD,
          r.2.mem ((c.tc : Thread Cert.AttnTwoReferenceIdeal.nD Cert.AttnTwoReferenceIdeal.τ).loc Cert.AttnTwoReferenceIdeal.main_v98) = v0 c
          ∧ r.2.mem ((c.tc : Thread Cert.AttnTwoReferenceIdeal.nD Cert.AttnTwoReferenceIdeal.τ).loc Cert.AttnTwoReferenceIdeal.main_v102) = v1 c
          ∧ r.2.mem ((c.tc : Thread Cert.AttnTwoReferenceIdeal.nD Cert.AttnTwoReferenceIdeal.τ).loc Cert.AttnTwoReferenceIdeal.main_v103) = v2 c
          ∧ r.2.mem ((c.tc : Thread Cert.AttnTwoReferenceIdeal.nD Cert.AttnTwoReferenceIdeal.τ).loc Cert.AttnTwoReferenceIdeal.main_v104) = v3 c
          ∧ r.2.mem ((c.tc : Thread Cert.AttnTwoReferenceIdeal.nD Cert.AttnTwoReferenceIdeal.τ).loc Cert.AttnTwoReferenceIdeal.main_arg0) = m' ((c.tc : Thread Cert.AttnTwoReferenceIdeal.nD Cert.AttnTwoReferenceIdeal.τ).loc Cert.AttnTwoReferenceIdeal.main_arg0)
          ∧ r.2.mem ((c.tc : Thread Cert.AttnTwoReferenceIdeal.nD Cert.AttnTwoReferenceIdeal.τ).loc Cert.AttnTwoReferenceIdeal.main_arg1) = m' ((c.tc : Thread Cert.AttnTwoReferenceIdeal.nD Cert.AttnTwoReferenceIdeal.τ).loc Cert.AttnTwoReferenceIdeal.main_arg1)
          ∧ r.2.mem ((c.tc : Thread Cert.AttnTwoReferenceIdeal.nD Cert.AttnTwoReferenceIdeal.τ).loc Cert.AttnTwoReferenceIdeal.main_arg2) = m' ((c.tc : Thread Cert.AttnTwoReferenceIdeal.nD Cert.AttnTwoReferenceIdeal.τ).loc Cert.AttnTwoReferenceIdeal.main_arg2)
          ∧ r.2.mem ((c.tc : Thread Cert.AttnTwoReferenceIdeal.nD Cert.AttnTwoReferenceIdeal.τ).loc Cert.AttnTwoReferenceIdeal.main_arg3) = m' ((c.tc : Thread Cert.AttnTwoReferenceIdeal.nD Cert.AttnTwoReferenceIdeal.τ).loc Cert.AttnTwoReferenceIdeal.main_arg3)
          ∧ r.2.mem ((c.tc : Thread Cert.AttnTwoReferenceIdeal.nD Cert.AttnTwoReferenceIdeal.τ).loc Cert.AttnTwoReferenceIdeal.main_arg4) = m' ((c.tc : Thread Cert.AttnTwoReferenceIdeal.nD Cert.AttnTwoReferenceIdeal.τ).loc Cert.AttnTwoReferenceIdeal.main_arg4)
          ∧ r.2.mem ((c.tc : Thread Cert.AttnTwoReferenceIdeal.nD Cert.AttnTwoReferenceIdeal.τ).loc Cert.AttnTwoReferenceIdeal.main_arg5) = m' ((c.tc : Thread Cert.AttnTwoReferenceIdeal.nD Cert.AttnTwoReferenceIdeal.τ).loc Cert.AttnTwoReferenceIdeal.main_arg5)
          ∧ r.2.mem ((c.tc : Thread Cert.AttnTwoReferenceIdeal.nD Cert.AttnTwoReferenceIdeal.τ).loc Cert.AttnTwoReferenceIdeal.main_arg6) = m' ((c.tc : Thread Cert.AttnTwoReferenceIdeal.nD Cert.AttnTwoReferenceIdeal.τ).loc Cert.AttnTwoReferenceIdeal.main_arg6)
          ∧ r.2.mem ((c.tc : Thread Cert.AttnTwoReferenceIdeal.nD Cert.AttnTwoReferenceIdeal.τ).loc Cert.AttnTwoReferenceIdeal.main_arg7) = m' ((c.tc : Thread Cert.AttnTwoReferenceIdeal.nD Cert.AttnTwoReferenceIdeal.τ).loc Cert.AttnTwoReferenceIdeal.main_arg7))

def preserves_DownDepKernel_DownDepKernelIdeal : Prop :=
  True

def algebraic_DownDepKernelIdeal_DownDepReferenceIdeal [hDownDepKernelIdeal : Cert.DownDepKernelIdeal.Facts] [hDownDepReferenceIdeal : Cert.DownDepReferenceIdeal.Facts] : Prop :=
  ∀ (m : (ℓ : Loc Cert.DownDepKernelIdeal.nD Cert.DownDepKernelIdeal.τ Cert.DownDepKernelIdeal.sig) → Buf (Elt Ideal) ℓ) (g : Dev Cert.DownDepKernelIdeal.nD → PrngReg)
    (m' : (ℓ : Loc Cert.DownDepReferenceIdeal.nD Cert.DownDepReferenceIdeal.τ Cert.DownDepReferenceIdeal.sig) → Buf (Elt Ideal) ℓ) (g' : Dev Cert.DownDepReferenceIdeal.nD → PrngReg), Pre_DownDepKernelIdeal m →
    (∀ c : Dev Cert.DownDepKernelIdeal.nD,
      m' ((c.tc : Thread Cert.DownDepReferenceIdeal.nD Cert.DownDepReferenceIdeal.τ).loc Cert.DownDepReferenceIdeal.main_arg0) = m ((c.tc : Thread Cert.DownDepKernelIdeal.nD Cert.DownDepKernelIdeal.τ).loc Cert.DownDepKernelIdeal.main_arg0)
      ∧ m' ((c.tc : Thread Cert.DownDepReferenceIdeal.nD Cert.DownDepReferenceIdeal.τ).loc Cert.DownDepReferenceIdeal.main_arg1) = m ((c.tc : Thread Cert.DownDepKernelIdeal.nD Cert.DownDepKernelIdeal.τ).loc Cert.DownDepKernelIdeal.main_arg1)
      ∧ m' ((c.tc : Thread Cert.DownDepReferenceIdeal.nD Cert.DownDepReferenceIdeal.τ).loc Cert.DownDepReferenceIdeal.main_arg2) = m ((c.tc : Thread Cert.DownDepKernelIdeal.nD Cert.DownDepKernelIdeal.τ).loc Cert.DownDepKernelIdeal.main_arg2)) →
    ∃ (v0 : (c : Dev Cert.DownDepKernelIdeal.nD) → Buf (Elt Ideal) ((c.tc : Thread Cert.DownDepKernelIdeal.nD Cert.DownDepKernelIdeal.τ).loc Cert.DownDepKernelIdeal.main_v0)),
      θ_run (Cert.DownDepKernelIdeal.defs (F := Ideal)) (onTc (τ := Cert.DownDepKernelIdeal.τ) (Cert.DownDepKernelIdeal.main (F := Ideal))) ⟨m, fun _ => 0, g⟩ (fun r => ∀ c : Dev Cert.DownDepKernelIdeal.nD,
          r.2.mem ((c.tc : Thread Cert.DownDepKernelIdeal.nD Cert.DownDepKernelIdeal.τ).loc Cert.DownDepKernelIdeal.main_v0) = v0 c
          ∧ r.2.mem ((c.tc : Thread Cert.DownDepKernelIdeal.nD Cert.DownDepKernelIdeal.τ).loc Cert.DownDepKernelIdeal.main_arg0) = m ((c.tc : Thread Cert.DownDepKernelIdeal.nD Cert.DownDepKernelIdeal.τ).loc Cert.DownDepKernelIdeal.main_arg0)
          ∧ r.2.mem ((c.tc : Thread Cert.DownDepKernelIdeal.nD Cert.DownDepKernelIdeal.τ).loc Cert.DownDepKernelIdeal.main_arg1) = m ((c.tc : Thread Cert.DownDepKernelIdeal.nD Cert.DownDepKernelIdeal.τ).loc Cert.DownDepKernelIdeal.main_arg1)
          ∧ r.2.mem ((c.tc : Thread Cert.DownDepKernelIdeal.nD Cert.DownDepKernelIdeal.τ).loc Cert.DownDepKernelIdeal.main_arg2) = m ((c.tc : Thread Cert.DownDepKernelIdeal.nD Cert.DownDepKernelIdeal.τ).loc Cert.DownDepKernelIdeal.main_arg2))
      ∧ θ_run (Cert.DownDepReferenceIdeal.defs (F := Ideal)) (onTc (τ := Cert.DownDepReferenceIdeal.τ) (Cert.DownDepReferenceIdeal.main (F := Ideal))) ⟨m', fun _ => 0, g'⟩ (fun r => ∀ c : Dev Cert.DownDepReferenceIdeal.nD,
          r.2.mem ((c.tc : Thread Cert.DownDepReferenceIdeal.nD Cert.DownDepReferenceIdeal.τ).loc Cert.DownDepReferenceIdeal.main_v5) = v0 c
          ∧ r.2.mem ((c.tc : Thread Cert.DownDepReferenceIdeal.nD Cert.DownDepReferenceIdeal.τ).loc Cert.DownDepReferenceIdeal.main_arg0) = m' ((c.tc : Thread Cert.DownDepReferenceIdeal.nD Cert.DownDepReferenceIdeal.τ).loc Cert.DownDepReferenceIdeal.main_arg0)
          ∧ r.2.mem ((c.tc : Thread Cert.DownDepReferenceIdeal.nD Cert.DownDepReferenceIdeal.τ).loc Cert.DownDepReferenceIdeal.main_arg1) = m' ((c.tc : Thread Cert.DownDepReferenceIdeal.nD Cert.DownDepReferenceIdeal.τ).loc Cert.DownDepReferenceIdeal.main_arg1)
          ∧ r.2.mem ((c.tc : Thread Cert.DownDepReferenceIdeal.nD Cert.DownDepReferenceIdeal.τ).loc Cert.DownDepReferenceIdeal.main_arg2) = m' ((c.tc : Thread Cert.DownDepReferenceIdeal.nD Cert.DownDepReferenceIdeal.τ).loc Cert.DownDepReferenceIdeal.main_arg2))

def preserves_AOutDepKernel_AOutDepKernelIdeal : Prop :=
  True

def algebraic_AOutDepKernelIdeal_AOutDepReferenceIdeal [hAOutDepKernelIdeal : Cert.AOutDepKernelIdeal.Facts] [hAOutDepReferenceIdeal : Cert.AOutDepReferenceIdeal.Facts] : Prop :=
  ∀ (m : (ℓ : Loc Cert.AOutDepKernelIdeal.nD Cert.AOutDepKernelIdeal.τ Cert.AOutDepKernelIdeal.sig) → Buf (Elt Ideal) ℓ) (g : Dev Cert.AOutDepKernelIdeal.nD → PrngReg)
    (m' : (ℓ : Loc Cert.AOutDepReferenceIdeal.nD Cert.AOutDepReferenceIdeal.τ Cert.AOutDepReferenceIdeal.sig) → Buf (Elt Ideal) ℓ) (g' : Dev Cert.AOutDepReferenceIdeal.nD → PrngReg), Pre_AOutDepKernelIdeal m →
    (∀ c : Dev Cert.AOutDepKernelIdeal.nD,
      m' ((c.tc : Thread Cert.AOutDepReferenceIdeal.nD Cert.AOutDepReferenceIdeal.τ).loc Cert.AOutDepReferenceIdeal.main_arg0) = m ((c.tc : Thread Cert.AOutDepKernelIdeal.nD Cert.AOutDepKernelIdeal.τ).loc Cert.AOutDepKernelIdeal.main_arg0)
      ∧ m' ((c.tc : Thread Cert.AOutDepReferenceIdeal.nD Cert.AOutDepReferenceIdeal.τ).loc Cert.AOutDepReferenceIdeal.main_arg1) = m ((c.tc : Thread Cert.AOutDepKernelIdeal.nD Cert.AOutDepKernelIdeal.τ).loc Cert.AOutDepKernelIdeal.main_arg1)
      ∧ m' ((c.tc : Thread Cert.AOutDepReferenceIdeal.nD Cert.AOutDepReferenceIdeal.τ).loc Cert.AOutDepReferenceIdeal.main_arg2) = m ((c.tc : Thread Cert.AOutDepKernelIdeal.nD Cert.AOutDepKernelIdeal.τ).loc Cert.AOutDepKernelIdeal.main_arg2)) →
    ∃ (v0 : (c : Dev Cert.AOutDepKernelIdeal.nD) → Buf (Elt Ideal) ((c.tc : Thread Cert.AOutDepKernelIdeal.nD Cert.AOutDepKernelIdeal.τ).loc Cert.AOutDepKernelIdeal.main_v0)),
      θ_run (Cert.AOutDepKernelIdeal.defs (F := Ideal)) (onTc (τ := Cert.AOutDepKernelIdeal.τ) (Cert.AOutDepKernelIdeal.main (F := Ideal))) ⟨m, fun _ => 0, g⟩ (fun r => ∀ c : Dev Cert.AOutDepKernelIdeal.nD,
          r.2.mem ((c.tc : Thread Cert.AOutDepKernelIdeal.nD Cert.AOutDepKernelIdeal.τ).loc Cert.AOutDepKernelIdeal.main_v0) = v0 c
          ∧ r.2.mem ((c.tc : Thread Cert.AOutDepKernelIdeal.nD Cert.AOutDepKernelIdeal.τ).loc Cert.AOutDepKernelIdeal.main_arg0) = m ((c.tc : Thread Cert.AOutDepKernelIdeal.nD Cert.AOutDepKernelIdeal.τ).loc Cert.AOutDepKernelIdeal.main_arg0)
          ∧ r.2.mem ((c.tc : Thread Cert.AOutDepKernelIdeal.nD Cert.AOutDepKernelIdeal.τ).loc Cert.AOutDepKernelIdeal.main_arg1) = m ((c.tc : Thread Cert.AOutDepKernelIdeal.nD Cert.AOutDepKernelIdeal.τ).loc Cert.AOutDepKernelIdeal.main_arg1)
          ∧ r.2.mem ((c.tc : Thread Cert.AOutDepKernelIdeal.nD Cert.AOutDepKernelIdeal.τ).loc Cert.AOutDepKernelIdeal.main_arg2) = m ((c.tc : Thread Cert.AOutDepKernelIdeal.nD Cert.AOutDepKernelIdeal.τ).loc Cert.AOutDepKernelIdeal.main_arg2))
      ∧ θ_run (Cert.AOutDepReferenceIdeal.defs (F := Ideal)) (onTc (τ := Cert.AOutDepReferenceIdeal.τ) (Cert.AOutDepReferenceIdeal.main (F := Ideal))) ⟨m', fun _ => 0, g'⟩ (fun r => ∀ c : Dev Cert.AOutDepReferenceIdeal.nD,
          r.2.mem ((c.tc : Thread Cert.AOutDepReferenceIdeal.nD Cert.AOutDepReferenceIdeal.τ).loc Cert.AOutDepReferenceIdeal.main_v4) = v0 c
          ∧ r.2.mem ((c.tc : Thread Cert.AOutDepReferenceIdeal.nD Cert.AOutDepReferenceIdeal.τ).loc Cert.AOutDepReferenceIdeal.main_arg0) = m' ((c.tc : Thread Cert.AOutDepReferenceIdeal.nD Cert.AOutDepReferenceIdeal.τ).loc Cert.AOutDepReferenceIdeal.main_arg0)
          ∧ r.2.mem ((c.tc : Thread Cert.AOutDepReferenceIdeal.nD Cert.AOutDepReferenceIdeal.τ).loc Cert.AOutDepReferenceIdeal.main_arg1) = m' ((c.tc : Thread Cert.AOutDepReferenceIdeal.nD Cert.AOutDepReferenceIdeal.τ).loc Cert.AOutDepReferenceIdeal.main_arg1)
          ∧ r.2.mem ((c.tc : Thread Cert.AOutDepReferenceIdeal.nD Cert.AOutDepReferenceIdeal.τ).loc Cert.AOutDepReferenceIdeal.main_arg2) = m' ((c.tc : Thread Cert.AOutDepReferenceIdeal.nD Cert.AOutDepReferenceIdeal.τ).loc Cert.AOutDepReferenceIdeal.main_arg2))

def preserves_BODepKernel_BODepKernelIdeal : Prop :=
  True

def algebraic_BODepKernelIdeal_BODepReferenceIdeal [hBODepKernelIdeal : Cert.BODepKernelIdeal.Facts] [hBODepReferenceIdeal : Cert.BODepReferenceIdeal.Facts] : Prop :=
  ∀ (m : (ℓ : Loc Cert.BODepKernelIdeal.nD Cert.BODepKernelIdeal.τ Cert.BODepKernelIdeal.sig) → Buf (Elt Ideal) ℓ) (g : Dev Cert.BODepKernelIdeal.nD → PrngReg)
    (m' : (ℓ : Loc Cert.BODepReferenceIdeal.nD Cert.BODepReferenceIdeal.τ Cert.BODepReferenceIdeal.sig) → Buf (Elt Ideal) ℓ) (g' : Dev Cert.BODepReferenceIdeal.nD → PrngReg), Pre_BODepKernelIdeal m →
    (∀ c : Dev Cert.BODepKernelIdeal.nD,
      m' ((c.tc : Thread Cert.BODepReferenceIdeal.nD Cert.BODepReferenceIdeal.τ).loc Cert.BODepReferenceIdeal.main_arg0) = m ((c.tc : Thread Cert.BODepKernelIdeal.nD Cert.BODepKernelIdeal.τ).loc Cert.BODepKernelIdeal.main_arg0)
      ∧ m' ((c.tc : Thread Cert.BODepReferenceIdeal.nD Cert.BODepReferenceIdeal.τ).loc Cert.BODepReferenceIdeal.main_arg1) = m ((c.tc : Thread Cert.BODepKernelIdeal.nD Cert.BODepKernelIdeal.τ).loc Cert.BODepKernelIdeal.main_arg1)
      ∧ m' ((c.tc : Thread Cert.BODepReferenceIdeal.nD Cert.BODepReferenceIdeal.τ).loc Cert.BODepReferenceIdeal.main_arg2) = m ((c.tc : Thread Cert.BODepKernelIdeal.nD Cert.BODepKernelIdeal.τ).loc Cert.BODepKernelIdeal.main_arg2)) →
    ∃ (v0 : (c : Dev Cert.BODepKernelIdeal.nD) → Buf (Elt Ideal) ((c.tc : Thread Cert.BODepKernelIdeal.nD Cert.BODepKernelIdeal.τ).loc Cert.BODepKernelIdeal.main_v0)),
      θ_run (Cert.BODepKernelIdeal.defs (F := Ideal)) (onTc (τ := Cert.BODepKernelIdeal.τ) (Cert.BODepKernelIdeal.main (F := Ideal))) ⟨m, fun _ => 0, g⟩ (fun r => ∀ c : Dev Cert.BODepKernelIdeal.nD,
          r.2.mem ((c.tc : Thread Cert.BODepKernelIdeal.nD Cert.BODepKernelIdeal.τ).loc Cert.BODepKernelIdeal.main_v0) = v0 c
          ∧ r.2.mem ((c.tc : Thread Cert.BODepKernelIdeal.nD Cert.BODepKernelIdeal.τ).loc Cert.BODepKernelIdeal.main_arg0) = m ((c.tc : Thread Cert.BODepKernelIdeal.nD Cert.BODepKernelIdeal.τ).loc Cert.BODepKernelIdeal.main_arg0)
          ∧ r.2.mem ((c.tc : Thread Cert.BODepKernelIdeal.nD Cert.BODepKernelIdeal.τ).loc Cert.BODepKernelIdeal.main_arg1) = m ((c.tc : Thread Cert.BODepKernelIdeal.nD Cert.BODepKernelIdeal.τ).loc Cert.BODepKernelIdeal.main_arg1)
          ∧ r.2.mem ((c.tc : Thread Cert.BODepKernelIdeal.nD Cert.BODepKernelIdeal.τ).loc Cert.BODepKernelIdeal.main_arg2) = m ((c.tc : Thread Cert.BODepKernelIdeal.nD Cert.BODepKernelIdeal.τ).loc Cert.BODepKernelIdeal.main_arg2))
      ∧ θ_run (Cert.BODepReferenceIdeal.defs (F := Ideal)) (onTc (τ := Cert.BODepReferenceIdeal.τ) (Cert.BODepReferenceIdeal.main (F := Ideal))) ⟨m', fun _ => 0, g'⟩ (fun r => ∀ c : Dev Cert.BODepReferenceIdeal.nD,
          r.2.mem ((c.tc : Thread Cert.BODepReferenceIdeal.nD Cert.BODepReferenceIdeal.τ).loc Cert.BODepReferenceIdeal.main_v5) = v0 c
          ∧ r.2.mem ((c.tc : Thread Cert.BODepReferenceIdeal.nD Cert.BODepReferenceIdeal.τ).loc Cert.BODepReferenceIdeal.main_arg0) = m' ((c.tc : Thread Cert.BODepReferenceIdeal.nD Cert.BODepReferenceIdeal.τ).loc Cert.BODepReferenceIdeal.main_arg0)
          ∧ r.2.mem ((c.tc : Thread Cert.BODepReferenceIdeal.nD Cert.BODepReferenceIdeal.τ).loc Cert.BODepReferenceIdeal.main_arg1) = m' ((c.tc : Thread Cert.BODepReferenceIdeal.nD Cert.BODepReferenceIdeal.τ).loc Cert.BODepReferenceIdeal.main_arg1)
          ∧ r.2.mem ((c.tc : Thread Cert.BODepReferenceIdeal.nD Cert.BODepReferenceIdeal.τ).loc Cert.BODepReferenceIdeal.main_arg2) = m' ((c.tc : Thread Cert.BODepReferenceIdeal.nD Cert.BODepReferenceIdeal.τ).loc Cert.BODepReferenceIdeal.main_arg2))

def Claim : Prop :=
  ∃ (hGateKernel : Cert.GateKernel.Facts) (hGateKernelIdeal : Cert.GateKernelIdeal.Facts) (hGateReferenceIdeal : Cert.GateReferenceIdeal.Facts) (hKernel : Cert.Kernel.Facts) (hKernelIdeal : Cert.KernelIdeal.Facts) (hReferenceIdeal : Cert.ReferenceIdeal.Facts) (hDownDxKernel : Cert.DownDxKernel.Facts) (hDownDxKernelIdeal : Cert.DownDxKernelIdeal.Facts) (hDownDxReferenceIdeal : Cert.DownDxReferenceIdeal.Facts) (hDownDwKernel : Cert.DownDwKernel.Facts) (hDownDwKernelIdeal : Cert.DownDwKernelIdeal.Facts) (hDownDwReferenceIdeal : Cert.DownDwReferenceIdeal.Facts) (hGuDxKernel : Cert.GuDxKernel.Facts) (hGuDxKernelIdeal : Cert.GuDxKernelIdeal.Facts) (hGuDxReferenceIdeal : Cert.GuDxReferenceIdeal.Facts) (hGuDwKernel : Cert.GuDwKernel.Facts) (hGuDwKernelIdeal : Cert.GuDwKernelIdeal.Facts) (hGuDwReferenceIdeal : Cert.GuDwReferenceIdeal.Facts) (hAOutDxKernel : Cert.AOutDxKernel.Facts) (hAOutDxKernelIdeal : Cert.AOutDxKernelIdeal.Facts) (hAOutDxReferenceIdeal : Cert.AOutDxReferenceIdeal.Facts) (hAOutDwKernel : Cert.AOutDwKernel.Facts) (hAOutDwKernelIdeal : Cert.AOutDwKernelIdeal.Facts) (hAOutDwReferenceIdeal : Cert.AOutDwReferenceIdeal.Facts) (hAInDxKernel : Cert.AInDxKernel.Facts) (hAInDxKernelIdeal : Cert.AInDxKernelIdeal.Facts) (hAInDxReferenceIdeal : Cert.AInDxReferenceIdeal.Facts) (hAInDwKernel : Cert.AInDwKernel.Facts) (hAInDwKernelIdeal : Cert.AInDwKernelIdeal.Facts) (hAInDwReferenceIdeal : Cert.AInDwReferenceIdeal.Facts) (hBODxKernel : Cert.BODxKernel.Facts) (hBODxKernelIdeal : Cert.BODxKernelIdeal.Facts) (hBODxReferenceIdeal : Cert.BODxReferenceIdeal.Facts) (hBODwKernel : Cert.BODwKernel.Facts) (hBODwKernelIdeal : Cert.BODwKernelIdeal.Facts) (hBODwReferenceIdeal : Cert.BODwReferenceIdeal.Facts) (hKvDxKernel : Cert.KvDxKernel.Facts) (hKvDxKernelIdeal : Cert.KvDxKernelIdeal.Facts) (hKvDxReferenceIdeal : Cert.KvDxReferenceIdeal.Facts) (hKvDwKernel : Cert.KvDwKernel.Facts) (hKvDwKernelIdeal : Cert.KvDwKernelIdeal.Facts) (hKvDwReferenceIdeal : Cert.KvDwReferenceIdeal.Facts) (hGuKernel : Cert.GuKernel.Facts) (hGuKernelIdeal : Cert.GuKernelIdeal.Facts) (hGuReferenceIdeal : Cert.GuReferenceIdeal.Facts) (hDownKernel : Cert.DownKernel.Facts) (hDownKernelIdeal : Cert.DownKernelIdeal.Facts) (hDownReferenceIdeal : Cert.DownReferenceIdeal.Facts) (hAInKernel : Cert.AInKernel.Facts) (hAInKernelIdeal : Cert.AInKernelIdeal.Facts) (hAInReferenceIdeal : Cert.AInReferenceIdeal.Facts) (hAOutKernel : Cert.AOutKernel.Facts) (hAOutKernelIdeal : Cert.AOutKernelIdeal.Facts) (hAOutReferenceIdeal : Cert.AOutReferenceIdeal.Facts) (hKvKernel : Cert.KvKernel.Facts) (hKvKernelIdeal : Cert.KvKernelIdeal.Facts) (hKvReferenceIdeal : Cert.KvReferenceIdeal.Facts) (hBQKernel : Cert.BQKernel.Facts) (hBQKernelIdeal : Cert.BQKernelIdeal.Facts) (hBQReferenceIdeal : Cert.BQReferenceIdeal.Facts) (hBOKernel : Cert.BOKernel.Facts) (hBOKernelIdeal : Cert.BOKernelIdeal.Facts) (hBOReferenceIdeal : Cert.BOReferenceIdeal.Facts) (hAttnTwoKernel : Cert.AttnTwoKernel.Facts) (hAttnTwoKernelIdeal : Cert.AttnTwoKernelIdeal.Facts) (hAttnTwoReferenceIdeal : Cert.AttnTwoReferenceIdeal.Facts) (hDownDepKernel : Cert.DownDepKernel.Facts) (hDownDepKernelIdeal : Cert.DownDepKernelIdeal.Facts) (hDownDepReferenceIdeal : Cert.DownDepReferenceIdeal.Facts) (hAOutDepKernel : Cert.AOutDepKernel.Facts) (hAOutDepKernelIdeal : Cert.AOutDepKernelIdeal.Facts) (hAOutDepReferenceIdeal : Cert.AOutDepReferenceIdeal.Facts) (hBODepKernel : Cert.BODepKernel.Facts) (hBODepKernelIdeal : Cert.BODepKernelIdeal.Facts) (hBODepReferenceIdeal : Cert.BODepReferenceIdeal.Facts) (hPre_finite : Cert.Pre_finite.Facts) (hPre_finite_two : Cert.Pre_finite_two.Facts),
    quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDxKernel (hDownDxKernel := hDownDxKernel)
    ∧ quiescent_DownDxKernelIdeal (hDownDxKernelIdeal := hDownDxKernelIdeal)
    ∧ quiescent_DownDxReferenceIdeal (hDownDxReferenceIdeal := hDownDxReferenceIdeal)
    ∧ quiescent_DownDwKernel (hDownDwKernel := hDownDwKernel)
    ∧ quiescent_DownDwKernelIdeal (hDownDwKernelIdeal := hDownDwKernelIdeal)
    ∧ quiescent_DownDwReferenceIdeal (hDownDwReferenceIdeal := hDownDwReferenceIdeal)
    ∧ quiescent_GuDxKernel (hGuDxKernel := hGuDxKernel)
    ∧ quiescent_GuDxKernelIdeal (hGuDxKernelIdeal := hGuDxKernelIdeal)
    ∧ quiescent_GuDxReferenceIdeal (hGuDxReferenceIdeal := hGuDxReferenceIdeal)
    ∧ quiescent_GuDwKernel (hGuDwKernel := hGuDwKernel)
    ∧ quiescent_GuDwKernelIdeal (hGuDwKernelIdeal := hGuDwKernelIdeal)
    ∧ quiescent_GuDwReferenceIdeal (hGuDwReferenceIdeal := hGuDwReferenceIdeal)
    ∧ quiescent_AOutDxKernel (hAOutDxKernel := hAOutDxKernel)
    ∧ quiescent_AOutDxKernelIdeal (hAOutDxKernelIdeal := hAOutDxKernelIdeal)
    ∧ quiescent_AOutDxReferenceIdeal (hAOutDxReferenceIdeal := hAOutDxReferenceIdeal)
    ∧ quiescent_AOutDwKernel (hAOutDwKernel := hAOutDwKernel)
    ∧ quiescent_AOutDwKernelIdeal (hAOutDwKernelIdeal := hAOutDwKernelIdeal)
    ∧ quiescent_AOutDwReferenceIdeal (hAOutDwReferenceIdeal := hAOutDwReferenceIdeal)
    ∧ quiescent_AInDxKernel (hAInDxKernel := hAInDxKernel)
    ∧ quiescent_AInDxKernelIdeal (hAInDxKernelIdeal := hAInDxKernelIdeal)
    ∧ quiescent_AInDxReferenceIdeal (hAInDxReferenceIdeal := hAInDxReferenceIdeal)
    ∧ quiescent_AInDwKernel (hAInDwKernel := hAInDwKernel)
    ∧ quiescent_AInDwKernelIdeal (hAInDwKernelIdeal := hAInDwKernelIdeal)
    ∧ quiescent_AInDwReferenceIdeal (hAInDwReferenceIdeal := hAInDwReferenceIdeal)
    ∧ quiescent_BODxKernel (hBODxKernel := hBODxKernel)
    ∧ quiescent_BODxKernelIdeal (hBODxKernelIdeal := hBODxKernelIdeal)
    ∧ quiescent_BODxReferenceIdeal (hBODxReferenceIdeal := hBODxReferenceIdeal)
    ∧ quiescent_BODwKernel (hBODwKernel := hBODwKernel)
    ∧ quiescent_BODwKernelIdeal (hBODwKernelIdeal := hBODwKernelIdeal)
    ∧ quiescent_BODwReferenceIdeal (hBODwReferenceIdeal := hBODwReferenceIdeal)
    ∧ quiescent_KvDxKernel (hKvDxKernel := hKvDxKernel)
    ∧ quiescent_KvDxKernelIdeal (hKvDxKernelIdeal := hKvDxKernelIdeal)
    ∧ quiescent_KvDxReferenceIdeal (hKvDxReferenceIdeal := hKvDxReferenceIdeal)
    ∧ quiescent_KvDwKernel (hKvDwKernel := hKvDwKernel)
    ∧ quiescent_KvDwKernelIdeal (hKvDwKernelIdeal := hKvDwKernelIdeal)
    ∧ quiescent_KvDwReferenceIdeal (hKvDwReferenceIdeal := hKvDwReferenceIdeal)
    ∧ quiescent_GuKernel (hGuKernel := hGuKernel)
    ∧ quiescent_GuKernelIdeal (hGuKernelIdeal := hGuKernelIdeal)
    ∧ quiescent_GuReferenceIdeal (hGuReferenceIdeal := hGuReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_AInKernel (hAInKernel := hAInKernel)
    ∧ quiescent_AInKernelIdeal (hAInKernelIdeal := hAInKernelIdeal)
    ∧ quiescent_AInReferenceIdeal (hAInReferenceIdeal := hAInReferenceIdeal)
    ∧ quiescent_AOutKernel (hAOutKernel := hAOutKernel)
    ∧ quiescent_AOutKernelIdeal (hAOutKernelIdeal := hAOutKernelIdeal)
    ∧ quiescent_AOutReferenceIdeal (hAOutReferenceIdeal := hAOutReferenceIdeal)
    ∧ quiescent_KvKernel (hKvKernel := hKvKernel)
    ∧ quiescent_KvKernelIdeal (hKvKernelIdeal := hKvKernelIdeal)
    ∧ quiescent_KvReferenceIdeal (hKvReferenceIdeal := hKvReferenceIdeal)
    ∧ quiescent_BQKernel (hBQKernel := hBQKernel)
    ∧ quiescent_BQKernelIdeal (hBQKernelIdeal := hBQKernelIdeal)
    ∧ quiescent_BQReferenceIdeal (hBQReferenceIdeal := hBQReferenceIdeal)
    ∧ quiescent_BOKernel (hBOKernel := hBOKernel)
    ∧ quiescent_BOKernelIdeal (hBOKernelIdeal := hBOKernelIdeal)
    ∧ quiescent_BOReferenceIdeal (hBOReferenceIdeal := hBOReferenceIdeal)
    ∧ quiescent_AttnTwoKernel (hAttnTwoKernel := hAttnTwoKernel)
    ∧ quiescent_AttnTwoKernelIdeal (hAttnTwoKernelIdeal := hAttnTwoKernelIdeal)
    ∧ quiescent_AttnTwoKernelIdeal_pre_finite_two (hAttnTwoKernelIdeal := hAttnTwoKernelIdeal) (hPre_finite_two := hPre_finite_two)
    ∧ quiescent_AttnTwoReferenceIdeal (hAttnTwoReferenceIdeal := hAttnTwoReferenceIdeal)
    ∧ quiescent_AttnTwoReferenceIdeal_pre_finite_two (hAttnTwoReferenceIdeal := hAttnTwoReferenceIdeal) (hPre_finite_two := hPre_finite_two)
    ∧ quiescent_DownDepKernel (hDownDepKernel := hDownDepKernel)
    ∧ quiescent_DownDepKernelIdeal (hDownDepKernelIdeal := hDownDepKernelIdeal)
    ∧ quiescent_DownDepReferenceIdeal (hDownDepReferenceIdeal := hDownDepReferenceIdeal)
    ∧ quiescent_AOutDepKernel (hAOutDepKernel := hAOutDepKernel)
    ∧ quiescent_AOutDepKernelIdeal (hAOutDepKernelIdeal := hAOutDepKernelIdeal)
    ∧ quiescent_AOutDepReferenceIdeal (hAOutDepReferenceIdeal := hAOutDepReferenceIdeal)
    ∧ quiescent_BODepKernel (hBODepKernel := hBODepKernel)
    ∧ quiescent_BODepKernelIdeal (hBODepKernelIdeal := hBODepKernelIdeal)
    ∧ quiescent_BODepReferenceIdeal (hBODepReferenceIdeal := hBODepReferenceIdeal)
    ∧ preserves_GateKernel_GateKernelIdeal
    ∧ algebraic_GateKernelIdeal_GateReferenceIdeal (hGateKernelIdeal := hGateKernelIdeal) (hGateReferenceIdeal := hGateReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDxKernel_DownDxKernelIdeal
    ∧ algebraic_DownDxKernelIdeal_DownDxReferenceIdeal (hDownDxKernelIdeal := hDownDxKernelIdeal) (hDownDxReferenceIdeal := hDownDxReferenceIdeal)
    ∧ preserves_DownDwKernel_DownDwKernelIdeal
    ∧ algebraic_DownDwKernelIdeal_DownDwReferenceIdeal (hDownDwKernelIdeal := hDownDwKernelIdeal) (hDownDwReferenceIdeal := hDownDwReferenceIdeal)
    ∧ preserves_GuDxKernel_GuDxKernelIdeal
    ∧ algebraic_GuDxKernelIdeal_GuDxReferenceIdeal (hGuDxKernelIdeal := hGuDxKernelIdeal) (hGuDxReferenceIdeal := hGuDxReferenceIdeal)
    ∧ preserves_GuDwKernel_GuDwKernelIdeal
    ∧ algebraic_GuDwKernelIdeal_GuDwReferenceIdeal (hGuDwKernelIdeal := hGuDwKernelIdeal) (hGuDwReferenceIdeal := hGuDwReferenceIdeal)
    ∧ preserves_AOutDxKernel_AOutDxKernelIdeal
    ∧ algebraic_AOutDxKernelIdeal_AOutDxReferenceIdeal (hAOutDxKernelIdeal := hAOutDxKernelIdeal) (hAOutDxReferenceIdeal := hAOutDxReferenceIdeal)
    ∧ preserves_AOutDwKernel_AOutDwKernelIdeal
    ∧ algebraic_AOutDwKernelIdeal_AOutDwReferenceIdeal (hAOutDwKernelIdeal := hAOutDwKernelIdeal) (hAOutDwReferenceIdeal := hAOutDwReferenceIdeal)
    ∧ preserves_AInDxKernel_AInDxKernelIdeal
    ∧ algebraic_AInDxKernelIdeal_AInDxReferenceIdeal (hAInDxKernelIdeal := hAInDxKernelIdeal) (hAInDxReferenceIdeal := hAInDxReferenceIdeal)
    ∧ preserves_AInDwKernel_AInDwKernelIdeal
    ∧ algebraic_AInDwKernelIdeal_AInDwReferenceIdeal (hAInDwKernelIdeal := hAInDwKernelIdeal) (hAInDwReferenceIdeal := hAInDwReferenceIdeal)
    ∧ preserves_BODxKernel_BODxKernelIdeal
    ∧ algebraic_BODxKernelIdeal_BODxReferenceIdeal (hBODxKernelIdeal := hBODxKernelIdeal) (hBODxReferenceIdeal := hBODxReferenceIdeal)
    ∧ preserves_BODwKernel_BODwKernelIdeal
    ∧ algebraic_BODwKernelIdeal_BODwReferenceIdeal (hBODwKernelIdeal := hBODwKernelIdeal) (hBODwReferenceIdeal := hBODwReferenceIdeal)
    ∧ preserves_KvDxKernel_KvDxKernelIdeal
    ∧ algebraic_KvDxKernelIdeal_KvDxReferenceIdeal (hKvDxKernelIdeal := hKvDxKernelIdeal) (hKvDxReferenceIdeal := hKvDxReferenceIdeal)
    ∧ preserves_KvDwKernel_KvDwKernelIdeal
    ∧ algebraic_KvDwKernelIdeal_KvDwReferenceIdeal (hKvDwKernelIdeal := hKvDwKernelIdeal) (hKvDwReferenceIdeal := hKvDwReferenceIdeal)
    ∧ preserves_GuKernel_GuKernelIdeal
    ∧ algebraic_GuKernelIdeal_GuReferenceIdeal (hGuKernelIdeal := hGuKernelIdeal) (hGuReferenceIdeal := hGuReferenceIdeal)
    ∧ preserves_DownKernel_DownKernelIdeal
    ∧ algebraic_DownKernelIdeal_DownReferenceIdeal (hDownKernelIdeal := hDownKernelIdeal) (hDownReferenceIdeal := hDownReferenceIdeal)
    ∧ preserves_AInKernel_AInKernelIdeal
    ∧ algebraic_AInKernelIdeal_AInReferenceIdeal (hAInKernelIdeal := hAInKernelIdeal) (hAInReferenceIdeal := hAInReferenceIdeal)
    ∧ preserves_AOutKernel_AOutKernelIdeal
    ∧ algebraic_AOutKernelIdeal_AOutReferenceIdeal (hAOutKernelIdeal := hAOutKernelIdeal) (hAOutReferenceIdeal := hAOutReferenceIdeal)
    ∧ preserves_KvKernel_KvKernelIdeal
    ∧ algebraic_KvKernelIdeal_KvReferenceIdeal (hKvKernelIdeal := hKvKernelIdeal) (hKvReferenceIdeal := hKvReferenceIdeal)
    ∧ preserves_BQKernel_BQKernelIdeal
    ∧ algebraic_BQKernelIdeal_BQReferenceIdeal (hBQKernelIdeal := hBQKernelIdeal) (hBQReferenceIdeal := hBQReferenceIdeal)
    ∧ preserves_BOKernel_BOKernelIdeal
    ∧ algebraic_BOKernelIdeal_BOReferenceIdeal (hBOKernelIdeal := hBOKernelIdeal) (hBOReferenceIdeal := hBOReferenceIdeal)
    ∧ preserves_AttnTwoKernel_AttnTwoKernelIdeal
    ∧ algebraic_AttnTwoKernelIdeal_AttnTwoReferenceIdeal_pre_finite_two (hAttnTwoKernelIdeal := hAttnTwoKernelIdeal) (hAttnTwoReferenceIdeal := hAttnTwoReferenceIdeal) (hPre_finite_two := hPre_finite_two)
    ∧ preserves_DownDepKernel_DownDepKernelIdeal
    ∧ algebraic_DownDepKernelIdeal_DownDepReferenceIdeal (hDownDepKernelIdeal := hDownDepKernelIdeal) (hDownDepReferenceIdeal := hDownDepReferenceIdeal)
    ∧ preserves_AOutDepKernel_AOutDepKernelIdeal
    ∧ algebraic_AOutDepKernelIdeal_AOutDepReferenceIdeal (hAOutDepKernelIdeal := hAOutDepKernelIdeal) (hAOutDepReferenceIdeal := hAOutDepReferenceIdeal)
    ∧ preserves_BODepKernel_BODepKernelIdeal
    ∧ algebraic_BODepKernelIdeal_BODepReferenceIdeal (hBODepKernelIdeal := hBODepKernelIdeal) (hBODepReferenceIdeal := hBODepReferenceIdeal)
-- ==== Pre_finite.lean ====
abbrev S4224x2048 : Shape := ⟨2, ![4224, 2048]⟩
abbrev S16x4224 : Shape := ⟨2, ![16, 4224]⟩
abbrev S4224x16 : Shape := ⟨2, ![4224, 16]⟩
abbrev S4224x8208 : Shape := ⟨2, ![4224, 8208]⟩
abbrev S_ : Shape := ⟨0, ![]⟩

class Facts : Prop where
  transposes_S16x4224_S4224x16_1_0 : S16x4224.Transposes [1, 0] S4224x16
  bitsLt_bf16_f32 : FTy.bits .bf16 < FTy.bits .f32
  concatenates_S4224x2048_S4224x2048_S4224x2048_S4224x2048_S4224x16_S4224x8208_d1 : Shape.Concatenates [S4224x2048, S4224x2048, S4224x2048, S4224x2048, S4224x16] S4224x8208 1
  bcast_S_S4224x8208 : S_.BroadcastsInDim S4224x8208 (![] : Fin 0 → Fin S4224x8208.rank)

variable [Facts]

def fn {F : FTy → Type} [FloatOps F] (main_arg0 : FVec F S4224x2048 .bf16) (main_arg1 : FVec F S4224x2048 .bf16) (main_arg2 : FVec F S4224x2048 .bf16) (main_arg3 : FVec F S16x4224 .f32) (main_arg4 : FVec F S4224x2048 .bf16) : IVec S4224x8208 1 :=
  let main_v0 : FVec F S4224x16 .f32 := (transpose S4224x16 [1, 0] · transposes_S16x4224_S4224x16_1_0) main_arg3
  let main_v1 : FVec F S4224x2048 .f32 := (extf .f32 · bitsLt_bf16_f32) main_arg0
  let main_v2 : FVec F S4224x2048 .f32 := (extf .f32 · bitsLt_bf16_f32) main_arg1
  let main_v3 : FVec F S4224x2048 .f32 := (extf .f32 · bitsLt_bf16_f32) main_arg2
  let main_v4 : FVec F S4224x2048 .f32 := (extf .f32 · bitsLt_bf16_f32) main_arg4
  let main_v5 : FVec F S4224x8208 .f32 := concatenate S4224x8208 1 [⟨S4224x2048, main_v1⟩, ⟨S4224x2048, main_v2⟩, ⟨S4224x2048, main_v3⟩, ⟨S4224x2048, main_v4⟩, ⟨S4224x16, main_v0⟩] concatenates_S4224x2048_S4224x2048_S4224x2048_S4224x2048_S4224x16_S4224x8208_d1
  let main_v6 : FVec F S4224x8208 .f32 := Host.absf main_v5
  let main_cst : FVec F S_ .f32 := constant S_ .f32 0x7F800000#32
  let main_v7 : FVec F S4224x8208 .f32 := broadcastInDim S4224x8208 ![] bcast_S_S4224x8208 main_cst
  let main_v8 : IVec S4224x8208 1 := cmpf .olt main_v6 main_v7
  main_v8
-- ==== Pre_finite_two.lean ====
abbrev S4224x2048 : Shape := ⟨2, ![4224, 2048]⟩
abbrev S16x4224 : Shape := ⟨2, ![16, 4224]⟩
abbrev S16x11x1x384 : Shape := ⟨4, ![16, 11, 1, 384]⟩
abbrev S4224x16 : Shape := ⟨2, ![4224, 16]⟩
abbrev S4224x8208 : Shape := ⟨2, ![4224, 8208]⟩
abbrev S_ : Shape := ⟨0, ![]⟩

class Facts : Prop where
  transposes_S16x4224_S4224x16_1_0 : S16x4224.Transposes [1, 0] S4224x16
  bitsLt_bf16_f32 : FTy.bits .bf16 < FTy.bits .f32
  concatenates_S4224x2048_S4224x2048_S4224x2048_S4224x2048_S4224x16_S4224x8208_d1 : Shape.Concatenates [S4224x2048, S4224x2048, S4224x2048, S4224x2048, S4224x16] S4224x8208 1
  bcast_S_S4224x8208 : S_.BroadcastsInDim S4224x8208 (![] : Fin 0 → Fin S4224x8208.rank)

variable [Facts]

def fn {F : FTy → Type} [FloatOps F] (main_arg0 : FVec F S4224x2048 .bf16) (main_arg1 : FVec F S4224x2048 .bf16) (main_arg2 : FVec F S4224x2048 .bf16) (main_arg3 : FVec F S16x4224 .f32) (main_arg4 : FVec F S4224x2048 .bf16) (main_arg5 : FVec F S4224x2048 .f32) (main_arg6 : FVec F S4224x2048 .f32) (main_arg7 : FVec F S16x11x1x384 .f32) : IVec S4224x8208 1 :=
  let main_v0 : FVec F S4224x16 .f32 := (transpose S4224x16 [1, 0] · transposes_S16x4224_S4224x16_1_0) main_arg3
  let main_v1 : FVec F S4224x2048 .f32 := (extf .f32 · bitsLt_bf16_f32) main_arg0
  let main_v2 : FVec F S4224x2048 .f32 := (extf .f32 · bitsLt_bf16_f32) main_arg1
  let main_v3 : FVec F S4224x2048 .f32 := (extf .f32 · bitsLt_bf16_f32) main_arg2
  let main_v4 : FVec F S4224x2048 .f32 := (extf .f32 · bitsLt_bf16_f32) main_arg4
  let main_v5 : FVec F S4224x8208 .f32 := concatenate S4224x8208 1 [⟨S4224x2048, main_v1⟩, ⟨S4224x2048, main_v2⟩, ⟨S4224x2048, main_v3⟩, ⟨S4224x2048, main_v4⟩, ⟨S4224x16, main_v0⟩] concatenates_S4224x2048_S4224x2048_S4224x2048_S4224x2048_S4224x16_S4224x8208_d1
  let main_v6 : FVec F S4224x8208 .f32 := Host.absf main_v5
  let main_cst : FVec F S_ .f32 := constant S_ .f32 0x7F800000#32
  let main_v7 : FVec F S4224x8208 .f32 := broadcastInDim S4224x8208 ![] bcast_S_S4224x8208 main_cst
  let main_v8 : IVec S4224x8208 1 := cmpf .olt main_v6 main_v7
  main_v8
-- ==== GateKernel.lean ====
abbrev S3x4224x2048 : Shape := ⟨3, ![3, 4224, 2048]⟩
abbrev S3x2048 : Shape := ⟨2, ![3, 2048]⟩
abbrev S4224x2048 : Shape := ⟨2, ![4224, 2048]⟩
abbrev S1x4224x128 : Shape := ⟨3, ![1, 4224, 128]⟩
abbrev S3x128 : Shape := ⟨2, ![3, 128]⟩
abbrev S4224x128 : Shape := ⟨2, ![4224, 128]⟩
abbrev S3x4224x128 : Shape := ⟨3, ![3, 4224, 128]⟩
abbrev S1x128 : Shape := ⟨2, ![1, 128]⟩
abbrev S128 : Shape := ⟨1, ![128]⟩

abbrev nBuf : Space → Nat
  | .hbm => 5
  | .vmem => 14
  | .smem => 0
  | _ => 0

abbrev bufTy : (tb : Table) → Fin (tcTables nBuf tb) → BufTy
  | .hbm, ⟨0, _⟩ => ⟨S3x4224x2048, .bf16⟩
  | .hbm, ⟨1, _⟩ => ⟨S3x2048, .f32⟩
  | .hbm, ⟨2, _⟩ => ⟨S4224x2048, .f32⟩
  | .hbm, ⟨3, _⟩ => ⟨S3x4224x2048, .bf16⟩
  | .hbm, ⟨4, _⟩ => ⟨S3x2048, .f32⟩
  | .local _ .vmem, ⟨0, _⟩ => ⟨S1x4224x128, .bf16⟩
  | .local _ .vmem, ⟨1, _⟩ => ⟨S1x4224x128, .bf16⟩
  | .local _ .vmem, ⟨2, _⟩ => ⟨S1x4224x128, .bf16⟩
  | .local _ .vmem, ⟨3, _⟩ => ⟨S1x4224x128, .bf16⟩
  | .local _ .vmem, ⟨4, _⟩ => ⟨S1x4224x128, .bf16⟩
  | .local _ .vmem, ⟨5, _⟩ => ⟨S1x4224x128, .bf16⟩
  | .local _ .vmem, ⟨6, _⟩ => ⟨S3x128, .f32⟩
  | .local _ .vmem, ⟨7, _⟩ => ⟨S3x128, .f32⟩
  | .local _ .vmem, ⟨8, _⟩ => ⟨S4224x128, .f32⟩
  | .local _ .vmem, ⟨9, _⟩ => ⟨S4224x128, .f32⟩
  | .local _ .vmem, ⟨10, _⟩ => ⟨S3x4224x128, .bf16⟩
  | .local _ .vmem, ⟨11, _⟩ => ⟨S3x4224x128, .bf16⟩
  | .local _ .vmem, ⟨12, _⟩ => ⟨S3x128, .f32⟩
  | .local _ .vmem, ⟨13, _⟩ => ⟨S3x128, .f32⟩
  | _, _ => ⟨S3x4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x4224x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4224x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4224x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4224x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x4224x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateReferenceIdeal.lean ====
abbrev S3x4224x2048 : Shape := ⟨3, ![3, 4224, 2048]⟩
abbrev S3x2048 : Shape := ⟨2, ![3, 2048]⟩
abbrev S4224x2048 : Shape := ⟨2, ![4224, 2048]⟩
abbrev S1x4224x2048 : Shape := ⟨3, ![1, 4224, 2048]⟩
abbrev S_ : Shape := ⟨0, ![]⟩
abbrev S2x2048 : Shape := ⟨2, ![2, 2048]⟩
abbrev S4226x2048 : Shape := ⟨2, ![4226, 2048]⟩
abbrev S1x2048 : Shape := ⟨2, ![1, 2048]⟩
abbrev S2048 : Shape := ⟨1, ![2048]⟩

abbrev nBuf : Space → Nat
  | .hbm => 101
  | .vmem => 0
  | .smem => 0
  | _ => 0

abbrev bufTy : (tb : Table) → Fin (tcTables nBuf tb) → BufTy
  | .hbm, ⟨0, _⟩ => ⟨S3x4224x2048, .bf16⟩
  | .hbm, ⟨1, _⟩ => ⟨S3x2048, .f32⟩
  | .hbm, ⟨2, _⟩ => ⟨S4224x2048, .f32⟩
  | .hbm, ⟨3, _⟩ => ⟨S3x4224x2048, .f32⟩
  | .hbm, ⟨4, _⟩ => ⟨S1x4224x2048, .f32⟩
  | .hbm, ⟨5, _⟩ => ⟨S4224x2048, .f32⟩
  | .hbm, ⟨6, _⟩ => ⟨S1x4224x2048, .f32⟩
  | .hbm, ⟨7, _⟩ => ⟨S4224x2048, .f32⟩
  | .hbm, ⟨8, _⟩ => ⟨S1x4224x2048, .f32⟩
  | .hbm, ⟨9, _⟩ => ⟨S4224x2048, .f32⟩
  | .hbm, ⟨10, _⟩ => ⟨S_, .f32⟩
  | .hbm, ⟨11, _⟩ => ⟨S2x2048, .f32⟩
  | .hbm, ⟨12, _⟩ => ⟨S4224x2048, .f32⟩
  | .hbm, ⟨13, _⟩ => ⟨S4226x2048, .f32⟩
  | .hbm, ⟨14, _⟩ => ⟨S_, .f32⟩
  | .hbm, ⟨15, _⟩ => ⟨S2x2048, .f32⟩
  | .hbm, ⟨16, _⟩ => ⟨S4224x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S4224x2048, .f32⟩
  | .hbm, ⟨21, _⟩ => ⟨S4224x2048, .f32⟩
  | .hbm, ⟨22, _⟩ => ⟨S_, .f32⟩
  | .hbm, ⟨23, _⟩ => ⟨S4224x2048, .f32⟩
  | .hbm, ⟨24, _⟩ => ⟨S4224x2048, .f32⟩
  | .hbm, ⟨25, _⟩ => ⟨S4224x2048, .f32⟩
  | .hbm, ⟨26, _⟩ => ⟨S1x2048, .f32⟩
  | .hbm, ⟨27, _⟩ => ⟨S2048, .f32⟩
  | .hbm, ⟨28, _⟩ => ⟨S1x2048, .f32⟩
  | .hbm, ⟨29, _⟩ => ⟨S4224x2048, .f32⟩
  | .hbm, ⟨30, _⟩ => ⟨S4224x2048, .f32⟩
  | .hbm, ⟨31, _⟩ => ⟨S4224x2048, .f32⟩
  | .hbm, ⟨32, _⟩ => ⟨S4224x2048, .f32⟩
  | .hbm, ⟨33, _⟩ => ⟨S1x2048, .f32⟩
  | .hbm, ⟨34, _⟩ => ⟨S2048, .f32⟩
  | .hbm, ⟨35, _⟩ => ⟨S1x2048, .f32⟩
  | .hbm, ⟨36, _⟩ => ⟨S4224x2048, .f32⟩
  | .hbm, ⟨37, _⟩ => ⟨S4224x2048, .f32⟩
  | .hbm, ⟨38, _⟩ => ⟨S4224x2048, .f32⟩
  | .hbm, ⟨39, _⟩ => ⟨S4224x2048, .f32⟩
  | .hbm, ⟨40, _⟩ => ⟨S4224x2048, .f32⟩
  | .hbm, ⟨41, _⟩ => ⟨S4224x2048, .f32⟩
  | .hbm, ⟨42, _⟩ => ⟨S4224x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S4224x2048, .f32⟩
  | .hbm, ⟨47, _⟩ => ⟨S4224x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S_, .f32⟩
  | .hbm, ⟨52, _⟩ => ⟨S3x2048, .f32⟩
  | .hbm, ⟨53, _⟩ => ⟨S_, .f32⟩
  | .hbm, ⟨54, _⟩ => ⟨S4226x2048, .f32⟩
  | .hbm, ⟨55, _⟩ => ⟨S4224x2048, .f32⟩
  | .hbm, ⟨56, _⟩ => ⟨S_, .f32⟩
  | .hbm, ⟨57, _⟩ => ⟨S2048, .f32⟩
  | .hbm, ⟨58, _⟩ => ⟨S1x2048, .f32⟩
  | .hbm, ⟨59, _⟩ => ⟨S4224x2048, .f32⟩
  | .hbm, ⟨60, _⟩ => ⟨S4224x2048, .f32⟩
  | .hbm, ⟨61, _⟩ => ⟨S_, .f32⟩
  | .hbm, ⟨62, _⟩ => ⟨S2048, .f32⟩
  | .hbm, ⟨63, _⟩ => ⟨S1x2048, .f32⟩
  | .hbm, ⟨64, _⟩ => ⟨S_, .f32⟩
  | .hbm, ⟨65, _⟩ => ⟨S3x2048, .f32⟩
  | .hbm, ⟨66, _⟩ => ⟨S3x2048, .f32⟩
  | .hbm, ⟨67, _⟩ => ⟨S_, .f32⟩
  | .hbm, ⟨68, _⟩ => ⟨S4226x2048, .f32⟩
  | .hbm, ⟨69, _⟩ => ⟨S4226x2048, .f32⟩
  | .hbm, ⟨70, _⟩ => ⟨S4224x2048, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S4224x2048, .f32⟩
  | .hbm, ⟨75, _⟩ => ⟨S4224x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S_, .f32⟩
  | .hbm, ⟨80, _⟩ => ⟨S3x2048, .f32⟩
  | .hbm, ⟨81, _⟩ => ⟨S3x2048, .f32⟩
  | .hbm, ⟨82, _⟩ => ⟨S_, .f32⟩
  | .hbm, ⟨83, _⟩ => ⟨S4226x2048, .f32⟩
  | .hbm, ⟨84, _⟩ => ⟨S4226x2048, .f32⟩
  | .hbm, ⟨85, _⟩ => ⟨S2x2048, .f32⟩
  | .hbm, ⟨86, _⟩ => ⟨S4224x2048, .f32⟩
  | .hbm, ⟨87, _⟩ => ⟨S4224x2048, .f32⟩
  | .hbm, ⟨88, _⟩ => ⟨S4224x2048, .f32⟩
  | .hbm, ⟨89, _⟩ => ⟨S1x4224x2048, .f32⟩
  | .hbm, ⟨90, _⟩ => ⟨S_, .f32⟩
  | .hbm, ⟨91, _⟩ => ⟨S3x4224x2048, .f32⟩
  | .hbm, ⟨92, _⟩ => ⟨S1x4224x2048, .f32⟩
  | .hbm, ⟨93, _⟩ => ⟨S_, .f32⟩
  | .hbm, ⟨94, _⟩ => ⟨S3x4224x2048, .f32⟩
  | .hbm, ⟨95, _⟩ => ⟨S3x4224x2048, .f32⟩
  | .hbm, ⟨96, _⟩ => ⟨S1x4224x2048, .f32⟩
  | .hbm, ⟨97, _⟩ => ⟨S_, .f32⟩
  | .hbm, ⟨98, _⟩ => ⟨S3x4224x2048, .f32⟩
  | .hbm, ⟨99, _⟩ => ⟨S3x4224x2048, .f32⟩
  | .hbm, ⟨100, _⟩ => ⟨S3x4224x2048, .bf16⟩
  | _, _ => ⟨S3x4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_11 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_cst_13 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_14 : Ref sig .tc := ⟨.hbm, 90, rfl⟩
abbrev main_v72 : Ref sig .tc := ⟨.hbm, 91, rfl⟩
abbrev main_v73 : Ref sig .tc := ⟨.hbm, 92, rfl⟩
abbrev main_cst_15 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_16 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩

abbrev nD : Nat := 1
abbrev τ : Topo := Topo.v7x

variable {F : FTy → Type} [FloatOps F]
-- ==== Kernel.lean ====
abbrev S4224x2048 : Shape := ⟨2, ![4224, 2048]⟩
abbrev S16x4224 : Shape := ⟨2, ![16, 4224]⟩
abbrev S4112x2048 : Shape := ⟨2, ![4112, 2048]⟩
abbrev S4112x16x128 : Shape := ⟨3, ![4112, 16, 128]⟩
abbrev S4224x16x128 : Shape := ⟨3, ![4224, 16, 128]⟩
abbrev S16x4112x4224 : Shape := ⟨3, ![16, 4112, 4224]⟩
abbrev S_ : Shape := ⟨0, ![]⟩
abbrev S16x4112 : Shape := ⟨2, ![16, 4112]⟩
abbrev S16x4112x1 : Shape := ⟨3, ![16, 4112, 1]⟩
abbrev S16x1x4224 : Shape := ⟨3, ![16, 1, 4224]⟩
abbrev S4224 : Shape := ⟨1, ![4224]⟩
abbrev S1x4224 : Shape := ⟨2, ![1, 4224]⟩
abbrev S4112 : Shape := ⟨1, ![4112]⟩
abbrev S4112x1 : Shape := ⟨2, ![4112, 1]⟩
abbrev S4112x4224 : Shape := ⟨2, ![4112, 4224]⟩
abbrev S16x128x4112 : Shape := ⟨3, ![16, 128, 4112]⟩
abbrev S16x4224x1 : Shape := ⟨3, ![16, 4224, 1]⟩
abbrev S16x4224x128 : Shape := ⟨3, ![16, 4224, 128]⟩
abbrev S4224x16 : Shape := ⟨2, ![4224, 16]⟩
abbrev S4224x128 : Shape := ⟨2, ![4224, 128]⟩
abbrev S16x11x1x384 : Shape := ⟨4, ![16, 11, 1, 384]⟩
abbrev S384x128 : Shape := ⟨2, ![384, 128]⟩
abbrev S1x4224x128 : Shape := ⟨3, ![1, 4224, 128]⟩
abbrev S1x1x1x384 : Shape := ⟨4, ![1, 1, 1, 384]⟩
abbrev S1x384 : Shape := ⟨2, ![1, 384]⟩
abbrev S1x384x128 : Shape := ⟨3, ![1, 384, 128]⟩
abbrev S384x1 : Shape := ⟨2, ![384, 1]⟩
abbrev S384 : Shape := ⟨1, ![384]⟩
abbrev S384x384 : Shape := ⟨2, ![384, 384]⟩

abbrev nBuf : Space → Nat
  | .hbm => 77
  | .vmem => 23
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S4224x2048, .bf16⟩
  | .hbm, ⟨3, _⟩ => ⟨S16x4224, .f32⟩
  | .hbm, ⟨4, _⟩ => ⟨S4224x2048, .bf16⟩
  | .hbm, ⟨5, _⟩ => ⟨S4112x2048, .bf16⟩
  | .hbm, ⟨6, _⟩ => ⟨S4112x2048, .f32⟩
  | .hbm, ⟨7, _⟩ => ⟨S4112x16x128, .f32⟩
  | .hbm, ⟨8, _⟩ => ⟨S4224x2048, .f32⟩
  | .hbm, ⟨9, _⟩ => ⟨S4224x16x128, .f32⟩
  | .hbm, ⟨10, _⟩ => ⟨S16x4112x4224, .f32⟩
  | .hbm, ⟨11, _⟩ => ⟨S_, .f32⟩
  | .hbm, ⟨12, _⟩ => ⟨S16x4112x4224, .f32⟩
  | .hbm, ⟨13, _⟩ => ⟨S16x4112x4224, .f32⟩
  | .hbm, ⟨14, _⟩ => ⟨S16x4112, .f32⟩
  | .hbm, ⟨15, _⟩ => ⟨S16x4112x1, .f32⟩
  | .hbm, ⟨16, _⟩ => ⟨S16x1x4224, .f32⟩
  | .hbm, ⟨17, _⟩ => ⟨S16x4112x4224, .f32⟩
  | .hbm, ⟨18, _⟩ => ⟨S16x4112x4224, .f32⟩
  | .hbm, ⟨19, _⟩ => ⟨S16x4112x4224, .f32⟩
  | .hbm, ⟨20, _⟩ => ⟨S16x4112x4224, .f32⟩
  | .hbm, ⟨21, _⟩ => ⟨S4224, .i32⟩
  | .hbm, ⟨22, _⟩ => ⟨S1x4224, .i32⟩
  | .hbm, ⟨23, _⟩ => ⟨S4112, .i32⟩
  | .hbm, ⟨24, _⟩ => ⟨S4112x1, .i32⟩
  | .hbm, ⟨25, _⟩ => ⟨S_, .i32⟩
  | .hbm, ⟨26, _⟩ => ⟨S4112x1, .i32⟩
  | .hbm, ⟨27, _⟩ => ⟨S4112x1, .i32⟩
  | .hbm, ⟨28, _⟩ => ⟨S4112x4224, .i32⟩
  | .hbm, ⟨29, _⟩ => ⟨S4112x4224, .i32⟩
  | .hbm, ⟨30, _⟩ => ⟨S4112x4224, .i1⟩
  | .hbm, ⟨31, _⟩ => ⟨S4224, .i32⟩
  | .hbm, ⟨32, _⟩ => ⟨S1x4224, .i32⟩
  | .hbm, ⟨33, _⟩ => ⟨S_, .i32⟩
  | .hbm, ⟨34, _⟩ => ⟨S1x4224, .i32⟩
  | .hbm, ⟨35, _⟩ => ⟨S1x4224, .i1⟩
  | .hbm, ⟨36, _⟩ => ⟨S4112x4224, .i1⟩
  | .hbm, ⟨37, _⟩ => ⟨S4112x4224, .i1⟩
  | .hbm, ⟨38, _⟩ => ⟨S_, .f32⟩
  | .hbm, ⟨39, _⟩ => ⟨S_, .f32⟩
  | .hbm, ⟨40, _⟩ => ⟨S16x4112x4224, .i1⟩
  | .hbm, ⟨41, _⟩ => ⟨S16x4112x4224, .f32⟩
  | .hbm, ⟨42, _⟩ => ⟨S16x4112x4224, .f32⟩
  | .hbm, ⟨43, _⟩ => ⟨S_, .f32⟩
  | .hbm, ⟨44, _⟩ => ⟨S16x4112, .f32⟩
  | .hbm, ⟨45, _⟩ => ⟨S16x4112x1, .f32⟩
  | .hbm, ⟨46, _⟩ => ⟨S16x4112x4224, .f32⟩
  | .hbm, ⟨47, _⟩ => ⟨S16x4112x4224, .f32⟩
  | .hbm, ⟨48, _⟩ => ⟨S16x4112x4224, .f32⟩
  | .hbm, ⟨49, _⟩ => ⟨S_, .f32⟩
  | .hbm, ⟨50, _⟩ => ⟨S16x4112, .f32⟩
  | .hbm, ⟨51, _⟩ => ⟨S16x4112x1, .f32⟩
  | .hbm, ⟨52, _⟩ => ⟨S16x4112x4224, .f32⟩
  | .hbm, ⟨53, _⟩ => ⟨S16x4112x4224, .f32⟩
  | .hbm, ⟨54, _⟩ => ⟨S4224x2048, .f32⟩
  | .hbm, ⟨55, _⟩ => ⟨S4224x16x128, .f32⟩
  | .hbm, ⟨56, _⟩ => ⟨S16x128x4112, .f32⟩
  | .hbm, ⟨57, _⟩ => ⟨S4112x16x128, .f32⟩
  | .hbm, ⟨58, _⟩ => ⟨S4112x2048, .f32⟩
  | .hbm, ⟨59, _⟩ => ⟨S_, .i32⟩
  | .hbm, ⟨60, _⟩ => ⟨S_, .f32⟩
  | .hbm, ⟨61, _⟩ => ⟨S4224x2048, .f32⟩
  | .hbm, ⟨62, _⟩ => ⟨S16x4112x1, .f32⟩
  | .hbm, ⟨63, _⟩ => ⟨S16x4112x1, .f32⟩
  | .hbm, ⟨64, _⟩ => ⟨S_, .i32⟩
  | .hbm, ⟨65, _⟩ => ⟨S_, .f32⟩
  | .hbm, ⟨66, _⟩ => ⟨S16x4224x1, .f32⟩
  | .hbm, ⟨67, _⟩ => ⟨S16x4224x128, .f32⟩
  | .hbm, ⟨68, _⟩ => ⟨S4224x16, .f32⟩
  | .hbm, ⟨69, _⟩ => ⟨S_, .i32⟩
  | .hbm, ⟨70, _⟩ => ⟨S_, .f32⟩
  | .hbm, ⟨71, _⟩ => ⟨S4224x128, .f32⟩
  | .hbm, ⟨72, _⟩ => ⟨S16x11x1x384, .f32⟩
  | .hbm, ⟨73, _⟩ => ⟨S4224x2048, .f32⟩
  | .hbm, ⟨74, _⟩ => ⟨S4224x2048, .f32⟩
  | .hbm, ⟨75, _⟩ => ⟨S4224x2048, .f32⟩
  | .hbm, ⟨76, _⟩ => ⟨S16x11x1x384, .f32⟩
  | .local _ .vmem, ⟨0, _⟩ => ⟨S4224x128, .bf16⟩
  | .local _ .vmem, ⟨1, _⟩ => ⟨S4224x128, .bf16⟩
  | .local _ .vmem, ⟨2, _⟩ => ⟨S384x128, .bf16⟩
  | .local _ .vmem, ⟨3, _⟩ => ⟨S384x128, .bf16⟩
  | .local _ .vmem, ⟨4, _⟩ => ⟨S384x128, .bf16⟩
  | .local _ .vmem, ⟨5, _⟩ => ⟨S384x128, .bf16⟩
  | .local _ .vmem, ⟨6, _⟩ => ⟨S4224x128, .f32⟩
  | .local _ .vmem, ⟨7, _⟩ => ⟨S4224x128, .f32⟩
  | .local _ .vmem, ⟨8, _⟩ => ⟨S4224x128, .bf16⟩
  | .local _ .vmem, ⟨9, _⟩ => ⟨S4224x128, .bf16⟩
  | .local _ .vmem, ⟨10, _⟩ => ⟨S1x4224x128, .f32⟩
  | .local _ .vmem, ⟨11, _⟩ => ⟨S1x4224x128, .f32⟩
  | .local _ .vmem, ⟨12, _⟩ => ⟨S4224x128, .f32⟩
  | .local _ .vmem, ⟨13, _⟩ => ⟨S1x1x1x384, .f32⟩
  | .local _ .vmem, ⟨14, _⟩ => ⟨S1x1x1x384, .f32⟩
  | .local _ .vmem, ⟨15, _⟩ => ⟨S4224x128, .f32⟩
  | .local _ .vmem, ⟨16, _⟩ => ⟨S4224x128, .f32⟩
  | .local _ .vmem, ⟨17, _⟩ => ⟨S384x128, .f32⟩
  | .local _ .vmem, ⟨18, _⟩ => ⟨S384x128, .f32⟩
  | .local _ .vmem, ⟨19, _⟩ => ⟨S384x128, .f32⟩
  | .local _ .vmem, ⟨20, _⟩ => ⟨S384x128, .f32⟩
  | .local _ .vmem, ⟨21, _⟩ => ⟨S1x1x1x384, .f32⟩
  | .local _ .vmem, ⟨22, _⟩ => ⟨S1x1x1x384, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_0 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_4 : Ref sig .tc := ⟨.hbm, 59, rfl⟩
abbrev main_call1_v0 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_5 : Ref sig .tc := ⟨.hbm, 64, rfl⟩
abbrev main_call2_v0 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_6 : Ref sig .tc := ⟨.hbm, 69, rfl⟩
abbrev main_call3_v0 : Ref sig .tc := ⟨.hbm, 70, rfl⟩
abbrev main_v51 : Ref sig .tc := ⟨.hbm, 71, rfl⟩
abbrev main_v52 : Ref sig .tc := ⟨.hbm, 72, rfl⟩
abbrev main_v53_0 : Ref sig .tc := ⟨.hbm, 73, rfl⟩
abbrev main_v53_1 : Ref sig .tc := ⟨.hbm, 74, rfl⟩
abbrev main_v53_2 : Ref sig .tc := ⟨.hbm, 75, rfl⟩
abbrev main_v53_3 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![16, 11], ![false, false]⟩

def k0_mult1 (i : grid0.Coords) : BitVec 32 :=
  let arg1 : BitVec 32 := BitVec.ofNat 32 (i 1).val
  let c384_i32 : BitVec 32 := 384#32
  let v10 : BitVec 32 := Scalar.muli arg1 c384_i32
  v10
def k0_off1 (i : grid0.Coords) : Fin 2 → Nat :=
  let arg1 : BitVec 32 := BitVec.ofNat 32 (i 1).val
  let c384_i32 : BitVec 32 := 384#32
  let v10 : BitVec 32 := Scalar.muli arg1 c384_i32
  let v11 : BitVec 32 := v10
  let v12 : Index := Scalar.indexCast v11
  let c0_10 : Index := 0#32
  ![v12.toNat, 0]
def k0_off2 (i : grid0.Coords) : Fin 3 → Nat :=
  let c0_12 : Index := 0#32
  let arg1 : BitVec 32 := BitVec.ofNat 32 (i 1).val
  let c384_i32 : BitVec 32 := 384#32
  let v10 : BitVec 32 := Scalar.muli arg1 c384_i32
  let v11 : BitVec 32 := v10
  let v16 : Index := Scalar.indexCast v11
  let c0_13 : Index := 0#32
  ![0, v16.toNat, 0]
def k0_cond2 (i : grid0.Coords) : BitVec 1 :=
  let arg1 : BitVec 32 := BitVec.ofNat 32 (i 1).val
  let c0_i32_32 : BitVec 32 := 0#32
  let v83 : BitVec 1 := Scalar.cmpi .eq arg1 c0_i32_32
  let v84 : BitVec 32 := Scalar.extui v83
  let c0_i32_33 : BitVec 32 := 0#32
  let v85 : BitVec 1 := Scalar.cmpi .ne v84 c0_i32_33
  v85

@[reducible] def k0_t1_loop (i : grid0.Coords) : Scf.Loop 32 :=
  let arg1 : BitVec 32 := BitVec.ofNat 32 (i 1).val
  let c1_i32 : BitVec 32 := 1#32
  let v94 : BitVec 32 := Scalar.addi arg1 c1_i32
  let c11_i32 : BitVec 32 := 11#32
  let v95 : BitVec 32 := Scalar.subi c11_i32 v94
  let c1_i32_43 : BitVec 32 := 1#32
  let v97 : BitVec 32 := Scalar.divsi v95 c1_i32_43
  let v98 : BitVec 32 := Scalar.muli v97 c1_i32_43
  let v99 : BitVec 32 := Scalar.addi v94 v98
  let c1_i32_44 : BitVec 32 := 1#32
  ⟨v94, v99, c1_i32_44⟩
def k0_mult2 (i : grid0.Coords) (k0_t1 : Fin (k0_t1_loop i).trips) : BitVec 32 :=
  let arg1 : BitVec 32 := BitVec.ofNat 32 (i 1).val
  let c1_i32 : BitVec 32 := 1#32
  let v94 : BitVec 32 := Scalar.addi arg1 c1_i32
  let c1_i32_44 : BitVec 32 := 1#32
  let arg14 : BitVec 32 := Scf.iv v94 c1_i32_44 k0_t1
  let c384_i32_46 : BitVec 32 := 384#32
  let v102 : BitVec 32 := Scalar.muli arg14 c384_i32_46
  v102
def k0_off3 (i : grid0.Coords) (k0_t1 : Fin (k0_t1_loop i).trips) : Fin 2 → Nat :=
  let arg1 : BitVec 32 := BitVec.ofNat 32 (i 1).val
  let c1_i32 : BitVec 32 := 1#32
  let v94 : BitVec 32 := Scalar.addi arg1 c1_i32
  let c1_i32_44 : BitVec 32 := 1#32
  let arg14 : BitVec 32 := Scf.iv v94 c1_i32_44 k0_t1
  let c384_i32_46 : BitVec 32 := 384#32
  let v102 : BitVec 32 := Scalar.muli arg14 c384_i32_46
  let v103 : BitVec 32 := v102
  let v104 : Index := Scalar.indexCast v103
  let c0_47 : Index := 0#32
  ![v104.toNat, 0]
def k0_off4 (i : grid0.Coords) (k0_t1 : Fin (k0_t1_loop i).trips) : Fin 3 → Nat :=
  let c0_49 : Index := 0#32
  let arg1 : BitVec 32 := BitVec.ofNat 32 (i 1).val
  let c1_i32 : BitVec 32 := 1#32
  let v94 : BitVec 32 := Scalar.addi arg1 c1_i32
  let c1_i32_44 : BitVec 32 := 1#32
  let arg14 : BitVec 32 := Scf.iv v94 c1_i32_44 k0_t1
  let c384_i32_46 : BitVec 32 := 384#32
  let v102 : BitVec 32 := Scalar.muli arg14 c384_i32_46
  let v103 : BitVec 32 := v102
  let v108 : Index := Scalar.indexCast v103
  let c0_50 : Index := 0#32
  ![0, v108.toNat, 0]
@[reducible] def k0_t2_loop (i : grid0.Coords) : Scf.Loop 32 :=
  let arg1 : BitVec 32 := BitVec.ofNat 32 (i 1).val
  let c1_i32 : BitVec 32 := 1#32
  let v94 : BitVec 32 := Scalar.addi arg1 c1_i32
  let c11_i32 : BitVec 32 := 11#32
  let v95 : BitVec 32 := Scalar.subi c11_i32 v94
  let c1_i32_43 : BitVec 32 := 1#32
  let v97 : BitVec 32 := Scalar.divsi v95 c1_i32_43
  let v98 : BitVec 32 := Scalar.muli v97 c1_i32_43
  let v99 : BitVec 32 := Scalar.addi v94 v98
  let v96 : BitVec 32 := Scalar.addi v94 v95
  let c1_i32_45 : BitVec 32 := 1#32
  ⟨v99, v96, c1_i32_45⟩
def k0_mult3 (i : grid0.Coords) (k0_t2 : Fin (k0_t2_loop i).trips) : BitVec 32 :=
  let arg1 : BitVec 32 := BitVec.ofNat 32 (i 1).val
  let c1_i32 : BitVec 32 := 1#32
  let v94 : BitVec 32 := Scalar.addi arg1 c1_i32
  let c11_i32 : BitVec 32 := 11#32
  let v95 : BitVec 32 := Scalar.subi c11_i32 v94
  let c1_i32_43 : BitVec 32 := 1#32
  let v97 : BitVec 32 := Scalar.divsi v95 c1_i32_43
  let v98 : BitVec 32 := Scalar.muli v97 c1_i32_43
  let v99 : BitVec 32 := Scalar.addi v94 v98
  let c1_i32_45 : BitVec 32 := 1#32
  let arg14 : BitVec 32 := Scf.iv v99 c1_i32_45 k0_t2
  let c384_i32_46 : BitVec 32 := 384#32
  let v102 : BitVec 32 := Scalar.muli arg14 c384_i32_46
  v102
def k0_off5 (i : grid0.Coords) (k0_t2 : Fin (k0_t2_loop i).trips) : Fin 2 → Nat :=
  let arg1 : BitVec 32 := BitVec.ofNat 32 (i 1).val
  let c1_i32 : BitVec 32 := 1#32
  let v94 : BitVec 32 := Scalar.addi arg1 c1_i32
  let c11_i32 : BitVec 32 := 11#32
  let v95 : BitVec 32 := Scalar.subi c11_i32 v94
  let c1_i32_43 : BitVec 32 := 1#32
  let v97 : BitVec 32 := Scalar.divsi v95 c1_i32_43
  let v98 : BitVec 32 := Scalar.muli v97 c1_i32_43
  let v99 : BitVec 32 := Scalar.addi v94 v98
  let c1_i32_45 : BitVec 32 := 1#32
  let arg14 : BitVec 32 := Scf.iv v99 c1_i32_45 k0_t2
  let c384_i32_46 : BitVec 32 := 384#32
  let v102 : BitVec 32 := Scalar.muli arg14 c384_i32_46
  let v103 : BitVec 32 := v102
  let v104 : Index := Scalar.indexCast v103
  let c0_47 : Index := 0#32
  ![v104.toNat, 0]
def k0_off6 (i : grid0.Coords) (k0_t2 : Fin (k0_t2_loop i).trips) : Fin 3 → Nat :=
  let c0_49 : Index := 0#32
  let arg1 : BitVec 32 := BitVec.ofNat 32 (i 1).val
  let c1_i32 : BitVec 32 := 1#32
  let v94 : BitVec 32 := Scalar.addi arg1 c1_i32
  let c11_i32 : BitVec 32 := 11#32
  let v95 : BitVec 32 := Scalar.subi c11_i32 v94
  let c1_i32_43 : BitVec 32 := 1#32
  let v97 : BitVec 32 := Scalar.divsi v95 c1_i32_43
  let v98 : BitVec 32 := Scalar.muli v97 c1_i32_43
  let v99 : BitVec 32 := Scalar.addi v94 v98
  let c1_i32_45 : BitVec 32 := 1#32
  let arg14 : BitVec 32 := Scf.iv v99 c1_i32_45 k0_t2
  let c384_i32_46 : BitVec 32 := 384#32
  let v102 : BitVec 32 := Scalar.muli arg14 c384_i32_46
  let v103 : BitVec 32 := v102
  let v108 : Index := Scalar.indexCast v103
  let c0_50 : Index := 0#32
  ![0, v108.toNat, 0]
@[reducible] def k0_t3_loop (i : grid0.Coords) : Scf.Loop 32 :=
  let arg1 : BitVec 32 := BitVec.ofNat 32 (i 1).val
  let c1_i32 : BitVec 32 := 1#32
  let v94 : BitVec 32 := Scalar.addi arg1 c1_i32
  let c11_i32 : BitVec 32 := 11#32
  let v95 : BitVec 32 := Scalar.subi c11_i32 v94
  let c1_i32_43 : BitVec 32 := 1#32
  let v97 : BitVec 32 := Scalar.divsi v95 c1_i32_43
  let v98 : BitVec 32 := Scalar.muli v97 c1_i32_43
  let v99 : BitVec 32 := Scalar.addi v94 v98
  let c1_i32_44 : BitVec 32 := 1#32
  ⟨v94, v99, c1_i32_44⟩
def k0_mult4 (i : grid0.Coords) (k0_t3 : Fin (k0_t3_loop i).trips) : BitVec 32 :=
  let arg1 : BitVec 32 := BitVec.ofNat 32 (i 1).val
  let c1_i32 : BitVec 32 := 1#32
  let v94 : BitVec 32 := Scalar.addi arg1 c1_i32
  let c1_i32_44 : BitVec 32 := 1#32
  let arg14 : BitVec 32 := Scf.iv v94 c1_i32_44 k0_t3
  let c384_i32_46 : BitVec 32 := 384#32
  let v102 : BitVec 32 := Scalar.muli arg14 c384_i32_46
  v102
def k0_off7 (i : grid0.Coords) (k0_t3 : Fin (k0_t3_loop i).trips) : Fin 2 → Nat :=
  let arg1 : BitVec 32 := BitVec.ofNat 32 (i 1).val
  let c1_i32 : BitVec 32 := 1#32
  let v94 : BitVec 32 := Scalar.addi arg1 c1_i32
  let c1_i32_44 : BitVec 32 := 1#32
  let arg14 : BitVec 32 := Scf.iv v94 c1_i32_44 k0_t3
  let c384_i32_46 : BitVec 32 := 384#32
  let v102 : BitVec 32 := Scalar.muli arg14 c384_i32_46
  let v103 : BitVec 32 := v102
  let v104 : Index := Scalar.indexCast v103
  let c0_47 : Index := 0#32
  ![v104.toNat, 0]
def k0_off8 (i : grid0.Coords) (k0_t3 : Fin (k0_t3_loop i).trips) : Fin 3 → Nat :=
  let c0_49 : Index := 0#32
  let arg1 : BitVec 32 := BitVec.ofNat 32 (i 1).val
  let c1_i32 : BitVec 32 := 1#32
  let v94 : BitVec 32 := Scalar.addi arg1 c1_i32
  let c1_i32_44 : BitVec 32 := 1#32
  let arg14 : BitVec 32 := Scf.iv v94 c1_i32_44 k0_t3
  let c384_i32_46 : BitVec 32 := 384#32
  let v102 : BitVec 32 := Scalar.muli arg14 c384_i32_46
  let v103 : BitVec 32 := v102
  let v108 : Index := Scalar.indexCast v103
  let c0_50 : Index := 0#32
  ![0, v108.toNat, 0]
@[reducible] def k0_t4_loop (i : grid0.Coords) : Scf.Loop 32 :=
  let arg1 : BitVec 32 := BitVec.ofNat 32 (i 1).val
  let c1_i32 : BitVec 32 := 1#32
  let v94 : BitVec 32 := Scalar.addi arg1 c1_i32
  let c11_i32 : BitVec 32 := 11#32
  let v95 : BitVec 32 := Scalar.subi c11_i32 v94
  let c1_i32_43 : BitVec 32 := 1#32
  let v97 : BitVec 32 := Scalar.divsi v95 c1_i32_43
  let v98 : BitVec 32 := Scalar.muli v97 c1_i32_43
  let v99 : BitVec 32 := Scalar.addi v94 v98
  let v96 : BitVec 32 := Scalar.addi v94 v95
  let c1_i32_45 : BitVec 32 := 1#32
  ⟨v99, v96, c1_i32_45⟩
def k0_mult5 (i : grid0.Coords) (k0_t4 : Fin (k0_t4_loop i).trips) : BitVec 32 :=
  let arg1 : BitVec 32 := BitVec.ofNat 32 (i 1).val
  let c1_i32 : BitVec 32 := 1#32
  let v94 : BitVec 32 := Scalar.addi arg1 c1_i32
  let c11_i32 : BitVec 32 := 11#32
  let v95 : BitVec 32 := Scalar.subi c11_i32 v94
  let c1_i32_43 : BitVec 32 := 1#32
  let v97 : BitVec 32 := Scalar.divsi v95 c1_i32_43
  let v98 : BitVec 32 := Scalar.muli v97 c1_i32_43
  let v99 : BitVec 32 := Scalar.addi v94 v98
  let c1_i32_45 : BitVec 32 := 1#32
  let arg14 : BitVec 32 := Scf.iv v99 c1_i32_45 k0_t4
  let c384_i32_46 : BitVec 32 := 384#32
  let v102 : BitVec 32 := Scalar.muli arg14 c384_i32_46
  v102
def k0_off9 (i : grid0.Coords) (k0_t4 : Fin (k0_t4_loop i).trips) : Fin 2 → Nat :=
  let arg1 : BitVec 32 := BitVec.ofNat 32 (i 1).val
  let c1_i32 : BitVec 32 := 1#32
  let v94 : BitVec 32 := Scalar.addi arg1 c1_i32
  let c11_i32 : BitVec 32 := 11#32
  let v95 : BitVec 32 := Scalar.subi c11_i32 v94
  let c1_i32_43 : BitVec 32 := 1#32
  let v97 : BitVec 32 := Scalar.divsi v95 c1_i32_43
  let v98 : BitVec 32 := Scalar.muli v97 c1_i32_43
  let v99 : BitVec 32 := Scalar.addi v94 v98
  let c1_i32_45 : BitVec 32 := 1#32
  let arg14 : BitVec 32 := Scf.iv v99 c1_i32_45 k0_t4
  let c384_i32_46 : BitVec 32 := 384#32
  let v102 : BitVec 32 := Scalar.muli arg14 c384_i32_46
  let v103 : BitVec 32 := v102
  let v104 : Index := Scalar.indexCast v103
  let c0_47 : Index := 0#32
  ![v104.toNat, 0]
def k0_off10 (i : grid0.Coords) (k0_t4 : Fin (k0_t4_loop i).trips) : Fin 3 → Nat :=
  let c0_49 : Index := 0#32
  let arg1 : BitVec 32 := BitVec.ofNat 32 (i 1).val
  let c1_i32 : BitVec 32 := 1#32
  let v94 : BitVec 32 := Scalar.addi arg1 c1_i32
  let c11_i32 : BitVec 32 := 11#32
  let v95 : BitVec 32 := Scalar.subi c11_i32 v94
  let c1_i32_43 : BitVec 32 := 1#32
  let v97 : BitVec 32 := Scalar.divsi v95 c1_i32_43
  let v98 : BitVec 32 := Scalar.muli v97 c1_i32_43
  let v99 : BitVec 32 := Scalar.addi v94 v98
  let c1_i32_45 : BitVec 32 := 1#32
  let arg14 : BitVec 32 := Scf.iv v99 c1_i32_45 k0_t4
  let c384_i32_46 : BitVec 32 := 384#32
  let v102 : BitVec 32 := Scalar.muli arg14 c384_i32_46
  let v103 : BitVec 32 := v102
  let v108 : Index := Scalar.indexCast v103
  let c0_50 : Index := 0#32
  ![0, v108.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4224x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4224x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4224x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4224x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4224x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4224x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S384x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S384x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4224x2048 : Shape := ⟨2, ![4224, 2048]⟩
abbrev S16x4224 : Shape := ⟨2, ![16, 4224]⟩
abbrev S4224x16x128 : Shape := ⟨3, ![4224, 16, 128]⟩
abbrev S4112x16x128 : Shape := ⟨3, ![4112, 16, 128]⟩
abbrev S16x4112x4224 : Shape := ⟨3, ![16, 4112, 4224]⟩
abbrev S_ : Shape := ⟨0, ![]⟩
abbrev S16x4112 : Shape := ⟨2, ![16, 4112]⟩
abbrev S16x4112x1 : Shape := ⟨3, ![16, 4112, 1]⟩
abbrev S16x1x4224 : Shape := ⟨3, ![16, 1, 4224]⟩
abbrev S4224 : Shape := ⟨1, ![4224]⟩
abbrev S4112 : Shape := ⟨1, ![4112]⟩
abbrev S1x4224 : Shape := ⟨2, ![1, 4224]⟩
abbrev S4112x1 : Shape := ⟨2, ![4112, 1]⟩
abbrev S4112x4224 : Shape := ⟨2, ![4112, 4224]⟩
abbrev S16x128x4112 : Shape := ⟨3, ![16, 128, 4112]⟩
abbrev S16x128x4224 : Shape := ⟨3, ![16, 128, 4224]⟩
abbrev S16x4224x128 : Shape := ⟨3, ![16, 4224, 128]⟩
abbrev S16x4112x128 : Shape := ⟨3, ![16, 4112, 128]⟩
abbrev S16x11x1x384 : Shape := ⟨4, ![16, 11, 1, 384]⟩

abbrev nBuf : Space → Nat
  | .hbm => 137
  | .vmem => 0
  | .smem => 0
  | _ => 0

abbrev hbmTy0_0 (i : Nat) : BufTy := match i % 128 with
  | 0 => ⟨S4224x2048, .bf16⟩
  | 1 => ⟨S4224x2048, .bf16⟩
  | 2 => ⟨S4224x2048, .bf16⟩
  | 3 => ⟨S16x4224, .f32⟩
  | 4 => ⟨S4224x2048, .bf16⟩
  | 5 => ⟨S4224x2048, .f32⟩
  | 6 => ⟨S4224x16x128, .f32⟩
  | 7 => ⟨S4224x2048, .f32⟩
  | 8 => ⟨S4224x16x128, .f32⟩
  | 9 => ⟨S4224x2048, .f32⟩
  | 10 => ⟨S4224x16x128, .f32⟩
  | 11 => ⟨S4112x16x128, .f32⟩
  | 12 => ⟨S16x4112x4224, .f32⟩
  | 13 => ⟨S_, .f32⟩
  | 14 => ⟨S16x4112x4224, .f32⟩
  | 15 => ⟨S16x4112x4224, .f32⟩
  | 16 => ⟨S16x4112, .f32⟩
  | 17 => ⟨S16x4112x1, .f32⟩
  | 18 => ⟨S16x1x4224, .f32⟩
  | 19 => ⟨S16x4112x4224, .f32⟩
  | 20 => ⟨S16x4112x4224, .f32⟩
  | 21 => ⟨S16x4112x4224, .f32⟩
  | 22 => ⟨S16x4112x4224, .f32⟩
  | 23 => ⟨S4224, .i32⟩
  | 24 => ⟨S4112, .i32⟩
  | 25 => ⟨S_, .i32⟩
  | 26 => ⟨S4112, .i32⟩
  | 27 => ⟨S4112, .i32⟩
  | 28 => ⟨S1x4224, .i32⟩
  | 29 => ⟨S4112x1, .i32⟩
  | 30 => ⟨S4112x4224, .i32⟩
  | 31 => ⟨S4112x4224, .i32⟩
  | 32 => ⟨S4112x4224, .i1⟩
  | 33 => ⟨S1x4224, .i32⟩
  | 34 => ⟨S_, .i32⟩
  | 35 => ⟨S1x4224, .i32⟩
  | 36 => ⟨S1x4224, .i1⟩
  | 37 => ⟨S4112x4224, .i1⟩
  | 38 => ⟨S4112x4224, .i1⟩
  | 39 => ⟨S_, .f32⟩
  | 40 => ⟨S_, .f32⟩
  | 41 => ⟨S16x4112x4224, .i1⟩
  | 42 => ⟨S16x4112x4224, .f32⟩
  | 43 => ⟨S16x4112x4224, .f32⟩
  | 44 => ⟨S_, .f32⟩
  | 45 => ⟨S16x4112x4224, .f32⟩
  | 46 => ⟨S_, .f32⟩
  | 47 => ⟨S16x4112, .f32⟩
  | 48 => ⟨S16x4112x1, .f32⟩
  | 49 => ⟨S16x4112x4224, .f32⟩
  | 50 => ⟨S16x4112x4224, .i1⟩
  | 51 => ⟨S16x4112x4224, .f32⟩
  | 52 => ⟨S_, .f32⟩
  | 53 => ⟨S16x4112, .f32⟩
  | 54 => ⟨S_, .f32⟩
  | 55 => ⟨S16x4112, .f32⟩
  | 56 => ⟨S16x4112, .f32⟩
  | 57 => ⟨S_, .f32⟩
  | 58 => ⟨S16x4112, .f32⟩
  | 59 => ⟨S16x4112, .i1⟩
  | 60 => ⟨S_, .f32⟩
  | 61 => ⟨S16x4112, .f32⟩
  | 62 => ⟨S16x4112, .i1⟩
  | 63 => ⟨S_, .f32⟩
  | 64 => ⟨S16x4112, .f32⟩
  | 65 => ⟨S_, .f32⟩
  | 66 => ⟨S16x4112, .f32⟩
  | 67 => ⟨S_, .f32⟩
  | 68 => ⟨S16x4112, .f32⟩
  | 69 => ⟨S16x4112, .f32⟩
  | 70 => ⟨S16x4112, .f32⟩
  | 71 => ⟨S16x4112x1, .f32⟩
  | 72 => ⟨S16x4112x4224, .f32⟩
  | 73 => ⟨S16x4112x4224, .f32⟩
  | 74 => ⟨S16x4112x4224, .f32⟩
  | 75 => ⟨S_, .f32⟩
  | 76 => ⟨S16x4112, .f32⟩
  | 77 => ⟨S16x4112x1, .f32⟩
  | 78 => ⟨S16x4112x4224, .f32⟩
  | 79 => ⟨S16x4112x4224, .f32⟩
  | 80 => ⟨S16x4112x1, .f32⟩
  | 81 => ⟨S_, .f32⟩
  | 82 => ⟨S16x4112x1, .f32⟩
  | 83 => ⟨S16x4112x1, .f32⟩
  | 84 => ⟨S16x128x4112, .f32⟩
  | 85 => ⟨S4112x16x128, .f32⟩
  | 86 => ⟨S4224x2048, .f32⟩
  | 87 => ⟨S4224x16x128, .f32⟩
  | 88 => ⟨S4112x16x128, .f32⟩
  | 89 => ⟨S16x128x4112, .f32⟩
  | 90 => ⟨S16x4112x4224, .f32⟩
  | 91 => ⟨S16x128x4224, .f32⟩
  | 92 => ⟨S4224x16x128, .f32⟩
  | 93 => ⟨S16x4112x4224, .f32⟩
  | 94 => ⟨S16x4112x4224, .f32⟩
  | 95 => ⟨S16x4112x4224, .f32⟩
  | 96 => ⟨S_, .f32⟩
  | 97 => ⟨S16x4112, .f32⟩
  | 98 => ⟨S16x4112x1, .f32⟩
  | 99 => ⟨S16x4112x1, .f32⟩
  | 100 => ⟨S16x4112x4224, .f32⟩
  | 101 => ⟨S16x4112x4224, .f32⟩
  | 102 => ⟨S_, .f32⟩
  | 103 => ⟨S16x4112, .f32⟩
  | 104 => ⟨S16x4112x4224, .f32⟩
  | 105 => ⟨S16x4112x4224, .f32⟩
  | 106 => ⟨S16x4112x4224, .f32⟩
  | 107 => ⟨S_, .f32⟩
  | 108 => ⟨S16x4112x4224, .f32⟩
  | 109 => ⟨S16x4112x4224, .f32⟩
  | 110 => ⟨S_, .f32⟩
  | 111 => ⟨S16x4112, .f32⟩
  | 112 => ⟨S16x4112x1, .f32⟩
  | 113 => ⟨S16x4112x4224, .f32⟩
  | 114 => ⟨S_, .f32⟩
  | 115 => ⟨S16x4224, .f32⟩
  | 116 => ⟨S16x1x4224, .f32⟩
  | 117 => ⟨S_, .f32⟩
  | 118 => ⟨S16x4224, .f32⟩
  | 119 => ⟨S_, .f32⟩
  | 120 => ⟨S16x4112, .f32⟩
  | 121 => ⟨S_, .f32⟩
  | 122 => ⟨S16x4224, .f32⟩
  | 123 => ⟨S16x4224, .f32⟩
  | 124 => ⟨S_, .f32⟩
  | 125 => ⟨S16x4112x4224, .f32⟩
  | 126 => ⟨S16x4112x4224, .f32⟩
  | 127 => ⟨S16x4224x128, .f32⟩
  | _ => ⟨S4224x2048, .bf16⟩

abbrev hbmTy0_1 (i : Nat) : BufTy := match i % 128 with
  | 0 => ⟨S4224x16x128, .f32⟩
  | 1 => ⟨S16x4112x128, .f32⟩
  | 2 => ⟨S4112x16x128, .f32⟩
  | 3 => ⟨S_, .f32⟩
  | 4 => ⟨S4224x16x128, .f32⟩
  | 5 => ⟨S4224x2048, .f32⟩
  | 6 => ⟨S4224x2048, .f32⟩
  | 7 => ⟨S4224x2048, .f32⟩
  | 8 => ⟨S16x11x1x384, .f32⟩
  | _ => ⟨S4224x2048, .bf16⟩

abbrev hbmTy (i : Nat) : BufTy := match i / 128 with
  | 0 => hbmTy0_0 i
  | 1 => hbmTy0_1 i
  | _ => ⟨S4224x2048, .bf16⟩

abbrev bufTy : (tb : Table) → Fin (tcTables nBuf tb) → BufTy
  | .hbm, ⟨i, _⟩ => hbmTy i
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_0 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_1 : Ref sig .tc := ⟨.hbm, 39, rfl⟩
abbrev main_call0_v0 : Ref sig .tc := ⟨.hbm, 40, rfl⟩
abbrev main_v31_1 : Ref sig .tc := ⟨.hbm, 41, rfl⟩
abbrev main_call0_v2 : Ref sig .tc := ⟨.hbm, 42, rfl⟩
abbrev main_v31_0 : Ref sig .tc := ⟨.hbm, 43, rfl⟩
abbrev main_call0_cst : Ref sig .tc := ⟨.hbm, 44, rfl⟩
abbrev main_v31_2 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_12 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_13 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_call1_cst : Ref sig .tc := ⟨.hbm, 107, rfl⟩
abbrev main_call1_v0 : Ref sig .tc := ⟨.hbm, 108, rfl⟩
abbrev main_v81 : Ref sig .tc := ⟨.hbm, 109, rfl⟩
abbrev main_cst_14 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_15 : Ref sig .tc := ⟨.hbm, 114, rfl⟩
abbrev main_v85 : Ref sig .tc := ⟨.hbm, 115, rfl⟩
abbrev main_v86 : Ref sig .tc := ⟨.hbm, 116, rfl⟩
abbrev main_cst_16 : Ref sig .tc := ⟨.hbm, 117, rfl⟩
abbrev main_v87 : Ref sig .tc := ⟨.hbm, 118, rfl⟩
abbrev main_cst_17 : Ref sig .tc := ⟨.hbm, 119, rfl⟩
abbrev main_v88 : Ref sig .tc := ⟨.hbm, 120, rfl⟩
abbrev main_cst_18 : Ref sig .tc := ⟨.hbm, 121, rfl⟩
abbrev main_v89 : Ref sig .tc := ⟨.hbm, 122, rfl⟩
abbrev main_v90 : Ref sig .tc := ⟨.hbm, 123, rfl⟩
abbrev main_cst_19 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_20 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩

abbrev nD : Nat := 1
abbrev τ : Topo := Topo.v7x

variable {F : FTy → Type} [FloatOps F]
-- ==== DownDxKernel.lean ====
abbrev S5632x2048 : Shape := ⟨2, ![5632, 2048]⟩
abbrev S4224x2048 : Shape := ⟨2, ![4224, 2048]⟩
abbrev S4224x5632 : Shape := ⟨2, ![4224, 5632]⟩
abbrev S1056x2048 : Shape := ⟨2, ![1056, 2048]⟩
abbrev S1408x2048 : Shape := ⟨2, ![1408, 2048]⟩
abbrev S1056x1408 : Shape := ⟨2, ![1056, 1408]⟩

abbrev nBuf : Space → Nat
  | .hbm => 3
  | .vmem => 6
  | .smem => 0
  | _ => 0

abbrev bufTy : (tb : Table) → Fin (tcTables nBuf tb) → BufTy
  | .hbm, ⟨0, _⟩ => ⟨S5632x2048, .bf16⟩
  | .hbm, ⟨1, _⟩ => ⟨S4224x2048, .bf16⟩
  | .hbm, ⟨2, _⟩ => ⟨S4224x5632, .bf16⟩
  | .local _ .vmem, ⟨0, _⟩ => ⟨S1056x2048, .bf16⟩
  | .local _ .vmem, ⟨1, _⟩ => ⟨S1056x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1056x1408, .bf16⟩
  | .local _ .vmem, ⟨5, _⟩ => ⟨S1056x1408, .bf16⟩
  | _, _ => ⟨S5632x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxReferenceIdeal.lean ====
abbrev S5632x2048 : Shape := ⟨2, ![5632, 2048]⟩
abbrev S4224x2048 : Shape := ⟨2, ![4224, 2048]⟩
abbrev S_ : Shape := ⟨0, ![]⟩
abbrev S4224x5632 : Shape := ⟨2, ![4224, 5632]⟩

abbrev nBuf : Space → Nat
  | .hbm => 9
  | .vmem => 0
  | .smem => 0
  | _ => 0

abbrev bufTy : (tb : Table) → Fin (tcTables nBuf tb) → BufTy
  | .hbm, ⟨0, _⟩ => ⟨S5632x2048, .bf16⟩
  | .hbm, ⟨1, _⟩ => ⟨S4224x2048, .bf16⟩
  | .hbm, ⟨2, _⟩ => ⟨S_, .f32⟩
  | .hbm, ⟨3, _⟩ => ⟨S4224x5632, .f32⟩
  | .hbm, ⟨4, _⟩ => ⟨S5632x2048, .f32⟩
  | .hbm, ⟨5, _⟩ => ⟨S4224x2048, .f32⟩
  | .hbm, ⟨6, _⟩ => ⟨S4224x2048, .f32⟩
  | .hbm, ⟨7, _⟩ => ⟨S4224x5632, .f32⟩
  | .hbm, ⟨8, _⟩ => ⟨S4224x5632, .bf16⟩
  | _, _ => ⟨S5632x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDwKernel.lean ====
abbrev S4224x5632 : Shape := ⟨2, ![4224, 5632]⟩
abbrev S4224x2048 : Shape := ⟨2, ![4224, 2048]⟩
abbrev S5632x4224 : Shape := ⟨2, ![5632, 4224]⟩
abbrev S5632x2048 : Shape := ⟨2, ![5632, 2048]⟩
abbrev S704x1408 : Shape := ⟨2, ![704, 1408]⟩
abbrev S1408x1024 : Shape := ⟨2, ![1408, 1024]⟩
abbrev S704x1024 : Shape := ⟨2, ![704, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4224x5632, .bf16⟩
  | .hbm, ⟨1, _⟩ => ⟨S4224x2048, .bf16⟩
  | .hbm, ⟨2, _⟩ => ⟨S5632x4224, .bf16⟩
  | .hbm, ⟨3, _⟩ => ⟨S5632x2048, .bf16⟩
  | .local _ .vmem, ⟨0, _⟩ => ⟨S704x1408, .bf16⟩
  | .local _ .vmem, ⟨1, _⟩ => ⟨S704x1408, .bf16⟩
  | .local _ .vmem, ⟨2, _⟩ => ⟨S1408x1024, .bf16⟩
  | .local _ .vmem, ⟨3, _⟩ => ⟨S1408x1024, .bf16⟩
  | .local _ .vmem, ⟨4, _⟩ => ⟨S704x1024, .bf16⟩
  | .local _ .vmem, ⟨5, _⟩ => ⟨S704x1024, .bf16⟩
  | .local _ .vmem, ⟨6, _⟩ => ⟨S704x1024, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S4224x5632 : Shape := ⟨2, ![4224, 5632]⟩
abbrev S4224x2048 : Shape := ⟨2, ![4224, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S4224x2048, .bf16⟩
  | .hbm, ⟨2, _⟩ => ⟨S_, .f32⟩
  | .hbm, ⟨3, _⟩ => ⟨S5632x2048, .f32⟩
  | .hbm, ⟨4, _⟩ => ⟨S4224x5632, .f32⟩
  | .hbm, ⟨5, _⟩ => ⟨S4224x2048, .f32⟩
  | .hbm, ⟨6, _⟩ => ⟨S4224x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GuDxKernel.lean ====
abbrev S2048x11264 : Shape := ⟨2, ![2048, 11264]⟩
abbrev S2x4224x5632 : Shape := ⟨3, ![2, 4224, 5632]⟩
abbrev S4224x2048 : Shape := ⟨2, ![4224, 2048]⟩
abbrev S1x1056x1408 : Shape := ⟨3, ![1, 1056, 1408]⟩
abbrev S1024x1408 : Shape := ⟨2, ![1024, 1408]⟩
abbrev S1056x1024 : Shape := ⟨2, ![1056, 1024]⟩
abbrev S1056x1408 : Shape := ⟨2, ![1056, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S2x4224x5632, .bf16⟩
  | .hbm, ⟨2, _⟩ => ⟨S4224x2048, .f32⟩
  | .local _ .vmem, ⟨0, _⟩ => ⟨S1x1056x1408, .bf16⟩
  | .local _ .vmem, ⟨1, _⟩ => ⟨S1x1056x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1056x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuDxReferenceIdeal.lean ====
abbrev S2048x11264 : Shape := ⟨2, ![2048, 11264]⟩
abbrev S2x4224x5632 : Shape := ⟨3, ![2, 4224, 5632]⟩
abbrev S_ : Shape := ⟨0, ![]⟩
abbrev S4224x2048 : Shape := ⟨2, ![4224, 2048]⟩
abbrev S4224x11264 : Shape := ⟨2, ![4224, 11264]⟩
abbrev S4224x5632 : Shape := ⟨2, ![4224, 5632]⟩
abbrev S1x4224x5632 : Shape := ⟨3, ![1, 4224, 5632]⟩

abbrev nBuf : Space → Nat
  | .hbm => 16
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S2x4224x5632, .bf16⟩
  | .hbm, ⟨2, _⟩ => ⟨S_, .f32⟩
  | .hbm, ⟨3, _⟩ => ⟨S4224x2048, .f32⟩
  | .hbm, ⟨4, _⟩ => ⟨S2048x11264, .f32⟩
  | .hbm, ⟨5, _⟩ => ⟨S4224x11264, .f32⟩
  | .hbm, ⟨6, _⟩ => ⟨S4224x5632, .f32⟩
  | .hbm, ⟨7, _⟩ => ⟨S4224x5632, .f32⟩
  | .hbm, ⟨8, _⟩ => ⟨S1x4224x5632, .bf16⟩
  | .hbm, ⟨9, _⟩ => ⟨S4224x5632, .bf16⟩
  | .hbm, ⟨10, _⟩ => ⟨S4224x5632, .f32⟩
  | .hbm, ⟨11, _⟩ => ⟨S1x4224x5632, .bf16⟩
  | .hbm, ⟨12, _⟩ => ⟨S4224x5632, .bf16⟩
  | .hbm, ⟨13, _⟩ => ⟨S4224x5632, .f32⟩
  | .hbm, ⟨14, _⟩ => ⟨S4224x11264, .f32⟩
  | .hbm, ⟨15, _⟩ => ⟨S4224x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== GuDwKernel.lean ====
abbrev S4224x2048 : Shape := ⟨2, ![4224, 2048]⟩
abbrev S2x4224x5632 : Shape := ⟨3, ![2, 4224, 5632]⟩
abbrev S2048x4224 : Shape := ⟨2, ![2048, 4224]⟩
abbrev S2048x11264 : Shape := ⟨2, ![2048, 11264]⟩
abbrev S1024x1408 : Shape := ⟨2, ![1024, 1408]⟩
abbrev S1x1408x1408 : Shape := ⟨3, ![1, 1408, 1408]⟩
abbrev S1408x1408 : Shape := ⟨2, ![1408, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S2x4224x5632, .bf16⟩
  | .hbm, ⟨2, _⟩ => ⟨S2048x4224, .bf16⟩
  | .hbm, ⟨3, _⟩ => ⟨S2048x11264, .bf16⟩
  | .local _ .vmem, ⟨0, _⟩ => ⟨S1024x1408, .bf16⟩
  | .local _ .vmem, ⟨1, _⟩ => ⟨S1024x1408, .bf16⟩
  | .local _ .vmem, ⟨2, _⟩ => ⟨S1x1408x1408, .bf16⟩
  | .local _ .vmem, ⟨3, _⟩ => ⟨S1x1408x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuDwReferenceIdeal.lean ====
abbrev S4224x2048 : Shape := ⟨2, ![4224, 2048]⟩
abbrev S2x4224x5632 : Shape := ⟨3, ![2, 4224, 5632]⟩
abbrev S_ : Shape := ⟨0, ![]⟩
abbrev S2048x11264 : Shape := ⟨2, ![2048, 11264]⟩
abbrev S4224x11264 : Shape := ⟨2, ![4224, 11264]⟩
abbrev S4224x5632 : Shape := ⟨2, ![4224, 5632]⟩
abbrev S1x4224x5632 : Shape := ⟨3, ![1, 4224, 5632]⟩
abbrev S11264x2048 : Shape := ⟨2, ![11264, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2x4224x5632, .bf16⟩
  | .hbm, ⟨2, _⟩ => ⟨S_, .f32⟩
  | .hbm, ⟨3, _⟩ => ⟨S2048x11264, .f32⟩
  | .hbm, ⟨4, _⟩ => ⟨S4224x2048, .f32⟩
  | .hbm, ⟨5, _⟩ => ⟨S4224x11264, .f32⟩
  | .hbm, ⟨6, _⟩ => ⟨S4224x5632, .f32⟩
  | .hbm, ⟨7, _⟩ => ⟨S4224x5632, .f32⟩
  | .hbm, ⟨8, _⟩ => ⟨S1x4224x5632, .bf16⟩
  | .hbm, ⟨9, _⟩ => ⟨S4224x5632, .bf16⟩
  | .hbm, ⟨10, _⟩ => ⟨S4224x5632, .f32⟩
  | .hbm, ⟨11, _⟩ => ⟨S1x4224x5632, .bf16⟩
  | .hbm, ⟨12, _⟩ => ⟨S4224x5632, .bf16⟩
  | .hbm, ⟨13, _⟩ => ⟨S4224x5632, .f32⟩
  | .hbm, ⟨14, _⟩ => ⟨S4224x11264, .f32⟩
  | .hbm, ⟨15, _⟩ => ⟨S11264x2048, .f32⟩
  | .hbm, ⟨16, _⟩ => ⟨S2048x11264, .f32⟩
  | .hbm, ⟨17, _⟩ => ⟨S2048x11264, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== AOutDxKernel.lean ====
abbrev S2048x2048 : Shape := ⟨2, ![2048, 2048]⟩
abbrev S4224x2048 : Shape := ⟨2, ![4224, 2048]⟩
abbrev S1056x2048 : Shape := ⟨2, ![1056, 2048]⟩
abbrev S1024x2048 : Shape := ⟨2, ![1024, 2048]⟩
abbrev S1056x1024 : Shape := ⟨2, ![1056, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4224x2048, .bf16⟩
  | .hbm, ⟨2, _⟩ => ⟨S4224x2048, .f32⟩
  | .local _ .vmem, ⟨0, _⟩ => ⟨S1056x2048, .bf16⟩
  | .local _ .vmem, ⟨1, _⟩ => ⟨S1056x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1056x1024, .f32⟩
  | .local _ .vmem, ⟨5, _⟩ => ⟨S1056x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AOutDxReferenceIdeal.lean ====
abbrev S2048x2048 : Shape := ⟨2, ![2048, 2048]⟩
abbrev S4224x2048 : Shape := ⟨2, ![4224, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4224x2048, .bf16⟩
  | .hbm, ⟨2, _⟩ => ⟨S_, .f32⟩
  | .hbm, ⟨3, _⟩ => ⟨S4224x2048, .f32⟩
  | .hbm, ⟨4, _⟩ => ⟨S2048x2048, .f32⟩
  | .hbm, ⟨5, _⟩ => ⟨S4224x2048, .f32⟩
  | .hbm, ⟨6, _⟩ => ⟨S4224x2048, .f32⟩
  | .hbm, ⟨7, _⟩ => ⟨S4224x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AOutDwKernel.lean ====
abbrev S4224x2048 : Shape := ⟨2, ![4224, 2048]⟩
abbrev S2048x4224 : Shape := ⟨2, ![2048, 4224]⟩
abbrev S2048x2048 : Shape := ⟨2, ![2048, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S2048x4224, .bf16⟩
  | .hbm, ⟨3, _⟩ => ⟨S2048x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AOutDwReferenceIdeal.lean ====
abbrev S4224x2048 : Shape := ⟨2, ![4224, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S_, .f32⟩
  | .hbm, ⟨3, _⟩ => ⟨S2048x2048, .f32⟩
  | .hbm, ⟨4, _⟩ => ⟨S4224x2048, .f32⟩
  | .hbm, ⟨5, _⟩ => ⟨S4224x2048, .f32⟩
  | .hbm, ⟨6, _⟩ => ⟨S4224x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AInDxKernel.lean ====
abbrev S2048x6144 : Shape := ⟨2, ![2048, 6144]⟩
abbrev S3x4224x2048 : Shape := ⟨3, ![3, 4224, 2048]⟩
abbrev S4224x2048 : Shape := ⟨2, ![4224, 2048]⟩
abbrev S1x1056x2048 : Shape := ⟨3, ![1, 1056, 2048]⟩
abbrev S1024x2048 : Shape := ⟨2, ![1024, 2048]⟩
abbrev S1056x1024 : Shape := ⟨2, ![1056, 1024]⟩
abbrev S1056x2048 : Shape := ⟨2, ![1056, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S3x4224x2048, .bf16⟩
  | .hbm, ⟨2, _⟩ => ⟨S4224x2048, .f32⟩
  | .local _ .vmem, ⟨0, _⟩ => ⟨S1x1056x2048, .bf16⟩
  | .local _ .vmem, ⟨1, _⟩ => ⟨S1x1056x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AInDxReferenceIdeal.lean ====
abbrev S2048x6144 : Shape := ⟨2, ![2048, 6144]⟩
abbrev S3x4224x2048 : Shape := ⟨3, ![3, 4224, 2048]⟩
abbrev S_ : Shape := ⟨0, ![]⟩
abbrev S4224x2048 : Shape := ⟨2, ![4224, 2048]⟩
abbrev S4224x6144 : Shape := ⟨2, ![4224, 6144]⟩
abbrev S1x4224x2048 : Shape := ⟨3, ![1, 4224, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S3x4224x2048, .bf16⟩
  | .hbm, ⟨2, _⟩ => ⟨S_, .f32⟩
  | .hbm, ⟨3, _⟩ => ⟨S4224x2048, .f32⟩
  | .hbm, ⟨4, _⟩ => ⟨S2048x6144, .f32⟩
  | .hbm, ⟨5, _⟩ => ⟨S4224x6144, .f32⟩
  | .hbm, ⟨6, _⟩ => ⟨S4224x2048, .f32⟩
  | .hbm, ⟨7, _⟩ => ⟨S4224x2048, .f32⟩
  | .hbm, ⟨8, _⟩ => ⟨S4224x2048, .f32⟩
  | .hbm, ⟨9, _⟩ => ⟨S1x4224x2048, .bf16⟩
  | .hbm, ⟨10, _⟩ => ⟨S4224x2048, .bf16⟩
  | .hbm, ⟨11, _⟩ => ⟨S4224x2048, .f32⟩
  | .hbm, ⟨12, _⟩ => ⟨S1x4224x2048, .bf16⟩
  | .hbm, ⟨13, _⟩ => ⟨S4224x2048, .bf16⟩
  | .hbm, ⟨14, _⟩ => ⟨S4224x2048, .f32⟩
  | .hbm, ⟨15, _⟩ => ⟨S1x4224x2048, .bf16⟩
  | .hbm, ⟨16, _⟩ => ⟨S4224x2048, .bf16⟩
  | .hbm, ⟨17, _⟩ => ⟨S4224x2048, .f32⟩
  | .hbm, ⟨18, _⟩ => ⟨S4224x6144, .f32⟩
  | .hbm, ⟨19, _⟩ => ⟨S4224x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== AInDwKernel.lean ====
abbrev S4224x2048 : Shape := ⟨2, ![4224, 2048]⟩
abbrev S3x4224x2048 : Shape := ⟨3, ![3, 4224, 2048]⟩
abbrev S2048x4224 : Shape := ⟨2, ![2048, 4224]⟩
abbrev S2048x6144 : Shape := ⟨2, ![2048, 6144]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S3x4224x2048, .bf16⟩
  | .hbm, ⟨2, _⟩ => ⟨S2048x4224, .bf16⟩
  | .hbm, ⟨3, _⟩ => ⟨S2048x6144, .bf16⟩
  | .local _ .vmem, ⟨0, _⟩ => ⟨S1024x1408, .bf16⟩
  | .local _ .vmem, ⟨1, _⟩ => ⟨S1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AInDwReferenceIdeal.lean ====
abbrev S4224x2048 : Shape := ⟨2, ![4224, 2048]⟩
abbrev S3x4224x2048 : Shape := ⟨3, ![3, 4224, 2048]⟩
abbrev S_ : Shape := ⟨0, ![]⟩
abbrev S2048x6144 : Shape := ⟨2, ![2048, 6144]⟩
abbrev S4224x6144 : Shape := ⟨2, ![4224, 6144]⟩
abbrev S1x4224x2048 : Shape := ⟨3, ![1, 4224, 2048]⟩
abbrev S6144x2048 : Shape := ⟨2, ![6144, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S3x4224x2048, .bf16⟩
  | .hbm, ⟨2, _⟩ => ⟨S_, .f32⟩
  | .hbm, ⟨3, _⟩ => ⟨S2048x6144, .f32⟩
  | .hbm, ⟨4, _⟩ => ⟨S4224x2048, .f32⟩
  | .hbm, ⟨5, _⟩ => ⟨S4224x6144, .f32⟩
  | .hbm, ⟨6, _⟩ => ⟨S4224x2048, .f32⟩
  | .hbm, ⟨7, _⟩ => ⟨S4224x2048, .f32⟩
  | .hbm, ⟨8, _⟩ => ⟨S4224x2048, .f32⟩
  | .hbm, ⟨9, _⟩ => ⟨S1x4224x2048, .bf16⟩
  | .hbm, ⟨10, _⟩ => ⟨S4224x2048, .bf16⟩
  | .hbm, ⟨11, _⟩ => ⟨S4224x2048, .f32⟩
  | .hbm, ⟨12, _⟩ => ⟨S1x4224x2048, .bf16⟩
  | .hbm, ⟨13, _⟩ => ⟨S4224x2048, .bf16⟩
  | .hbm, ⟨14, _⟩ => ⟨S4224x2048, .f32⟩
  | .hbm, ⟨15, _⟩ => ⟨S1x4224x2048, .bf16⟩
  | .hbm, ⟨16, _⟩ => ⟨S4224x2048, .bf16⟩
  | .hbm, ⟨17, _⟩ => ⟨S4224x2048, .f32⟩
  | .hbm, ⟨18, _⟩ => ⟨S4224x6144, .f32⟩
  | .hbm, ⟨19, _⟩ => ⟨S6144x2048, .f32⟩
  | .hbm, ⟨20, _⟩ => ⟨S2048x6144, .f32⟩
  | .hbm, ⟨21, _⟩ => ⟨S2048x6144, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== BODxKernel.lean ====
abbrev S2048x2048 : Shape := ⟨2, ![2048, 2048]⟩
abbrev S4224x2048 : Shape := ⟨2, ![4224, 2048]⟩
abbrev S1056x2048 : Shape := ⟨2, ![1056, 2048]⟩
abbrev S1024x2048 : Shape := ⟨2, ![1024, 2048]⟩
abbrev S1056x1024 : Shape := ⟨2, ![1056, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4224x2048, .bf16⟩
  | .hbm, ⟨2, _⟩ => ⟨S4224x2048, .bf16⟩
  | .local _ .vmem, ⟨0, _⟩ => ⟨S1056x2048, .bf16⟩
  | .local _ .vmem, ⟨1, _⟩ => ⟨S1056x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1056x1024, .bf16⟩
  | .local _ .vmem, ⟨5, _⟩ => ⟨S1056x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BODxReferenceIdeal.lean ====
abbrev S2048x2048 : Shape := ⟨2, ![2048, 2048]⟩
abbrev S4224x2048 : Shape := ⟨2, ![4224, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4224x2048, .bf16⟩
  | .hbm, ⟨2, _⟩ => ⟨S_, .f32⟩
  | .hbm, ⟨3, _⟩ => ⟨S4224x2048, .f32⟩
  | .hbm, ⟨4, _⟩ => ⟨S2048x2048, .f32⟩
  | .hbm, ⟨5, _⟩ => ⟨S4224x2048, .f32⟩
  | .hbm, ⟨6, _⟩ => ⟨S4224x2048, .f32⟩
  | .hbm, ⟨7, _⟩ => ⟨S4224x2048, .f32⟩
  | .hbm, ⟨8, _⟩ => ⟨S4224x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BODwKernel.lean ====
abbrev S4224x2048 : Shape := ⟨2, ![4224, 2048]⟩
abbrev S2048x4224 : Shape := ⟨2, ![2048, 4224]⟩
abbrev S2048x2048 : Shape := ⟨2, ![2048, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4224x2048, .f32⟩
  | .hbm, ⟨1, _⟩ => ⟨S4224x2048, .bf16⟩
  | .hbm, ⟨2, _⟩ => ⟨S4224x2048, .bf16⟩
  | .hbm, ⟨3, _⟩ => ⟨S2048x4224, .bf16⟩
  | .hbm, ⟨4, _⟩ => ⟨S2048x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BODwReferenceIdeal.lean ====
abbrev S4224x2048 : Shape := ⟨2, ![4224, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x2048, .bf16⟩
  | .hbm, ⟨2, _⟩ => ⟨S_, .f32⟩
  | .hbm, ⟨3, _⟩ => ⟨S2048x2048, .f32⟩
  | .hbm, ⟨4, _⟩ => ⟨S4224x2048, .f32⟩
  | .hbm, ⟨5, _⟩ => ⟨S4224x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KvDxKernel.lean ====
abbrev S2048x4096 : Shape := ⟨2, ![2048, 4096]⟩
abbrev S2x4224x2048 : Shape := ⟨3, ![2, 4224, 2048]⟩
abbrev S4224x2048 : Shape := ⟨2, ![4224, 2048]⟩
abbrev S1x1056x2048 : Shape := ⟨3, ![1, 1056, 2048]⟩
abbrev S1024x2048 : Shape := ⟨2, ![1024, 2048]⟩
abbrev S1056x1024 : Shape := ⟨2, ![1056, 1024]⟩
abbrev S1056x2048 : Shape := ⟨2, ![1056, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S2x4224x2048, .bf16⟩
  | .hbm, ⟨2, _⟩ => ⟨S4224x2048, .f32⟩
  | .local _ .vmem, ⟨0, _⟩ => ⟨S1x1056x2048, .bf16⟩
  | .local _ .vmem, ⟨1, _⟩ => ⟨S1x1056x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDxReferenceIdeal.lean ====
abbrev S2048x4096 : Shape := ⟨2, ![2048, 4096]⟩
abbrev S2x4224x2048 : Shape := ⟨3, ![2, 4224, 2048]⟩
abbrev S_ : Shape := ⟨0, ![]⟩
abbrev S4224x2048 : Shape := ⟨2, ![4224, 2048]⟩
abbrev S4224x4096 : Shape := ⟨2, ![4224, 4096]⟩
abbrev S1x4224x2048 : Shape := ⟨3, ![1, 4224, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2x4224x2048, .bf16⟩
  | .hbm, ⟨2, _⟩ => ⟨S_, .f32⟩
  | .hbm, ⟨3, _⟩ => ⟨S4224x2048, .f32⟩
  | .hbm, ⟨4, _⟩ => ⟨S2048x4096, .f32⟩
  | .hbm, ⟨5, _⟩ => ⟨S4224x4096, .f32⟩
  | .hbm, ⟨6, _⟩ => ⟨S4224x2048, .f32⟩
  | .hbm, ⟨7, _⟩ => ⟨S4224x2048, .f32⟩
  | .hbm, ⟨8, _⟩ => ⟨S1x4224x2048, .bf16⟩
  | .hbm, ⟨9, _⟩ => ⟨S4224x2048, .bf16⟩
  | .hbm, ⟨10, _⟩ => ⟨S4224x2048, .f32⟩
  | .hbm, ⟨11, _⟩ => ⟨S1x4224x2048, .bf16⟩
  | .hbm, ⟨12, _⟩ => ⟨S4224x2048, .bf16⟩
  | .hbm, ⟨13, _⟩ => ⟨S4224x2048, .f32⟩
  | .hbm, ⟨14, _⟩ => ⟨S4224x4096, .f32⟩
  | .hbm, ⟨15, _⟩ => ⟨S4224x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== KvDwKernel.lean ====
abbrev S4224x2048 : Shape := ⟨2, ![4224, 2048]⟩
abbrev S2x4224x2048 : Shape := ⟨3, ![2, 4224, 2048]⟩
abbrev S2048x4224 : Shape := ⟨2, ![2048, 4224]⟩
abbrev S2048x4096 : Shape := ⟨2, ![2048, 4096]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S2x4224x2048, .bf16⟩
  | .hbm, ⟨2, _⟩ => ⟨S2048x4224, .bf16⟩
  | .hbm, ⟨3, _⟩ => ⟨S2048x4096, .bf16⟩
  | .local _ .vmem, ⟨0, _⟩ => ⟨S1024x1408, .bf16⟩
  | .local _ .vmem, ⟨1, _⟩ => ⟨S1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDwReferenceIdeal.lean ====
abbrev S4224x2048 : Shape := ⟨2, ![4224, 2048]⟩
abbrev S2x4224x2048 : Shape := ⟨3, ![2, 4224, 2048]⟩
abbrev S_ : Shape := ⟨0, ![]⟩
abbrev S2048x4096 : Shape := ⟨2, ![2048, 4096]⟩
abbrev S4224x4096 : Shape := ⟨2, ![4224, 4096]⟩
abbrev S1x4224x2048 : Shape := ⟨3, ![1, 4224, 2048]⟩
abbrev S4096x2048 : Shape := ⟨2, ![4096, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2x4224x2048, .bf16⟩
  | .hbm, ⟨2, _⟩ => ⟨S_, .f32⟩
  | .hbm, ⟨3, _⟩ => ⟨S2048x4096, .f32⟩
  | .hbm, ⟨4, _⟩ => ⟨S4224x2048, .f32⟩
  | .hbm, ⟨5, _⟩ => ⟨S4224x4096, .f32⟩
  | .hbm, ⟨6, _⟩ => ⟨S4224x2048, .f32⟩
  | .hbm, ⟨7, _⟩ => ⟨S4224x2048, .f32⟩
  | .hbm, ⟨8, _⟩ => ⟨S1x4224x2048, .bf16⟩
  | .hbm, ⟨9, _⟩ => ⟨S4224x2048, .bf16⟩
  | .hbm, ⟨10, _⟩ => ⟨S4224x2048, .f32⟩
  | .hbm, ⟨11, _⟩ => ⟨S1x4224x2048, .bf16⟩
  | .hbm, ⟨12, _⟩ => ⟨S4224x2048, .bf16⟩
  | .hbm, ⟨13, _⟩ => ⟨S4224x2048, .f32⟩
  | .hbm, ⟨14, _⟩ => ⟨S4224x4096, .f32⟩
  | .hbm, ⟨15, _⟩ => ⟨S4096x2048, .f32⟩
  | .hbm, ⟨16, _⟩ => ⟨S2048x4096, .f32⟩
  | .hbm, ⟨17, _⟩ => ⟨S2048x4096, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== GuKernel.lean ====
abbrev S4224x2048 : Shape := ⟨2, ![4224, 2048]⟩
abbrev S2048x11264 : Shape := ⟨2, ![2048, 11264]⟩
abbrev S2x4224x5632 : Shape := ⟨3, ![2, 4224, 5632]⟩
abbrev S1056x2048 : Shape := ⟨2, ![1056, 2048]⟩
abbrev S2048x1408 : Shape := ⟨2, ![2048, 1408]⟩
abbrev S1x1056x1408 : Shape := ⟨3, ![1, 1056, 1408]⟩
abbrev S1056x1408 : Shape := ⟨2, ![1056, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S2048x11264, .bf16⟩
  | .hbm, ⟨2, _⟩ => ⟨S2x4224x5632, .bf16⟩
  | .local _ .vmem, ⟨0, _⟩ => ⟨S1056x2048, .bf16⟩
  | .local _ .vmem, ⟨1, _⟩ => ⟨S1056x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1x1056x1408, .bf16⟩
  | .local _ .vmem, ⟨5, _⟩ => ⟨S1x1056x1408, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1056x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuReferenceIdeal.lean ====
abbrev S4224x2048 : Shape := ⟨2, ![4224, 2048]⟩
abbrev S2048x11264 : Shape := ⟨2, ![2048, 11264]⟩
abbrev S4224x11264 : Shape := ⟨2, ![4224, 11264]⟩
abbrev S4224x5632 : Shape := ⟨2, ![4224, 5632]⟩
abbrev S1x4224x5632 : Shape := ⟨3, ![1, 4224, 5632]⟩
abbrev S2x4224x5632 : Shape := ⟨3, ![2, 4224, 5632]⟩

abbrev nBuf : Space → Nat
  | .hbm => 11
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x11264, .bf16⟩
  | .hbm, ⟨2, _⟩ => ⟨S4224x2048, .f32⟩
  | .hbm, ⟨3, _⟩ => ⟨S2048x11264, .f32⟩
  | .hbm, ⟨4, _⟩ => ⟨S4224x11264, .f32⟩
  | .hbm, ⟨5, _⟩ => ⟨S4224x5632, .f32⟩
  | .hbm, ⟨6, _⟩ => ⟨S4224x5632, .f32⟩
  | .hbm, ⟨7, _⟩ => ⟨S1x4224x5632, .f32⟩
  | .hbm, ⟨8, _⟩ => ⟨S1x4224x5632, .f32⟩
  | .hbm, ⟨9, _⟩ => ⟨S2x4224x5632, .f32⟩
  | .hbm, ⟨10, _⟩ => ⟨S2x4224x5632, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== DownKernel.lean ====
abbrev S4224x5632 : Shape := ⟨2, ![4224, 5632]⟩
abbrev S5632x2048 : Shape := ⟨2, ![5632, 2048]⟩
abbrev S4224x2048 : Shape := ⟨2, ![4224, 2048]⟩
abbrev S1056x1408 : Shape := ⟨2, ![1056, 1408]⟩
abbrev S1408x1024 : Shape := ⟨2, ![1408, 1024]⟩
abbrev S1056x1024 : Shape := ⟨2, ![1056, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x2048, .f32⟩
  | .hbm, ⟨3, _⟩ => ⟨S4224x2048, .f32⟩
  | .local _ .vmem, ⟨0, _⟩ => ⟨S1056x1408, .bf16⟩
  | .local _ .vmem, ⟨1, _⟩ => ⟨S1056x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | .local _ .vmem, ⟨7, _⟩ => ⟨S1056x1024, .f32⟩
  | .local _ .vmem, ⟨8, _⟩ => ⟨S1056x1024, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1056x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S4224x5632 : Shape := ⟨2, ![4224, 5632]⟩
abbrev S5632x2048 : Shape := ⟨2, ![5632, 2048]⟩
abbrev S4224x2048 : Shape := ⟨2, ![4224, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x2048, .f32⟩
  | .hbm, ⟨3, _⟩ => ⟨S4224x5632, .f32⟩
  | .hbm, ⟨4, _⟩ => ⟨S5632x2048, .f32⟩
  | .hbm, ⟨5, _⟩ => ⟨S4224x2048, .f32⟩
  | .hbm, ⟨6, _⟩ => ⟨S4224x2048, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AInKernel.lean ====
abbrev S4224x2048 : Shape := ⟨2, ![4224, 2048]⟩
abbrev S2048x6144 : Shape := ⟨2, ![2048, 6144]⟩
abbrev S3x4224x2048 : Shape := ⟨3, ![3, 4224, 2048]⟩
abbrev S1056x2048 : Shape := ⟨2, ![1056, 2048]⟩
abbrev S2048x1024 : Shape := ⟨2, ![2048, 1024]⟩
abbrev S1x1056x1024 : Shape := ⟨3, ![1, 1056, 1024]⟩
abbrev S1056x1024 : Shape := ⟨2, ![1056, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S2048x6144, .bf16⟩
  | .hbm, ⟨2, _⟩ => ⟨S3x4224x2048, .bf16⟩
  | .local _ .vmem, ⟨0, _⟩ => ⟨S1056x2048, .bf16⟩
  | .local _ .vmem, ⟨1, _⟩ => ⟨S1056x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1056x1024, .bf16⟩
  | .local _ .vmem, ⟨5, _⟩ => ⟨S1x1056x1024, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AInReferenceIdeal.lean ====
abbrev S4224x2048 : Shape := ⟨2, ![4224, 2048]⟩
abbrev S2048x6144 : Shape := ⟨2, ![2048, 6144]⟩
abbrev S4224x6144 : Shape := ⟨2, ![4224, 6144]⟩
abbrev S1x4224x2048 : Shape := ⟨3, ![1, 4224, 2048]⟩
abbrev S3x4224x2048 : Shape := ⟨3, ![3, 4224, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x6144, .bf16⟩
  | .hbm, ⟨2, _⟩ => ⟨S4224x2048, .f32⟩
  | .hbm, ⟨3, _⟩ => ⟨S2048x6144, .f32⟩
  | .hbm, ⟨4, _⟩ => ⟨S4224x6144, .f32⟩
  | .hbm, ⟨5, _⟩ => ⟨S4224x2048, .f32⟩
  | .hbm, ⟨6, _⟩ => ⟨S4224x2048, .f32⟩
  | .hbm, ⟨7, _⟩ => ⟨S4224x2048, .f32⟩
  | .hbm, ⟨8, _⟩ => ⟨S1x4224x2048, .f32⟩
  | .hbm, ⟨9, _⟩ => ⟨S1x4224x2048, .f32⟩
  | .hbm, ⟨10, _⟩ => ⟨S1x4224x2048, .f32⟩
  | .hbm, ⟨11, _⟩ => ⟨S3x4224x2048, .f32⟩
  | .hbm, ⟨12, _⟩ => ⟨S3x4224x2048, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== AOutKernel.lean ====
abbrev S4224x2048 : Shape := ⟨2, ![4224, 2048]⟩
abbrev S2048x2048 : Shape := ⟨2, ![2048, 2048]⟩
abbrev S528x2048 : Shape := ⟨2, ![528, 2048]⟩
abbrev S2048x1024 : Shape := ⟨2, ![2048, 1024]⟩
abbrev S528x1024 : Shape := ⟨2, ![528, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .hbm, ⟨3, _⟩ => ⟨S4224x2048, .f32⟩
  | .local _ .vmem, ⟨0, _⟩ => ⟨S528x2048, .bf16⟩
  | .local _ .vmem, ⟨1, _⟩ => ⟨S528x2048, .bf16⟩
  | .local _ .vmem, ⟨2, _⟩ => ⟨S2048x1024, .bf16⟩
  | .local _ .vmem, ⟨3, _⟩ => ⟨S2048x1024, .bf16⟩
  | .local _ .vmem, ⟨4, _⟩ => ⟨S528x1024, .f32⟩
  | .local _ .vmem, ⟨5, _⟩ => ⟨S528x1024, .f32⟩
  | .local _ .vmem, ⟨6, _⟩ => ⟨S528x1024, .f32⟩
  | .local _ .vmem, ⟨7, _⟩ => ⟨S528x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S528x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S528x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S528x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AOutReferenceIdeal.lean ====
abbrev S4224x2048 : Shape := ⟨2, ![4224, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .hbm, ⟨3, _⟩ => ⟨S4224x2048, .f32⟩
  | .hbm, ⟨4, _⟩ => ⟨S2048x2048, .f32⟩
  | .hbm, ⟨5, _⟩ => ⟨S4224x2048, .f32⟩
  | .hbm, ⟨6, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KvKernel.lean ====
abbrev S4224x2048 : Shape := ⟨2, ![4224, 2048]⟩
abbrev S2048x4096 : Shape := ⟨2, ![2048, 4096]⟩
abbrev S2x4224x2048 : Shape := ⟨3, ![2, 4224, 2048]⟩
abbrev S1056x2048 : Shape := ⟨2, ![1056, 2048]⟩
abbrev S2048x1024 : Shape := ⟨2, ![2048, 1024]⟩
abbrev S1x1056x1024 : Shape := ⟨3, ![1, 1056, 1024]⟩
abbrev S1056x1024 : Shape := ⟨2, ![1056, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S2048x4096, .bf16⟩
  | .hbm, ⟨2, _⟩ => ⟨S2x4224x2048, .f32⟩
  | .local _ .vmem, ⟨0, _⟩ => ⟨S1056x2048, .bf16⟩
  | .local _ .vmem, ⟨1, _⟩ => ⟨S1056x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1056x1024, .f32⟩
  | .local _ .vmem, ⟨5, _⟩ => ⟨S1x1056x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvReferenceIdeal.lean ====
abbrev S4224x2048 : Shape := ⟨2, ![4224, 2048]⟩
abbrev S2048x4096 : Shape := ⟨2, ![2048, 4096]⟩
abbrev S4224x4096 : Shape := ⟨2, ![4224, 4096]⟩
abbrev S1x4224x2048 : Shape := ⟨3, ![1, 4224, 2048]⟩
abbrev S2x4224x2048 : Shape := ⟨3, ![2, 4224, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x4096, .bf16⟩
  | .hbm, ⟨2, _⟩ => ⟨S4224x2048, .f32⟩
  | .hbm, ⟨3, _⟩ => ⟨S2048x4096, .f32⟩
  | .hbm, ⟨4, _⟩ => ⟨S4224x4096, .f32⟩
  | .hbm, ⟨5, _⟩ => ⟨S4224x2048, .f32⟩
  | .hbm, ⟨6, _⟩ => ⟨S4224x2048, .f32⟩
  | .hbm, ⟨7, _⟩ => ⟨S1x4224x2048, .f32⟩
  | .hbm, ⟨8, _⟩ => ⟨S1x4224x2048, .f32⟩
  | .hbm, ⟨9, _⟩ => ⟨S2x4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== BQKernel.lean ====
abbrev S4224x2048 : Shape := ⟨2, ![4224, 2048]⟩
abbrev S2048x2048 : Shape := ⟨2, ![2048, 2048]⟩
abbrev S1056x2048 : Shape := ⟨2, ![1056, 2048]⟩
abbrev S2048x1024 : Shape := ⟨2, ![2048, 1024]⟩
abbrev S1056x1024 : Shape := ⟨2, ![1056, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .local _ .vmem, ⟨0, _⟩ => ⟨S1056x2048, .bf16⟩
  | .local _ .vmem, ⟨1, _⟩ => ⟨S1056x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1056x1024, .f32⟩
  | .local _ .vmem, ⟨5, _⟩ => ⟨S1056x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BQReferenceIdeal.lean ====
abbrev S4224x2048 : Shape := ⟨2, ![4224, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .hbm, ⟨3, _⟩ => ⟨S2048x2048, .f32⟩
  | .hbm, ⟨4, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BOKernel.lean ====
abbrev S4224x2048 : Shape := ⟨2, ![4224, 2048]⟩
abbrev S2048x2048 : Shape := ⟨2, ![2048, 2048]⟩
abbrev S528x2048 : Shape := ⟨2, ![528, 2048]⟩
abbrev S2048x1024 : Shape := ⟨2, ![2048, 1024]⟩
abbrev S528x1024 : Shape := ⟨2, ![528, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4224x2048, .f32⟩
  | .hbm, ⟨1, _⟩ => ⟨S2048x2048, .bf16⟩
  | .hbm, ⟨2, _⟩ => ⟨S4224x2048, .f32⟩
  | .hbm, ⟨3, _⟩ => ⟨S4224x2048, .f32⟩
  | .local _ .vmem, ⟨0, _⟩ => ⟨S528x2048, .f32⟩
  | .local _ .vmem, ⟨1, _⟩ => ⟨S528x2048, .f32⟩
  | .local _ .vmem, ⟨2, _⟩ => ⟨S2048x1024, .bf16⟩
  | .local _ .vmem, ⟨3, _⟩ => ⟨S2048x1024, .bf16⟩
  | .local _ .vmem, ⟨4, _⟩ => ⟨S528x1024, .f32⟩
  | .local _ .vmem, ⟨5, _⟩ => ⟨S528x1024, .f32⟩
  | .local _ .vmem, ⟨6, _⟩ => ⟨S528x1024, .f32⟩
  | .local _ .vmem, ⟨7, _⟩ => ⟨S528x1024, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S528x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S528x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S528x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== BOReferenceIdeal.lean ====
abbrev S4224x2048 : Shape := ⟨2, ![4224, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x2048, .bf16⟩
  | .hbm, ⟨2, _⟩ => ⟨S4224x2048, .f32⟩
  | .hbm, ⟨3, _⟩ => ⟨S2048x2048, .f32⟩
  | .hbm, ⟨4, _⟩ => ⟨S4224x2048, .f32⟩
  | .hbm, ⟨5, _⟩ => ⟨S4224x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AttnTwoKernel.lean ====
abbrev S4224x2048 : Shape := ⟨2, ![4224, 2048]⟩
abbrev S16x4224 : Shape := ⟨2, ![16, 4224]⟩
abbrev S16x11x1x384 : Shape := ⟨4, ![16, 11, 1, 384]⟩
abbrev S4112x2048 : Shape := ⟨2, ![4112, 2048]⟩
abbrev S4112x16x128 : Shape := ⟨3, ![4112, 16, 128]⟩
abbrev S4224x16x128 : Shape := ⟨3, ![4224, 16, 128]⟩
abbrev S16x4112x4224 : Shape := ⟨3, ![16, 4112, 4224]⟩
abbrev S_ : Shape := ⟨0, ![]⟩
abbrev S16x4112 : Shape := ⟨2, ![16, 4112]⟩
abbrev S16x4112x1 : Shape := ⟨3, ![16, 4112, 1]⟩
abbrev S16x1x4224 : Shape := ⟨3, ![16, 1, 4224]⟩
abbrev S4224 : Shape := ⟨1, ![4224]⟩
abbrev S1x4224 : Shape := ⟨2, ![1, 4224]⟩
abbrev S4112 : Shape := ⟨1, ![4112]⟩
abbrev S4112x1 : Shape := ⟨2, ![4112, 1]⟩
abbrev S4112x4224 : Shape := ⟨2, ![4112, 4224]⟩
abbrev S16x128x4112 : Shape := ⟨3, ![16, 128, 4112]⟩
abbrev S16x4224x1 : Shape := ⟨3, ![16, 4224, 1]⟩
abbrev S16x4224x128 : Shape := ⟨3, ![16, 4224, 128]⟩
abbrev S4224x16 : Shape := ⟨2, ![4224, 16]⟩
abbrev S4224x128 : Shape := ⟨2, ![4224, 128]⟩
abbrev S384x128 : Shape := ⟨2, ![384, 128]⟩
abbrev S1x4224x128 : Shape := ⟨3, ![1, 4224, 128]⟩
abbrev S1x1x1x384 : Shape := ⟨4, ![1, 1, 1, 384]⟩
abbrev S1x384 : Shape := ⟨2, ![1, 384]⟩
abbrev S1x384x128 : Shape := ⟨3, ![1, 384, 128]⟩
abbrev S384x1 : Shape := ⟨2, ![384, 1]⟩
abbrev S384 : Shape := ⟨1, ![384]⟩
abbrev S384x384 : Shape := ⟨2, ![384, 384]⟩

abbrev nBuf : Space → Nat
  | .hbm => 80
  | .vmem => 29
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S4224x2048, .bf16⟩
  | .hbm, ⟨3, _⟩ => ⟨S16x4224, .f32⟩
  | .hbm, ⟨4, _⟩ => ⟨S4224x2048, .bf16⟩
  | .hbm, ⟨5, _⟩ => ⟨S4224x2048, .f32⟩
  | .hbm, ⟨6, _⟩ => ⟨S4224x2048, .f32⟩
  | .hbm, ⟨7, _⟩ => ⟨S16x11x1x384, .f32⟩
  | .hbm, ⟨8, _⟩ => ⟨S4112x2048, .bf16⟩
  | .hbm, ⟨9, _⟩ => ⟨S4112x2048, .f32⟩
  | .hbm, ⟨10, _⟩ => ⟨S4112x16x128, .f32⟩
  | .hbm, ⟨11, _⟩ => ⟨S4224x2048, .f32⟩
  | .hbm, ⟨12, _⟩ => ⟨S4224x16x128, .f32⟩
  | .hbm, ⟨13, _⟩ => ⟨S16x4112x4224, .f32⟩
  | .hbm, ⟨14, _⟩ => ⟨S_, .f32⟩
  | .hbm, ⟨15, _⟩ => ⟨S16x4112x4224, .f32⟩
  | .hbm, ⟨16, _⟩ => ⟨S16x4112x4224, .f32⟩
  | .hbm, ⟨17, _⟩ => ⟨S16x4112, .f32⟩
  | .hbm, ⟨18, _⟩ => ⟨S16x4112x1, .f32⟩
  | .hbm, ⟨19, _⟩ => ⟨S16x1x4224, .f32⟩
  | .hbm, ⟨20, _⟩ => ⟨S16x4112x4224, .f32⟩
  | .hbm, ⟨21, _⟩ => ⟨S16x4112x4224, .f32⟩
  | .hbm, ⟨22, _⟩ => ⟨S16x4112x4224, .f32⟩
  | .hbm, ⟨23, _⟩ => ⟨S16x4112x4224, .f32⟩
  | .hbm, ⟨24, _⟩ => ⟨S4224, .i32⟩
  | .hbm, ⟨25, _⟩ => ⟨S1x4224, .i32⟩
  | .hbm, ⟨26, _⟩ => ⟨S4112, .i32⟩
  | .hbm, ⟨27, _⟩ => ⟨S4112x1, .i32⟩
  | .hbm, ⟨28, _⟩ => ⟨S_, .i32⟩
  | .hbm, ⟨29, _⟩ => ⟨S4112x1, .i32⟩
  | .hbm, ⟨30, _⟩ => ⟨S4112x1, .i32⟩
  | .hbm, ⟨31, _⟩ => ⟨S4112x4224, .i32⟩
  | .hbm, ⟨32, _⟩ => ⟨S4112x4224, .i32⟩
  | .hbm, ⟨33, _⟩ => ⟨S4112x4224, .i1⟩
  | .hbm, ⟨34, _⟩ => ⟨S4224, .i32⟩
  | .hbm, ⟨35, _⟩ => ⟨S1x4224, .i32⟩
  | .hbm, ⟨36, _⟩ => ⟨S_, .i32⟩
  | .hbm, ⟨37, _⟩ => ⟨S1x4224, .i32⟩
  | .hbm, ⟨38, _⟩ => ⟨S1x4224, .i1⟩
  | .hbm, ⟨39, _⟩ => ⟨S4112x4224, .i1⟩
  | .hbm, ⟨40, _⟩ => ⟨S4112x4224, .i1⟩
  | .hbm, ⟨41, _⟩ => ⟨S_, .f32⟩
  | .hbm, ⟨42, _⟩ => ⟨S_, .f32⟩
  | .hbm, ⟨43, _⟩ => ⟨S16x4112x4224, .i1⟩
  | .hbm, ⟨44, _⟩ => ⟨S16x4112x4224, .f32⟩
  | .hbm, ⟨45, _⟩ => ⟨S16x4112x4224, .f32⟩
  | .hbm, ⟨46, _⟩ => ⟨S_, .f32⟩
  | .hbm, ⟨47, _⟩ => ⟨S16x4112, .f32⟩
  | .hbm, ⟨48, _⟩ => ⟨S16x4112x1, .f32⟩
  | .hbm, ⟨49, _⟩ => ⟨S16x4112x4224, .f32⟩
  | .hbm, ⟨50, _⟩ => ⟨S16x4112x4224, .f32⟩
  | .hbm, ⟨51, _⟩ => ⟨S16x4112x4224, .f32⟩
  | .hbm, ⟨52, _⟩ => ⟨S_, .f32⟩
  | .hbm, ⟨53, _⟩ => ⟨S16x4112, .f32⟩
  | .hbm, ⟨54, _⟩ => ⟨S16x4112x1, .f32⟩
  | .hbm, ⟨55, _⟩ => ⟨S16x4112x4224, .f32⟩
  | .hbm, ⟨56, _⟩ => ⟨S16x4112x4224, .f32⟩
  | .hbm, ⟨57, _⟩ => ⟨S4224x2048, .f32⟩
  | .hbm, ⟨58, _⟩ => ⟨S4224x16x128, .f32⟩
  | .hbm, ⟨59, _⟩ => ⟨S16x128x4112, .f32⟩
  | .hbm, ⟨60, _⟩ => ⟨S4112x16x128, .f32⟩
  | .hbm, ⟨61, _⟩ => ⟨S4112x2048, .f32⟩
  | .hbm, ⟨62, _⟩ => ⟨S_, .i32⟩
  | .hbm, ⟨63, _⟩ => ⟨S_, .f32⟩
  | .hbm, ⟨64, _⟩ => ⟨S4224x2048, .f32⟩
  | .hbm, ⟨65, _⟩ => ⟨S16x4112x1, .f32⟩
  | .hbm, ⟨66, _⟩ => ⟨S16x4112x1, .f32⟩
  | .hbm, ⟨67, _⟩ => ⟨S_, .i32⟩
  | .hbm, ⟨68, _⟩ => ⟨S_, .f32⟩
  | .hbm, ⟨69, _⟩ => ⟨S16x4224x1, .f32⟩
  | .hbm, ⟨70, _⟩ => ⟨S16x4224x128, .f32⟩
  | .hbm, ⟨71, _⟩ => ⟨S4224x16, .f32⟩
  | .hbm, ⟨72, _⟩ => ⟨S_, .i32⟩
  | .hbm, ⟨73, _⟩ => ⟨S_, .f32⟩
  | .hbm, ⟨74, _⟩ => ⟨S4224x128, .f32⟩
  | .hbm, ⟨75, _⟩ => ⟨S16x11x1x384, .f32⟩
  | .hbm, ⟨76, _⟩ => ⟨S4224x2048, .f32⟩
  | .hbm, ⟨77, _⟩ => ⟨S4224x2048, .f32⟩
  | .hbm, ⟨78, _⟩ => ⟨S4224x2048, .f32⟩
  | .hbm, ⟨79, _⟩ => ⟨S16x11x1x384, .f32⟩
  | .local _ .vmem, ⟨0, _⟩ => ⟨S4224x128, .bf16⟩
  | .local _ .vmem, ⟨1, _⟩ => ⟨S4224x128, .bf16⟩
  | .local _ .vmem, ⟨2, _⟩ => ⟨S384x128, .bf16⟩
  | .local _ .vmem, ⟨3, _⟩ => ⟨S384x128, .bf16⟩
  | .local _ .vmem, ⟨4, _⟩ => ⟨S384x128, .bf16⟩
  | .local _ .vmem, ⟨5, _⟩ => ⟨S384x128, .bf16⟩
  | .local _ .vmem, ⟨6, _⟩ => ⟨S4224x128, .f32⟩
  | .local _ .vmem, ⟨7, _⟩ => ⟨S4224x128, .f32⟩
  | .local _ .vmem, ⟨8, _⟩ => ⟨S4224x128, .bf16⟩
  | .local _ .vmem, ⟨9, _⟩ => ⟨S4224x128, .bf16⟩
  | .local _ .vmem, ⟨10, _⟩ => ⟨S1x4224x128, .f32⟩
  | .local _ .vmem, ⟨11, _⟩ => ⟨S1x4224x128, .f32⟩
  | .local _ .vmem, ⟨12, _⟩ => ⟨S4224x128, .f32⟩
  | .local _ .vmem, ⟨13, _⟩ => ⟨S1x1x1x384, .f32⟩
  | .local _ .vmem, ⟨14, _⟩ => ⟨S1x1x1x384, .f32⟩
  | .local _ .vmem, ⟨15, _⟩ => ⟨S384x128, .f32⟩
  | .local _ .vmem, ⟨16, _⟩ => ⟨S384x128, .f32⟩
  | .local _ .vmem, ⟨17, _⟩ => ⟨S384x128, .f32⟩
  | .local _ .vmem, ⟨18, _⟩ => ⟨S384x128, .f32⟩
  | .local _ .vmem, ⟨19, _⟩ => ⟨S1x1x1x384, .f32⟩
  | .local _ .vmem, ⟨20, _⟩ => ⟨S1x1x1x384, .f32⟩
  | .local _ .vmem, ⟨21, _⟩ => ⟨S4224x128, .f32⟩
  | .local _ .vmem, ⟨22, _⟩ => ⟨S4224x128, .f32⟩
  | .local _ .vmem, ⟨23, _⟩ => ⟨S384x128, .f32⟩
  | .local _ .vmem, ⟨24, _⟩ => ⟨S384x128, .f32⟩
  | .local _ .vmem, ⟨25, _⟩ => ⟨S384x128, .f32⟩
  | .local _ .vmem, ⟨26, _⟩ => ⟨S384x128, .f32⟩
  | .local _ .vmem, ⟨27, _⟩ => ⟨S1x1x1x384, .f32⟩
  | .local _ .vmem, ⟨28, _⟩ => ⟨S1x1x1x384, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_4 : Ref sig .tc := ⟨.hbm, 62, rfl⟩
abbrev main_call1_v0 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_5 : Ref sig .tc := ⟨.hbm, 67, rfl⟩
abbrev main_call2_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_6 : Ref sig .tc := ⟨.hbm, 72, rfl⟩
abbrev main_call3_v0 : Ref sig .tc := ⟨.hbm, 73, rfl⟩
abbrev main_v51 : Ref sig .tc := ⟨.hbm, 74, rfl⟩
abbrev main_v52 : Ref sig .tc := ⟨.hbm, 75, rfl⟩
abbrev main_v53_0 : Ref sig .tc := ⟨.hbm, 76, rfl⟩
abbrev main_v53_1 : Ref sig .tc := ⟨.hbm, 77, rfl⟩
abbrev main_v53_2 : Ref sig .tc := ⟨.hbm, 78, rfl⟩
abbrev main_v53_3 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![16, 11], ![false, false]⟩

def k0_mult1 (i : grid0.Coords) : BitVec 32 :=
  let arg1 : BitVec 32 := BitVec.ofNat 32 (i 1).val
  let c384_i32 : BitVec 32 := 384#32
  let v10 : BitVec 32 := Scalar.muli arg1 c384_i32
  v10
def k0_off1 (i : grid0.Coords) : Fin 2 → Nat :=
  let arg1 : BitVec 32 := BitVec.ofNat 32 (i 1).val
  let c384_i32 : BitVec 32 := 384#32
  let v10 : BitVec 32 := Scalar.muli arg1 c384_i32
  let v11 : BitVec 32 := v10
  let v12 : Index := Scalar.indexCast v11
  let c0_10 : Index := 0#32
  ![v12.toNat, 0]
def k0_off2 (i : grid0.Coords) : Fin 3 → Nat :=
  let c0_12 : Index := 0#32
  let arg1 : BitVec 32 := BitVec.ofNat 32 (i 1).val
  let c384_i32 : BitVec 32 := 384#32
  let v10 : BitVec 32 := Scalar.muli arg1 c384_i32
  let v11 : BitVec 32 := v10
  let v16 : Index := Scalar.indexCast v11
  let c0_13 : Index := 0#32
  ![0, v16.toNat, 0]
def k0_cond2 (i : grid0.Coords) : BitVec 1 :=
  let arg1 : BitVec 32 := BitVec.ofNat 32 (i 1).val
  let c0_i32_32 : BitVec 32 := 0#32
  let v83 : BitVec 1 := Scalar.cmpi .eq arg1 c0_i32_32
  let v84 : BitVec 32 := Scalar.extui v83
  let c0_i32_33 : BitVec 32 := 0#32
  let v85 : BitVec 1 := Scalar.cmpi .ne v84 c0_i32_33
  v85

@[reducible] def k0_t1_loop (i : grid0.Coords) : Scf.Loop 32 :=
  let arg1 : BitVec 32 := BitVec.ofNat 32 (i 1).val
  let c1_i32 : BitVec 32 := 1#32
  let v101 : BitVec 32 := Scalar.addi arg1 c1_i32
  let c11_i32 : BitVec 32 := 11#32
  let v102 : BitVec 32 := Scalar.subi c11_i32 v101
  let c1_i32_51 : BitVec 32 := 1#32
  let v104 : BitVec 32 := Scalar.divsi v102 c1_i32_51
  let v105 : BitVec 32 := Scalar.muli v104 c1_i32_51
  let v106 : BitVec 32 := Scalar.addi v101 v105
  let c1_i32_52 : BitVec 32 := 1#32
  ⟨v101, v106, c1_i32_52⟩
def k0_mult2 (i : grid0.Coords) (k0_t1 : Fin (k0_t1_loop i).trips) : BitVec 32 :=
  let arg1 : BitVec 32 := BitVec.ofNat 32 (i 1).val
  let c1_i32 : BitVec 32 := 1#32
  let v101 : BitVec 32 := Scalar.addi arg1 c1_i32
  let c1_i32_52 : BitVec 32 := 1#32
  let arg17 : BitVec 32 := Scf.iv v101 c1_i32_52 k0_t1
  let c384_i32_54 : BitVec 32 := 384#32
  let v109 : BitVec 32 := Scalar.muli arg17 c384_i32_54
  v109
def k0_off3 (i : grid0.Coords) (k0_t1 : Fin (k0_t1_loop i).trips) : Fin 2 → Nat :=
  let arg1 : BitVec 32 := BitVec.ofNat 32 (i 1).val
  let c1_i32 : BitVec 32 := 1#32
  let v101 : BitVec 32 := Scalar.addi arg1 c1_i32
  let c1_i32_52 : BitVec 32 := 1#32
  let arg17 : BitVec 32 := Scf.iv v101 c1_i32_52 k0_t1
  let c384_i32_54 : BitVec 32 := 384#32
  let v109 : BitVec 32 := Scalar.muli arg17 c384_i32_54
  let v110 : BitVec 32 := v109
  let v111 : Index := Scalar.indexCast v110
  let c0_55 : Index := 0#32
  ![v111.toNat, 0]
def k0_off4 (i : grid0.Coords) (k0_t1 : Fin (k0_t1_loop i).trips) : Fin 3 → Nat :=
  let c0_57 : Index := 0#32
  let arg1 : BitVec 32 := BitVec.ofNat 32 (i 1).val
  let c1_i32 : BitVec 32 := 1#32
  let v101 : BitVec 32 := Scalar.addi arg1 c1_i32
  let c1_i32_52 : BitVec 32 := 1#32
  let arg17 : BitVec 32 := Scf.iv v101 c1_i32_52 k0_t1
  let c384_i32_54 : BitVec 32 := 384#32
  let v109 : BitVec 32 := Scalar.muli arg17 c384_i32_54
  let v110 : BitVec 32 := v109
  let v115 : Index := Scalar.indexCast v110
  let c0_58 : Index := 0#32
  ![0, v115.toNat, 0]
@[reducible] def k0_t2_loop (i : grid0.Coords) : Scf.Loop 32 :=
  let arg1 : BitVec 32 := BitVec.ofNat 32 (i 1).val
  let c1_i32 : BitVec 32 := 1#32
  let v101 : BitVec 32 := Scalar.addi arg1 c1_i32
  let c11_i32 : BitVec 32 := 11#32
  let v102 : BitVec 32 := Scalar.subi c11_i32 v101
  let c1_i32_51 : BitVec 32 := 1#32
  let v104 : BitVec 32 := Scalar.divsi v102 c1_i32_51
  let v105 : BitVec 32 := Scalar.muli v104 c1_i32_51
  let v106 : BitVec 32 := Scalar.addi v101 v105
  let v103 : BitVec 32 := Scalar.addi v101 v102
  let c1_i32_53 : BitVec 32 := 1#32
  ⟨v106, v103, c1_i32_53⟩
def k0_mult3 (i : grid0.Coords) (k0_t2 : Fin (k0_t2_loop i).trips) : BitVec 32 :=
  let arg1 : BitVec 32 := BitVec.ofNat 32 (i 1).val
  let c1_i32 : BitVec 32 := 1#32
  let v101 : BitVec 32 := Scalar.addi arg1 c1_i32
  let c11_i32 : BitVec 32 := 11#32
  let v102 : BitVec 32 := Scalar.subi c11_i32 v101
  let c1_i32_51 : BitVec 32 := 1#32
  let v104 : BitVec 32 := Scalar.divsi v102 c1_i32_51
  let v105 : BitVec 32 := Scalar.muli v104 c1_i32_51
  let v106 : BitVec 32 := Scalar.addi v101 v105
  let c1_i32_53 : BitVec 32 := 1#32
  let arg17 : BitVec 32 := Scf.iv v106 c1_i32_53 k0_t2
  let c384_i32_54 : BitVec 32 := 384#32
  let v109 : BitVec 32 := Scalar.muli arg17 c384_i32_54
  v109
def k0_off5 (i : grid0.Coords) (k0_t2 : Fin (k0_t2_loop i).trips) : Fin 2 → Nat :=
  let arg1 : BitVec 32 := BitVec.ofNat 32 (i 1).val
  let c1_i32 : BitVec 32 := 1#32
  let v101 : BitVec 32 := Scalar.addi arg1 c1_i32
  let c11_i32 : BitVec 32 := 11#32
  let v102 : BitVec 32 := Scalar.subi c11_i32 v101
  let c1_i32_51 : BitVec 32 := 1#32
  let v104 : BitVec 32 := Scalar.divsi v102 c1_i32_51
  let v105 : BitVec 32 := Scalar.muli v104 c1_i32_51
  let v106 : BitVec 32 := Scalar.addi v101 v105
  let c1_i32_53 : BitVec 32 := 1#32
  let arg17 : BitVec 32 := Scf.iv v106 c1_i32_53 k0_t2
  let c384_i32_54 : BitVec 32 := 384#32
  let v109 : BitVec 32 := Scalar.muli arg17 c384_i32_54
  let v110 : BitVec 32 := v109
  let v111 : Index := Scalar.indexCast v110
  let c0_55 : Index := 0#32
  ![v111.toNat, 0]
def k0_off6 (i : grid0.Coords) (k0_t2 : Fin (k0_t2_loop i).trips) : Fin 3 → Nat :=
  let c0_57 : Index := 0#32
  let arg1 : BitVec 32 := BitVec.ofNat 32 (i 1).val
  let c1_i32 : BitVec 32 := 1#32
  let v101 : BitVec 32 := Scalar.addi arg1 c1_i32
  let c11_i32 : BitVec 32 := 11#32
  let v102 : BitVec 32 := Scalar.subi c11_i32 v101
  let c1_i32_51 : BitVec 32 := 1#32
  let v104 : BitVec 32 := Scalar.divsi v102 c1_i32_51
  let v105 : BitVec 32 := Scalar.muli v104 c1_i32_51
  let v106 : BitVec 32 := Scalar.addi v101 v105
  let c1_i32_53 : BitVec 32 := 1#32
  let arg17 : BitVec 32 := Scf.iv v106 c1_i32_53 k0_t2
  let c384_i32_54 : BitVec 32 := 384#32
  let v109 : BitVec 32 := Scalar.muli arg17 c384_i32_54
  let v110 : BitVec 32 := v109
  let v115 : Index := Scalar.indexCast v110
  let c0_58 : Index := 0#32
  ![0, v115.toNat, 0]
@[reducible] def k0_t3_loop (i : grid0.Coords) : Scf.Loop 32 :=
  let arg1 : BitVec 32 := BitVec.ofNat 32 (i 1).val
  let c1_i32 : BitVec 32 := 1#32
  let v101 : BitVec 32 := Scalar.addi arg1 c1_i32
  let c11_i32 : BitVec 32 := 11#32
  let v102 : BitVec 32 := Scalar.subi c11_i32 v101
  let c1_i32_51 : BitVec 32 := 1#32
  let v104 : BitVec 32 := Scalar.divsi v102 c1_i32_51
  let v105 : BitVec 32 := Scalar.muli v104 c1_i32_51
  let v106 : BitVec 32 := Scalar.addi v101 v105
  let c1_i32_52 : BitVec 32 := 1#32
  ⟨v101, v106, c1_i32_52⟩
def k0_mult4 (i : grid0.Coords) (k0_t3 : Fin (k0_t3_loop i).trips) : BitVec 32 :=
  let arg1 : BitVec 32 := BitVec.ofNat 32 (i 1).val
  let c1_i32 : BitVec 32 := 1#32
  let v101 : BitVec 32 := Scalar.addi arg1 c1_i32
  let c1_i32_52 : BitVec 32 := 1#32
  let arg17 : BitVec 32 := Scf.iv v101 c1_i32_52 k0_t3
  let c384_i32_54 : BitVec 32 := 384#32
  let v109 : BitVec 32 := Scalar.muli arg17 c384_i32_54
  v109
def k0_off7 (i : grid0.Coords) (k0_t3 : Fin (k0_t3_loop i).trips) : Fin 2 → Nat :=
  let arg1 : BitVec 32 := BitVec.ofNat 32 (i 1).val
  let c1_i32 : BitVec 32 := 1#32
  let v101 : BitVec 32 := Scalar.addi arg1 c1_i32
  let c1_i32_52 : BitVec 32 := 1#32
  let arg17 : BitVec 32 := Scf.iv v101 c1_i32_52 k0_t3
  let c384_i32_54 : BitVec 32 := 384#32
  let v109 : BitVec 32 := Scalar.muli arg17 c384_i32_54
  let v110 : BitVec 32 := v109
  let v111 : Index := Scalar.indexCast v110
  let c0_55 : Index := 0#32
  ![v111.toNat, 0]
def k0_off8 (i : grid0.Coords) (k0_t3 : Fin (k0_t3_loop i).trips) : Fin 3 → Nat :=
  let c0_57 : Index := 0#32
  let arg1 : BitVec 32 := BitVec.ofNat 32 (i 1).val
  let c1_i32 : BitVec 32 := 1#32
  let v101 : BitVec 32 := Scalar.addi arg1 c1_i32
  let c1_i32_52 : BitVec 32 := 1#32
  let arg17 : BitVec 32 := Scf.iv v101 c1_i32_52 k0_t3
  let c384_i32_54 : BitVec 32 := 384#32
  let v109 : BitVec 32 := Scalar.muli arg17 c384_i32_54
  let v110 : BitVec 32 := v109
  let v115 : Index := Scalar.indexCast v110
  let c0_58 : Index := 0#32
  ![0, v115.toNat, 0]
@[reducible] def k0_t4_loop (i : grid0.Coords) : Scf.Loop 32 :=
  let arg1 : BitVec 32 := BitVec.ofNat 32 (i 1).val
  let c1_i32 : BitVec 32 := 1#32
  let v101 : BitVec 32 := Scalar.addi arg1 c1_i32
  let c11_i32 : BitVec 32 := 11#32
  let v102 : BitVec 32 := Scalar.subi c11_i32 v101
  let c1_i32_51 : BitVec 32 := 1#32
  let v104 : BitVec 32 := Scalar.divsi v102 c1_i32_51
  let v105 : BitVec 32 := Scalar.muli v104 c1_i32_51
  let v106 : BitVec 32 := Scalar.addi v101 v105
  let v103 : BitVec 32 := Scalar.addi v101 v102
  let c1_i32_53 : BitVec 32 := 1#32
  ⟨v106, v103, c1_i32_53⟩
def k0_mult5 (i : grid0.Coords) (k0_t4 : Fin (k0_t4_loop i).trips) : BitVec 32 :=
  let arg1 : BitVec 32 := BitVec.ofNat 32 (i 1).val
  let c1_i32 : BitVec 32 := 1#32
  let v101 : BitVec 32 := Scalar.addi arg1 c1_i32
  let c11_i32 : BitVec 32 := 11#32
  let v102 : BitVec 32 := Scalar.subi c11_i32 v101
  let c1_i32_51 : BitVec 32 := 1#32
  let v104 : BitVec 32 := Scalar.divsi v102 c1_i32_51
  let v105 : BitVec 32 := Scalar.muli v104 c1_i32_51
  let v106 : BitVec 32 := Scalar.addi v101 v105
  let c1_i32_53 : BitVec 32 := 1#32
  let arg17 : BitVec 32 := Scf.iv v106 c1_i32_53 k0_t4
  let c384_i32_54 : BitVec 32 := 384#32
  let v109 : BitVec 32 := Scalar.muli arg17 c384_i32_54
  v109
def k0_off9 (i : grid0.Coords) (k0_t4 : Fin (k0_t4_loop i).trips) : Fin 2 → Nat :=
  let arg1 : BitVec 32 := BitVec.ofNat 32 (i 1).val
  let c1_i32 : BitVec 32 := 1#32
  let v101 : BitVec 32 := Scalar.addi arg1 c1_i32
  let c11_i32 : BitVec 32 := 11#32
  let v102 : BitVec 32 := Scalar.subi c11_i32 v101
  let c1_i32_51 : BitVec 32 := 1#32
  let v104 : BitVec 32 := Scalar.divsi v102 c1_i32_51
  let v105 : BitVec 32 := Scalar.muli v104 c1_i32_51
  let v106 : BitVec 32 := Scalar.addi v101 v105
  let c1_i32_53 : BitVec 32 := 1#32
  let arg17 : BitVec 32 := Scf.iv v106 c1_i32_53 k0_t4
  let c384_i32_54 : BitVec 32 := 384#32
  let v109 : BitVec 32 := Scalar.muli arg17 c384_i32_54
  let v110 : BitVec 32 := v109
  let v111 : Index := Scalar.indexCast v110
  let c0_55 : Index := 0#32
  ![v111.toNat, 0]
def k0_off10 (i : grid0.Coords) (k0_t4 : Fin (k0_t4_loop i).trips) : Fin 3 → Nat :=
  let c0_57 : Index := 0#32
  let arg1 : BitVec 32 := BitVec.ofNat 32 (i 1).val
  let c1_i32 : BitVec 32 := 1#32
  let v101 : BitVec 32 := Scalar.addi arg1 c1_i32
  let c11_i32 : BitVec 32 := 11#32
  let v102 : BitVec 32 := Scalar.subi c11_i32 v101
  let c1_i32_51 : BitVec 32 := 1#32
  let v104 : BitVec 32 := Scalar.divsi v102 c1_i32_51
  let v105 : BitVec 32 := Scalar.muli v104 c1_i32_51
  let v106 : BitVec 32 := Scalar.addi v101 v105
  let c1_i32_53 : BitVec 32 := 1#32
  let arg17 : BitVec 32 := Scf.iv v106 c1_i32_53 k0_t4
  let c384_i32_54 : BitVec 32 := 384#32
  let v109 : BitVec 32 := Scalar.muli arg17 c384_i32_54
  let v110 : BitVec 32 := v109
  let v115 : Index := Scalar.indexCast v110
  let c0_58 : Index := 0#32
  ![0, v115.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4224x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4224x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4224x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4224x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4224x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S384x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S384x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4224x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S384x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S384x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x1x384 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== AttnTwoReferenceIdeal.lean ====
abbrev S4224x2048 : Shape := ⟨2, ![4224, 2048]⟩
abbrev S16x4224 : Shape := ⟨2, ![16, 4224]⟩
abbrev S16x11x1x384 : Shape := ⟨4, ![16, 11, 1, 384]⟩
abbrev S4224x16x128 : Shape := ⟨3, ![4224, 16, 128]⟩
abbrev S4112x16x128 : Shape := ⟨3, ![4112, 16, 128]⟩
abbrev S16x4112x4224 : Shape := ⟨3, ![16, 4112, 4224]⟩
abbrev S_ : Shape := ⟨0, ![]⟩
abbrev S16x4112 : Shape := ⟨2, ![16, 4112]⟩
abbrev S16x4112x1 : Shape := ⟨3, ![16, 4112, 1]⟩
abbrev S16x1x4224 : Shape := ⟨3, ![16, 1, 4224]⟩
abbrev S4224 : Shape := ⟨1, ![4224]⟩
abbrev S4112 : Shape := ⟨1, ![4112]⟩
abbrev S1x4224 : Shape := ⟨2, ![1, 4224]⟩
abbrev S4112x1 : Shape := ⟨2, ![4112, 1]⟩
abbrev S4112x4224 : Shape := ⟨2, ![4112, 4224]⟩
abbrev S16x128x4112 : Shape := ⟨3, ![16, 128, 4112]⟩
abbrev S16x128x4224 : Shape := ⟨3, ![16, 128, 4224]⟩
abbrev S16x4224x128 : Shape := ⟨3, ![16, 4224, 128]⟩
abbrev S16x4112x128 : Shape := ⟨3, ![16, 4112, 128]⟩

abbrev nBuf : Space → Nat
  | .hbm => 143
  | .vmem => 0
  | .smem => 0
  | _ => 0

abbrev hbmTy0_0 (i : Nat) : BufTy := match i % 128 with
  | 0 => ⟨S4224x2048, .bf16⟩
  | 1 => ⟨S4224x2048, .bf16⟩
  | 2 => ⟨S4224x2048, .bf16⟩
  | 3 => ⟨S16x4224, .f32⟩
  | 4 => ⟨S4224x2048, .bf16⟩
  | 5 => ⟨S4224x2048, .f32⟩
  | 6 => ⟨S4224x2048, .f32⟩
  | 7 => ⟨S16x11x1x384, .f32⟩
  | 8 => ⟨S4224x2048, .f32⟩
  | 9 => ⟨S4224x16x128, .f32⟩
  | 10 => ⟨S4224x2048, .f32⟩
  | 11 => ⟨S4224x16x128, .f32⟩
  | 12 => ⟨S4224x2048, .f32⟩
  | 13 => ⟨S4224x16x128, .f32⟩
  | 14 => ⟨S4112x16x128, .f32⟩
  | 15 => ⟨S16x4112x4224, .f32⟩
  | 16 => ⟨S_, .f32⟩
  | 17 => ⟨S16x4112x4224, .f32⟩
  | 18 => ⟨S16x4112x4224, .f32⟩
  | 19 => ⟨S16x4112, .f32⟩
  | 20 => ⟨S16x4112x1, .f32⟩
  | 21 => ⟨S16x1x4224, .f32⟩
  | 22 => ⟨S16x4112x4224, .f32⟩
  | 23 => ⟨S16x4112x4224, .f32⟩
  | 24 => ⟨S16x4112x4224, .f32⟩
  | 25 => ⟨S16x4112x4224, .f32⟩
  | 26 => ⟨S4224, .i32⟩
  | 27 => ⟨S4112, .i32⟩
  | 28 => ⟨S_, .i32⟩
  | 29 => ⟨S4112, .i32⟩
  | 30 => ⟨S4112, .i32⟩
  | 31 => ⟨S1x4224, .i32⟩
  | 32 => ⟨S4112x1, .i32⟩
  | 33 => ⟨S4112x4224, .i32⟩
  | 34 => ⟨S4112x4224, .i32⟩
  | 35 => ⟨S4112x4224, .i1⟩
  | 36 => ⟨S1x4224, .i32⟩
  | 37 => ⟨S_, .i32⟩
  | 38 => ⟨S1x4224, .i32⟩
  | 39 => ⟨S1x4224, .i1⟩
  | 40 => ⟨S4112x4224, .i1⟩
  | 41 => ⟨S4112x4224, .i1⟩
  | 42 => ⟨S_, .f32⟩
  | 43 => ⟨S_, .f32⟩
  | 44 => ⟨S16x4112x4224, .i1⟩
  | 45 => ⟨S16x4112x4224, .f32⟩
  | 46 => ⟨S16x4112x4224, .f32⟩
  | 47 => ⟨S_, .f32⟩
  | 48 => ⟨S16x4112x4224, .f32⟩
  | 49 => ⟨S_, .f32⟩
  | 50 => ⟨S16x4112, .f32⟩
  | 51 => ⟨S16x4112x1, .f32⟩
  | 52 => ⟨S16x4112x4224, .f32⟩
  | 53 => ⟨S16x4112x4224, .i1⟩
  | 54 => ⟨S16x4112x4224, .f32⟩
  | 55 => ⟨S_, .f32⟩
  | 56 => ⟨S16x4112, .f32⟩
  | 57 => ⟨S_, .f32⟩
  | 58 => ⟨S16x4112, .f32⟩
  | 59 => ⟨S16x4112, .f32⟩
  | 60 => ⟨S_, .f32⟩
  | 61 => ⟨S16x4112, .f32⟩
  | 62 => ⟨S16x4112, .i1⟩
  | 63 => ⟨S_, .f32⟩
  | 64 => ⟨S16x4112, .f32⟩
  | 65 => ⟨S16x4112, .i1⟩
  | 66 => ⟨S_, .f32⟩
  | 67 => ⟨S16x4112, .f32⟩
  | 68 => ⟨S_, .f32⟩
  | 69 => ⟨S16x4112, .f32⟩
  | 70 => ⟨S_, .f32⟩
  | 71 => ⟨S16x4112, .f32⟩
  | 72 => ⟨S16x4112, .f32⟩
  | 73 => ⟨S16x4112, .f32⟩
  | 74 => ⟨S16x4112x1, .f32⟩
  | 75 => ⟨S16x4112x4224, .f32⟩
  | 76 => ⟨S16x4112x4224, .f32⟩
  | 77 => ⟨S16x4112x4224, .f32⟩
  | 78 => ⟨S_, .f32⟩
  | 79 => ⟨S16x4112, .f32⟩
  | 80 => ⟨S16x4112x1, .f32⟩
  | 81 => ⟨S16x4112x4224, .f32⟩
  | 82 => ⟨S16x4112x4224, .f32⟩
  | 83 => ⟨S16x4112x1, .f32⟩
  | 84 => ⟨S_, .f32⟩
  | 85 => ⟨S16x4112x1, .f32⟩
  | 86 => ⟨S16x4112x1, .f32⟩
  | 87 => ⟨S16x128x4112, .f32⟩
  | 88 => ⟨S4112x16x128, .f32⟩
  | 89 => ⟨S4224x2048, .f32⟩
  | 90 => ⟨S4224x16x128, .f32⟩
  | 91 => ⟨S4112x16x128, .f32⟩
  | 92 => ⟨S16x128x4112, .f32⟩
  | 93 => ⟨S16x4112x4224, .f32⟩
  | 94 => ⟨S16x128x4224, .f32⟩
  | 95 => ⟨S4224x16x128, .f32⟩
  | 96 => ⟨S16x4112x4224, .f32⟩
  | 97 => ⟨S16x4112x4224, .f32⟩
  | 98 => ⟨S16x4112x4224, .f32⟩
  | 99 => ⟨S_, .f32⟩
  | 100 => ⟨S16x4112, .f32⟩
  | 101 => ⟨S16x4112x1, .f32⟩
  | 102 => ⟨S16x4112x1, .f32⟩
  | 103 => ⟨S16x4112x4224, .f32⟩
  | 104 => ⟨S16x4112x4224, .f32⟩
  | 105 => ⟨S_, .f32⟩
  | 106 => ⟨S16x4112, .f32⟩
  | 107 => ⟨S16x4112x4224, .f32⟩
  | 108 => ⟨S16x4112x4224, .f32⟩
  | 109 => ⟨S16x4112x4224, .f32⟩
  | 110 => ⟨S_, .f32⟩
  | 111 => ⟨S16x4112x4224, .f32⟩
  | 112 => ⟨S16x4112x4224, .f32⟩
  | 113 => ⟨S_, .f32⟩
  | 114 => ⟨S16x4112, .f32⟩
  | 115 => ⟨S16x4112x1, .f32⟩
  | 116 => ⟨S16x4112x4224, .f32⟩
  | 117 => ⟨S_, .f32⟩
  | 118 => ⟨S16x4224, .f32⟩
  | 119 => ⟨S16x1x4224, .f32⟩
  | 120 => ⟨S_, .f32⟩
  | 121 => ⟨S16x4224, .f32⟩
  | 122 => ⟨S_, .f32⟩
  | 123 => ⟨S16x4112, .f32⟩
  | 124 => ⟨S_, .f32⟩
  | 125 => ⟨S16x4224, .f32⟩
  | 126 => ⟨S16x4224, .f32⟩
  | 127 => ⟨S_, .f32⟩
  | _ => ⟨S4224x2048, .bf16⟩

abbrev hbmTy0_1 (i : Nat) : BufTy := match i % 128 with
  | 0 => ⟨S16x4112x4224, .f32⟩
  | 1 => ⟨S16x4112x4224, .f32⟩
  | 2 => ⟨S16x4224x128, .f32⟩
  | 3 => ⟨S4224x16x128, .f32⟩
  | 4 => ⟨S16x4112x128, .f32⟩
  | 5 => ⟨S4112x16x128, .f32⟩
  | 6 => ⟨S_, .f32⟩
  | 7 => ⟨S4224x16x128, .f32⟩
  | 8 => ⟨S4224x2048, .f32⟩
  | 9 => ⟨S4224x2048, .f32⟩
  | 10 => ⟨S4224x2048, .f32⟩
  | 11 => ⟨S16x11x1x384, .f32⟩
  | 12 => ⟨S4224x2048, .f32⟩
  | 13 => ⟨S4224x2048, .f32⟩
  | 14 => ⟨S16x11x1x384, .f32⟩
  | _ => ⟨S4224x2048, .bf16⟩

abbrev hbmTy (i : Nat) : BufTy := match i / 128 with
  | 0 => hbmTy0_0 i
  | 1 => hbmTy0_1 i
  | _ => ⟨S4224x2048, .bf16⟩

abbrev bufTy : (tb : Table) → Fin (tcTables nBuf tb) → BufTy
  | .hbm, ⟨i, _⟩ => hbmTy i
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_call0_v0 : Ref sig .tc := ⟨.hbm, 43, rfl⟩
abbrev main_v31_1 : Ref sig .tc := ⟨.hbm, 44, rfl⟩
abbrev main_call0_v2 : Ref sig .tc := ⟨.hbm, 45, rfl⟩
abbrev main_v31_0 : Ref sig .tc := ⟨.hbm, 46, rfl⟩
abbrev main_call0_cst : Ref sig .tc := ⟨.hbm, 47, rfl⟩
abbrev main_v31_2 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_12 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_13 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_call1_cst : Ref sig .tc := ⟨.hbm, 110, rfl⟩
abbrev main_call1_v0 : Ref sig .tc := ⟨.hbm, 111, rfl⟩
abbrev main_v81 : Ref sig .tc := ⟨.hbm, 112, rfl⟩
abbrev main_cst_14 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_15 : Ref sig .tc := ⟨.hbm, 117, rfl⟩
abbrev main_v85 : Ref sig .tc := ⟨.hbm, 118, rfl⟩
abbrev main_v86 : Ref sig .tc := ⟨.hbm, 119, rfl⟩
abbrev main_cst_16 : Ref sig .tc := ⟨.hbm, 120, rfl⟩
abbrev main_v87 : Ref sig .tc := ⟨.hbm, 121, rfl⟩
abbrev main_cst_17 : Ref sig .tc := ⟨.hbm, 122, rfl⟩
abbrev main_v88 : Ref sig .tc := ⟨.hbm, 123, rfl⟩
abbrev main_cst_18 : Ref sig .tc := ⟨.hbm, 124, rfl⟩
abbrev main_v89 : Ref sig .tc := ⟨.hbm, 125, rfl⟩
abbrev main_v90 : Ref sig .tc := ⟨.hbm, 126, rfl⟩
abbrev main_cst_19 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_20 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩

abbrev nD : Nat := 1
abbrev τ : Topo := Topo.v7x

variable {F : FTy → Type} [FloatOps F]
-- ==== DownDepKernel.lean ====
abbrev S5632x2048 : Shape := ⟨2, ![5632, 2048]⟩
abbrev S4224x2048 : Shape := ⟨2, ![4224, 2048]⟩
abbrev S8x128 : Shape := ⟨2, ![8, 128]⟩
abbrev S4224x5632 : Shape := ⟨2, ![4224, 5632]⟩
abbrev S1056x2048 : Shape := ⟨2, ![1056, 2048]⟩
abbrev S1408x2048 : Shape := ⟨2, ![1408, 2048]⟩
abbrev S1056x1408 : Shape := ⟨2, ![1056, 1408]⟩

abbrev nBuf : Space → Nat
  | .hbm => 4
  | .vmem => 7
  | .smem => 0
  | _ => 0

abbrev bufTy : (tb : Table) → Fin (tcTables nBuf tb) → BufTy
  | .hbm, ⟨0, _⟩ => ⟨S5632x2048, .bf16⟩
  | .hbm, ⟨1, _⟩ => ⟨S4224x2048, .bf16⟩
  | .hbm, ⟨2, _⟩ => ⟨S8x128, .f32⟩
  | .hbm, ⟨3, _⟩ => ⟨S4224x5632, .bf16⟩
  | .local _ .vmem, ⟨0, _⟩ => ⟨S1056x2048, .bf16⟩
  | .local _ .vmem, ⟨1, _⟩ => ⟨S1056x2048, .bf16⟩
  | .local _ .vmem, ⟨2, _⟩ => ⟨S1408x2048, .bf16⟩
  | .local _ .vmem, ⟨3, _⟩ => ⟨S1408x2048, .bf16⟩
  | .local _ .vmem, ⟨4, _⟩ => ⟨S8x128, .f32⟩
  | .local _ .vmem, ⟨5, _⟩ => ⟨S1056x1408, .bf16⟩
  | .local _ .vmem, ⟨6, _⟩ => ⟨S1056x1408, .bf16⟩
  | _, _ => ⟨S5632x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1056x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDepReferenceIdeal.lean ====
abbrev S5632x2048 : Shape := ⟨2, ![5632, 2048]⟩
abbrev S4224x2048 : Shape := ⟨2, ![4224, 2048]⟩
abbrev S8x128 : Shape := ⟨2, ![8, 128]⟩
abbrev S_ : Shape := ⟨0, ![]⟩
abbrev S4224x5632 : Shape := ⟨2, ![4224, 5632]⟩

abbrev nBuf : Space → Nat
  | .hbm => 10
  | .vmem => 0
  | .smem => 0
  | _ => 0

abbrev bufTy : (tb : Table) → Fin (tcTables nBuf tb) → BufTy
  | .hbm, ⟨0, _⟩ => ⟨S5632x2048, .bf16⟩
  | .hbm, ⟨1, _⟩ => ⟨S4224x2048, .bf16⟩
  | .hbm, ⟨2, _⟩ => ⟨S8x128, .f32⟩
  | .hbm, ⟨3, _⟩ => ⟨S_, .f32⟩
  | .hbm, ⟨4, _⟩ => ⟨S4224x5632, .f32⟩
  | .hbm, ⟨5, _⟩ => ⟨S5632x2048, .f32⟩
  | .hbm, ⟨6, _⟩ => ⟨S4224x2048, .f32⟩
  | .hbm, ⟨7, _⟩ => ⟨S4224x2048, .f32⟩
  | .hbm, ⟨8, _⟩ => ⟨S4224x5632, .f32⟩
  | .hbm, ⟨9, _⟩ => ⟨S4224x5632, .bf16⟩
  | _, _ => ⟨S5632x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== AOutDepKernel.lean ====
abbrev S2048x2048 : Shape := ⟨2, ![2048, 2048]⟩
abbrev S4224x2048 : Shape := ⟨2, ![4224, 2048]⟩
abbrev S8x128 : Shape := ⟨2, ![8, 128]⟩
abbrev S1056x2048 : Shape := ⟨2, ![1056, 2048]⟩
abbrev S1024x2048 : Shape := ⟨2, ![1024, 2048]⟩
abbrev S1056x1024 : Shape := ⟨2, ![1056, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4224x2048, .bf16⟩
  | .hbm, ⟨2, _⟩ => ⟨S8x128, .f32⟩
  | .hbm, ⟨3, _⟩ => ⟨S4224x2048, .f32⟩
  | .local _ .vmem, ⟨0, _⟩ => ⟨S1056x2048, .bf16⟩
  | .local _ .vmem, ⟨1, _⟩ => ⟨S1056x2048, .bf16⟩
  | .local _ .vmem, ⟨2, _⟩ => ⟨S1024x2048, .bf16⟩
  | .local _ .vmem, ⟨3, _⟩ => ⟨S1024x2048, .bf16⟩
  | .local _ .vmem, ⟨4, _⟩ => ⟨S8x128, .f32⟩
  | .local _ .vmem, ⟨5, _⟩ => ⟨S1056x1024, .f32⟩
  | .local _ .vmem, ⟨6, _⟩ => ⟨S1056x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1056x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AOutDepReferenceIdeal.lean ====
abbrev S2048x2048 : Shape := ⟨2, ![2048, 2048]⟩
abbrev S4224x2048 : Shape := ⟨2, ![4224, 2048]⟩
abbrev S8x128 : Shape := ⟨2, ![8, 128]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4224x2048, .bf16⟩
  | .hbm, ⟨2, _⟩ => ⟨S8x128, .f32⟩
  | .hbm, ⟨3, _⟩ => ⟨S_, .f32⟩
  | .hbm, ⟨4, _⟩ => ⟨S4224x2048, .f32⟩
  | .hbm, ⟨5, _⟩ => ⟨S2048x2048, .f32⟩
  | .hbm, ⟨6, _⟩ => ⟨S4224x2048, .f32⟩
  | .hbm, ⟨7, _⟩ => ⟨S4224x2048, .f32⟩
  | .hbm, ⟨8, _⟩ => ⟨S4224x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== BODepKernel.lean ====
abbrev S2048x2048 : Shape := ⟨2, ![2048, 2048]⟩
abbrev S4224x2048 : Shape := ⟨2, ![4224, 2048]⟩
abbrev S8x128 : Shape := ⟨2, ![8, 128]⟩
abbrev S1056x2048 : Shape := ⟨2, ![1056, 2048]⟩
abbrev S1024x2048 : Shape := ⟨2, ![1024, 2048]⟩
abbrev S1056x1024 : Shape := ⟨2, ![1056, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4224x2048, .bf16⟩
  | .hbm, ⟨2, _⟩ => ⟨S8x128, .f32⟩
  | .hbm, ⟨3, _⟩ => ⟨S4224x2048, .bf16⟩
  | .local _ .vmem, ⟨0, _⟩ => ⟨S1056x2048, .bf16⟩
  | .local _ .vmem, ⟨1, _⟩ => ⟨S1056x2048, .bf16⟩
  | .local _ .vmem, ⟨2, _⟩ => ⟨S1024x2048, .bf16⟩
  | .local _ .vmem, ⟨3, _⟩ => ⟨S1024x2048, .bf16⟩
  | .local _ .vmem, ⟨4, _⟩ => ⟨S8x128, .f32⟩
  | .local _ .vmem, ⟨5, _⟩ => ⟨S1056x1024, .bf16⟩
  | .local _ .vmem, ⟨6, _⟩ => ⟨S1056x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1056x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== BODepReferenceIdeal.lean ====
abbrev S2048x2048 : Shape := ⟨2, ![2048, 2048]⟩
abbrev S4224x2048 : Shape := ⟨2, ![4224, 2048]⟩
abbrev S8x128 : Shape := ⟨2, ![8, 128]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4224x2048, .bf16⟩
  | .hbm, ⟨2, _⟩ => ⟨S8x128, .f32⟩
  | .hbm, ⟨3, _⟩ => ⟨S_, .f32⟩
  | .hbm, ⟨4, _⟩ => ⟨S4224x2048, .f32⟩
  | .hbm, ⟨5, _⟩ => ⟨S2048x2048, .f32⟩
  | .hbm, ⟨6, _⟩ => ⟨S4224x2048, .f32⟩
  | .hbm, ⟨7, _⟩ => ⟨S4224x2048, .f32⟩
  | .hbm, ⟨8, _⟩ => ⟨S4224x2048, .f32⟩
  | .hbm, ⟨9, _⟩ => ⟨S4224x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.GateValue.lean ====
/- The gradient of the short-convolution gate: what the kernel leaves in its two results, and what the reference
   computes, index by index. -/
module

public import proofs.«01_k».proof.Proof.Gen.GateKernelIdeal.Value
public import proofs.«01_k».proof.Proof.Gen.GateReferenceIdeal.Run
public import Idealize.ShloMosaic.Lib.Pipeline.ValueKit
public import Idealize.ShloMosaic.Lib.Pointwise
public import Idealize.ShloMosaic.Lib.WordCmp

@[expose] public section

set_option maxRecDepth 16384

noncomputable section

namespace Cert.Proof.Gate

open Cert.GateKernelIdeal Cert.GateKernelIdeal.Gen Idealize.ShloMosaic Idealize.ShloMosaic.TcCoe Idealize.SL.Sem
open Idealize.ShloMosaic.Pipeline (Dat)

/-- The three parts of the first argument, the weights and the cotangent. -/
abbrev Z := FVec Ideal S3x4224x2048 .bf16
abbrev W := FVec Ideal S3x2048 .f32
abbrev Y := FVec Ideal S4224x2048 .f32

/-- A column moved down by `k` rows, zero above. -/
def down (k : ℕ) (f : Fin 4224 → EReal) (t : Fin 4224) : EReal := if h : k ≤ t.val then f ⟨t.val - k, by omega⟩ else 0

/-- A column moved up by `k` rows, zero below. -/
def up (k : ℕ) (f : Fin 4224 → EReal) (t : Fin 4224) : EReal := if h : t.val + k < 4224 then f ⟨t.val + k, h⟩ else 0

theorem sel_down (k : ℕ) (f : Fin 4224 → EReal) (a : Fin 4224) (hk : k < 4224) :
    Scalar.select (IntOp.cmpi CmpIPredicate.sge (BitVec.ofNat 32 ↑a) (BitVec.ofNat 32 k))
      (f ⟨(↑a + 4224 - k) % 4224, Nat.mod_lt _ (by decide)⟩) 0 = down k f a := by
  have ha := a.isLt
  unfold down
  rw [WordCmp.cmpi_sge_ofNat (by omega) (by omega), WordCmp.select_ofBool]
  by_cases h : k ≤ a.val
  · rw [if_pos (by simpa using h), dif_pos h]
    exact congrArg f (Fin.ext (by show (a.val + 4224 - k) % 4224 = a.val - k; omega))
  · rw [if_neg (by simpa using h), dif_neg h]

theorem sel_up (k n : ℕ) (f : Fin 4224 → EReal) (a : Fin 4224) (hk : n + k = 4224) (hk0 : 0 < k) :
    Scalar.select (IntOp.cmpi CmpIPredicate.slt (BitVec.ofNat 32 ↑a) (BitVec.ofNat 32 n))
      (f ⟨(↑a + 4224 - n) % 4224, Nat.mod_lt _ (by decide)⟩) 0 = up k f a := by
  have ha := a.isLt
  unfold up
  rw [WordCmp.cmpi_slt_ofNat (by omega) (by omega), WordCmp.select_ofBool]
  by_cases h : a.val + k < 4224
  · rw [if_pos (by simp; omega), dif_pos h]
    exact congrArg f (Fin.ext (by show (a.val + 4224 - n) % 4224 = a.val + k; omega))
  · rw [if_neg (by simp; omega), dif_neg h]

section pay
variable (x0 x1 x2 : Vec Ideal S1x4224x128 .bf16) (x3 : Vec Ideal S3x128 .f32) (x4 : Vec Ideal S4224x128 .f32)

/-- The gated input of a block, and the cotangent of the convolution. -/
abbrev ub (b : Fin 128) (t : Fin 4224) : EReal := x1 (ix3 0 t b) * x2 (ix3 0 t b)
abbrev cb (b : Fin 128) (t : Fin 4224) : EReal := x4 (ix2 t b) * x0 (ix3 0 t b)

theorem pay5_apply (a : Fin 4224) (b : Fin 128) : k0_pay5 x1 x2 (ix2 a b) = ub x1 x2 b a := by
  pointwise [k0_pay5, k0_pay3, k0_pay4]

theorem pay6_apply (a : Fin 4224) (b : Fin 128) : k0_pay6 x1 x2 (ix2 a b) = down 1 (ub x1 x2 b) a := by
  pointwise [k0_pay6, k0_pay5, k0_pay3, k0_pay4]
  exact sel_down 1 (ub x1 x2 b) a (by decide)

theorem pay7_apply (a : Fin 4224) (b : Fin 128) : k0_pay7 x1 x2 (ix2 a b) = down 2 (ub x1 x2 b) a := by
  pointwise [k0_pay7, k0_pay5, k0_pay3, k0_pay4]
  exact sel_down 2 (ub x1 x2 b) a (by decide)

set_option maxRecDepth 1000000 in
theorem pay13_apply (a : Fin 4224) (b : Fin 128) (w0 w1 w2 : Vec Ideal S1x128 .f32) :
    k0_pay13 (k0_pay15 x0 x1 x2 x3 x4) w0 w1 w2 x4 x0 (ix2 a b)
      = cb x0 x4 b a * w2 (ix2 0 b) + up 1 (fun t => cb x0 x4 b t * w1 (ix2 0 b)) a
        + up 2 (fun t => cb x0 x4 b t * w0 (ix2 0 b)) a := by
  pointwise [k0_pay13, k0_pay9, k0_pay15]
  rw [← sel_up 1 4223 (fun t => cb x0 x4 b t * w1 (ix2 0 b)) a (by decide) (by decide),
    ← sel_up 2 4222 (fun t => cb x0 x4 b t * w0 (ix2 0 b)) a (by decide) (by decide)]

theorem pay2_apply (a : Fin 4224) (b : Fin 128) (v : FVec Ideal S4224x128 .f32) :
    k0_pay2 (k0_pay3 x1) v (ix3 0 a b) = v (ix2 a b) * x1 (ix3 0 a b) := by
  pointwise [k0_pay2, k0_pay3]

theorem pay1_apply (a : Fin 4224) (b : Fin 128) (w0 w1 w2 : Vec Ideal S1x128 .f32) :
    k0_pay1 (k0_pay14 (k0_pay15 x0 x1 x2 x3 x4) (k0_pay4 x2) w0 w1 w2 x4 x0) (ix3 0 a b)
      = k0_pay13 (k0_pay15 x0 x1 x2 x3 x4) w0 w1 w2 x4 x0 (ix2 a b) * x2 (ix3 0 a b) := by
  pointwise [k0_pay1, k0_pay14, k0_pay4]

theorem pay8_apply (a : Fin 4224) (b : Fin 128) (w0 w1 w2 : Vec Ideal S1x128 .f32) :
    k0_pay8 x1 x2 w0 w1 w2 x4 (ix3 0 a b)
      = x4 (ix2 a b) * (ub x1 x2 b a * w2 (ix2 0 b) + down 1 (ub x1 x2 b) a * w1 (ix2 0 b)
        + down 2 (ub x1 x2 b) a * w0 (ix2 0 b)) := by
  rw [← pay6_apply, ← pay7_apply, ← pay5_apply]
  pointwise [k0_pay8]

theorem pay10_apply (b : Fin 128) :
    k0_pay10 (k0_pay7 x1 x2) x4 x0 (ix2 0 b) = ∑ t : Fin 4224, cb x0 x4 b t * down 2 (ub x1 x2 b) t := by
  simp only [← pay7_apply]
  pointwise [k0_pay10, k0_pay9]

theorem pay11_apply (b : Fin 128) :
    k0_pay11 (k0_pay6 x1 x2) x4 x0 (ix2 0 b) = ∑ t : Fin 4224, cb x0 x4 b t * down 1 (ub x1 x2 b) t := by
  simp only [← pay6_apply]
  pointwise [k0_pay11, k0_pay9]

theorem pay12_apply (b : Fin 128) :
    k0_pay12 (k0_pay5 x1 x2) x4 x0 (ix2 0 b) = ∑ t : Fin 4224, cb x0 x4 b t * ub x1 x2 b t := by
  pointwise [k0_pay12, k0_pay9, k0_pay5, k0_pay3, k0_pay4]
end pay

/-! ## The two results of the kernel, from its arguments -/

section spec
variable (z : Z) (w : W) (y : Y)

/-- The gated input and the cotangent of the convolution, column by column. -/
abbrev U (d : Fin 2048) (t : Fin 4224) : EReal := z (ix3 1 t d) * z (ix3 2 t d)
abbrev C (d : Fin 2048) (t : Fin 4224) : EReal := y (ix2 t d) * z (ix3 0 t d)

/-- The convolution. -/
def conv (d : Fin 2048) (t : Fin 4224) : EReal :=
  U z d t * w (ix2 2 d) + down 1 (U z d) t * w (ix2 1 d) + down 2 (U z d) t * w (ix2 0 d)

/-- The gradient of the gated input. -/
def du (d : Fin 2048) (t : Fin 4224) : EReal :=
  C z y d t * w (ix2 2 d) + up 1 (fun t => C z y d t * w (ix2 1 d)) t + up 2 (fun t => C z y d t * w (ix2 0 d)) t

/-- The gradient of the three parts. -/
def dz : Z := fun i =>
  if (i 0).val = 0 then y (ix2 (i 1) (i 2)) * conv z w (i 2) (i 1)
  else if (i 0).val = 1 then du z w y (i 2) (i 1) * z (ix3 2 (i 1) (i 2))
  else du z w y (i 2) (i 1) * z (ix3 1 (i 1) (i 2))

/-- The gradient of the weights. -/
def dw : W := fun i =>
  if (i 0).val = 0 then ∑ t : Fin 4224, C z y (i 1) t * down 2 (U z (i 1)) t
  else if (i 0).val = 1 then ∑ t : Fin 4224, C z y (i 1) t * down 1 (U z (i 1)) t
  else ∑ t : Fin 4224, C z y (i 1) t * U z (i 1) t
end spec

/-! ## The run -/

variable (m : (ℓ : Loc nD τ sig) → Buf (Elt Ideal) ℓ) (c : Dev nD)

abbrev zOf : Z := m ((c.tc : Thread nD τ).loc main_arg0)
abbrev wOf : W := m ((c.tc : Thread nD τ).loc main_arg1)
abbrev yOf : Y := m ((c.tc : Thread nD τ).loc main_arg2)

theorem idx0 : ∀ t : Fin cfg0.N, win0_0.index t = ![0, 0, t.val] := (by decide +kernel : ∀ t : Fin grid0.N, _)
theorem idx1 : ∀ t : Fin cfg0.N, win0_1.index t = ![1, 0, t.val] := (by decide +kernel : ∀ t : Fin grid0.N, _)
theorem idx2 : ∀ t : Fin cfg0.N, win0_2.index t = ![2, 0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, t.val] := (by decide +kernel : ∀ t : Fin grid0.N, _)
theorem idx5 : ∀ t : Fin cfg0.N, win0_5.index t = ![0, 0, t.val] := (by decide +kernel : ∀ t : Fin grid0.N, _)
theorem idx6 : ∀ t : Fin cfg0.N, win0_6.index t = ![0, t.val] := (by decide +kernel : ∀ t : Fin grid0.N, _)

/-- Column `b` of block `t`. -/
def colOf (t : Fin cfg0.N) (b : Fin 128) : Fin 2048 :=
  ⟨t.val * 128 + b.val, by have : t.val < 16 := t.isLt; omega⟩

theorem blk0 (t : Fin cfg0.N) (a : Fin 4224) (b : Fin 128) :
    iblk m c 0 t (ix3 0 a b) = zOf m c (ix3 0 a (colOf t b)) := by
  blk_simp [iblk]
  rw [V_main_arg0]
  refine congrArg _ (funext fun k => Fin.ext ?_)
  fin_cases k <;> blk_simp [idx0] <;> rfl

theorem blk1 (t : Fin cfg0.N) (a : Fin 4224) (b : Fin 128) :
    iblk m c 1 t (ix3 0 a b) = zOf m c (ix3 1 a (colOf t b)) := by
  blk_simp [iblk]
  rw [V_main_arg0]
  refine congrArg _ (funext fun k => Fin.ext ?_)
  fin_cases k <;> blk_simp [idx1] <;> rfl

theorem blk2 (t : Fin cfg0.N) (a : Fin 4224) (b : Fin 128) :
    iblk m c 2 t (ix3 0 a b) = zOf m c (ix3 2 a (colOf t b)) := by
  blk_simp [iblk]
  rw [V_main_arg0]
  refine congrArg _ (funext fun k => Fin.ext ?_)
  fin_cases k <;> blk_simp [idx2] <;> rfl

theorem blk3 (t : Fin cfg0.N) (a : Fin 3) (b : Fin 128) : iblk m c 3 t (ix2 a b) = wOf m c (ix2 a (colOf t b)) := by
  blk_simp [iblk]
  rw [V_main_arg1]
  refine congrArg _ (funext fun k => Fin.ext ?_)
  fin_cases k <;> blk_simp [idx3] <;> rfl

theorem blk4 (t : Fin cfg0.N) (a : Fin 4224) (b : Fin 128) :
    iblk m c 4 t (ix2 a b) = yOf m c (ix2 a (colOf t b)) := by
  blk_simp [iblk]
  rw [V_main_arg2]
  refine congrArg _ (funext fun k => Fin.ext ?_)
  fin_cases k <;> blk_simp [idx4] <;> rfl

theorem emb6 (t : Fin cfg0.N) (y : S3x128.Idx) (r : Fin 3) (b : Fin 128) (h0 : (y 0).val = r.val) (h1 : (y 1).val = b.val) :
    ((View.whole main_v0_1).slice (win0_6.rect t)).emb y = ix2 r (colOf t b) := by
  refine funext fun k => Fin.ext ?_
  fin_cases k <;> blk_simp [idx6]
  · exact h0
  · exact congrArg (t.val * 128 + ·) h1

theorem emb5 (t : Fin cfg0.N) (y : S3x4224x128.Idx) (r : Fin 3) (a : Fin 4224) (b : Fin 128)
    (h0 : (y 0).val = r.val) (h1 : (y 1).val = a.val) (h2 : (y 2).val = b.val) :
    ((View.whole main_v0_0).slice (win0_5.rect t)).emb y = ix3 r a (colOf t b) := by
  refine funext fun k => Fin.ext ?_
  fin_cases k <;> blk_simp [idx5]
  · exact h0
  · exact h1
  · exact congrArg (t.val * 128 + ·) h2

theorem ub_blk (t : Fin cfg0.N) (b : Fin 128) : ub (iblk m c 1 t) (iblk m c 2 t) b = U (zOf m c) (colOf t b) :=
  funext fun a => by simp only [ub, U, blk1, blk2]

theorem cb_blk (t : Fin cfg0.N) (b : Fin 128) : cb (iblk m c 0 t) (iblk m c 4 t) b = C (zOf m c) (yOf m c) (colOf t b) :=
  funext fun a => by simp only [cb, C, blk0, blk4]

/-- The gradient of the weights, as the kernel leaves it. -/
theorem final6 : (dats m 0 c).arrAt 6 cfg0.N = dw (zOf m c) (yOf m c) := by
  refine (dats m 0 c).arrAt_eq_of_covers 6 _ (by decide +kernel) fun t hf y => ?_
  blk_simp
  rw [after0_6]
  frame_out
  canon_tiles x h
  · obtain ⟨a, b, rfl⟩ : ∃ (a : Fin 1) (b : Fin 128), x = ix2 a b := ⟨x 0, x 1, eq_ix2 x⟩
    obtain rfl : a = 0 := Subsingleton.elim _ _
    rw [emb6 t y 2 b h0 h1, pay12_apply, ub_blk, cb_blk]
    rfl
  · obtain ⟨a, b, rfl⟩ : ∃ (a : Fin 1) (b : Fin 128), x = ix2 a b := ⟨x 0, x 1, eq_ix2 x⟩
    obtain rfl : a = 0 := Subsingleton.elim _ _
    rw [emb6 t y 1 b h0 h1, pay11_apply, ub_blk, cb_blk]
    rfl
  · obtain ⟨a, b, rfl⟩ : ∃ (a : Fin 1) (b : Fin 128), x = ix2 a b := ⟨x 0, x 1, eq_ix2 x⟩
    obtain rfl : a = 0 := Subsingleton.elim _ _
    rw [emb6 t y 0 b h0 h1, pay10_apply, ub_blk, cb_blk]
    rfl

theorem w0_blk (t : Fin cfg0.N) (b : Fin 128) : View.ld (iblk m c 3 t) r0_1 (ix2 0 b) = wOf m c (ix2 0 (colOf t b)) := by
  rw [← blk3]; pointwise []
theorem w1_blk (t : Fin cfg0.N) (b : Fin 128) : View.ld (iblk m c 3 t) r0_2 (ix2 0 b) = wOf m c (ix2 1 (colOf t b)) := by
  rw [← blk3]; pointwise []
theorem w2_blk (t : Fin cfg0.N) (b : Fin 128) : View.ld (iblk m c 3 t) r0_3 (ix2 0 b) = wOf m c (ix2 2 (colOf t b)) := by
  rw [← blk3]; pointwise []

/-- The gradient of the three parts, as the kernel leaves it. -/
theorem final5 : (dats m 0 c).arrAt 5 cfg0.N = dz (zOf m c) (wOf m c) (yOf m c) := by
  refine (dats m 0 c).arrAt_eq_of_covers 5 _ (by decide +kernel) fun t hf y => ?_
  blk_simp
  rw [after0_5]
  frame_out
  canon_tiles x h
  · obtain ⟨r, a, b, rfl⟩ : ∃ (r : Fin 1) (a : Fin 4224) (b : Fin 128), x = ix3 r a b := ⟨x 0, x 1, x 2, eq_ix3 x⟩
    obtain rfl : r = 0 := Subsingleton.elim _ _
    rw [emb5 t y 2 a b h0 h1 h2, pay2_apply, pay13_apply, blk1, cb_blk, w0_blk, w1_blk, w2_blk]
    rfl
  · obtain ⟨r, a, b, rfl⟩ : ∃ (r : Fin 1) (a : Fin 4224) (b : Fin 128), x = ix3 r a b := ⟨x 0, x 1, x 2, eq_ix3 x⟩
    obtain rfl : r = 0 := Subsingleton.elim _ _
    rw [emb5 t y 1 a b h0 h1 h2, pay1_apply, pay13_apply, blk2, cb_blk, w0_blk, w1_blk, w2_blk]
    rfl
  · obtain ⟨r, a, b, rfl⟩ : ∃ (r : Fin 1) (a : Fin 4224) (b : Fin 128), x = ix3 r a b := ⟨x 0, x 1, x 2, eq_ix3 x⟩
    obtain rfl : r = 0 := Subsingleton.elim _ _
    rw [emb5 t y 0 a b h0 h1 h2, pay8_apply, blk4, ub_blk, w0_blk, w1_blk, w2_blk]
    rfl

end Cert.Proof.Gate

end
-- ==== Proof.GateRef.lean ====
/- The gradient of the short-convolution gate: the reference's two results, index by index. -/
module

public import proofs.«01_k».proof.Proof.GateValue
public import Idealize.ShloMosaic.Lib.Tactic.CleanTypes

@[expose] public section

set_option maxRecDepth 1000000

noncomputable section

namespace Cert.Proof.Gate

open Cert.GateReferenceIdeal Cert.GateReferenceIdeal.Gen Idealize.ShloMosaic Idealize.ShloMosaic.TcCoe Idealize.SL.Sem

variable (m : (ℓ : Loc nD τ sig) → Buf (Elt Ideal) ℓ) (ρ : Dev nD → PrngReg)

abbrev rz (c : Dev nD) : Z := m ((c.tc : Thread nD τ).loc main_arg0)
abbrev rw' (c : Dev nD) : W := m ((c.tc : Thread nD τ).loc main_arg1)
abbrev ry (c : Dev nD) : Y := m ((c.tc : Thread nD τ).loc main_arg2)

section closing
variable (z : Z) (w : W) (y : Y) (t : Fin 4224) (d : Fin 2048)

theorem dz0 : y (ix2 t d) *
      ((if h : t.val < 2 then 0 else z (ix3 1 ⟨t.val - 2, by omega⟩ d) * z (ix3 2 ⟨t.val - 2, by omega⟩ d)) * w (ix2 0 d) +
          (if h : 1 + t.val < 2 then 0
            else z (ix3 1 ⟨1 + t.val - 2, by omega⟩ d) * z (ix3 2 ⟨1 + t.val - 2, by omega⟩ d)) * w (ix2 1 d) +
        z (ix3 1 t d) * z (ix3 2 t d) * w (ix2 2 d)) = dz z w y (ix3 0 t d) := by
  show _ = y (ix2 t d) * conv z w d t
  have h1 : (if h : 1 + t.val < 2 then (0 : EReal)
      else z (ix3 1 ⟨1 + t.val - 2, by omega⟩ d) * z (ix3 2 ⟨1 + t.val - 2, by omega⟩ d)) = down 1 (U z d) t := by
    unfold down
    by_cases h : 1 + t.val < 2
    · rw [dif_pos h, dif_neg (by omega)]
    · rw [dif_neg h, dif_pos (by omega)]
      have : (⟨1 + t.val - 2, by omega⟩ : Fin 4224) = ⟨t.val - 1, by omega⟩ := Fin.ext (by show 1 + t.val - 2 = t.val - 1; omega)
      rw [this]
  have h2 : (if h : t.val < 2 then (0 : EReal)
      else z (ix3 1 ⟨t.val - 2, by omega⟩ d) * z (ix3 2 ⟨t.val - 2, by omega⟩ d)) = down 2 (U z d) t := by
    unfold down
    by_cases h : t.val < 2
    · rw [dif_pos h, dif_neg (by omega)]
    · rw [dif_neg h, dif_pos (by omega)]
  rw [h1, h2]
  unfold conv
  exact congrArg _ (by rw [add_comm, ← add_assoc, add_right_comm])

theorem du_eq : (z (ix3 0 t d) * y (ix2 t d) * w (ix2 2 d) +
          if h : 1 ≤ 2 + t.val ∧ 2 + t.val - 1 < 4224 then
            z (ix3 0 ⟨2 + t.val - 1, by omega⟩ d) * y (ix2 ⟨2 + t.val - 1, by omega⟩ d) * w (ix2 1 d)
          else 0) +
        (if h : 2 + t.val < 4224 then z (ix3 0 ⟨2 + t.val, h⟩ d) * y (ix2 ⟨2 + t.val, h⟩ d) * w (ix2 0 d) else 0)
      = du z w y d t := by
  unfold du up C
  refine congrArg₂ (· + ·) (congrArg₂ (· + ·) (by rw [mul_comm (z _)]) ?_) ?_
  · by_cases h : t.val + 1 < 4224
    · rw [dif_pos (by omega), dif_pos h]
      have : (⟨2 + t.val - 1, by omega⟩ : Fin 4224) = ⟨t.val + 1, h⟩ := Fin.ext (by show 2 + t.val - 1 = t.val + 1; omega)
      rw [this, mul_comm (z _)]
    · rw [dif_neg (by omega), dif_neg h]
  · by_cases h : t.val + 2 < 4224
    · rw [dif_pos (by omega), dif_pos h]
      have : (⟨2 + t.val, by omega⟩ : Fin 4224) = ⟨t.val + 2, h⟩ := Fin.ext (by show 2 + t.val = t.val + 2; omega)
      rw [this, mul_comm (z _)]
    · rw [dif_neg (by omega), dif_neg h]

theorem dw2 : ∑ x : Fin 4224, z (ix3 1 x d) * z (ix3 2 x d) * (z (ix3 0 x d) * y (ix2 x d)) = dw z y (ix2 2 d) := by
  show _ = ∑ t : Fin 4224, C z y d t * U z d t
  exact Finset.sum_congr rfl fun x _ => by rw [mul_comm (z (ix3 0 x d)), mul_comm]

theorem dw1 : ∑ x : Fin 4224, (if h : 1 + x.val < 2 then 0
      else z (ix3 1 ⟨1 + x.val - 2, by omega⟩ d) * z (ix3 2 ⟨1 + x.val - 2, by omega⟩ d)) * (z (ix3 0 x d) * y (ix2 x d))
      = dw z y (ix2 1 d) := by
  show _ = ∑ t : Fin 4224, C z y d t * down 1 (U z d) t
  refine Finset.sum_congr rfl fun t _ => ?_
  rw [mul_comm (z (ix3 0 t d)), mul_comm]
  refine congrArg _ ?_
  unfold down
  by_cases h : 1 + t.val < 2
  · rw [dif_pos h, dif_neg (by show ¬ 1 ≤ t.val; omega)]
  · rw [dif_neg h, dif_pos (by show 1 ≤ t.val; omega)]
    have : (⟨1 + t.val - 2, by omega⟩ : Fin 4224) = ⟨t.val - 1, by omega⟩ := Fin.ext (by show 1 + t.val - 2 = t.val - 1; omega)
    rw [this]

theorem dw0 : ∑ x : Fin 2, 0 * (z (ix3 0 ⟨x.val, by omega⟩ d) * y (ix2 ⟨x.val, by omega⟩ d)) +
        ∑ x : Fin 4222, z (ix3 1 ⟨x.val, by omega⟩ d) * z (ix3 2 ⟨x.val, by omega⟩ d) *
          (z (ix3 0 ⟨2 + x.val, by omega⟩ d) * y (ix2 ⟨2 + x.val, by omega⟩ d)) = dw z y (ix2 0 d) := by
  show _ = ∑ t : Fin 4224, C z y d t * down 2 (U z d) t
  rw [Fin.sum_univ_two_halves 2 4222 rfl fun t : Fin 4224 => C z y d t * down 2 (U z d) t]
  refine congrArg₂ (· + ·) (Finset.sum_congr rfl fun t _ => ?_) (Finset.sum_congr rfl fun t _ => ?_)
  · have := t.isLt
    unfold down
    rw [dif_neg (by show ¬ 2 ≤ t.val; omega), zero_mul, mul_zero]
  · unfold down
    rw [dif_pos (by show 2 ≤ 2 + t.val; omega)]
    have : (⟨2 + t.val - 2, by omega⟩ : Fin 4224) = ⟨t.val, by omega⟩ := Fin.ext (by show 2 + t.val - 2 = t.val; omega)
    show _ = C z y d ⟨2 + t.val, _⟩ * U z d ⟨2 + t.val - 2, _⟩
    rw [this, mul_comm (z (ix3 0 _ d)), mul_comm]
end closing

set_option maxHeartbeats 4000000 in
theorem run_ref : θ_run defs (onTc (τ := τ) (main (F := Ideal))) ⟨m, fun _ => 0, ρ⟩ fun r => ∀ c : Dev nD,
      r.2.mem ((c.tc : Thread nD τ).loc main_v79) = dz (rz m c) (rw' m c) (ry m c)
      ∧ r.2.mem ((c.tc : Thread nD τ).loc main_v64) = dw (rz m c) (ry m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2.1.trans ?_, (h c).2.2.1, (h c).2.2.2.1, (h c).2.2.2.2⟩)
    (Value.run m ρ)
  · funext i
    change Value.res_main_v79 m c i = dz (rz m c) (rw' m c) (ry m c) i
    unfold Value.res_main_v79 rz rw' ry
    clear h
    generalize m ((c.tc : Thread nD τ).loc main_arg0) = z
    generalize m ((c.tc : Thread nD τ).loc main_arg1) = w
    generalize m ((c.tc : Thread nD τ).loc main_arg2) = y
    change S3x4224x2048.Idx → EReal at z
    change S3x2048.Idx → EReal at w
    change S4224x2048.Idx → EReal at y
    change S3x4224x2048.Idx at i
    idx_vars i
    have hi : i0 = 0 ∨ i0 = 1 ∨ i0 = 2 := by revert i0; decide
    obtain rfl | rfl | rfl := hi
    all_goals clean_types
    all_goals pointwise []
    · exact dz0 z w y i1 i2
    · exact (congrArg (· * z (ix3 2 i1 i2)) (du_eq z w y i1 i2)).trans rfl
    · exact ((mul_comm _ _).trans (congrArg (· * z (ix3 1 i1 i2)) (du_eq z w y i1 i2))).trans rfl
  · clear h
    unfold rz ry
    generalize m ((c.tc : Thread nD τ).loc main_arg0) = z
    generalize m ((c.tc : Thread nD τ).loc main_arg2) = y
    change S3x4224x2048.Idx → EReal at z
    change S4224x2048.Idx → EReal at y
    refine funext fun i => ?_
    change S3x2048.Idx at i
    idx_vars i
    have hi : i0 = 0 ∨ i0 = 1 ∨ i0 = 2 := by revert i0; decide
    obtain rfl | rfl | rfl := hi
    all_goals pointwise []
    · rw [Fin.sum_univ_one]; exact dw0 z y i1
    · rw [Fin.sum_univ_one]; exact dw1 z y i1
    · rw [Fin.sum_univ_one]; exact dw2 z y i1

end Cert.Proof.Gate

end
-- ==== Proof.Gate.lean ====
/- The gradient of the short-convolution gate: its frames, and the equality of the kernel's results and the reference's. -/
module

public import proofs.«01_k».proof.Defs
public import proofs.«01_k».proof.Proof.Gen.GateKernel.Frame
public import proofs.«01_k».proof.Proof.GateRef

@[expose] public section

noncomputable section

namespace Cert.Proof.Gate

open Idealize.ShloMosaic Idealize.ShloMosaic.TcCoe Idealize.SL.Sem

theorem frame_kernel : Cert.quiescent_GateKernel (hGateKernel := Cert.GateKernel.Gen.facts) :=
  fun m ρ _ => Cert.GateKernel.Gen.frame m ρ

theorem frame_ideal : Cert.quiescent_GateKernelIdeal (hGateKernelIdeal := Cert.GateKernelIdeal.Gen.facts) :=
  fun m ρ _ => Cert.GateKernelIdeal.Gen.frame m ρ

theorem frame_reference : Cert.quiescent_GateReferenceIdeal (hGateReferenceIdeal := Cert.GateReferenceIdeal.Gen.facts) :=
  fun m ρ _ => (θ_run Cert.GateReferenceIdeal.defs _ _).mono
    (fun r h => ⟨fun c => (h c).2.2, sem_eq_zero_of_no_sems (by decide) r.2⟩) (run_ref m ρ)

theorem value : Cert.algebraic_GateKernelIdeal_GateReferenceIdeal (hGateKernelIdeal := Cert.GateKernelIdeal.Gen.facts)
    (hGateReferenceIdeal := Cert.GateReferenceIdeal.Gen.facts) := by
  intro m g m' g' _ hagree
  refine ⟨fun c => dz (zOf m c) (wOf m c) (yOf m c), fun c => dw (zOf m c) (yOf m c), ?_, ?_⟩
  · exact (θ_run Cert.GateKernelIdeal.defs _ _).mono
      (fun r h c => ⟨(h c).1.trans (final5 m c), (h c).2.1.trans (final6 m c), (h c).2.2⟩)
      (Cert.GateKernelIdeal.Value.run_blocks m g)
  · refine (θ_run Cert.GateReferenceIdeal.defs _ _).mono
      (fun r h c => ⟨(h c).1.trans ?_, (h c).2.1.trans ?_, (h c).2.2⟩) (run_ref m' g')
    · unfold rz rw' ry
      rw [(hagree c).1, (hagree c).2.1, (hagree c).2.2]
    · unfold rz ry
      rw [(hagree c).1, (hagree c).2.2]

end Cert.Proof.Gate

end
-- ==== Proof.Model.lean ====
module

public import proofs.«01_k».proof.Proof.Gen.KernelIdeal.Skeleton
public import Idealize.ShloMosaic.Lib.VecWindow
public import Idealize.ShloMosaic.Lib.WordCmp
public import Idealize.ShloMosaic.Lib.Pointwise

/-! The step of the attention gradient at one grid point, as a plain function of the blocks it is
given: the block on the diagonal, then the blocks below it one after another, each adding to the
three sums the step carries and to its own rows of the gradient of the queries. -/

@[expose] public section
set_option maxRecDepth 16384
noncomputable section
namespace Attn
open Cert.KernelIdeal Cert.KernelIdeal.Gen
open Idealize.ShloMosaic Idealize.ShloMosaic.TcCoe

variable {F : FTy → Type} [FloatOps F]

/-- The point of head 0 in column `n` of the grid. -/
def pt (n : Fin 11) : grid0.Coords := fun a => match a with
  | ⟨0, _⟩ => (⟨0, by decide⟩ : Fin 16)
  | ⟨1, _⟩ => n

/-- The column of a point. -/
def col (i : grid0.Coords) : Fin 11 := i 1

theorem off1 (i : grid0.Coords) : k0_off1 i = ![384 * (col i).val, 0] :=
  (by decide +kernel : ∀ n : Fin 11, k0_off1 (pt n) = ![384 * n.val, 0]) (col i)
theorem off2 (i : grid0.Coords) : k0_off2 i = ![0, 384 * (col i).val, 0] :=
  (by decide +kernel : ∀ n : Fin 11, k0_off2 (pt n) = ![0, 384 * n.val, 0]) (col i)
theorem trips1 (i : grid0.Coords) : (k0_t1_loop i).trips = 10 - (col i).val :=
  (by decide +kernel : ∀ n : Fin 11, (k0_t1_loop (pt n)).trips = 10 - n.val) (col i)
theorem trips2 (i : grid0.Coords) : (k0_t2_loop i).trips = 0 :=
  (by decide +kernel : ∀ n : Fin 11, (k0_t2_loop (pt n)).trips = 0) (col i)
theorem trips3 (i : grid0.Coords) : (k0_t3_loop i).trips = 10 - (col i).val :=
  (by decide +kernel : ∀ n : Fin 11, (k0_t3_loop (pt n)).trips = 10 - n.val) (col i)
theorem trips4 (i : grid0.Coords) : (k0_t4_loop i).trips = 0 :=
  (by decide +kernel : ∀ n : Fin 11, (k0_t4_loop (pt n)).trips = 0) (col i)
theorem off3 (i : grid0.Coords) (k : Fin (k0_t1_loop i).trips) : k0_off3 i k = ![384 * ((col i).val + 1 + k.val), 0] :=
  (by decide +kernel : ∀ n : Fin 11, ∀ k : Fin (k0_t1_loop (pt n)).trips, k0_off3 (pt n) k = ![384 * (n.val + 1 + k.val), 0]) (col i) k
theorem off4 (i : grid0.Coords) (k : Fin (k0_t1_loop i).trips) : k0_off4 i k = ![0, 384 * ((col i).val + 1 + k.val), 0] :=
  (by decide +kernel : ∀ n : Fin 11, ∀ k : Fin (k0_t1_loop (pt n)).trips, k0_off4 (pt n) k = ![0, 384 * (n.val + 1 + k.val), 0]) (col i) k
theorem off7 (i : grid0.Coords) (k : Fin (k0_t3_loop i).trips) : k0_off7 i k = ![384 * ((col i).val + 1 + k.val), 0] :=
  (by decide +kernel : ∀ n : Fin 11, ∀ k : Fin (k0_t3_loop (pt n)).trips, k0_off7 (pt n) k = ![384 * (n.val + 1 + k.val), 0]) (col i) k
theorem off8 (i : grid0.Coords) (k : Fin (k0_t3_loop i).trips) : k0_off8 i k = ![0, 384 * ((col i).val + 1 + k.val), 0] :=
  (by decide +kernel : ∀ n : Fin 11, ∀ k : Fin (k0_t3_loop (pt n)).trips, k0_off8 (pt n) k = ![0, 384 * (n.val + 1 + k.val), 0]) (col i) k
theorem cond2 (i : grid0.Coords) : k0_cond2 i = 1#1 ↔ (col i).val = 0 :=
  (by decide +kernel : ∀ n : Fin 11, k0_cond2 (pt n) = 1#1 ↔ n.val = 0) (col i)

/-- Rows `384 b … 384 b + 383` of an array of 4224 rows. -/
def tile {α : Type} (x : S4224x128.Idx → α) (b : ℕ) : S384x128.Idx → α :=
  fun y => x (ix2 (⟨(384 * b + (y 0).val) % 4224, Nat.mod_lt _ (by omega)⟩ : Fin 4224) (⟨(y 1).val, (y 1).isLt⟩ : Fin 128))

/-- The same rows of the array with a leading axis of length one. -/
def tile3 {α : Type} (x : S1x4224x128.Idx → α) (b : ℕ) : S1x384x128.Idx → α :=
  fun y => x (ix3 (⟨0, by omega⟩ : Fin 1) (⟨(384 * b + (y 1).val) % 4224, Nat.mod_lt _ (by omega)⟩ : Fin 4224) (⟨(y 2).val, (y 2).isLt⟩ : Fin 128))

/-- The array with `w` in rows `384 b … 384 b + 383`. -/
def putTile {α : Type} (x : S4224x128.Idx → α) (b : ℕ) (w : S384x128.Idx → α) : S4224x128.Idx → α :=
  VecWindow.put x ![384 * b, 0] S384x128.size w

theorem window_tile {α : Type} (x : S4224x128.Idx → α) (b : ℕ) (hb : b < 11) (off : Fin 2 → ℕ) (h : off = ![384 * b, 0])
    (inb : ∀ a, off a + S384x128.size a ≤ S4224x128.size a) :
    VecWindow.window x off S384x128.size inb = tile x b := by
  subst h
  funext y
  refine congrArg x (funext fun a => Fin.ext ?_)
  have h0 : (y 0).val < 384 := (y 0).isLt
  fin_cases a
  · show 384 * b + 1 * (y 0).val = (384 * b + (y 0).val) % 4224
    rw [Nat.mod_eq_of_lt (by omega)]; omega
  · show 0 + 1 * (y 1).val = (y 1).val
    omega

theorem window_tile3 {α : Type} (x : S1x4224x128.Idx → α) (b : ℕ) (hb : b < 11) (off : Fin 3 → ℕ) (h : off = ![0, 384 * b, 0])
    (inb : ∀ a, off a + S1x384x128.size a ≤ S1x4224x128.size a) :
    VecWindow.window x off S1x384x128.size inb = tile3 x b := by
  subst h
  funext y
  refine congrArg x (funext fun a => Fin.ext ?_)
  have h0 : (y 0).val < 1 := (y 0).isLt
  have h1 : (y 1).val < 384 := (y 1).isLt
  fin_cases a
  · show 0 + 1 * (y 0).val = 0
    omega
  · show 384 * b + 1 * (y 1).val = (384 * b + (y 1).val) % 4224
    rw [Nat.mod_eq_of_lt (by omega)]; omega
  · show 0 + 1 * (y 2).val = (y 2).val
    omega

/-- What one point is given. -/
structure Ins (F : FTy → Type) [FloatOps F] where
  q : Vec F S4224x128 .bf16
  k : Vec F S384x128 .bf16
  v : Vec F S384x128 .bf16
  o : Vec F S4224x128 .f32
  d : Vec F S4224x128 .bf16
  l : Vec F S1x4224x128 .f32
  c : Vec F S4224x128 .f32
  ct : Vec F S1x1x1x384 .f32

/-- The sums a point carries: of the gradients of its keys (before the scale), of its values and of its gates. -/
abbrev Carry (F : FTy → Type) [FloatOps F] := FVec F S384x128 .f32 × FVec F S384x128 .f32 × FVec F S1x384 .f32

/-- The carried sums and the gradient of the queries so far. -/
abbrev St (F : FTy → Type) [FloatOps F] := Carry F × Vec F S4224x128 .f32

/-- The block on the diagonal. -/
def diag (i : grid0.Coords) (I : Ins F) (y : Vec F S4224x128 .f32) : St F :=
  let j : BitVec 32 := BitVec.ofNat 32 (i 1).val
  let b : ℕ := (col i).val
  let ck := k0_pay40 I.ct
  let lse := k0_pay44 (tile3 I.l b)
  let cq := k0_pay45 i (tile I.c b)
  let dd := k0_pay46 (tile I.d b) (tile I.o b)
  ((k0_pay51 j I.k I.v ck k0_pay41 (tile I.q b) (tile I.d b) lse cq dd,
    k0_pay50 j I.k ck k0_pay42 (tile I.q b) (tile I.d b) lse cq,
    k0_pay52 j I.k I.v ck k0_pay43 (tile I.q b) (tile I.d b) lse cq dd),
   putTile y b (k0_pay53 j I.k I.v ck (tile I.q b) (tile I.d b) lse cq dd (tile y b)))

/-- The `k`-th block below the diagonal in the first column, where the keys before the pad are masked. -/
def below1 (i : grid0.Coords) (I : Ins F) (k : Fin (k0_t1_loop i).trips) (s : St F) : St F :=
  let h : BitVec 32 := BitVec.ofNat 32 (i 0).val
  let j : BitVec 32 := BitVec.ofNat 32 (i 1).val
  let b : ℕ := (col i).val + 1 + k.val
  let ck := k0_pay40 I.ct
  let q := tile I.q b
  let d := tile I.d b
  let dd := k0_pay23 d (tile I.o b)
  let e := k0_pay24 h I.k ck q (tile3 I.l b) (tile I.c b)
  let rows := k0_pay25 i (Scalar.addi j 1#32) 1#32 k
  let cols := k0_pay26 j
  ((k0_pay5 I.v s.1.1 q d dd e rows cols, k0_pay4 s.1.2.1 d e rows cols, k0_pay6 I.v s.1.2.2 d dd e rows cols),
   putTile s.2 b (k0_pay7 I.k I.v d dd e rows cols (tile s.2 b)))

/-- The `k`-th block below the diagonal in the other columns, unmasked. -/
def below3 (i : grid0.Coords) (I : Ins F) (k : Fin (k0_t3_loop i).trips) (s : St F) : St F :=
  let h : BitVec 32 := BitVec.ofNat 32 (i 0).val
  let b : ℕ := (col i).val + 1 + k.val
  let ck := k0_pay40 I.ct
  let q := tile I.q b
  let d := tile I.d b
  let l := tile3 I.l b
  let c := tile I.c b
  let o := tile I.o b
  ((k0_pay15 s.1.1 q (k0_pay33 h I.k I.v ck q d l c o), k0_pay34 h I.k ck s.1.2.1 q d l c, k0_pay16 s.1.2.2 (k0_pay32 h I.k I.v ck q d l c o)),
   putTile s.2 b (k0_pay17 I.k (k0_pay33 h I.k I.v ck q d l c o) (tile s.2 b)))

/-- The state after `n` blocks below the diagonal. -/
def loop1 (i : grid0.Coords) (I : Ins F) (s : St F) : ℕ → St F
  | 0 => s
  | n + 1 => if h : n < (k0_t1_loop i).trips then below1 i I ⟨n, h⟩ (loop1 i I s n) else loop1 i I s n

/-- The state after `n` blocks below the diagonal. -/
def loop3 (i : grid0.Coords) (I : Ins F) (s : St F) : ℕ → St F
  | 0 => s
  | n + 1 => if h : n < (k0_t3_loop i).trips then below3 i I ⟨n, h⟩ (loop3 i I s n) else loop3 i I s n

/-- The whole point, from the gradient of the queries it finds. -/
def point (i : grid0.Coords) (I : Ins F) (y : Vec F S4224x128 .f32) : St F :=
  if (col i).val = 0 then loop1 i I (diag i I k0_pay39) (k0_t1_loop i).trips
  else loop3 i I (diag i I y) (k0_t3_loop i).trips

end Attn
end
-- ==== Proof.LoopEq.lean ====
module

public import proofs.«01_k».proof.Proof.Model
public import proofs.«01_k».proof.Proof.Gen.KernelIdeal.Loops

/-! The two loops of the attention gradient leave what the model says. -/

@[expose] public section
set_option maxRecDepth 16384
noncomputable section
namespace Attn
open Cert.KernelIdeal Cert.KernelIdeal.Gen
open Idealize.ShloMosaic Idealize.ShloMosaic.TcCoe Idealize.ShloMosaic.Tactic
open Idealize.SL Idealize.SL.RA Idealize.SL.BI

variable {F : FTy → Type} [FloatOps F]

theorem readAt_tile {e : EltTy} (v : View sig .tc .vmem S4224x128 e) (f : v.ty.Contents (Elt F)) (b : ℕ) (hb : b < 11) {off : Fin 2 → ℕ}
    (h : off = ![384 * b, 0]) (inb : ∀ a, off a + S384x128.size a ≤ S4224x128.size a) :
    v.readAt (Elt F) (Rect.unit (s := S4224x128) off S384x128.size inb).toLoadRect f = tile (v.read (Elt F) f) b :=
  (View.readAt_unit v f inb rfl inb).trans (window_tile _ b hb off h inb)

theorem readAt_tile3 {e : EltTy} (v : View sig .tc .vmem S1x4224x128 e) (f : v.ty.Contents (Elt F)) (b : ℕ) (hb : b < 11) {off : Fin 3 → ℕ}
    (h : off = ![0, 384 * b, 0]) (inb : ∀ a, off a + S1x384x128.size a ≤ S1x4224x128.size a) :
    v.readAt (Elt F) (Rect.unit (s := S1x4224x128) off S1x384x128.size inb).toLoadRect f = tile3 (v.read (Elt F) f) b :=
  (View.readAt_unit v f inb rfl inb).trans (window_tile3 _ b hb off h inb)

theorem read_put {e : EltTy} (v : View sig .tc .vmem S4224x128 e) (f : v.ty.Contents (Elt F)) (b : ℕ) {off : Fin 2 → ℕ}
    (h : off = ![384 * b, 0]) (inb : ∀ a, off a + S384x128.size a ≤ S4224x128.size a) (w : Vec F S384x128 e) (L : List (View.Piece (Elt F) S4224x128 e)) :
    v.read (Elt F) (v.writes (Elt F) f (⟨Rect.unit off S384x128.size inb, w⟩ :: L)) = putTile (v.read (Elt F) (v.writes (Elt F) f L)) b w :=
  View.read_writes_cons_put v f inb w L h

theorem tripR1 (𝒱 : Variants) (cc : Dev nD) (bd : Option 𝒱.V) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S4224x128 .bf16) (harg6 : arg6.IsWhole) (arg7 : Memref sig .tc .vmem S1x4224x128 .f32) (harg7 : arg7.IsWhole) (arg8 : Memref sig .tc .vmem S4224x128 .f32) (harg8 : arg8.IsWhole) (arg9 : Memref sig .tc .vmem S1x1x1x384 .f32) (harg9 : arg9.IsWhole) (arg10 : Memref sig .tc .vmem S4224x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S1x1x1x384 .f32) (harg13 : arg13.IsWhole) (I : Ins F) (k0_h2 : k0_cond2 i = 1#1) (X2 : BufTy.Contents (Elt F) arg2.view.ty) (X5 : BufTy.Contents (Elt F) arg5.view.ty) (X6 : BufTy.Contents (Elt F) arg6.view.ty) (X7 : BufTy.Contents (Elt F) arg7.view.ty) (X8 : BufTy.Contents (Elt F) arg8.view.ty) (hX2 : arg2.view.read (Elt F) X2 = I.q) (hX5 : arg5.view.read (Elt F) X5 = I.o) (hX6 : arg6.view.read (Elt F) X6 = I.d) (hX7 : arg7.view.read (Elt F) X7 = I.l) (hX8 : arg8.view.read (Elt F) X8 = I.c) (k : Fin (k0_t1_loop i).trips) (acc : Carry F) (f : BufTy.Contents (Elt F) arg10.view.ty) :
    tripR_k0_t1 (F := F) 𝒱 cc bd i arg2 harg2 arg3 harg3 arg4 harg4 arg5 harg5 arg6 harg6 arg7 harg7 arg8 harg8 arg9 harg9 arg10 harg10 arg11 harg11 arg12 harg12 arg13 harg13 (BitVec.ofNat 32 (i 0).val) (BitVec.ofNat 32 (i 1).val) I.k I.v (k0_pay40 I.ct) k0_h2 (Scalar.addi (BitVec.ofNat 32 (i 1).val) 1#32) X2 X5 X6 X7 X8 k acc f = (below1 i I k (acc, arg10.view.read (Elt F) f)).1
    ∧ ∀ (G : BufTy.Contents (Elt F) arg10.view.ty) (L : List (View.Piece (Elt F) S4224x128 .f32)), f = arg10.view.writes (Elt F) G L →
      arg10.view.read (Elt F) (arg10.view.writes (Elt F) G (tripL_k0_t1 (F := F) 𝒱 cc bd i arg2 harg2 arg3 harg3 arg4 harg4 arg5 harg5 arg6 harg6 arg7 harg7 arg8 harg8 arg9 harg9 arg10 harg10 arg11 harg11 arg12 harg12 arg13 harg13 (BitVec.ofNat 32 (i 0).val) (BitVec.ofNat 32 (i 1).val) I.k I.v (k0_pay40 I.ct) k0_h2 (Scalar.addi (BitVec.ofNat 32 (i 1).val) 1#32) X2 X5 X6 X7 X8 k acc f ++ L)) = (below1 i I k (acc, arg10.view.read (Elt F) f)).2 := by
  have hb : (col i).val + 1 + k.val < 11 := by have := k.isLt; have := trips1 i; omega
  unfold tripR_k0_t1 tripL_k0_t1 trip_k0_t1
  dsimp only
  refine ⟨?_, fun G L hf => ?_⟩
  · simp only [trip_k0_t1.sl.r, trip_k0_t1.sl.r_1, trip_k0_t1.sl.r_2, trip_k0_t1.sl.r_3, trip_k0_t1.sl.r_4]
    simp only [readAt_tile _ _ _ hb (off3 i k), readAt_tile3 _ _ _ hb (off4 i k), hX2, hX5, hX6, hX7, hX8]
    rfl
  · subst hf
    rw [List.singleton_append, read_put _ _ _ (off3 i k)]
    simp only [trip_k0_t1.sl.r, trip_k0_t1.sl.r_1, trip_k0_t1.sl.r_2, trip_k0_t1.sl.r_3, trip_k0_t1.sl.r_4]
    simp only [readAt_tile _ _ _ hb (off3 i k), readAt_tile3 _ _ _ hb (off4 i k), hX2, hX5, hX6, hX7, hX8]
    rfl

theorem st1_eq (𝒱 : Variants) (cc : Dev nD) (bd : Option 𝒱.V) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S4224x128 .bf16) (harg6 : arg6.IsWhole) (arg7 : Memref sig .tc .vmem S1x4224x128 .f32) (harg7 : arg7.IsWhole) (arg8 : Memref sig .tc .vmem S4224x128 .f32) (harg8 : arg8.IsWhole) (arg9 : Memref sig .tc .vmem S1x1x1x384 .f32) (harg9 : arg9.IsWhole) (arg10 : Memref sig .tc .vmem S4224x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S1x1x1x384 .f32) (harg13 : arg13.IsWhole) (I : Ins F) (k0_h2 : k0_cond2 i = 1#1) (X2 : BufTy.Contents (Elt F) arg2.view.ty) (X5 : BufTy.Contents (Elt F) arg5.view.ty) (X6 : BufTy.Contents (Elt F) arg6.view.ty) (X7 : BufTy.Contents (Elt F) arg7.view.ty) (X8 : BufTy.Contents (Elt F) arg8.view.ty) (hX2 : arg2.view.read (Elt F) X2 = I.q) (hX5 : arg5.view.read (Elt F) X5 = I.o) (hX6 : arg6.view.read (Elt F) X6 = I.d) (hX7 : arg7.view.read (Elt F) X7 = I.l) (hX8 : arg8.view.read (Elt F) X8 = I.c) (G : BufTy.Contents (Elt F) arg10.view.ty) (init : Carry F) : ∀ n : ℕ, n ≤ (k0_t1_loop i).trips →
    (st_k0_t1 (F := F) 𝒱 cc bd i arg2 harg2 arg3 harg3 arg4 harg4 arg5 harg5 arg6 harg6 arg7 harg7 arg8 harg8 arg9 harg9 arg10 harg10 arg11 harg11 arg12 harg12 arg13 harg13 (BitVec.ofNat 32 (i 0).val) (BitVec.ofNat 32 (i 1).val) I.k I.v (k0_pay40 I.ct) k0_h2 (Scalar.addi (BitVec.ofNat 32 (i 1).val) 1#32) X2 X5 X6 X7 X8 G init n).1 = (loop1 i I (init, arg10.view.read (Elt F) G) n).1
    ∧ arg10.view.read (Elt F) (arg10.view.writes (Elt F) G (st_k0_t1 (F := F) 𝒱 cc bd i arg2 harg2 arg3 harg3 arg4 harg4 arg5 harg5 arg6 harg6 arg7 harg7 arg8 harg8 arg9 harg9 arg10 harg10 arg11 harg11 arg12 harg12 arg13 harg13 (BitVec.ofNat 32 (i 0).val) (BitVec.ofNat 32 (i 1).val) I.k I.v (k0_pay40 I.ct) k0_h2 (Scalar.addi (BitVec.ofNat 32 (i 1).val) 1#32) X2 X5 X6 X7 X8 G init n).2) = (loop1 i I (init, arg10.view.read (Elt F) G) n).2
  | 0, _ => ⟨rfl, rfl⟩
  | n + 1, hn => by
    obtain ⟨h1, h2⟩ := st1_eq 𝒱 cc bd i arg2 harg2 arg3 harg3 arg4 harg4 arg5 harg5 arg6 harg6 arg7 harg7 arg8 harg8 arg9 harg9 arg10 harg10 arg11 harg11 arg12 harg12 arg13 harg13 I k0_h2 X2 X5 X6 X7 X8 hX2 hX5 hX6 hX7 hX8 G init n (by omega)
    have hlt : n < (k0_t1_loop i).trips := by omega
    have e := st_k0_t1_succ (F := F) 𝒱 cc bd i arg2 harg2 arg3 harg3 arg4 harg4 arg5 harg5 arg6 harg6 arg7 harg7 arg8 harg8 arg9 harg9 arg10 harg10 arg11 harg11 arg12 harg12 arg13 harg13 (BitVec.ofNat 32 (i 0).val) (BitVec.ofNat 32 (i 1).val) I.k I.v (k0_pay40 I.ct) k0_h2 (Scalar.addi (BitVec.ofNat 32 (i 1).val) 1#32) X2 X5 X6 X7 X8 G init ⟨n, hlt⟩
    have hl : loop1 i I (init, arg10.view.read (Elt F) G) (n + 1) = below1 i I ⟨n, hlt⟩ (loop1 i I (init, arg10.view.read (Elt F) G) n) := dif_pos hlt
    rw [hl]
    have t := tripR1 𝒱 cc bd i arg2 harg2 arg3 harg3 arg4 harg4 arg5 harg5 arg6 harg6 arg7 harg7 arg8 harg8 arg9 harg9 arg10 harg10 arg11 harg11 arg12 harg12 arg13 harg13 I k0_h2 X2 X5 X6 X7 X8 hX2 hX5 hX6 hX7 hX8 ⟨n, hlt⟩ (st_k0_t1 (F := F) 𝒱 cc bd i arg2 harg2 arg3 harg3 arg4 harg4 arg5 harg5 arg6 harg6 arg7 harg7 arg8 harg8 arg9 harg9 arg10 harg10 arg11 harg11 arg12 harg12 arg13 harg13 (BitVec.ofNat 32 (i 0).val) (BitVec.ofNat 32 (i 1).val) I.k I.v (k0_pay40 I.ct) k0_h2 (Scalar.addi (BitVec.ofNat 32 (i 1).val) 1#32) X2 X5 X6 X7 X8 G init n).1 (arg10.view.writes (Elt F) G (st_k0_t1 (F := F) 𝒱 cc bd i arg2 harg2 arg3 harg3 arg4 harg4 arg5 harg5 arg6 harg6 arg7 harg7 arg8 harg8 arg9 harg9 arg10 harg10 arg11 harg11 arg12 harg12 arg13 harg13 (BitVec.ofNat 32 (i 0).val) (BitVec.ofNat 32 (i 1).val) I.k I.v (k0_pay40 I.ct) k0_h2 (Scalar.addi (BitVec.ofNat 32 (i 1).val) 1#32) X2 X5 X6 X7 X8 G init n).2)
    have hs : ((st_k0_t1 (F := F) 𝒱 cc bd i arg2 harg2 arg3 harg3 arg4 harg4 arg5 harg5 arg6 harg6 arg7 harg7 arg8 harg8 arg9 harg9 arg10 harg10 arg11 harg11 arg12 harg12 arg13 harg13 (BitVec.ofNat 32 (i 0).val) (BitVec.ofNat 32 (i 1).val) I.k I.v (k0_pay40 I.ct) k0_h2 (Scalar.addi (BitVec.ofNat 32 (i 1).val) 1#32) X2 X5 X6 X7 X8 G init n).1, arg10.view.read (Elt F) (arg10.view.writes (Elt F) G (st_k0_t1 (F := F) 𝒱 cc bd i arg2 harg2 arg3 harg3 arg4 harg4 arg5 harg5 arg6 harg6 arg7 harg7 arg8 harg8 arg9 harg9 arg10 harg10 arg11 harg11 arg12 harg12 arg13 harg13 (BitVec.ofNat 32 (i 0).val) (BitVec.ofNat 32 (i 1).val) I.k I.v (k0_pay40 I.ct) k0_h2 (Scalar.addi (BitVec.ofNat 32 (i 1).val) 1#32) X2 X5 X6 X7 X8 G init n).2)) = loop1 i I (init, arg10.view.read (Elt F) G) n := Prod.ext h1 h2
    rw [hs] at t
    exact ⟨(congrArg Prod.fst e).trans t.1, (congrArg (fun z => arg10.view.read (Elt F) (arg10.view.writes (Elt F) G z.2)) e).trans (t.2 G _ rfl)⟩

theorem tripR3 (𝒱 : Variants) (cc : Dev nD) (bd : Option 𝒱.V) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S4224x128 .bf16) (harg6 : arg6.IsWhole) (arg7 : Memref sig .tc .vmem S1x4224x128 .f32) (harg7 : arg7.IsWhole) (arg8 : Memref sig .tc .vmem S4224x128 .f32) (harg8 : arg8.IsWhole) (arg9 : Memref sig .tc .vmem S1x1x1x384 .f32) (harg9 : arg9.IsWhole) (arg10 : Memref sig .tc .vmem S4224x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S1x1x1x384 .f32) (harg13 : arg13.IsWhole) (I : Ins F) (k0_h2 : ¬(k0_cond2 i = 1#1)) (X2 : BufTy.Contents (Elt F) arg2.view.ty) (X5 : BufTy.Contents (Elt F) arg5.view.ty) (X6 : BufTy.Contents (Elt F) arg6.view.ty) (X7 : BufTy.Contents (Elt F) arg7.view.ty) (X8 : BufTy.Contents (Elt F) arg8.view.ty) (hX2 : arg2.view.read (Elt F) X2 = I.q) (hX5 : arg5.view.read (Elt F) X5 = I.o) (hX6 : arg6.view.read (Elt F) X6 = I.d) (hX7 : arg7.view.read (Elt F) X7 = I.l) (hX8 : arg8.view.read (Elt F) X8 = I.c) (k : Fin (k0_t3_loop i).trips) (acc : Carry F) (f : BufTy.Contents (Elt F) arg10.view.ty) :
    tripR_k0_t3 (F := F) 𝒱 cc bd i arg2 harg2 arg3 harg3 arg4 harg4 arg5 harg5 arg6 harg6 arg7 harg7 arg8 harg8 arg9 harg9 arg10 harg10 arg11 harg11 arg12 harg12 arg13 harg13 (BitVec.ofNat 32 (i 0).val) I.k I.v (k0_pay40 I.ct) k0_h2 (Scalar.addi (BitVec.ofNat 32 (i 1).val) 1#32) X2 X5 X6 X7 X8 k acc f = (below3 i I k (acc, arg10.view.read (Elt F) f)).1
    ∧ ∀ (G : BufTy.Contents (Elt F) arg10.view.ty) (L : List (View.Piece (Elt F) S4224x128 .f32)), f = arg10.view.writes (Elt F) G L →
      arg10.view.read (Elt F) (arg10.view.writes (Elt F) G (tripL_k0_t3 (F := F) 𝒱 cc bd i arg2 harg2 arg3 harg3 arg4 harg4 arg5 harg5 arg6 harg6 arg7 harg7 arg8 harg8 arg9 harg9 arg10 harg10 arg11 harg11 arg12 harg12 arg13 harg13 (BitVec.ofNat 32 (i 0).val) I.k I.v (k0_pay40 I.ct) k0_h2 (Scalar.addi (BitVec.ofNat 32 (i 1).val) 1#32) X2 X5 X6 X7 X8 k acc f ++ L)) = (below3 i I k (acc, arg10.view.read (Elt F) f)).2 := by
  have hb : (col i).val + 1 + k.val < 11 := by have := k.isLt; have := trips3 i; omega
  unfold tripR_k0_t3 tripL_k0_t3 trip_k0_t3
  dsimp only
  refine ⟨?_, fun G L hf => ?_⟩
  · simp only [trip_k0_t3.sl.r, trip_k0_t3.sl.r_1, trip_k0_t3.sl.r_2, trip_k0_t3.sl.r_3]
    simp only [readAt_tile _ _ _ hb (off7 i k), readAt_tile3 _ _ _ hb (off8 i k), hX2, hX5, hX6, hX7, hX8]
    rfl
  · subst hf
    rw [List.singleton_append, read_put _ _ _ (off7 i k)]
    simp only [trip_k0_t3.sl.r, trip_k0_t3.sl.r_1, trip_k0_t3.sl.r_2, trip_k0_t3.sl.r_3]
    simp only [readAt_tile _ _ _ hb (off7 i k), readAt_tile3 _ _ _ hb (off8 i k), hX2, hX5, hX6, hX7, hX8]
    rfl

theorem st3_eq (𝒱 : Variants) (cc : Dev nD) (bd : Option 𝒱.V) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S4224x128 .bf16) (harg6 : arg6.IsWhole) (arg7 : Memref sig .tc .vmem S1x4224x128 .f32) (harg7 : arg7.IsWhole) (arg8 : Memref sig .tc .vmem S4224x128 .f32) (harg8 : arg8.IsWhole) (arg9 : Memref sig .tc .vmem S1x1x1x384 .f32) (harg9 : arg9.IsWhole) (arg10 : Memref sig .tc .vmem S4224x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S1x1x1x384 .f32) (harg13 : arg13.IsWhole) (I : Ins F) (k0_h2 : ¬(k0_cond2 i = 1#1)) (X2 : BufTy.Contents (Elt F) arg2.view.ty) (X5 : BufTy.Contents (Elt F) arg5.view.ty) (X6 : BufTy.Contents (Elt F) arg6.view.ty) (X7 : BufTy.Contents (Elt F) arg7.view.ty) (X8 : BufTy.Contents (Elt F) arg8.view.ty) (hX2 : arg2.view.read (Elt F) X2 = I.q) (hX5 : arg5.view.read (Elt F) X5 = I.o) (hX6 : arg6.view.read (Elt F) X6 = I.d) (hX7 : arg7.view.read (Elt F) X7 = I.l) (hX8 : arg8.view.read (Elt F) X8 = I.c) (G : BufTy.Contents (Elt F) arg10.view.ty) (init : Carry F) : ∀ n : ℕ, n ≤ (k0_t3_loop i).trips →
    (st_k0_t3 (F := F) 𝒱 cc bd i arg2 harg2 arg3 harg3 arg4 harg4 arg5 harg5 arg6 harg6 arg7 harg7 arg8 harg8 arg9 harg9 arg10 harg10 arg11 harg11 arg12 harg12 arg13 harg13 (BitVec.ofNat 32 (i 0).val) I.k I.v (k0_pay40 I.ct) k0_h2 (Scalar.addi (BitVec.ofNat 32 (i 1).val) 1#32) X2 X5 X6 X7 X8 G init n).1 = (loop3 i I (init, arg10.view.read (Elt F) G) n).1
    ∧ arg10.view.read (Elt F) (arg10.view.writes (Elt F) G (st_k0_t3 (F := F) 𝒱 cc bd i arg2 harg2 arg3 harg3 arg4 harg4 arg5 harg5 arg6 harg6 arg7 harg7 arg8 harg8 arg9 harg9 arg10 harg10 arg11 harg11 arg12 harg12 arg13 harg13 (BitVec.ofNat 32 (i 0).val) I.k I.v (k0_pay40 I.ct) k0_h2 (Scalar.addi (BitVec.ofNat 32 (i 1).val) 1#32) X2 X5 X6 X7 X8 G init n).2) = (loop3 i I (init, arg10.view.read (Elt F) G) n).2
  | 0, _ => ⟨rfl, rfl⟩
  | n + 1, hn => by
    obtain ⟨h1, h2⟩ := st3_eq 𝒱 cc bd i arg2 harg2 arg3 harg3 arg4 harg4 arg5 harg5 arg6 harg6 arg7 harg7 arg8 harg8 arg9 harg9 arg10 harg10 arg11 harg11 arg12 harg12 arg13 harg13 I k0_h2 X2 X5 X6 X7 X8 hX2 hX5 hX6 hX7 hX8 G init n (by omega)
    have hlt : n < (k0_t3_loop i).trips := by omega
    have e := st_k0_t3_succ (F := F) 𝒱 cc bd i arg2 harg2 arg3 harg3 arg4 harg4 arg5 harg5 arg6 harg6 arg7 harg7 arg8 harg8 arg9 harg9 arg10 harg10 arg11 harg11 arg12 harg12 arg13 harg13 (BitVec.ofNat 32 (i 0).val) I.k I.v (k0_pay40 I.ct) k0_h2 (Scalar.addi (BitVec.ofNat 32 (i 1).val) 1#32) X2 X5 X6 X7 X8 G init ⟨n, hlt⟩
    have hl : loop3 i I (init, arg10.view.read (Elt F) G) (n + 1) = below3 i I ⟨n, hlt⟩ (loop3 i I (init, arg10.view.read (Elt F) G) n) := dif_pos hlt
    rw [hl]
    have t := tripR3 𝒱 cc bd i arg2 harg2 arg3 harg3 arg4 harg4 arg5 harg5 arg6 harg6 arg7 harg7 arg8 harg8 arg9 harg9 arg10 harg10 arg11 harg11 arg12 harg12 arg13 harg13 I k0_h2 X2 X5 X6 X7 X8 hX2 hX5 hX6 hX7 hX8 ⟨n, hlt⟩ (st_k0_t3 (F := F) 𝒱 cc bd i arg2 harg2 arg3 harg3 arg4 harg4 arg5 harg5 arg6 harg6 arg7 harg7 arg8 harg8 arg9 harg9 arg10 harg10 arg11 harg11 arg12 harg12 arg13 harg13 (BitVec.ofNat 32 (i 0).val) I.k I.v (k0_pay40 I.ct) k0_h2 (Scalar.addi (BitVec.ofNat 32 (i 1).val) 1#32) X2 X5 X6 X7 X8 G init n).1 (arg10.view.writes (Elt F) G (st_k0_t3 (F := F) 𝒱 cc bd i arg2 harg2 arg3 harg3 arg4 harg4 arg5 harg5 arg6 harg6 arg7 harg7 arg8 harg8 arg9 harg9 arg10 harg10 arg11 harg11 arg12 harg12 arg13 harg13 (BitVec.ofNat 32 (i 0).val) I.k I.v (k0_pay40 I.ct) k0_h2 (Scalar.addi (BitVec.ofNat 32 (i 1).val) 1#32) X2 X5 X6 X7 X8 G init n).2)
    have hs : ((st_k0_t3 (F := F) 𝒱 cc bd i arg2 harg2 arg3 harg3 arg4 harg4 arg5 harg5 arg6 harg6 arg7 harg7 arg8 harg8 arg9 harg9 arg10 harg10 arg11 harg11 arg12 harg12 arg13 harg13 (BitVec.ofNat 32 (i 0).val) I.k I.v (k0_pay40 I.ct) k0_h2 (Scalar.addi (BitVec.ofNat 32 (i 1).val) 1#32) X2 X5 X6 X7 X8 G init n).1, arg10.view.read (Elt F) (arg10.view.writes (Elt F) G (st_k0_t3 (F := F) 𝒱 cc bd i arg2 harg2 arg3 harg3 arg4 harg4 arg5 harg5 arg6 harg6 arg7 harg7 arg8 harg8 arg9 harg9 arg10 harg10 arg11 harg11 arg12 harg12 arg13 harg13 (BitVec.ofNat 32 (i 0).val) I.k I.v (k0_pay40 I.ct) k0_h2 (Scalar.addi (BitVec.ofNat 32 (i 1).val) 1#32) X2 X5 X6 X7 X8 G init n).2)) = loop3 i I (init, arg10.view.read (Elt F) G) n := Prod.ext h1 h2
    rw [hs] at t
    exact ⟨(congrArg Prod.fst e).trans t.1, (congrArg (fun z => arg10.view.read (Elt F) (arg10.view.writes (Elt F) G z.2)) e).trans (t.2 G _ rfl)⟩

end Attn
end
-- ==== Proof.Body.lean ====
module

public import proofs.«01_k».proof.Proof.LoopEq
public import proofs.«01_k».proof.Proof.Gen.KernelIdeal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut

/-! The body at one point: with the blocks it is given and the gradient of the queries as the point
before left it, it leaves what the model says. -/

@[expose] public section
set_option maxRecDepth 16384
noncomputable section
namespace Attn
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem fin1 (𝒱 : Variants) (cc : Dev nD) (bd : Option 𝒱.V) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S4224x128 .bf16) (harg6 : arg6.IsWhole) (arg7 : Memref sig .tc .vmem S1x4224x128 .f32) (harg7 : arg7.IsWhole) (arg8 : Memref sig .tc .vmem S4224x128 .f32) (harg8 : arg8.IsWhole) (arg9 : Memref sig .tc .vmem S1x1x1x384 .f32) (harg9 : arg9.IsWhole) (arg10 : Memref sig .tc .vmem S4224x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S1x1x1x384 .f32) (harg13 : arg13.IsWhole) (I : Ins F) (y : Vec F S4224x128 .f32) (k0_h2 : k0_cond2 i = 1#1) (X2 : BufTy.Contents (Elt F) arg2.view.ty) (X5 : BufTy.Contents (Elt F) arg5.view.ty) (X6 : BufTy.Contents (Elt F) arg6.view.ty) (X7 : BufTy.Contents (Elt F) arg7.view.ty) (X8 : BufTy.Contents (Elt F) arg8.view.ty) (hX2 : arg2.view.read (Elt F) X2 = I.q) (hX5 : arg5.view.read (Elt F) X5 = I.o) (hX6 : arg6.view.read (Elt F) X6 = I.d) (hX7 : arg7.view.read (Elt F) X7 = I.l) (hX8 : arg8.view.read (Elt F) X8 = I.c) (hj : (col i).val = 0)
    (v3 : Vec F S384x128 .bf16) (v4 : Vec F S384x128 .bf16) (v6 : FVec F S1x384 .f32) (h3 : v3 = I.k) (h4 : v4 = I.v) (h6 : v6 = k0_pay40 I.ct)
    (G : BufTy.Contents (Elt F) arg10.view.ty) (init : Carry F) (hi : init = (diag i I k0_pay39).1) (hG : arg10.view.read (Elt F) G = (diag i I k0_pay39).2) :
    (st_k0_t1 (F := F) 𝒱 cc bd i arg2 harg2 arg3 harg3 arg4 harg4 arg5 harg5 arg6 harg6 arg7 harg7 arg8 harg8 arg9 harg9 arg10 harg10 arg11 harg11 arg12 harg12 arg13 harg13 (BitVec.ofNat 32 (i 0).val) (BitVec.ofNat 32 (i 1).val) v3 v4 v6 k0_h2 (Scalar.addi (BitVec.ofNat 32 (i 1).val) 1#32) X2 X5 X6 X7 X8 G init (k0_t1_loop i).trips).1 = (point i I y).1
    ∧ arg10.view.read (Elt F) (arg10.view.writes (Elt F) G (st_k0_t1 (F := F) 𝒱 cc bd i arg2 harg2 arg3 harg3 arg4 harg4 arg5 harg5 arg6 harg6 arg7 harg7 arg8 harg8 arg9 harg9 arg10 harg10 arg11 harg11 arg12 harg12 arg13 harg13 (BitVec.ofNat 32 (i 0).val) (BitVec.ofNat 32 (i 1).val) v3 v4 v6 k0_h2 (Scalar.addi (BitVec.ofNat 32 (i 1).val) 1#32) X2 X5 X6 X7 X8 G init (k0_t1_loop i).trips).2) = (point i I y).2 := by
  subst h3 h4 h6
  have e := st1_eq 𝒱 cc bd i arg2 harg2 arg3 harg3 arg4 harg4 arg5 harg5 arg6 harg6 arg7 harg7 arg8 harg8 arg9 harg9 arg10 harg10 arg11 harg11 arg12 harg12 arg13 harg13 I k0_h2 X2 X5 X6 X7 X8 hX2 hX5 hX6 hX7 hX8 G init (k0_t1_loop i).trips le_rfl
  have hp : point i I y = loop1 i I (init, arg10.view.read (Elt F) G) (k0_t1_loop i).trips := by
    rw [hi, hG]; exact if_pos hj
  rw [hp]; exact e

theorem fin3 (𝒱 : Variants) (cc : Dev nD) (bd : Option 𝒱.V) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S4224x128 .bf16) (harg6 : arg6.IsWhole) (arg7 : Memref sig .tc .vmem S1x4224x128 .f32) (harg7 : arg7.IsWhole) (arg8 : Memref sig .tc .vmem S4224x128 .f32) (harg8 : arg8.IsWhole) (arg9 : Memref sig .tc .vmem S1x1x1x384 .f32) (harg9 : arg9.IsWhole) (arg10 : Memref sig .tc .vmem S4224x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S1x1x1x384 .f32) (harg13 : arg13.IsWhole) (I : Ins F) (y : Vec F S4224x128 .f32) (k0_h2 : ¬(k0_cond2 i = 1#1)) (X2 : BufTy.Contents (Elt F) arg2.view.ty) (X5 : BufTy.Contents (Elt F) arg5.view.ty) (X6 : BufTy.Contents (Elt F) arg6.view.ty) (X7 : BufTy.Contents (Elt F) arg7.view.ty) (X8 : BufTy.Contents (Elt F) arg8.view.ty) (hX2 : arg2.view.read (Elt F) X2 = I.q) (hX5 : arg5.view.read (Elt F) X5 = I.o) (hX6 : arg6.view.read (Elt F) X6 = I.d) (hX7 : arg7.view.read (Elt F) X7 = I.l) (hX8 : arg8.view.read (Elt F) X8 = I.c) (hj : ¬(col i).val = 0)
    (v3 : Vec F S384x128 .bf16) (v4 : Vec F S384x128 .bf16) (v6 : FVec F S1x384 .f32) (h3 : v3 = I.k) (h4 : v4 = I.v) (h6 : v6 = k0_pay40 I.ct)
    (G : BufTy.Contents (Elt F) arg10.view.ty) (init : Carry F) (hi : init = (diag i I y).1) (hG : arg10.view.read (Elt F) G = (diag i I y).2) :
    (st_k0_t3 (F := F) 𝒱 cc bd i arg2 harg2 arg3 harg3 arg4 harg4 arg5 harg5 arg6 harg6 arg7 harg7 arg8 harg8 arg9 harg9 arg10 harg10 arg11 harg11 arg12 harg12 arg13 harg13 (BitVec.ofNat 32 (i 0).val) v3 v4 v6 k0_h2 (Scalar.addi (BitVec.ofNat 32 (i 1).val) 1#32) X2 X5 X6 X7 X8 G init (k0_t3_loop i).trips).1 = (point i I y).1
    ∧ arg10.view.read (Elt F) (arg10.view.writes (Elt F) G (st_k0_t3 (F := F) 𝒱 cc bd i arg2 harg2 arg3 harg3 arg4 harg4 arg5 harg5 arg6 harg6 arg7 harg7 arg8 harg8 arg9 harg9 arg10 harg10 arg11 harg11 arg12 harg12 arg13 harg13 (BitVec.ofNat 32 (i 0).val) v3 v4 v6 k0_h2 (Scalar.addi (BitVec.ofNat 32 (i 1).val) 1#32) X2 X5 X6 X7 X8 G init (k0_t3_loop i).trips).2) = (point i I y).2 := by
  subst h3 h4 h6
  have e := st3_eq 𝒱 cc bd i arg2 harg2 arg3 harg3 arg4 harg4 arg5 harg5 arg6 harg6 arg7 harg7 arg8 harg8 arg9 harg9 arg10 harg10 arg11 harg11 arg12 harg12 arg13 harg13 I k0_h2 X2 X5 X6 X7 X8 hX2 hX5 hX6 hX7 hX8 G init (k0_t3_loop i).trips le_rfl
  have hp : point i I y = loop3 i I (init, arg10.view.read (Elt F) G) (k0_t3_loop i).trips := by
    rw [hi, hG]; exact if_neg hj
  rw [hp]; exact e

theorem diag_fst (i : grid0.Coords) (I : Ins F) (y : Vec F S4224x128 .f32)
    (v3 : Vec F S384x128 .bf16) (v4 : Vec F S384x128 .bf16) (v5 : Vec F S1x1x1x384 .f32) (v13 v15 : Vec F S384x128 .bf16) (v17 : Vec F S1x384x128 .f32) (v21 v32 : Vec F S384x128 .f32)
    (h3 : v3 = I.k) (h4 : v4 = I.v) (h5 : v5 = I.ct) (h13 : v13 = tile I.q (col i).val) (h15 : v15 = tile I.d (col i).val) (h17 : v17 = tile3 I.l (col i).val)
    (h21 : v21 = tile I.c (col i).val) (h32 : v32 = tile I.o (col i).val) :
    ((k0_pay51 (BitVec.ofNat 32 (i 1).val) v3 v4 (k0_pay40 v5) k0_pay41 v13 v15 (k0_pay44 v17) (k0_pay45 i v21) (k0_pay46 v15 v32),
      k0_pay50 (BitVec.ofNat 32 (i 1).val) v3 (k0_pay40 v5) k0_pay42 v13 v15 (k0_pay44 v17) (k0_pay45 i v21),
      k0_pay52 (BitVec.ofNat 32 (i 1).val) v3 v4 (k0_pay40 v5) k0_pay43 v13 v15 (k0_pay44 v17) (k0_pay45 i v21) (k0_pay46 v15 v32)) : Carry F)
      = (diag i I y).1 := by
  subst h3 h4 h5 h13 h15 h17 h21 h32; rfl

theorem diag_snd (i : grid0.Coords) (I : Ins F) (y : Vec F S4224x128 .f32)
    (v3 : Vec F S384x128 .bf16) (v4 : Vec F S384x128 .bf16) (v5 : Vec F S1x1x1x384 .f32) (v13 v15 : Vec F S384x128 .bf16) (v17 : Vec F S1x384x128 .f32) (v21 v32 v75 : Vec F S384x128 .f32)
    (z : Vec F S4224x128 .f32) (hz : z = y)
    (h3 : v3 = I.k) (h4 : v4 = I.v) (h5 : v5 = I.ct) (h13 : v13 = tile I.q (col i).val) (h15 : v15 = tile I.d (col i).val) (h17 : v17 = tile3 I.l (col i).val)
    (h21 : v21 = tile I.c (col i).val) (h32 : v32 = tile I.o (col i).val) (h75 : v75 = tile y (col i).val) :
    putTile z (col i).val (k0_pay53 (BitVec.ofNat 32 (i 1).val) v3 v4 (k0_pay40 v5) v13 v15 (k0_pay44 v17) (k0_pay45 i v21) (k0_pay46 v15 v32) v75)
      = (diag i I y).2 := by
  subst h3 h4 h5 h13 h15 h17 h21 h32 h75 hz; rfl

set_option maxHeartbeats 4000000 in
theorem sound_first (c : Dev nD) (E : Set ℕ) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S4224x128 .bf16) (harg6 : arg6.IsWhole) (arg7 : Memref sig .tc .vmem S1x4224x128 .f32) (harg7 : arg7.IsWhole) (arg8 : Memref sig .tc .vmem S4224x128 .f32) (harg8 : arg8.IsWhole) (arg9 : Memref sig .tc .vmem S1x1x1x384 .f32) (harg9 : arg9.IsWhole) (arg10 : Memref sig .tc .vmem S4224x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S1x1x1x384 .f32) (harg13 : arg13.IsWhole) (I : Ins F) (y : Vec F S4224x128 .f32) (hj : (col i).val = 0) (K : PUnit → sProp 𝕄) :
    iprop(owns (c : Thread nD τ) arg2 fullShare I.q ∗ owns (c : Thread nD τ) arg3 fullShare I.k ∗ owns (c : Thread nD τ) arg4 fullShare I.v ∗ owns (c : Thread nD τ) arg5 fullShare I.o ∗ owns (c : Thread nD τ) arg6 fullShare I.d ∗ owns (c : Thread nD τ) arg7 fullShare I.l ∗ owns (c : Thread nD τ) arg8 fullShare I.c ∗ owns (c : Thread nD τ) arg9 fullShare I.ct ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare I.q ∗ owns (c : Thread nD τ) arg3 fullShare I.k ∗ owns (c : Thread nD τ) arg4 fullShare I.v ∗ owns (c : Thread nD τ) arg5 fullShare I.o ∗ owns (c : Thread nD τ) arg6 fullShare I.d ∗ owns (c : Thread nD τ) arg7 fullShare I.l ∗ owns (c : Thread nD τ) arg8 fullShare I.c ∗ owns (c : Thread nD τ) arg9 fullShare I.ct ∗ owns (c : Thread nD τ) arg10 fullShare (point i I y).2 ∗ owns (c : Thread nD τ) arg11 fullShare (k0_pay21 (point i I y).1.1) ∗ owns (c : Thread nD τ) arg12 fullShare (point i I y).1.2.1 ∗ owns (c : Thread nD τ) arg13 fullShare (k0_pay22 (point i I y).1.2.2)) -∗ K ⟨⟩))
      ⊢ wp frame (wpE (defs₀ (F := F)) Variants.none c none) E (cc0_attn_bwd_1 i arg2 harg2 arg3 harg3 arg4 harg4 arg5 harg5 arg6 harg6 arg7 harg7 arg8 harg8 arg9 harg9 arg10 harg10 arg11 harg11 arg12 harg12 arg13 harg13) K := by
  simp only [cc0_attn_bwd_1_eq_skeleton]; unfold cc0_attn_bwd_1_skel
  simp only [k0_part5_eq_skeleton, k0_part6_eq_skeleton]

  have ht2 : (k0_t2_loop i).trips = 0 := trips2 i
  have ht4 : (k0_t4_loop i).trips = 0 := trips4 i
  have hc : Scalar.cmpi .ne (Scalar.extui (Scalar.cmpi .eq (BitVec.ofNat 32 (i 1).val) 0#32)) 0#32 = 1#1 := (cond2 i).mpr hj
  have hc2 : k0_cond2 i = 1#1 := (cond2 i).mpr hj
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  sl_exec (disch := sl_exact hc)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists _; isplitr
    swap; · iexact H10
    ipureintro
    have htU : Scf.trips (k0_t2_loop i).lb (k0_t2_loop i).ub (k0_t2_loop i).st = 0 := ht2
    simp only [htU, st_k0_t2, List.nil_append]
    rw [View.writes_append]
    refine (fin1 _ _ _ i arg2 harg2 arg3 harg3 arg4 harg4 arg5 harg5 arg6 harg6 arg7 harg7 arg8 harg8 arg9 harg9 arg10 harg10 arg11 harg11 arg12 harg12 arg13 harg13 I y hc2 f2 f5 f6 f7 f8 hf2 hf5 hf6 hf7 hf8 hj _ _ _ ((View.readAt_full _ _ _).trans hf3) ((View.readAt_full _ _ _).trans hf4) (congrArg k0_pay40 ((View.readAt_full _ _ _).trans hf9)) _ _ ?_ ?_).2
    · exact diag_fst i I _ _ _ _ _ _ _ _ _ ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5))
    · refine (read_put _ _ _ (off1 i) _ _ _).trans ?_
      exact diag_snd i I _ _ _ _ _ _ _ _ _ _ _ (View.read_writes_full _ _ _ _ _) ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5)) ((readAt_tile _ _ _ (col i).isLt (off1 i) _).trans (congrArg (fun z => tile z (col i).val) (View.read_writes_full _ _ _ _ _)))
  isplitl [H11]
  · iexists _; isplitr
    swap; · iexact H11
    ipureintro
    have htU : Scf.trips (k0_t2_loop i).lb (k0_t2_loop i).ub (k0_t2_loop i).st = 0 := ht2
    simp only [htU, st_k0_t2, List.nil_append]
    rw [View.read_writes_full]
    refine congrArg (fun z : Carry F => k0_pay21 z.1) (fin1 _ _ _ i arg2 harg2 arg3 harg3 arg4 harg4 arg5 harg5 arg6 harg6 arg7 harg7 arg8 harg8 arg9 harg9 arg10 harg10 arg11 harg11 arg12 harg12 arg13 harg13 I y hc2 f2 f5 f6 f7 f8 hf2 hf5 hf6 hf7 hf8 hj _ _ _ ((View.readAt_full _ _ _).trans hf3) ((View.readAt_full _ _ _).trans hf4) (congrArg k0_pay40 ((View.readAt_full _ _ _).trans hf9)) _ _ ?_ ?_).1
    · exact diag_fst i I _ _ _ _ _ _ _ _ _ ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5))
    · refine (read_put _ _ _ (off1 i) _ _ _).trans ?_
      exact diag_snd i I _ _ _ _ _ _ _ _ _ _ _ (View.read_writes_full _ _ _ _ _) ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5)) ((readAt_tile _ _ _ (col i).isLt (off1 i) _).trans (congrArg (fun z => tile z (col i).val) (View.read_writes_full _ _ _ _ _)))
  isplitl [H12]
  · iexists _; isplitr
    swap; · iexact H12
    ipureintro
    have htU : Scf.trips (k0_t2_loop i).lb (k0_t2_loop i).ub (k0_t2_loop i).st = 0 := ht2
    simp only [htU, st_k0_t2, List.nil_append]
    rw [View.read_writes_full]
    refine congrArg (fun z : Carry F => z.2.1) (fin1 _ _ _ i arg2 harg2 arg3 harg3 arg4 harg4 arg5 harg5 arg6 harg6 arg7 harg7 arg8 harg8 arg9 harg9 arg10 harg10 arg11 harg11 arg12 harg12 arg13 harg13 I y hc2 f2 f5 f6 f7 f8 hf2 hf5 hf6 hf7 hf8 hj _ _ _ ((View.readAt_full _ _ _).trans hf3) ((View.readAt_full _ _ _).trans hf4) (congrArg k0_pay40 ((View.readAt_full _ _ _).trans hf9)) _ _ ?_ ?_).1
    · exact diag_fst i I _ _ _ _ _ _ _ _ _ ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5))
    · refine (read_put _ _ _ (off1 i) _ _ _).trans ?_
      exact diag_snd i I _ _ _ _ _ _ _ _ _ _ _ (View.read_writes_full _ _ _ _ _) ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5)) ((readAt_tile _ _ _ (col i).isLt (off1 i) _).trans (congrArg (fun z => tile z (col i).val) (View.read_writes_full _ _ _ _ _)))
  · iexists _; isplitr
    swap; · iexact H13
    ipureintro
    have htU : Scf.trips (k0_t2_loop i).lb (k0_t2_loop i).ub (k0_t2_loop i).st = 0 := ht2
    simp only [htU, st_k0_t2, List.nil_append]
    rw [View.read_writes_full]
    refine congrArg (fun z : Carry F => k0_pay22 z.2.2) (fin1 _ _ _ i arg2 harg2 arg3 harg3 arg4 harg4 arg5 harg5 arg6 harg6 arg7 harg7 arg8 harg8 arg9 harg9 arg10 harg10 arg11 harg11 arg12 harg12 arg13 harg13 I y hc2 f2 f5 f6 f7 f8 hf2 hf5 hf6 hf7 hf8 hj _ _ _ ((View.readAt_full _ _ _).trans hf3) ((View.readAt_full _ _ _).trans hf4) (congrArg k0_pay40 ((View.readAt_full _ _ _).trans hf9)) _ _ ?_ ?_).1
    · exact diag_fst i I _ _ _ _ _ _ _ _ _ ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5))
    · refine (read_put _ _ _ (off1 i) _ _ _).trans ?_
      exact diag_snd i I _ _ _ _ _ _ _ _ _ _ _ (View.read_writes_full _ _ _ _ _) ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5)) ((readAt_tile _ _ _ (col i).isLt (off1 i) _).trans (congrArg (fun z => tile z (col i).val) (View.read_writes_full _ _ _ _ _)))

set_option maxHeartbeats 4000000 in
theorem sound_other (c : Dev nD) (E : Set ℕ) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S4224x128 .bf16) (harg6 : arg6.IsWhole) (arg7 : Memref sig .tc .vmem S1x4224x128 .f32) (harg7 : arg7.IsWhole) (arg8 : Memref sig .tc .vmem S4224x128 .f32) (harg8 : arg8.IsWhole) (arg9 : Memref sig .tc .vmem S1x1x1x384 .f32) (harg9 : arg9.IsWhole) (arg10 : Memref sig .tc .vmem S4224x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S1x1x1x384 .f32) (harg13 : arg13.IsWhole) (I : Ins F) (y : Vec F S4224x128 .f32) (hj : ¬(col i).val = 0) (K : PUnit → sProp 𝕄) :
    iprop(owns (c : Thread nD τ) arg2 fullShare I.q ∗ owns (c : Thread nD τ) arg3 fullShare I.k ∗ owns (c : Thread nD τ) arg4 fullShare I.v ∗ owns (c : Thread nD τ) arg5 fullShare I.o ∗ owns (c : Thread nD τ) arg6 fullShare I.d ∗ owns (c : Thread nD τ) arg7 fullShare I.l ∗ owns (c : Thread nD τ) arg8 fullShare I.c ∗ owns (c : Thread nD τ) arg9 fullShare I.ct ∗ owns (c : Thread nD τ) arg10 fullShare y ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare I.q ∗ owns (c : Thread nD τ) arg3 fullShare I.k ∗ owns (c : Thread nD τ) arg4 fullShare I.v ∗ owns (c : Thread nD τ) arg5 fullShare I.o ∗ owns (c : Thread nD τ) arg6 fullShare I.d ∗ owns (c : Thread nD τ) arg7 fullShare I.l ∗ owns (c : Thread nD τ) arg8 fullShare I.c ∗ owns (c : Thread nD τ) arg9 fullShare I.ct ∗ owns (c : Thread nD τ) arg10 fullShare (point i I y).2 ∗ owns (c : Thread nD τ) arg11 fullShare (k0_pay21 (point i I y).1.1) ∗ owns (c : Thread nD τ) arg12 fullShare (point i I y).1.2.1 ∗ owns (c : Thread nD τ) arg13 fullShare (k0_pay22 (point i I y).1.2.2)) -∗ K ⟨⟩))
      ⊢ wp frame (wpE (defs₀ (F := F)) Variants.none c none) E (cc0_attn_bwd_1 i arg2 harg2 arg3 harg3 arg4 harg4 arg5 harg5 arg6 harg6 arg7 harg7 arg8 harg8 arg9 harg9 arg10 harg10 arg11 harg11 arg12 harg12 arg13 harg13) K := by
  simp only [cc0_attn_bwd_1_eq_skeleton]; unfold cc0_attn_bwd_1_skel
  simp only [k0_part5_eq_skeleton, k0_part6_eq_skeleton]

  have ht2 : (k0_t2_loop i).trips = 0 := trips2 i
  have ht4 : (k0_t4_loop i).trips = 0 := trips4 i
  have hc : ¬(Scalar.cmpi .ne (Scalar.extui (Scalar.cmpi .eq (BitVec.ofNat 32 (i 1).val) 0#32)) 0#32 = 1#1) := fun h => hj ((cond2 i).mp h)
  have hc2 : ¬(k0_cond2 i = 1#1) := fun h => hj ((cond2 i).mp h)
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  sl_exec (disch := sl_exact hc)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists _; isplitr
    swap; · iexact H10
    ipureintro
    have htU : Scf.trips (k0_t4_loop i).lb (k0_t4_loop i).ub (k0_t4_loop i).st = 0 := ht4
    simp only [htU, st_k0_t4, List.nil_append]
    rw [View.writes_append]
    refine (fin3 _ _ _ i arg2 harg2 arg3 harg3 arg4 harg4 arg5 harg5 arg6 harg6 arg7 harg7 arg8 harg8 arg9 harg9 arg10 harg10 arg11 harg11 arg12 harg12 arg13 harg13 I y hc2 f2 f5 f6 f7 f8 hf2 hf5 hf6 hf7 hf8 hj _ _ _ ((View.readAt_full _ _ _).trans hf3) ((View.readAt_full _ _ _).trans hf4) (congrArg k0_pay40 ((View.readAt_full _ _ _).trans hf9)) _ _ ?_ ?_).2
    · exact diag_fst i I _ _ _ _ _ _ _ _ _ ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5))
    · refine (read_put _ _ _ (off1 i) _ _ _).trans ?_
      exact diag_snd i I _ _ _ _ _ _ _ _ _ _ _ hf10 ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5)) ((readAt_tile _ _ _ (col i).isLt (off1 i) _).trans (congrArg (fun z => tile z (col i).val) hf10))
  isplitl [H11]
  · iexists _; isplitr
    swap; · iexact H11
    ipureintro
    have htU : Scf.trips (k0_t4_loop i).lb (k0_t4_loop i).ub (k0_t4_loop i).st = 0 := ht4
    simp only [htU, st_k0_t4, List.nil_append]
    rw [View.read_writes_full]
    refine congrArg (fun z : Carry F => k0_pay21 z.1) (fin3 _ _ _ i arg2 harg2 arg3 harg3 arg4 harg4 arg5 harg5 arg6 harg6 arg7 harg7 arg8 harg8 arg9 harg9 arg10 harg10 arg11 harg11 arg12 harg12 arg13 harg13 I y hc2 f2 f5 f6 f7 f8 hf2 hf5 hf6 hf7 hf8 hj _ _ _ ((View.readAt_full _ _ _).trans hf3) ((View.readAt_full _ _ _).trans hf4) (congrArg k0_pay40 ((View.readAt_full _ _ _).trans hf9)) _ _ ?_ ?_).1
    · exact diag_fst i I _ _ _ _ _ _ _ _ _ ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5))
    · refine (read_put _ _ _ (off1 i) _ _ _).trans ?_
      exact diag_snd i I _ _ _ _ _ _ _ _ _ _ _ hf10 ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5)) ((readAt_tile _ _ _ (col i).isLt (off1 i) _).trans (congrArg (fun z => tile z (col i).val) hf10))
  isplitl [H12]
  · iexists _; isplitr
    swap; · iexact H12
    ipureintro
    have htU : Scf.trips (k0_t4_loop i).lb (k0_t4_loop i).ub (k0_t4_loop i).st = 0 := ht4
    simp only [htU, st_k0_t4, List.nil_append]
    rw [View.read_writes_full]
    refine congrArg (fun z : Carry F => z.2.1) (fin3 _ _ _ i arg2 harg2 arg3 harg3 arg4 harg4 arg5 harg5 arg6 harg6 arg7 harg7 arg8 harg8 arg9 harg9 arg10 harg10 arg11 harg11 arg12 harg12 arg13 harg13 I y hc2 f2 f5 f6 f7 f8 hf2 hf5 hf6 hf7 hf8 hj _ _ _ ((View.readAt_full _ _ _).trans hf3) ((View.readAt_full _ _ _).trans hf4) (congrArg k0_pay40 ((View.readAt_full _ _ _).trans hf9)) _ _ ?_ ?_).1
    · exact diag_fst i I _ _ _ _ _ _ _ _ _ ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5))
    · refine (read_put _ _ _ (off1 i) _ _ _).trans ?_
      exact diag_snd i I _ _ _ _ _ _ _ _ _ _ _ hf10 ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5)) ((readAt_tile _ _ _ (col i).isLt (off1 i) _).trans (congrArg (fun z => tile z (col i).val) hf10))
  · iexists _; isplitr
    swap; · iexact H13
    ipureintro
    have htU : Scf.trips (k0_t4_loop i).lb (k0_t4_loop i).ub (k0_t4_loop i).st = 0 := ht4
    simp only [htU, st_k0_t4, List.nil_append]
    rw [View.read_writes_full]
    refine congrArg (fun z : Carry F => k0_pay22 z.2.2) (fin3 _ _ _ i arg2 harg2 arg3 harg3 arg4 harg4 arg5 harg5 arg6 harg6 arg7 harg7 arg8 harg8 arg9 harg9 arg10 harg10 arg11 harg11 arg12 harg12 arg13 harg13 I y hc2 f2 f5 f6 f7 f8 hf2 hf5 hf6 hf7 hf8 hj _ _ _ ((View.readAt_full _ _ _).trans hf3) ((View.readAt_full _ _ _).trans hf4) (congrArg k0_pay40 ((View.readAt_full _ _ _).trans hf9)) _ _ ?_ ?_).1
    · exact diag_fst i I _ _ _ _ _ _ _ _ _ ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5))
    · refine (read_put _ _ _ (off1 i) _ _ _).trans ?_
      exact diag_snd i I _ _ _ _ _ _ _ _ _ _ _ hf10 ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5)) ((readAt_tile _ _ _ (col i).isLt (off1 i) _).trans (congrArg (fun z => tile z (col i).val) hf10))

end Attn
end
-- ==== Proof.Run.lean ====
module

public import proofs.«01_k».proof.Proof.Body
public import proofs.«01_k».proof.Proof.Gen.Kernel.Frame
public import proofs.«01_k».proof.Proof.Gen.ReferenceIdeal.Run

/-! The run of the attention gradient's pallas_call, at any values: the proof data, the body at every
point of the grid, the run, and the frames of the kernel, of its idealization and of the reference. -/

@[expose] public section
set_option maxRecDepth 16384
noncomputable section
namespace Attn
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the point `t` is given: its windows' blocks. -/
def ins (c : Dev nD) (t : Fin cfg0.N) : Ins F where
  q := iblk m c 0 t
  k := iblk m c 1 t
  v := iblk m c 2 t
  o := iblk m c 3 t
  d := iblk m c 4 t
  l := iblk m c 5 t
  c := iblk m c 6 t
  ct := iblk m c 7 t

/-- The gradient of the queries as point `n` leaves it. -/
def dqAt (c : Dev nD) : ℕ → Vec F S4224x128 .f32
  | 0 => (point (grid0.coords ⟨0, by decide⟩) (ins m c ⟨0, by decide⟩) k0_pay39).2
  | n + 1 => if h : n + 1 < cfg0.N then (point (grid0.coords ⟨n + 1, h⟩) (ins m c ⟨n + 1, h⟩) (dqAt c n)).2 else dqAt c n

/-- What point `n` finds of it: of no matter in the first column. -/
def dqBefore (c : Dev nD) : ℕ → Vec F S4224x128 .f32
  | 0 => k0_pay39
  | n + 1 => dqAt m c n

/-- What point `t` leaves. -/
def left (c : Dev nD) (t : Fin cfg0.N) : St F := point (grid0.coords t) (ins m c t) (dqBefore m c t.val)

theorem dqAt_eq (c : Dev nD) (t : Fin cfg0.N) : dqAt m c t.val = (left m c t).2 := by
  obtain ⟨n, hn⟩ := t
  cases n with
  | zero => rfl
  | succ n => exact dif_pos hn

/-- In the first column the point does not look at what it finds. -/
theorem point_first (i : grid0.Coords) (I : Ins F) (h : (col i).val = 0) (y z : Vec F S4224x128 .f32) : point i I y = point i I z := by
  unfold point; rw [if_pos h, if_pos h]

theorem col_coords : ∀ t : Fin cfg0.N, (col (grid0.coords t)).val = t.val % 11 :=
  (by decide +kernel : ∀ t : Fin grid0.N, (col (grid0.coords t)).val = t.val % 11)

/-- The proof data: each input's buffer at its block, the outputs' at what the model leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (left m c t).2
    | ⟨9, _⟩ => k0_pay21 (left m c t).1.1
    | ⟨10, _⟩ => (left m c t).1.2.1
    | ⟨11, _⟩ => k0_pay22 (left m c t).1.2.2
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (left m c t).2 := by dsimp only [dats]
theorem after0_9 (c : Dev nD) (t : Fin cfg0.N) : (dats m 0 c).after 9 t = k0_pay21 (left m c t).1.1 := by dsimp only [dats]
theorem after0_10 (c : Dev nD) (t : Fin cfg0.N) : (dats m 0 c).after 10 t = (left m c t).1.2.1 := by dsimp only [dats]
theorem after0_11 (c : Dev nD) (t : Fin cfg0.N) : (dats m 0 c).after 11 t = k0_pay22 (left m c t).1.2.2 := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-- Past the first column the body finds the gradient of the queries as the point before left it. -/
theorem before0_8 (c : Dev nD) (t : Fin cfg0.N) (ht : ¬ t.val % 11 = 0) (d) : (dats m 0 c).before 8 t d = dqBefore m c t.val := by
  have h0 : t.val ≠ 0 := fun h => ht (by rw [h])
  rw [(dats m 0 c).before_out_kept 8 rfl t h0
    (by
      have h := flush0_8 ⟨t.val - 1, Nat.lt_of_le_of_lt (Nat.sub_le _ _) t.isLt⟩
      have hn : ¬ (t.val - 1) % 11 = 10 := by omega
      exact Bool.eq_false_iff.mpr fun e => hn (h.mp e))
    (fun _ => rfl) (fun _ _ => rfl) d, after0_8]
  have e := dqAt_eq m c ⟨t.val - 1, Nat.lt_of_le_of_lt (Nat.sub_le _ _) t.isLt⟩
  rw [← e]
  obtain ⟨n, hn⟩ := t
  cases n with
  | zero => exact absurd rfl h0
  | succ n => rfl

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hcol : (col (grid0.coords t)).val = t.val % 11 := col_coords t
  by_cases ht : t.val % 11 = 0
  · iapply (sound_first c Set.univ (grid0.coords t) _ _ _ _ _ _ _ _ _ _ _ _ _ _ _ _ _ _ _ _ _ _ _ _ (ins m c t) (dqBefore m c t.val) (hcol.trans ht) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [before0_8 m c t ht]
    iapply (sound_other c Set.univ (grid0.coords t) _ _ _ _ _ _ _ _ _ _ _ _ _ _ _ _ _ _ _ _ _ _ _ _ (ins m c t) (dqBefore m c t.val) (fun h => ht (hcol.symm.trans h)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t`'s slots. -/
theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) Gen.launch0 defs₀ Variants.none m ρ main
    (hbody := fun c => (body_obligation m c).loose) (hshare := fun c w => by unfold Dat.share; split <;> rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The run leaves the arguments as they were and the counters at zero, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Attn
end
-- ==== Proof.AttnFrames.lean ====
/- The frames of the attention gradient: of the kernel, of its idealization and of the reference. -/
module

public import proofs.«01_k».proof.Defs
public import proofs.«01_k».proof.Proof.Run

@[expose] public section

noncomputable section

namespace Cert.Proof.Attn

open Idealize.ShloMosaic Idealize.ShloMosaic.TcCoe Idealize.SL.Sem

set_option maxHeartbeats 4000000
set_option maxRecDepth 100000

/-- The kernel and its idealization have the same body table at the machine's floats. -/
theorem table : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) =>
    change Cert.Kernel.cc0_attn_bwd_1 .. = Cert.KernelIdeal.cc0_attn_bwd_1 ..
    exact rfl

/-- They have the same host program. -/
theorem host : Cert.Kernel.main (F := Bits) = Cert.KernelIdeal.main (F := Bits) := rfl

theorem frame_kernel : Cert.quiescent_Kernel (hKernel := Cert.Kernel.Gen.facts) := by
  intro m ρ _
  have h := _root_.Attn.frame (F := Bits) m ρ
  unfold Cert.KernelIdeal.defs at h
  unfold Cert.Kernel.defs
  rw [← table] at h
  rw [host]
  exact h

theorem frame_ideal : Cert.quiescent_KernelIdeal (hKernelIdeal := Cert.KernelIdeal.Gen.facts) :=
  fun m ρ _ => _root_.Attn.frame (F := Ideal) m ρ

theorem frame_ideal_pre [Cert.Pre_finite.Facts] : Cert.quiescent_KernelIdeal_pre_finite (hKernelIdeal := Cert.KernelIdeal.Gen.facts) :=
  fun m ρ _ => _root_.Attn.frame (F := Ideal) m ρ

theorem frame_reference : Cert.quiescent_ReferenceIdeal (hReferenceIdeal := Cert.ReferenceIdeal.Gen.facts) :=
  fun m ρ _ => (θ_run Cert.ReferenceIdeal.defs _ _).mono
    (fun r h => ⟨fun c => (h c).2.2.2.2, sem_eq_zero_of_no_sems (by decide) r.2⟩) (Cert.ReferenceIdeal.Value.run m ρ)

theorem frame_reference_pre [Cert.Pre_finite.Facts] : Cert.quiescent_ReferenceIdeal_pre_finite (hReferenceIdeal := Cert.ReferenceIdeal.Gen.facts) :=
  fun m ρ _ => (θ_run Cert.ReferenceIdeal.defs _ _).mono
    (fun r h => ⟨fun c => (h c).2.2.2.2, sem_eq_zero_of_no_sems (by decide) r.2⟩) (Cert.ReferenceIdeal.Value.run m ρ)

end Cert.Proof.Attn

end
-- ==== Proof.Head.lean ====
/- One head of the attention gradient over the reals, and the tiles of the kernel's step read there. -/
module

public import proofs.«01_k».proof.Proof.Model
public import Idealize.ShloMosaic.Lib.Pipeline.ValueKit
public import Idealize.ShloMosaic.Lib.IdealHost
public import Idealize.ShloMosaic.Lib.Tactic.CleanTypes

@[expose] public section
set_option maxRecDepth 16384
noncomputable section
namespace Attn
open Cert.KernelIdeal Cert.KernelIdeal.Gen
open Idealize.ShloMosaic Idealize.ShloMosaic.TcCoe

/-- A sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem exp_coe (r : ℝ) : Ideal.exp (r : EReal) = ((Real.exp r : ℝ) : EReal) := rfl

/-- The scale of the scores, the single-precision number nearest to one over the root of 128. -/
def scl : ℝ := 11863283 / 134217728

theorem scl_word : Ideal.ofBits .f32 1035273459#32 = ((scl : ℝ) : EReal) := by
  simp [Ideal.ofBits, Ideal.ieee, scl]
  rw [← EReal.coe_mul]
  norm_num

/-- Row `a` of block `b`. -/
def row (b : ℕ) (a : Fin 384) : Fin 4224 := ⟨(384 * b + a.val) % 4224, Nat.mod_lt _ (by omega)⟩

theorem row_val (b : ℕ) (a : Fin 384) (h : b < 11) : (row b a).val = 384 * b + a.val := by
  have := a.isLt
  exact Nat.mod_eq_of_lt (by omega)

/-- One head: the queries, keys, values, the gradient of the output, the output, the logarithm of the normalizer and the
    running sum of the gates, row by row. -/
structure Head where
  q : Fin 4224 → Fin 128 → ℝ
  k : Fin 4224 → Fin 128 → ℝ
  v : Fin 4224 → Fin 128 → ℝ
  d : Fin 4224 → Fin 128 → ℝ
  o : Fin 4224 → Fin 128 → ℝ
  l : Fin 4224 → ℝ
  c : Fin 4224 → ℝ

namespace Head
variable (H : Head)

/-- The score of key `j` for query `i`. -/
def s (i j : Fin 4224) : ℝ := (∑ e, H.q i e * H.k j e) * scl + (H.c i - H.c j)

/-- The weight of key `j` for query `i`: none before the pad and none after the query. -/
def p (i j : Fin 4224) : ℝ := if 112 ≤ j.val ∧ j.val ≤ i.val then Real.exp (H.s i j - H.l i) else 0

/-- The gradient of the score. -/
def ds (i j : Fin 4224) : ℝ := H.p i j * ((∑ e, H.d i e * H.v j e) - ∑ e, H.d i e * H.o i e)

end Head

/-- The lane of a point's head. -/
def lane (i : grid0.Coords) : Fin 128 := ⟨(i 0).val, lt_of_lt_of_le (i 0).isLt (by decide)⟩

/-- The blocks a point is given are those of the head. -/
structure Reads (H : Head) (i : grid0.Coords) (I : Ins Ideal) : Prop where
  q : ∀ r e, I.q (ix2 r e) = (H.q r e : EReal)
  k : ∀ x e, I.k (ix2 x e) = (H.k (row (col i).val x) e : EReal)
  v : ∀ x e, I.v (ix2 x e) = (H.v (row (col i).val x) e : EReal)
  o : ∀ r e, I.o (ix2 r e) = (H.o r e : EReal)
  d : ∀ r e, I.d (ix2 r e) = (H.d r e : EReal)
  l : ∀ r, I.l (ix3 0 r 0) = (H.l r : EReal)
  c : ∀ r, I.c (ix2 r (lane i)) = (H.c r : EReal)
  ct : ∀ x, I.ct (ix4 0 0 0 x) = (H.c (row (col i).val x) : EReal)

theorem tile_at {α : Type} (x : S4224x128.Idx → α) (b : ℕ) (a : Fin 384) (e : Fin 128) :
    tile x b (ix2 a e) = x (ix2 (row b a) e) := rfl

theorem tile3_at {α : Type} (x : S1x4224x128.Idx → α) (b : ℕ) (a : Fin 384) (e : Fin 128) :
    tile3 x b (ix3 0 a e) = x (ix3 0 (row b a) e) := rfl

theorem word (n a : ℕ) : IntOp.addi (Scalar.muli (BitVec.ofNat 32 n) 384#32) (BitVec.ofNat 32 a) = BitVec.ofNat 32 (384 * n + a) := by
  show BitVec.ofNat 32 n * BitVec.ofNat 32 384 + BitVec.ofNat 32 a = _
  rw [← BitVec.ofNat_mul, ← BitVec.ofNat_add, Nat.mul_comm]

theorem mask_select {α : Type} (n m : ℕ) (hn : n < 4224) (hm : m < 4224) (A B : α) :
    Scalar.select (IntOp.andi (IntOp.cmpi .sle (BitVec.ofNat 32 m) (BitVec.ofNat 32 n)) (IntOp.cmpi .sge (BitVec.ofNat 32 m) 112#32)) A B
      = if 112 ≤ m ∧ m ≤ n then A else B := by
  rw [WordCmp.cmpi_sle_ofNat (by omega) (by omega), WordCmp.cmpi_sge_ofNat (by omega) (by omega), WordCmp.andi_ofBool, WordCmp.select_ofBool]
  by_cases h1 : 112 ≤ m <;> by_cases h2 : m ≤ n <;> simp [h1, h2]

theorem pick (f : Fin 128 → EReal) (h : Fin 128) :
    (∑ e : Fin 128, Scalar.select (IntOp.cmpi .eq (BitVec.ofNat 32 e.val) (BitVec.ofNat 32 h.val)) (f e) 0) = f h := by
  rw [Finset.sum_eq_single h]
  · rw [WordCmp.cmpi_eq_eq, WordCmp.select_ofBool]; simp
  · intro b _ hb
    have h1 := b.isLt; have h2 := h.isLt
    have : ¬ BitVec.ofNat 32 b.val = BitVec.ofNat 32 h.val := by
      rw [WordCmp.ofNat_eq_ofNat_iff (by omega) (by omega)]
      exact fun e => hb (Fin.ext e)
    rw [WordCmp.cmpi_eq_eq, WordCmp.select_ofBool]; simp [this]
  · intro h; exact absurd (Finset.mem_univ _) h

theorem zero_f32 : Ideal.ofBits .f32 0#32 = 0 := by simp [Ideal.ofBits, Ideal.ieee]

section
variable {H : Head} {i : grid0.Coords} {I : Ins Ideal} (R : Reads H i I)
include R

theorem ck_at (x : Fin 384) : k0_pay40 I.ct (ix2 0 x) = (H.c (row (col i).val x) : EReal) := by
  pointwise [k0_pay40]; exact R.ct x

theorem lse_at (b : ℕ) (a : Fin 384) : k0_pay44 (tile3 I.l b) (ix2 a 0) = (H.l (row b a) : EReal) := by
  pointwise [k0_pay44]; exact R.l _

theorem cq_at (b : ℕ) (a : Fin 384) : k0_pay45 i (tile I.c b) (ix2 a 0) = (H.c (row b a) : EReal) := by
  pointwise [k0_pay45]; exact (pick (fun e => tile I.c b (ix2 a e)) (lane i)).trans (R.c _)

/-- The exponential of the scores, before a mask. -/
theorem e_at (b : ℕ) (a x : Fin 384) :
    k0_pay31 (BitVec.ofNat 32 (i 0).val) I.k (k0_pay40 I.ct) (tile I.q b) (tile3 I.l b) (tile I.c b) (ix2 a x)
      = ((Real.exp (H.s (row b a) (row (col i).val x) - H.l (row b a)) : ℝ) : EReal) := by
  have hc := (pick (fun e => tile I.c b (ix2 a e)) (lane i)).trans (R.c _)
  pointwise [k0_pay31]
  rw [ck_at R]
  refine Eq.trans ?_ (exp_coe _)
  refine congrArg Ideal.exp ?_
  refine Eq.trans (congrArg₂ (· - ·) (congrArg₂ (· + ·) (congrArg₂ (· * ·) (Finset.sum_congr rfl fun e _ => congrArg₂ (· * ·) (R.q _ _) (R.k _ _)) scl_word) (congrArg (· - _) hc)) (R.l _)) ?_
  simp only [← EReal.coe_mul, ← coe_sum, ← EReal.coe_add, ← EReal.coe_sub]
  rfl

theorem e1_at (b : ℕ) (a x : Fin 384) :
    k0_pay24 (BitVec.ofNat 32 (i 0).val) I.k (k0_pay40 I.ct) (tile I.q b) (tile3 I.l b) (tile I.c b) (ix2 a x)
      = ((Real.exp (H.s (row b a) (row (col i).val x) - H.l (row b a)) : ℝ) : EReal) := e_at R b a x

/-- The weights of the block on the diagonal. -/
theorem p0_at (a x : Fin 384) :
    k0_pay47 (BitVec.ofNat 32 (i 1).val) I.k (k0_pay40 I.ct) (tile I.q (col i).val) (k0_pay44 (tile3 I.l (col i).val)) (k0_pay45 i (tile I.c (col i).val)) (ix2 a x)
      = (H.p (row (col i).val a) (row (col i).val x) : EReal) := by
  have hb := (col i).isLt
  have ha := a.isLt
  have hx := x.isLt
  pointwise [k0_pay47]
  rw [ck_at R, lse_at R, cq_at R]
  show Scalar.select (IntOp.andi (IntOp.cmpi .sle (IntOp.addi (Scalar.muli (BitVec.ofNat 32 (col i).val) 384#32) _) (IntOp.addi (Scalar.muli (BitVec.ofNat 32 (col i).val) 384#32) _)) (IntOp.cmpi .sge (IntOp.addi (Scalar.muli (BitVec.ofNat 32 (col i).val) 384#32) _) _)) _ _ = _
  rw [word, word, mask_select _ _ (by omega) (by omega)]
  unfold Head.p
  rw [row_val _ _ hb, row_val _ _ hb]
  split
  · refine Eq.trans ?_ (exp_coe _)
    refine congrArg Ideal.exp ?_
    refine Eq.trans (congrArg₂ (· - ·) (congrArg₂ (· + ·) (congrArg₂ (· * ·) (Finset.sum_congr rfl fun e _ => congrArg₂ (· * ·) (R.q _ _) (R.k _ _)) scl_word) rfl) rfl) ?_
    simp only [← EReal.coe_mul, ← coe_sum, ← EReal.coe_add, ← EReal.coe_sub]
    rfl
  · rfl

/-- The weights of a block below the diagonal in the first column. -/
theorem p1_at (k : Fin (k0_t1_loop i).trips) (a x : Fin 384) :
    k0_pay1 (k0_pay24 (BitVec.ofNat 32 (i 0).val) I.k (k0_pay40 I.ct) (tile I.q ((col i).val + 1 + k.val)) (tile3 I.l ((col i).val + 1 + k.val)) (tile I.c ((col i).val + 1 + k.val)))
      (k0_pay25 i (Scalar.addi (BitVec.ofNat 32 (i 1).val) 1#32) 1#32 k) (k0_pay26 (BitVec.ofNat 32 (i 1).val)) (ix2 a x)
      = (H.p (row ((col i).val + 1 + k.val) a) (row (col i).val x) : EReal) := by
  have hb := (col i).isLt
  have ha := a.isLt
  have hx := x.isLt
  have hk : k.val < 10 - (col i).val := lt_of_lt_of_eq k.isLt (trips1 i)
  have hrow : k0_pay25 i (Scalar.addi (BitVec.ofNat 32 (i 1).val) 1#32) 1#32 k (ix2 a x) = BitVec.ofNat 32 (384 * ((col i).val + 1 + k.val) + a.val) := by
    pointwise [k0_pay25]
    rw [← word]
    refine congrArg (fun z => IntOp.addi (Scalar.muli z 384#32) _) ?_
    show BitVec.ofNat 32 (col i).val + BitVec.ofNat 32 1 + BitVec.ofNat 32 k.val * BitVec.ofNat 32 1 = _
    rw [← BitVec.ofNat_mul, ← BitVec.ofNat_add, ← BitVec.ofNat_add, Nat.mul_one]
  have hcol : k0_pay26 (BitVec.ofNat 32 (i 1).val) (ix2 a x) = BitVec.ofNat 32 (384 * (col i).val + x.val) := by
    pointwise [k0_pay26]
    exact word (col i).val x.val
  pointwise [k0_pay1]
  rw [hrow, hcol, mask_select _ _ (by omega) (by omega), e1_at R]
  unfold Head.p
  rw [row_val _ _ hb, row_val _ _ (by omega)]
  split <;> rfl

/-- The weights of a block below the diagonal in another column. -/
theorem p3_at (h0 : (col i).val ≠ 0) (n : ℕ) (hn : (col i).val + 1 + n < 11) (a x : Fin 384) :
    k0_pay31 (BitVec.ofNat 32 (i 0).val) I.k (k0_pay40 I.ct) (tile I.q ((col i).val + 1 + n)) (tile3 I.l ((col i).val + 1 + n)) (tile I.c ((col i).val + 1 + n)) (ix2 a x)
      = (H.p (row ((col i).val + 1 + n) a) (row (col i).val x) : EReal) := by
  have hb := (col i).isLt
  have hx := x.isLt
  rw [e_at R]
  unfold Head.p
  rw [if_pos (by rw [row_val _ _ hb, row_val _ _ hn]; omega)]

theorem dp_at (b : ℕ) (a x : Fin 384) :
    (∑ e, tile I.d b (ix2 a e) * I.v (ix2 x e) - ∑ e, tile I.d b (ix2 a e) * tile I.o b (ix2 a e) : EReal)
      = (((∑ e, H.d (row b a) e * H.v (row (col i).val x) e) - ∑ e, H.d (row b a) e * H.o (row b a) e : ℝ) : EReal) := by
  refine Eq.trans (congrArg₂ (· - ·) (Finset.sum_congr rfl fun e _ => congrArg₂ (· * ·) (R.d _ _) (R.v _ _)) (Finset.sum_congr rfl fun e _ => congrArg₂ (· * ·) (R.d _ _) (R.o _ _))) ?_
  simp only [← EReal.coe_mul, ← coe_sum, ← EReal.coe_sub]
  rfl

theorem ds0_at (a x : Fin 384) :
    k0_pay48 (BitVec.ofNat 32 (i 1).val) I.k I.v (k0_pay40 I.ct) (tile I.q (col i).val) (tile I.d (col i).val) (k0_pay44 (tile3 I.l (col i).val)) (k0_pay45 i (tile I.c (col i).val))
      (k0_pay46 (tile I.d (col i).val) (tile I.o (col i).val)) (ix2 a x)
      = (H.ds (row (col i).val a) (row (col i).val x) : EReal) := by
  pointwise [k0_pay48]
  rw [p0_at R]
  refine Eq.trans (congrArg _ (Eq.trans ?_ (dp_at R (col i).val a x))) (EReal.coe_mul _ _).symm
  refine congrArg _ (Finset.sum_congr rfl fun e _ => ?_)
  pointwise [k0_pay46]

theorem ds1_at (k : Fin (k0_t1_loop i).trips) (a x : Fin 384) :
    k0_pay2 I.v (tile I.d ((col i).val + 1 + k.val)) (k0_pay23 (tile I.d ((col i).val + 1 + k.val)) (tile I.o ((col i).val + 1 + k.val)))
      (k0_pay24 (BitVec.ofNat 32 (i 0).val) I.k (k0_pay40 I.ct) (tile I.q ((col i).val + 1 + k.val)) (tile3 I.l ((col i).val + 1 + k.val)) (tile I.c ((col i).val + 1 + k.val)))
      (k0_pay25 i (Scalar.addi (BitVec.ofNat 32 (i 1).val) 1#32) 1#32 k) (k0_pay26 (BitVec.ofNat 32 (i 1).val)) (ix2 a x)
      = (H.ds (row ((col i).val + 1 + k.val) a) (row (col i).val x) : EReal) := by
  pointwise [k0_pay2]
  rw [p1_at R]
  refine Eq.trans (congrArg _ (Eq.trans ?_ (dp_at R _ a x))) (EReal.coe_mul _ _).symm
  refine congrArg _ ?_
  pointwise [k0_pay23]

theorem ds3_at (h0 : (col i).val ≠ 0) (n : ℕ) (hn : (col i).val + 1 + n < 11) (a x : Fin 384) :
    k0_pay32 (BitVec.ofNat 32 (i 0).val) I.k I.v (k0_pay40 I.ct) (tile I.q ((col i).val + 1 + n)) (tile I.d ((col i).val + 1 + n)) (tile3 I.l ((col i).val + 1 + n))
      (tile I.c ((col i).val + 1 + n)) (tile I.o ((col i).val + 1 + n)) (ix2 a x)
      = (H.ds (row ((col i).val + 1 + n) a) (row (col i).val x) : EReal) := by
  pointwise [k0_pay32]
  rw [p3_at R h0 n hn]
  exact Eq.trans (congrArg _ (dp_at R _ a x)) (EReal.coe_mul _ _).symm

end

end Attn
end
-- ==== Proof.Soft.lean ====
/- The attention gradient over the reals: the softmax of the scores and what follows from it, head by head. -/
module

public import proofs.«01_k».proof.Proof.Head

@[expose] public section
noncomputable section
namespace Attn
open Idealize.ShloMosaic

theorem div_coe (a b : ℝ) (hb : b ≠ 0) : Ideal.div (a : EReal) (b : EReal) = ((a / b : ℝ) : EReal) := by
  unfold Ideal.div
  rw [if_neg (by simpa using hb), div_eq_mul_inv, EReal.coe_mul, EReal.coe_inv]

theorem log_coe (a : ℝ) (ha : 0 < a) : Ideal.log (a : EReal) = ((Real.log a : ℝ) : EReal) := by
  show (if a ≤ 0 then ⊥ else ((Real.log a : ℝ) : EReal)) = _
  rw [if_neg (not_le.2 ha)]

/-- The arguments, as real arrays. -/
structure Data where
  Q : Fin 4224 → Fin 2048 → ℝ
  K : Fin 4224 → Fin 2048 → ℝ
  V : Fin 4224 → Fin 2048 → ℝ
  G : Fin 4224 → Fin 2048 → ℝ
  C : Fin 16 → Fin 4224 → ℝ

/-- Entry `e` of head `h`. -/
def hc (h : Fin 16) (e : Fin 128) : Fin 2048 := ⟨128 * h.val + e.val, by have := h.isLt; have := e.isLt; omega⟩

namespace Data
variable (D : Data) (h : Fin 16)

/-- The score of key `j` for query `i`. -/
def sc (i j : Fin 4224) : ℝ := (∑ e, D.Q i (hc h e) * D.K j (hc h e)) * scl + (D.C h i - D.C h j)

/-- The score where the key is seen, nothing elsewhere. -/
def ms (i j : Fin 4224) : EReal := if 112 ≤ j.val ∧ j.val ≤ i.val then (D.sc h i j : EReal) else ⊥

/-- The largest score seen. -/
def mx (i : Fin 4224) : ℝ := (Finset.univ.fold max ⊥ (D.ms h i)).toReal

theorem mx_coe (i : Fin 4224) (hi : 112 ≤ i.val) : Finset.univ.fold max ⊥ (D.ms h i) = (D.mx h i : EReal) := by
  have hs : Finset.univ.fold max ⊥ (D.ms h i) = Finset.univ.sup (D.ms h i) := rfl
  have hb : Finset.univ.fold max ⊥ (D.ms h i) ≠ ⊥ := by
    rw [hs]
    intro e
    have := (Finset.sup_eq_bot_iff _ _).1 e ⟨112, by omega⟩ (Finset.mem_univ _)
    unfold ms at this
    rw [if_pos ⟨le_rfl, hi⟩] at this
    exact EReal.coe_ne_bot _ this
  have ht : Finset.univ.fold max ⊥ (D.ms h i) ≠ ⊤ := by
    rw [hs]
    obtain ⟨j, _, hj⟩ := Finset.exists_mem_eq_sup Finset.univ ⟨i, Finset.mem_univ i⟩ (D.ms h i)
    rw [hj]
    unfold ms
    split
    · exact EReal.coe_ne_top _
    · exact bot_ne_top
  exact (EReal.coe_toReal ht hb).symm

/-- The weight before it is normalized. -/
def ex (i j : Fin 4224) : ℝ := if 112 ≤ j.val ∧ j.val ≤ i.val then Real.exp (D.sc h i j - D.mx h i) else 0

theorem ex_coe (i j : Fin 4224) : Ideal.exp (D.ms h i j - (D.mx h i : EReal)) = (D.ex h i j : EReal) := by
  unfold ms ex
  split
  · rw [← EReal.coe_sub]; rfl
  · rw [EReal.bot_sub]; rfl

theorem ex_nonneg (i j : Fin 4224) : 0 ≤ D.ex h i j := by
  unfold ex
  split
  · exact (Real.exp_pos _).le
  · exact le_rfl

/-- The normalizer. -/
def nl (i : Fin 4224) : ℝ := ∑ j, D.ex h i j

theorem nl_pos (i : Fin 4224) (hi : 112 ≤ i.val) : 0 < D.nl h i := by
  unfold nl
  refine Finset.sum_pos' (fun j _ => D.ex_nonneg h i j) ⟨⟨112, by omega⟩, Finset.mem_univ _, ?_⟩
  unfold ex
  rw [if_pos ⟨le_rfl, hi⟩]
  exact Real.exp_pos _

/-- The weight. -/
def pr (i j : Fin 4224) : ℝ := D.ex h i j / D.nl h i

theorem pr_sum (i : Fin 4224) (hi : 112 ≤ i.val) : ∑ j, D.pr h i j = 1 := by
  unfold pr
  rw [← Finset.sum_div]
  exact div_self (D.nl_pos h i hi).ne'

/-- Head `h`, its output and the logarithm of its normalizer zero on the rows before the pad's end. -/
def head : Head where
  q r e := D.Q r (hc h e)
  k r e := D.K r (hc h e)
  v r e := D.V r (hc h e)
  d r e := D.G r (hc h e)
  o r e := if 112 ≤ r.val then ∑ j, D.pr h r j * D.V j (hc h e) else 0
  l r := if 112 ≤ r.val then D.mx h r + Real.log (D.nl h r) else 0
  c := D.C h

theorem head_p (i j : Fin 4224) (hi : 112 ≤ i.val) : (D.head h).p i j = D.pr h i j := by
  unfold pr ex Head.p
  split
  · show Real.exp (D.sc h i j - if 112 ≤ i.val then D.mx h i + Real.log (D.nl h i) else 0) = _
    rw [if_pos hi, ← sub_sub, Real.exp_sub, Real.exp_log (D.nl_pos h i hi)]
  · rw [zero_div]

theorem head_p_low (i j : Fin 4224) (hi : ¬ 112 ≤ i.val) : (D.head h).p i j = 0 := by
  unfold Head.p; rw [if_neg (by omega)]

theorem head_ds_low (i j : Fin 4224) (hi : ¬ 112 ≤ i.val) : (D.head h).ds i j = 0 := by
  unfold Head.ds; rw [head_p_low D h i j hi, zero_mul]

/-- The gradient of the weight. -/
def dp (i j : Fin 4224) : ℝ := ∑ e, D.G i (hc h e) * D.V j (hc h e)

theorem head_ds (i j : Fin 4224) (hi : 112 ≤ i.val) :
    (D.head h).ds i j = D.pr h i j * (D.dp h i j - ∑ n, D.pr h i n * D.dp h i n) := by
  unfold Head.ds
  rw [head_p D h i j hi]
  refine congrArg (fun z => D.pr h i j * (D.dp h i j - z)) ?_
  show (∑ e, D.G i (hc h e) * if 112 ≤ i.val then ∑ n, D.pr h i n * D.V n (hc h e) else 0) = _
  simp only [if_pos hi]
  unfold dp
  simp only [Finset.mul_sum]
  rw [Finset.sum_comm]
  refine Finset.sum_congr rfl fun n _ => Finset.sum_congr rfl fun e _ => ?_
  ring

theorem head_ds_sum (i : Fin 4224) : ∑ j, (D.head h).ds i j = 0 := by
  by_cases hi : 112 ≤ i.val
  · rw [Finset.sum_congr rfl fun j _ => head_ds D h i j hi]
    simp only [mul_sub]
    rw [Finset.sum_sub_distrib, ← Finset.sum_mul, pr_sum D h i hi, one_mul, sub_self]
  · exact Finset.sum_eq_zero fun j _ => head_ds_low D h i j hi

/-- The gradient of the score as the gradient of the quotient gives it. -/
theorem ds_quotient (i j : Fin 4224) (hi : 112 ≤ i.val) :
    (D.dp h i j / D.nl h i + -(∑ n, D.dp h i n * (1 / (D.nl h i * D.nl h i)) * D.ex h i n)) * D.ex h i j = (D.head h).ds i j := by
  have hl := (D.nl_pos h i hi).ne'
  rw [head_ds D h i j hi]
  have e : (∑ n, D.pr h i n * D.dp h i n) = (∑ n, D.dp h i n * (1 / (D.nl h i * D.nl h i)) * D.ex h i n) * D.nl h i := by
    rw [Finset.sum_mul]
    refine Finset.sum_congr rfl fun n _ => ?_
    unfold pr
    field_simp
  rw [e]
  unfold pr
  field_simp
  ring

end Data

/-- Row `i` of the rows kept. -/
def up (i : Fin 4112) : Fin 4224 := ⟨112 + i.val, by have := i.isLt; omega⟩

theorem up_le (i : Fin 4112) : 112 ≤ (up i).val := Nat.le_add_right _ _

/-- A sum over all rows of what is zero before the pad's end. -/
theorem sum_up (f : Fin 4224 → ℝ) (h : ∀ r : Fin 4224, ¬ 112 ≤ r.val → f r = 0) : ∑ r, f r = ∑ i, f (up i) := by
  have e := Fin.sum_univ_add (a := 112) (b := 4112) f
  refine e.trans ?_
  rw [Finset.sum_eq_zero fun a _ => h _ ?_, zero_add]
  · rfl
  · show ¬ 112 ≤ a.val
    have := a.isLt
    omega

end Attn
end
-- ==== Proof.AttnRefTerm.lean ====
/- The attention gradient: the reference's results as compositions of its stages, each stage a function of the arrays it reads. -/
module

public import proofs.«01_k».proof.Proof.Gen.ReferenceIdeal.Run
public import proofs.«01_k».proof.Proof.Soft

@[expose] public section
set_option maxRecDepth 1000000
noncomputable section
namespace Attn.Ref
open Cert.ReferenceIdeal Cert.ReferenceIdeal.Gen Idealize.ShloMosaic Idealize.ShloMosaic.TcCoe Idealize.SL.Sem

abbrev X := FVec Ideal S4224x2048 .bf16
abbrev X3 := FVec Ideal S4224x16x128 .f32
abbrev Q3 := FVec Ideal S4112x16x128 .f32
abbrev Cs := FVec Ideal S16x4224 .f32
abbrev T := FVec Ideal S16x4112x4224 .f32
abbrev R1 := FVec Ideal S16x4112 .f32
abbrev R2 := FVec Ideal S16x4112x1 .f32
abbrev G3 := FVec Ideal S16x128x4112 .f32

/-- A matrix split into heads. -/
def heads (x : X) : X3 := shapeCast _ (extf .f32 x bitsLt_bf16_f32) shapeCasts_S4224x2048_S4224x16x128

/-- The rows kept. -/
def kept (x : X3) : Q3 := extractStridedSlice S4112x16x128 ![112, 0, 0] x slices_S4224x16x128_S4112x16x128_112_0_0

/-- The scores. -/
def score (q : Q3) (k : X3) (c : Cs) : T :=
  addf (mulf (Host.dotGeneral dot_S4112x16x128_S4224x16x128_S16x4112x4224_2_2_0_0_1_1 none q k)
      (broadcastInDim S16x4112x4224 ![] bcast_S_S16x4112x4224 (constant S_ .f32 0x3DB504F3#32)))
    (subf (broadcastInDim S16x4112x4224 ![0, 1, 2] bcast_S16x4112x1_S16x4112x4224_0_1_2
        (broadcastInDim S16x4112x1 ![0, 1] bcast_S16x4112_S16x4112x1_0_1
          (extractStridedSlice S16x4112 ![0, 112] c slices_S16x4224_S16x4112_0_112)))
      (broadcastInDim S16x4112x4224 ![0, 1, 2] bcast_S16x1x4224_S16x4112x4224_0_1_2
        (broadcastInDim S16x1x4224 ![0, 2] bcast_S16x4224_S16x1x4224_0_2 c)))

/-- Which keys a query sees. -/
def mask : IVec S4112x4224 1 :=
  andi
    (cmpi .sle
      (broadcastInDim S4112x4224 ![0, 1] bcast_S1x4224_S4112x4224_0_1
        (broadcastInDim S1x4224 ![1] bcast_S4224_S1x4224_1 (iotaInDim S4224 32 0)))
      (broadcastInDim S4112x4224 ![0, 1] bcast_S4112x1_S4112x4224_0_1
        (broadcastInDim S4112x1 ![0] bcast_S4112_S4112x1_0
          (addi (broadcastInDim S4112 ![] bcast_S_S4112 (constantI S_ 32 112#32)) (iotaInDim S4112 32 0)))))
    (broadcastInDim S4112x4224 ![0, 1] bcast_S1x4224_S4112x4224_0_1
      (cmpi .sge (broadcastInDim S1x4224 ![1] bcast_S4224_S1x4224_1 (iotaInDim S4224 32 0))
        (broadcastInDim S1x4224 ![] bcast_S_S1x4224 (constantI S_ 32 112#32))))

/-- The scores seen. -/
def seen (s : T) : T :=
  select (broadcastInDim S16x4112x4224 ![1, 2] bcast_S4112x4224_S16x4112x4224_1_2 mask) s
    (broadcastInDim S16x4112x4224 ![] bcast_S_S16x4112x4224 (id (constant S_ .f32 0xFF800000#32)))

/-- The largest score of a query. -/
def largest (s : T) : R1 :=
  maximumf (broadcastInDim S16x4112 ![] bcast_S_S16x4112 (constant S_ .f32 0xFF800000#32))
    (Host.reduce FloatOps.maximumf s (constant S_ .f32 0xFF800000#32) reducesTo_S16x4112x4224_S16x4112_d2 h_S_)

/-- The weights before they are normalized. -/
def weight (s : T) (x : R1) : T :=
  Host.exp (subf s (broadcastInDim S16x4112x4224 ![0, 1, 2] bcast_S16x4112x1_S16x4112x4224_0_1_2
    (broadcastInDim S16x4112x1 ![0, 1] bcast_S16x4112_S16x4112x1_0_1 x)))

/-- The sum over the keys. -/
def total (e : T) : R1 := Host.reduceAdd e (constant S_ .f32 0x00000000#32) reducesTo_S16x4112x4224_S16x4112_d2 h_S_

def col1 (x : R1) : R2 := broadcastInDim S16x4112x1 ![0, 1] bcast_S16x4112_S16x4112x1_0_1 x

/-- Quotients by the normalizer. -/
def over (e : T) (l : R2) : T := Host.divf e (broadcastInDim S16x4112x4224 ![0, 1, 2] bcast_S16x4112x1_S16x4112x4224_0_1_2 l)

/-- The gradient of the output, head first. -/
def grad (x : Q3) : G3 := transpose S16x128x4112 [1, 2, 0] x transposes_S4112x16x128_S16x128x4112_1_2_0

/-- The gradient of the weights. -/
def dweight (g : G3) (v : X3) : T := Host.dotGeneral dot_S16x128x4112_S4224x16x128_S16x4112x4224_1_2_2_0_0_1 none g v

/-- The gradient of the values. -/
def dvalue (g : G3) (p : T) : FVec Ideal S4224x2048 .f32 :=
  shapeCast _ (transpose S4224x16x128 [2, 0, 1] (Host.dotGeneral dot_S16x128x4112_S16x4112x4224_S16x128x4224_2_1_1_2_0_0 none g p)
    transposes_S16x128x4224_S4224x16x128_2_0_1) shapeCasts_S4224x16x128_S4224x2048

/-- The sum the normalizer's gradient takes. -/
def inner (w : T) (l : R2) (e : T) : R1 :=
  total (mulf (mulf w (broadcastInDim S16x4112x4224 ![0, 1, 2] bcast_S16x4112x1_S16x4112x4224_0_1_2
    (Host.divf (broadcastInDim S16x4112x1 ![] bcast_S_S16x4112x1 (constant S_ .f32 0x3F800000#32)) (mulf l l)))) e)

/-- A sum along a unit axis. -/
def flat (x : R2) : R1 := Host.reduceAdd x (constant S_ .f32 0x00000000#32) reducesTo_S16x4112x1_S16x4112_d2 h_S_

/-- The gradient of the scores, `d` the normalizer's part. -/
def dscore (w : T) (l : R2) (e : T) (d : R1) : T :=
  select (broadcastInDim S16x4112x4224 ![1, 2] bcast_S4112x4224_S16x4112x4224_1_2 mask)
    (mulf (addf (over w l) (broadcastInDim S16x4112x4224 ![0, 1] bcast_S16x4112_S16x4112x4224_0_1 d)) e)
    (broadcastInDim S16x4112x4224 ![] bcast_S_S16x4112x4224 (constant S_ .f32 0x00000000#32))

/-- The gradient of the bias. -/
def dbias (s : T) (u : R1) : FVec Ideal S16x11x1x384 .f32 :=
  shapeCast _ (addf
    (Host.reduceAdd (shapeCast _ (Host.reduceAdd (Host.negf s) (constant S_ .f32 0x00000000#32) reducesTo_S16x4112x4224_S16x4224_d1 h_S_)
        shapeCasts_S16x4224_S16x1x4224)
      (constant S_ .f32 0x00000000#32) reducesTo_S16x1x4224_S16x4224_d1 h_S_)
    (pad S16x4224 ![0, 112] ![0, 0] ![0, 0] u (constant S_ .f32 0x00000000#32) pads_S16x4112_S16x4224_000_11200 h_S_))
    shapeCasts_S16x4224_S16x11x1x384

/-- The gradient of the scores before the bias, scaled. -/
def scaled (s : T) : T := mulf s (broadcastInDim S16x4112x4224 ![] bcast_S_S16x4112x4224 (constant S_ .f32 0x3DB504F3#32))

/-- The gradient of the keys. -/
def dkey (s : T) (q : Q3) : FVec Ideal S4224x2048 .f32 :=
  shapeCast _ (transpose S4224x16x128 [1, 0, 2] (Host.dotGeneral dot_S16x4112x4224_S4112x16x128_S16x4224x128_1_0_2_2_0_1 none s q)
    transposes_S16x4224x128_S4224x16x128_1_0_2) shapeCasts_S4224x16x128_S4224x2048

/-- The gradient of the queries. -/
def dquery (s : T) (k : X3) : FVec Ideal S4224x2048 .f32 :=
  shapeCast _ (pad S4224x16x128 ![112, 0, 0] ![0, 0, 0] ![0, 0, 0]
    (transpose S4112x16x128 [1, 0, 2] (Host.dotGeneral dot_S16x4112x4224_S4224x16x128_S16x4112x128_2_0_1_2_0_1 none s k)
      transposes_S16x4112x128_S4112x16x128_1_0_2)
    (constant S_ .f32 0x00000000#32) pads_S4112x16x128_S4224x16x128_11200_000_000 h_S_) shapeCasts_S4224x16x128_S4224x2048

section
variable (q k v g : X) (c : Cs)

def tS : T := seen (score (kept (heads q)) (heads k) c)
def tE : T := weight (tS q k c) (largest (tS q k c))
def tL : R2 := col1 (total (tE q k c))
def tP : T := over (tE q k c) (tL q k c)
def tG : G3 := grad (kept (heads g))
def tW : T := dweight (tG g) (heads v)
def tU : R1 := flat (Host.negf (shapeCast _ (inner (tW v g) (tL q k c) (tE q k c)) shapeCasts_S16x4112_S16x4112x1))
def tD : T := dscore (tW v g) (tL q k c) (tE q k c) (tU q k v g c)
end

variable (m : (ℓ : Loc nD τ sig) → Buf (Elt Ideal) ℓ) (d : Dev nD)

abbrev aq : X := m ((d.tc : Thread nD τ).loc main_arg0)
abbrev ak : X := m ((d.tc : Thread nD τ).loc main_arg1)
abbrev av : X := m ((d.tc : Thread nD τ).loc main_arg2)
abbrev ac : Cs := m ((d.tc : Thread nD τ).loc main_arg3)
abbrev ag : X := m ((d.tc : Thread nD τ).loc main_arg4)

theorem res2 : Value.res_main_v100 m d = dvalue (tG (ag m d)) (tP (aq m d) (ak m d) (ac m d)) := rfl

theorem res1 : Value.res_main_v99 m d =
    dkey (scaled (tD (aq m d) (ak m d) (av m d) (ag m d) (ac m d))) (kept (heads (aq m d))) := rfl

theorem res0 : Value.res_main_v98 m d =
    dquery (scaled (tD (aq m d) (ak m d) (av m d) (ag m d) (ac m d))) (heads (ak m d)) := rfl

theorem res3 : Value.res_main_v101 m d = dbias (tD (aq m d) (ak m d) (av m d) (ag m d) (ac m d))
    (flat (shapeCast _ (total (tD (aq m d) (ak m d) (av m d) (ag m d) (ac m d))) shapeCasts_S16x4112_S16x4112x1)) := rfl

end Attn.Ref
end
-- ==== Proof.AttnRefValue.lean ====
/- The attention gradient: the reference's four results, entry by entry, for arguments that are real numbers. -/
module

public import proofs.«01_k».proof.Proof.AttnRefTerm
public import Idealize.ShloMosaic.Lib.Pointwise
public import Idealize.ShloMosaic.Lib.WordCmp
public import Idealize.ShloMosaic.Lib.IdealHost

@[expose] public section
set_option maxRecDepth 1000000
noncomputable section
namespace Attn
open Idealize.ShloMosaic

theorem bot_word : Ideal.ofBits .f32 4286578688#32 = ⊥ := by simp [Ideal.ofBits, Ideal.ieee]

/-- The arguments hold the real numbers of `D`. -/
structure Real' (D : Data) (q k v g : FVec Ideal Cert.ReferenceIdeal.S4224x2048 .bf16) (c : FVec Ideal Cert.ReferenceIdeal.S16x4224 .f32) : Prop where
  q : ∀ r x, q (ix2 r x) = (D.Q r x : EReal)
  k : ∀ r x, k (ix2 r x) = (D.K r x : EReal)
  v : ∀ r x, v (ix2 r x) = (D.V r x : EReal)
  g : ∀ r x, g (ix2 r x) = (D.G r x : EReal)
  c : ∀ h r, c (ix2 h r) = (D.C h r : EReal)

theorem hc_div (h : Fin 16) (e : Fin 128) (p) : (⟨(hc h e).val / 128, p⟩ : Fin 16) = h := by
  have := e.isLt
  exact Fin.ext (show (128 * h.val + e.val) / 128 = h.val by omega)

theorem hc_mod (h : Fin 16) (e : Fin 128) (p) : (⟨(hc h e).val % 128, p⟩ : Fin 128) = e := by
  have := e.isLt
  exact Fin.ext (show (128 * h.val + e.val) % 128 = e.val by omega)

theorem ite_coe (P : Prop) [Decidable P] (a b : ℝ) : (if P then (a : EReal) else (b : EReal)) = ((if P then a else b : ℝ) : EReal) := by
  split <;> rfl

namespace Ref
open Cert.ReferenceIdeal Cert.ReferenceIdeal.Gen Idealize.ShloMosaic Idealize.ShloMosaic.TcCoe Idealize.SL.Sem

theorem mask_select' {α : Type} (i : Fin 4112) (j : Fin 4224) (A B : α) :
    Scalar.select (IntOp.andi (IntOp.cmpi .sle (BitVec.ofNat 32 j.val) (IntOp.addi (112#32) (BitVec.ofNat 32 i.val)))
      (IntOp.cmpi .sge (BitVec.ofNat 32 j.val) 112#32)) A B = if 112 ≤ j.val ∧ j.val ≤ (up i).val then A else B := by
  have e : IntOp.addi (112#32) (BitVec.ofNat 32 i.val) = BitVec.ofNat 32 (up i).val := (BitVec.ofNat_add _ _).symm
  rw [e]
  exact mask_select _ _ (up i).isLt j.isLt A B

section stages
variable (h : Fin 16) (i : Fin 4112) (r j : Fin 4224) (e : Fin 128)

theorem heads_at (x : X) : heads x (ix3 r h e) = x (ix2 r (hc h e)) := by
  pointwise [heads]
  exact congrArg (fun z => x (ix2 r z)) (Fin.ext (congrArg (· + e.val) (Nat.mul_comm _ _)))
theorem kept_at (x : X3) : kept x (ix3 i h e) = x (ix3 (up i) h e) := by pointwise [kept]; rfl
theorem score_at (q : Q3) (k : X3) (c : Cs) : score q k c (ix3 h i j) =
    (∑ x, q (ix3 i h x) * k (ix3 j h x)) * Ideal.ofBits .f32 1035273459#32 + (c (ix2 h (up i)) - c (ix2 h j)) := by
  pointwise [score]; rfl
theorem seen_at (s : T) : seen s (ix3 h i j) = if 112 ≤ j.val ∧ j.val ≤ (up i).val then s (ix3 h i j) else ⊥ := by
  pointwise [seen, mask]
  rw [mask_select']
  exact if_congr Iff.rfl rfl bot_word

theorem rmax (s : T) (c : FVec Ideal S_ .f32) : Host.reduce FloatOps.maximumf s c reducesTo_S16x4112x4224_S16x4112_d2 h_S_ (ix2 h i)
    = Finset.univ.fold max (c (Shape.Idx.first h_S_)) fun k => s (ix3 h i k) := by
  simp only [pointwise]

theorem max_at (x : R1) : maximumf (broadcastInDim S16x4112 ![] bcast_S_S16x4112 (constant S_ .f32 0xFF800000#32)) x (ix2 h i)
    = max (Ideal.ofBits .f32 4286578688#32) (x (ix2 h i)) := by pointwise []

theorem const_at (w : BitVec 32) (k : S_.Idx) : constant (F := Ideal) S_ .f32 w k = Ideal.ofBits .f32 w := rfl

theorem largest_at (s : T) : largest s (ix2 h i) = Finset.univ.fold max ⊥ fun k => s (ix3 h i k) := by
  unfold largest
  rw [max_at, rmax, const_at, bot_word, max_eq_right bot_le]

theorem weight_at (s : T) (x : R1) : weight s x (ix3 h i j) = Ideal.exp (s (ix3 h i j) - x (ix2 h i)) := by pointwise [weight]
theorem total_at (s : T) : total s (ix2 h i) = ∑ x, s (ix3 h i x) := by pointwise [total]
theorem col1_at (s : R1) : col1 s (ix3 h i 0) = s (ix2 h i) := by pointwise [col1]
theorem over_at (s : T) (l : R2) : over s l (ix3 h i j) = Ideal.div (s (ix3 h i j)) (l (ix3 h i 0)) := by pointwise [over]
theorem grad_at (x : Q3) : grad x (ix3 h e i) = x (ix3 i h e) := by pointwise [grad]
theorem dweight_at (g : G3) (v : X3) : dweight g v (ix3 h i j) = ∑ x, g (ix3 h x i) * v (ix3 j h x) := by pointwise [dweight]
theorem dvalue_at (g : G3) (p : T) : dvalue g p (ix2 j (hc h e)) = ∑ x, g (ix3 h e x) * p (ix3 h x j) := by
  pointwise [dvalue]
  rw [hc_div, hc_mod]
theorem inner_at (w : T) (l : R2) (s : T) : inner w l s (ix2 h i) =
    ∑ x, w (ix3 h i x) * Ideal.div 1 (l (ix3 h i 0) * l (ix3 h i 0)) * s (ix3 h i x) := by pointwise [inner, total]
theorem flat_neg (l : R1) : flat (Host.negf (shapeCast _ l shapeCasts_S16x4112_S16x4112x1)) (ix2 h i) = -l (ix2 h i) := by
  pointwise [flat]
  rw [Fin.sum_univ_one]
theorem flat_at (l : R1) : flat (shapeCast _ l shapeCasts_S16x4112_S16x4112x1) (ix2 h i) = l (ix2 h i) := by
  pointwise [flat]
  rw [Fin.sum_univ_one]
theorem dscore_at (w : T) (l : R2) (s : T) (d : R1) : dscore w l s d (ix3 h i j) =
    if 112 ≤ j.val ∧ j.val ≤ (up i).val then (Ideal.div (w (ix3 h i j)) (l (ix3 h i 0)) + d (ix2 h i)) * s (ix3 h i j) else 0 := by
  pointwise [dscore, mask, over]
  rw [mask_select']
theorem dbias_at (s : T) (u : R1) (hu : ∀ i, u (ix2 h i) = 0) (x : Fin 11) (y : Fin 384) :
    dbias s u (ix4 h x 0 y) = ∑ i, -s (ix3 h i (row x.val y)) := by
  pointwise [dbias]
  have e : (⟨x.val * 384 + y.val, by have := x.isLt; have := y.isLt; omega⟩ : Fin 4224) = row x.val y :=
    Fin.ext ((congrArg (· + y.val) (Nat.mul_comm _ _)).trans (row_val _ _ x.isLt).symm)
  rw [Fin.sum_univ_one]
  refine Eq.trans (congrArg₂ (· + ·) (Finset.sum_congr rfl fun n _ => congrArg (fun z => -s (ix3 h n z)) e) ?_) (add_zero _)
  split
  · exact hu _
  · rfl
theorem dkey_at (s : T) (q : Q3) : dkey (scaled s) q (ix2 j (hc h e)) =
    ∑ x, s (ix3 h x j) * Ideal.ofBits .f32 1035273459#32 * q (ix3 x h e) := by
  pointwise [dkey, scaled]
  rw [hc_div, hc_mod]
theorem dquery_low (s : T) (k : X3) (hj : ¬ 112 ≤ r.val) : dquery (scaled s) k (ix2 r (hc h e)) = 0 := by
  pointwise [dquery, scaled]
  rw [dif_neg (fun z => hj z.1.1)]
theorem dquery_up (s : T) (k : X3) : dquery (scaled s) k (ix2 (up i) (hc h e)) =
    ∑ x, s (ix3 h i x) * Ideal.ofBits .f32 1035273459#32 * k (ix3 x h e) := by
  pointwise [dquery, scaled]
  have e1 : (⟨(up i).val - 112, by have := i.isLt; show 112 + i.val - 112 < 4112; omega⟩ : Fin 4112) = i :=
    Fin.ext (show 112 + i.val - 112 = i.val by omega)
  rw [dif_pos ⟨⟨up_le i, by have := i.isLt; show 112 + i.val - 112 < 4112; omega⟩, by have := h.isLt; rw [show (hc h e).val / 128 = h.val from congrArg Fin.val (hc_div h e (by have := (hc h e).isLt; omega))]; omega, Nat.mod_lt _ (by omega)⟩]
  refine Finset.sum_congr rfl fun x _ => congrArg₂ (· * ·) (congrArg (· * _) ?_) ?_
  · exact congrArg₂ (fun a b => s (ix3 a b x)) (hc_div h e _) e1
  · exact congrArg₂ (fun a b => k (ix3 x a b)) (hc_div h e _) (hc_mod h e _)
end stages

section real
variable {D : Data} {q k v g : X} {c : Cs} (A : Real' D q k v g c) (h : Fin 16) (i : Fin 4112) (r j : Fin 4224) (e : Fin 128)
include A

theorem q_at : kept (heads q) (ix3 i h e) = (D.Q (up i) (hc h e) : EReal) := by rw [kept_at, heads_at, A.q]
theorem k_at : heads k (ix3 r h e) = (D.K r (hc h e) : EReal) := by rw [heads_at, A.k]
theorem v_at : heads v (ix3 r h e) = (D.V r (hc h e) : EReal) := by rw [heads_at, A.v]
theorem g_at : tG g (ix3 h e i) = (D.G (up i) (hc h e) : EReal) := by unfold tG; rw [grad_at, kept_at, heads_at, A.g]

theorem tS_at : tS q k c (ix3 h i j) = D.ms h (up i) j := by
  unfold tS Data.ms
  rw [seen_at]
  refine if_congr Iff.rfl ?_ rfl
  rw [score_at, A.c, A.c, Finset.sum_congr rfl fun x _ => congrArg₂ (· * ·) (q_at A h i x) (k_at A h j x), scl_word]
  simp only [← EReal.coe_mul, ← coe_sum, ← EReal.coe_add, ← EReal.coe_sub]
  rfl

theorem tE_at : tE q k c (ix3 h i j) = (D.ex h (up i) j : EReal) := by
  unfold tE
  rw [weight_at, largest_at, tS_at A, ← D.ex_coe, ← D.mx_coe h (up i) (up_le i)]
  exact congrArg (fun f => Ideal.exp (_ - Finset.fold max ⊥ f Finset.univ)) (funext fun n => tS_at A h i n)

theorem tL_at : tL q k c (ix3 h i 0) = (D.nl h (up i) : EReal) := by
  unfold tL Data.nl
  rw [col1_at, total_at, coe_sum]
  exact Finset.sum_congr rfl fun n _ => tE_at A h i n

theorem tP_at : tP q k c (ix3 h i j) = ((D.head h).p (up i) j : EReal) := by
  unfold tP
  rw [over_at, tE_at A, tL_at A, div_coe _ _ (D.nl_pos h _ (up_le i)).ne', D.head_p h _ _ (up_le i)]
  rfl

theorem tW_at : tW v g (ix3 h i j) = (D.dp h (up i) j : EReal) := by
  unfold tW Data.dp
  rw [dweight_at, coe_sum]
  exact Finset.sum_congr rfl fun x _ => by rw [g_at A, v_at A, EReal.coe_mul]

theorem tU_at : tU q k v g c (ix2 h i) =
    ((-(∑ n, D.dp h (up i) n * (1 / (D.nl h (up i) * D.nl h (up i))) * D.ex h (up i) n) : ℝ) : EReal) := by
  have hl := (D.nl_pos h _ (up_le i)).ne'
  unfold tU
  rw [flat_neg, inner_at, EReal.coe_neg, coe_sum]
  refine congrArg _ (Finset.sum_congr rfl fun n _ => ?_)
  rw [tW_at A, tL_at A, tE_at A, ← EReal.coe_mul, ← EReal.coe_one, div_coe _ _ (mul_ne_zero hl hl), ← EReal.coe_mul, ← EReal.coe_mul]

theorem tD_at : tD q k v g c (ix3 h i j) = ((D.head h).ds (up i) j : EReal) := by
  unfold tD
  rw [dscore_at, tW_at A, tL_at A, tE_at A, tU_at A, div_coe _ _ (D.nl_pos h _ (up_le i)).ne', ← EReal.coe_add, ← EReal.coe_mul,
    D.ds_quotient h _ _ (up_le i)]
  split
  · rfl
  · rename_i hn
    unfold Head.ds Head.p
    rw [if_neg hn, zero_mul]
    rfl

theorem dv_at : dvalue (tG g) (tP q k c) (ix2 j (hc h e)) = ((∑ r, (D.head h).p r j * (D.head h).d r e : ℝ) : EReal) := by
  rw [dvalue_at, sum_up _ (fun r hr => by rw [D.head_p_low h r j hr, zero_mul]), coe_sum]
  exact Finset.sum_congr rfl fun x _ => by rw [g_at A, tP_at A, ← EReal.coe_mul, mul_comm]; rfl

theorem dk_at : dkey (scaled (tD q k v g c)) (kept (heads q)) (ix2 j (hc h e))
    = (((∑ r, (D.head h).ds r j * (D.head h).q r e) * scl : ℝ) : EReal) := by
  rw [dkey_at, sum_up _ (fun r hr => by rw [D.head_ds_low h r j hr, zero_mul]), Finset.sum_mul, coe_sum]
  exact Finset.sum_congr rfl fun x _ => by
    rw [q_at A, tD_at A, scl_word, ← EReal.coe_mul, ← EReal.coe_mul, mul_right_comm]; rfl

theorem dq_at : dquery (scaled (tD q k v g c)) (heads k) (ix2 r (hc h e))
    = (((∑ j, (D.head h).ds r j * (D.head h).k j e) * scl : ℝ) : EReal) := by
  by_cases hr : 112 ≤ r.val
  · obtain ⟨i, rfl⟩ : ∃ i, r = up i := ⟨⟨r.val - 112, by have := r.isLt; omega⟩, Fin.ext (show r.val = 112 + (r.val - 112) by omega)⟩
    rw [dquery_up, Finset.sum_mul, coe_sum]
    exact Finset.sum_congr rfl fun x _ => by
      rw [k_at A, tD_at A, scl_word, ← EReal.coe_mul, ← EReal.coe_mul, mul_right_comm]; rfl
  · rw [dquery_low _ _ _ _ _ hr, Finset.sum_eq_zero fun j _ => by rw [D.head_ds_low h r j hr, zero_mul], zero_mul]
    rfl

theorem dc_at (x : Fin 11) (y : Fin 384) : dbias (tD q k v g c) (flat (shapeCast _ (total (tD q k v g c)) shapeCasts_S16x4112_S16x4112x1)) (ix4 h x 0 y)
    = ((0 - ∑ r, (D.head h).ds r (row x.val y) : ℝ) : EReal) := by
  rw [dbias_at h _ _ ?_ x y, zero_sub, sum_up _ (fun r hr => D.head_ds_low h r _ hr), ← Finset.sum_neg_distrib, coe_sum]
  · exact Finset.sum_congr rfl fun n _ => by rw [tD_at A, EReal.coe_neg]
  · intro n
    rw [flat_at, total_at, Finset.sum_congr rfl fun j _ => tD_at A h n j, ← coe_sum, D.head_ds_sum]
    rfl

end real
end Ref
end Attn
end
-- ==== Proof.AttnFinite.lean ====
/- The attention gradient's precondition: every entry of the arguments is a real number. -/
module

public import proofs.«01_k».proof.Defs
public import proofs.«01_k».proof.Proof.AttnRefValue

@[expose] public section
set_option maxRecDepth 1000000
noncomputable section
namespace Attn.Finite
open Cert.Pre_finite Idealize.ShloMosaic Idealize.ShloMosaic.TcCoe

theorem facts : Cert.Pre_finite.Facts where
  transposes_S16x4224_S4224x16_1_0 := by decide
  bitsLt_bf16_f32 := by decide
  concatenates_S4224x2048_S4224x2048_S4224x2048_S4224x2048_S4224x16_S4224x8208_d1 := by decide
  bcast_S_S4224x8208 := by decide

variable [Cert.Pre_finite.Facts] (q k v : FVec Ideal S4224x2048 .bf16) (c : FVec Ideal S16x4224 .f32) (g : FVec Ideal S4224x2048 .bf16)

theorem q_at (r : Fin 4224) (x : Fin 2048) : fn q k v c g (ix2 r ⟨x.val, by have := x.isLt; omega⟩)
    = Ideal.cmp .olt (max (q (ix2 r x)) (-(q (ix2 r x)))) (Ideal.ofBits .f32 0x7F800000#32) := by
  pointwise [fn]
  rfl

theorem k_at (r : Fin 4224) (x : Fin 2048) : fn q k v c g (ix2 r ⟨2048 + x.val, by have := x.isLt; omega⟩)
    = Ideal.cmp .olt (max (k (ix2 r x)) (-(k (ix2 r x)))) (Ideal.ofBits .f32 0x7F800000#32) := by
  pointwise [fn]
  rfl

theorem v_at (r : Fin 4224) (x : Fin 2048) : fn q k v c g (ix2 r ⟨4096 + x.val, by have := x.isLt; omega⟩)
    = Ideal.cmp .olt (max (v (ix2 r x)) (-(v (ix2 r x)))) (Ideal.ofBits .f32 0x7F800000#32) := by
  pointwise [fn]
  have hv := x.isLt
  have e : ∀ hl, (⟨4096 + x.val - 2048 - 2048, hl⟩ : Fin 2048) = x := fun _ => Fin.ext (by show 4096 + x.val - 2048 - 2048 = x.val; omega)
  rw [dif_neg (show ¬ 4096 + x.val < 2048 by omega), dif_neg (show ¬ 4096 + x.val - 2048 < 2048 by omega), dif_pos (show 4096 + x.val - 2048 - 2048 < 2048 by omega), e]
  rfl

theorem g_at (r : Fin 4224) (x : Fin 2048) : fn q k v c g (ix2 r ⟨6144 + x.val, by have := x.isLt; omega⟩)
    = Ideal.cmp .olt (max (g (ix2 r x)) (-(g (ix2 r x)))) (Ideal.ofBits .f32 0x7F800000#32) := by
  pointwise [fn]
  have hv := x.isLt
  have e : ∀ hl, (⟨6144 + x.val - 2048 - 2048 - 2048, hl⟩ : Fin 2048) = x := fun _ => Fin.ext (by show 6144 + x.val - 2048 - 2048 - 2048 = x.val; omega)
  rw [dif_neg (show ¬ 6144 + x.val < 2048 by omega), dif_neg (show ¬ 6144 + x.val - 2048 < 2048 by omega), dif_neg (show ¬ 6144 + x.val - 2048 - 2048 < 2048 by omega), dif_pos (show 6144 + x.val - 2048 - 2048 - 2048 < 2048 by omega), e]
  rfl

theorem c_at (h : Fin 16) (r : Fin 4224) : fn q k v c g (ix2 r ⟨8192 + h.val, by have := h.isLt; omega⟩)
    = Ideal.cmp .olt (max (c (ix2 h r)) (-(c (ix2 h r)))) (Ideal.ofBits .f32 0x7F800000#32) := by
  pointwise [fn]
  have hv := h.isLt
  have e : ∀ hl, (⟨8192 + h.val - 2048 - 2048 - 2048 - 2048, hl⟩ : Fin 16) = h := fun _ => Fin.ext (by show 8192 + h.val - 2048 - 2048 - 2048 - 2048 = h.val; omega)
  rw [dif_neg (show ¬ 8192 + h.val < 2048 by omega), dif_neg (show ¬ 8192 + h.val - 2048 < 2048 by omega), dif_neg (show ¬ 8192 + h.val - 2048 - 2048 < 2048 by omega), dif_neg (show ¬ 8192 + h.val - 2048 - 2048 - 2048 < 2048 by omega), e]
  rfl

theorem top_word : Ideal.ofBits .f32 0x7F800000#32 = ⊤ := by simp [Ideal.ofBits, Ideal.ieee]

theorem real_of (x : EReal) (h : Ideal.cmp .olt (max x (-x)) (Ideal.ofBits .f32 0x7F800000#32) = 1#1) : x = (x.toReal : EReal) := by
  rw [top_word] at h
  have h' : max x (-x) < ⊤ := by
    by_contra hn
    have : Ideal.cmp .olt (max x (-x)) ⊤ = BitVec.ofBool (decide (max x (-x) < ⊤)) := rfl
    rw [this, decide_eq_false hn] at h
    exact absurd h (by decide)
  refine (EReal.coe_toReal ?_ ?_).symm
  · rintro rfl; simp at h'
  · rintro rfl; simp at h'

/-- The real numbers the arguments hold, where they hold real numbers. -/
def dataOf (q k v : FVec Ideal S4224x2048 .bf16) (c : FVec Ideal S16x4224 .f32) (g : FVec Ideal S4224x2048 .bf16) : Data where
  Q r x := EReal.toReal (q (ix2 r x))
  K r x := EReal.toReal (k (ix2 r x))
  V r x := EReal.toReal (v (ix2 r x))
  G r x := EReal.toReal (g (ix2 r x))
  C h r := EReal.toReal (c (ix2 h r))

/-- Under the precondition every entry of the arguments is a real number. -/
theorem real (hf : fn q k v c g = fun _ => 1#1) : Real' (dataOf q k v c g) q k v g c where
  q r x := real_of _ ((q_at q k v c g r x).symm.trans (congrFun hf _))
  k r x := real_of _ ((k_at q k v c g r x).symm.trans (congrFun hf _))
  v r x := real_of _ ((v_at q k v c g r x).symm.trans (congrFun hf _))
  g r x := real_of _ ((g_at q k v c g r x).symm.trans (congrFun hf _))
  c h r := real_of _ ((c_at q k v c g h r).symm.trans (congrFun hf _))

end Attn.Finite
end
-- ==== Proof.AttnHost.lean ====
/- The attention gradient: what the kernel's host lines prepare, as compositions of their stages. -/
module

public import proofs.«01_k».proof.Proof.Run
public import proofs.«01_k».proof.Proof.Soft
public import Idealize.ShloMosaic.Lib.StableHlo.RunRead

@[expose] public section
set_option maxRecDepth 1000000
noncomputable section
namespace Attn.Host
open Cert.KernelIdeal Cert.KernelIdeal.Gen Idealize.ShloMosaic Idealize.ShloMosaic.TcCoe Idealize.SL.Sem Idealize.ShloMosaic.StableHlo

abbrev X := FVec Ideal S4224x2048 .bf16
abbrev X3 := FVec Ideal S4224x16x128 .f32
abbrev Q3 := FVec Ideal S4112x16x128 .f32
abbrev Cs := FVec Ideal S16x4224 .f32
abbrev T := FVec Ideal S16x4112x4224 .f32
abbrev R1 := FVec Ideal S16x4112 .f32
abbrev R2 := FVec Ideal S16x4112x1 .f32

/-- A matrix split into heads. -/
def heads (x : X) : X3 := shapeCast _ (extf .f32 x bitsLt_bf16_f32) shapeCasts_S4224x2048_S4224x16x128

/-- The rows kept, split into heads. -/
def kept (x : X) : Q3 :=
  shapeCast _ (extf .f32 (extractStridedSlice S4112x2048 ![112, 0] x slices_S4224x2048_S4112x2048_112_0) bitsLt_bf16_f32)
    shapeCasts_S4112x2048_S4112x16x128

/-- The scores. -/
def score (q : Q3) (k : X3) (c : Cs) : T :=
  addf (mulf (Host.dotGeneral dot_S4112x16x128_S4224x16x128_S16x4112x4224_2_2_0_0_1_1 none q k)
      (broadcastInDim S16x4112x4224 ![] bcast_S_S16x4112x4224 (constant S_ .f32 0x3DB504F3#32)))
    (subf (broadcastInDim S16x4112x4224 ![0, 1, 2] bcast_S16x4112x1_S16x4112x4224_0_1_2
        (broadcastInDim S16x4112x1 ![0, 1] bcast_S16x4112_S16x4112x1_0_1
          (extractStridedSlice S16x4112 ![0, 112] c slices_S16x4224_S16x4112_0_112)))
      (broadcastInDim S16x4112x4224 ![0, 1, 2] bcast_S16x1x4224_S16x4112x4224_0_1_2
        (broadcastInDim S16x1x4224 ![0, 2] bcast_S16x4224_S16x1x4224_0_2 c)))

/-- Which keys a query sees. -/
def mask : IVec S4112x4224 1 :=
  andi
    (cmpi .sle
      (broadcastInDim S4112x4224 ![0, 1] bcast_S1x4224_S4112x4224_0_1
        (broadcastInDim S1x4224 ![1] bcast_S4224_S1x4224_1 (iotaInDim S4224 32 0)))
      (broadcastInDim S4112x4224 ![0, 1] bcast_S4112x1_S4112x4224_0_1
        (addi (broadcastInDim S4112x1 ![] bcast_S_S4112x1 (constantI S_ 32 112#32))
          (broadcastInDim S4112x1 ![0] bcast_S4112_S4112x1_0 (iotaInDim S4112 32 0)))))
    (broadcastInDim S4112x4224 ![0, 1] bcast_S1x4224_S4112x4224_0_1
      (cmpi .sge (broadcastInDim S1x4224 ![1] bcast_S4224_S1x4224_1 (iotaInDim S4224 32 0))
        (broadcastInDim S1x4224 ![] bcast_S_S1x4224 (constantI S_ 32 112#32))))

/-- The scores seen. -/
def seen (s : T) : T :=
  select (broadcastInDim S16x4112x4224 ![1, 2] bcast_S4112x4224_S16x4112x4224_1_2 mask) s
    (broadcastInDim S16x4112x4224 ![] bcast_S_S16x4112x4224 (id (constant S_ .f32 0xFF800000#32)))

/-- The largest score of a query. -/
def largest (s : T) : R1 :=
  Host.reduce FloatOps.maximumf s (constant S_ .f32 0xFF800000#32) reducesTo_S16x4112x4224_S16x4112_d2 h_S_

def col1 (x : R1) : R2 := broadcastInDim S16x4112x1 ![0, 1] bcast_S16x4112_S16x4112x1_0_1 x

/-- The weights before they are normalized. -/
def weight (s : T) (x : R2) : T :=
  Host.exp (subf s (broadcastInDim S16x4112x4224 ![0, 1, 2] bcast_S16x4112x1_S16x4112x4224_0_1_2 x))

/-- The sum over the keys. -/
def total (e : T) : R1 := Host.reduceAdd e (constant S_ .f32 0x00000000#32) reducesTo_S16x4112x4224_S16x4112_d2 h_S_

/-- Quotients by the normalizer. -/
def over (e : T) (l : R2) : T := Host.divf e (broadcastInDim S16x4112x4224 ![0, 1, 2] bcast_S16x4112x1_S16x4112x4224_0_1_2 l)

/-- The output, zero on the rows before the pad's end. -/
def out (v : X3) (p : T) : FVec Ideal S4224x2048 .f32 :=
  pad S4224x2048 ![112, 0] ![0, 0] ![0, 0]
    (shapeCast _ (transpose S4112x16x128 [2, 0, 1]
      (Host.dotGeneral dot_S4224x16x128_S16x4112x4224_S16x128x4112_0_2_2_1_1_0 none v p) transposes_S16x128x4112_S4112x16x128_2_0_1)
      shapeCasts_S4112x16x128_S4112x2048)
    (sitofp .f32 (constantI S_ 32 0#32)) pads_S4112x2048_S4224x2048_11200_000 h_S_

/-- The logarithm of the normalizer, in every lane. -/
def lse (x l : R2) : FVec Ideal S16x4224x128 .f32 :=
  broadcastInDim S16x4224x128 ![0, 1, 2] bcast_S16x4224x1_S16x4224x128_0_1_2
    (pad S16x4224x1 ![0, 112, 0] ![0, 0, 0] ![0, 0, 0] (addf x (Host.log l)) (sitofp .f32 (constantI S_ 32 0#32))
      pads_S16x4112x1_S16x4224x1_000_11200_000 h_S_)

/-- The bias, a lane a head. -/
def biasLanes (c : Cs) : FVec Ideal S4224x128 .f32 :=
  pad S4224x128 ![0, 0] ![0, 112] ![0, 0] (transpose S4224x16 [1, 0] c transposes_S16x4224_S4224x16_1_0)
    (sitofp .f32 (constantI S_ 32 0#32)) pads_S4224x16_S4224x128_000_01120 h_S_

/-- The bias, a block a column of the grid. -/
def biasBlocks (c : Cs) : FVec Ideal S16x11x1x384 .f32 := shapeCast _ c shapeCasts_S16x4224_S16x11x1x384

section
variable (q k v : X) (c : Cs)
def tS : T := seen (score (kept q) (heads k) c)
def tM : R2 := col1 (largest (tS q k c))
def tE : T := weight (tS q k c) (tM q k c)
def tL : R2 := col1 (total (tE q k c))
def tO : FVec Ideal S4224x2048 .f32 := out (heads v) (over (tE q k c) (tL q k c))
end

variable (m : (ℓ : Loc nD τ sig) → Buf (Elt Ideal) ℓ) (d : Dev nD)

abbrev aq : X := m ((d.tc : Thread nD τ).loc main_arg0)
abbrev ak : X := m ((d.tc : Thread nD τ).loc main_arg1)
abbrev av : X := m ((d.tc : Thread nD τ).loc main_arg2)
abbrev ac : Cs := m ((d.tc : Thread nD τ).loc main_arg3)
abbrev ag : X := m ((d.tc : Thread nD τ).loc main_arg4)

theorem read_o : V m d main_v45 = tO (aq m d) (ak m d) (av m d) (ac m d) := by
  simp only [V, hostOps0, hostOps0_1, hostOps0_2, hostOps0_3, hostOps0_4, hostOps0_5, hostOps0_6, hostOps0_7, hostOps0_8,
    List.flatten_cons, List.flatten_nil, List.append_nil, List.cons_append, List.nil_append, TRef.nullary, TRef.unary, TRef.binary,
    TRef.ternary, TRef.toBuf, TRef.ofBuf, cast_eq]
  after_results_simp <;> rfl

theorem read_l : V m d main_v49 = lse (tM (aq m d) (ak m d) (ac m d)) (tL (aq m d) (ak m d) (ac m d)) := by
  simp only [V, hostOps0, hostOps0_1, hostOps0_2, hostOps0_3, hostOps0_4, hostOps0_5, hostOps0_6, hostOps0_7, hostOps0_8,
    List.flatten_cons, List.flatten_nil, List.append_nil, List.cons_append, List.nil_append, TRef.nullary, TRef.unary, TRef.binary,
    TRef.ternary, TRef.toBuf, TRef.ofBuf, cast_eq]
  after_results_simp <;> rfl

theorem read_c : V m d main_v51 = biasLanes (ac m d) := by
  simp only [V, hostOps0, hostOps0_1, hostOps0_2, hostOps0_3, hostOps0_4, hostOps0_5, hostOps0_6, hostOps0_7, hostOps0_8,
    List.flatten_cons, List.flatten_nil, List.append_nil, List.cons_append, List.nil_append, TRef.nullary, TRef.unary, TRef.binary,
    TRef.ternary, TRef.toBuf, TRef.ofBuf, cast_eq]
  after_results_simp <;> rfl

theorem read_ct : V m d main_v52 = biasBlocks (ac m d) := by
  simp only [V, hostOps0, hostOps0_1, hostOps0_2, hostOps0_3, hostOps0_4, hostOps0_5, hostOps0_6, hostOps0_7, hostOps0_8,
    List.flatten_cons, List.flatten_nil, List.append_nil, List.cons_append, List.nil_append, TRef.nullary, TRef.unary, TRef.binary,
    TRef.ternary, TRef.toBuf, TRef.ofBuf, cast_eq]
  after_results_simp <;> rfl

end Attn.Host
end
-- ==== Proof.AttnReads.lean ====
/- The attention gradient: the blocks each point of the kernel's grid is given, for arguments that are real numbers. -/
module

public import proofs.«01_k».proof.Proof.AttnHost
public import proofs.«01_k».proof.Proof.AttnRefValue
public import Idealize.ShloMosaic.Lib.Pipeline.ValueKit

@[expose] public section
set_option maxRecDepth 1000000
noncomputable section
namespace Attn.Host
open Cert.KernelIdeal Cert.KernelIdeal.Gen Idealize.ShloMosaic Idealize.ShloMosaic.TcCoe Idealize.SL.Sem Idealize.ShloMosaic.StableHlo

theorem zero_word : FloatOps.sitofp (F := Ideal) .f32 (0#32) = (0 : EReal) := by simp [FloatOps.sitofp]

theorem sub_up (i : Fin 4112) (p) : (⟨(up i).val - 112, p⟩ : Fin 4112) = i := Fin.ext (show 112 + i.val - 112 = i.val by omega)

theorem up_lt (i : Fin 4112) : (up i).val - 112 < 4112 := by have := i.isLt; show 112 + i.val - 112 < 4112; omega

section stages
variable (h : Fin 16) (i : Fin 4112) (r j : Fin 4224) (e : Fin 128)

theorem heads_at (x : X) : heads x (ix3 r h e) = x (ix2 r (hc h e)) := by
  pointwise [heads]
  exact congrArg (fun z => x (ix2 r z)) (Fin.ext (congrArg (· + e.val) (Nat.mul_comm _ _)))
theorem kept_at (x : X) : kept x (ix3 i h e) = x (ix2 (up i) (hc h e)) := by
  pointwise [kept]
  exact congrArg (fun z => x (ix2 (up i) z)) (Fin.ext (congrArg (· + e.val) (Nat.mul_comm _ _)))
theorem score_at (q : Q3) (k : X3) (c : Cs) : score q k c (ix3 h i j) =
    (∑ x, q (ix3 i h x) * k (ix3 j h x)) * Ideal.ofBits .f32 1035273459#32 + (c (ix2 h (up i)) - c (ix2 h j)) := by
  pointwise [score]; rfl
theorem seen_at (s : T) : seen s (ix3 h i j) = if 112 ≤ j.val ∧ j.val ≤ (up i).val then s (ix3 h i j) else ⊥ := by
  pointwise [seen, mask]
  rw [Ref.mask_select']
  exact if_congr Iff.rfl rfl bot_word
theorem rmax (s : T) (c : FVec Ideal S_ .f32) : Host.reduce FloatOps.maximumf s c reducesTo_S16x4112x4224_S16x4112_d2 h_S_ (ix2 h i)
    = Finset.univ.fold max (c (Shape.Idx.first h_S_)) fun k => s (ix3 h i k) := by
  simp only [pointwise]
theorem const_at (w : BitVec 32) (k : S_.Idx) : constant (F := Ideal) S_ .f32 w k = Ideal.ofBits .f32 w := rfl
theorem largest_at (s : T) : largest s (ix2 h i) = Finset.univ.fold max ⊥ fun k => s (ix3 h i k) := by
  unfold largest
  rw [rmax, const_at, bot_word]
theorem col1_at (s : R1) : col1 s (ix3 h i 0) = s (ix2 h i) := by pointwise [col1]
theorem weight_at (s : T) (x : R2) : weight s x (ix3 h i j) = Ideal.exp (s (ix3 h i j) - x (ix3 h i 0)) := by pointwise [weight]
theorem total_at (s : T) : total s (ix2 h i) = ∑ x, s (ix3 h i x) := by pointwise [total]
theorem over_at (s : T) (l : R2) : over s l (ix3 h i j) = Ideal.div (s (ix3 h i j)) (l (ix3 h i 0)) := by pointwise [over]
theorem out_low (v : X3) (p : T) (hr : ¬ 112 ≤ r.val) : out v p (ix2 r (hc h e)) = 0 := by
  pointwise [out]
  rw [dif_neg (fun z => hr z.1)]
  exact zero_word
theorem out_up (v : X3) (p : T) : out v p (ix2 (up i) (hc h e)) = ∑ x, v (ix3 x h e) * p (ix3 h i x) := by
  pointwise [out]
  rw [dif_pos ⟨up_le i, up_lt i⟩]
  refine Finset.sum_congr rfl fun x _ => congrArg₂ (· * ·) ?_ ?_
  · exact congrArg₂ (fun a b => v (ix3 x a b)) (hc_div h e _) (hc_mod h e _)
  · exact congrArg₂ (fun a b => p (ix3 a b x)) (hc_div h e _) (sub_up i _)
theorem lse_low (x l : R2) (hr : ¬ 112 ≤ r.val) : lse x l (ix3 h r e) = 0 := by
  pointwise [lse]
  rw [dif_neg (fun z => hr z.1)]
  exact zero_word
theorem lse_up (x l : R2) : lse x l (ix3 h (up i) e) = x (ix3 h i 0) + Ideal.log (l (ix3 h i 0)) := by
  pointwise [lse]
  rw [dif_pos ⟨up_le i, up_lt i⟩, sub_up]
theorem lanes_at (c : Cs) : biasLanes c (ix2 r ⟨h.val, by have := h.isLt; omega⟩) = c (ix2 h r) := by
  pointwise [biasLanes]
theorem blocks_at (c : Cs) (x : Fin 11) (y : Fin 384) : biasBlocks c (ix4 h x 0 y) = c (ix2 h (row x.val y)) := by
  pointwise [biasBlocks]
  exact congrArg (fun z => c (ix2 h z)) (Fin.ext ((congrArg (· + y.val) (Nat.mul_comm _ _)).trans (row_val _ _ x.isLt).symm))
end stages

theorem idx0 : ∀ t : Fin cfg0.N, win0_0.index t = ![0, t.val / 11] := (by decide +kernel : ∀ t : Fin grid0.N, _)
theorem idx1 : ∀ t : Fin cfg0.N, win0_1.index t = ![t.val % 11, t.val / 11] := (by decide +kernel : ∀ t : Fin grid0.N, _)
theorem idx2 : ∀ t : Fin cfg0.N, win0_2.index t = ![t.val % 11, t.val / 11] := (by decide +kernel : ∀ t : Fin grid0.N, _)
theorem idx3 : ∀ t : Fin cfg0.N, win0_3.index t = ![0, t.val / 11] := (by decide +kernel : ∀ t : Fin grid0.N, _)
theorem idx4 : ∀ t : Fin cfg0.N, win0_4.index t = ![0, t.val / 11] := (by decide +kernel : ∀ t : Fin grid0.N, _)
theorem idx5 : ∀ t : Fin cfg0.N, win0_5.index t = ![t.val / 11, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val / 11, t.val % 11, 0, 0] := (by decide +kernel : ∀ t : Fin grid0.N, _)
theorem coords0 : ∀ t : Fin cfg0.N, ((grid0.coords t) 0).val = t.val / 11 := (by decide +kernel : ∀ t : Fin grid0.N, _)

/-- The head of a point. -/
def hd (t : Fin cfg0.N) : Fin 16 := ⟨t.val / 11, by have : t.val < 176 := t.isLt; omega⟩

variable (m : (ℓ : Loc nD τ sig) → Buf (Elt Ideal) ℓ) (d : Dev nD) (t : Fin cfg0.N)

theorem blk0 (r : Fin 4224) (e : Fin 128) : iblk m d 0 t (ix2 r e) = aq m d (ix2 r (hc (hd t) e)) := by
  blk_simp [iblk]
  rw [V_main_arg0]
  refine congrArg _ (funext fun k => Fin.ext ?_)
  fin_cases k <;> blk_simp [idx0, hc, hd, row] <;> (try rfl) <;> simp <;> omega

theorem blk1 (x : Fin 384) (e : Fin 128) : iblk m d 1 t (ix2 x e) = ak m d (ix2 (row (t.val % 11) x) (hc (hd t) e)) := by
  blk_simp [iblk]
  rw [V_main_arg1]
  refine congrArg _ (funext fun k => Fin.ext ?_)
  fin_cases k <;> blk_simp [idx1, hc, hd, row] <;> (try rfl) <;> simp <;> omega

theorem blk2 (x : Fin 384) (e : Fin 128) : iblk m d 2 t (ix2 x e) = av m d (ix2 (row (t.val % 11) x) (hc (hd t) e)) := by
  blk_simp [iblk]
  rw [V_main_arg2]
  refine congrArg _ (funext fun k => Fin.ext ?_)
  fin_cases k <;> blk_simp [idx2, hc, hd, row] <;> (try rfl) <;> simp <;> omega

theorem blk3 (r : Fin 4224) (e : Fin 128) : iblk m d 3 t (ix2 r e) = tO (aq m d) (ak m d) (av m d) (ac m d) (ix2 r (hc (hd t) e)) := by
  blk_simp [iblk]
  rw [read_o]
  refine congrArg _ (funext fun k => Fin.ext ?_)
  fin_cases k <;> blk_simp [idx3, hc, hd, row] <;> (try rfl) <;> simp <;> omega

theorem blk4 (r : Fin 4224) (e : Fin 128) : iblk m d 4 t (ix2 r e) = ag m d (ix2 r (hc (hd t) e)) := by
  blk_simp [iblk]
  rw [V_main_arg4]
  refine congrArg _ (funext fun k => Fin.ext ?_)
  fin_cases k <;> blk_simp [idx4, hc, hd, row] <;> (try rfl) <;> simp <;> omega

theorem blk5 (r : Fin 4224) (e : Fin 128) : iblk m d 5 t (ix3 0 r e) = lse (tM (aq m d) (ak m d) (ac m d)) (tL (aq m d) (ak m d) (ac m d)) (ix3 (hd t) r e) := by
  blk_simp [iblk]
  rw [read_l]
  refine congrArg _ (funext fun k => Fin.ext ?_)
  fin_cases k <;> blk_simp [idx5, hc, hd, row] <;> (try rfl) <;> simp <;> omega

theorem blk6 (r : Fin 4224) (e : Fin 128) : iblk m d 6 t (ix2 r e) = biasLanes (ac m d) (ix2 r e) := by
  blk_simp [iblk]
  rw [read_c]
  refine congrArg _ (funext fun k => Fin.ext ?_)
  fin_cases k <;> blk_simp [idx6, hc, hd, row] <;> (try rfl) <;> simp <;> omega

theorem blk7 (x : Fin 384) : iblk m d 7 t (ix4 0 0 0 x) = biasBlocks (ac m d) (ix4 (hd t) ⟨t.val % 11, Nat.mod_lt _ (by omega)⟩ 0 x) := by
  blk_simp [iblk]
  rw [read_ct]
  refine congrArg _ (funext fun k => Fin.ext ?_)
  fin_cases k <;> blk_simp [idx7, hc, hd, row] <;> (try rfl) <;> simp <;> omega

section real
variable {D : Data} {q k v g : X} {c : Cs} (A : Real' D q k v g c) (h : Fin 16) (i : Fin 4112) (r j : Fin 4224) (e : Fin 128)
include A

theorem tS_at : tS q k c (ix3 h i j) = D.ms h (up i) j := by
  unfold tS Data.ms
  rw [seen_at]
  refine if_congr Iff.rfl ?_ rfl
  rw [score_at, A.c, A.c, Finset.sum_congr rfl fun x _ => congrArg₂ (· * ·) ((kept_at h i x q).trans (A.q _ _)) ((heads_at h j x k).trans (A.k _ _)), scl_word]
  simp only [← EReal.coe_mul, ← coe_sum, ← EReal.coe_add, ← EReal.coe_sub]
  rfl

theorem tM_at : tM q k c (ix3 h i 0) = (D.mx h (up i) : EReal) := by
  unfold tM
  rw [col1_at, largest_at, ← D.mx_coe h (up i) (up_le i)]
  exact congrArg (fun f => Finset.fold max ⊥ f Finset.univ) (funext fun n => tS_at A h i n)

theorem tE_at : tE q k c (ix3 h i j) = (D.ex h (up i) j : EReal) := by
  unfold tE
  rw [weight_at, tM_at A, tS_at A, D.ex_coe]

theorem tL_at : tL q k c (ix3 h i 0) = (D.nl h (up i) : EReal) := by
  unfold tL Data.nl
  rw [col1_at, total_at, coe_sum]
  exact Finset.sum_congr rfl fun n _ => tE_at A h i n

theorem exists_up (hr : 112 ≤ r.val) : ∃ i, r = up i :=
  ⟨⟨r.val - 112, by have := r.isLt; omega⟩, Fin.ext (show r.val = 112 + (r.val - 112) by omega)⟩

theorem tO_at : tO q k v c (ix2 r (hc h e)) = ((D.head h).o r e : EReal) := by
  unfold tO
  show _ = ((if 112 ≤ r.val then ∑ j, D.pr h r j * D.V j (hc h e) else 0 : ℝ) : EReal)
  by_cases hr : 112 ≤ r.val
  · obtain ⟨i, rfl⟩ := exists_up A r hr
    rw [if_pos hr, out_up, coe_sum]
    exact Finset.sum_congr rfl fun j _ => by
      rw [heads_at, A.v, over_at, tE_at A, tL_at A, div_coe _ _ (D.nl_pos h _ hr).ne', ← EReal.coe_mul, mul_comm]; rfl
  · rw [if_neg hr, out_low _ _ _ _ _ hr]; rfl

theorem lse_at : lse (tM q k c) (tL q k c) (ix3 h r e) = ((D.head h).l r : EReal) := by
  show _ = ((if 112 ≤ r.val then D.mx h r + Real.log (D.nl h r) else 0 : ℝ) : EReal)
  by_cases hr : 112 ≤ r.val
  · obtain ⟨i, rfl⟩ := exists_up A r hr
    rw [if_pos hr, lse_up, tM_at A, tL_at A, log_coe _ (D.nl_pos h _ hr), ← EReal.coe_add]
  · rw [if_neg hr, lse_low _ _ _ _ _ hr]; rfl
end real

set_option maxHeartbeats 2000000 in
/-- What a point is given, when the arguments are real numbers. -/
theorem reads {D : Data} (A : Real' D (aq m d) (ak m d) (av m d) (ag m d) (ac m d)) :
    Reads (D.head (hd t)) (grid0.coords t) (ins m d t) := by
  have hcol := col_coords t
  have hlane : lane (grid0.coords t) = ⟨(hd t).val, by have := (hd t).isLt; omega⟩ := Fin.ext (coords0 t)
  constructor
  · intro r e; exact (blk0 m d t r e).trans (A.q _ _)
  · intro x e; exact ((blk1 m d t x e).trans (A.k _ _)).trans (congrArg (fun n => (((D.head (hd t)).k (row n x) e : ℝ) : EReal)) hcol.symm)
  · intro x e; exact ((blk2 m d t x e).trans (A.v _ _)).trans (congrArg (fun n => (((D.head (hd t)).v (row n x) e : ℝ) : EReal)) hcol.symm)
  · intro r e; exact (blk3 m d t r e).trans (tO_at A _ _ _)
  · intro r e; exact (blk4 m d t r e).trans (A.g _ _)
  · intro r; exact (blk5 m d t r 0).trans (lse_at A _ _ _)
  · intro r; rw [hlane]; exact (blk6 m d t r _).trans ((lanes_at _ _ _).trans (A.c _ _))
  · intro x; exact ((blk7 m d t x).trans ((blocks_at _ _ _ _).trans (A.c _ _))).trans (congrArg (fun n => (((D.head (hd t)).c (row n x) : ℝ) : EReal)) hcol.symm)

end Attn.Host
end
-- ==== Proof.Sweep.lean ====
/- A grid point of the attention gradient over the reals: the sums it leaves. -/
module

public import proofs.«01_k».proof.Proof.Head

@[expose] public section
set_option maxRecDepth 16384
noncomputable section
namespace Attn
open Cert.KernelIdeal Cert.KernelIdeal.Gen
open Idealize.ShloMosaic Idealize.ShloMosaic.TcCoe

theorem putTile_at {α : Type} (y : S4224x128.Idx → α) (b : ℕ) (hb : b < 11) (w : S384x128.Idx → α) (b' : ℕ) (hb' : b' < 11) (a : Fin 384) (e : Fin 128) :
    putTile y b w (ix2 (row b' a) e) = if b' = b then w (ix2 a e) else y (ix2 (row b' a) e) := by
  have ha := a.isLt
  unfold putTile VecWindow.put
  by_cases h : b' = b
  · subst h
    rw [if_pos rfl, dif_pos]
    · refine congrArg w (funext fun t => Fin.ext ?_)
      fin_cases t
      · show (row b' a).val - 384 * b' = a.val
        rw [row_val _ _ hb]; omega
      · show e.val - 0 = e.val
        omega
    · intro t
      fin_cases t
      · show 384 * b' ≤ (row b' a).val ∧ (row b' a).val < 384 * b' + 384
        rw [row_val _ _ hb]; omega
      · show 0 ≤ e.val ∧ e.val < 0 + 128
        have := e.isLt; omega
  · rw [if_neg h, dif_neg]
    intro hall
    have h0 : 384 * b ≤ (row b' a).val ∧ (row b' a).val < 384 * b + 384 := hall 0
    rw [row_val _ _ hb'] at h0
    omega

namespace Head
variable (H : Head)

/-- What block `b` of the queries adds to its gradient in column `j`. -/
def dqC (j : ℕ) (r : Fin 4224) (e : Fin 128) : ℝ := (∑ x, H.ds r (row j x) * H.k (row j x) e) * scl

/-- The gradient of the queries after the columns before `j`. -/
def dqPre (j : ℕ) (r : Fin 4224) (e : Fin 128) : ℝ := ∑ n ∈ Finset.range j, H.dqC n r e

theorem ds_zero (i j : Fin 4224) (h : i.val < j.val) : H.ds i j = 0 := by
  unfold ds p; rw [if_neg (by omega), zero_mul]

theorem p_zero (i j : Fin 4224) (h : i.val < j.val) : H.p i j = 0 := by
  unfold p; rw [if_neg (by omega)]

end Head

/-- The state after `n` blocks of the column: the three sums, and the gradient of the queries added to `z`. -/
structure Sums (H : Head) (j n : ℕ) (z : Fin 4224 → Fin 128 → ℝ) (s : St Ideal) : Prop where
  dk : ∀ x e, s.1.1 (ix2 x e) = ((∑ b ∈ Finset.range n, ∑ a, H.ds (row (j + b) a) (row j x) * H.q (row (j + b) a) e : ℝ) : EReal)
  dv : ∀ x e, s.1.2.1 (ix2 x e) = ((∑ b ∈ Finset.range n, ∑ a, H.p (row (j + b) a) (row j x) * H.d (row (j + b) a) e : ℝ) : EReal)
  dc : ∀ x, s.1.2.2 (ix2 0 x) = ((0 - ∑ b ∈ Finset.range n, ∑ a, H.ds (row (j + b) a) (row j x) : ℝ) : EReal)
  dq : ∀ b, b < 11 → ∀ a e, s.2 (ix2 (row b a) e) = ((z (row b a) e + if j ≤ b ∧ b < j + n then H.dqC j (row b a) e else 0 : ℝ) : EReal)

section
variable {H : Head} {i : grid0.Coords} {I : Ins Ideal} (R : Reads H i I)
include R

theorem Sums.step {n b : ℕ} {z : Fin 4224 → Fin 128 → ℝ} {s t : St Ideal} (h : Sums H (col i).val n z s) (hb : b = (col i).val + n) (hn : b < 11)
    (P D : S384x384.Idx → EReal)
    (hp : ∀ a x, P (ix2 a x) = (H.p (row b a) (row (col i).val x) : EReal))
    (hd : ∀ a x, D (ix2 a x) = (H.ds (row b a) (row (col i).val x) : EReal))
    (t1 : ∀ x e, t.1.1 (ix2 x e) = s.1.1 (ix2 x e) + ∑ a, D (ix2 a x) * I.q (ix2 (row b a) e))
    (t2 : ∀ x e, t.1.2.1 (ix2 x e) = s.1.2.1 (ix2 x e) + ∑ a, P (ix2 a x) * I.d (ix2 (row b a) e))
    (t3 : ∀ x, t.1.2.2 (ix2 0 x) = s.1.2.2 (ix2 0 x) - ∑ a, D (ix2 a x))
    (w : S384x128.Idx → EReal) (t4 : t.2 = putTile s.2 b w)
    (hw : ∀ a e, w (ix2 a e) = s.2 (ix2 (row b a) e) + (∑ x, D (ix2 a x) * I.k (ix2 x e)) * Ideal.ofBits .f32 1035273459#32) :
    Sums H (col i).val (n + 1) z t where
  dk x e := by
    rw [t1, h.dk, Finset.sum_range_succ, EReal.coe_add, coe_sum Finset.univ, ← hb]
    refine congrArg _ (Finset.sum_congr rfl fun a _ => ?_)
    rw [hd, R.q, EReal.coe_mul]
  dv x e := by
    rw [t2, h.dv, Finset.sum_range_succ, EReal.coe_add, coe_sum Finset.univ, ← hb]
    refine congrArg _ (Finset.sum_congr rfl fun a _ => ?_)
    rw [hp, R.d, EReal.coe_mul]
  dc x := by
    rw [t3, h.dc, Finset.sum_range_succ, ← sub_sub]
    refine Eq.trans ?_ (EReal.coe_sub _ _).symm
    rw [coe_sum Finset.univ, ← hb]
    refine congrArg _ (Finset.sum_congr rfl fun a _ => ?_)
    rw [hd]
  dq b' hb' a e := by
    rw [t4, putTile_at _ _ hn _ _ hb']
    by_cases e' : b' = b
    · subst e'
      rw [if_pos rfl, hw, h.dq _ hb', if_neg (by omega), if_pos (by omega), add_zero, EReal.coe_add, scl_word]
      unfold Head.dqC
      rw [EReal.coe_mul, coe_sum]
      refine congrArg (fun z => _ + z * _) (Finset.sum_congr rfl fun x _ => ?_)
      rw [hd, R.k, EReal.coe_mul]
    · rw [if_neg e', h.dq _ hb']
      by_cases hin : (col i).val ≤ b' ∧ b' < (col i).val + n
      · rw [if_pos hin, if_pos (by omega)]
      · rw [if_neg hin, if_neg (by omega)]

/-- The block on the diagonal. -/
theorem sums_diag (z : Fin 4224 → Fin 128 → ℝ) (y : Vec Ideal S4224x128 .f32) (hy : ∀ r e, y (ix2 r e) = (z r e : EReal)) :
    Sums H (col i).val 1 z (diag i I y) := by
  have h0 : Sums H (col i).val 0 z ((k0_pay41, k0_pay42, k0_pay43), y) :=
    { dk := fun x e => by rw [Finset.sum_range_zero]; pointwise [k0_pay41]; rfl
      dv := fun x e => by rw [Finset.sum_range_zero]; pointwise [k0_pay42]; rfl
      dc := fun x => by rw [Finset.sum_range_zero, sub_zero]; pointwise [k0_pay43]; rfl
      dq := fun b _ a e => by show y _ = _; rw [hy, if_neg (by omega), add_zero] }
  refine Sums.step R h0 (b := (col i).val) (Nat.add_zero _).symm (col i).isLt _ _ (p0_at R) (ds0_at R) ?_ ?_ ?_ _ rfl ?_
  · intro x e; unfold diag; dsimp only; pointwise [k0_pay51, k0_pay49]; rfl
  · intro x e; unfold diag; dsimp only; pointwise [k0_pay50]; rfl
  · intro x; unfold diag; dsimp only; pointwise [k0_pay52]
  · intro a e; pointwise [k0_pay53, k0_pay49]; rfl

theorem sums_loop1 (z : Fin 4224 → Fin 128 → ℝ) (s : St Ideal) (hs : Sums H (col i).val 1 z s) :
    ∀ n, n ≤ (k0_t1_loop i).trips → Sums H (col i).val (n + 1) z (loop1 i I s n)
  | 0, _ => hs
  | n + 1, hn => by
    have ih := sums_loop1 z s hs n (by omega)
    have hk : n < 10 - (col i).val := lt_of_lt_of_eq (Nat.lt_of_succ_le hn) (trips1 i)
    have e : loop1 i I s (n + 1) = below1 i I ⟨n, hn⟩ (loop1 i I s n) := dif_pos (Nat.lt_of_succ_le hn)
    rw [e]
    refine Sums.step R ih (b := (col i).val + 1 + n) (by omega) (by omega) _ _ (p1_at R ⟨n, hn⟩) (ds1_at R ⟨n, hn⟩) ?_ ?_ ?_ _ rfl ?_
    · intro x e; unfold below1; dsimp only; pointwise [k0_pay5, k0_pay3]; rfl
    · intro x e; unfold below1; dsimp only; pointwise [k0_pay4]; rfl
    · intro x; unfold below1; dsimp only; pointwise [k0_pay6]
    · intro a e; pointwise [k0_pay7, k0_pay3]; rfl

theorem sums_loop3 (h0 : (col i).val ≠ 0) (z : Fin 4224 → Fin 128 → ℝ) (s : St Ideal) (hs : Sums H (col i).val 1 z s) :
    ∀ n, n ≤ (k0_t3_loop i).trips → Sums H (col i).val (n + 1) z (loop3 i I s n)
  | 0, _ => hs
  | n + 1, hn => by
    have ih := sums_loop3 h0 z s hs n (by omega)
    have hk : n < 10 - (col i).val := lt_of_lt_of_eq (Nat.lt_of_succ_le hn) (trips3 i)
    have e : loop3 i I s (n + 1) = below3 i I ⟨n, hn⟩ (loop3 i I s n) := dif_pos (Nat.lt_of_succ_le hn)
    rw [e]
    refine Sums.step R ih (b := (col i).val + 1 + n) (by omega) (by omega) _ _ (p3_at R h0 n (by omega)) (ds3_at R h0 n (by omega)) ?_ ?_ ?_ _ rfl ?_
    · intro x e; unfold below3; dsimp only; pointwise [k0_pay15, k0_pay33]; rfl
    · intro x e; unfold below3; dsimp only; pointwise [k0_pay34]; rfl
    · intro x; unfold below3; dsimp only; pointwise [k0_pay16]
    · intro a e; pointwise [k0_pay17, k0_pay33]; rfl

/-- The whole point. -/
theorem sums_point (z : Fin 4224 → Fin 128 → ℝ) (y : Vec Ideal S4224x128 .f32)
    (hy : ∀ r e, (if (col i).val = 0 then 0 else y (ix2 r e)) = (z r e : EReal)) :
    Sums H (col i).val (11 - (col i).val) z (point i I y) := by
  have hb := (col i).isLt
  unfold point
  by_cases h0 : (col i).val = 0
  · rw [if_pos h0]
    have h := sums_loop1 R z _ (sums_diag R z (k0_pay39 (F := Ideal)) (fun r e => by rw [← hy, if_pos h0]; pointwise [k0_pay39])) _ le_rfl
    have e : (k0_t1_loop i).trips + 1 = 11 - (col i).val := by rw [trips1]; omega
    rw [e] at h
    exact h
  · rw [if_neg h0]
    have h := sums_loop3 R h0 z _ (sums_diag R z y (fun r e => by rw [← hy, if_neg h0])) _ le_rfl
    have e : (k0_t3_loop i).trips + 1 = 11 - (col i).val := by rw [trips3]; omega
    rw [e] at h
    exact h

end

/-- A sum over all rows, block by block. -/
theorem sum_rows (f : Fin 4224 → ℝ) : ∑ r, f r = ∑ b ∈ Finset.range 11, ∑ a, f (row b a) := by
  rw [← Fin.sum_univ_eq_sum_range (fun b => ∑ a, f (row b a)) 11, ← Fintype.sum_prod_type']
  refine (Fintype.sum_equiv (finProdFinEquiv.trans (finCongr (by norm_num))) _ _ fun x => ?_).symm
  refine congrArg f (Fin.ext ?_)
  have h1 := x.1.isLt
  rw [row_val _ _ h1]
  show 384 * x.1.val + x.2.val = x.2.val + 384 * x.1.val
  omega

theorem sum_rows_from (f : Fin 4224 → ℝ) (j : ℕ) (hj : j < 11) (h : ∀ r : Fin 4224, r.val < 384 * j → f r = 0) :
    ∑ b ∈ Finset.range (11 - j), ∑ a, f (row (j + b) a) = ∑ r, f r := by
  rw [sum_rows, ← Finset.sum_range_add_sum_Ico _ (show j ≤ 11 by omega), Finset.sum_Ico_eq_sum_range]
  refine (zero_add _).symm.trans (congrArg (· + _) (Finset.sum_eq_zero ?_).symm)
  intro b hb
  have hb := Finset.mem_range.1 hb
  refine Finset.sum_eq_zero fun a _ => h _ ?_
  rw [row_val _ _ (by omega)]
  have := a.isLt
  omega

theorem row_div (r : Fin 4224) : row (r.val / 384) ⟨r.val % 384, Nat.mod_lt _ (by omega)⟩ = r := by
  have h := r.isLt
  refine Fin.ext ?_
  rw [row_val _ _ (by omega)]
  show 384 * (r.val / 384) + r.val % 384 = r.val
  omega

section
variable {H : Head} {i : grid0.Coords} {I : Ins Ideal} (R : Reads H i I) (y : Vec Ideal S4224x128 .f32)
  (hy : ∀ r e, (if (col i).val = 0 then 0 else y (ix2 r e)) = (H.dqPre (col i).val r e : EReal))
include R hy

theorem point_dk (x : Fin 384) (e : Fin 128) :
    k0_pay21 (point i I y).1.1 (ix2 x e) = (((∑ r, H.ds r (row (col i).val x) * H.q r e) * scl : ℝ) : EReal) := by
  have hb := (col i).isLt
  pointwise [k0_pay21]
  rw [(sums_point R _ y hy).dk, scl_word, EReal.coe_mul,
    sum_rows_from (fun r => H.ds r (row (col i).val x) * H.q r e) _ hb (fun r h => by rw [H.ds_zero _ _ (by rw [row_val _ _ hb]; omega), zero_mul])]

theorem point_dv (x : Fin 384) (e : Fin 128) :
    (point i I y).1.2.1 (ix2 x e) = ((∑ r, H.p r (row (col i).val x) * H.d r e : ℝ) : EReal) := by
  have hb := (col i).isLt
  rw [(sums_point R _ y hy).dv,
    sum_rows_from (fun r => H.p r (row (col i).val x) * H.d r e) _ hb (fun r h => by rw [H.p_zero _ _ (by rw [row_val _ _ hb]; omega), zero_mul])]

theorem point_dc (x : Fin 384) :
    k0_pay22 (point i I y).1.2.2 (ix4 0 0 0 x) = ((0 - ∑ r, H.ds r (row (col i).val x) : ℝ) : EReal) := by
  have hb := (col i).isLt
  pointwise [k0_pay22]
  rw [(sums_point R _ y hy).dc,
    sum_rows_from (fun r => H.ds r (row (col i).val x)) _ hb (fun r h => H.ds_zero _ _ (by rw [row_val _ _ hb]; omega))]

theorem point_dq (r : Fin 4224) (e : Fin 128) :
    (point i I y).2 (ix2 r e) = (H.dqPre ((col i).val + 1) r e : EReal) := by
  have hb := (col i).isLt
  have hr := r.isLt
  have h := (sums_point R _ y hy).dq (r.val / 384) (by omega) ⟨r.val % 384, Nat.mod_lt _ (by omega)⟩ e
  rw [row_div] at h
  rw [h]
  unfold Head.dqPre
  rw [Finset.sum_range_succ]
  split
  · rfl
  · rename_i hn
    have e0 : H.dqC (col i).val r e = 0 := by
      unfold Head.dqC
      rw [Finset.sum_eq_zero, zero_mul]
      intro x _
      rw [H.ds_zero _ _ (by rw [row_val _ _ hb]; omega), zero_mul]
    rw [e0]

end

theorem dqPre_all (H : Head) (r : Fin 4224) (e : Fin 128) : H.dqPre 11 r e = (∑ j, H.ds r j * H.k j e) * scl := by
  unfold Head.dqPre Head.dqC
  rw [← Finset.sum_mul, sum_rows]

end Attn
end
-- ==== Proof.AttnValue.lean ====
/- The attention gradient: the kernel's four results, entry by entry, for arguments that are real numbers. -/
module

public import proofs.«01_k».proof.Proof.AttnReads
public import proofs.«01_k».proof.Proof.Sweep

@[expose] public section
set_option maxRecDepth 1000000
noncomputable section
namespace Attn.Host
open Cert.KernelIdeal Cert.KernelIdeal.Gen Idealize.ShloMosaic Idealize.ShloMosaic.TcCoe Idealize.SL.Sem

variable (m : (ℓ : Loc nD τ sig) → Buf (Elt Ideal) ℓ) (d : Dev nD) {D : Data}
variable (A : Real' D (aq m d) (ak m d) (av m d) (ag m d) (ac m d))

/-- An array whose entry `e` of head `h` in row `r` is `f h r e`. -/
def laid (f : Fin 16 → Fin 4224 → Fin 128 → ℝ) : FVec Ideal S4224x2048 .f32 := fun i =>
  (f ⟨(i 1).val / 128, Nat.div_lt_of_lt_mul (i 1).isLt⟩ (i 0) ⟨(i 1).val % 128, Nat.mod_lt _ (by omega)⟩ : EReal)

theorem laid_at (f : Fin 16 → Fin 4224 → Fin 128 → ℝ) (h : Fin 16) (r : Fin 4224) (e : Fin 128) :
    laid f (ix2 r (hc h e)) = (f h r e : EReal) :=
  congrArg₂ (fun a b => ((f a r b : ℝ) : EReal)) (hc_div h e _) (hc_mod h e _)

/-- An array whose entry of head `h` at `r` is `f h r`, in blocks. -/
def blocks (f : Fin 16 → Fin 4224 → ℝ) : FVec Ideal S16x11x1x384 .f32 := fun i => (f (i 0) (row (i 1).val (i 3)) : EReal)

include A

theorem hy_of (t : Fin cfg0.N)
    (ih : ¬ t.val % 11 = 0 → ∀ r e, dqBefore m d t.val (ix2 r e) = ((D.head (hd t)).dqPre (t.val % 11) r e : EReal)) (r : Fin 4224) (e : Fin 128) :
    (if (col (grid0.coords t)).val = 0 then 0 else dqBefore m d t.val (ix2 r e)) = ((D.head (hd t)).dqPre (col (grid0.coords t)).val r e : EReal) := by
  rw [col_coords]
  by_cases h : t.val % 11 = 0
  · rw [if_pos h, h]; rfl
  · rw [if_neg h]; exact ih h r e

theorem dq_step (t : Fin cfg0.N)
    (ih : ¬ t.val % 11 = 0 → ∀ r e, dqBefore m d t.val (ix2 r e) = ((D.head (hd t)).dqPre (t.val % 11) r e : EReal)) (r : Fin 4224) (e : Fin 128) :
    (left m d t).2 (ix2 r e) = ((D.head (hd t)).dqPre (t.val % 11 + 1) r e : EReal) := by
  have h := point_dq (reads m d t A) (dqBefore m d t.val) (hy_of m d A t ih) r e
  rw [col_coords] at h
  exact h

theorem dq_before : ∀ n (hn : n < cfg0.N), ¬ n % 11 = 0 → ∀ r e,
    dqBefore m d n (ix2 r e) = ((D.head (hd ⟨n, hn⟩)).dqPre (n % 11) r e : EReal) := by
  intro n
  induction n with
  | zero => intro _ h; exact absurd rfl h
  | succ n ih =>
    intro hn h r e
    have hn' : n < cfg0.N := Nat.lt_of_succ_lt hn
    have e1 : (n + 1) % 11 = n % 11 + 1 := by omega
    have e2 : hd ⟨n + 1, hn⟩ = hd ⟨n, hn'⟩ := Fin.ext (show (n + 1) / 11 = n / 11 by omega)
    rw [e1, e2]
    exact (congrFun (dqAt_eq m d ⟨n, hn'⟩) _).trans (dq_step m d A ⟨n, hn'⟩ (ih hn') r e)

theorem hy (t : Fin cfg0.N) (r : Fin 4224) (e : Fin 128) :
    (if (col (grid0.coords t)).val = 0 then 0 else dqBefore m d t.val (ix2 r e)) = ((D.head (hd t)).dqPre (col (grid0.coords t)).val r e : EReal) :=
  hy_of m d A t (dq_before m d A t.val t.isLt) r e

theorem dq_left (t : Fin cfg0.N) (ht : t.val % 11 = 10) (r : Fin 4224) (e : Fin 128) :
    (left m d t).2 (ix2 r e) = (((∑ j, (D.head (hd t)).ds r j * (D.head (hd t)).k j e) * scl : ℝ) : EReal) := by
  rw [← dqPre_all]
  have h := dq_step m d A t (dq_before m d A t.val t.isLt) r e
  rwa [ht] at h

theorem dk_left (t : Fin cfg0.N) (x : Fin 384) (e : Fin 128) : k0_pay21 (left m d t).1.1 (ix2 x e)
    = (((∑ r, (D.head (hd t)).ds r (row (t.val % 11) x) * (D.head (hd t)).q r e) * scl : ℝ) : EReal) := by
  have h := point_dk (reads m d t A) (dqBefore m d t.val) (hy m d A t) x e
  rw [col_coords] at h
  exact h

theorem dv_left (t : Fin cfg0.N) (x : Fin 384) (e : Fin 128) : (left m d t).1.2.1 (ix2 x e)
    = ((∑ r, (D.head (hd t)).p r (row (t.val % 11) x) * (D.head (hd t)).d r e : ℝ) : EReal) := by
  have h := point_dv (reads m d t A) (dqBefore m d t.val) (hy m d A t) x e
  rw [col_coords] at h
  exact h

theorem dc_left (t : Fin cfg0.N) (x : Fin 384) : k0_pay22 (left m d t).1.2.2 (ix4 0 0 0 x)
    = ((0 - ∑ r, (D.head (hd t)).ds r (row (t.val % 11) x) : ℝ) : EReal) := by
  have h := point_dc (reads m d t A) (dqBefore m d t.val) (hy m d A t) x
  rw [col_coords] at h
  exact h

omit A

theorem idx8 : ∀ t : Fin cfg0.N, win0_8.index t = ![0, t.val / 11] := (by decide +kernel : ∀ t : Fin grid0.N, _)
theorem idx9 : ∀ t : Fin cfg0.N, win0_9.index t = ![t.val % 11, t.val / 11] := (by decide +kernel : ∀ t : Fin grid0.N, _)
theorem idx10 : ∀ t : Fin cfg0.N, win0_10.index t = ![t.val % 11, t.val / 11] := (by decide +kernel : ∀ t : Fin grid0.N, _)
theorem idx11 : ∀ t : Fin cfg0.N, win0_11.index t = ![t.val / 11, t.val % 11, 0, 0] := (by decide +kernel : ∀ t : Fin grid0.N, _)

theorem emb8 (t : Fin cfg0.N) (r : Fin 4224) (e : Fin 128) :
    ((View.whole main_v53_0).slice (win0_8.rect t)).emb (ix2 r e) = ix2 r (hc (hd t) e) := by
  refine funext fun k => Fin.ext ?_
  fin_cases k <;> blk_simp [idx8, hc, hd] <;> (try rfl) <;> simp <;> omega

theorem emb9 (t : Fin cfg0.N) (x : Fin 384) (e : Fin 128) :
    ((View.whole main_v53_1).slice (win0_9.rect t)).emb (ix2 x e) = ix2 (row (t.val % 11) x) (hc (hd t) e) := by
  refine funext fun k => Fin.ext ?_
  fin_cases k <;> blk_simp [idx9, hc, hd, row] <;> (try rfl) <;> simp <;> omega

theorem emb10 (t : Fin cfg0.N) (x : Fin 384) (e : Fin 128) :
    ((View.whole main_v53_2).slice (win0_10.rect t)).emb (ix2 x e) = ix2 (row (t.val % 11) x) (hc (hd t) e) := by
  refine funext fun k => Fin.ext ?_
  fin_cases k <;> blk_simp [idx10, hc, hd, row] <;> (try rfl) <;> simp <;> omega

theorem emb11 (t : Fin cfg0.N) (x : Fin 384) :
    ((View.whole main_v53_3).slice (win0_11.rect t)).emb (ix4 0 0 0 x) = ix4 (hd t) ⟨t.val % 11, Nat.mod_lt _ (by omega)⟩ 0 x := by
  refine funext fun k => Fin.ext ?_
  fin_cases k <;> blk_simp [idx11, hd] <;> (try rfl) <;> simp

include A

/-- The gradient of the queries, as the kernel leaves it. -/
theorem final8 : (dats m 0 d).arrAt 8 cfg0.N = laid (fun h r e => (∑ j, (D.head h).ds r j * (D.head h).k j e) * scl) := by
  refine (dats m 0 d).arrAt_eq_of_covers 8 _ (by decide +kernel) fun t hf y => ?_
  blk_simp
  rw [after0_8]
  obtain ⟨r, e, rfl⟩ : ∃ (r : Fin 4224) (e : Fin 128), y = ix2 r e := ⟨y 0, y 1, eq_ix2 y⟩
  rw [emb8, laid_at]
  exact dq_left m d A t ((flush0_8 t).mp hf) r e

/-- The gradient of the keys, as the kernel leaves it. -/
theorem final9 : (dats m 0 d).arrAt 9 cfg0.N = laid (fun h j e => (∑ r, (D.head h).ds r j * (D.head h).q r e) * scl) := by
  refine (dats m 0 d).arrAt_eq_of_covers 9 _ (by decide +kernel) fun t hf y => ?_
  blk_simp
  rw [after0_9]
  obtain ⟨r, e, rfl⟩ : ∃ (r : Fin 384) (e : Fin 128), y = ix2 r e := ⟨y 0, y 1, eq_ix2 y⟩
  rw [emb9, laid_at]
  exact dk_left m d A t r e

/-- The gradient of the values, as the kernel leaves it. -/
theorem final10 : (dats m 0 d).arrAt 10 cfg0.N = laid (fun h j e => ∑ r, (D.head h).p r j * (D.head h).d r e) := by
  refine (dats m 0 d).arrAt_eq_of_covers 10 _ (by decide +kernel) fun t hf y => ?_
  blk_simp
  rw [after0_10]
  obtain ⟨r, e, rfl⟩ : ∃ (r : Fin 384) (e : Fin 128), y = ix2 r e := ⟨y 0, y 1, eq_ix2 y⟩
  rw [emb10, laid_at]
  exact dv_left m d A t r e

/-- The gradient of the bias, as the kernel leaves it. -/
theorem final11 : (dats m 0 d).arrAt 11 cfg0.N = blocks (fun h j => 0 - ∑ r, (D.head h).ds r j) := by
  refine (dats m 0 d).arrAt_eq_of_covers 11 _ (by decide +kernel) fun t hf y => ?_
  blk_simp
  rw [after0_11]
  obtain ⟨a, b, c, x, rfl⟩ : ∃ (a : Fin 1) (b : Fin 1) (c : Fin 1) (x : Fin 384), y = ix4 a b c x := ⟨y 0, y 1, y 2, y 3, eq_ix4 y⟩
  obtain rfl : a = 0 := Subsingleton.elim _ _
  obtain rfl : b = 0 := Subsingleton.elim _ _
  obtain rfl : c = 0 := Subsingleton.elim _ _
  rw [emb11]
  exact dc_left m d A t x

end Attn.Host
end
-- ==== Proof.Attn.lean ====
/- The attention gradient: the kernel's results are the reference's. -/
module

public import proofs.«01_k».proof.Defs
public import proofs.«01_k».proof.Proof.AttnFinite
public import proofs.«01_k».proof.Proof.AttnValue
public import proofs.«01_k».proof.Proof.Run
public import proofs.«01_k».proof.Proof.Gen.ReferenceIdeal.Run

@[expose] public section

set_option maxRecDepth 100000

noncomputable section

namespace Cert.Proof.Attn

open Idealize.ShloMosaic Idealize.ShloMosaic.TcCoe Idealize.SL.Sem
open _root_.Attn
open _root_.Attn.Host (laid laid_at blocks)

theorem col_eq (x : Fin 2048) : ∃ (h : Fin 16) (e : Fin 128), x = hc h e :=
  ⟨⟨x.val / 128, by have := x.isLt; omega⟩, ⟨x.val % 128, by omega⟩, Fin.ext (by show x.val = 128 * (x.val / 128) + x.val % 128; omega)⟩

/-- Two arrays of head columns are equal when they agree at every head, row and column of the head. -/
theorem eq_laid (f : Fin 16 → Fin 4224 → Fin 128 → ℝ) (a : FVec Ideal Cert.ReferenceIdeal.S4224x2048 .f32)
    (H : ∀ h r e, a (ix2 r (hc h e)) = (f h r e : EReal)) : a = laid f := by
  funext i
  obtain ⟨r, x, rfl⟩ : ∃ (r : Fin 4224) (x : Fin 2048), i = ix2 r x := ⟨i 0, i 1, eq_ix2 i⟩
  obtain ⟨h, e, rfl⟩ := col_eq x
  exact (H h r e).trans (laid_at f h r e).symm

theorem eq_blocks (f : Fin 16 → Fin 4224 → ℝ) (a : FVec Ideal Cert.ReferenceIdeal.S16x11x1x384 .f32)
    (H : ∀ h x y, a (ix4 h x 0 y) = (f h (row x.val y) : EReal)) : a = blocks f := by
  funext i
  obtain ⟨h, x, z, y, rfl⟩ : ∃ (h : Fin 16) (x : Fin 11) (z : Fin 1) (y : Fin 384), i = ix4 h x z y := ⟨i 0, i 1, i 2, i 3, eq_ix4 i⟩
  obtain rfl : z = 0 := Subsingleton.elim _ _
  exact H h x y

section reference
open Cert.ReferenceIdeal
variable (m' : (ℓ : Loc nD τ sig) → Buf (Elt Ideal) ℓ) (c : Dev nD) {D : Data} {q k v g : FVec Ideal S4224x2048 .bf16} {b : FVec Ideal S16x4224 .f32}
variable (A : Real' D q k v g b) (hq : Ref.aq m' c = q) (hk : Ref.ak m' c = k) (hv : Ref.av m' c = v) (hb : Ref.ac m' c = b) (hg : Ref.ag m' c = g)
include A hq hk hv hb hg

theorem ref0 : Value.res_main_v98 m' c = laid (fun h r e => (∑ j, (D.head h).ds r j * (D.head h).k j e) * scl) := by
  rw [Ref.res0, hq, hk, hv, hb, hg]
  exact eq_laid _ _ fun h r e => Ref.dq_at A h r e

theorem ref1 : Value.res_main_v99 m' c = laid (fun h j e => (∑ r, (D.head h).ds r j * (D.head h).q r e) * scl) := by
  rw [Ref.res1, hq, hk, hv, hb, hg]
  exact eq_laid _ _ fun h j e => Ref.dk_at A h j e

theorem ref2 : Value.res_main_v100 m' c = laid (fun h j e => ∑ r, (D.head h).p r j * (D.head h).d r e) := by
  rw [Ref.res2, hq, hk, hb, hg]
  exact eq_laid _ _ fun h j e => Ref.dv_at A h j e

theorem ref3 : Value.res_main_v101 m' c = blocks (fun h j => 0 - ∑ r, (D.head h).ds r j) := by
  rw [Ref.res3, hq, hk, hv, hb, hg]
  exact eq_blocks _ _ fun h x y => Ref.dc_at A h x y

end reference

set_option maxHeartbeats 4000000 in
open Cert.KernelIdeal Cert.KernelIdeal.Gen in
/-- The kernel's run: its four results and its unchanged arguments. -/
theorem run_kernel (m : (ℓ : Loc nD τ sig) → Buf (Elt Ideal) ℓ) (ρ : Dev nD → PrngReg) (D : Dev nD → Data)
    (A : ∀ d, Real' (D d) (Host.aq m d) (Host.ak m d) (Host.av m d) (Host.ag m d) (Host.ac m d)) :
    θ_run (defs (F := Ideal)) (onTc (τ := τ) (main (F := Ideal))) ⟨m, fun _ => 0, ρ⟩ (fun r => ∀ c : Dev nD,
      r.2.mem ((c.tc : Thread nD τ).loc main_v53_0) = laid (fun h r e => (∑ j, ((D c).head h).ds r j * ((D c).head h).k j e) * scl)
      ∧ r.2.mem ((c.tc : Thread nD τ).loc main_v53_1) = laid (fun h j e => (∑ r, ((D c).head h).ds r j * ((D c).head h).q r e) * scl)
      ∧ r.2.mem ((c.tc : Thread nD τ).loc main_v53_2) = laid (fun h j e => ∑ r, ((D c).head h).p r j * ((D c).head h).d r e)
      ∧ r.2.mem ((c.tc : Thread nD τ).loc main_v53_3) = blocks (fun h j => 0 - ∑ r, ((D c).head h).ds r j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 8).trans (Host.final8 m c (A c)), ((h c).1 9).trans (Host.final9 m c (A c)),
      ((h c).1 10).trans (Host.final10 m c (A c)), ((h c).1 11).trans (Host.final11 m c (A c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c)))⟩) (run_main m ρ)

theorem value : Cert.algebraic_KernelIdeal_ReferenceIdeal_pre_finite (hKernelIdeal := Cert.KernelIdeal.Gen.facts)
    (hReferenceIdeal := Cert.ReferenceIdeal.Gen.facts) (hPre_finite := Finite.facts) := by
  intro m g m' g' hpre hagree
  have A := fun c => @Finite.real Finite.facts _ _ _ _ _ (hpre c)
  refine ⟨_, _, _, _, run_kernel m g _ A, (θ_run Cert.ReferenceIdeal.defs _ _).mono (fun r h c => ?_) (Cert.ReferenceIdeal.Value.run m' g')⟩
  obtain ⟨a0, a1, a2, a3, a4⟩ := hagree c
  exact ⟨(h c).1.trans (ref0 m' c (A c) a0 a1 a2 a3 a4), (h c).2.1.trans (ref1 m' c (A c) a0 a1 a2 a3 a4),
    (h c).2.2.1.trans (ref2 m' c (A c) a0 a1 a2 a3 a4), (h c).2.2.2.1.trans (ref3 m' c (A c) a0 a1 a2 a3 a4), (h c).2.2.2.2⟩

end Cert.Proof.Attn

end
-- ==== Proof.Tiles.lean ====
/- Sums of products taken a tile at a time. -/
module

public import Idealize.ShloMosaic.Lib.Pipeline.ValueKit
public import Idealize.ShloMosaic.Lib.Pointwise

@[expose] public section

noncomputable section

namespace Tiles

/-- Place `x` of tile `n`, of tiles of `w` places. -/
def at' (K w : ℕ) (hK : 0 < K) (n : ℕ) (x : Fin w) : Fin K := ⟨(n * w + x.val) % K, Nat.mod_lt _ hK⟩

theorem at_val {K w : ℕ} (hK : 0 < K) (d : ℕ) (hd : d * w = K) (n : ℕ) (hn : n < d) (x : Fin w) : (at' K w hK n x).val = n * w + x.val := by
  have h : n * w + w ≤ d * w := by rw [← Nat.succ_mul]; exact Nat.mul_le_mul_right _ hn
  exact Nat.mod_eq_of_lt (by have := x.isLt; omega)

theorem dot_congr {n : ℕ} {f f' g g' : Fin n → EReal} (h : ∀ k, f k = f' k) (h' : ∀ k, g k = g' k) : ∑ k, f k * g k = ∑ k, f' k * g' k :=
  Finset.sum_congr rfl fun k _ => congrArg₂ (· * ·) (h k) (h' k)

theorem dot_swap {n : ℕ} {f f' g g' : Fin n → EReal} (h : ∀ k, f k = f' k) (h' : ∀ k, g k = g' k) : ∑ k, g k * f k = ∑ k, f' k * g' k :=
  Finset.sum_congr rfl fun k _ => (mul_comm _ _).trans (congrArg₂ (· * ·) (h k) (h' k))

/-- A sum in two parts. -/
theorem sum_two {K p : ℕ} (h : p + p = K) (f : Fin K → EReal) :
    (∑ x : Fin p, f ⟨x.val, by have := x.isLt; omega⟩) + ∑ x : Fin p, f ⟨p + x.val, by have := x.isLt; omega⟩ = ∑ k, f k := by
  subst h
  exact (Fin.sum_univ_add f).symm

/-- A sum in three parts. -/
theorem sum_three {K p : ℕ} (h : p + p + p = K) (f : Fin K → EReal) :
    (∑ x : Fin p, f ⟨x.val, by have := x.isLt; omega⟩) + (∑ x : Fin p, f ⟨p + x.val, by have := x.isLt; omega⟩)
      + ∑ x : Fin p, f ⟨p + p + x.val, by have := x.isLt; omega⟩ = ∑ k, f k := by
  subst h
  rw [Fin.sum_univ_add f, Fin.sum_univ_add]
  rfl

/-- The tiles cover the places. -/
theorem sum_tiles {K w : ℕ} (hK : 0 < K) (d : ℕ) (hd : d * w = K) (g : Fin K → EReal) :
    ∑ n ∈ Finset.range d, ∑ x : Fin w, g (at' K w hK n x) = ∑ k, g k := by
  subst hd
  rw [Finset.sum_range, ← Fintype.sum_prod_type', ← Equiv.sum_comp finProdFinEquiv]
  refine Finset.sum_congr rfl fun p _ => congrArg g (Fin.ext ?_)
  rw [at_val hK d rfl p.1.val p.1.isLt p.2]
  show p.1.val * w + p.2.val = p.2.val + w * p.1.val
  rw [Nat.mul_comm, Nat.add_comm]

end Tiles

end
-- ==== Proof.DownDx.lean ====
/- The gradient of the feed-forward's second product in its first factor: frames, and the kernel's result. -/
module

public import proofs.«01_k».proof.Defs
public import proofs.«01_k».proof.Proof.Gen.DownDxKernel.Frame
public import proofs.«01_k».proof.Proof.Gen.DownDxKernelIdeal.Value
public import proofs.«01_k».proof.Proof.Gen.DownDxReferenceIdeal.Run
public import proofs.«01_k».proof.Proof.Tiles

@[expose] public section

set_option maxRecDepth 1000000

noncomputable section

namespace Cert.Proof.DownDx

open Idealize.ShloMosaic Idealize.ShloMosaic.TcCoe Idealize.SL.Sem

/-- The cotangent's rows against the weight's rows. -/
def result (w : FVec Ideal Cert.DownDxKernelIdeal.S5632x2048 .bf16) (g : FVec Ideal Cert.DownDxKernelIdeal.S4224x2048 .bf16) :
    FVec Ideal Cert.DownDxKernelIdeal.S4224x5632 .bf16 := fun i => ∑ k : Fin 2048, g (ix2 (i 0) k) * w (ix2 (i 1) k)

section kernel
open Cert.DownDxKernelIdeal Cert.DownDxKernelIdeal.Gen
variable (m : (ℓ : Loc nD τ sig) → Buf (Elt Ideal) ℓ) (c : Dev nD)

theorem idx0 : ∀ t : Fin cfg0.N, win0_0.index t = ![t.val / 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, t.val % 4] := (by decide +kernel : ∀ t : Fin grid0.N, _)

/-- Row `a` and column `b` of the result's block `t`. -/
def rowOf (t : Fin cfg0.N) (a : Fin 1056) : Fin 4224 := ⟨t.val / 4 * 1056 + a.val, by have : t.val < 16 := t.isLt; omega⟩
def colOf (t : Fin cfg0.N) (b : Fin 1408) : Fin 5632 := ⟨t.val % 4 * 1408 + b.val, by omega⟩

theorem blk0 (t : Fin cfg0.N) (a : Fin 1056) (k : Fin 2048) :
    iblk m c 0 t (ix2 a k) = m ((c.tc : Thread nD τ).loc main_arg1) (ix2 (rowOf t a) k) := by
  blk_simp [iblk]
  rw [V_main_arg1]
  refine congrArg _ (funext fun k => Fin.ext ?_)
  fin_cases k <;> blk_simp [idx0] <;> rfl

theorem blk1 (t : Fin cfg0.N) (b : Fin 1408) (k : Fin 2048) :
    iblk m c 1 t (ix2 b k) = m ((c.tc : Thread nD τ).loc main_arg0) (ix2 (colOf t b) k) := by
  blk_simp [iblk]
  rw [V_main_arg0]
  refine congrArg _ (funext fun k => Fin.ext ?_)
  fin_cases k <;> blk_simp [idx1] <;> rfl

theorem emb2 (t : Fin cfg0.N) (a : Fin 1056) (b : Fin 1408) :
    ((View.whole main_v0).slice (win0_2.rect t)).emb (ix2 a b) = ix2 (rowOf t a) (colOf t b) := by
  refine funext fun k => Fin.ext ?_
  fin_cases k <;> blk_simp [idx2] <;> rfl

theorem pay (x0 : Vec Ideal S1056x2048 .bf16) (x1 : Vec Ideal S1408x2048 .bf16) (a : Fin 1056) (b : Fin 1408) :
    k0_pay1 x0 x1 (ix2 a b) = ∑ k : Fin 2048, x0 (ix2 a k) * x1 (ix2 b k) := by
  pointwise [k0_pay1]

theorem final : (dats m 0 c).arrAt 2 cfg0.N
    = result (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨a, b, rfl⟩ : ∃ (a : Fin 1056) (b : Fin 1408), y = ix2 a b := ⟨y 0, y 1, eq_ix2 y⟩
  rw [emb2, pay]
  exact Tiles.dot_congr (fun k => blk0 m c t a k) (fun k => blk1 m c t b k)

end kernel

theorem frame_kernel : Cert.quiescent_DownDxKernel (hDownDxKernel := Cert.DownDxKernel.Gen.facts) :=
  fun m ρ _ => Cert.DownDxKernel.Gen.frame m ρ

theorem frame_ideal : Cert.quiescent_DownDxKernelIdeal (hDownDxKernelIdeal := Cert.DownDxKernelIdeal.Gen.facts) :=
  fun m ρ _ => Cert.DownDxKernelIdeal.Gen.frame m ρ

theorem frame_reference : Cert.quiescent_DownDxReferenceIdeal (hDownDxReferenceIdeal := Cert.DownDxReferenceIdeal.Gen.facts) :=
  fun m ρ _ => (θ_run Cert.DownDxReferenceIdeal.defs _ _).mono
    (fun r h => ⟨fun c => (h c).2, sem_eq_zero_of_no_sems (by decide) r.2⟩) (Cert.DownDxReferenceIdeal.Value.run m ρ)

section reference
open Cert.DownDxReferenceIdeal Cert.DownDxReferenceIdeal.Gen

theorem ref_at (w : FVec Ideal S5632x2048 .bf16) (g : FVec Ideal S4224x2048 .bf16) :
    (truncf .bf16 (Host.dotGeneral dot_S4224x2048_S5632x2048_S4224x5632_1_1_0_0_n_n none (extf .f32 g bitsLt_bf16_f32)
      (extf .f32 w bitsLt_bf16_f32)) bitsLt_bf16_f32 : FVec Ideal S4224x5632 .bf16) = result w g := by
  funext i
  obtain ⟨a, b, rfl⟩ : ∃ (a : Fin 4224) (b : Fin 5632), i = ix2 a b := ⟨i 0, i 1, eq_ix2 i⟩
  pointwise []
  rfl

end reference

theorem value : Cert.algebraic_DownDxKernelIdeal_DownDxReferenceIdeal (hDownDxKernelIdeal := Cert.DownDxKernelIdeal.Gen.facts)
    (hDownDxReferenceIdeal := Cert.DownDxReferenceIdeal.Gen.facts) := by
  intro m g m' g' _ hagree
  refine ⟨_, (θ_run Cert.DownDxKernelIdeal.defs _ _).mono
      (fun r h c => ⟨(h c).1.trans (final m c), (h c).2⟩) (Cert.DownDxKernelIdeal.Value.run_blocks m g),
    (θ_run Cert.DownDxReferenceIdeal.defs _ _).mono (fun r h c => ⟨(h c).1.trans ?_, (h c).2⟩) (Cert.DownDxReferenceIdeal.Value.run m' g')⟩
  rw [(hagree c).1, (hagree c).2]
  exact ref_at _ _

end Cert.Proof.DownDx

end
-- ==== Proof.DownDw.lean ====
/- The gradient of the feed-forward's second product in its weight. Frames, and the kernel's result. -/
module

public import proofs.«01_k».proof.Defs
public import proofs.«01_k».proof.Proof.Gen.DownDwKernel.Frame
public import proofs.«01_k».proof.Proof.Gen.DownDwKernelIdeal.Value
public import proofs.«01_k».proof.Proof.Gen.DownDwReferenceIdeal.Run
public import proofs.«01_k».proof.Proof.Tiles

@[expose] public section

set_option maxRecDepth 1000000

noncomputable section

namespace Cert.Proof.DownDw

open Idealize.ShloMosaic Idealize.ShloMosaic.TcCoe Idealize.SL.Sem

/-- The entries of the two factors. -/
abbrev A (x : FVec Ideal Cert.DownDwKernelIdeal.S4224x5632 .bf16) (r : Fin 5632) (k : Fin 4224) : EReal := x (ix2 k r)
abbrev B (y : FVec Ideal Cert.DownDwKernelIdeal.S4224x2048 .bf16) (k : Fin 4224) (q : Fin 2048) : EReal := y (ix2 k q)

/-- The product. -/
def result (x : FVec Ideal Cert.DownDwKernelIdeal.S4224x5632 .bf16) (y : FVec Ideal Cert.DownDwKernelIdeal.S4224x2048 .bf16) : FVec Ideal Cert.DownDwKernelIdeal.S5632x2048 .bf16 :=
  fun i => ∑ k : Fin 4224, A x (i 0) k * B y k (i 1)

section kernel
open Cert.DownDwKernelIdeal Cert.DownDwKernelIdeal.Gen
variable (m : (ℓ : Loc nD τ sig) → Buf (Elt Ideal) ℓ) (c : Dev nD)

theorem idx0 : ∀ t : Fin cfg0.N, win0_0.index t = ![t.val / 6, t.val % 3] := (by decide +kernel : ∀ t : Fin grid0.N, _)
theorem idx1 : ∀ t : Fin cfg0.N, win0_1.index t = ![t.val % 3, t.val / 3 % 2] := (by decide +kernel : ∀ t : Fin grid0.N, _)
theorem idxo : ∀ t : Fin cfg0.N, win0_2.index t = ![t.val / 6, t.val / 3 % 2] := (by decide +kernel : ∀ t : Fin grid0.N, _)

/-- The row, the column and the inner place of the blocks of point `t`. -/
def rowOf (n : ℕ) (a : Fin 704) : Fin 5632 := Tiles.at' 5632 704 (by omega) (n / 6) a
def colOf (n : ℕ) (b : Fin 1024) : Fin 2048 := Tiles.at' 2048 1024 (by omega) (n / 3 % 2) b
def inOf (j : ℕ) (x : Fin 1408) : Fin 4224 := Tiles.at' 4224 1408 (by omega) j x

theorem row_val (t : Fin cfg0.N) (a : Fin 704) : (rowOf t.val a).val = t.val / 6 * 704 + a.val := by
  have : t.val < 48 := t.isLt
  rw [rowOf, Tiles.at_val (w := 704) (by omega) 8 rfl _ (by omega)]
theorem col_val (t : Fin cfg0.N) (b : Fin 1024) : (colOf t.val b).val = t.val / 3 % 2 * 1024 + b.val := by
  rw [colOf, Tiles.at_val (w := 1024) (by omega) 2 rfl _ (by omega)]
theorem in_val (t : Fin cfg0.N) (x : Fin 1408) : (inOf (t.val % 3) x).val = t.val % 3 * 1408 + x.val := by
  rw [inOf, Tiles.at_val (w := 1408) (by omega) 3 rfl _ (by omega)]

theorem V_a : V m c main_v0 = transpose S5632x4224 [1, 0] (m ((c.tc : Thread nD τ).loc main_arg0)) transposes_S4224x5632_S5632x4224_1_0 := by
  simp only [V, hostOps0]
  after_results_simp <;> rfl

theorem blk0 (t : Fin cfg0.N) (a : Fin 704) (k : Fin 1408) :
    iblk m c 0 t (ix2 a k) = A (m ((c.tc : Thread nD τ).loc main_arg0)) (rowOf t.val a) (inOf (t.val % 3) k) := by
  have h1 := row_val t a
  have h2 := in_val t k
  blk_simp [iblk]
  rw [V_a]
  refine (congrArg _ (?_ : _ = ix2 (rowOf t.val a) (inOf (t.val % 3) k))).trans (by pointwise [])
  refine funext fun j => Fin.ext ?_
  fin_cases j <;> blk_simp [idx0]
  · exact h1.symm
  · exact h2.symm

theorem blk1 (t : Fin cfg0.N) (b : Fin 1024) (k : Fin 1408) :
    iblk m c 1 t (ix2 k b) = B (m ((c.tc : Thread nD τ).loc main_arg1)) (inOf (t.val % 3) k) (colOf t.val b) := by
  have h1 := col_val t b
  have h2 := in_val t k
  blk_simp [iblk]
  rw [V_main_arg1]
  refine congrArg _ (funext fun j => Fin.ext ?_)
  fin_cases j <;> blk_simp [idx1]
  · exact h2.symm
  · exact h1.symm

theorem embo (t : Fin cfg0.N) (a : Fin 704) (b : Fin 1024) :
    ((View.whole main_v1).slice (win0_2.rect t)).emb (ix2 a b) = ix2 (rowOf t.val a) (colOf t.val b) := by
  have h1 := row_val t a
  have h2 := col_val t b
  refine funext fun j => Fin.ext ?_
  fin_cases j <;> blk_simp [idxo]
  · exact h1.symm
  · exact h2.symm

theorem pay1 (x0 : Vec Ideal S704x1408 .bf16) (x1 : Vec Ideal S1408x1024 .bf16) (a : Fin 704) (b : Fin 1024) :
    k0_pay1 x0 x1 (ix2 a b) = ∑ k : Fin 1408, x0 (ix2 a k) * x1 (ix2 k b) := by
  pointwise [k0_pay1]

theorem pay2 (x0 : Vec Ideal S704x1408 .bf16) (x1 : Vec Ideal S1408x1024 .bf16) (a : Fin 704) (b : Fin 1024) :
    k0_pay2 x0 x1 (ix2 a b) = ∑ k : Fin 1408, x0 (ix2 a k) * x1 (ix2 k b) := by
  rw [← pay1]; pointwise [k0_pay2]

theorem pay3 (x0 : Vec Ideal S704x1408 .bf16) (x1 : Vec Ideal S1408x1024 .bf16) (s : Vec Ideal S704x1024 .f32) (a : Fin 704) (b : Fin 1024) :
    k0_pay3 x0 x1 s (ix2 a b) = s (ix2 a b) + ∑ k : Fin 1408, x0 (ix2 a k) * x1 (ix2 k b) := by
  rw [← pay1]; pointwise [k0_pay3]

/-- Tile `j` of the sum. -/
def part (n : ℕ) (a : Fin 704) (b : Fin 1024) (j : ℕ) : EReal :=
  ∑ k : Fin 1408, A (m ((c.tc : Thread nD τ).loc main_arg0)) (rowOf n a) (inOf j k) * B (m ((c.tc : Thread nD τ).loc main_arg1)) (inOf j k) (colOf n b)

theorem dot_blk (t : Fin cfg0.N) (a : Fin 704) (b : Fin 1024) (x0 : Vec Ideal S704x1408 .bf16) (x1 : Vec Ideal S1408x1024 .bf16)
    (h0 : x0 = iblk m c 0 t) (h1 : x1 = iblk m c 1 t) :
    ∑ k : Fin 1408, x0 (ix2 a k) * x1 (ix2 k b) = part m c t.val a b (t.val % 3) := by
  subst h0 h1
  exact Tiles.dot_congr (fun k => blk0 m c t a k) (fun k => blk1 m c t b k)

/-- What the accumulator holds after point `n`: the tiles so far. -/
theorem acc (n : ℕ) : ∀ (hn : n < cfg0.N) (a : Fin 704) (b : Fin 1024),
    (outsAt0 m c n hn).2 (ix2 a b) = ∑ j ∈ Finset.range (n % 3 + 1), part m c n a b j := by
  induction n using Nat.strong_induction_on with
  | _ n ih =>
  intro hn a b
  have hN : n < 48 := hn
  by_cases h0 : n % 3 = 0
  · rw [outsAt0_A m c ⟨n, hn⟩ h0 (by show ¬1 ≤ n % 3; omega) (by show ¬n % 3 = 2; omega)]
    dsimp only
    frame_out
    rw [h0, zero_add, Finset.sum_range_one]
    exact (pay2 _ _ a b).trans ((dot_blk m c ⟨n, hn⟩ a b _ _ rfl rfl).trans (by rw [show (⟨n, hn⟩ : Fin cfg0.N).val = n from rfl, h0]))
  · have e1 : rowOf (n - 1) a = rowOf n a := congrArg (fun z => Tiles.at' 5632 704 _ z a) (show (n - 1) / 6 = n / 6 by omega)
    have e2 : colOf (n - 1) b = colOf n b := congrArg (fun z => Tiles.at' 2048 1024 _ z b) (show (n - 1) / 3 % 2 = n / 3 % 2 by omega)
    have e3 : (n - 1) % 3 + 1 = n % 3 := by omega
    have ih' := ih (n - 1) (by omega) (by omega) a b
    rw [e3] at ih'
    have e4 : ∀ j, part m c (n - 1) a b j = part m c n a b j := fun j => by unfold part; rw [e1, e2]
    simp only [e4] at ih'
    rw [Finset.sum_range_succ, ← ih', ← dot_blk m c ⟨n, hn⟩ a b _ _ rfl rfl]
    by_cases h2 : n % 3 = 2
    · rw [outsAt0_C m c ⟨n, hn⟩ h0 (by show 1 ≤ n % 3; omega) h2]
      dsimp only
      frame_out
      exact (pay3 _ _ _ a b).trans (congrArg (· + _) (congrFun ((Memref.isWhole_whole cc0_scratch0).read_unread _) _))
    · rw [outsAt0_B m c ⟨n, hn⟩ h0 (by show 1 ≤ n % 3; omega) h2]
      dsimp only
      frame_out
      exact (pay3 _ _ _ a b).trans (congrArg (· + _) (congrFun ((Memref.isWhole_whole cc0_scratch0).read_unread _) _))

/-- What the last point of a sum stores. -/
theorem last (t : Fin cfg0.N) (h2 : t.val % 3 = 2) (a : Fin 704) (b : Fin 1024) :
    (outsAt0 m c t.val t.isLt).1 (ix2 a b) = ∑ k : Fin 4224, A (m ((c.tc : Thread nD τ).loc main_arg0)) (rowOf t.val a) k * B (m ((c.tc : Thread nD τ).loc main_arg1)) k (colOf t.val b) := by
  have h := acc m c t.val t.isLt a b
  rw [h2] at h
  rw [← Tiles.sum_tiles (w := 1408) (by omega) 3 rfl (fun k => A (m ((c.tc : Thread nD τ).loc main_arg0)) (rowOf t.val a) k * B (m ((c.tc : Thread nD τ).loc main_arg1)) k (colOf t.val b))]
  refine Eq.trans ?_ h
  rw [outsAt0_C m c t (by omega) (by omega) h2]
  dsimp only
  frame_out

  pointwise [k0_pay4]
  try rfl

theorem final : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  blk_simp
  rw [after0_2]
  have h2 : t.val % 3 = 2 := by
    have := (by decide +kernel : ∀ t : Fin grid0.N, (cfg0.win 2).flush t = true → t.val % 3 = 2) t hf
    exact this
  obtain ⟨a, b, rfl⟩ : ∃ (a : Fin 704) (b : Fin 1024), y = ix2 a b := ⟨y 0, y 1, eq_ix2 y⟩
  rw [embo]
  exact last m c t h2 a b

end kernel

theorem frame_kernel : Cert.quiescent_DownDwKernel (hDownDwKernel := Cert.DownDwKernel.Gen.facts) :=
  fun m ρ _ => Cert.DownDwKernel.Gen.frame m ρ

theorem frame_ideal : Cert.quiescent_DownDwKernelIdeal (hDownDwKernelIdeal := Cert.DownDwKernelIdeal.Gen.facts) :=
  fun m ρ _ => Cert.DownDwKernelIdeal.Gen.frame m ρ

theorem frame_reference : Cert.quiescent_DownDwReferenceIdeal (hDownDwReferenceIdeal := Cert.DownDwReferenceIdeal.Gen.facts) :=
  fun m ρ _ => (θ_run Cert.DownDwReferenceIdeal.defs _ _).mono
    (fun r h => ⟨fun c => (h c).2, sem_eq_zero_of_no_sems (by decide) r.2⟩) (Cert.DownDwReferenceIdeal.Value.run m ρ)

theorem value : Cert.algebraic_DownDwKernelIdeal_DownDwReferenceIdeal (hDownDwKernelIdeal := Cert.DownDwKernelIdeal.Gen.facts)
    (hDownDwReferenceIdeal := Cert.DownDwReferenceIdeal.Gen.facts) := by
  intro m g m' g' _ hagree
  refine ⟨_, (θ_run Cert.DownDwKernelIdeal.defs _ _).mono
      (fun r h c => ⟨(h c).1.trans (final m c), (h c).2⟩) (Cert.DownDwKernelIdeal.Value.run_blocks m g),
    (θ_run Cert.DownDwReferenceIdeal.defs _ _).mono (fun r h c => ⟨(h c).1.trans ?_, (h c).2⟩) (Cert.DownDwReferenceIdeal.Value.run m' g')⟩
  rw [(hagree c).1, (hagree c).2]
  funext i
  obtain ⟨a, b, rfl⟩ : ∃ (a : Fin 5632) (b : Fin 2048), i = ix2 a b := ⟨i 0, i 1, eq_ix2 i⟩
  pointwise []
  exact Finset.sum_congr rfl fun k _ => mul_comm _ _

end Cert.Proof.DownDw

end
-- ==== Proof.GuDx.lean ====
/- The gradient of the feed-forward's first product in its first factor. Frames, and the kernel's result. -/
module

public import proofs.«01_k».proof.Defs
public import proofs.«01_k».proof.Proof.Gen.GuDxKernel.Frame
public import proofs.«01_k».proof.Proof.Gen.GuDxKernelIdeal.Value
public import proofs.«01_k».proof.Proof.Gen.GuDxReferenceIdeal.Run
public import proofs.«01_k».proof.Proof.Tiles

@[expose] public section

set_option maxRecDepth 1000000

noncomputable section

namespace Cert.Proof.GuDx

open Idealize.ShloMosaic Idealize.ShloMosaic.TcCoe Idealize.SL.Sem

/-- The entries of the two factors. -/
abbrev A (x : FVec Ideal Cert.GuDxKernelIdeal.S2x4224x5632 .bf16) (r : Fin 4224) (k : Fin 11264) : EReal := x (ix3 ⟨k.val / 5632, by have := k.isLt; omega⟩ r ⟨k.val % 5632, by omega⟩)
abbrev B (y : FVec Ideal Cert.GuDxKernelIdeal.S2048x11264 .bf16) (k : Fin 11264) (q : Fin 2048) : EReal := y (ix2 q k)

theorem A_part (x : FVec Ideal Cert.GuDxKernelIdeal.S2x4224x5632 .bf16) (r : Fin 4224) (p : Fin 2) (q : Fin 5632) (k : Fin 11264) (h : k.val = p.val * 5632 + q.val) :
    x (ix3 p r q) = A x r k := by
  have hq := q.isLt
  exact congrArg₂ (fun u v => x (ix3 u r v)) (Fin.ext (by show p.val = k.val / 5632; omega)) (Fin.ext (by show q.val = k.val % 5632; omega))

/-- The product. -/
def result (y : FVec Ideal Cert.GuDxKernelIdeal.S2048x11264 .bf16) (x : FVec Ideal Cert.GuDxKernelIdeal.S2x4224x5632 .bf16) : FVec Ideal Cert.GuDxKernelIdeal.S4224x2048 .f32 :=
  fun i => ∑ k : Fin 11264, A x (i 0) k * B y k (i 1)

section kernel
open Cert.GuDxKernelIdeal Cert.GuDxKernelIdeal.Gen
variable (m : (ℓ : Loc nD τ sig) → Buf (Elt Ideal) ℓ) (c : Dev nD)

theorem idx0 : ∀ t : Fin cfg0.N, win0_0.index t = ![(t.val % 8) / 4, t.val / 16, (t.val % 8) % 4] := (by decide +kernel : ∀ t : Fin grid0.N, _)
theorem idx1 : ∀ t : Fin cfg0.N, win0_1.index t = ![t.val / 8 % 2, t.val % 8] := (by decide +kernel : ∀ t : Fin grid0.N, _)
theorem idxo : ∀ t : Fin cfg0.N, win0_2.index t = ![t.val / 16, t.val / 8 % 2] := (by decide +kernel : ∀ t : Fin grid0.N, _)

/-- The row, the column and the inner place of the blocks of point `t`. -/
def rowOf (n : ℕ) (a : Fin 1056) : Fin 4224 := Tiles.at' 4224 1056 (by omega) (n / 16) a
def colOf (n : ℕ) (b : Fin 1024) : Fin 2048 := Tiles.at' 2048 1024 (by omega) (n / 8 % 2) b
def inOf (j : ℕ) (x : Fin 1408) : Fin 11264 := Tiles.at' 11264 1408 (by omega) j x

theorem row_val (t : Fin cfg0.N) (a : Fin 1056) : (rowOf t.val a).val = t.val / 16 * 1056 + a.val := by
  have : t.val < 64 := t.isLt
  rw [rowOf, Tiles.at_val (w := 1056) (by omega) 4 rfl _ (by omega)]
theorem col_val (t : Fin cfg0.N) (b : Fin 1024) : (colOf t.val b).val = t.val / 8 % 2 * 1024 + b.val := by
  rw [colOf, Tiles.at_val (w := 1024) (by omega) 2 rfl _ (by omega)]
theorem in_val (t : Fin cfg0.N) (x : Fin 1408) : (inOf (t.val % 8) x).val = t.val % 8 * 1408 + x.val := by
  rw [inOf, Tiles.at_val (w := 1408) (by omega) 8 rfl _ (by omega)]

theorem blk0 (t : Fin cfg0.N) (a : Fin 1056) (k : Fin 1408) :
    iblk m c 0 t (ix3 0 a k) = A (m ((c.tc : Thread nD τ).loc main_arg1)) (rowOf t.val a) (inOf (t.val % 8) k) := by
  have h1 := row_val t a
  have h2 := in_val t k
  have hk := k.isLt
  have ht : t.val < 64 := t.isLt
  blk_simp [iblk]
  rw [V_main_arg1]
  refine congrArg _ (funext fun j => Fin.ext ?_)
  fin_cases j <;> blk_simp [idx0]
  · show _ = (inOf (t.val % 8) k).val / 5632
    rw [h2]; omega
  · exact h1.symm
  · show t.val % 8 % 4 * 1408 + k.val = (inOf (t.val % 8) k).val % 5632
    rw [h2]; omega

theorem blk1 (t : Fin cfg0.N) (b : Fin 1024) (k : Fin 1408) :
    iblk m c 1 t (ix2 b k) = B (m ((c.tc : Thread nD τ).loc main_arg0)) (inOf (t.val % 8) k) (colOf t.val b) := by
  have h1 := col_val t b
  have h2 := in_val t k
  blk_simp [iblk]
  rw [V_main_arg0]
  refine congrArg _ (funext fun j => Fin.ext ?_)
  fin_cases j <;> blk_simp [idx1]
  · exact h1.symm
  · exact h2.symm

theorem embo (t : Fin cfg0.N) (a : Fin 1056) (b : Fin 1024) :
    ((View.whole main_v0).slice (win0_2.rect t)).emb (ix2 a b) = ix2 (rowOf t.val a) (colOf t.val b) := by
  have h1 := row_val t a
  have h2 := col_val t b
  refine funext fun j => Fin.ext ?_
  fin_cases j <;> blk_simp [idxo]
  · exact h1.symm
  · exact h2.symm

theorem pay1 (x0 : Vec Ideal S1x1056x1408 .bf16) (x1 : Vec Ideal S1024x1408 .bf16) (a : Fin 1056) (b : Fin 1024) :
    k0_pay1 x0 x1 (ix2 a b) = ∑ k : Fin 1408, x0 (ix3 0 a k) * x1 (ix2 b k) := by
  pointwise [k0_pay1]

theorem pay2 (x0 : Vec Ideal S1x1056x1408 .bf16) (x1 : Vec Ideal S1024x1408 .bf16) (a : Fin 1056) (b : Fin 1024) :
    k0_pay2 x0 x1 (ix2 a b) = ∑ k : Fin 1408, x0 (ix3 0 a k) * x1 (ix2 b k) := by
  rw [← pay1]; pointwise [k0_pay2]

theorem pay3 (x0 : Vec Ideal S1x1056x1408 .bf16) (x1 : Vec Ideal S1024x1408 .bf16) (s : Vec Ideal S1056x1024 .f32) (a : Fin 1056) (b : Fin 1024) :
    k0_pay3 x0 x1 s (ix2 a b) = s (ix2 a b) + ∑ k : Fin 1408, x0 (ix3 0 a k) * x1 (ix2 b k) := by
  rw [← pay1]; pointwise [k0_pay3]

/-- Tile `j` of the sum. -/
def part (n : ℕ) (a : Fin 1056) (b : Fin 1024) (j : ℕ) : EReal :=
  ∑ k : Fin 1408, A (m ((c.tc : Thread nD τ).loc main_arg1)) (rowOf n a) (inOf j k) * B (m ((c.tc : Thread nD τ).loc main_arg0)) (inOf j k) (colOf n b)

theorem dot_blk (t : Fin cfg0.N) (a : Fin 1056) (b : Fin 1024) (x0 : Vec Ideal S1x1056x1408 .bf16) (x1 : Vec Ideal S1024x1408 .bf16)
    (h0 : x0 = iblk m c 0 t) (h1 : x1 = iblk m c 1 t) :
    ∑ k : Fin 1408, x0 (ix3 0 a k) * x1 (ix2 b k) = part m c t.val a b (t.val % 8) := by
  subst h0 h1
  exact Tiles.dot_congr (fun k => blk0 m c t a k) (fun k => blk1 m c t b k)

/-- What the accumulator holds after point `n`: the tiles so far. -/
theorem acc (n : ℕ) : ∀ (hn : n < cfg0.N) (a : Fin 1056) (b : Fin 1024),
    (outsAt0 m c n hn).2 (ix2 a b) = ∑ j ∈ Finset.range (n % 8 + 1), part m c n a b j := by
  induction n using Nat.strong_induction_on with
  | _ n ih =>
  intro hn a b
  have hN : n < 64 := hn
  by_cases h0 : n % 8 = 0
  · rw [outsAt0_A m c ⟨n, hn⟩ h0 (by show ¬1 ≤ n % 8; omega) (by show ¬n % 8 = 7; omega)]
    dsimp only
    frame_out
    rw [h0, zero_add, Finset.sum_range_one]
    exact (pay2 _ _ a b).trans ((dot_blk m c ⟨n, hn⟩ a b _ _ rfl rfl).trans (by rw [show (⟨n, hn⟩ : Fin cfg0.N).val = n from rfl, h0]))
  · have e1 : rowOf (n - 1) a = rowOf n a := congrArg (fun z => Tiles.at' 4224 1056 _ z a) (show (n - 1) / 16 = n / 16 by omega)
    have e2 : colOf (n - 1) b = colOf n b := congrArg (fun z => Tiles.at' 2048 1024 _ z b) (show (n - 1) / 8 % 2 = n / 8 % 2 by omega)
    have e3 : (n - 1) % 8 + 1 = n % 8 := by omega
    have ih' := ih (n - 1) (by omega) (by omega) a b
    rw [e3] at ih'
    have e4 : ∀ j, part m c (n - 1) a b j = part m c n a b j := fun j => by unfold part; rw [e1, e2]
    simp only [e4] at ih'
    rw [Finset.sum_range_succ, ← ih', ← dot_blk m c ⟨n, hn⟩ a b _ _ rfl rfl]
    by_cases h2 : n % 8 = 7
    · rw [outsAt0_C m c ⟨n, hn⟩ h0 (by show 1 ≤ n % 8; omega) h2]
      dsimp only
      frame_out
      exact (pay3 _ _ _ a b).trans (congrArg (· + _) (congrFun ((Memref.isWhole_whole cc0_scratch0).read_unread _) _))
    · rw [outsAt0_B m c ⟨n, hn⟩ h0 (by show 1 ≤ n % 8; omega) h2]
      dsimp only
      frame_out
      exact (pay3 _ _ _ a b).trans (congrArg (· + _) (congrFun ((Memref.isWhole_whole cc0_scratch0).read_unread _) _))

/-- What the last point of a sum stores. -/
theorem last (t : Fin cfg0.N) (h2 : t.val % 8 = 7) (a : Fin 1056) (b : Fin 1024) :
    (outsAt0 m c t.val t.isLt).1 (ix2 a b) = ∑ k : Fin 11264, A (m ((c.tc : Thread nD τ).loc main_arg1)) (rowOf t.val a) k * B (m ((c.tc : Thread nD τ).loc main_arg0)) k (colOf t.val b) := by
  have h := acc m c t.val t.isLt a b
  rw [h2] at h
  rw [← Tiles.sum_tiles (w := 1408) (by omega) 8 rfl (fun k => A (m ((c.tc : Thread nD τ).loc main_arg1)) (rowOf t.val a) k * B (m ((c.tc : Thread nD τ).loc main_arg0)) k (colOf t.val b))]
  refine Eq.trans ?_ h
  rw [outsAt0_C m c t (by omega) (by omega) h2]
  dsimp only
  frame_out

  try rfl

theorem final : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  blk_simp
  rw [after0_2]
  have h2 : t.val % 8 = 7 := by
    have := (by decide +kernel : ∀ t : Fin grid0.N, (cfg0.win 2).flush t = true → t.val % 8 = 7) t hf
    exact this
  obtain ⟨a, b, rfl⟩ : ∃ (a : Fin 1056) (b : Fin 1024), y = ix2 a b := ⟨y 0, y 1, eq_ix2 y⟩
  rw [embo]
  exact last m c t h2 a b

end kernel

theorem sides (x : FVec Ideal Cert.GuDxKernelIdeal.S2x4224x5632 .bf16) (y : FVec Ideal Cert.GuDxKernelIdeal.S2048x11264 .bf16) (a : Fin 4224) (b : Fin 2048) :
    (∑ k : Fin 5632, x (ix3 0 a k) * y (ix2 b ⟨k.val, by have := k.isLt; omega⟩))
      + ∑ k : Fin 5632, x (ix3 1 a k) * y (ix2 b ⟨5632 + k.val, by have := k.isLt; omega⟩) = ∑ k : Fin 11264, A x a k * B y k b := by
  refine Eq.trans ?_ (Tiles.sum_two (p := 5632) rfl (fun k : Fin 11264 => A x a k * B y k b))
  exact congrArg₂ (· + ·) (Tiles.dot_congr (fun k => A_part x a 0 k _ (by simp)) fun _ => rfl)
    (Tiles.dot_congr (fun k => A_part x a 1 k _ (by simp)) fun _ => rfl)

theorem frame_kernel : Cert.quiescent_GuDxKernel (hGuDxKernel := Cert.GuDxKernel.Gen.facts) :=
  fun m ρ _ => Cert.GuDxKernel.Gen.frame m ρ

theorem frame_ideal : Cert.quiescent_GuDxKernelIdeal (hGuDxKernelIdeal := Cert.GuDxKernelIdeal.Gen.facts) :=
  fun m ρ _ => Cert.GuDxKernelIdeal.Gen.frame m ρ

theorem frame_reference : Cert.quiescent_GuDxReferenceIdeal (hGuDxReferenceIdeal := Cert.GuDxReferenceIdeal.Gen.facts) :=
  fun m ρ _ => (θ_run Cert.GuDxReferenceIdeal.defs _ _).mono
    (fun r h => ⟨fun c => (h c).2, sem_eq_zero_of_no_sems (by decide) r.2⟩) (Cert.GuDxReferenceIdeal.Value.run m ρ)

theorem value : Cert.algebraic_GuDxKernelIdeal_GuDxReferenceIdeal (hGuDxKernelIdeal := Cert.GuDxKernelIdeal.Gen.facts)
    (hGuDxReferenceIdeal := Cert.GuDxReferenceIdeal.Gen.facts) := by
  intro m g m' g' _ hagree
  refine ⟨_, (θ_run Cert.GuDxKernelIdeal.defs _ _).mono
      (fun r h c => ⟨(h c).1.trans (final m c), (h c).2⟩) (Cert.GuDxKernelIdeal.Value.run_blocks m g),
    (θ_run Cert.GuDxReferenceIdeal.defs _ _).mono (fun r h c => ⟨(h c).1.trans ?_, (h c).2⟩) (Cert.GuDxReferenceIdeal.Value.run m' g')⟩
  rw [(hagree c).1, (hagree c).2]
  funext i
  obtain ⟨a, b, rfl⟩ : ∃ (a : Fin 4224) (b : Fin 2048), i = ix2 a b := ⟨i 0, i 1, eq_ix2 i⟩
  pointwise []
  exact sides _ _ a b

end Cert.Proof.GuDx

end
-- ==== Proof.GuDw.lean ====
/- The gradient of the feed-forward's first product in its weight. Frames, and the kernel's result. -/
module

public import proofs.«01_k».proof.Defs
public import proofs.«01_k».proof.Proof.Gen.GuDwKernel.Frame
public import proofs.«01_k».proof.Proof.Gen.GuDwKernelIdeal.Value
public import proofs.«01_k».proof.Proof.Gen.GuDwReferenceIdeal.Run
public import proofs.«01_k».proof.Proof.Tiles

@[expose] public section

set_option maxRecDepth 1000000

noncomputable section

namespace Cert.Proof.GuDw

open Idealize.ShloMosaic Idealize.ShloMosaic.TcCoe Idealize.SL.Sem

/-- The entries of the two factors. -/
abbrev A (x : FVec Ideal Cert.GuDwKernelIdeal.S4224x2048 .bf16) (r : Fin 2048) (k : Fin 4224) : EReal := x (ix2 k r)
abbrev B (y : FVec Ideal Cert.GuDwKernelIdeal.S2x4224x5632 .bf16) (k : Fin 4224) (q : Fin 11264) : EReal := y (ix3 ⟨q.val / 5632, by have := q.isLt; omega⟩ k ⟨q.val % 5632, by omega⟩)

theorem B_part (y : FVec Ideal Cert.GuDwKernelIdeal.S2x4224x5632 .bf16) (k : Fin 4224) (p : Fin 2) (q : Fin 5632) (j : Fin 11264) (h : j.val = p.val * 5632 + q.val) :
    y (ix3 p k q) = B y k j := by
  have hq := q.isLt
  exact congrArg₂ (fun u v => y (ix3 u k v)) (Fin.ext (by show p.val = j.val / 5632; omega)) (Fin.ext (by show q.val = j.val % 5632; omega))

/-- The product. -/
def result (x : FVec Ideal Cert.GuDwKernelIdeal.S4224x2048 .bf16) (y : FVec Ideal Cert.GuDwKernelIdeal.S2x4224x5632 .bf16) : FVec Ideal Cert.GuDwKernelIdeal.S2048x11264 .bf16 :=
  fun i => ∑ k : Fin 4224, A x (i 0) k * B y k (i 1)

section kernel
open Cert.GuDwKernelIdeal Cert.GuDwKernelIdeal.Gen
variable (m : (ℓ : Loc nD τ sig) → Buf (Elt Ideal) ℓ) (c : Dev nD)

theorem idx0 : ∀ t : Fin cfg0.N, win0_0.index t = ![t.val / 24, t.val % 3] := (by decide +kernel : ∀ t : Fin grid0.N, _)
theorem idx1 : ∀ t : Fin cfg0.N, win0_1.index t = ![(t.val / 3 % 8) / 4, t.val % 3, (t.val / 3 % 8) % 4] := (by decide +kernel : ∀ t : Fin grid0.N, _)
theorem idxo : ∀ t : Fin cfg0.N, win0_2.index t = ![t.val / 24, t.val / 3 % 8] := (by decide +kernel : ∀ t : Fin grid0.N, _)

/-- The row, the column and the inner place of the blocks of point `t`. -/
def rowOf (n : ℕ) (a : Fin 1024) : Fin 2048 := Tiles.at' 2048 1024 (by omega) (n / 24) a
def colOf (n : ℕ) (b : Fin 1408) : Fin 11264 := Tiles.at' 11264 1408 (by omega) (n / 3 % 8) b
def inOf (j : ℕ) (x : Fin 1408) : Fin 4224 := Tiles.at' 4224 1408 (by omega) j x

theorem row_val (t : Fin cfg0.N) (a : Fin 1024) : (rowOf t.val a).val = t.val / 24 * 1024 + a.val := by
  have : t.val < 48 := t.isLt
  rw [rowOf, Tiles.at_val (w := 1024) (by omega) 2 rfl _ (by omega)]
theorem col_val (t : Fin cfg0.N) (b : Fin 1408) : (colOf t.val b).val = t.val / 3 % 8 * 1408 + b.val := by
  rw [colOf, Tiles.at_val (w := 1408) (by omega) 8 rfl _ (by omega)]
theorem in_val (t : Fin cfg0.N) (x : Fin 1408) : (inOf (t.val % 3) x).val = t.val % 3 * 1408 + x.val := by
  rw [inOf, Tiles.at_val (w := 1408) (by omega) 3 rfl _ (by omega)]

theorem V_a : V m c main_v0 = transpose S2048x4224 [1, 0] (m ((c.tc : Thread nD τ).loc main_arg0)) transposes_S4224x2048_S2048x4224_1_0 := by
  simp only [V, hostOps0]
  after_results_simp <;> rfl

theorem blk0 (t : Fin cfg0.N) (a : Fin 1024) (k : Fin 1408) :
    iblk m c 0 t (ix2 a k) = A (m ((c.tc : Thread nD τ).loc main_arg0)) (rowOf t.val a) (inOf (t.val % 3) k) := by
  have h1 := row_val t a
  have h2 := in_val t k
  blk_simp [iblk]
  rw [V_a]
  refine (congrArg _ (?_ : _ = ix2 (rowOf t.val a) (inOf (t.val % 3) k))).trans (by pointwise [])
  refine funext fun j => Fin.ext ?_
  fin_cases j <;> blk_simp [idx0]
  · exact h1.symm
  · exact h2.symm

theorem blk1 (t : Fin cfg0.N) (b : Fin 1408) (k : Fin 1408) :
    iblk m c 1 t (ix3 0 k b) = B (m ((c.tc : Thread nD τ).loc main_arg1)) (inOf (t.val % 3) k) (colOf t.val b) := by
  have h1 := col_val t b
  have h2 := in_val t k
  have hb := b.isLt
  have ht : t.val < 48 := t.isLt
  blk_simp [iblk]
  rw [V_main_arg1]
  refine congrArg _ (funext fun j => Fin.ext ?_)
  fin_cases j <;> blk_simp [idx1]
  · show _ = (colOf t.val b).val / 5632
    rw [h1]; omega
  · exact h2.symm
  · show t.val / 3 % 8 % 4 * 1408 + b.val = (colOf t.val b).val % 5632
    rw [h1]; omega

theorem embo (t : Fin cfg0.N) (a : Fin 1024) (b : Fin 1408) :
    ((View.whole main_v1).slice (win0_2.rect t)).emb (ix2 a b) = ix2 (rowOf t.val a) (colOf t.val b) := by
  have h1 := row_val t a
  have h2 := col_val t b
  refine funext fun j => Fin.ext ?_
  fin_cases j <;> blk_simp [idxo]
  · exact h1.symm
  · exact h2.symm

theorem pay1 (x0 : Vec Ideal S1024x1408 .bf16) (x1 : Vec Ideal S1x1408x1408 .bf16) (a : Fin 1024) (b : Fin 1408) :
    k0_pay1 x0 x1 (ix2 a b) = ∑ k : Fin 1408, x0 (ix2 a k) * x1 (ix3 0 k b) := by
  pointwise [k0_pay1]

theorem pay2 (x0 : Vec Ideal S1024x1408 .bf16) (x1 : Vec Ideal S1x1408x1408 .bf16) (a : Fin 1024) (b : Fin 1408) :
    k0_pay2 x0 x1 (ix2 a b) = ∑ k : Fin 1408, x0 (ix2 a k) * x1 (ix3 0 k b) := by
  rw [← pay1]; pointwise [k0_pay2]

theorem pay3 (x0 : Vec Ideal S1024x1408 .bf16) (x1 : Vec Ideal S1x1408x1408 .bf16) (s : Vec Ideal S1024x1408 .f32) (a : Fin 1024) (b : Fin 1408) :
    k0_pay3 x0 x1 s (ix2 a b) = s (ix2 a b) + ∑ k : Fin 1408, x0 (ix2 a k) * x1 (ix3 0 k b) := by
  rw [← pay1]; pointwise [k0_pay3]

/-- Tile `j` of the sum. -/
def part (n : ℕ) (a : Fin 1024) (b : Fin 1408) (j : ℕ) : EReal :=
  ∑ k : Fin 1408, A (m ((c.tc : Thread nD τ).loc main_arg0)) (rowOf n a) (inOf j k) * B (m ((c.tc : Thread nD τ).loc main_arg1)) (inOf j k) (colOf n b)

theorem dot_blk (t : Fin cfg0.N) (a : Fin 1024) (b : Fin 1408) (x0 : Vec Ideal S1024x1408 .bf16) (x1 : Vec Ideal S1x1408x1408 .bf16)
    (h0 : x0 = iblk m c 0 t) (h1 : x1 = iblk m c 1 t) :
    ∑ k : Fin 1408, x0 (ix2 a k) * x1 (ix3 0 k b) = part m c t.val a b (t.val % 3) := by
  subst h0 h1
  exact Tiles.dot_congr (fun k => blk0 m c t a k) (fun k => blk1 m c t b k)

/-- What the accumulator holds after point `n`: the tiles so far. -/
theorem acc (n : ℕ) : ∀ (hn : n < cfg0.N) (a : Fin 1024) (b : Fin 1408),
    (outsAt0 m c n hn).2 (ix2 a b) = ∑ j ∈ Finset.range (n % 3 + 1), part m c n a b j := by
  induction n using Nat.strong_induction_on with
  | _ n ih =>
  intro hn a b
  have hN : n < 48 := hn
  by_cases h0 : n % 3 = 0
  · rw [outsAt0_A m c ⟨n, hn⟩ h0 (by show ¬1 ≤ n % 3; omega) (by show ¬n % 3 = 2; omega)]
    dsimp only
    frame_out
    rw [h0, zero_add, Finset.sum_range_one]
    exact (pay2 _ _ a b).trans ((dot_blk m c ⟨n, hn⟩ a b _ _ rfl rfl).trans (by rw [show (⟨n, hn⟩ : Fin cfg0.N).val = n from rfl, h0]))
  · have e1 : rowOf (n - 1) a = rowOf n a := congrArg (fun z => Tiles.at' 2048 1024 _ z a) (show (n - 1) / 24 = n / 24 by omega)
    have e2 : colOf (n - 1) b = colOf n b := congrArg (fun z => Tiles.at' 11264 1408 _ z b) (show (n - 1) / 3 % 8 = n / 3 % 8 by omega)
    have e3 : (n - 1) % 3 + 1 = n % 3 := by omega
    have ih' := ih (n - 1) (by omega) (by omega) a b
    rw [e3] at ih'
    have e4 : ∀ j, part m c (n - 1) a b j = part m c n a b j := fun j => by unfold part; rw [e1, e2]
    simp only [e4] at ih'
    rw [Finset.sum_range_succ, ← ih', ← dot_blk m c ⟨n, hn⟩ a b _ _ rfl rfl]
    by_cases h2 : n % 3 = 2
    · rw [outsAt0_C m c ⟨n, hn⟩ h0 (by show 1 ≤ n % 3; omega) h2]
      dsimp only
      frame_out
      exact (pay3 _ _ _ a b).trans (congrArg (· + _) (congrFun ((Memref.isWhole_whole cc0_scratch0).read_unread _) _))
    · rw [outsAt0_B m c ⟨n, hn⟩ h0 (by show 1 ≤ n % 3; omega) h2]
      dsimp only
      frame_out
      exact (pay3 _ _ _ a b).trans (congrArg (· + _) (congrFun ((Memref.isWhole_whole cc0_scratch0).read_unread _) _))

/-- What the last point of a sum stores. -/
theorem last (t : Fin cfg0.N) (h2 : t.val % 3 = 2) (a : Fin 1024) (b : Fin 1408) :
    (outsAt0 m c t.val t.isLt).1 (ix2 a b) = ∑ k : Fin 4224, A (m ((c.tc : Thread nD τ).loc main_arg0)) (rowOf t.val a) k * B (m ((c.tc : Thread nD τ).loc main_arg1)) k (colOf t.val b) := by
  have h := acc m c t.val t.isLt a b
  rw [h2] at h
  rw [← Tiles.sum_tiles (w := 1408) (by omega) 3 rfl (fun k => A (m ((c.tc : Thread nD τ).loc main_arg0)) (rowOf t.val a) k * B (m ((c.tc : Thread nD τ).loc main_arg1)) k (colOf t.val b))]
  refine Eq.trans ?_ h
  rw [outsAt0_C m c t (by omega) (by omega) h2]
  dsimp only
  frame_out

  pointwise [k0_pay4]
  try rfl

theorem final : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  blk_simp
  rw [after0_2]
  have h2 : t.val % 3 = 2 := by
    have := (by decide +kernel : ∀ t : Fin grid0.N, (cfg0.win 2).flush t = true → t.val % 3 = 2) t hf
    exact this
  obtain ⟨a, b, rfl⟩ : ∃ (a : Fin 1024) (b : Fin 1408), y = ix2 a b := ⟨y 0, y 1, eq_ix2 y⟩
  rw [embo]
  exact last m c t h2 a b

end kernel

theorem sides (x : FVec Ideal Cert.GuDwKernelIdeal.S4224x2048 .bf16) (y : FVec Ideal Cert.GuDwKernelIdeal.S2x4224x5632 .bf16) (a : Fin 2048) (b : Fin 11264) :
    (∑ k : Fin 4224, (if h : b.val < 5632 then y (ix3 0 k ⟨b.val, h⟩) else y (ix3 1 k ⟨b.val - 5632, by have := b.isLt; omega⟩)) * x (ix2 k a))
      = ∑ k : Fin 4224, A x a k * B y k b := by
  have hb := b.isLt
  refine Tiles.dot_swap (fun k => rfl) fun k => ?_
  split_ifs with h
  · exact B_part y k 0 _ b (by simp)
  · exact B_part y k 1 _ b (by simp; omega)

theorem frame_kernel : Cert.quiescent_GuDwKernel (hGuDwKernel := Cert.GuDwKernel.Gen.facts) :=
  fun m ρ _ => Cert.GuDwKernel.Gen.frame m ρ

theorem frame_ideal : Cert.quiescent_GuDwKernelIdeal (hGuDwKernelIdeal := Cert.GuDwKernelIdeal.Gen.facts) :=
  fun m ρ _ => Cert.GuDwKernelIdeal.Gen.frame m ρ

theorem frame_reference : Cert.quiescent_GuDwReferenceIdeal (hGuDwReferenceIdeal := Cert.GuDwReferenceIdeal.Gen.facts) :=
  fun m ρ _ => (θ_run Cert.GuDwReferenceIdeal.defs _ _).mono
    (fun r h => ⟨fun c => (h c).2, sem_eq_zero_of_no_sems (by decide) r.2⟩) (Cert.GuDwReferenceIdeal.Value.run m ρ)

theorem value : Cert.algebraic_GuDwKernelIdeal_GuDwReferenceIdeal (hGuDwKernelIdeal := Cert.GuDwKernelIdeal.Gen.facts)
    (hGuDwReferenceIdeal := Cert.GuDwReferenceIdeal.Gen.facts) := by
  intro m g m' g' _ hagree
  refine ⟨_, (θ_run Cert.GuDwKernelIdeal.defs _ _).mono
      (fun r h c => ⟨(h c).1.trans (final m c), (h c).2⟩) (Cert.GuDwKernelIdeal.Value.run_blocks m g),
    (θ_run Cert.GuDwReferenceIdeal.defs _ _).mono (fun r h c => ⟨(h c).1.trans ?_, (h c).2⟩) (Cert.GuDwReferenceIdeal.Value.run m' g')⟩
  rw [(hagree c).1, (hagree c).2]
  funext i
  obtain ⟨a, b, rfl⟩ : ∃ (a : Fin 2048) (b : Fin 11264), i = ix2 a b := ⟨i 0, i 1, eq_ix2 i⟩
  pointwise []
  exact sides _ _ a b

end Cert.Proof.GuDw

end
-- ==== Proof.AOutDx.lean ====
/- The gradient of the convolution mixer's last product in its first factor. Frames, and the kernel's result. -/
module

public import proofs.«01_k».proof.Defs
public import proofs.«01_k».proof.Proof.Gen.AOutDxKernel.Frame
public import proofs.«01_k».proof.Proof.Gen.AOutDxKernelIdeal.Value
public import proofs.«01_k».proof.Proof.Gen.AOutDxReferenceIdeal.Run
public import proofs.«01_k».proof.Proof.Tiles

@[expose] public section

set_option maxRecDepth 1000000

noncomputable section

namespace Cert.Proof.AOutDx

open Idealize.ShloMosaic Idealize.ShloMosaic.TcCoe Idealize.SL.Sem

/-- The entries of the two factors. -/
abbrev A (x : FVec Ideal Cert.AOutDxKernelIdeal.S4224x2048 .bf16) (r : Fin 4224) (k : Fin 2048) : EReal := x (ix2 r k)
abbrev B (y : FVec Ideal Cert.AOutDxKernelIdeal.S2048x2048 .bf16) (k : Fin 2048) (q : Fin 2048) : EReal := y (ix2 q k)

/-- The product. -/
def result (y : FVec Ideal Cert.AOutDxKernelIdeal.S2048x2048 .bf16) (x : FVec Ideal Cert.AOutDxKernelIdeal.S4224x2048 .bf16) : FVec Ideal Cert.AOutDxKernelIdeal.S4224x2048 .f32 :=
  fun i => ∑ k : Fin 2048, A x (i 0) k * B y k (i 1)

section kernel
open Cert.AOutDxKernelIdeal Cert.AOutDxKernelIdeal.Gen
variable (m : (ℓ : Loc nD τ sig) → Buf (Elt Ideal) ℓ) (c : Dev nD)

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idxo : ∀ t : Fin cfg0.N, win0_2.index t = ![t.val / 2, t.val % 2] := (by decide +kernel : ∀ t : Fin grid0.N, _)

/-- The row, the column and the inner place of the blocks of point `t`. -/
def rowOf (n : ℕ) (a : Fin 1056) : Fin 4224 := Tiles.at' 4224 1056 (by omega) (n / 2) a
def colOf (n : ℕ) (b : Fin 1024) : Fin 2048 := Tiles.at' 2048 1024 (by omega) (n % 2) b
def inOf (j : ℕ) (x : Fin 2048) : Fin 2048 := Tiles.at' 2048 2048 (by omega) j x

theorem row_val (t : Fin cfg0.N) (a : Fin 1056) : (rowOf t.val a).val = t.val / 2 * 1056 + a.val := by
  have : t.val < 8 := t.isLt
  rw [rowOf, Tiles.at_val (w := 1056) (by omega) 4 rfl _ (by omega)]
theorem col_val (t : Fin cfg0.N) (b : Fin 1024) : (colOf t.val b).val = t.val % 2 * 1024 + b.val := by
  rw [colOf, Tiles.at_val (w := 1024) (by omega) 2 rfl _ (by omega)]
theorem in_val (t : Fin cfg0.N) (x : Fin 2048) : (inOf (0) x).val = x.val := by
  rw [inOf, Tiles.at_val (w := 2048) (by omega) 1 rfl _ (by omega)]; omega

theorem blk0 (t : Fin cfg0.N) (a : Fin 1056) (k : Fin 2048) :
    iblk m c 0 t (ix2 a k) = A (m ((c.tc : Thread nD τ).loc main_arg1)) (rowOf t.val a) (inOf (0) k) := by
  have h1 := row_val t a
  have h2 := in_val t k
  blk_simp [iblk]
  rw [V_main_arg1]
  refine congrArg _ (funext fun j => Fin.ext ?_)
  fin_cases j <;> blk_simp [idx0]
  · exact h1.symm
  · exact h2.symm

theorem blk1 (t : Fin cfg0.N) (b : Fin 1024) (k : Fin 2048) :
    iblk m c 1 t (ix2 b k) = B (m ((c.tc : Thread nD τ).loc main_arg0)) (inOf (0) k) (colOf t.val b) := by
  have h1 := col_val t b
  have h2 := in_val t k
  blk_simp [iblk]
  rw [V_main_arg0]
  refine congrArg _ (funext fun j => Fin.ext ?_)
  fin_cases j <;> blk_simp [idx1]
  · exact h1.symm
  · exact h2.symm

theorem embo (t : Fin cfg0.N) (a : Fin 1056) (b : Fin 1024) :
    ((View.whole main_v0).slice (win0_2.rect t)).emb (ix2 a b) = ix2 (rowOf t.val a) (colOf t.val b) := by
  have h1 := row_val t a
  have h2 := col_val t b
  refine funext fun j => Fin.ext ?_
  fin_cases j <;> blk_simp [idxo]
  · exact h1.symm
  · exact h2.symm

theorem pay (x0 : Vec Ideal S1056x2048 .bf16) (x1 : Vec Ideal S1024x2048 .bf16) (a : Fin 1056) (b : Fin 1024) :
    k0_pay1 x0 x1 (ix2 a b) = ∑ k : Fin 2048, x0 (ix2 a k) * x1 (ix2 b k) := by
  pointwise [k0_pay1]

theorem in_zero (k : Fin 2048) : inOf 0 k = k := by
  refine Fin.ext ?_
  rw [inOf, Tiles.at_val (w := 2048) (by omega) 1 rfl _ (by omega)]
  omega

theorem dot_blk (t : Fin cfg0.N) (a : Fin 1056) (b : Fin 1024) (x0 : Vec Ideal S1056x2048 .bf16) (x1 : Vec Ideal S1024x2048 .bf16)
    (h0 : x0 = iblk m c 0 t) (h1 : x1 = iblk m c 1 t) : ∑ k : Fin 2048, x0 (ix2 a k) * x1 (ix2 b k)
      = ∑ k : Fin 2048, A (m ((c.tc : Thread nD τ).loc main_arg1)) (rowOf t.val a) k * B (m ((c.tc : Thread nD τ).loc main_arg0)) k (colOf t.val b) := by
  subst h0 h1
  exact Tiles.dot_congr (fun k => (blk0 m c t a k).trans (by rw [in_zero])) (fun k => (blk1 m c t b k).trans (by rw [in_zero]))

theorem final : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨a, b, rfl⟩ : ∃ (a : Fin 1056) (b : Fin 1024), y = ix2 a b := ⟨y 0, y 1, eq_ix2 y⟩
  rw [embo, pay]
  exact dot_blk m c t a b _ _ rfl rfl

end kernel

theorem frame_kernel : Cert.quiescent_AOutDxKernel (hAOutDxKernel := Cert.AOutDxKernel.Gen.facts) :=
  fun m ρ _ => Cert.AOutDxKernel.Gen.frame m ρ

theorem frame_ideal : Cert.quiescent_AOutDxKernelIdeal (hAOutDxKernelIdeal := Cert.AOutDxKernelIdeal.Gen.facts) :=
  fun m ρ _ => Cert.AOutDxKernelIdeal.Gen.frame m ρ

theorem frame_reference : Cert.quiescent_AOutDxReferenceIdeal (hAOutDxReferenceIdeal := Cert.AOutDxReferenceIdeal.Gen.facts) :=
  fun m ρ _ => (θ_run Cert.AOutDxReferenceIdeal.defs _ _).mono
    (fun r h => ⟨fun c => (h c).2, sem_eq_zero_of_no_sems (by decide) r.2⟩) (Cert.AOutDxReferenceIdeal.Value.run m ρ)

theorem value : Cert.algebraic_AOutDxKernelIdeal_AOutDxReferenceIdeal (hAOutDxKernelIdeal := Cert.AOutDxKernelIdeal.Gen.facts)
    (hAOutDxReferenceIdeal := Cert.AOutDxReferenceIdeal.Gen.facts) := by
  intro m g m' g' _ hagree
  refine ⟨_, (θ_run Cert.AOutDxKernelIdeal.defs _ _).mono
      (fun r h c => ⟨(h c).1.trans (final m c), (h c).2⟩) (Cert.AOutDxKernelIdeal.Value.run_blocks m g),
    (θ_run Cert.AOutDxReferenceIdeal.defs _ _).mono (fun r h c => ⟨(h c).1.trans ?_, (h c).2⟩) (Cert.AOutDxReferenceIdeal.Value.run m' g')⟩
  rw [(hagree c).1, (hagree c).2]
  funext i
  obtain ⟨a, b, rfl⟩ : ∃ (a : Fin 4224) (b : Fin 2048), i = ix2 a b := ⟨i 0, i 1, eq_ix2 i⟩
  pointwise []
  try rfl

end Cert.Proof.AOutDx

end
-- ==== Proof.AOutDw.lean ====
/- The gradient of the convolution mixer's last product in its weight. Frames, and the kernel's result. -/
module

public import proofs.«01_k».proof.Defs
public import proofs.«01_k».proof.Proof.Gen.AOutDwKernel.Frame
public import proofs.«01_k».proof.Proof.Gen.AOutDwKernelIdeal.Value
public import proofs.«01_k».proof.Proof.Gen.AOutDwReferenceIdeal.Run
public import proofs.«01_k».proof.Proof.Tiles

@[expose] public section

set_option maxRecDepth 1000000

noncomputable section

namespace Cert.Proof.AOutDw

open Idealize.ShloMosaic Idealize.ShloMosaic.TcCoe Idealize.SL.Sem

/-- The entries of the two factors. -/
abbrev A (x : FVec Ideal Cert.AOutDwKernelIdeal.S4224x2048 .bf16) (r : Fin 2048) (k : Fin 4224) : EReal := x (ix2 k r)
abbrev B (y : FVec Ideal Cert.AOutDwKernelIdeal.S4224x2048 .bf16) (k : Fin 4224) (q : Fin 2048) : EReal := y (ix2 k q)

/-- The product. -/
def result (x : FVec Ideal Cert.AOutDwKernelIdeal.S4224x2048 .bf16) (y : FVec Ideal Cert.AOutDwKernelIdeal.S4224x2048 .bf16) : FVec Ideal Cert.AOutDwKernelIdeal.S2048x2048 .bf16 :=
  fun i => ∑ k : Fin 4224, A x (i 0) k * B y k (i 1)

section kernel
open Cert.AOutDwKernelIdeal Cert.AOutDwKernelIdeal.Gen
variable (m : (ℓ : Loc nD τ sig) → Buf (Elt Ideal) ℓ) (c : Dev nD)

theorem idx0 : ∀ t : Fin cfg0.N, win0_0.index t = ![t.val / 6, t.val % 3] := (by decide +kernel : ∀ t : Fin grid0.N, _)
theorem idx1 : ∀ t : Fin cfg0.N, win0_1.index t = ![t.val % 3, t.val / 3 % 2] := (by decide +kernel : ∀ t : Fin grid0.N, _)
theorem idxo : ∀ t : Fin cfg0.N, win0_2.index t = ![t.val / 6, t.val / 3 % 2] := (by decide +kernel : ∀ t : Fin grid0.N, _)

/-- The row, the column and the inner place of the blocks of point `t`. -/
def rowOf (n : ℕ) (a : Fin 1024) : Fin 2048 := Tiles.at' 2048 1024 (by omega) (n / 6) a
def colOf (n : ℕ) (b : Fin 1024) : Fin 2048 := Tiles.at' 2048 1024 (by omega) (n / 3 % 2) b
def inOf (j : ℕ) (x : Fin 1408) : Fin 4224 := Tiles.at' 4224 1408 (by omega) j x

theorem row_val (t : Fin cfg0.N) (a : Fin 1024) : (rowOf t.val a).val = t.val / 6 * 1024 + a.val := by
  have : t.val < 12 := t.isLt
  rw [rowOf, Tiles.at_val (w := 1024) (by omega) 2 rfl _ (by omega)]
theorem col_val (t : Fin cfg0.N) (b : Fin 1024) : (colOf t.val b).val = t.val / 3 % 2 * 1024 + b.val := by
  rw [colOf, Tiles.at_val (w := 1024) (by omega) 2 rfl _ (by omega)]
theorem in_val (t : Fin cfg0.N) (x : Fin 1408) : (inOf (t.val % 3) x).val = t.val % 3 * 1408 + x.val := by
  rw [inOf, Tiles.at_val (w := 1408) (by omega) 3 rfl _ (by omega)]

theorem V_a : V m c main_v0 = transpose S2048x4224 [1, 0] (m ((c.tc : Thread nD τ).loc main_arg0)) transposes_S4224x2048_S2048x4224_1_0 := by
  simp only [V, hostOps0]
  after_results_simp <;> rfl

theorem blk0 (t : Fin cfg0.N) (a : Fin 1024) (k : Fin 1408) :
    iblk m c 0 t (ix2 a k) = A (m ((c.tc : Thread nD τ).loc main_arg0)) (rowOf t.val a) (inOf (t.val % 3) k) := by
  have h1 := row_val t a
  have h2 := in_val t k
  blk_simp [iblk]
  rw [V_a]
  refine (congrArg _ (?_ : _ = ix2 (rowOf t.val a) (inOf (t.val % 3) k))).trans (by pointwise [])
  refine funext fun j => Fin.ext ?_
  fin_cases j <;> blk_simp [idx0]
  · exact h1.symm
  · exact h2.symm

theorem blk1 (t : Fin cfg0.N) (b : Fin 1024) (k : Fin 1408) :
    iblk m c 1 t (ix2 k b) = B (m ((c.tc : Thread nD τ).loc main_arg1)) (inOf (t.val % 3) k) (colOf t.val b) := by
  have h1 := col_val t b
  have h2 := in_val t k
  blk_simp [iblk]
  rw [V_main_arg1]
  refine congrArg _ (funext fun j => Fin.ext ?_)
  fin_cases j <;> blk_simp [idx1]
  · exact h2.symm
  · exact h1.symm

theorem embo (t : Fin cfg0.N) (a : Fin 1024) (b : Fin 1024) :
    ((View.whole main_v1).slice (win0_2.rect t)).emb (ix2 a b) = ix2 (rowOf t.val a) (colOf t.val b) := by
  have h1 := row_val t a
  have h2 := col_val t b
  refine funext fun j => Fin.ext ?_
  fin_cases j <;> blk_simp [idxo]
  · exact h1.symm
  · exact h2.symm

theorem pay1 (x0 : Vec Ideal S1024x1408 .bf16) (x1 : Vec Ideal S1408x1024 .bf16) (a : Fin 1024) (b : Fin 1024) :
    k0_pay1 x0 x1 (ix2 a b) = ∑ k : Fin 1408, x0 (ix2 a k) * x1 (ix2 k b) := by
  pointwise [k0_pay1]

theorem pay2 (x0 : Vec Ideal S1024x1408 .bf16) (x1 : Vec Ideal S1408x1024 .bf16) (a : Fin 1024) (b : Fin 1024) :
    k0_pay2 x0 x1 (ix2 a b) = ∑ k : Fin 1408, x0 (ix2 a k) * x1 (ix2 k b) := by
  rw [← pay1]; pointwise [k0_pay2]

theorem pay3 (x0 : Vec Ideal S1024x1408 .bf16) (x1 : Vec Ideal S1408x1024 .bf16) (s : Vec Ideal S1024x1024 .f32) (a : Fin 1024) (b : Fin 1024) :
    k0_pay3 x0 x1 s (ix2 a b) = s (ix2 a b) + ∑ k : Fin 1408, x0 (ix2 a k) * x1 (ix2 k b) := by
  rw [← pay1]; pointwise [k0_pay3]

/-- Tile `j` of the sum. -/
def part (n : ℕ) (a : Fin 1024) (b : Fin 1024) (j : ℕ) : EReal :=
  ∑ k : Fin 1408, A (m ((c.tc : Thread nD τ).loc main_arg0)) (rowOf n a) (inOf j k) * B (m ((c.tc : Thread nD τ).loc main_arg1)) (inOf j k) (colOf n b)

theorem dot_blk (t : Fin cfg0.N) (a : Fin 1024) (b : Fin 1024) (x0 : Vec Ideal S1024x1408 .bf16) (x1 : Vec Ideal S1408x1024 .bf16)
    (h0 : x0 = iblk m c 0 t) (h1 : x1 = iblk m c 1 t) :
    ∑ k : Fin 1408, x0 (ix2 a k) * x1 (ix2 k b) = part m c t.val a b (t.val % 3) := by
  subst h0 h1
  exact Tiles.dot_congr (fun k => blk0 m c t a k) (fun k => blk1 m c t b k)

/-- What the accumulator holds after point `n`: the tiles so far. -/
theorem acc (n : ℕ) : ∀ (hn : n < cfg0.N) (a : Fin 1024) (b : Fin 1024),
    (outsAt0 m c n hn).2 (ix2 a b) = ∑ j ∈ Finset.range (n % 3 + 1), part m c n a b j := by
  induction n using Nat.strong_induction_on with
  | _ n ih =>
  intro hn a b
  have hN : n < 12 := hn
  by_cases h0 : n % 3 = 0
  · rw [outsAt0_A m c ⟨n, hn⟩ h0 (by show ¬1 ≤ n % 3; omega) (by show ¬n % 3 = 2; omega)]
    dsimp only
    frame_out
    rw [h0, zero_add, Finset.sum_range_one]
    exact (pay2 _ _ a b).trans ((dot_blk m c ⟨n, hn⟩ a b _ _ rfl rfl).trans (by rw [show (⟨n, hn⟩ : Fin cfg0.N).val = n from rfl, h0]))
  · have e1 : rowOf (n - 1) a = rowOf n a := congrArg (fun z => Tiles.at' 2048 1024 _ z a) (show (n - 1) / 6 = n / 6 by omega)
    have e2 : colOf (n - 1) b = colOf n b := congrArg (fun z => Tiles.at' 2048 1024 _ z b) (show (n - 1) / 3 % 2 = n / 3 % 2 by omega)
    have e3 : (n - 1) % 3 + 1 = n % 3 := by omega
    have ih' := ih (n - 1) (by omega) (by omega) a b
    rw [e3] at ih'
    have e4 : ∀ j, part m c (n - 1) a b j = part m c n a b j := fun j => by unfold part; rw [e1, e2]
    simp only [e4] at ih'
    rw [Finset.sum_range_succ, ← ih', ← dot_blk m c ⟨n, hn⟩ a b _ _ rfl rfl]
    by_cases h2 : n % 3 = 2
    · rw [outsAt0_C m c ⟨n, hn⟩ h0 (by show 1 ≤ n % 3; omega) h2]
      dsimp only
      frame_out
      exact (pay3 _ _ _ a b).trans (congrArg (· + _) (congrFun ((Memref.isWhole_whole cc0_scratch0).read_unread _) _))
    · rw [outsAt0_B m c ⟨n, hn⟩ h0 (by show 1 ≤ n % 3; omega) h2]
      dsimp only
      frame_out
      exact (pay3 _ _ _ a b).trans (congrArg (· + _) (congrFun ((Memref.isWhole_whole cc0_scratch0).read_unread _) _))

/-- What the last point of a sum stores. -/
theorem last (t : Fin cfg0.N) (h2 : t.val % 3 = 2) (a : Fin 1024) (b : Fin 1024) :
    (outsAt0 m c t.val t.isLt).1 (ix2 a b) = ∑ k : Fin 4224, A (m ((c.tc : Thread nD τ).loc main_arg0)) (rowOf t.val a) k * B (m ((c.tc : Thread nD τ).loc main_arg1)) k (colOf t.val b) := by
  have h := acc m c t.val t.isLt a b
  rw [h2] at h
  rw [← Tiles.sum_tiles (w := 1408) (by omega) 3 rfl (fun k => A (m ((c.tc : Thread nD τ).loc main_arg0)) (rowOf t.val a) k * B (m ((c.tc : Thread nD τ).loc main_arg1)) k (colOf t.val b))]
  refine Eq.trans ?_ h
  rw [outsAt0_C m c t (by omega) (by omega) h2]
  dsimp only
  frame_out

  pointwise [k0_pay4]
  try rfl

theorem final : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  blk_simp
  rw [after0_2]
  have h2 : t.val % 3 = 2 := by
    have := (by decide +kernel : ∀ t : Fin grid0.N, (cfg0.win 2).flush t = true → t.val % 3 = 2) t hf
    exact this
  obtain ⟨a, b, rfl⟩ : ∃ (a : Fin 1024) (b : Fin 1024), y = ix2 a b := ⟨y 0, y 1, eq_ix2 y⟩
  rw [embo]
  exact last m c t h2 a b

end kernel

theorem frame_kernel : Cert.quiescent_AOutDwKernel (hAOutDwKernel := Cert.AOutDwKernel.Gen.facts) :=
  fun m ρ _ => Cert.AOutDwKernel.Gen.frame m ρ

theorem frame_ideal : Cert.quiescent_AOutDwKernelIdeal (hAOutDwKernelIdeal := Cert.AOutDwKernelIdeal.Gen.facts) :=
  fun m ρ _ => Cert.AOutDwKernelIdeal.Gen.frame m ρ

theorem frame_reference : Cert.quiescent_AOutDwReferenceIdeal (hAOutDwReferenceIdeal := Cert.AOutDwReferenceIdeal.Gen.facts) :=
  fun m ρ _ => (θ_run Cert.AOutDwReferenceIdeal.defs _ _).mono
    (fun r h => ⟨fun c => (h c).2, sem_eq_zero_of_no_sems (by decide) r.2⟩) (Cert.AOutDwReferenceIdeal.Value.run m ρ)

theorem value : Cert.algebraic_AOutDwKernelIdeal_AOutDwReferenceIdeal (hAOutDwKernelIdeal := Cert.AOutDwKernelIdeal.Gen.facts)
    (hAOutDwReferenceIdeal := Cert.AOutDwReferenceIdeal.Gen.facts) := by
  intro m g m' g' _ hagree
  refine ⟨_, (θ_run Cert.AOutDwKernelIdeal.defs _ _).mono
      (fun r h c => ⟨(h c).1.trans (final m c), (h c).2⟩) (Cert.AOutDwKernelIdeal.Value.run_blocks m g),
    (θ_run Cert.AOutDwReferenceIdeal.defs _ _).mono (fun r h c => ⟨(h c).1.trans ?_, (h c).2⟩) (Cert.AOutDwReferenceIdeal.Value.run m' g')⟩
  rw [(hagree c).1, (hagree c).2]
  funext i
  obtain ⟨a, b, rfl⟩ : ∃ (a : Fin 2048) (b : Fin 2048), i = ix2 a b := ⟨i 0, i 1, eq_ix2 i⟩
  pointwise []
  exact Finset.sum_congr rfl fun k _ => mul_comm _ _

end Cert.Proof.AOutDw

end
-- ==== Proof.AInDx.lean ====
/- The gradient of the convolution mixer's first product in its first factor. Frames, and the kernel's result. -/
module

public import proofs.«01_k».proof.Defs
public import proofs.«01_k».proof.Proof.Gen.AInDxKernel.Frame
public import proofs.«01_k».proof.Proof.Gen.AInDxKernelIdeal.Value
public import proofs.«01_k».proof.Proof.Gen.AInDxReferenceIdeal.Run
public import proofs.«01_k».proof.Proof.Tiles

@[expose] public section

set_option maxRecDepth 1000000

noncomputable section

namespace Cert.Proof.AInDx

open Idealize.ShloMosaic Idealize.ShloMosaic.TcCoe Idealize.SL.Sem

/-- The entries of the two factors. -/
abbrev A (x : FVec Ideal Cert.AInDxKernelIdeal.S3x4224x2048 .bf16) (r : Fin 4224) (k : Fin 6144) : EReal := x (ix3 ⟨k.val / 2048, by have := k.isLt; omega⟩ r ⟨k.val % 2048, by omega⟩)
abbrev B (y : FVec Ideal Cert.AInDxKernelIdeal.S2048x6144 .bf16) (k : Fin 6144) (q : Fin 2048) : EReal := y (ix2 q k)

theorem A_part (x : FVec Ideal Cert.AInDxKernelIdeal.S3x4224x2048 .bf16) (r : Fin 4224) (p : Fin 3) (q : Fin 2048) (k : Fin 6144) (h : k.val = p.val * 2048 + q.val) :
    x (ix3 p r q) = A x r k := by
  have hq := q.isLt
  exact congrArg₂ (fun u v => x (ix3 u r v)) (Fin.ext (by show p.val = k.val / 2048; omega)) (Fin.ext (by show q.val = k.val % 2048; omega))

/-- The product. -/
def result (y : FVec Ideal Cert.AInDxKernelIdeal.S2048x6144 .bf16) (x : FVec Ideal Cert.AInDxKernelIdeal.S3x4224x2048 .bf16) : FVec Ideal Cert.AInDxKernelIdeal.S4224x2048 .f32 :=
  fun i => ∑ k : Fin 6144, A x (i 0) k * B y k (i 1)

section kernel
open Cert.AInDxKernelIdeal Cert.AInDxKernelIdeal.Gen
variable (m : (ℓ : Loc nD τ sig) → Buf (Elt Ideal) ℓ) (c : Dev nD)

theorem idx0 : ∀ t : Fin cfg0.N, win0_0.index t = ![(t.val % 3) / 1, t.val / 6, (t.val % 3) % 1] := (by decide +kernel : ∀ t : Fin grid0.N, _)
theorem idx1 : ∀ t : Fin cfg0.N, win0_1.index t = ![t.val / 3 % 2, t.val % 3] := (by decide +kernel : ∀ t : Fin grid0.N, _)
theorem idxo : ∀ t : Fin cfg0.N, win0_2.index t = ![t.val / 6, t.val / 3 % 2] := (by decide +kernel : ∀ t : Fin grid0.N, _)

/-- The row, the column and the inner place of the blocks of point `t`. -/
def rowOf (n : ℕ) (a : Fin 1056) : Fin 4224 := Tiles.at' 4224 1056 (by omega) (n / 6) a
def colOf (n : ℕ) (b : Fin 1024) : Fin 2048 := Tiles.at' 2048 1024 (by omega) (n / 3 % 2) b
def inOf (j : ℕ) (x : Fin 2048) : Fin 6144 := Tiles.at' 6144 2048 (by omega) j x

theorem row_val (t : Fin cfg0.N) (a : Fin 1056) : (rowOf t.val a).val = t.val / 6 * 1056 + a.val := by
  have : t.val < 24 := t.isLt
  rw [rowOf, Tiles.at_val (w := 1056) (by omega) 4 rfl _ (by omega)]
theorem col_val (t : Fin cfg0.N) (b : Fin 1024) : (colOf t.val b).val = t.val / 3 % 2 * 1024 + b.val := by
  rw [colOf, Tiles.at_val (w := 1024) (by omega) 2 rfl _ (by omega)]
theorem in_val (t : Fin cfg0.N) (x : Fin 2048) : (inOf (t.val % 3) x).val = t.val % 3 * 2048 + x.val := by
  rw [inOf, Tiles.at_val (w := 2048) (by omega) 3 rfl _ (by omega)]

theorem blk0 (t : Fin cfg0.N) (a : Fin 1056) (k : Fin 2048) :
    iblk m c 0 t (ix3 0 a k) = A (m ((c.tc : Thread nD τ).loc main_arg1)) (rowOf t.val a) (inOf (t.val % 3) k) := by
  have h1 := row_val t a
  have h2 := in_val t k
  have hk := k.isLt
  have ht : t.val < 24 := t.isLt
  blk_simp [iblk]
  rw [V_main_arg1]
  refine congrArg _ (funext fun j => Fin.ext ?_)
  fin_cases j <;> blk_simp [idx0]
  · show _ = (inOf (t.val % 3) k).val / 2048
    rw [h2]; omega
  · exact h1.symm
  · show t.val % 3 % 1 * 2048 + k.val = (inOf (t.val % 3) k).val % 2048
    rw [h2]; omega

theorem blk1 (t : Fin cfg0.N) (b : Fin 1024) (k : Fin 2048) :
    iblk m c 1 t (ix2 b k) = B (m ((c.tc : Thread nD τ).loc main_arg0)) (inOf (t.val % 3) k) (colOf t.val b) := by
  have h1 := col_val t b
  have h2 := in_val t k
  blk_simp [iblk]
  rw [V_main_arg0]
  refine congrArg _ (funext fun j => Fin.ext ?_)
  fin_cases j <;> blk_simp [idx1]
  · exact h1.symm
  · exact h2.symm

theorem embo (t : Fin cfg0.N) (a : Fin 1056) (b : Fin 1024) :
    ((View.whole main_v0).slice (win0_2.rect t)).emb (ix2 a b) = ix2 (rowOf t.val a) (colOf t.val b) := by
  have h1 := row_val t a
  have h2 := col_val t b
  refine funext fun j => Fin.ext ?_
  fin_cases j <;> blk_simp [idxo]
  · exact h1.symm
  · exact h2.symm

theorem pay1 (x0 : Vec Ideal S1x1056x2048 .bf16) (x1 : Vec Ideal S1024x2048 .bf16) (a : Fin 1056) (b : Fin 1024) :
    k0_pay1 x0 x1 (ix2 a b) = ∑ k : Fin 2048, x0 (ix3 0 a k) * x1 (ix2 b k) := by
  pointwise [k0_pay1]

theorem pay2 (x0 : Vec Ideal S1x1056x2048 .bf16) (x1 : Vec Ideal S1024x2048 .bf16) (a : Fin 1056) (b : Fin 1024) :
    k0_pay2 x0 x1 (ix2 a b) = ∑ k : Fin 2048, x0 (ix3 0 a k) * x1 (ix2 b k) := by
  rw [← pay1]; pointwise [k0_pay2]

theorem pay3 (x0 : Vec Ideal S1x1056x2048 .bf16) (x1 : Vec Ideal S1024x2048 .bf16) (s : Vec Ideal S1056x1024 .f32) (a : Fin 1056) (b : Fin 1024) :
    k0_pay3 x0 x1 s (ix2 a b) = s (ix2 a b) + ∑ k : Fin 2048, x0 (ix3 0 a k) * x1 (ix2 b k) := by
  rw [← pay1]; pointwise [k0_pay3]

/-- Tile `j` of the sum. -/
def part (n : ℕ) (a : Fin 1056) (b : Fin 1024) (j : ℕ) : EReal :=
  ∑ k : Fin 2048, A (m ((c.tc : Thread nD τ).loc main_arg1)) (rowOf n a) (inOf j k) * B (m ((c.tc : Thread nD τ).loc main_arg0)) (inOf j k) (colOf n b)

theorem dot_blk (t : Fin cfg0.N) (a : Fin 1056) (b : Fin 1024) (x0 : Vec Ideal S1x1056x2048 .bf16) (x1 : Vec Ideal S1024x2048 .bf16)
    (h0 : x0 = iblk m c 0 t) (h1 : x1 = iblk m c 1 t) :
    ∑ k : Fin 2048, x0 (ix3 0 a k) * x1 (ix2 b k) = part m c t.val a b (t.val % 3) := by
  subst h0 h1
  exact Tiles.dot_congr (fun k => blk0 m c t a k) (fun k => blk1 m c t b k)

/-- What the accumulator holds after point `n`: the tiles so far. -/
theorem acc (n : ℕ) : ∀ (hn : n < cfg0.N) (a : Fin 1056) (b : Fin 1024),
    (outsAt0 m c n hn).2 (ix2 a b) = ∑ j ∈ Finset.range (n % 3 + 1), part m c n a b j := by
  induction n using Nat.strong_induction_on with
  | _ n ih =>
  intro hn a b
  have hN : n < 24 := hn
  by_cases h0 : n % 3 = 0
  · rw [outsAt0_A m c ⟨n, hn⟩ h0 (by show ¬1 ≤ n % 3; omega) (by show ¬n % 3 = 2; omega)]
    dsimp only
    frame_out
    rw [h0, zero_add, Finset.sum_range_one]
    exact (pay2 _ _ a b).trans ((dot_blk m c ⟨n, hn⟩ a b _ _ rfl rfl).trans (by rw [show (⟨n, hn⟩ : Fin cfg0.N).val = n from rfl, h0]))
  · have e1 : rowOf (n - 1) a = rowOf n a := congrArg (fun z => Tiles.at' 4224 1056 _ z a) (show (n - 1) / 6 = n / 6 by omega)
    have e2 : colOf (n - 1) b = colOf n b := congrArg (fun z => Tiles.at' 2048 1024 _ z b) (show (n - 1) / 3 % 2 = n / 3 % 2 by omega)
    have e3 : (n - 1) % 3 + 1 = n % 3 := by omega
    have ih' := ih (n - 1) (by omega) (by omega) a b
    rw [e3] at ih'
    have e4 : ∀ j, part m c (n - 1) a b j = part m c n a b j := fun j => by unfold part; rw [e1, e2]
    simp only [e4] at ih'
    rw [Finset.sum_range_succ, ← ih', ← dot_blk m c ⟨n, hn⟩ a b _ _ rfl rfl]
    by_cases h2 : n % 3 = 2
    · rw [outsAt0_C m c ⟨n, hn⟩ h0 (by show 1 ≤ n % 3; omega) h2]
      dsimp only
      frame_out
      exact (pay3 _ _ _ a b).trans (congrArg (· + _) (congrFun ((Memref.isWhole_whole cc0_scratch0).read_unread _) _))
    · rw [outsAt0_B m c ⟨n, hn⟩ h0 (by show 1 ≤ n % 3; omega) h2]
      dsimp only
      frame_out
      exact (pay3 _ _ _ a b).trans (congrArg (· + _) (congrFun ((Memref.isWhole_whole cc0_scratch0).read_unread _) _))

/-- What the last point of a sum stores. -/
theorem last (t : Fin cfg0.N) (h2 : t.val % 3 = 2) (a : Fin 1056) (b : Fin 1024) :
    (outsAt0 m c t.val t.isLt).1 (ix2 a b) = ∑ k : Fin 6144, A (m ((c.tc : Thread nD τ).loc main_arg1)) (rowOf t.val a) k * B (m ((c.tc : Thread nD τ).loc main_arg0)) k (colOf t.val b) := by
  have h := acc m c t.val t.isLt a b
  rw [h2] at h
  rw [← Tiles.sum_tiles (w := 2048) (by omega) 3 rfl (fun k => A (m ((c.tc : Thread nD τ).loc main_arg1)) (rowOf t.val a) k * B (m ((c.tc : Thread nD τ).loc main_arg0)) k (colOf t.val b))]
  refine Eq.trans ?_ h
  rw [outsAt0_C m c t (by omega) (by omega) h2]
  dsimp only
  frame_out

  try rfl

theorem final : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  blk_simp
  rw [after0_2]
  have h2 : t.val % 3 = 2 := by
    have := (by decide +kernel : ∀ t : Fin grid0.N, (cfg0.win 2).flush t = true → t.val % 3 = 2) t hf
    exact this
  obtain ⟨a, b, rfl⟩ : ∃ (a : Fin 1056) (b : Fin 1024), y = ix2 a b := ⟨y 0, y 1, eq_ix2 y⟩
  rw [embo]
  exact last m c t h2 a b

end kernel

theorem sides (x : FVec Ideal Cert.AInDxKernelIdeal.S3x4224x2048 .bf16) (y : FVec Ideal Cert.AInDxKernelIdeal.S2048x6144 .bf16) (a : Fin 4224) (b : Fin 2048) :
    (∑ k : Fin 6144, (if h : k.val < 2048 then x (ix3 0 a ⟨k.val, h⟩)
      else if h' : k.val - 2048 < 2048 then x (ix3 1 a ⟨k.val - 2048, h'⟩)
        else x (ix3 2 a ⟨k.val - 2048 - 2048, by have := k.isLt; omega⟩)) * y (ix2 b k))
      = ∑ k : Fin 6144, A x a k * B y k b := by
  refine Tiles.dot_congr (fun k => ?_) fun k => rfl
  split_ifs with h h'
  · exact A_part x a 0 _ k (by simp)
  · exact A_part x a 1 _ k (by simp; omega)
  · exact A_part x a 2 _ k (by simp; omega)

theorem frame_kernel : Cert.quiescent_AInDxKernel (hAInDxKernel := Cert.AInDxKernel.Gen.facts) :=
  fun m ρ _ => Cert.AInDxKernel.Gen.frame m ρ

theorem frame_ideal : Cert.quiescent_AInDxKernelIdeal (hAInDxKernelIdeal := Cert.AInDxKernelIdeal.Gen.facts) :=
  fun m ρ _ => Cert.AInDxKernelIdeal.Gen.frame m ρ

theorem frame_reference : Cert.quiescent_AInDxReferenceIdeal (hAInDxReferenceIdeal := Cert.AInDxReferenceIdeal.Gen.facts) :=
  fun m ρ _ => (θ_run Cert.AInDxReferenceIdeal.defs _ _).mono
    (fun r h => ⟨fun c => (h c).2, sem_eq_zero_of_no_sems (by decide) r.2⟩) (Cert.AInDxReferenceIdeal.Value.run m ρ)

theorem value : Cert.algebraic_AInDxKernelIdeal_AInDxReferenceIdeal (hAInDxKernelIdeal := Cert.AInDxKernelIdeal.Gen.facts)
    (hAInDxReferenceIdeal := Cert.AInDxReferenceIdeal.Gen.facts) := by
  intro m g m' g' _ hagree
  refine ⟨_, (θ_run Cert.AInDxKernelIdeal.defs _ _).mono
      (fun r h c => ⟨(h c).1.trans (final m c), (h c).2⟩) (Cert.AInDxKernelIdeal.Value.run_blocks m g),
    (θ_run Cert.AInDxReferenceIdeal.defs _ _).mono (fun r h c => ⟨(h c).1.trans ?_, (h c).2⟩) (Cert.AInDxReferenceIdeal.Value.run m' g')⟩
  rw [(hagree c).1, (hagree c).2]
  funext i
  obtain ⟨a, b, rfl⟩ : ∃ (a : Fin 4224) (b : Fin 2048), i = ix2 a b := ⟨i 0, i 1, eq_ix2 i⟩
  pointwise []
  exact sides _ _ a b

end Cert.Proof.AInDx

end
-- ==== Proof.AInDw.lean ====
/- The gradient of the convolution mixer's first product in its weight. Frames, and the kernel's result. -/
module

public import proofs.«01_k».proof.Defs
public import proofs.«01_k».proof.Proof.Gen.AInDwKernel.Frame
public import proofs.«01_k».proof.Proof.Gen.AInDwKernelIdeal.Value
public import proofs.«01_k».proof.Proof.Gen.AInDwReferenceIdeal.Run
public import proofs.«01_k».proof.Proof.Tiles

@[expose] public section

set_option maxRecDepth 1000000

noncomputable section

namespace Cert.Proof.AInDw

open Idealize.ShloMosaic Idealize.ShloMosaic.TcCoe Idealize.SL.Sem

/-- The entries of the two factors. -/
abbrev A (x : FVec Ideal Cert.AInDwKernelIdeal.S4224x2048 .bf16) (r : Fin 2048) (k : Fin 4224) : EReal := x (ix2 k r)
abbrev B (y : FVec Ideal Cert.AInDwKernelIdeal.S3x4224x2048 .bf16) (k : Fin 4224) (q : Fin 6144) : EReal := y (ix3 ⟨q.val / 2048, by have := q.isLt; omega⟩ k ⟨q.val % 2048, by omega⟩)

theorem B_part (y : FVec Ideal Cert.AInDwKernelIdeal.S3x4224x2048 .bf16) (k : Fin 4224) (p : Fin 3) (q : Fin 2048) (j : Fin 6144) (h : j.val = p.val * 2048 + q.val) :
    y (ix3 p k q) = B y k j := by
  have hq := q.isLt
  exact congrArg₂ (fun u v => y (ix3 u k v)) (Fin.ext (by show p.val = j.val / 2048; omega)) (Fin.ext (by show q.val = j.val % 2048; omega))

/-- The product. -/
def result (x : FVec Ideal Cert.AInDwKernelIdeal.S4224x2048 .bf16) (y : FVec Ideal Cert.AInDwKernelIdeal.S3x4224x2048 .bf16) : FVec Ideal Cert.AInDwKernelIdeal.S2048x6144 .bf16 :=
  fun i => ∑ k : Fin 4224, A x (i 0) k * B y k (i 1)

section kernel
open Cert.AInDwKernelIdeal Cert.AInDwKernelIdeal.Gen
variable (m : (ℓ : Loc nD τ sig) → Buf (Elt Ideal) ℓ) (c : Dev nD)

theorem idx0 : ∀ t : Fin cfg0.N, win0_0.index t = ![t.val / 18, t.val % 3] := (by decide +kernel : ∀ t : Fin grid0.N, _)
theorem idx1 : ∀ t : Fin cfg0.N, win0_1.index t = ![(t.val / 3 % 6) / 2, t.val % 3, (t.val / 3 % 6) % 2] := (by decide +kernel : ∀ t : Fin grid0.N, _)
theorem idxo : ∀ t : Fin cfg0.N, win0_2.index t = ![t.val / 18, t.val / 3 % 6] := (by decide +kernel : ∀ t : Fin grid0.N, _)

/-- The row, the column and the inner place of the blocks of point `t`. -/
def rowOf (n : ℕ) (a : Fin 1024) : Fin 2048 := Tiles.at' 2048 1024 (by omega) (n / 18) a
def colOf (n : ℕ) (b : Fin 1024) : Fin 6144 := Tiles.at' 6144 1024 (by omega) (n / 3 % 6) b
def inOf (j : ℕ) (x : Fin 1408) : Fin 4224 := Tiles.at' 4224 1408 (by omega) j x

theorem row_val (t : Fin cfg0.N) (a : Fin 1024) : (rowOf t.val a).val = t.val / 18 * 1024 + a.val := by
  have : t.val < 36 := t.isLt
  rw [rowOf, Tiles.at_val (w := 1024) (by omega) 2 rfl _ (by omega)]
theorem col_val (t : Fin cfg0.N) (b : Fin 1024) : (colOf t.val b).val = t.val / 3 % 6 * 1024 + b.val := by
  rw [colOf, Tiles.at_val (w := 1024) (by omega) 6 rfl _ (by omega)]
theorem in_val (t : Fin cfg0.N) (x : Fin 1408) : (inOf (t.val % 3) x).val = t.val % 3 * 1408 + x.val := by
  rw [inOf, Tiles.at_val (w := 1408) (by omega) 3 rfl _ (by omega)]

theorem V_a : V m c main_v0 = transpose S2048x4224 [1, 0] (m ((c.tc : Thread nD τ).loc main_arg0)) transposes_S4224x2048_S2048x4224_1_0 := by
  simp only [V, hostOps0]
  after_results_simp <;> rfl

theorem blk0 (t : Fin cfg0.N) (a : Fin 1024) (k : Fin 1408) :
    iblk m c 0 t (ix2 a k) = A (m ((c.tc : Thread nD τ).loc main_arg0)) (rowOf t.val a) (inOf (t.val % 3) k) := by
  have h1 := row_val t a
  have h2 := in_val t k
  blk_simp [iblk]
  rw [V_a]
  refine (congrArg _ (?_ : _ = ix2 (rowOf t.val a) (inOf (t.val % 3) k))).trans (by pointwise [])
  refine funext fun j => Fin.ext ?_
  fin_cases j <;> blk_simp [idx0]
  · exact h1.symm
  · exact h2.symm

theorem blk1 (t : Fin cfg0.N) (b : Fin 1024) (k : Fin 1408) :
    iblk m c 1 t (ix3 0 k b) = B (m ((c.tc : Thread nD τ).loc main_arg1)) (inOf (t.val % 3) k) (colOf t.val b) := by
  have h1 := col_val t b
  have h2 := in_val t k
  have hb := b.isLt
  have ht : t.val < 36 := t.isLt
  blk_simp [iblk]
  rw [V_main_arg1]
  refine congrArg _ (funext fun j => Fin.ext ?_)
  fin_cases j <;> blk_simp [idx1]
  · show _ = (colOf t.val b).val / 2048
    rw [h1]; omega
  · exact h2.symm
  · show t.val / 3 % 6 % 2 * 1024 + b.val = (colOf t.val b).val % 2048
    rw [h1]; omega

theorem embo (t : Fin cfg0.N) (a : Fin 1024) (b : Fin 1024) :
    ((View.whole main_v1).slice (win0_2.rect t)).emb (ix2 a b) = ix2 (rowOf t.val a) (colOf t.val b) := by
  have h1 := row_val t a
  have h2 := col_val t b
  refine funext fun j => Fin.ext ?_
  fin_cases j <;> blk_simp [idxo]
  · exact h1.symm
  · exact h2.symm

theorem pay1 (x0 : Vec Ideal S1024x1408 .bf16) (x1 : Vec Ideal S1x1408x1024 .bf16) (a : Fin 1024) (b : Fin 1024) :
    k0_pay1 x0 x1 (ix2 a b) = ∑ k : Fin 1408, x0 (ix2 a k) * x1 (ix3 0 k b) := by
  pointwise [k0_pay1]

theorem pay2 (x0 : Vec Ideal S1024x1408 .bf16) (x1 : Vec Ideal S1x1408x1024 .bf16) (a : Fin 1024) (b : Fin 1024) :
    k0_pay2 x0 x1 (ix2 a b) = ∑ k : Fin 1408, x0 (ix2 a k) * x1 (ix3 0 k b) := by
  rw [← pay1]; pointwise [k0_pay2]

theorem pay3 (x0 : Vec Ideal S1024x1408 .bf16) (x1 : Vec Ideal S1x1408x1024 .bf16) (s : Vec Ideal S1024x1024 .f32) (a : Fin 1024) (b : Fin 1024) :
    k0_pay3 x0 x1 s (ix2 a b) = s (ix2 a b) + ∑ k : Fin 1408, x0 (ix2 a k) * x1 (ix3 0 k b) := by
  rw [← pay1]; pointwise [k0_pay3]

/-- Tile `j` of the sum. -/
def part (n : ℕ) (a : Fin 1024) (b : Fin 1024) (j : ℕ) : EReal :=
  ∑ k : Fin 1408, A (m ((c.tc : Thread nD τ).loc main_arg0)) (rowOf n a) (inOf j k) * B (m ((c.tc : Thread nD τ).loc main_arg1)) (inOf j k) (colOf n b)

theorem dot_blk (t : Fin cfg0.N) (a : Fin 1024) (b : Fin 1024) (x0 : Vec Ideal S1024x1408 .bf16) (x1 : Vec Ideal S1x1408x1024 .bf16)
    (h0 : x0 = iblk m c 0 t) (h1 : x1 = iblk m c 1 t) :
    ∑ k : Fin 1408, x0 (ix2 a k) * x1 (ix3 0 k b) = part m c t.val a b (t.val % 3) := by
  subst h0 h1
  exact Tiles.dot_congr (fun k => blk0 m c t a k) (fun k => blk1 m c t b k)

/-- What the accumulator holds after point `n`: the tiles so far. -/
theorem acc (n : ℕ) : ∀ (hn : n < cfg0.N) (a : Fin 1024) (b : Fin 1024),
    (outsAt0 m c n hn).2 (ix2 a b) = ∑ j ∈ Finset.range (n % 3 + 1), part m c n a b j := by
  induction n using Nat.strong_induction_on with
  | _ n ih =>
  intro hn a b
  have hN : n < 36 := hn
  by_cases h0 : n % 3 = 0
  · rw [outsAt0_A m c ⟨n, hn⟩ h0 (by show ¬1 ≤ n % 3; omega) (by show ¬n % 3 = 2; omega)]
    dsimp only
    frame_out
    rw [h0, zero_add, Finset.sum_range_one]
    exact (pay2 _ _ a b).trans ((dot_blk m c ⟨n, hn⟩ a b _ _ rfl rfl).trans (by rw [show (⟨n, hn⟩ : Fin cfg0.N).val = n from rfl, h0]))
  · have e1 : rowOf (n - 1) a = rowOf n a := congrArg (fun z => Tiles.at' 2048 1024 _ z a) (show (n - 1) / 18 = n / 18 by omega)
    have e2 : colOf (n - 1) b = colOf n b := congrArg (fun z => Tiles.at' 6144 1024 _ z b) (show (n - 1) / 3 % 6 = n / 3 % 6 by omega)
    have e3 : (n - 1) % 3 + 1 = n % 3 := by omega
    have ih' := ih (n - 1) (by omega) (by omega) a b
    rw [e3] at ih'
    have e4 : ∀ j, part m c (n - 1) a b j = part m c n a b j := fun j => by unfold part; rw [e1, e2]
    simp only [e4] at ih'
    rw [Finset.sum_range_succ, ← ih', ← dot_blk m c ⟨n, hn⟩ a b _ _ rfl rfl]
    by_cases h2 : n % 3 = 2
    · rw [outsAt0_C m c ⟨n, hn⟩ h0 (by show 1 ≤ n % 3; omega) h2]
      dsimp only
      frame_out
      exact (pay3 _ _ _ a b).trans (congrArg (· + _) (congrFun ((Memref.isWhole_whole cc0_scratch0).read_unread _) _))
    · rw [outsAt0_B m c ⟨n, hn⟩ h0 (by show 1 ≤ n % 3; omega) h2]
      dsimp only
      frame_out
      exact (pay3 _ _ _ a b).trans (congrArg (· + _) (congrFun ((Memref.isWhole_whole cc0_scratch0).read_unread _) _))

/-- What the last point of a sum stores. -/
theorem last (t : Fin cfg0.N) (h2 : t.val % 3 = 2) (a : Fin 1024) (b : Fin 1024) :
    (outsAt0 m c t.val t.isLt).1 (ix2 a b) = ∑ k : Fin 4224, A (m ((c.tc : Thread nD τ).loc main_arg0)) (rowOf t.val a) k * B (m ((c.tc : Thread nD τ).loc main_arg1)) k (colOf t.val b) := by
  have h := acc m c t.val t.isLt a b
  rw [h2] at h
  rw [← Tiles.sum_tiles (w := 1408) (by omega) 3 rfl (fun k => A (m ((c.tc : Thread nD τ).loc main_arg0)) (rowOf t.val a) k * B (m ((c.tc : Thread nD τ).loc main_arg1)) k (colOf t.val b))]
  refine Eq.trans ?_ h
  rw [outsAt0_C m c t (by omega) (by omega) h2]
  dsimp only
  frame_out

  pointwise [k0_pay4]
  try rfl

theorem final : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  blk_simp
  rw [after0_2]
  have h2 : t.val % 3 = 2 := by
    have := (by decide +kernel : ∀ t : Fin grid0.N, (cfg0.win 2).flush t = true → t.val % 3 = 2) t hf
    exact this
  obtain ⟨a, b, rfl⟩ : ∃ (a : Fin 1024) (b : Fin 1024), y = ix2 a b := ⟨y 0, y 1, eq_ix2 y⟩
  rw [embo]
  exact last m c t h2 a b

end kernel

theorem sides (x : FVec Ideal Cert.AInDwKernelIdeal.S4224x2048 .bf16) (y : FVec Ideal Cert.AInDwKernelIdeal.S3x4224x2048 .bf16) (a : Fin 2048) (b : Fin 6144) :
    (∑ k : Fin 4224, (if h : b.val < 2048 then y (ix3 0 k ⟨b.val, h⟩)
      else if h' : b.val - 2048 < 2048 then y (ix3 1 k ⟨b.val - 2048, h'⟩)
        else y (ix3 2 k ⟨b.val - 2048 - 2048, by have := b.isLt; omega⟩)) * x (ix2 k a))
      = ∑ k : Fin 4224, A x a k * B y k b := by
  have hb := b.isLt
  refine Tiles.dot_swap (fun k => rfl) fun k => ?_
  split_ifs with h h'
  · exact B_part y k 0 _ b (by simp)
  · exact B_part y k 1 _ b (by simp; omega)
  · exact B_part y k 2 _ b (by simp; omega)

theorem frame_kernel : Cert.quiescent_AInDwKernel (hAInDwKernel := Cert.AInDwKernel.Gen.facts) :=
  fun m ρ _ => Cert.AInDwKernel.Gen.frame m ρ

theorem frame_ideal : Cert.quiescent_AInDwKernelIdeal (hAInDwKernelIdeal := Cert.AInDwKernelIdeal.Gen.facts) :=
  fun m ρ _ => Cert.AInDwKernelIdeal.Gen.frame m ρ

theorem frame_reference : Cert.quiescent_AInDwReferenceIdeal (hAInDwReferenceIdeal := Cert.AInDwReferenceIdeal.Gen.facts) :=
  fun m ρ _ => (θ_run Cert.AInDwReferenceIdeal.defs _ _).mono
    (fun r h => ⟨fun c => (h c).2, sem_eq_zero_of_no_sems (by decide) r.2⟩) (Cert.AInDwReferenceIdeal.Value.run m ρ)

theorem value : Cert.algebraic_AInDwKernelIdeal_AInDwReferenceIdeal (hAInDwKernelIdeal := Cert.AInDwKernelIdeal.Gen.facts)
    (hAInDwReferenceIdeal := Cert.AInDwReferenceIdeal.Gen.facts) := by
  intro m g m' g' _ hagree
  refine ⟨_, (θ_run Cert.AInDwKernelIdeal.defs _ _).mono
      (fun r h c => ⟨(h c).1.trans (final m c), (h c).2⟩) (Cert.AInDwKernelIdeal.Value.run_blocks m g),
    (θ_run Cert.AInDwReferenceIdeal.defs _ _).mono (fun r h c => ⟨(h c).1.trans ?_, (h c).2⟩) (Cert.AInDwReferenceIdeal.Value.run m' g')⟩
  rw [(hagree c).1, (hagree c).2]
  funext i
  obtain ⟨a, b, rfl⟩ : ∃ (a : Fin 2048) (b : Fin 6144), i = ix2 a b := ⟨i 0, i 1, eq_ix2 i⟩
  pointwise []
  exact sides _ _ a b

end Cert.Proof.AInDw

end
-- ==== Proof.BODx.lean ====
/- The gradient of the attention's last product in its first factor. Frames, and the kernel's result. -/
module

public import proofs.«01_k».proof.Defs
public import proofs.«01_k».proof.Proof.Gen.BODxKernel.Frame
public import proofs.«01_k».proof.Proof.Gen.BODxKernelIdeal.Value
public import proofs.«01_k».proof.Proof.Gen.BODxReferenceIdeal.Run
public import proofs.«01_k».proof.Proof.Tiles

@[expose] public section

set_option maxRecDepth 1000000

noncomputable section

namespace Cert.Proof.BODx

open Idealize.ShloMosaic Idealize.ShloMosaic.TcCoe Idealize.SL.Sem

/-- The entries of the two factors. -/
abbrev A (x : FVec Ideal Cert.BODxKernelIdeal.S4224x2048 .bf16) (r : Fin 4224) (k : Fin 2048) : EReal := x (ix2 r k)
abbrev B (y : FVec Ideal Cert.BODxKernelIdeal.S2048x2048 .bf16) (k : Fin 2048) (q : Fin 2048) : EReal := y (ix2 q k)

/-- The product. -/
def result (y : FVec Ideal Cert.BODxKernelIdeal.S2048x2048 .bf16) (x : FVec Ideal Cert.BODxKernelIdeal.S4224x2048 .bf16) : FVec Ideal Cert.BODxKernelIdeal.S4224x2048 .bf16 :=
  fun i => ∑ k : Fin 2048, A x (i 0) k * B y k (i 1)

section kernel
open Cert.BODxKernelIdeal Cert.BODxKernelIdeal.Gen
variable (m : (ℓ : Loc nD τ sig) → Buf (Elt Ideal) ℓ) (c : Dev nD)

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idxo : ∀ t : Fin cfg0.N, win0_2.index t = ![t.val / 2, t.val % 2] := (by decide +kernel : ∀ t : Fin grid0.N, _)

/-- The row, the column and the inner place of the blocks of point `t`. -/
def rowOf (n : ℕ) (a : Fin 1056) : Fin 4224 := Tiles.at' 4224 1056 (by omega) (n / 2) a
def colOf (n : ℕ) (b : Fin 1024) : Fin 2048 := Tiles.at' 2048 1024 (by omega) (n % 2) b
def inOf (j : ℕ) (x : Fin 2048) : Fin 2048 := Tiles.at' 2048 2048 (by omega) j x

theorem row_val (t : Fin cfg0.N) (a : Fin 1056) : (rowOf t.val a).val = t.val / 2 * 1056 + a.val := by
  have : t.val < 8 := t.isLt
  rw [rowOf, Tiles.at_val (w := 1056) (by omega) 4 rfl _ (by omega)]
theorem col_val (t : Fin cfg0.N) (b : Fin 1024) : (colOf t.val b).val = t.val % 2 * 1024 + b.val := by
  rw [colOf, Tiles.at_val (w := 1024) (by omega) 2 rfl _ (by omega)]
theorem in_val (t : Fin cfg0.N) (x : Fin 2048) : (inOf (0) x).val = x.val := by
  rw [inOf, Tiles.at_val (w := 2048) (by omega) 1 rfl _ (by omega)]; omega

theorem blk0 (t : Fin cfg0.N) (a : Fin 1056) (k : Fin 2048) :
    iblk m c 0 t (ix2 a k) = A (m ((c.tc : Thread nD τ).loc main_arg1)) (rowOf t.val a) (inOf (0) k) := by
  have h1 := row_val t a
  have h2 := in_val t k
  blk_simp [iblk]
  rw [V_main_arg1]
  refine congrArg _ (funext fun j => Fin.ext ?_)
  fin_cases j <;> blk_simp [idx0]
  · exact h1.symm
  · exact h2.symm

theorem blk1 (t : Fin cfg0.N) (b : Fin 1024) (k : Fin 2048) :
    iblk m c 1 t (ix2 b k) = B (m ((c.tc : Thread nD τ).loc main_arg0)) (inOf (0) k) (colOf t.val b) := by
  have h1 := col_val t b
  have h2 := in_val t k
  blk_simp [iblk]
  rw [V_main_arg0]
  refine congrArg _ (funext fun j => Fin.ext ?_)
  fin_cases j <;> blk_simp [idx1]
  · exact h1.symm
  · exact h2.symm

theorem embo (t : Fin cfg0.N) (a : Fin 1056) (b : Fin 1024) :
    ((View.whole main_v0).slice (win0_2.rect t)).emb (ix2 a b) = ix2 (rowOf t.val a) (colOf t.val b) := by
  have h1 := row_val t a
  have h2 := col_val t b
  refine funext fun j => Fin.ext ?_
  fin_cases j <;> blk_simp [idxo]
  · exact h1.symm
  · exact h2.symm

theorem pay (x0 : Vec Ideal S1056x2048 .bf16) (x1 : Vec Ideal S1024x2048 .bf16) (a : Fin 1056) (b : Fin 1024) :
    k0_pay1 x0 x1 (ix2 a b) = ∑ k : Fin 2048, x0 (ix2 a k) * x1 (ix2 b k) := by
  pointwise [k0_pay1]

theorem in_zero (k : Fin 2048) : inOf 0 k = k := by
  refine Fin.ext ?_
  rw [inOf, Tiles.at_val (w := 2048) (by omega) 1 rfl _ (by omega)]
  omega

theorem dot_blk (t : Fin cfg0.N) (a : Fin 1056) (b : Fin 1024) (x0 : Vec Ideal S1056x2048 .bf16) (x1 : Vec Ideal S1024x2048 .bf16)
    (h0 : x0 = iblk m c 0 t) (h1 : x1 = iblk m c 1 t) : ∑ k : Fin 2048, x0 (ix2 a k) * x1 (ix2 b k)
      = ∑ k : Fin 2048, A (m ((c.tc : Thread nD τ).loc main_arg1)) (rowOf t.val a) k * B (m ((c.tc : Thread nD τ).loc main_arg0)) k (colOf t.val b) := by
  subst h0 h1
  exact Tiles.dot_congr (fun k => (blk0 m c t a k).trans (by rw [in_zero])) (fun k => (blk1 m c t b k).trans (by rw [in_zero]))

theorem final : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨a, b, rfl⟩ : ∃ (a : Fin 1056) (b : Fin 1024), y = ix2 a b := ⟨y 0, y 1, eq_ix2 y⟩
  rw [embo, pay]
  exact dot_blk m c t a b _ _ rfl rfl

end kernel

theorem frame_kernel : Cert.quiescent_BODxKernel (hBODxKernel := Cert.BODxKernel.Gen.facts) :=
  fun m ρ _ => Cert.BODxKernel.Gen.frame m ρ

theorem frame_ideal : Cert.quiescent_BODxKernelIdeal (hBODxKernelIdeal := Cert.BODxKernelIdeal.Gen.facts) :=
  fun m ρ _ => Cert.BODxKernelIdeal.Gen.frame m ρ

theorem frame_reference : Cert.quiescent_BODxReferenceIdeal (hBODxReferenceIdeal := Cert.BODxReferenceIdeal.Gen.facts) :=
  fun m ρ _ => (θ_run Cert.BODxReferenceIdeal.defs _ _).mono
    (fun r h => ⟨fun c => (h c).2, sem_eq_zero_of_no_sems (by decide) r.2⟩) (Cert.BODxReferenceIdeal.Value.run m ρ)

theorem value : Cert.algebraic_BODxKernelIdeal_BODxReferenceIdeal (hBODxKernelIdeal := Cert.BODxKernelIdeal.Gen.facts)
    (hBODxReferenceIdeal := Cert.BODxReferenceIdeal.Gen.facts) := by
  intro m g m' g' _ hagree
  refine ⟨_, (θ_run Cert.BODxKernelIdeal.defs _ _).mono
      (fun r h c => ⟨(h c).1.trans (final m c), (h c).2⟩) (Cert.BODxKernelIdeal.Value.run_blocks m g),
    (θ_run Cert.BODxReferenceIdeal.defs _ _).mono (fun r h c => ⟨(h c).1.trans ?_, (h c).2⟩) (Cert.BODxReferenceIdeal.Value.run m' g')⟩
  rw [(hagree c).1, (hagree c).2]
  funext i
  obtain ⟨a, b, rfl⟩ : ∃ (a : Fin 4224) (b : Fin 2048), i = ix2 a b := ⟨i 0, i 1, eq_ix2 i⟩
  pointwise []
  try rfl

end Cert.Proof.BODx

end
-- ==== Proof.BODw.lean ====
/- The gradient of the attention's last product in its weight. Frames, and the kernel's result. -/
module

public import proofs.«01_k».proof.Defs
public import proofs.«01_k».proof.Proof.Gen.BODwKernel.Frame
public import proofs.«01_k».proof.Proof.Gen.BODwKernelIdeal.Value
public import proofs.«01_k».proof.Proof.Gen.BODwReferenceIdeal.Run
public import proofs.«01_k».proof.Proof.Tiles

@[expose] public section

set_option maxRecDepth 1000000

noncomputable section

namespace Cert.Proof.BODw

open Idealize.ShloMosaic Idealize.ShloMosaic.TcCoe Idealize.SL.Sem

/-- The entries of the two factors. -/
abbrev A (x : FVec Ideal Cert.BODwKernelIdeal.S4224x2048 .f32) (r : Fin 2048) (k : Fin 4224) : EReal := x (ix2 k r)
abbrev B (y : FVec Ideal Cert.BODwKernelIdeal.S4224x2048 .bf16) (k : Fin 4224) (q : Fin 2048) : EReal := y (ix2 k q)

/-- The product. -/
def result (x : FVec Ideal Cert.BODwKernelIdeal.S4224x2048 .f32) (y : FVec Ideal Cert.BODwKernelIdeal.S4224x2048 .bf16) : FVec Ideal Cert.BODwKernelIdeal.S2048x2048 .bf16 :=
  fun i => ∑ k : Fin 4224, A x (i 0) k * B y k (i 1)

section kernel
open Cert.BODwKernelIdeal Cert.BODwKernelIdeal.Gen
variable (m : (ℓ : Loc nD τ sig) → Buf (Elt Ideal) ℓ) (c : Dev nD)

theorem idx0 : ∀ t : Fin cfg0.N, win0_0.index t = ![t.val / 6, t.val % 3] := (by decide +kernel : ∀ t : Fin grid0.N, _)
theorem idx1 : ∀ t : Fin cfg0.N, win0_1.index t = ![t.val % 3, t.val / 3 % 2] := (by decide +kernel : ∀ t : Fin grid0.N, _)
theorem idxo : ∀ t : Fin cfg0.N, win0_2.index t = ![t.val / 6, t.val / 3 % 2] := (by decide +kernel : ∀ t : Fin grid0.N, _)

/-- The row, the column and the inner place of the blocks of point `t`. -/
def rowOf (n : ℕ) (a : Fin 1024) : Fin 2048 := Tiles.at' 2048 1024 (by omega) (n / 6) a
def colOf (n : ℕ) (b : Fin 1024) : Fin 2048 := Tiles.at' 2048 1024 (by omega) (n / 3 % 2) b
def inOf (j : ℕ) (x : Fin 1408) : Fin 4224 := Tiles.at' 4224 1408 (by omega) j x

theorem row_val (t : Fin cfg0.N) (a : Fin 1024) : (rowOf t.val a).val = t.val / 6 * 1024 + a.val := by
  have : t.val < 12 := t.isLt
  rw [rowOf, Tiles.at_val (w := 1024) (by omega) 2 rfl _ (by omega)]
theorem col_val (t : Fin cfg0.N) (b : Fin 1024) : (colOf t.val b).val = t.val / 3 % 2 * 1024 + b.val := by
  rw [colOf, Tiles.at_val (w := 1024) (by omega) 2 rfl _ (by omega)]
theorem in_val (t : Fin cfg0.N) (x : Fin 1408) : (inOf (t.val % 3) x).val = t.val % 3 * 1408 + x.val := by
  rw [inOf, Tiles.at_val (w := 1408) (by omega) 3 rfl _ (by omega)]

theorem V_a : V m c main_v1 = transpose S2048x4224 [1, 0] (truncf .bf16 (m ((c.tc : Thread nD τ).loc main_arg0) : FVec Ideal S4224x2048 .f32) bitsLt_bf16_f32 : FVec Ideal S4224x2048 .bf16) transposes_S4224x2048_S2048x4224_1_0 := by
  simp only [V, hostOps0]
  after_results_simp <;> rfl

theorem blk0 (t : Fin cfg0.N) (a : Fin 1024) (k : Fin 1408) :
    iblk m c 0 t (ix2 a k) = A (m ((c.tc : Thread nD τ).loc main_arg0)) (rowOf t.val a) (inOf (t.val % 3) k) := by
  have h1 := row_val t a
  have h2 := in_val t k
  blk_simp [iblk]
  rw [V_a]
  refine (congrArg _ (?_ : _ = ix2 (rowOf t.val a) (inOf (t.val % 3) k))).trans (by pointwise [])
  refine funext fun j => Fin.ext ?_
  fin_cases j <;> blk_simp [idx0]
  · exact h1.symm
  · exact h2.symm

theorem blk1 (t : Fin cfg0.N) (b : Fin 1024) (k : Fin 1408) :
    iblk m c 1 t (ix2 k b) = B (m ((c.tc : Thread nD τ).loc main_arg1)) (inOf (t.val % 3) k) (colOf t.val b) := by
  have h1 := col_val t b
  have h2 := in_val t k
  blk_simp [iblk]
  rw [V_main_arg1]
  refine congrArg _ (funext fun j => Fin.ext ?_)
  fin_cases j <;> blk_simp [idx1]
  · exact h2.symm
  · exact h1.symm

theorem embo (t : Fin cfg0.N) (a : Fin 1024) (b : Fin 1024) :
    ((View.whole main_v2).slice (win0_2.rect t)).emb (ix2 a b) = ix2 (rowOf t.val a) (colOf t.val b) := by
  have h1 := row_val t a
  have h2 := col_val t b
  refine funext fun j => Fin.ext ?_
  fin_cases j <;> blk_simp [idxo]
  · exact h1.symm
  · exact h2.symm

theorem pay1 (x0 : Vec Ideal S1024x1408 .bf16) (x1 : Vec Ideal S1408x1024 .bf16) (a : Fin 1024) (b : Fin 1024) :
    k0_pay1 x0 x1 (ix2 a b) = ∑ k : Fin 1408, x0 (ix2 a k) * x1 (ix2 k b) := by
  pointwise [k0_pay1]

theorem pay2 (x0 : Vec Ideal S1024x1408 .bf16) (x1 : Vec Ideal S1408x1024 .bf16) (a : Fin 1024) (b : Fin 1024) :
    k0_pay2 x0 x1 (ix2 a b) = ∑ k : Fin 1408, x0 (ix2 a k) * x1 (ix2 k b) := by
  rw [← pay1]; pointwise [k0_pay2]

theorem pay3 (x0 : Vec Ideal S1024x1408 .bf16) (x1 : Vec Ideal S1408x1024 .bf16) (s : Vec Ideal S1024x1024 .f32) (a : Fin 1024) (b : Fin 1024) :
    k0_pay3 x0 x1 s (ix2 a b) = s (ix2 a b) + ∑ k : Fin 1408, x0 (ix2 a k) * x1 (ix2 k b) := by
  rw [← pay1]; pointwise [k0_pay3]

/-- Tile `j` of the sum. -/
def part (n : ℕ) (a : Fin 1024) (b : Fin 1024) (j : ℕ) : EReal :=
  ∑ k : Fin 1408, A (m ((c.tc : Thread nD τ).loc main_arg0)) (rowOf n a) (inOf j k) * B (m ((c.tc : Thread nD τ).loc main_arg1)) (inOf j k) (colOf n b)

theorem dot_blk (t : Fin cfg0.N) (a : Fin 1024) (b : Fin 1024) (x0 : Vec Ideal S1024x1408 .bf16) (x1 : Vec Ideal S1408x1024 .bf16)
    (h0 : x0 = iblk m c 0 t) (h1 : x1 = iblk m c 1 t) :
    ∑ k : Fin 1408, x0 (ix2 a k) * x1 (ix2 k b) = part m c t.val a b (t.val % 3) := by
  subst h0 h1
  exact Tiles.dot_congr (fun k => blk0 m c t a k) (fun k => blk1 m c t b k)

/-- What the accumulator holds after point `n`: the tiles so far. -/
theorem acc (n : ℕ) : ∀ (hn : n < cfg0.N) (a : Fin 1024) (b : Fin 1024),
    (outsAt0 m c n hn).2 (ix2 a b) = ∑ j ∈ Finset.range (n % 3 + 1), part m c n a b j := by
  induction n using Nat.strong_induction_on with
  | _ n ih =>
  intro hn a b
  have hN : n < 12 := hn
  by_cases h0 : n % 3 = 0
  · rw [outsAt0_A m c ⟨n, hn⟩ h0 (by show ¬1 ≤ n % 3; omega) (by show ¬n % 3 = 2; omega)]
    dsimp only
    frame_out
    rw [h0, zero_add, Finset.sum_range_one]
    exact (pay2 _ _ a b).trans ((dot_blk m c ⟨n, hn⟩ a b _ _ rfl rfl).trans (by rw [show (⟨n, hn⟩ : Fin cfg0.N).val = n from rfl, h0]))
  · have e1 : rowOf (n - 1) a = rowOf n a := congrArg (fun z => Tiles.at' 2048 1024 _ z a) (show (n - 1) / 6 = n / 6 by omega)
    have e2 : colOf (n - 1) b = colOf n b := congrArg (fun z => Tiles.at' 2048 1024 _ z b) (show (n - 1) / 3 % 2 = n / 3 % 2 by omega)
    have e3 : (n - 1) % 3 + 1 = n % 3 := by omega
    have ih' := ih (n - 1) (by omega) (by omega) a b
    rw [e3] at ih'
    have e4 : ∀ j, part m c (n - 1) a b j = part m c n a b j := fun j => by unfold part; rw [e1, e2]
    simp only [e4] at ih'
    rw [Finset.sum_range_succ, ← ih', ← dot_blk m c ⟨n, hn⟩ a b _ _ rfl rfl]
    by_cases h2 : n % 3 = 2
    · rw [outsAt0_C m c ⟨n, hn⟩ h0 (by show 1 ≤ n % 3; omega) h2]
      dsimp only
      frame_out
      exact (pay3 _ _ _ a b).trans (congrArg (· + _) (congrFun ((Memref.isWhole_whole cc0_scratch0).read_unread _) _))
    · rw [outsAt0_B m c ⟨n, hn⟩ h0 (by show 1 ≤ n % 3; omega) h2]
      dsimp only
      frame_out
      exact (pay3 _ _ _ a b).trans (congrArg (· + _) (congrFun ((Memref.isWhole_whole cc0_scratch0).read_unread _) _))

/-- What the last point of a sum stores. -/
theorem last (t : Fin cfg0.N) (h2 : t.val % 3 = 2) (a : Fin 1024) (b : Fin 1024) :
    (outsAt0 m c t.val t.isLt).1 (ix2 a b) = ∑ k : Fin 4224, A (m ((c.tc : Thread nD τ).loc main_arg0)) (rowOf t.val a) k * B (m ((c.tc : Thread nD τ).loc main_arg1)) k (colOf t.val b) := by
  have h := acc m c t.val t.isLt a b
  rw [h2] at h
  rw [← Tiles.sum_tiles (w := 1408) (by omega) 3 rfl (fun k => A (m ((c.tc : Thread nD τ).loc main_arg0)) (rowOf t.val a) k * B (m ((c.tc : Thread nD τ).loc main_arg1)) k (colOf t.val b))]
  refine Eq.trans ?_ h
  rw [outsAt0_C m c t (by omega) (by omega) h2]
  dsimp only
  frame_out

  pointwise [k0_pay4]
  try rfl

theorem final : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  blk_simp
  rw [after0_2]
  have h2 : t.val % 3 = 2 := by
    have := (by decide +kernel : ∀ t : Fin grid0.N, (cfg0.win 2).flush t = true → t.val % 3 = 2) t hf
    exact this
  obtain ⟨a, b, rfl⟩ : ∃ (a : Fin 1024) (b : Fin 1024), y = ix2 a b := ⟨y 0, y 1, eq_ix2 y⟩
  rw [embo]
  exact last m c t h2 a b

end kernel

theorem frame_kernel : Cert.quiescent_BODwKernel (hBODwKernel := Cert.BODwKernel.Gen.facts) :=
  fun m ρ _ => Cert.BODwKernel.Gen.frame m ρ

theorem frame_ideal : Cert.quiescent_BODwKernelIdeal (hBODwKernelIdeal := Cert.BODwKernelIdeal.Gen.facts) :=
  fun m ρ _ => Cert.BODwKernelIdeal.Gen.frame m ρ

theorem frame_reference : Cert.quiescent_BODwReferenceIdeal (hBODwReferenceIdeal := Cert.BODwReferenceIdeal.Gen.facts) :=
  fun m ρ _ => (θ_run Cert.BODwReferenceIdeal.defs _ _).mono
    (fun r h => ⟨fun c => (h c).2, sem_eq_zero_of_no_sems (by decide) r.2⟩) (Cert.BODwReferenceIdeal.Value.run m ρ)

theorem value : Cert.algebraic_BODwKernelIdeal_BODwReferenceIdeal (hBODwKernelIdeal := Cert.BODwKernelIdeal.Gen.facts)
    (hBODwReferenceIdeal := Cert.BODwReferenceIdeal.Gen.facts) := by
  intro m g m' g' _ hagree
  refine ⟨_, (θ_run Cert.BODwKernelIdeal.defs _ _).mono
      (fun r h c => ⟨(h c).1.trans (final m c), (h c).2⟩) (Cert.BODwKernelIdeal.Value.run_blocks m g),
    (θ_run Cert.BODwReferenceIdeal.defs _ _).mono (fun r h c => ⟨(h c).1.trans ?_, (h c).2⟩) (Cert.BODwReferenceIdeal.Value.run m' g')⟩
  rw [(hagree c).1, (hagree c).2]
  funext i
  obtain ⟨a, b, rfl⟩ : ∃ (a : Fin 2048) (b : Fin 2048), i = ix2 a b := ⟨i 0, i 1, eq_ix2 i⟩
  pointwise []
  exact Finset.sum_congr rfl fun k _ => mul_comm _ _

end Cert.Proof.BODw

end
-- ==== Proof.KvDx.lean ====
/- The gradient of the product of the keys and values in its first factor. Frames, and the kernel's result. -/
module

public import proofs.«01_k».proof.Defs
public import proofs.«01_k».proof.Proof.Gen.KvDxKernel.Frame
public import proofs.«01_k».proof.Proof.Gen.KvDxKernelIdeal.Value
public import proofs.«01_k».proof.Proof.Gen.KvDxReferenceIdeal.Run
public import proofs.«01_k».proof.Proof.Tiles

@[expose] public section

set_option maxRecDepth 1000000

noncomputable section

namespace Cert.Proof.KvDx

open Idealize.ShloMosaic Idealize.ShloMosaic.TcCoe Idealize.SL.Sem

/-- The entries of the two factors. -/
abbrev A (x : FVec Ideal Cert.KvDxKernelIdeal.S2x4224x2048 .bf16) (r : Fin 4224) (k : Fin 4096) : EReal := x (ix3 ⟨k.val / 2048, by have := k.isLt; omega⟩ r ⟨k.val % 2048, by omega⟩)
abbrev B (y : FVec Ideal Cert.KvDxKernelIdeal.S2048x4096 .bf16) (k : Fin 4096) (q : Fin 2048) : EReal := y (ix2 q k)

theorem A_part (x : FVec Ideal Cert.KvDxKernelIdeal.S2x4224x2048 .bf16) (r : Fin 4224) (p : Fin 2) (q : Fin 2048) (k : Fin 4096) (h : k.val = p.val * 2048 + q.val) :
    x (ix3 p r q) = A x r k := by
  have hq := q.isLt
  exact congrArg₂ (fun u v => x (ix3 u r v)) (Fin.ext (by show p.val = k.val / 2048; omega)) (Fin.ext (by show q.val = k.val % 2048; omega))

/-- The product. -/
def result (y : FVec Ideal Cert.KvDxKernelIdeal.S2048x4096 .bf16) (x : FVec Ideal Cert.KvDxKernelIdeal.S2x4224x2048 .bf16) : FVec Ideal Cert.KvDxKernelIdeal.S4224x2048 .f32 :=
  fun i => ∑ k : Fin 4096, A x (i 0) k * B y k (i 1)

section kernel
open Cert.KvDxKernelIdeal Cert.KvDxKernelIdeal.Gen
variable (m : (ℓ : Loc nD τ sig) → Buf (Elt Ideal) ℓ) (c : Dev nD)

theorem idx0 : ∀ t : Fin cfg0.N, win0_0.index t = ![(t.val % 2) / 1, t.val / 4, (t.val % 2) % 1] := (by decide +kernel : ∀ t : Fin grid0.N, _)
theorem idx1 : ∀ t : Fin cfg0.N, win0_1.index t = ![t.val / 2 % 2, t.val % 2] := (by decide +kernel : ∀ t : Fin grid0.N, _)
theorem idxo : ∀ t : Fin cfg0.N, win0_2.index t = ![t.val / 4, t.val / 2 % 2] := (by decide +kernel : ∀ t : Fin grid0.N, _)

/-- The row, the column and the inner place of the blocks of point `t`. -/
def rowOf (n : ℕ) (a : Fin 1056) : Fin 4224 := Tiles.at' 4224 1056 (by omega) (n / 4) a
def colOf (n : ℕ) (b : Fin 1024) : Fin 2048 := Tiles.at' 2048 1024 (by omega) (n / 2 % 2) b
def inOf (j : ℕ) (x : Fin 2048) : Fin 4096 := Tiles.at' 4096 2048 (by omega) j x

theorem row_val (t : Fin cfg0.N) (a : Fin 1056) : (rowOf t.val a).val = t.val / 4 * 1056 + a.val := by
  have : t.val < 16 := t.isLt
  rw [rowOf, Tiles.at_val (w := 1056) (by omega) 4 rfl _ (by omega)]
theorem col_val (t : Fin cfg0.N) (b : Fin 1024) : (colOf t.val b).val = t.val / 2 % 2 * 1024 + b.val := by
  rw [colOf, Tiles.at_val (w := 1024) (by omega) 2 rfl _ (by omega)]
theorem in_val (t : Fin cfg0.N) (x : Fin 2048) : (inOf (t.val % 2) x).val = t.val % 2 * 2048 + x.val := by
  rw [inOf, Tiles.at_val (w := 2048) (by omega) 2 rfl _ (by omega)]

theorem blk0 (t : Fin cfg0.N) (a : Fin 1056) (k : Fin 2048) :
    iblk m c 0 t (ix3 0 a k) = A (m ((c.tc : Thread nD τ).loc main_arg1)) (rowOf t.val a) (inOf (t.val % 2) k) := by
  have h1 := row_val t a
  have h2 := in_val t k
  have hk := k.isLt
  have ht : t.val < 16 := t.isLt
  blk_simp [iblk]
  rw [V_main_arg1]
  refine congrArg _ (funext fun j => Fin.ext ?_)
  fin_cases j <;> blk_simp [idx0]
  · show _ = (inOf (t.val % 2) k).val / 2048
    rw [h2]; omega
  · exact h1.symm
  · show t.val % 2 % 1 * 2048 + k.val = (inOf (t.val % 2) k).val % 2048
    rw [h2]; omega

theorem blk1 (t : Fin cfg0.N) (b : Fin 1024) (k : Fin 2048) :
    iblk m c 1 t (ix2 b k) = B (m ((c.tc : Thread nD τ).loc main_arg0)) (inOf (t.val % 2) k) (colOf t.val b) := by
  have h1 := col_val t b
  have h2 := in_val t k
  blk_simp [iblk]
  rw [V_main_arg0]
  refine congrArg _ (funext fun j => Fin.ext ?_)
  fin_cases j <;> blk_simp [idx1]
  · exact h1.symm
  · exact h2.symm

theorem embo (t : Fin cfg0.N) (a : Fin 1056) (b : Fin 1024) :
    ((View.whole main_v0).slice (win0_2.rect t)).emb (ix2 a b) = ix2 (rowOf t.val a) (colOf t.val b) := by
  have h1 := row_val t a
  have h2 := col_val t b
  refine funext fun j => Fin.ext ?_
  fin_cases j <;> blk_simp [idxo]
  · exact h1.symm
  · exact h2.symm

theorem pay1 (x0 : Vec Ideal S1x1056x2048 .bf16) (x1 : Vec Ideal S1024x2048 .bf16) (a : Fin 1056) (b : Fin 1024) :
    k0_pay1 x0 x1 (ix2 a b) = ∑ k : Fin 2048, x0 (ix3 0 a k) * x1 (ix2 b k) := by
  pointwise [k0_pay1]

theorem pay2 (x0 : Vec Ideal S1x1056x2048 .bf16) (x1 : Vec Ideal S1024x2048 .bf16) (a : Fin 1056) (b : Fin 1024) :
    k0_pay2 x0 x1 (ix2 a b) = ∑ k : Fin 2048, x0 (ix3 0 a k) * x1 (ix2 b k) := by
  rw [← pay1]; pointwise [k0_pay2]

theorem pay3 (x0 : Vec Ideal S1x1056x2048 .bf16) (x1 : Vec Ideal S1024x2048 .bf16) (s : Vec Ideal S1056x1024 .f32) (a : Fin 1056) (b : Fin 1024) :
    k0_pay3 x0 x1 s (ix2 a b) = s (ix2 a b) + ∑ k : Fin 2048, x0 (ix3 0 a k) * x1 (ix2 b k) := by
  rw [← pay1]; pointwise [k0_pay3]

/-- Tile `j` of the sum. -/
def part (n : ℕ) (a : Fin 1056) (b : Fin 1024) (j : ℕ) : EReal :=
  ∑ k : Fin 2048, A (m ((c.tc : Thread nD τ).loc main_arg1)) (rowOf n a) (inOf j k) * B (m ((c.tc : Thread nD τ).loc main_arg0)) (inOf j k) (colOf n b)

theorem dot_blk (t : Fin cfg0.N) (a : Fin 1056) (b : Fin 1024) (x0 : Vec Ideal S1x1056x2048 .bf16) (x1 : Vec Ideal S1024x2048 .bf16)
    (h0 : x0 = iblk m c 0 t) (h1 : x1 = iblk m c 1 t) :
    ∑ k : Fin 2048, x0 (ix3 0 a k) * x1 (ix2 b k) = part m c t.val a b (t.val % 2) := by
  subst h0 h1
  exact Tiles.dot_congr (fun k => blk0 m c t a k) (fun k => blk1 m c t b k)

/-- What the accumulator holds after point `n`: the tiles so far. -/
theorem acc (n : ℕ) : ∀ (hn : n < cfg0.N) (a : Fin 1056) (b : Fin 1024),
    (outsAt0 m c n hn).2 (ix2 a b) = ∑ j ∈ Finset.range (n % 2 + 1), part m c n a b j := by
  induction n using Nat.strong_induction_on with
  | _ n ih =>
  intro hn a b
  have hN : n < 16 := hn
  by_cases h0 : n % 2 = 0
  · rw [outsAt0_A m c ⟨n, hn⟩ h0 (by show ¬n % 2 = 1; omega) (by show ¬n % 2 = 1; omega)]
    dsimp only
    frame_out
    rw [h0, zero_add, Finset.sum_range_one]
    exact (pay2 _ _ a b).trans ((dot_blk m c ⟨n, hn⟩ a b _ _ rfl rfl).trans (by rw [show (⟨n, hn⟩ : Fin cfg0.N).val = n from rfl, h0]))
  · have e1 : rowOf (n - 1) a = rowOf n a := congrArg (fun z => Tiles.at' 4224 1056 _ z a) (show (n - 1) / 4 = n / 4 by omega)
    have e2 : colOf (n - 1) b = colOf n b := congrArg (fun z => Tiles.at' 2048 1024 _ z b) (show (n - 1) / 2 % 2 = n / 2 % 2 by omega)
    have e3 : (n - 1) % 2 + 1 = n % 2 := by omega
    have ih' := ih (n - 1) (by omega) (by omega) a b
    rw [e3] at ih'
    have e4 : ∀ j, part m c (n - 1) a b j = part m c n a b j := fun j => by unfold part; rw [e1, e2]
    simp only [e4] at ih'
    rw [Finset.sum_range_succ, ← ih', ← dot_blk m c ⟨n, hn⟩ a b _ _ rfl rfl]
    · rw [outsAt0_B m c ⟨n, hn⟩ h0 (by show n % 2 = 1; omega) (by show n % 2 = 1; omega)]
      dsimp only
      frame_out
      exact (pay3 _ _ _ a b).trans (congrArg (· + _) (congrFun ((Memref.isWhole_whole cc0_scratch0).read_unread _) _))

/-- What the last point of a sum stores. -/
theorem last (t : Fin cfg0.N) (h2 : t.val % 2 = 1) (a : Fin 1056) (b : Fin 1024) :
    (outsAt0 m c t.val t.isLt).1 (ix2 a b) = ∑ k : Fin 4096, A (m ((c.tc : Thread nD τ).loc main_arg1)) (rowOf t.val a) k * B (m ((c.tc : Thread nD τ).loc main_arg0)) k (colOf t.val b) := by
  have h := acc m c t.val t.isLt a b
  rw [h2] at h
  rw [← Tiles.sum_tiles (w := 2048) (by omega) 2 rfl (fun k => A (m ((c.tc : Thread nD τ).loc main_arg1)) (rowOf t.val a) k * B (m ((c.tc : Thread nD τ).loc main_arg0)) k (colOf t.val b))]
  refine Eq.trans ?_ h
  rw [outsAt0_B m c t (by omega) (by omega) h2]
  dsimp only
  frame_out

  try rfl

theorem final : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  blk_simp
  rw [after0_2]
  have h2 : t.val % 2 = 1 := by
    have := (by decide +kernel : ∀ t : Fin grid0.N, (cfg0.win 2).flush t = true → t.val % 2 = 1) t hf
    exact this
  obtain ⟨a, b, rfl⟩ : ∃ (a : Fin 1056) (b : Fin 1024), y = ix2 a b := ⟨y 0, y 1, eq_ix2 y⟩
  rw [embo]
  exact last m c t h2 a b

end kernel

theorem sides (x : FVec Ideal Cert.KvDxKernelIdeal.S2x4224x2048 .bf16) (y : FVec Ideal Cert.KvDxKernelIdeal.S2048x4096 .bf16) (a : Fin 4224) (b : Fin 2048) :
    (∑ k : Fin 2048, x (ix3 0 a k) * y (ix2 b ⟨k.val, by have := k.isLt; omega⟩))
      + ∑ k : Fin 2048, x (ix3 1 a k) * y (ix2 b ⟨2048 + k.val, by have := k.isLt; omega⟩) = ∑ k : Fin 4096, A x a k * B y k b := by
  refine Eq.trans ?_ (Tiles.sum_two (p := 2048) rfl (fun k : Fin 4096 => A x a k * B y k b))
  exact congrArg₂ (· + ·) (Tiles.dot_congr (fun k => A_part x a 0 k _ (by simp)) fun _ => rfl)
    (Tiles.dot_congr (fun k => A_part x a 1 k _ (by simp)) fun _ => rfl)

theorem frame_kernel : Cert.quiescent_KvDxKernel (hKvDxKernel := Cert.KvDxKernel.Gen.facts) :=
  fun m ρ _ => Cert.KvDxKernel.Gen.frame m ρ

theorem frame_ideal : Cert.quiescent_KvDxKernelIdeal (hKvDxKernelIdeal := Cert.KvDxKernelIdeal.Gen.facts) :=
  fun m ρ _ => Cert.KvDxKernelIdeal.Gen.frame m ρ

theorem frame_reference : Cert.quiescent_KvDxReferenceIdeal (hKvDxReferenceIdeal := Cert.KvDxReferenceIdeal.Gen.facts) :=
  fun m ρ _ => (θ_run Cert.KvDxReferenceIdeal.defs _ _).mono
    (fun r h => ⟨fun c => (h c).2, sem_eq_zero_of_no_sems (by decide) r.2⟩) (Cert.KvDxReferenceIdeal.Value.run m ρ)

theorem value : Cert.algebraic_KvDxKernelIdeal_KvDxReferenceIdeal (hKvDxKernelIdeal := Cert.KvDxKernelIdeal.Gen.facts)
    (hKvDxReferenceIdeal := Cert.KvDxReferenceIdeal.Gen.facts) := by
  intro m g m' g' _ hagree
  refine ⟨_, (θ_run Cert.KvDxKernelIdeal.defs _ _).mono
      (fun r h c => ⟨(h c).1.trans (final m c), (h c).2⟩) (Cert.KvDxKernelIdeal.Value.run_blocks m g),
    (θ_run Cert.KvDxReferenceIdeal.defs _ _).mono (fun r h c => ⟨(h c).1.trans ?_, (h c).2⟩) (Cert.KvDxReferenceIdeal.Value.run m' g')⟩
  rw [(hagree c).1, (hagree c).2]
  funext i
  obtain ⟨a, b, rfl⟩ : ∃ (a : Fin 4224) (b : Fin 2048), i = ix2 a b := ⟨i 0, i 1, eq_ix2 i⟩
  pointwise []
  exact sides _ _ a b

end Cert.Proof.KvDx

end
-- ==== Proof.KvDw.lean ====
/- The gradient of the product of the keys and values in its weight. Frames, and the kernel's result. -/
module

public import proofs.«01_k».proof.Defs
public import proofs.«01_k».proof.Proof.Gen.KvDwKernel.Frame
public import proofs.«01_k».proof.Proof.Gen.KvDwKernelIdeal.Value
public import proofs.«01_k».proof.Proof.Gen.KvDwReferenceIdeal.Run
public import proofs.«01_k».proof.Proof.Tiles

@[expose] public section

set_option maxRecDepth 1000000

noncomputable section

namespace Cert.Proof.KvDw

open Idealize.ShloMosaic Idealize.ShloMosaic.TcCoe Idealize.SL.Sem

/-- The entries of the two factors. -/
abbrev A (x : FVec Ideal Cert.KvDwKernelIdeal.S4224x2048 .bf16) (r : Fin 2048) (k : Fin 4224) : EReal := x (ix2 k r)
abbrev B (y : FVec Ideal Cert.KvDwKernelIdeal.S2x4224x2048 .bf16) (k : Fin 4224) (q : Fin 4096) : EReal := y (ix3 ⟨q.val / 2048, by have := q.isLt; omega⟩ k ⟨q.val % 2048, by omega⟩)

theorem B_part (y : FVec Ideal Cert.KvDwKernelIdeal.S2x4224x2048 .bf16) (k : Fin 4224) (p : Fin 2) (q : Fin 2048) (j : Fin 4096) (h : j.val = p.val * 2048 + q.val) :
    y (ix3 p k q) = B y k j := by
  have hq := q.isLt
  exact congrArg₂ (fun u v => y (ix3 u k v)) (Fin.ext (by show p.val = j.val / 2048; omega)) (Fin.ext (by show q.val = j.val % 2048; omega))

/-- The product. -/
def result (x : FVec Ideal Cert.KvDwKernelIdeal.S4224x2048 .bf16) (y : FVec Ideal Cert.KvDwKernelIdeal.S2x4224x2048 .bf16) : FVec Ideal Cert.KvDwKernelIdeal.S2048x4096 .bf16 :=
  fun i => ∑ k : Fin 4224, A x (i 0) k * B y k (i 1)

section kernel
open Cert.KvDwKernelIdeal Cert.KvDwKernelIdeal.Gen
variable (m : (ℓ : Loc nD τ sig) → Buf (Elt Ideal) ℓ) (c : Dev nD)

theorem idx0 : ∀ t : Fin cfg0.N, win0_0.index t = ![t.val / 12, t.val % 3] := (by decide +kernel : ∀ t : Fin grid0.N, _)
theorem idx1 : ∀ t : Fin cfg0.N, win0_1.index t = ![(t.val / 3 % 4) / 2, t.val % 3, (t.val / 3 % 4) % 2] := (by decide +kernel : ∀ t : Fin grid0.N, _)
theorem idxo : ∀ t : Fin cfg0.N, win0_2.index t = ![t.val / 12, t.val / 3 % 4] := (by decide +kernel : ∀ t : Fin grid0.N, _)

/-- The row, the column and the inner place of the blocks of point `t`. -/
def rowOf (n : ℕ) (a : Fin 1024) : Fin 2048 := Tiles.at' 2048 1024 (by omega) (n / 12) a
def colOf (n : ℕ) (b : Fin 1024) : Fin 4096 := Tiles.at' 4096 1024 (by omega) (n / 3 % 4) b
def inOf (j : ℕ) (x : Fin 1408) : Fin 4224 := Tiles.at' 4224 1408 (by omega) j x

theorem row_val (t : Fin cfg0.N) (a : Fin 1024) : (rowOf t.val a).val = t.val / 12 * 1024 + a.val := by
  have : t.val < 24 := t.isLt
  rw [rowOf, Tiles.at_val (w := 1024) (by omega) 2 rfl _ (by omega)]
theorem col_val (t : Fin cfg0.N) (b : Fin 1024) : (colOf t.val b).val = t.val / 3 % 4 * 1024 + b.val := by
  rw [colOf, Tiles.at_val (w := 1024) (by omega) 4 rfl _ (by omega)]
theorem in_val (t : Fin cfg0.N) (x : Fin 1408) : (inOf (t.val % 3) x).val = t.val % 3 * 1408 + x.val := by
  rw [inOf, Tiles.at_val (w := 1408) (by omega) 3 rfl _ (by omega)]

theorem V_a : V m c main_v0 = transpose S2048x4224 [1, 0] (m ((c.tc : Thread nD τ).loc main_arg0)) transposes_S4224x2048_S2048x4224_1_0 := by
  simp only [V, hostOps0]
  after_results_simp <;> rfl

theorem blk0 (t : Fin cfg0.N) (a : Fin 1024) (k : Fin 1408) :
    iblk m c 0 t (ix2 a k) = A (m ((c.tc : Thread nD τ).loc main_arg0)) (rowOf t.val a) (inOf (t.val % 3) k) := by
  have h1 := row_val t a
  have h2 := in_val t k
  blk_simp [iblk]
  rw [V_a]
  refine (congrArg _ (?_ : _ = ix2 (rowOf t.val a) (inOf (t.val % 3) k))).trans (by pointwise [])
  refine funext fun j => Fin.ext ?_
  fin_cases j <;> blk_simp [idx0]
  · exact h1.symm
  · exact h2.symm

theorem blk1 (t : Fin cfg0.N) (b : Fin 1024) (k : Fin 1408) :
    iblk m c 1 t (ix3 0 k b) = B (m ((c.tc : Thread nD τ).loc main_arg1)) (inOf (t.val % 3) k) (colOf t.val b) := by
  have h1 := col_val t b
  have h2 := in_val t k
  have hb := b.isLt
  have ht : t.val < 24 := t.isLt
  blk_simp [iblk]
  rw [V_main_arg1]
  refine congrArg _ (funext fun j => Fin.ext ?_)
  fin_cases j <;> blk_simp [idx1]
  · show _ = (colOf t.val b).val / 2048
    rw [h1]; omega
  · exact h2.symm
  · show t.val / 3 % 4 % 2 * 1024 + b.val = (colOf t.val b).val % 2048
    rw [h1]; omega

theorem embo (t : Fin cfg0.N) (a : Fin 1024) (b : Fin 1024) :
    ((View.whole main_v1).slice (win0_2.rect t)).emb (ix2 a b) = ix2 (rowOf t.val a) (colOf t.val b) := by
  have h1 := row_val t a
  have h2 := col_val t b
  refine funext fun j => Fin.ext ?_
  fin_cases j <;> blk_simp [idxo]
  · exact h1.symm
  · exact h2.symm

theorem pay1 (x0 : Vec Ideal S1024x1408 .bf16) (x1 : Vec Ideal S1x1408x1024 .bf16) (a : Fin 1024) (b : Fin 1024) :
    k0_pay1 x0 x1 (ix2 a b) = ∑ k : Fin 1408, x0 (ix2 a k) * x1 (ix3 0 k b) := by
  pointwise [k0_pay1]

theorem pay2 (x0 : Vec Ideal S1024x1408 .bf16) (x1 : Vec Ideal S1x1408x1024 .bf16) (a : Fin 1024) (b : Fin 1024) :
    k0_pay2 x0 x1 (ix2 a b) = ∑ k : Fin 1408, x0 (ix2 a k) * x1 (ix3 0 k b) := by
  rw [← pay1]; pointwise [k0_pay2]

theorem pay3 (x0 : Vec Ideal S1024x1408 .bf16) (x1 : Vec Ideal S1x1408x1024 .bf16) (s : Vec Ideal S1024x1024 .f32) (a : Fin 1024) (b : Fin 1024) :
    k0_pay3 x0 x1 s (ix2 a b) = s (ix2 a b) + ∑ k : Fin 1408, x0 (ix2 a k) * x1 (ix3 0 k b) := by
  rw [← pay1]; pointwise [k0_pay3]

/-- Tile `j` of the sum. -/
def part (n : ℕ) (a : Fin 1024) (b : Fin 1024) (j : ℕ) : EReal :=
  ∑ k : Fin 1408, A (m ((c.tc : Thread nD τ).loc main_arg0)) (rowOf n a) (inOf j k) * B (m ((c.tc : Thread nD τ).loc main_arg1)) (inOf j k) (colOf n b)

theorem dot_blk (t : Fin cfg0.N) (a : Fin 1024) (b : Fin 1024) (x0 : Vec Ideal S1024x1408 .bf16) (x1 : Vec Ideal S1x1408x1024 .bf16)
    (h0 : x0 = iblk m c 0 t) (h1 : x1 = iblk m c 1 t) :
    ∑ k : Fin 1408, x0 (ix2 a k) * x1 (ix3 0 k b) = part m c t.val a b (t.val % 3) := by
  subst h0 h1
  exact Tiles.dot_congr (fun k => blk0 m c t a k) (fun k => blk1 m c t b k)

/-- What the accumulator holds after point `n`: the tiles so far. -/
theorem acc (n : ℕ) : ∀ (hn : n < cfg0.N) (a : Fin 1024) (b : Fin 1024),
    (outsAt0 m c n hn).2 (ix2 a b) = ∑ j ∈ Finset.range (n % 3 + 1), part m c n a b j := by
  induction n using Nat.strong_induction_on with
  | _ n ih =>
  intro hn a b
  have hN : n < 24 := hn
  by_cases h0 : n % 3 = 0
  · rw [outsAt0_A m c ⟨n, hn⟩ h0 (by show ¬1 ≤ n % 3; omega) (by show ¬n % 3 = 2; omega)]
    dsimp only
    frame_out
    rw [h0, zero_add, Finset.sum_range_one]
    exact (pay2 _ _ a b).trans ((dot_blk m c ⟨n, hn⟩ a b _ _ rfl rfl).trans (by rw [show (⟨n, hn⟩ : Fin cfg0.N).val = n from rfl, h0]))
  · have e1 : rowOf (n - 1) a = rowOf n a := congrArg (fun z => Tiles.at' 2048 1024 _ z a) (show (n - 1) / 12 = n / 12 by omega)
    have e2 : colOf (n - 1) b = colOf n b := congrArg (fun z => Tiles.at' 4096 1024 _ z b) (show (n - 1) / 3 % 4 = n / 3 % 4 by omega)
    have e3 : (n - 1) % 3 + 1 = n % 3 := by omega
    have ih' := ih (n - 1) (by omega) (by omega) a b
    rw [e3] at ih'
    have e4 : ∀ j, part m c (n - 1) a b j = part m c n a b j := fun j => by unfold part; rw [e1, e2]
    simp only [e4] at ih'
    rw [Finset.sum_range_succ, ← ih', ← dot_blk m c ⟨n, hn⟩ a b _ _ rfl rfl]
    by_cases h2 : n % 3 = 2
    · rw [outsAt0_C m c ⟨n, hn⟩ h0 (by show 1 ≤ n % 3; omega) h2]
      dsimp only
      frame_out
      exact (pay3 _ _ _ a b).trans (congrArg (· + _) (congrFun ((Memref.isWhole_whole cc0_scratch0).read_unread _) _))
    · rw [outsAt0_B m c ⟨n, hn⟩ h0 (by show 1 ≤ n % 3; omega) h2]
      dsimp only
      frame_out
      exact (pay3 _ _ _ a b).trans (congrArg (· + _) (congrFun ((Memref.isWhole_whole cc0_scratch0).read_unread _) _))

/-- What the last point of a sum stores. -/
theorem last (t : Fin cfg0.N) (h2 : t.val % 3 = 2) (a : Fin 1024) (b : Fin 1024) :
    (outsAt0 m c t.val t.isLt).1 (ix2 a b) = ∑ k : Fin 4224, A (m ((c.tc : Thread nD τ).loc main_arg0)) (rowOf t.val a) k * B (m ((c.tc : Thread nD τ).loc main_arg1)) k (colOf t.val b) := by
  have h := acc m c t.val t.isLt a b
  rw [h2] at h
  rw [← Tiles.sum_tiles (w := 1408) (by omega) 3 rfl (fun k => A (m ((c.tc : Thread nD τ).loc main_arg0)) (rowOf t.val a) k * B (m ((c.tc : Thread nD τ).loc main_arg1)) k (colOf t.val b))]
  refine Eq.trans ?_ h
  rw [outsAt0_C m c t (by omega) (by omega) h2]
  dsimp only
  frame_out

  pointwise [k0_pay4]
  try rfl

theorem final : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  blk_simp
  rw [after0_2]
  have h2 : t.val % 3 = 2 := by
    have := (by decide +kernel : ∀ t : Fin grid0.N, (cfg0.win 2).flush t = true → t.val % 3 = 2) t hf
    exact this
  obtain ⟨a, b, rfl⟩ : ∃ (a : Fin 1024) (b : Fin 1024), y = ix2 a b := ⟨y 0, y 1, eq_ix2 y⟩
  rw [embo]
  exact last m c t h2 a b

end kernel

theorem sides (x : FVec Ideal Cert.KvDwKernelIdeal.S4224x2048 .bf16) (y : FVec Ideal Cert.KvDwKernelIdeal.S2x4224x2048 .bf16) (a : Fin 2048) (b : Fin 4096) :
    (∑ k : Fin 4224, (if h : b.val < 2048 then y (ix3 0 k ⟨b.val, h⟩) else y (ix3 1 k ⟨b.val - 2048, by have := b.isLt; omega⟩)) * x (ix2 k a))
      = ∑ k : Fin 4224, A x a k * B y k b := by
  have hb := b.isLt
  refine Tiles.dot_swap (fun k => rfl) fun k => ?_
  split_ifs with h
  · exact B_part y k 0 _ b (by simp)
  · exact B_part y k 1 _ b (by simp; omega)

theorem frame_kernel : Cert.quiescent_KvDwKernel (hKvDwKernel := Cert.KvDwKernel.Gen.facts) :=
  fun m ρ _ => Cert.KvDwKernel.Gen.frame m ρ

theorem frame_ideal : Cert.quiescent_KvDwKernelIdeal (hKvDwKernelIdeal := Cert.KvDwKernelIdeal.Gen.facts) :=
  fun m ρ _ => Cert.KvDwKernelIdeal.Gen.frame m ρ

theorem frame_reference : Cert.quiescent_KvDwReferenceIdeal (hKvDwReferenceIdeal := Cert.KvDwReferenceIdeal.Gen.facts) :=
  fun m ρ _ => (θ_run Cert.KvDwReferenceIdeal.defs _ _).mono
    (fun r h => ⟨fun c => (h c).2, sem_eq_zero_of_no_sems (by decide) r.2⟩) (Cert.KvDwReferenceIdeal.Value.run m ρ)

theorem value : Cert.algebraic_KvDwKernelIdeal_KvDwReferenceIdeal (hKvDwKernelIdeal := Cert.KvDwKernelIdeal.Gen.facts)
    (hKvDwReferenceIdeal := Cert.KvDwReferenceIdeal.Gen.facts) := by
  intro m g m' g' _ hagree
  refine ⟨_, (θ_run Cert.KvDwKernelIdeal.defs _ _).mono
      (fun r h c => ⟨(h c).1.trans (final m c), (h c).2⟩) (Cert.KvDwKernelIdeal.Value.run_blocks m g),
    (θ_run Cert.KvDwReferenceIdeal.defs _ _).mono (fun r h c => ⟨(h c).1.trans ?_, (h c).2⟩) (Cert.KvDwReferenceIdeal.Value.run m' g')⟩
  rw [(hagree c).1, (hagree c).2]
  funext i
  obtain ⟨a, b, rfl⟩ : ∃ (a : Fin 2048) (b : Fin 4096), i = ix2 a b := ⟨i 0, i 1, eq_ix2 i⟩
  pointwise []
  exact sides _ _ a b

end Cert.Proof.KvDw

end
-- ==== Proof.Gu.lean ====
/- The feed-forward's first product. Frames, and the kernel's result. -/
module

public import proofs.«01_k».proof.Defs
public import proofs.«01_k».proof.Proof.Gen.GuKernel.Frame
public import proofs.«01_k».proof.Proof.Gen.GuKernelIdeal.Value
public import proofs.«01_k».proof.Proof.Gen.GuReferenceIdeal.Run
public import proofs.«01_k».proof.Proof.Tiles

@[expose] public section

set_option maxRecDepth 1000000

noncomputable section

namespace Cert.Proof.Gu

open Idealize.ShloMosaic Idealize.ShloMosaic.TcCoe Idealize.SL.Sem

/-- The entries of the two factors. -/
abbrev A (x : FVec Ideal Cert.GuKernelIdeal.S4224x2048 .bf16) (r : Fin 4224) (k : Fin 2048) : EReal := x (ix2 r k)
abbrev B (y : FVec Ideal Cert.GuKernelIdeal.S2048x11264 .bf16) (k : Fin 2048) (q : Fin 11264) : EReal := y (ix2 k q)

/-- Column `q` of part `p`. -/
def colAt (p : Fin 2) (q : Fin 5632) : Fin 11264 := ⟨p.val * 5632 + q.val, by have := p.isLt; have := q.isLt; omega⟩

/-- The product. -/
def result (x : FVec Ideal Cert.GuKernelIdeal.S4224x2048 .bf16) (y : FVec Ideal Cert.GuKernelIdeal.S2048x11264 .bf16) : FVec Ideal Cert.GuKernelIdeal.S2x4224x5632 .bf16 :=
  fun i => ∑ k : Fin 2048, A x (i 1) k * B y k (colAt (i 0) (i 2))

section kernel
open Cert.GuKernelIdeal Cert.GuKernelIdeal.Gen
variable (m : (ℓ : Loc nD τ sig) → Buf (Elt Ideal) ℓ) (c : Dev nD)

theorem idx0 : ∀ t : Fin cfg0.N, win0_0.index t = ![t.val / 8, 0] := (by decide +kernel : ∀ t : Fin grid0.N, _)
theorem idx1 : ∀ t : Fin cfg0.N, win0_1.index t = ![0, t.val % 8] := (by decide +kernel : ∀ t : Fin grid0.N, _)
theorem idxo : ∀ t : Fin cfg0.N, win0_2.index t = ![(t.val % 8) / 4, t.val / 8, (t.val % 8) % 4] := (by decide +kernel : ∀ t : Fin grid0.N, _)

/-- The row, the column and the inner place of the blocks of point `t`. -/
def rowOf (n : ℕ) (a : Fin 1056) : Fin 4224 := Tiles.at' 4224 1056 (by omega) (n / 8) a
def colOf (n : ℕ) (b : Fin 1408) : Fin 11264 := Tiles.at' 11264 1408 (by omega) (n % 8) b
def inOf (j : ℕ) (x : Fin 2048) : Fin 2048 := Tiles.at' 2048 2048 (by omega) j x

theorem row_val (t : Fin cfg0.N) (a : Fin 1056) : (rowOf t.val a).val = t.val / 8 * 1056 + a.val := by
  have : t.val < 32 := t.isLt
  rw [rowOf, Tiles.at_val (w := 1056) (by omega) 4 rfl _ (by omega)]
theorem col_val (t : Fin cfg0.N) (b : Fin 1408) : (colOf t.val b).val = t.val % 8 * 1408 + b.val := by
  rw [colOf, Tiles.at_val (w := 1408) (by omega) 8 rfl _ (by omega)]
theorem in_val (t : Fin cfg0.N) (x : Fin 2048) : (inOf (0) x).val = x.val := by
  rw [inOf, Tiles.at_val (w := 2048) (by omega) 1 rfl _ (by omega)]; omega

theorem blk0 (t : Fin cfg0.N) (a : Fin 1056) (k : Fin 2048) :
    iblk m c 0 t (ix2 a k) = A (m ((c.tc : Thread nD τ).loc main_arg0)) (rowOf t.val a) (inOf (0) k) := by
  have h1 := row_val t a
  have h2 := in_val t k
  blk_simp [iblk]
  rw [V_main_arg0]
  refine congrArg _ (funext fun j => Fin.ext ?_)
  fin_cases j <;> blk_simp [idx0]
  · exact h1.symm
  · exact h2.symm

theorem blk1 (t : Fin cfg0.N) (b : Fin 1408) (k : Fin 2048) :
    iblk m c 1 t (ix2 k b) = B (m ((c.tc : Thread nD τ).loc main_arg1)) (inOf (0) k) (colOf t.val b) := by
  have h1 := col_val t b
  have h2 := in_val t k
  blk_simp [iblk]
  rw [V_main_arg1]
  refine congrArg _ (funext fun j => Fin.ext ?_)
  fin_cases j <;> blk_simp [idx1]
  · exact h2.symm
  · exact h1.symm

theorem part_lt (t : Fin cfg0.N) : (t.val % 8) / 4 < 2 := by omega
theorem place_lt (t : Fin cfg0.N) (b : Fin 1408) : (t.val % 8) % 4 * 1408 + b.val < 5632 := by have := b.isLt; omega

theorem embo (t : Fin cfg0.N) (a : Fin 1056) (b : Fin 1408) :
    ((View.whole main_v0).slice (win0_2.rect t)).emb (ix3 0 a b) = ix3 ⟨_, part_lt t⟩ (rowOf t.val a) ⟨_, place_lt t b⟩ := by
  have h1 := row_val t a
  refine funext fun j => Fin.ext ?_
  fin_cases j <;> blk_simp [idxo]
  · rfl
  · exact h1.symm
  · rfl

theorem col_part (t : Fin cfg0.N) (b : Fin 1408) : colAt ⟨_, part_lt t⟩ ⟨_, place_lt t b⟩ = colOf t.val b := by
  have h1 := col_val t b
  refine Fin.ext (Eq.trans ?_ h1.symm)
  show (t.val % 8) / 4 * 5632 + ((t.val % 8) % 4 * 1408 + b.val) = _
  omega

theorem pay (x0 : Vec Ideal S1056x2048 .bf16) (x1 : Vec Ideal S2048x1408 .bf16) (a : Fin 1056) (b : Fin 1408) :
    k0_pay1 x0 x1 (ix3 0 a b) = ∑ k : Fin 2048, x0 (ix2 a k) * x1 (ix2 k b) := by
  pointwise [k0_pay1]

theorem in_zero (k : Fin 2048) : inOf 0 k = k := by
  refine Fin.ext ?_
  rw [inOf, Tiles.at_val (w := 2048) (by omega) 1 rfl _ (by omega)]
  omega

theorem dot_blk (t : Fin cfg0.N) (a : Fin 1056) (b : Fin 1408) (x0 : Vec Ideal S1056x2048 .bf16) (x1 : Vec Ideal S2048x1408 .bf16)
    (h0 : x0 = iblk m c 0 t) (h1 : x1 = iblk m c 1 t) : ∑ k : Fin 2048, x0 (ix2 a k) * x1 (ix2 k b)
      = ∑ k : Fin 2048, A (m ((c.tc : Thread nD τ).loc main_arg0)) (rowOf t.val a) k * B (m ((c.tc : Thread nD τ).loc main_arg1)) k (colOf t.val b) := by
  subst h0 h1
  exact Tiles.dot_congr (fun k => (blk0 m c t a k).trans (by rw [in_zero])) (fun k => (blk1 m c t b k).trans (by rw [in_zero]))

theorem final : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨p, a, b, rfl⟩ : ∃ (p : Fin 1) (a : Fin 1056) (b : Fin 1408), y = ix3 p a b := ⟨y 0, y 1, y 2, eq_ix3 y⟩
  obtain rfl : p = 0 := Subsingleton.elim _ _
  rw [embo, pay]
  refine (dot_blk m c t a b _ _ rfl rfl).trans ?_
  exact congrArg (fun q => ∑ k : Fin 2048, A (m ((c.tc : Thread nD τ).loc main_arg0)) (rowOf t.val a) k * B (m ((c.tc : Thread nD τ).loc main_arg1)) k q) (col_part t b).symm

end kernel

theorem sides (x : FVec Ideal Cert.GuKernelIdeal.S4224x2048 .bf16) (y : FVec Ideal Cert.GuKernelIdeal.S2048x11264 .bf16) (p : Fin 2) (a : Fin 4224) (b : Fin 5632) :
    (if h : p.val < 1 then ∑ k : Fin 2048, x (ix2 a k) * y (ix2 k ⟨b.val, by have := b.isLt; omega⟩) else ∑ k : Fin 2048, x (ix2 a k) * y (ix2 k ⟨5632 + b.val, by have := b.isLt; omega⟩))
      = result x y (ix3 p a b) := by
  have hp := p.isLt
  split_ifs
  all_goals
    refine Tiles.dot_congr (fun k => rfl) fun k => congrArg (fun q => y (ix2 k q)) (Fin.ext ?_)
    first
      | show b.val = p.val * 5632 + b.val; omega
      | show 5632 + b.val = p.val * 5632 + b.val; omega
      | show 11264 + b.val = p.val * 5632 + b.val; omega

theorem frame_kernel : Cert.quiescent_GuKernel (hGuKernel := Cert.GuKernel.Gen.facts) :=
  fun m ρ _ => Cert.GuKernel.Gen.frame m ρ

theorem frame_ideal : Cert.quiescent_GuKernelIdeal (hGuKernelIdeal := Cert.GuKernelIdeal.Gen.facts) :=
  fun m ρ _ => Cert.GuKernelIdeal.Gen.frame m ρ

theorem frame_reference : Cert.quiescent_GuReferenceIdeal (hGuReferenceIdeal := Cert.GuReferenceIdeal.Gen.facts) :=
  fun m ρ _ => (θ_run Cert.GuReferenceIdeal.defs _ _).mono
    (fun r h => ⟨fun c => (h c).2, sem_eq_zero_of_no_sems (by decide) r.2⟩) (Cert.GuReferenceIdeal.Value.run m ρ)

theorem value : Cert.algebraic_GuKernelIdeal_GuReferenceIdeal (hGuKernelIdeal := Cert.GuKernelIdeal.Gen.facts)
    (hGuReferenceIdeal := Cert.GuReferenceIdeal.Gen.facts) := by
  intro m g m' g' _ hagree
  refine ⟨_, (θ_run Cert.GuKernelIdeal.defs _ _).mono
      (fun r h c => ⟨(h c).1.trans (final m c), (h c).2⟩) (Cert.GuKernelIdeal.Value.run_blocks m g),
    (θ_run Cert.GuReferenceIdeal.defs _ _).mono (fun r h c => ⟨(h c).1.trans ?_, (h c).2⟩) (Cert.GuReferenceIdeal.Value.run m' g')⟩
  rw [(hagree c).1, (hagree c).2]
  funext i
  obtain ⟨p, a, b, rfl⟩ : ∃ (p : Fin 2) (a : Fin 4224) (b : Fin 5632), i = ix3 p a b := ⟨i 0, i 1, i 2, eq_ix3 i⟩
  pointwise []
  exact sides _ _ p a b

end Cert.Proof.Gu

end
-- ==== Proof.Down.lean ====
/- The feed-forward's second product. Frames, and the kernel's result. -/
module

public import proofs.«01_k».proof.Defs
public import proofs.«01_k».proof.Proof.Gen.DownKernel.Frame
public import proofs.«01_k».proof.Proof.Gen.DownKernelIdeal.Value
public import proofs.«01_k».proof.Proof.Gen.DownReferenceIdeal.Run
public import proofs.«01_k».proof.Proof.Tiles

@[expose] public section

set_option maxRecDepth 1000000

noncomputable section

namespace Cert.Proof.Down

open Idealize.ShloMosaic Idealize.ShloMosaic.TcCoe Idealize.SL.Sem

/-- The entries of the two factors. -/
abbrev A (x : FVec Ideal Cert.DownKernelIdeal.S4224x5632 .bf16) (r : Fin 4224) (k : Fin 5632) : EReal := x (ix2 r k)
abbrev B (y : FVec Ideal Cert.DownKernelIdeal.S5632x2048 .bf16) (k : Fin 5632) (q : Fin 2048) : EReal := y (ix2 k q)

/-- The product. -/
def result (x : FVec Ideal Cert.DownKernelIdeal.S4224x5632 .bf16) (y : FVec Ideal Cert.DownKernelIdeal.S5632x2048 .bf16) (z : FVec Ideal Cert.DownKernelIdeal.S4224x2048 .f32) : FVec Ideal Cert.DownKernelIdeal.S4224x2048 .f32 :=
  fun i => ∑ k : Fin 5632, A x (i 0) k * B y k (i 1) + z i

section kernel
open Cert.DownKernelIdeal Cert.DownKernelIdeal.Gen
variable (m : (ℓ : Loc nD τ sig) → Buf (Elt Ideal) ℓ) (c : Dev nD)

theorem idx0 : ∀ t : Fin cfg0.N, win0_0.index t = ![t.val / 8, t.val % 4] := (by decide +kernel : ∀ t : Fin grid0.N, _)
theorem idx1 : ∀ t : Fin cfg0.N, win0_1.index t = ![t.val % 4, t.val / 4 % 2] := (by decide +kernel : ∀ t : Fin grid0.N, _)
theorem idxo : ∀ t : Fin cfg0.N, win0_3.index t = ![t.val / 8, t.val / 4 % 2] := (by decide +kernel : ∀ t : Fin grid0.N, _)

theorem idxz : ∀ t : Fin cfg0.N, win0_2.index t = ![t.val / 8, t.val / 4 % 2] := (by decide +kernel : ∀ t : Fin grid0.N, _)

/-- The row, the column and the inner place of the blocks of point `t`. -/
def rowOf (n : ℕ) (a : Fin 1056) : Fin 4224 := Tiles.at' 4224 1056 (by omega) (n / 8) a
def colOf (n : ℕ) (b : Fin 1024) : Fin 2048 := Tiles.at' 2048 1024 (by omega) (n / 4 % 2) b
def inOf (j : ℕ) (x : Fin 1408) : Fin 5632 := Tiles.at' 5632 1408 (by omega) j x

theorem row_val (t : Fin cfg0.N) (a : Fin 1056) : (rowOf t.val a).val = t.val / 8 * 1056 + a.val := by
  have : t.val < 32 := t.isLt
  rw [rowOf, Tiles.at_val (w := 1056) (by omega) 4 rfl _ (by omega)]
theorem col_val (t : Fin cfg0.N) (b : Fin 1024) : (colOf t.val b).val = t.val / 4 % 2 * 1024 + b.val := by
  rw [colOf, Tiles.at_val (w := 1024) (by omega) 2 rfl _ (by omega)]
theorem in_val (t : Fin cfg0.N) (x : Fin 1408) : (inOf (t.val % 4) x).val = t.val % 4 * 1408 + x.val := by
  rw [inOf, Tiles.at_val (w := 1408) (by omega) 4 rfl _ (by omega)]

theorem blk0 (t : Fin cfg0.N) (a : Fin 1056) (k : Fin 1408) :
    iblk m c 0 t (ix2 a k) = A (m ((c.tc : Thread nD τ).loc main_arg0)) (rowOf t.val a) (inOf (t.val % 4) k) := by
  have h1 := row_val t a
  have h2 := in_val t k
  blk_simp [iblk]
  rw [V_main_arg0]
  refine congrArg _ (funext fun j => Fin.ext ?_)
  fin_cases j <;> blk_simp [idx0]
  · exact h1.symm
  · exact h2.symm

theorem blk1 (t : Fin cfg0.N) (b : Fin 1024) (k : Fin 1408) :
    iblk m c 1 t (ix2 k b) = B (m ((c.tc : Thread nD τ).loc main_arg1)) (inOf (t.val % 4) k) (colOf t.val b) := by
  have h1 := col_val t b
  have h2 := in_val t k
  blk_simp [iblk]
  rw [V_main_arg1]
  refine congrArg _ (funext fun j => Fin.ext ?_)
  fin_cases j <;> blk_simp [idx1]
  · exact h2.symm
  · exact h1.symm

theorem blkz (t : Fin cfg0.N) (a : Fin 1056) (b : Fin 1024) :
    iblk m c 2 t (ix2 a b) = m ((c.tc : Thread nD τ).loc main_arg2) (ix2 (rowOf t.val a) (colOf t.val b)) := by
  have h1 := row_val t a
  have h2 := col_val t b
  blk_simp [iblk]
  rw [V_main_arg2]
  refine congrArg _ (funext fun j => Fin.ext ?_)
  fin_cases j <;> blk_simp [idxz]
  · exact h1.symm
  · exact h2.symm

theorem embo (t : Fin cfg0.N) (a : Fin 1056) (b : Fin 1024) :
    ((View.whole main_v0).slice (win0_3.rect t)).emb (ix2 a b) = ix2 (rowOf t.val a) (colOf t.val b) := by
  have h1 := row_val t a
  have h2 := col_val t b
  refine funext fun j => Fin.ext ?_
  fin_cases j <;> blk_simp [idxo]
  · exact h1.symm
  · exact h2.symm

theorem pay1 (x0 : Vec Ideal S1056x1408 .bf16) (x1 : Vec Ideal S1408x1024 .bf16) (a : Fin 1056) (b : Fin 1024) :
    k0_pay1 x0 x1 (ix2 a b) = ∑ k : Fin 1408, x0 (ix2 a k) * x1 (ix2 k b) := by
  pointwise [k0_pay1]

theorem pay2 (x0 : Vec Ideal S1056x1408 .bf16) (x1 : Vec Ideal S1408x1024 .bf16) (a : Fin 1056) (b : Fin 1024) :
    k0_pay2 x0 x1 (ix2 a b) = ∑ k : Fin 1408, x0 (ix2 a k) * x1 (ix2 k b) := by
  rw [← pay1]; pointwise [k0_pay2]

theorem pay3 (x0 : Vec Ideal S1056x1408 .bf16) (x1 : Vec Ideal S1408x1024 .bf16) (s : Vec Ideal S1056x1024 .f32) (a : Fin 1056) (b : Fin 1024) :
    k0_pay3 x0 x1 s (ix2 a b) = s (ix2 a b) + ∑ k : Fin 1408, x0 (ix2 a k) * x1 (ix2 k b) := by
  rw [← pay1]; pointwise [k0_pay3]

/-- Tile `j` of the sum. -/
def part (n : ℕ) (a : Fin 1056) (b : Fin 1024) (j : ℕ) : EReal :=
  ∑ k : Fin 1408, A (m ((c.tc : Thread nD τ).loc main_arg0)) (rowOf n a) (inOf j k) * B (m ((c.tc : Thread nD τ).loc main_arg1)) (inOf j k) (colOf n b)

theorem dot_blk (t : Fin cfg0.N) (a : Fin 1056) (b : Fin 1024) (x0 : Vec Ideal S1056x1408 .bf16) (x1 : Vec Ideal S1408x1024 .bf16)
    (h0 : x0 = iblk m c 0 t) (h1 : x1 = iblk m c 1 t) :
    ∑ k : Fin 1408, x0 (ix2 a k) * x1 (ix2 k b) = part m c t.val a b (t.val % 4) := by
  subst h0 h1
  exact Tiles.dot_congr (fun k => blk0 m c t a k) (fun k => blk1 m c t b k)

/-- What the accumulator holds after point `n`: the tiles so far. -/
theorem acc (n : ℕ) : ∀ (hn : n < cfg0.N) (a : Fin 1056) (b : Fin 1024),
    (outsAt0 m c n hn).2 (ix2 a b) = ∑ j ∈ Finset.range (n % 4 + 1), part m c n a b j := by
  induction n using Nat.strong_induction_on with
  | _ n ih =>
  intro hn a b
  have hN : n < 32 := hn
  by_cases h0 : n % 4 = 0
  · rw [outsAt0_A m c ⟨n, hn⟩ h0 (by show ¬1 ≤ n % 4; omega) (by show ¬n % 4 = 3; omega)]
    dsimp only
    frame_out
    rw [h0, zero_add, Finset.sum_range_one]
    exact (pay2 _ _ a b).trans ((dot_blk m c ⟨n, hn⟩ a b _ _ rfl rfl).trans (by rw [show (⟨n, hn⟩ : Fin cfg0.N).val = n from rfl, h0]))
  · have e1 : rowOf (n - 1) a = rowOf n a := congrArg (fun z => Tiles.at' 4224 1056 _ z a) (show (n - 1) / 8 = n / 8 by omega)
    have e2 : colOf (n - 1) b = colOf n b := congrArg (fun z => Tiles.at' 2048 1024 _ z b) (show (n - 1) / 4 % 2 = n / 4 % 2 by omega)
    have e3 : (n - 1) % 4 + 1 = n % 4 := by omega
    have ih' := ih (n - 1) (by omega) (by omega) a b
    rw [e3] at ih'
    have e4 : ∀ j, part m c (n - 1) a b j = part m c n a b j := fun j => by unfold part; rw [e1, e2]
    simp only [e4] at ih'
    rw [Finset.sum_range_succ, ← ih', ← dot_blk m c ⟨n, hn⟩ a b _ _ rfl rfl]
    by_cases h2 : n % 4 = 3
    · rw [outsAt0_C m c ⟨n, hn⟩ h0 (by show 1 ≤ n % 4; omega) h2]
      dsimp only
      frame_out
      exact (pay3 _ _ _ a b).trans (congrArg (· + _) (congrFun ((Memref.isWhole_whole cc0_scratch0).read_unread _) _))
    · rw [outsAt0_B m c ⟨n, hn⟩ h0 (by show 1 ≤ n % 4; omega) h2]
      dsimp only
      frame_out
      exact (pay3 _ _ _ a b).trans (congrArg (· + _) (congrFun ((Memref.isWhole_whole cc0_scratch0).read_unread _) _))

/-- What the last point of a sum stores. -/
theorem last (t : Fin cfg0.N) (h2 : t.val % 4 = 3) (a : Fin 1056) (b : Fin 1024) :
    (outsAt0 m c t.val t.isLt).1 (ix2 a b) = ∑ k : Fin 5632, A (m ((c.tc : Thread nD τ).loc main_arg0)) (rowOf t.val a) k * B (m ((c.tc : Thread nD τ).loc main_arg1)) k (colOf t.val b) + m ((c.tc : Thread nD τ).loc main_arg2) (ix2 (rowOf t.val a) (colOf t.val b)) := by
  have h := acc m c t.val t.isLt a b
  rw [h2] at h
  rw [← Tiles.sum_tiles (w := 1408) (by omega) 4 rfl (fun k => A (m ((c.tc : Thread nD τ).loc main_arg0)) (rowOf t.val a) k * B (m ((c.tc : Thread nD τ).loc main_arg1)) k (colOf t.val b))]
  refine Eq.trans ?_ (congrArg₂ (· + ·) h (blkz m c t a b))
  rw [outsAt0_C m c t (by omega) (by omega) h2]
  dsimp only
  frame_out

  pointwise [k0_pay4]
  try rfl

theorem final : (dats m 0 c).arrAt 3 cfg0.N = result (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  have h2 : t.val % 4 = 3 := by
    have := (by decide +kernel : ∀ t : Fin grid0.N, (cfg0.win 3).flush t = true → t.val % 4 = 3) t hf
    exact this
  obtain ⟨a, b, rfl⟩ : ∃ (a : Fin 1056) (b : Fin 1024), y = ix2 a b := ⟨y 0, y 1, eq_ix2 y⟩
  rw [embo]
  exact last m c t h2 a b

end kernel

theorem frame_kernel : Cert.quiescent_DownKernel (hDownKernel := Cert.DownKernel.Gen.facts) :=
  fun m ρ _ => Cert.DownKernel.Gen.frame m ρ

theorem frame_ideal : Cert.quiescent_DownKernelIdeal (hDownKernelIdeal := Cert.DownKernelIdeal.Gen.facts) :=
  fun m ρ _ => Cert.DownKernelIdeal.Gen.frame m ρ

theorem frame_reference : Cert.quiescent_DownReferenceIdeal (hDownReferenceIdeal := Cert.DownReferenceIdeal.Gen.facts) :=
  fun m ρ _ => (θ_run Cert.DownReferenceIdeal.defs _ _).mono
    (fun r h => ⟨fun c => (h c).2, sem_eq_zero_of_no_sems (by decide) r.2⟩) (Cert.DownReferenceIdeal.Value.run m ρ)

theorem value : Cert.algebraic_DownKernelIdeal_DownReferenceIdeal (hDownKernelIdeal := Cert.DownKernelIdeal.Gen.facts)
    (hDownReferenceIdeal := Cert.DownReferenceIdeal.Gen.facts) := by
  intro m g m' g' _ hagree
  refine ⟨_, (θ_run Cert.DownKernelIdeal.defs _ _).mono
      (fun r h c => ⟨(h c).1.trans (final m c), (h c).2⟩) (Cert.DownKernelIdeal.Value.run_blocks m g),
    (θ_run Cert.DownReferenceIdeal.defs _ _).mono (fun r h c => ⟨(h c).1.trans ?_, (h c).2⟩) (Cert.DownReferenceIdeal.Value.run m' g')⟩
  rw [(hagree c).1, (hagree c).2.1, (hagree c).2.2]
  funext i
  obtain ⟨a, b, rfl⟩ : ∃ (a : Fin 4224) (b : Fin 2048), i = ix2 a b := ⟨i 0, i 1, eq_ix2 i⟩
  pointwise []
  exact add_comm _ _

end Cert.Proof.Down

end
-- ==== Proof.AIn.lean ====
/- The convolution mixer's first product. Frames, and the kernel's result. -/
module

public import proofs.«01_k».proof.Defs
public import proofs.«01_k».proof.Proof.Gen.AInKernel.Frame
public import proofs.«01_k».proof.Proof.Gen.AInKernelIdeal.Value
public import proofs.«01_k».proof.Proof.Gen.AInReferenceIdeal.Run
public import proofs.«01_k».proof.Proof.Tiles

@[expose] public section

set_option maxRecDepth 1000000

noncomputable section

namespace Cert.Proof.AIn

open Idealize.ShloMosaic Idealize.ShloMosaic.TcCoe Idealize.SL.Sem

/-- The entries of the two factors. -/
abbrev A (x : FVec Ideal Cert.AInKernelIdeal.S4224x2048 .bf16) (r : Fin 4224) (k : Fin 2048) : EReal := x (ix2 r k)
abbrev B (y : FVec Ideal Cert.AInKernelIdeal.S2048x6144 .bf16) (k : Fin 2048) (q : Fin 6144) : EReal := y (ix2 k q)

/-- Column `q` of part `p`. -/
def colAt (p : Fin 3) (q : Fin 2048) : Fin 6144 := ⟨p.val * 2048 + q.val, by have := p.isLt; have := q.isLt; omega⟩

/-- The product. -/
def result (x : FVec Ideal Cert.AInKernelIdeal.S4224x2048 .bf16) (y : FVec Ideal Cert.AInKernelIdeal.S2048x6144 .bf16) : FVec Ideal Cert.AInKernelIdeal.S3x4224x2048 .bf16 :=
  fun i => ∑ k : Fin 2048, A x (i 1) k * B y k (colAt (i 0) (i 2))

section kernel
open Cert.AInKernelIdeal Cert.AInKernelIdeal.Gen
variable (m : (ℓ : Loc nD τ sig) → Buf (Elt Ideal) ℓ) (c : Dev nD)

theorem idx0 : ∀ t : Fin cfg0.N, win0_0.index t = ![t.val / 6, 0] := (by decide +kernel : ∀ t : Fin grid0.N, _)
theorem idx1 : ∀ t : Fin cfg0.N, win0_1.index t = ![0, t.val % 6] := (by decide +kernel : ∀ t : Fin grid0.N, _)
theorem idxo : ∀ t : Fin cfg0.N, win0_2.index t = ![(t.val % 6) / 2, t.val / 6, (t.val % 6) % 2] := (by decide +kernel : ∀ t : Fin grid0.N, _)

/-- The row, the column and the inner place of the blocks of point `t`. -/
def rowOf (n : ℕ) (a : Fin 1056) : Fin 4224 := Tiles.at' 4224 1056 (by omega) (n / 6) a
def colOf (n : ℕ) (b : Fin 1024) : Fin 6144 := Tiles.at' 6144 1024 (by omega) (n % 6) b
def inOf (j : ℕ) (x : Fin 2048) : Fin 2048 := Tiles.at' 2048 2048 (by omega) j x

theorem row_val (t : Fin cfg0.N) (a : Fin 1056) : (rowOf t.val a).val = t.val / 6 * 1056 + a.val := by
  have : t.val < 24 := t.isLt
  rw [rowOf, Tiles.at_val (w := 1056) (by omega) 4 rfl _ (by omega)]
theorem col_val (t : Fin cfg0.N) (b : Fin 1024) : (colOf t.val b).val = t.val % 6 * 1024 + b.val := by
  rw [colOf, Tiles.at_val (w := 1024) (by omega) 6 rfl _ (by omega)]
theorem in_val (t : Fin cfg0.N) (x : Fin 2048) : (inOf (0) x).val = x.val := by
  rw [inOf, Tiles.at_val (w := 2048) (by omega) 1 rfl _ (by omega)]; omega

theorem blk0 (t : Fin cfg0.N) (a : Fin 1056) (k : Fin 2048) :
    iblk m c 0 t (ix2 a k) = A (m ((c.tc : Thread nD τ).loc main_arg0)) (rowOf t.val a) (inOf (0) k) := by
  have h1 := row_val t a
  have h2 := in_val t k
  blk_simp [iblk]
  rw [V_main_arg0]
  refine congrArg _ (funext fun j => Fin.ext ?_)
  fin_cases j <;> blk_simp [idx0]
  · exact h1.symm
  · exact h2.symm

theorem blk1 (t : Fin cfg0.N) (b : Fin 1024) (k : Fin 2048) :
    iblk m c 1 t (ix2 k b) = B (m ((c.tc : Thread nD τ).loc main_arg1)) (inOf (0) k) (colOf t.val b) := by
  have h1 := col_val t b
  have h2 := in_val t k
  blk_simp [iblk]
  rw [V_main_arg1]
  refine congrArg _ (funext fun j => Fin.ext ?_)
  fin_cases j <;> blk_simp [idx1]
  · exact h2.symm
  · exact h1.symm

theorem part_lt (t : Fin cfg0.N) : (t.val % 6) / 2 < 3 := by omega
theorem place_lt (t : Fin cfg0.N) (b : Fin 1024) : (t.val % 6) % 2 * 1024 + b.val < 2048 := by have := b.isLt; omega

theorem embo (t : Fin cfg0.N) (a : Fin 1056) (b : Fin 1024) :
    ((View.whole main_v0).slice (win0_2.rect t)).emb (ix3 0 a b) = ix3 ⟨_, part_lt t⟩ (rowOf t.val a) ⟨_, place_lt t b⟩ := by
  have h1 := row_val t a
  refine funext fun j => Fin.ext ?_
  fin_cases j <;> blk_simp [idxo]
  · rfl
  · exact h1.symm
  · rfl

theorem col_part (t : Fin cfg0.N) (b : Fin 1024) : colAt ⟨_, part_lt t⟩ ⟨_, place_lt t b⟩ = colOf t.val b := by
  have h1 := col_val t b
  refine Fin.ext (Eq.trans ?_ h1.symm)
  show (t.val % 6) / 2 * 2048 + ((t.val % 6) % 2 * 1024 + b.val) = _
  omega

theorem pay (x0 : Vec Ideal S1056x2048 .bf16) (x1 : Vec Ideal S2048x1024 .bf16) (a : Fin 1056) (b : Fin 1024) :
    k0_pay1 x0 x1 (ix3 0 a b) = ∑ k : Fin 2048, x0 (ix2 a k) * x1 (ix2 k b) := by
  pointwise [k0_pay1]

theorem in_zero (k : Fin 2048) : inOf 0 k = k := by
  refine Fin.ext ?_
  rw [inOf, Tiles.at_val (w := 2048) (by omega) 1 rfl _ (by omega)]
  omega

theorem dot_blk (t : Fin cfg0.N) (a : Fin 1056) (b : Fin 1024) (x0 : Vec Ideal S1056x2048 .bf16) (x1 : Vec Ideal S2048x1024 .bf16)
    (h0 : x0 = iblk m c 0 t) (h1 : x1 = iblk m c 1 t) : ∑ k : Fin 2048, x0 (ix2 a k) * x1 (ix2 k b)
      = ∑ k : Fin 2048, A (m ((c.tc : Thread nD τ).loc main_arg0)) (rowOf t.val a) k * B (m ((c.tc : Thread nD τ).loc main_arg1)) k (colOf t.val b) := by
  subst h0 h1
  exact Tiles.dot_congr (fun k => (blk0 m c t a k).trans (by rw [in_zero])) (fun k => (blk1 m c t b k).trans (by rw [in_zero]))

theorem final : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨p, a, b, rfl⟩ : ∃ (p : Fin 1) (a : Fin 1056) (b : Fin 1024), y = ix3 p a b := ⟨y 0, y 1, y 2, eq_ix3 y⟩
  obtain rfl : p = 0 := Subsingleton.elim _ _
  rw [embo, pay]
  refine (dot_blk m c t a b _ _ rfl rfl).trans ?_
  exact congrArg (fun q => ∑ k : Fin 2048, A (m ((c.tc : Thread nD τ).loc main_arg0)) (rowOf t.val a) k * B (m ((c.tc : Thread nD τ).loc main_arg1)) k q) (col_part t b).symm

end kernel

theorem sides (x : FVec Ideal Cert.AInKernelIdeal.S4224x2048 .bf16) (y : FVec Ideal Cert.AInKernelIdeal.S2048x6144 .bf16) (p : Fin 3) (a : Fin 4224) (b : Fin 2048) :
    (if h : p.val < 1 then ∑ k : Fin 2048, x (ix2 a k) * y (ix2 k ⟨b.val, by have := b.isLt; omega⟩) else if h' : p.val - 1 < 1 then ∑ k : Fin 2048, x (ix2 a k) * y (ix2 k ⟨2048 + b.val, by have := b.isLt; omega⟩) else ∑ k : Fin 2048, x (ix2 a k) * y (ix2 k ⟨4096 + b.val, by have := b.isLt; omega⟩))
      = result x y (ix3 p a b) := by
  have hp := p.isLt
  split_ifs
  all_goals
    refine Tiles.dot_congr (fun k => rfl) fun k => congrArg (fun q => y (ix2 k q)) (Fin.ext ?_)
    first
      | show b.val = p.val * 2048 + b.val; omega
      | show 2048 + b.val = p.val * 2048 + b.val; omega
      | show 4096 + b.val = p.val * 2048 + b.val; omega

theorem frame_kernel : Cert.quiescent_AInKernel (hAInKernel := Cert.AInKernel.Gen.facts) :=
  fun m ρ _ => Cert.AInKernel.Gen.frame m ρ

theorem frame_ideal : Cert.quiescent_AInKernelIdeal (hAInKernelIdeal := Cert.AInKernelIdeal.Gen.facts) :=
  fun m ρ _ => Cert.AInKernelIdeal.Gen.frame m ρ

theorem frame_reference : Cert.quiescent_AInReferenceIdeal (hAInReferenceIdeal := Cert.AInReferenceIdeal.Gen.facts) :=
  fun m ρ _ => (θ_run Cert.AInReferenceIdeal.defs _ _).mono
    (fun r h => ⟨fun c => (h c).2, sem_eq_zero_of_no_sems (by decide) r.2⟩) (Cert.AInReferenceIdeal.Value.run m ρ)

theorem value : Cert.algebraic_AInKernelIdeal_AInReferenceIdeal (hAInKernelIdeal := Cert.AInKernelIdeal.Gen.facts)
    (hAInReferenceIdeal := Cert.AInReferenceIdeal.Gen.facts) := by
  intro m g m' g' _ hagree
  refine ⟨_, (θ_run Cert.AInKernelIdeal.defs _ _).mono
      (fun r h c => ⟨(h c).1.trans (final m c), (h c).2⟩) (Cert.AInKernelIdeal.Value.run_blocks m g),
    (θ_run Cert.AInReferenceIdeal.defs _ _).mono (fun r h c => ⟨(h c).1.trans ?_, (h c).2⟩) (Cert.AInReferenceIdeal.Value.run m' g')⟩
  rw [(hagree c).1, (hagree c).2]
  funext i
  obtain ⟨p, a, b, rfl⟩ : ∃ (p : Fin 3) (a : Fin 4224) (b : Fin 2048), i = ix3 p a b := ⟨i 0, i 1, i 2, eq_ix3 i⟩
  pointwise []
  exact sides _ _ p a b

end Cert.Proof.AIn

end
-- ==== Proof.AOut.lean ====
/- The convolution mixer's last product. Frames, and the kernel's result. -/
module

public import proofs.«01_k».proof.Defs
public import proofs.«01_k».proof.Proof.Gen.AOutKernel.Frame
public import proofs.«01_k».proof.Proof.Gen.AOutKernelIdeal.Value
public import proofs.«01_k».proof.Proof.Gen.AOutReferenceIdeal.Run
public import proofs.«01_k».proof.Proof.Tiles

@[expose] public section

set_option maxRecDepth 1000000

noncomputable section

namespace Cert.Proof.AOut

open Idealize.ShloMosaic Idealize.ShloMosaic.TcCoe Idealize.SL.Sem

/-- The entries of the two factors. -/
abbrev A (x : FVec Ideal Cert.AOutKernelIdeal.S4224x2048 .bf16) (r : Fin 4224) (k : Fin 2048) : EReal := x (ix2 r k)
abbrev B (y : FVec Ideal Cert.AOutKernelIdeal.S2048x2048 .bf16) (k : Fin 2048) (q : Fin 2048) : EReal := y (ix2 k q)

/-- The product. -/
def result (x : FVec Ideal Cert.AOutKernelIdeal.S4224x2048 .bf16) (y : FVec Ideal Cert.AOutKernelIdeal.S2048x2048 .bf16) (z : FVec Ideal Cert.AOutKernelIdeal.S4224x2048 .f32) : FVec Ideal Cert.AOutKernelIdeal.S4224x2048 .f32 :=
  fun i => ∑ k : Fin 2048, A x (i 0) k * B y k (i 1) + z i

section kernel
open Cert.AOutKernelIdeal Cert.AOutKernelIdeal.Gen
variable (m : (ℓ : Loc nD τ sig) → Buf (Elt Ideal) ℓ) (c : Dev nD)

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idxo : ∀ t : Fin cfg0.N, win0_3.index t = ![t.val / 2, t.val % 2] := (by decide +kernel : ∀ t : Fin grid0.N, _)

theorem idxz : ∀ t : Fin cfg0.N, win0_2.index t = ![t.val / 2, t.val % 2] := (by decide +kernel : ∀ t : Fin grid0.N, _)

/-- The row, the column and the inner place of the blocks of point `t`. -/
def rowOf (n : ℕ) (a : Fin 528) : Fin 4224 := Tiles.at' 4224 528 (by omega) (n / 2) a
def colOf (n : ℕ) (b : Fin 1024) : Fin 2048 := Tiles.at' 2048 1024 (by omega) (n % 2) b
def inOf (j : ℕ) (x : Fin 2048) : Fin 2048 := Tiles.at' 2048 2048 (by omega) j x

theorem row_val (t : Fin cfg0.N) (a : Fin 528) : (rowOf t.val a).val = t.val / 2 * 528 + a.val := by
  have : t.val < 16 := t.isLt
  rw [rowOf, Tiles.at_val (w := 528) (by omega) 8 rfl _ (by omega)]
theorem col_val (t : Fin cfg0.N) (b : Fin 1024) : (colOf t.val b).val = t.val % 2 * 1024 + b.val := by
  rw [colOf, Tiles.at_val (w := 1024) (by omega) 2 rfl _ (by omega)]
theorem in_val (t : Fin cfg0.N) (x : Fin 2048) : (inOf (0) x).val = x.val := by
  rw [inOf, Tiles.at_val (w := 2048) (by omega) 1 rfl _ (by omega)]; omega

theorem blk0 (t : Fin cfg0.N) (a : Fin 528) (k : Fin 2048) :
    iblk m c 0 t (ix2 a k) = A (m ((c.tc : Thread nD τ).loc main_arg0)) (rowOf t.val a) (inOf (0) k) := by
  have h1 := row_val t a
  have h2 := in_val t k
  blk_simp [iblk]
  rw [V_main_arg0]
  refine congrArg _ (funext fun j => Fin.ext ?_)
  fin_cases j <;> blk_simp [idx0]
  · exact h1.symm
  · exact h2.symm

theorem blk1 (t : Fin cfg0.N) (b : Fin 1024) (k : Fin 2048) :
    iblk m c 1 t (ix2 k b) = B (m ((c.tc : Thread nD τ).loc main_arg1)) (inOf (0) k) (colOf t.val b) := by
  have h1 := col_val t b
  have h2 := in_val t k
  blk_simp [iblk]
  rw [V_main_arg1]
  refine congrArg _ (funext fun j => Fin.ext ?_)
  fin_cases j <;> blk_simp [idx1]
  · exact h2.symm
  · exact h1.symm

theorem blkz (t : Fin cfg0.N) (a : Fin 528) (b : Fin 1024) :
    iblk m c 2 t (ix2 a b) = m ((c.tc : Thread nD τ).loc main_arg2) (ix2 (rowOf t.val a) (colOf t.val b)) := by
  have h1 := row_val t a
  have h2 := col_val t b
  blk_simp [iblk]
  rw [V_main_arg2]
  refine congrArg _ (funext fun j => Fin.ext ?_)
  fin_cases j <;> blk_simp [idxz]
  · exact h1.symm
  · exact h2.symm

theorem embo (t : Fin cfg0.N) (a : Fin 528) (b : Fin 1024) :
    ((View.whole main_v0).slice (win0_3.rect t)).emb (ix2 a b) = ix2 (rowOf t.val a) (colOf t.val b) := by
  have h1 := row_val t a
  have h2 := col_val t b
  refine funext fun j => Fin.ext ?_
  fin_cases j <;> blk_simp [idxo]
  · exact h1.symm
  · exact h2.symm

theorem pay (x0 : Vec Ideal S528x2048 .bf16) (x1 : Vec Ideal S2048x1024 .bf16) (x2 : Vec Ideal S528x1024 .f32) (a : Fin 528) (b : Fin 1024) :
    k0_pay1 x0 x1 x2 (ix2 a b) = ∑ k : Fin 2048, x0 (ix2 a k) * x1 (ix2 k b) + x2 (ix2 a b) := by
  pointwise [k0_pay1]

theorem in_zero (k : Fin 2048) : inOf 0 k = k := by
  refine Fin.ext ?_
  rw [inOf, Tiles.at_val (w := 2048) (by omega) 1 rfl _ (by omega)]
  omega

theorem dot_blk (t : Fin cfg0.N) (a : Fin 528) (b : Fin 1024) (x0 : Vec Ideal S528x2048 .bf16) (x1 : Vec Ideal S2048x1024 .bf16)
    (h0 : x0 = iblk m c 0 t) (h1 : x1 = iblk m c 1 t) : ∑ k : Fin 2048, x0 (ix2 a k) * x1 (ix2 k b)
      = ∑ k : Fin 2048, A (m ((c.tc : Thread nD τ).loc main_arg0)) (rowOf t.val a) k * B (m ((c.tc : Thread nD τ).loc main_arg1)) k (colOf t.val b) := by
  subst h0 h1
  exact Tiles.dot_congr (fun k => (blk0 m c t a k).trans (by rw [in_zero])) (fun k => (blk1 m c t b k).trans (by rw [in_zero]))

theorem final : (dats m 0 c).arrAt 3 cfg0.N = result (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  obtain ⟨a, b, rfl⟩ : ∃ (a : Fin 528) (b : Fin 1024), y = ix2 a b := ⟨y 0, y 1, eq_ix2 y⟩
  rw [embo, pay]
  exact congrArg₂ (· + ·) (dot_blk m c t a b _ _ rfl rfl) (blkz m c t a b)

end kernel

theorem frame_kernel : Cert.quiescent_AOutKernel (hAOutKernel := Cert.AOutKernel.Gen.facts) :=
  fun m ρ _ => Cert.AOutKernel.Gen.frame m ρ

theorem frame_ideal : Cert.quiescent_AOutKernelIdeal (hAOutKernelIdeal := Cert.AOutKernelIdeal.Gen.facts) :=
  fun m ρ _ => Cert.AOutKernelIdeal.Gen.frame m ρ

theorem frame_reference : Cert.quiescent_AOutReferenceIdeal (hAOutReferenceIdeal := Cert.AOutReferenceIdeal.Gen.facts) :=
  fun m ρ _ => (θ_run Cert.AOutReferenceIdeal.defs _ _).mono
    (fun r h => ⟨fun c => (h c).2, sem_eq_zero_of_no_sems (by decide) r.2⟩) (Cert.AOutReferenceIdeal.Value.run m ρ)

theorem value : Cert.algebraic_AOutKernelIdeal_AOutReferenceIdeal (hAOutKernelIdeal := Cert.AOutKernelIdeal.Gen.facts)
    (hAOutReferenceIdeal := Cert.AOutReferenceIdeal.Gen.facts) := by
  intro m g m' g' _ hagree
  refine ⟨_, (θ_run Cert.AOutKernelIdeal.defs _ _).mono
      (fun r h c => ⟨(h c).1.trans (final m c), (h c).2⟩) (Cert.AOutKernelIdeal.Value.run_blocks m g),
    (θ_run Cert.AOutReferenceIdeal.defs _ _).mono (fun r h c => ⟨(h c).1.trans ?_, (h c).2⟩) (Cert.AOutReferenceIdeal.Value.run m' g')⟩
  rw [(hagree c).1, (hagree c).2.1, (hagree c).2.2]
  funext i
  obtain ⟨a, b, rfl⟩ : ∃ (a : Fin 4224) (b : Fin 2048), i = ix2 a b := ⟨i 0, i 1, eq_ix2 i⟩
  pointwise []
  exact add_comm _ _

end Cert.Proof.AOut

end
-- ==== Proof.Kv.lean ====
/- The product of the keys and values. Frames, and the kernel's result. -/
module

public import proofs.«01_k».proof.Defs
public import proofs.«01_k».proof.Proof.Gen.KvKernel.Frame
public import proofs.«01_k».proof.Proof.Gen.KvKernelIdeal.Value
public import proofs.«01_k».proof.Proof.Gen.KvReferenceIdeal.Run
public import proofs.«01_k».proof.Proof.Tiles

@[expose] public section

set_option maxRecDepth 1000000

noncomputable section

namespace Cert.Proof.Kv

open Idealize.ShloMosaic Idealize.ShloMosaic.TcCoe Idealize.SL.Sem

/-- The entries of the two factors. -/
abbrev A (x : FVec Ideal Cert.KvKernelIdeal.S4224x2048 .bf16) (r : Fin 4224) (k : Fin 2048) : EReal := x (ix2 r k)
abbrev B (y : FVec Ideal Cert.KvKernelIdeal.S2048x4096 .bf16) (k : Fin 2048) (q : Fin 4096) : EReal := y (ix2 k q)

/-- Column `q` of part `p`. -/
def colAt (p : Fin 2) (q : Fin 2048) : Fin 4096 := ⟨p.val * 2048 + q.val, by have := p.isLt; have := q.isLt; omega⟩

/-- The product. -/
def result (x : FVec Ideal Cert.KvKernelIdeal.S4224x2048 .bf16) (y : FVec Ideal Cert.KvKernelIdeal.S2048x4096 .bf16) : FVec Ideal Cert.KvKernelIdeal.S2x4224x2048 .f32 :=
  fun i => ∑ k : Fin 2048, A x (i 1) k * B y k (colAt (i 0) (i 2))

section kernel
open Cert.KvKernelIdeal Cert.KvKernelIdeal.Gen
variable (m : (ℓ : Loc nD τ sig) → Buf (Elt Ideal) ℓ) (c : Dev nD)

theorem idx0 : ∀ t : Fin cfg0.N, win0_0.index t = ![t.val / 4, 0] := (by decide +kernel : ∀ t : Fin grid0.N, _)
theorem idx1 : ∀ t : Fin cfg0.N, win0_1.index t = ![0, t.val % 4] := (by decide +kernel : ∀ t : Fin grid0.N, _)
theorem idxo : ∀ t : Fin cfg0.N, win0_2.index t = ![(t.val % 4) / 2, t.val / 4, (t.val % 4) % 2] := (by decide +kernel : ∀ t : Fin grid0.N, _)

/-- The row, the column and the inner place of the blocks of point `t`. -/
def rowOf (n : ℕ) (a : Fin 1056) : Fin 4224 := Tiles.at' 4224 1056 (by omega) (n / 4) a
def colOf (n : ℕ) (b : Fin 1024) : Fin 4096 := Tiles.at' 4096 1024 (by omega) (n % 4) b
def inOf (j : ℕ) (x : Fin 2048) : Fin 2048 := Tiles.at' 2048 2048 (by omega) j x

theorem row_val (t : Fin cfg0.N) (a : Fin 1056) : (rowOf t.val a).val = t.val / 4 * 1056 + a.val := by
  have : t.val < 16 := t.isLt
  rw [rowOf, Tiles.at_val (w := 1056) (by omega) 4 rfl _ (by omega)]
theorem col_val (t : Fin cfg0.N) (b : Fin 1024) : (colOf t.val b).val = t.val % 4 * 1024 + b.val := by
  rw [colOf, Tiles.at_val (w := 1024) (by omega) 4 rfl _ (by omega)]
theorem in_val (t : Fin cfg0.N) (x : Fin 2048) : (inOf (0) x).val = x.val := by
  rw [inOf, Tiles.at_val (w := 2048) (by omega) 1 rfl _ (by omega)]; omega

theorem blk0 (t : Fin cfg0.N) (a : Fin 1056) (k : Fin 2048) :
    iblk m c 0 t (ix2 a k) = A (m ((c.tc : Thread nD τ).loc main_arg0)) (rowOf t.val a) (inOf (0) k) := by
  have h1 := row_val t a
  have h2 := in_val t k
  blk_simp [iblk]
  rw [V_main_arg0]
  refine congrArg _ (funext fun j => Fin.ext ?_)
  fin_cases j <;> blk_simp [idx0]
  · exact h1.symm
  · exact h2.symm

theorem blk1 (t : Fin cfg0.N) (b : Fin 1024) (k : Fin 2048) :
    iblk m c 1 t (ix2 k b) = B (m ((c.tc : Thread nD τ).loc main_arg1)) (inOf (0) k) (colOf t.val b) := by
  have h1 := col_val t b
  have h2 := in_val t k
  blk_simp [iblk]
  rw [V_main_arg1]
  refine congrArg _ (funext fun j => Fin.ext ?_)
  fin_cases j <;> blk_simp [idx1]
  · exact h2.symm
  · exact h1.symm

theorem part_lt (t : Fin cfg0.N) : (t.val % 4) / 2 < 2 := by omega
theorem place_lt (t : Fin cfg0.N) (b : Fin 1024) : (t.val % 4) % 2 * 1024 + b.val < 2048 := by have := b.isLt; omega

theorem embo (t : Fin cfg0.N) (a : Fin 1056) (b : Fin 1024) :
    ((View.whole main_v0).slice (win0_2.rect t)).emb (ix3 0 a b) = ix3 ⟨_, part_lt t⟩ (rowOf t.val a) ⟨_, place_lt t b⟩ := by
  have h1 := row_val t a
  refine funext fun j => Fin.ext ?_
  fin_cases j <;> blk_simp [idxo]
  · rfl
  · exact h1.symm
  · rfl

theorem col_part (t : Fin cfg0.N) (b : Fin 1024) : colAt ⟨_, part_lt t⟩ ⟨_, place_lt t b⟩ = colOf t.val b := by
  have h1 := col_val t b
  refine Fin.ext (Eq.trans ?_ h1.symm)
  show (t.val % 4) / 2 * 2048 + ((t.val % 4) % 2 * 1024 + b.val) = _
  omega

theorem pay (x0 : Vec Ideal S1056x2048 .bf16) (x1 : Vec Ideal S2048x1024 .bf16) (a : Fin 1056) (b : Fin 1024) :
    k0_pay1 x0 x1 (ix3 0 a b) = ∑ k : Fin 2048, x0 (ix2 a k) * x1 (ix2 k b) := by
  pointwise [k0_pay1]

theorem in_zero (k : Fin 2048) : inOf 0 k = k := by
  refine Fin.ext ?_
  rw [inOf, Tiles.at_val (w := 2048) (by omega) 1 rfl _ (by omega)]
  omega

theorem dot_blk (t : Fin cfg0.N) (a : Fin 1056) (b : Fin 1024) (x0 : Vec Ideal S1056x2048 .bf16) (x1 : Vec Ideal S2048x1024 .bf16)
    (h0 : x0 = iblk m c 0 t) (h1 : x1 = iblk m c 1 t) : ∑ k : Fin 2048, x0 (ix2 a k) * x1 (ix2 k b)
      = ∑ k : Fin 2048, A (m ((c.tc : Thread nD τ).loc main_arg0)) (rowOf t.val a) k * B (m ((c.tc : Thread nD τ).loc main_arg1)) k (colOf t.val b) := by
  subst h0 h1
  exact Tiles.dot_congr (fun k => (blk0 m c t a k).trans (by rw [in_zero])) (fun k => (blk1 m c t b k).trans (by rw [in_zero]))

theorem final : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨p, a, b, rfl⟩ : ∃ (p : Fin 1) (a : Fin 1056) (b : Fin 1024), y = ix3 p a b := ⟨y 0, y 1, y 2, eq_ix3 y⟩
  obtain rfl : p = 0 := Subsingleton.elim _ _
  rw [embo, pay]
  refine (dot_blk m c t a b _ _ rfl rfl).trans ?_
  exact congrArg (fun q => ∑ k : Fin 2048, A (m ((c.tc : Thread nD τ).loc main_arg0)) (rowOf t.val a) k * B (m ((c.tc : Thread nD τ).loc main_arg1)) k q) (col_part t b).symm

end kernel

theorem sides (x : FVec Ideal Cert.KvKernelIdeal.S4224x2048 .bf16) (y : FVec Ideal Cert.KvKernelIdeal.S2048x4096 .bf16) (p : Fin 2) (a : Fin 4224) (b : Fin 2048) :
    (if h : p.val < 1 then ∑ k : Fin 2048, x (ix2 a k) * y (ix2 k ⟨b.val, by have := b.isLt; omega⟩) else ∑ k : Fin 2048, x (ix2 a k) * y (ix2 k ⟨2048 + b.val, by have := b.isLt; omega⟩))
      = result x y (ix3 p a b) := by
  have hp := p.isLt
  split_ifs
  all_goals
    refine Tiles.dot_congr (fun k => rfl) fun k => congrArg (fun q => y (ix2 k q)) (Fin.ext ?_)
    first
      | show b.val = p.val * 2048 + b.val; omega
      | show 2048 + b.val = p.val * 2048 + b.val; omega
      | show 4096 + b.val = p.val * 2048 + b.val; omega

theorem frame_kernel : Cert.quiescent_KvKernel (hKvKernel := Cert.KvKernel.Gen.facts) :=
  fun m ρ _ => Cert.KvKernel.Gen.frame m ρ

theorem frame_ideal : Cert.quiescent_KvKernelIdeal (hKvKernelIdeal := Cert.KvKernelIdeal.Gen.facts) :=
  fun m ρ _ => Cert.KvKernelIdeal.Gen.frame m ρ

theorem frame_reference : Cert.quiescent_KvReferenceIdeal (hKvReferenceIdeal := Cert.KvReferenceIdeal.Gen.facts) :=
  fun m ρ _ => (θ_run Cert.KvReferenceIdeal.defs _ _).mono
    (fun r h => ⟨fun c => (h c).2, sem_eq_zero_of_no_sems (by decide) r.2⟩) (Cert.KvReferenceIdeal.Value.run m ρ)

theorem value : Cert.algebraic_KvKernelIdeal_KvReferenceIdeal (hKvKernelIdeal := Cert.KvKernelIdeal.Gen.facts)
    (hKvReferenceIdeal := Cert.KvReferenceIdeal.Gen.facts) := by
  intro m g m' g' _ hagree
  refine ⟨_, (θ_run Cert.KvKernelIdeal.defs _ _).mono
      (fun r h c => ⟨(h c).1.trans (final m c), (h c).2⟩) (Cert.KvKernelIdeal.Value.run_blocks m g),
    (θ_run Cert.KvReferenceIdeal.defs _ _).mono (fun r h c => ⟨(h c).1.trans ?_, (h c).2⟩) (Cert.KvReferenceIdeal.Value.run m' g')⟩
  rw [(hagree c).1, (hagree c).2]
  funext i
  obtain ⟨p, a, b, rfl⟩ : ∃ (p : Fin 2) (a : Fin 4224) (b : Fin 2048), i = ix3 p a b := ⟨i 0, i 1, i 2, eq_ix3 i⟩
  pointwise []
  exact sides _ _ p a b

end Cert.Proof.Kv

end
-- ==== Proof.BQ.lean ====
/- The product of the queries. Frames, and the kernel's result. -/
module

public import proofs.«01_k».proof.Defs
public import proofs.«01_k».proof.Proof.Gen.BQKernel.Frame
public import proofs.«01_k».proof.Proof.Gen.BQKernelIdeal.Value
public import proofs.«01_k».proof.Proof.Gen.BQReferenceIdeal.Run
public import proofs.«01_k».proof.Proof.Tiles

@[expose] public section

set_option maxRecDepth 1000000

noncomputable section

namespace Cert.Proof.BQ

open Idealize.ShloMosaic Idealize.ShloMosaic.TcCoe Idealize.SL.Sem

/-- The entries of the two factors. -/
abbrev A (x : FVec Ideal Cert.BQKernelIdeal.S4224x2048 .bf16) (r : Fin 4224) (k : Fin 2048) : EReal := x (ix2 r k)
abbrev B (y : FVec Ideal Cert.BQKernelIdeal.S2048x2048 .bf16) (k : Fin 2048) (q : Fin 2048) : EReal := y (ix2 k q)

/-- The product. -/
def result (x : FVec Ideal Cert.BQKernelIdeal.S4224x2048 .bf16) (y : FVec Ideal Cert.BQKernelIdeal.S2048x2048 .bf16) : FVec Ideal Cert.BQKernelIdeal.S4224x2048 .f32 :=
  fun i => ∑ k : Fin 2048, A x (i 0) k * B y k (i 1)

section kernel
open Cert.BQKernelIdeal Cert.BQKernelIdeal.Gen
variable (m : (ℓ : Loc nD τ sig) → Buf (Elt Ideal) ℓ) (c : Dev nD)

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idxo : ∀ t : Fin cfg0.N, win0_2.index t = ![t.val / 2, t.val % 2] := (by decide +kernel : ∀ t : Fin grid0.N, _)

/-- The row, the column and the inner place of the blocks of point `t`. -/
def rowOf (n : ℕ) (a : Fin 1056) : Fin 4224 := Tiles.at' 4224 1056 (by omega) (n / 2) a
def colOf (n : ℕ) (b : Fin 1024) : Fin 2048 := Tiles.at' 2048 1024 (by omega) (n % 2) b
def inOf (j : ℕ) (x : Fin 2048) : Fin 2048 := Tiles.at' 2048 2048 (by omega) j x

theorem row_val (t : Fin cfg0.N) (a : Fin 1056) : (rowOf t.val a).val = t.val / 2 * 1056 + a.val := by
  have : t.val < 8 := t.isLt
  rw [rowOf, Tiles.at_val (w := 1056) (by omega) 4 rfl _ (by omega)]
theorem col_val (t : Fin cfg0.N) (b : Fin 1024) : (colOf t.val b).val = t.val % 2 * 1024 + b.val := by
  rw [colOf, Tiles.at_val (w := 1024) (by omega) 2 rfl _ (by omega)]
theorem in_val (t : Fin cfg0.N) (x : Fin 2048) : (inOf (0) x).val = x.val := by
  rw [inOf, Tiles.at_val (w := 2048) (by omega) 1 rfl _ (by omega)]; omega

theorem blk0 (t : Fin cfg0.N) (a : Fin 1056) (k : Fin 2048) :
    iblk m c 0 t (ix2 a k) = A (m ((c.tc : Thread nD τ).loc main_arg0)) (rowOf t.val a) (inOf (0) k) := by
  have h1 := row_val t a
  have h2 := in_val t k
  blk_simp [iblk]
  rw [V_main_arg0]
  refine congrArg _ (funext fun j => Fin.ext ?_)
  fin_cases j <;> blk_simp [idx0]
  · exact h1.symm
  · exact h2.symm

theorem blk1 (t : Fin cfg0.N) (b : Fin 1024) (k : Fin 2048) :
    iblk m c 1 t (ix2 k b) = B (m ((c.tc : Thread nD τ).loc main_arg1)) (inOf (0) k) (colOf t.val b) := by
  have h1 := col_val t b
  have h2 := in_val t k
  blk_simp [iblk]
  rw [V_main_arg1]
  refine congrArg _ (funext fun j => Fin.ext ?_)
  fin_cases j <;> blk_simp [idx1]
  · exact h2.symm
  · exact h1.symm

theorem embo (t : Fin cfg0.N) (a : Fin 1056) (b : Fin 1024) :
    ((View.whole main_v0).slice (win0_2.rect t)).emb (ix2 a b) = ix2 (rowOf t.val a) (colOf t.val b) := by
  have h1 := row_val t a
  have h2 := col_val t b
  refine funext fun j => Fin.ext ?_
  fin_cases j <;> blk_simp [idxo]
  · exact h1.symm
  · exact h2.symm

theorem pay (x0 : Vec Ideal S1056x2048 .bf16) (x1 : Vec Ideal S2048x1024 .bf16) (a : Fin 1056) (b : Fin 1024) :
    k0_pay1 x0 x1 (ix2 a b) = ∑ k : Fin 2048, x0 (ix2 a k) * x1 (ix2 k b) := by
  pointwise [k0_pay1]

theorem in_zero (k : Fin 2048) : inOf 0 k = k := by
  refine Fin.ext ?_
  rw [inOf, Tiles.at_val (w := 2048) (by omega) 1 rfl _ (by omega)]
  omega

theorem dot_blk (t : Fin cfg0.N) (a : Fin 1056) (b : Fin 1024) (x0 : Vec Ideal S1056x2048 .bf16) (x1 : Vec Ideal S2048x1024 .bf16)
    (h0 : x0 = iblk m c 0 t) (h1 : x1 = iblk m c 1 t) : ∑ k : Fin 2048, x0 (ix2 a k) * x1 (ix2 k b)
      = ∑ k : Fin 2048, A (m ((c.tc : Thread nD τ).loc main_arg0)) (rowOf t.val a) k * B (m ((c.tc : Thread nD τ).loc main_arg1)) k (colOf t.val b) := by
  subst h0 h1
  exact Tiles.dot_congr (fun k => (blk0 m c t a k).trans (by rw [in_zero])) (fun k => (blk1 m c t b k).trans (by rw [in_zero]))

theorem final : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨a, b, rfl⟩ : ∃ (a : Fin 1056) (b : Fin 1024), y = ix2 a b := ⟨y 0, y 1, eq_ix2 y⟩
  rw [embo, pay]
  exact dot_blk m c t a b _ _ rfl rfl

end kernel

theorem frame_kernel : Cert.quiescent_BQKernel (hBQKernel := Cert.BQKernel.Gen.facts) :=
  fun m ρ _ => Cert.BQKernel.Gen.frame m ρ

theorem frame_ideal : Cert.quiescent_BQKernelIdeal (hBQKernelIdeal := Cert.BQKernelIdeal.Gen.facts) :=
  fun m ρ _ => Cert.BQKernelIdeal.Gen.frame m ρ

theorem frame_reference : Cert.quiescent_BQReferenceIdeal (hBQReferenceIdeal := Cert.BQReferenceIdeal.Gen.facts) :=
  fun m ρ _ => (θ_run Cert.BQReferenceIdeal.defs _ _).mono
    (fun r h => ⟨fun c => (h c).2, sem_eq_zero_of_no_sems (by decide) r.2⟩) (Cert.BQReferenceIdeal.Value.run m ρ)

theorem value : Cert.algebraic_BQKernelIdeal_BQReferenceIdeal (hBQKernelIdeal := Cert.BQKernelIdeal.Gen.facts)
    (hBQReferenceIdeal := Cert.BQReferenceIdeal.Gen.facts) := by
  intro m g m' g' _ hagree
  refine ⟨_, (θ_run Cert.BQKernelIdeal.defs _ _).mono
      (fun r h c => ⟨(h c).1.trans (final m c), (h c).2⟩) (Cert.BQKernelIdeal.Value.run_blocks m g),
    (θ_run Cert.BQReferenceIdeal.defs _ _).mono (fun r h c => ⟨(h c).1.trans ?_, (h c).2⟩) (Cert.BQReferenceIdeal.Value.run m' g')⟩
  rw [(hagree c).1, (hagree c).2]
  funext i
  obtain ⟨a, b, rfl⟩ : ∃ (a : Fin 4224) (b : Fin 2048), i = ix2 a b := ⟨i 0, i 1, eq_ix2 i⟩
  pointwise []
  try rfl

end Cert.Proof.BQ

end
-- ==== Proof.BO.lean ====
/- The attention's last product. Frames, and the kernel's result. -/
module

public import proofs.«01_k».proof.Defs
public import proofs.«01_k».proof.Proof.Gen.BOKernel.Frame
public import proofs.«01_k».proof.Proof.Gen.BOKernelIdeal.Value
public import proofs.«01_k».proof.Proof.Gen.BOReferenceIdeal.Run
public import proofs.«01_k».proof.Proof.Tiles

@[expose] public section

set_option maxRecDepth 1000000

noncomputable section

namespace Cert.Proof.BO

open Idealize.ShloMosaic Idealize.ShloMosaic.TcCoe Idealize.SL.Sem

/-- The entries of the two factors. -/
abbrev A (x : FVec Ideal Cert.BOKernelIdeal.S4224x2048 .f32) (r : Fin 4224) (k : Fin 2048) : EReal := x (ix2 r k)
abbrev B (y : FVec Ideal Cert.BOKernelIdeal.S2048x2048 .bf16) (k : Fin 2048) (q : Fin 2048) : EReal := y (ix2 k q)

/-- The product. -/
def result (x : FVec Ideal Cert.BOKernelIdeal.S4224x2048 .f32) (y : FVec Ideal Cert.BOKernelIdeal.S2048x2048 .bf16) (z : FVec Ideal Cert.BOKernelIdeal.S4224x2048 .f32) : FVec Ideal Cert.BOKernelIdeal.S4224x2048 .f32 :=
  fun i => ∑ k : Fin 2048, A x (i 0) k * B y k (i 1) + z i

section kernel
open Cert.BOKernelIdeal Cert.BOKernelIdeal.Gen
variable (m : (ℓ : Loc nD τ sig) → Buf (Elt Ideal) ℓ) (c : Dev nD)

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idxo : ∀ t : Fin cfg0.N, win0_3.index t = ![t.val / 2, t.val % 2] := (by decide +kernel : ∀ t : Fin grid0.N, _)

theorem idxz : ∀ t : Fin cfg0.N, win0_2.index t = ![t.val / 2, t.val % 2] := (by decide +kernel : ∀ t : Fin grid0.N, _)

/-- The row, the column and the inner place of the blocks of point `t`. -/
def rowOf (n : ℕ) (a : Fin 528) : Fin 4224 := Tiles.at' 4224 528 (by omega) (n / 2) a
def colOf (n : ℕ) (b : Fin 1024) : Fin 2048 := Tiles.at' 2048 1024 (by omega) (n % 2) b
def inOf (j : ℕ) (x : Fin 2048) : Fin 2048 := Tiles.at' 2048 2048 (by omega) j x

theorem row_val (t : Fin cfg0.N) (a : Fin 528) : (rowOf t.val a).val = t.val / 2 * 528 + a.val := by
  have : t.val < 16 := t.isLt
  rw [rowOf, Tiles.at_val (w := 528) (by omega) 8 rfl _ (by omega)]
theorem col_val (t : Fin cfg0.N) (b : Fin 1024) : (colOf t.val b).val = t.val % 2 * 1024 + b.val := by
  rw [colOf, Tiles.at_val (w := 1024) (by omega) 2 rfl _ (by omega)]
theorem in_val (t : Fin cfg0.N) (x : Fin 2048) : (inOf (0) x).val = x.val := by
  rw [inOf, Tiles.at_val (w := 2048) (by omega) 1 rfl _ (by omega)]; omega

theorem blk0 (t : Fin cfg0.N) (a : Fin 528) (k : Fin 2048) :
    iblk m c 0 t (ix2 a k) = A (m ((c.tc : Thread nD τ).loc main_arg0)) (rowOf t.val a) (inOf (0) k) := by
  have h1 := row_val t a
  have h2 := in_val t k
  blk_simp [iblk]
  rw [V_main_arg0]
  refine congrArg _ (funext fun j => Fin.ext ?_)
  fin_cases j <;> blk_simp [idx0]
  · exact h1.symm
  · exact h2.symm

theorem blk1 (t : Fin cfg0.N) (b : Fin 1024) (k : Fin 2048) :
    iblk m c 1 t (ix2 k b) = B (m ((c.tc : Thread nD τ).loc main_arg1)) (inOf (0) k) (colOf t.val b) := by
  have h1 := col_val t b
  have h2 := in_val t k
  blk_simp [iblk]
  rw [V_main_arg1]
  refine congrArg _ (funext fun j => Fin.ext ?_)
  fin_cases j <;> blk_simp [idx1]
  · exact h2.symm
  · exact h1.symm

theorem blkz (t : Fin cfg0.N) (a : Fin 528) (b : Fin 1024) :
    iblk m c 2 t (ix2 a b) = m ((c.tc : Thread nD τ).loc main_arg2) (ix2 (rowOf t.val a) (colOf t.val b)) := by
  have h1 := row_val t a
  have h2 := col_val t b
  blk_simp [iblk]
  rw [V_main_arg2]
  refine congrArg _ (funext fun j => Fin.ext ?_)
  fin_cases j <;> blk_simp [idxz]
  · exact h1.symm
  · exact h2.symm

theorem embo (t : Fin cfg0.N) (a : Fin 528) (b : Fin 1024) :
    ((View.whole main_v0).slice (win0_3.rect t)).emb (ix2 a b) = ix2 (rowOf t.val a) (colOf t.val b) := by
  have h1 := row_val t a
  have h2 := col_val t b
  refine funext fun j => Fin.ext ?_
  fin_cases j <;> blk_simp [idxo]
  · exact h1.symm
  · exact h2.symm

theorem pay (x0 : Vec Ideal S528x2048 .f32) (x1 : Vec Ideal S2048x1024 .bf16) (x2 : Vec Ideal S528x1024 .f32) (a : Fin 528) (b : Fin 1024) :
    k0_pay1 x0 x1 x2 (ix2 a b) = ∑ k : Fin 2048, x0 (ix2 a k) * x1 (ix2 k b) + x2 (ix2 a b) := by
  pointwise [k0_pay1]

theorem in_zero (k : Fin 2048) : inOf 0 k = k := by
  refine Fin.ext ?_
  rw [inOf, Tiles.at_val (w := 2048) (by omega) 1 rfl _ (by omega)]
  omega

theorem dot_blk (t : Fin cfg0.N) (a : Fin 528) (b : Fin 1024) (x0 : Vec Ideal S528x2048 .f32) (x1 : Vec Ideal S2048x1024 .bf16)
    (h0 : x0 = iblk m c 0 t) (h1 : x1 = iblk m c 1 t) : ∑ k : Fin 2048, x0 (ix2 a k) * x1 (ix2 k b)
      = ∑ k : Fin 2048, A (m ((c.tc : Thread nD τ).loc main_arg0)) (rowOf t.val a) k * B (m ((c.tc : Thread nD τ).loc main_arg1)) k (colOf t.val b) := by
  subst h0 h1
  exact Tiles.dot_congr (fun k => (blk0 m c t a k).trans (by rw [in_zero])) (fun k => (blk1 m c t b k).trans (by rw [in_zero]))

theorem final : (dats m 0 c).arrAt 3 cfg0.N = result (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  obtain ⟨a, b, rfl⟩ : ∃ (a : Fin 528) (b : Fin 1024), y = ix2 a b := ⟨y 0, y 1, eq_ix2 y⟩
  rw [embo, pay]
  exact congrArg₂ (· + ·) (dot_blk m c t a b _ _ rfl rfl) (blkz m c t a b)

end kernel

theorem frame_kernel : Cert.quiescent_BOKernel (hBOKernel := Cert.BOKernel.Gen.facts) :=
  fun m ρ _ => Cert.BOKernel.Gen.frame m ρ

theorem frame_ideal : Cert.quiescent_BOKernelIdeal (hBOKernelIdeal := Cert.BOKernelIdeal.Gen.facts) :=
  fun m ρ _ => Cert.BOKernelIdeal.Gen.frame m ρ

theorem frame_reference : Cert.quiescent_BOReferenceIdeal (hBOReferenceIdeal := Cert.BOReferenceIdeal.Gen.facts) :=
  fun m ρ _ => (θ_run Cert.BOReferenceIdeal.defs _ _).mono
    (fun r h => ⟨fun c => (h c).2, sem_eq_zero_of_no_sems (by decide) r.2⟩) (Cert.BOReferenceIdeal.Value.run m ρ)

theorem value : Cert.algebraic_BOKernelIdeal_BOReferenceIdeal (hBOKernelIdeal := Cert.BOKernelIdeal.Gen.facts)
    (hBOReferenceIdeal := Cert.BOReferenceIdeal.Gen.facts) := by
  intro m g m' g' _ hagree
  refine ⟨_, (θ_run Cert.BOKernelIdeal.defs _ _).mono
      (fun r h c => ⟨(h c).1.trans (final m c), (h c).2⟩) (Cert.BOKernelIdeal.Value.run_blocks m g),
    (θ_run Cert.BOReferenceIdeal.defs _ _).mono (fun r h c => ⟨(h c).1.trans ?_, (h c).2⟩) (Cert.BOReferenceIdeal.Value.run m' g')⟩
  rw [(hagree c).1, (hagree c).2.1, (hagree c).2.2]
  funext i
  obtain ⟨a, b, rfl⟩ : ∃ (a : Fin 4224) (b : Fin 2048), i = ix2 a b := ⟨i 0, i 1, eq_ix2 i⟩
  pointwise []
  exact add_comm _ _

end Cert.Proof.BO

end
-- ==== Proof.Two.Model.lean ====
module

public import proofs.«01_k».proof.Proof.Gen.AttnTwoKernelIdeal.Skeleton
public import Idealize.ShloMosaic.Lib.VecWindow
public import Idealize.ShloMosaic.Lib.WordCmp
public import Idealize.ShloMosaic.Lib.Pointwise

/-! The step of the attention gradient at one grid point, as a plain function of the blocks it is
given: the block on the diagonal, then the blocks below it one after another, each adding to the
three sums the step carries and to its own rows of the gradient of the queries. -/

@[expose] public section
set_option maxRecDepth 16384
noncomputable section
namespace AttnTwo
open Cert.AttnTwoKernelIdeal Cert.AttnTwoKernelIdeal.Gen
open Idealize.ShloMosaic Idealize.ShloMosaic.TcCoe

variable {F : FTy → Type} [FloatOps F]

/-- The point of head 0 in column `n` of the grid. -/
def pt (n : Fin 11) : grid0.Coords := fun a => match a with
  | ⟨0, _⟩ => (⟨0, by decide⟩ : Fin 16)
  | ⟨1, _⟩ => n

/-- The column of a point. -/
def col (i : grid0.Coords) : Fin 11 := i 1

theorem off1 (i : grid0.Coords) : k0_off1 i = ![384 * (col i).val, 0] :=
  (by decide +kernel : ∀ n : Fin 11, k0_off1 (pt n) = ![384 * n.val, 0]) (col i)
theorem off2 (i : grid0.Coords) : k0_off2 i = ![0, 384 * (col i).val, 0] :=
  (by decide +kernel : ∀ n : Fin 11, k0_off2 (pt n) = ![0, 384 * n.val, 0]) (col i)
theorem trips1 (i : grid0.Coords) : (k0_t1_loop i).trips = 10 - (col i).val :=
  (by decide +kernel : ∀ n : Fin 11, (k0_t1_loop (pt n)).trips = 10 - n.val) (col i)
theorem trips2 (i : grid0.Coords) : (k0_t2_loop i).trips = 0 :=
  (by decide +kernel : ∀ n : Fin 11, (k0_t2_loop (pt n)).trips = 0) (col i)
theorem trips3 (i : grid0.Coords) : (k0_t3_loop i).trips = 10 - (col i).val :=
  (by decide +kernel : ∀ n : Fin 11, (k0_t3_loop (pt n)).trips = 10 - n.val) (col i)
theorem trips4 (i : grid0.Coords) : (k0_t4_loop i).trips = 0 :=
  (by decide +kernel : ∀ n : Fin 11, (k0_t4_loop (pt n)).trips = 0) (col i)
theorem off3 (i : grid0.Coords) (k : Fin (k0_t1_loop i).trips) : k0_off3 i k = ![384 * ((col i).val + 1 + k.val), 0] :=
  (by decide +kernel : ∀ n : Fin 11, ∀ k : Fin (k0_t1_loop (pt n)).trips, k0_off3 (pt n) k = ![384 * (n.val + 1 + k.val), 0]) (col i) k
theorem off4 (i : grid0.Coords) (k : Fin (k0_t1_loop i).trips) : k0_off4 i k = ![0, 384 * ((col i).val + 1 + k.val), 0] :=
  (by decide +kernel : ∀ n : Fin 11, ∀ k : Fin (k0_t1_loop (pt n)).trips, k0_off4 (pt n) k = ![0, 384 * (n.val + 1 + k.val), 0]) (col i) k
theorem off7 (i : grid0.Coords) (k : Fin (k0_t3_loop i).trips) : k0_off7 i k = ![384 * ((col i).val + 1 + k.val), 0] :=
  (by decide +kernel : ∀ n : Fin 11, ∀ k : Fin (k0_t3_loop (pt n)).trips, k0_off7 (pt n) k = ![384 * (n.val + 1 + k.val), 0]) (col i) k
theorem off8 (i : grid0.Coords) (k : Fin (k0_t3_loop i).trips) : k0_off8 i k = ![0, 384 * ((col i).val + 1 + k.val), 0] :=
  (by decide +kernel : ∀ n : Fin 11, ∀ k : Fin (k0_t3_loop (pt n)).trips, k0_off8 (pt n) k = ![0, 384 * (n.val + 1 + k.val), 0]) (col i) k
theorem cond2 (i : grid0.Coords) : k0_cond2 i = 1#1 ↔ (col i).val = 0 :=
  (by decide +kernel : ∀ n : Fin 11, k0_cond2 (pt n) = 1#1 ↔ n.val = 0) (col i)

/-- Rows `384 b … 384 b + 383` of an array of 4224 rows. -/
def tile {α : Type} (x : S4224x128.Idx → α) (b : ℕ) : S384x128.Idx → α :=
  fun y => x (ix2 (⟨(384 * b + (y 0).val) % 4224, Nat.mod_lt _ (by omega)⟩ : Fin 4224) (⟨(y 1).val, (y 1).isLt⟩ : Fin 128))

/-- The same rows of the array with a leading axis of length one. -/
def tile3 {α : Type} (x : S1x4224x128.Idx → α) (b : ℕ) : S1x384x128.Idx → α :=
  fun y => x (ix3 (⟨0, by omega⟩ : Fin 1) (⟨(384 * b + (y 1).val) % 4224, Nat.mod_lt _ (by omega)⟩ : Fin 4224) (⟨(y 2).val, (y 2).isLt⟩ : Fin 128))

/-- The array with `w` in rows `384 b … 384 b + 383`. -/
def putTile {α : Type} (x : S4224x128.Idx → α) (b : ℕ) (w : S384x128.Idx → α) : S4224x128.Idx → α :=
  VecWindow.put x ![384 * b, 0] S384x128.size w

theorem window_tile {α : Type} (x : S4224x128.Idx → α) (b : ℕ) (hb : b < 11) (off : Fin 2 → ℕ) (h : off = ![384 * b, 0])
    (inb : ∀ a, off a + S384x128.size a ≤ S4224x128.size a) :
    VecWindow.window x off S384x128.size inb = tile x b := by
  subst h
  funext y
  refine congrArg x (funext fun a => Fin.ext ?_)
  have h0 : (y 0).val < 384 := (y 0).isLt
  fin_cases a
  · show 384 * b + 1 * (y 0).val = (384 * b + (y 0).val) % 4224
    rw [Nat.mod_eq_of_lt (by omega)]; omega
  · show 0 + 1 * (y 1).val = (y 1).val
    omega

theorem window_tile3 {α : Type} (x : S1x4224x128.Idx → α) (b : ℕ) (hb : b < 11) (off : Fin 3 → ℕ) (h : off = ![0, 384 * b, 0])
    (inb : ∀ a, off a + S1x384x128.size a ≤ S1x4224x128.size a) :
    VecWindow.window x off S1x384x128.size inb = tile3 x b := by
  subst h
  funext y
  refine congrArg x (funext fun a => Fin.ext ?_)
  have h0 : (y 0).val < 1 := (y 0).isLt
  have h1 : (y 1).val < 384 := (y 1).isLt
  fin_cases a
  · show 0 + 1 * (y 0).val = 0
    omega
  · show 384 * b + 1 * (y 1).val = (384 * b + (y 1).val) % 4224
    rw [Nat.mod_eq_of_lt (by omega)]; omega
  · show 0 + 1 * (y 2).val = (y 2).val
    omega

/-- What one point is given. -/
structure Ins (F : FTy → Type) [FloatOps F] where
  q : Vec F S4224x128 .bf16
  k : Vec F S384x128 .bf16
  v : Vec F S384x128 .bf16
  o : Vec F S4224x128 .f32
  d : Vec F S4224x128 .bf16
  l : Vec F S1x4224x128 .f32
  c : Vec F S4224x128 .f32
  ct : Vec F S1x1x1x384 .f32
  pk : Vec F S384x128 .f32
  pv : Vec F S384x128 .f32
  pc : Vec F S1x1x1x384 .f32

/-- The sums a point carries: of the gradients of its keys (before the scale), of its values and of its gates. -/
abbrev Carry (F : FTy → Type) [FloatOps F] := FVec F S384x128 .f32 × FVec F S384x128 .f32 × FVec F S1x384 .f32

/-- The carried sums and the gradient of the queries so far. -/
abbrev St (F : FTy → Type) [FloatOps F] := Carry F × Vec F S4224x128 .f32

/-- The block on the diagonal. -/
def diag (i : grid0.Coords) (I : Ins F) (y : Vec F S4224x128 .f32) : St F :=
  let j : BitVec 32 := BitVec.ofNat 32 (i 1).val
  let b : ℕ := (col i).val
  let ck := k0_pay41 I.ct
  let lse := k0_pay45 (tile3 I.l b)
  let cq := k0_pay46 i (tile I.c b)
  let dd := k0_pay47 (tile I.d b) (tile I.o b)
  ((k0_pay52 j I.k I.v ck k0_pay42 (tile I.q b) (tile I.d b) lse cq dd,
    k0_pay51 j I.k ck k0_pay43 (tile I.q b) (tile I.d b) lse cq,
    k0_pay53 j I.k I.v ck k0_pay44 (tile I.q b) (tile I.d b) lse cq dd),
   putTile y b (k0_pay54 j I.k I.v ck (tile I.q b) (tile I.d b) lse cq dd (tile y b)))

/-- The `k`-th block below the diagonal in the first column, where the keys before the pad are masked. -/
def below1 (i : grid0.Coords) (I : Ins F) (k : Fin (k0_t1_loop i).trips) (s : St F) : St F :=
  let h : BitVec 32 := BitVec.ofNat 32 (i 0).val
  let j : BitVec 32 := BitVec.ofNat 32 (i 1).val
  let b : ℕ := (col i).val + 1 + k.val
  let ck := k0_pay41 I.ct
  let q := tile I.q b
  let d := tile I.d b
  let dd := k0_pay24 d (tile I.o b)
  let e := k0_pay25 h I.k ck q (tile3 I.l b) (tile I.c b)
  let rows := k0_pay26 i (Scalar.addi j 1#32) 1#32 k
  let cols := k0_pay27 j
  ((k0_pay5 I.v s.1.1 q d dd e rows cols, k0_pay4 s.1.2.1 d e rows cols, k0_pay6 I.v s.1.2.2 d dd e rows cols),
   putTile s.2 b (k0_pay7 I.k I.v d dd e rows cols (tile s.2 b)))

/-- The `k`-th block below the diagonal in the other columns, unmasked. -/
def below3 (i : grid0.Coords) (I : Ins F) (k : Fin (k0_t3_loop i).trips) (s : St F) : St F :=
  let h : BitVec 32 := BitVec.ofNat 32 (i 0).val
  let b : ℕ := (col i).val + 1 + k.val
  let ck := k0_pay41 I.ct
  let q := tile I.q b
  let d := tile I.d b
  let l := tile3 I.l b
  let c := tile I.c b
  let o := tile I.o b
  ((k0_pay15 s.1.1 q (k0_pay34 h I.k I.v ck q d l c o), k0_pay35 h I.k ck s.1.2.1 q d l c, k0_pay16 s.1.2.2 (k0_pay33 h I.k I.v ck q d l c o)),
   putTile s.2 b (k0_pay17 I.k (k0_pay34 h I.k I.v ck q d l c o) (tile s.2 b)))

/-- The state after `n` blocks below the diagonal. -/
def loop1 (i : grid0.Coords) (I : Ins F) (s : St F) : ℕ → St F
  | 0 => s
  | n + 1 => if h : n < (k0_t1_loop i).trips then below1 i I ⟨n, h⟩ (loop1 i I s n) else loop1 i I s n

/-- The state after `n` blocks below the diagonal. -/
def loop3 (i : grid0.Coords) (I : Ins F) (s : St F) : ℕ → St F
  | 0 => s
  | n + 1 => if h : n < (k0_t3_loop i).trips then below3 i I ⟨n, h⟩ (loop3 i I s n) else loop3 i I s n

/-- The whole point, from the gradient of the queries it finds. -/
def point (i : grid0.Coords) (I : Ins F) (y : Vec F S4224x128 .f32) : St F :=
  if (col i).val = 0 then loop1 i I (diag i I k0_pay40) (k0_t1_loop i).trips
  else loop3 i I (diag i I y) (k0_t3_loop i).trips

end AttnTwo
end
-- ==== Proof.Two.Head.lean ====
/- One head of the attention gradient over the reals, and the tiles of the kernel's step read there. -/
module

public import proofs.«01_k».proof.Proof.Two.Model
public import Idealize.ShloMosaic.Lib.Pipeline.ValueKit
public import Idealize.ShloMosaic.Lib.IdealHost
public import Idealize.ShloMosaic.Lib.Tactic.CleanTypes

@[expose] public section
set_option maxRecDepth 16384
noncomputable section
namespace AttnTwo
open Cert.AttnTwoKernelIdeal Cert.AttnTwoKernelIdeal.Gen
open Idealize.ShloMosaic Idealize.ShloMosaic.TcCoe

/-- A sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem exp_coe (r : ℝ) : Ideal.exp (r : EReal) = ((Real.exp r : ℝ) : EReal) := rfl

/-- The scale of the scores, the single-precision number nearest to one over the root of 128. -/
def scl : ℝ := 11863283 / 134217728

theorem scl_word : Ideal.ofBits .f32 1035273459#32 = ((scl : ℝ) : EReal) := by
  simp [Ideal.ofBits, Ideal.ieee, scl]
  rw [← EReal.coe_mul]
  norm_num

/-- Row `a` of block `b`. -/
def row (b : ℕ) (a : Fin 384) : Fin 4224 := ⟨(384 * b + a.val) % 4224, Nat.mod_lt _ (by omega)⟩

theorem row_val (b : ℕ) (a : Fin 384) (h : b < 11) : (row b a).val = 384 * b + a.val := by
  have := a.isLt
  exact Nat.mod_eq_of_lt (by omega)

/-- One head: the queries, keys, values, the gradient of the output, the output, the logarithm of the normalizer and the
    running sum of the gates, row by row. -/
structure Head where
  q : Fin 4224 → Fin 128 → ℝ
  k : Fin 4224 → Fin 128 → ℝ
  v : Fin 4224 → Fin 128 → ℝ
  d : Fin 4224 → Fin 128 → ℝ
  o : Fin 4224 → Fin 128 → ℝ
  l : Fin 4224 → ℝ
  c : Fin 4224 → ℝ

namespace Head
variable (H : Head)

/-- The score of key `j` for query `i`. -/
def s (i j : Fin 4224) : ℝ := (∑ e, H.q i e * H.k j e) * scl + (H.c i - H.c j)

/-- The weight of key `j` for query `i`: none before the pad and none after the query. -/
def p (i j : Fin 4224) : ℝ := if 112 ≤ j.val ∧ j.val ≤ i.val then Real.exp (H.s i j - H.l i) else 0

/-- The gradient of the score. -/
def ds (i j : Fin 4224) : ℝ := H.p i j * ((∑ e, H.d i e * H.v j e) - ∑ e, H.d i e * H.o i e)

end Head

/-- The lane of a point's head. -/
def lane (i : grid0.Coords) : Fin 128 := ⟨(i 0).val, lt_of_lt_of_le (i 0).isLt (by decide)⟩

/-- The blocks a point is given are those of the head. -/
structure Reads (H : Head) (i : grid0.Coords) (I : Ins Ideal) : Prop where
  q : ∀ r e, I.q (ix2 r e) = (H.q r e : EReal)
  k : ∀ x e, I.k (ix2 x e) = (H.k (row (col i).val x) e : EReal)
  v : ∀ x e, I.v (ix2 x e) = (H.v (row (col i).val x) e : EReal)
  o : ∀ r e, I.o (ix2 r e) = (H.o r e : EReal)
  d : ∀ r e, I.d (ix2 r e) = (H.d r e : EReal)
  l : ∀ r, I.l (ix3 0 r 0) = (H.l r : EReal)
  c : ∀ r, I.c (ix2 r (lane i)) = (H.c r : EReal)
  ct : ∀ x, I.ct (ix4 0 0 0 x) = (H.c (row (col i).val x) : EReal)

theorem tile_at {α : Type} (x : S4224x128.Idx → α) (b : ℕ) (a : Fin 384) (e : Fin 128) :
    tile x b (ix2 a e) = x (ix2 (row b a) e) := rfl

theorem tile3_at {α : Type} (x : S1x4224x128.Idx → α) (b : ℕ) (a : Fin 384) (e : Fin 128) :
    tile3 x b (ix3 0 a e) = x (ix3 0 (row b a) e) := rfl

theorem word (n a : ℕ) : IntOp.addi (Scalar.muli (BitVec.ofNat 32 n) 384#32) (BitVec.ofNat 32 a) = BitVec.ofNat 32 (384 * n + a) := by
  show BitVec.ofNat 32 n * BitVec.ofNat 32 384 + BitVec.ofNat 32 a = _
  rw [← BitVec.ofNat_mul, ← BitVec.ofNat_add, Nat.mul_comm]

theorem mask_select {α : Type} (n m : ℕ) (hn : n < 4224) (hm : m < 4224) (A B : α) :
    Scalar.select (IntOp.andi (IntOp.cmpi .sle (BitVec.ofNat 32 m) (BitVec.ofNat 32 n)) (IntOp.cmpi .sge (BitVec.ofNat 32 m) 112#32)) A B
      = if 112 ≤ m ∧ m ≤ n then A else B := by
  rw [WordCmp.cmpi_sle_ofNat (by omega) (by omega), WordCmp.cmpi_sge_ofNat (by omega) (by omega), WordCmp.andi_ofBool, WordCmp.select_ofBool]
  by_cases h1 : 112 ≤ m <;> by_cases h2 : m ≤ n <;> simp [h1, h2]

theorem pick (f : Fin 128 → EReal) (h : Fin 128) :
    (∑ e : Fin 128, Scalar.select (IntOp.cmpi .eq (BitVec.ofNat 32 e.val) (BitVec.ofNat 32 h.val)) (f e) 0) = f h := by
  rw [Finset.sum_eq_single h]
  · rw [WordCmp.cmpi_eq_eq, WordCmp.select_ofBool]; simp
  · intro b _ hb
    have h1 := b.isLt; have h2 := h.isLt
    have : ¬ BitVec.ofNat 32 b.val = BitVec.ofNat 32 h.val := by
      rw [WordCmp.ofNat_eq_ofNat_iff (by omega) (by omega)]
      exact fun e => hb (Fin.ext e)
    rw [WordCmp.cmpi_eq_eq, WordCmp.select_ofBool]; simp [this]
  · intro h; exact absurd (Finset.mem_univ _) h

theorem zero_f32 : Ideal.ofBits .f32 0#32 = 0 := by simp [Ideal.ofBits, Ideal.ieee]

section
variable {H : Head} {i : grid0.Coords} {I : Ins Ideal} (R : Reads H i I)
include R

theorem ck_at (x : Fin 384) : k0_pay41 I.ct (ix2 0 x) = (H.c (row (col i).val x) : EReal) := by
  pointwise [k0_pay41]; exact R.ct x

theorem lse_at (b : ℕ) (a : Fin 384) : k0_pay45 (tile3 I.l b) (ix2 a 0) = (H.l (row b a) : EReal) := by
  pointwise [k0_pay45]; exact R.l _

theorem cq_at (b : ℕ) (a : Fin 384) : k0_pay46 i (tile I.c b) (ix2 a 0) = (H.c (row b a) : EReal) := by
  pointwise [k0_pay46]; exact (pick (fun e => tile I.c b (ix2 a e)) (lane i)).trans (R.c _)

/-- The exponential of the scores, before a mask. -/
theorem e_at (b : ℕ) (a x : Fin 384) :
    k0_pay32 (BitVec.ofNat 32 (i 0).val) I.k (k0_pay41 I.ct) (tile I.q b) (tile3 I.l b) (tile I.c b) (ix2 a x)
      = ((Real.exp (H.s (row b a) (row (col i).val x) - H.l (row b a)) : ℝ) : EReal) := by
  have hc := (pick (fun e => tile I.c b (ix2 a e)) (lane i)).trans (R.c _)
  pointwise [k0_pay32]
  rw [ck_at R]
  refine Eq.trans ?_ (exp_coe _)
  refine congrArg Ideal.exp ?_
  refine Eq.trans (congrArg₂ (· - ·) (congrArg₂ (· + ·) (congrArg₂ (· * ·) (Finset.sum_congr rfl fun e _ => congrArg₂ (· * ·) (R.q _ _) (R.k _ _)) scl_word) (congrArg (· - _) hc)) (R.l _)) ?_
  simp only [← EReal.coe_mul, ← coe_sum, ← EReal.coe_add, ← EReal.coe_sub]
  rfl

theorem e1_at (b : ℕ) (a x : Fin 384) :
    k0_pay25 (BitVec.ofNat 32 (i 0).val) I.k (k0_pay41 I.ct) (tile I.q b) (tile3 I.l b) (tile I.c b) (ix2 a x)
      = ((Real.exp (H.s (row b a) (row (col i).val x) - H.l (row b a)) : ℝ) : EReal) := e_at R b a x

/-- The weights of the block on the diagonal. -/
theorem p0_at (a x : Fin 384) :
    k0_pay48 (BitVec.ofNat 32 (i 1).val) I.k (k0_pay41 I.ct) (tile I.q (col i).val) (k0_pay45 (tile3 I.l (col i).val)) (k0_pay46 i (tile I.c (col i).val)) (ix2 a x)
      = (H.p (row (col i).val a) (row (col i).val x) : EReal) := by
  have hb := (col i).isLt
  have ha := a.isLt
  have hx := x.isLt
  pointwise [k0_pay48]
  rw [ck_at R, lse_at R, cq_at R]
  show Scalar.select (IntOp.andi (IntOp.cmpi .sle (IntOp.addi (Scalar.muli (BitVec.ofNat 32 (col i).val) 384#32) _) (IntOp.addi (Scalar.muli (BitVec.ofNat 32 (col i).val) 384#32) _)) (IntOp.cmpi .sge (IntOp.addi (Scalar.muli (BitVec.ofNat 32 (col i).val) 384#32) _) _)) _ _ = _
  rw [word, word, mask_select _ _ (by omega) (by omega)]
  unfold Head.p
  rw [row_val _ _ hb, row_val _ _ hb]
  split
  · refine Eq.trans ?_ (exp_coe _)
    refine congrArg Ideal.exp ?_
    refine Eq.trans (congrArg₂ (· - ·) (congrArg₂ (· + ·) (congrArg₂ (· * ·) (Finset.sum_congr rfl fun e _ => congrArg₂ (· * ·) (R.q _ _) (R.k _ _)) scl_word) rfl) rfl) ?_
    simp only [← EReal.coe_mul, ← coe_sum, ← EReal.coe_add, ← EReal.coe_sub]
    rfl
  · rfl

/-- The weights of a block below the diagonal in the first column. -/
theorem p1_at (k : Fin (k0_t1_loop i).trips) (a x : Fin 384) :
    k0_pay1 (k0_pay25 (BitVec.ofNat 32 (i 0).val) I.k (k0_pay41 I.ct) (tile I.q ((col i).val + 1 + k.val)) (tile3 I.l ((col i).val + 1 + k.val)) (tile I.c ((col i).val + 1 + k.val)))
      (k0_pay26 i (Scalar.addi (BitVec.ofNat 32 (i 1).val) 1#32) 1#32 k) (k0_pay27 (BitVec.ofNat 32 (i 1).val)) (ix2 a x)
      = (H.p (row ((col i).val + 1 + k.val) a) (row (col i).val x) : EReal) := by
  have hb := (col i).isLt
  have ha := a.isLt
  have hx := x.isLt
  have hk : k.val < 10 - (col i).val := lt_of_lt_of_eq k.isLt (trips1 i)
  have hrow : k0_pay26 i (Scalar.addi (BitVec.ofNat 32 (i 1).val) 1#32) 1#32 k (ix2 a x) = BitVec.ofNat 32 (384 * ((col i).val + 1 + k.val) + a.val) := by
    pointwise [k0_pay26]
    rw [← word]
    refine congrArg (fun z => IntOp.addi (Scalar.muli z 384#32) _) ?_
    show BitVec.ofNat 32 (col i).val + BitVec.ofNat 32 1 + BitVec.ofNat 32 k.val * BitVec.ofNat 32 1 = _
    rw [← BitVec.ofNat_mul, ← BitVec.ofNat_add, ← BitVec.ofNat_add, Nat.mul_one]
  have hcol : k0_pay27 (BitVec.ofNat 32 (i 1).val) (ix2 a x) = BitVec.ofNat 32 (384 * (col i).val + x.val) := by
    pointwise [k0_pay27]
    exact word (col i).val x.val
  pointwise [k0_pay1]
  rw [hrow, hcol, mask_select _ _ (by omega) (by omega), e1_at R]
  unfold Head.p
  rw [row_val _ _ hb, row_val _ _ (by omega)]
  split <;> rfl

/-- The weights of a block below the diagonal in another column. -/
theorem p3_at (h0 : (col i).val ≠ 0) (n : ℕ) (hn : (col i).val + 1 + n < 11) (a x : Fin 384) :
    k0_pay32 (BitVec.ofNat 32 (i 0).val) I.k (k0_pay41 I.ct) (tile I.q ((col i).val + 1 + n)) (tile3 I.l ((col i).val + 1 + n)) (tile I.c ((col i).val + 1 + n)) (ix2 a x)
      = (H.p (row ((col i).val + 1 + n) a) (row (col i).val x) : EReal) := by
  have hb := (col i).isLt
  have hx := x.isLt
  rw [e_at R]
  unfold Head.p
  rw [if_pos (by rw [row_val _ _ hb, row_val _ _ hn]; omega)]

theorem dp_at (b : ℕ) (a x : Fin 384) :
    (∑ e, tile I.d b (ix2 a e) * I.v (ix2 x e) - ∑ e, tile I.d b (ix2 a e) * tile I.o b (ix2 a e) : EReal)
      = (((∑ e, H.d (row b a) e * H.v (row (col i).val x) e) - ∑ e, H.d (row b a) e * H.o (row b a) e : ℝ) : EReal) := by
  refine Eq.trans (congrArg₂ (· - ·) (Finset.sum_congr rfl fun e _ => congrArg₂ (· * ·) (R.d _ _) (R.v _ _)) (Finset.sum_congr rfl fun e _ => congrArg₂ (· * ·) (R.d _ _) (R.o _ _))) ?_
  simp only [← EReal.coe_mul, ← coe_sum, ← EReal.coe_sub]
  rfl

theorem ds0_at (a x : Fin 384) :
    k0_pay49 (BitVec.ofNat 32 (i 1).val) I.k I.v (k0_pay41 I.ct) (tile I.q (col i).val) (tile I.d (col i).val) (k0_pay45 (tile3 I.l (col i).val)) (k0_pay46 i (tile I.c (col i).val))
      (k0_pay47 (tile I.d (col i).val) (tile I.o (col i).val)) (ix2 a x)
      = (H.ds (row (col i).val a) (row (col i).val x) : EReal) := by
  pointwise [k0_pay49]
  rw [p0_at R]
  refine Eq.trans (congrArg _ (Eq.trans ?_ (dp_at R (col i).val a x))) (EReal.coe_mul _ _).symm
  refine congrArg _ (Finset.sum_congr rfl fun e _ => ?_)
  pointwise [k0_pay47]

theorem ds1_at (k : Fin (k0_t1_loop i).trips) (a x : Fin 384) :
    k0_pay2 I.v (tile I.d ((col i).val + 1 + k.val)) (k0_pay24 (tile I.d ((col i).val + 1 + k.val)) (tile I.o ((col i).val + 1 + k.val)))
      (k0_pay25 (BitVec.ofNat 32 (i 0).val) I.k (k0_pay41 I.ct) (tile I.q ((col i).val + 1 + k.val)) (tile3 I.l ((col i).val + 1 + k.val)) (tile I.c ((col i).val + 1 + k.val)))
      (k0_pay26 i (Scalar.addi (BitVec.ofNat 32 (i 1).val) 1#32) 1#32 k) (k0_pay27 (BitVec.ofNat 32 (i 1).val)) (ix2 a x)
      = (H.ds (row ((col i).val + 1 + k.val) a) (row (col i).val x) : EReal) := by
  pointwise [k0_pay2]
  rw [p1_at R]
  refine Eq.trans (congrArg _ (Eq.trans ?_ (dp_at R _ a x))) (EReal.coe_mul _ _).symm
  refine congrArg _ ?_
  pointwise [k0_pay24]

theorem ds3_at (h0 : (col i).val ≠ 0) (n : ℕ) (hn : (col i).val + 1 + n < 11) (a x : Fin 384) :
    k0_pay33 (BitVec.ofNat 32 (i 0).val) I.k I.v (k0_pay41 I.ct) (tile I.q ((col i).val + 1 + n)) (tile I.d ((col i).val + 1 + n)) (tile3 I.l ((col i).val + 1 + n))
      (tile I.c ((col i).val + 1 + n)) (tile I.o ((col i).val + 1 + n)) (ix2 a x)
      = (H.ds (row ((col i).val + 1 + n) a) (row (col i).val x) : EReal) := by
  pointwise [k0_pay33]
  rw [p3_at R h0 n hn]
  exact Eq.trans (congrArg _ (dp_at R _ a x)) (EReal.coe_mul _ _).symm

end

end AttnTwo
end
-- ==== Proof.Two.Soft.lean ====
/- The attention gradient over the reals: the softmax of the scores and what follows from it, head by head. -/
module

public import proofs.«01_k».proof.Proof.Two.Head

@[expose] public section
noncomputable section
namespace AttnTwo
open Idealize.ShloMosaic

theorem div_coe (a b : ℝ) (hb : b ≠ 0) : Ideal.div (a : EReal) (b : EReal) = ((a / b : ℝ) : EReal) := by
  unfold Ideal.div
  rw [if_neg (by simpa using hb), div_eq_mul_inv, EReal.coe_mul, EReal.coe_inv]

theorem log_coe (a : ℝ) (ha : 0 < a) : Ideal.log (a : EReal) = ((Real.log a : ℝ) : EReal) := by
  show (if a ≤ 0 then ⊥ else ((Real.log a : ℝ) : EReal)) = _
  rw [if_neg (not_le.2 ha)]

/-- The arguments, as real arrays. -/
structure Data where
  Q : Fin 4224 → Fin 2048 → ℝ
  K : Fin 4224 → Fin 2048 → ℝ
  V : Fin 4224 → Fin 2048 → ℝ
  G : Fin 4224 → Fin 2048 → ℝ
  C : Fin 16 → Fin 4224 → ℝ

/-- Entry `e` of head `h`. -/
def hc (h : Fin 16) (e : Fin 128) : Fin 2048 := ⟨128 * h.val + e.val, by have := h.isLt; have := e.isLt; omega⟩

namespace Data
variable (D : Data) (h : Fin 16)

/-- The score of key `j` for query `i`. -/
def sc (i j : Fin 4224) : ℝ := (∑ e, D.Q i (hc h e) * D.K j (hc h e)) * scl + (D.C h i - D.C h j)

/-- The score where the key is seen, nothing elsewhere. -/
def ms (i j : Fin 4224) : EReal := if 112 ≤ j.val ∧ j.val ≤ i.val then (D.sc h i j : EReal) else ⊥

/-- The largest score seen. -/
def mx (i : Fin 4224) : ℝ := (Finset.univ.fold max ⊥ (D.ms h i)).toReal

theorem mx_coe (i : Fin 4224) (hi : 112 ≤ i.val) : Finset.univ.fold max ⊥ (D.ms h i) = (D.mx h i : EReal) := by
  have hs : Finset.univ.fold max ⊥ (D.ms h i) = Finset.univ.sup (D.ms h i) := rfl
  have hb : Finset.univ.fold max ⊥ (D.ms h i) ≠ ⊥ := by
    rw [hs]
    intro e
    have := (Finset.sup_eq_bot_iff _ _).1 e ⟨112, by omega⟩ (Finset.mem_univ _)
    unfold ms at this
    rw [if_pos ⟨le_rfl, hi⟩] at this
    exact EReal.coe_ne_bot _ this
  have ht : Finset.univ.fold max ⊥ (D.ms h i) ≠ ⊤ := by
    rw [hs]
    obtain ⟨j, _, hj⟩ := Finset.exists_mem_eq_sup Finset.univ ⟨i, Finset.mem_univ i⟩ (D.ms h i)
    rw [hj]
    unfold ms
    split
    · exact EReal.coe_ne_top _
    · exact bot_ne_top
  exact (EReal.coe_toReal ht hb).symm

/-- The weight before it is normalized. -/
def ex (i j : Fin 4224) : ℝ := if 112 ≤ j.val ∧ j.val ≤ i.val then Real.exp (D.sc h i j - D.mx h i) else 0

theorem ex_coe (i j : Fin 4224) : Ideal.exp (D.ms h i j - (D.mx h i : EReal)) = (D.ex h i j : EReal) := by
  unfold ms ex
  split
  · rw [← EReal.coe_sub]; rfl
  · rw [EReal.bot_sub]; rfl

theorem ex_nonneg (i j : Fin 4224) : 0 ≤ D.ex h i j := by
  unfold ex
  split
  · exact (Real.exp_pos _).le
  · exact le_rfl

/-- The normalizer. -/
def nl (i : Fin 4224) : ℝ := ∑ j, D.ex h i j

theorem nl_pos (i : Fin 4224) (hi : 112 ≤ i.val) : 0 < D.nl h i := by
  unfold nl
  refine Finset.sum_pos' (fun j _ => D.ex_nonneg h i j) ⟨⟨112, by omega⟩, Finset.mem_univ _, ?_⟩
  unfold ex
  rw [if_pos ⟨le_rfl, hi⟩]
  exact Real.exp_pos _

/-- The weight. -/
def pr (i j : Fin 4224) : ℝ := D.ex h i j / D.nl h i

theorem pr_sum (i : Fin 4224) (hi : 112 ≤ i.val) : ∑ j, D.pr h i j = 1 := by
  unfold pr
  rw [← Finset.sum_div]
  exact div_self (D.nl_pos h i hi).ne'

/-- Head `h`, its output and the logarithm of its normalizer zero on the rows before the pad's end. -/
def head : Head where
  q r e := D.Q r (hc h e)
  k r e := D.K r (hc h e)
  v r e := D.V r (hc h e)
  d r e := D.G r (hc h e)
  o r e := if 112 ≤ r.val then ∑ j, D.pr h r j * D.V j (hc h e) else 0
  l r := if 112 ≤ r.val then D.mx h r + Real.log (D.nl h r) else 0
  c := D.C h

theorem head_p (i j : Fin 4224) (hi : 112 ≤ i.val) : (D.head h).p i j = D.pr h i j := by
  unfold pr ex Head.p
  split
  · show Real.exp (D.sc h i j - if 112 ≤ i.val then D.mx h i + Real.log (D.nl h i) else 0) = _
    rw [if_pos hi, ← sub_sub, Real.exp_sub, Real.exp_log (D.nl_pos h i hi)]
  · rw [zero_div]

theorem head_p_low (i j : Fin 4224) (hi : ¬ 112 ≤ i.val) : (D.head h).p i j = 0 := by
  unfold Head.p; rw [if_neg (by omega)]

theorem head_ds_low (i j : Fin 4224) (hi : ¬ 112 ≤ i.val) : (D.head h).ds i j = 0 := by
  unfold Head.ds; rw [head_p_low D h i j hi, zero_mul]

/-- The gradient of the weight. -/
def dp (i j : Fin 4224) : ℝ := ∑ e, D.G i (hc h e) * D.V j (hc h e)

theorem head_ds (i j : Fin 4224) (hi : 112 ≤ i.val) :
    (D.head h).ds i j = D.pr h i j * (D.dp h i j - ∑ n, D.pr h i n * D.dp h i n) := by
  unfold Head.ds
  rw [head_p D h i j hi]
  refine congrArg (fun z => D.pr h i j * (D.dp h i j - z)) ?_
  show (∑ e, D.G i (hc h e) * if 112 ≤ i.val then ∑ n, D.pr h i n * D.V n (hc h e) else 0) = _
  simp only [if_pos hi]
  unfold dp
  simp only [Finset.mul_sum]
  rw [Finset.sum_comm]
  refine Finset.sum_congr rfl fun n _ => Finset.sum_congr rfl fun e _ => ?_
  ring

theorem head_ds_sum (i : Fin 4224) : ∑ j, (D.head h).ds i j = 0 := by
  by_cases hi : 112 ≤ i.val
  · rw [Finset.sum_congr rfl fun j _ => head_ds D h i j hi]
    simp only [mul_sub]
    rw [Finset.sum_sub_distrib, ← Finset.sum_mul, pr_sum D h i hi, one_mul, sub_self]
  · exact Finset.sum_eq_zero fun j _ => head_ds_low D h i j hi

/-- The gradient of the score as the gradient of the quotient gives it. -/
theorem ds_quotient (i j : Fin 4224) (hi : 112 ≤ i.val) :
    (D.dp h i j / D.nl h i + -(∑ n, D.dp h i n * (1 / (D.nl h i * D.nl h i)) * D.ex h i n)) * D.ex h i j = (D.head h).ds i j := by
  have hl := (D.nl_pos h i hi).ne'
  rw [head_ds D h i j hi]
  have e : (∑ n, D.pr h i n * D.dp h i n) = (∑ n, D.dp h i n * (1 / (D.nl h i * D.nl h i)) * D.ex h i n) * D.nl h i := by
    rw [Finset.sum_mul]
    refine Finset.sum_congr rfl fun n _ => ?_
    unfold pr
    field_simp
  rw [e]
  unfold pr
  field_simp
  ring

end Data

/-- Row `i` of the rows kept. -/
def up (i : Fin 4112) : Fin 4224 := ⟨112 + i.val, by have := i.isLt; omega⟩

theorem up_le (i : Fin 4112) : 112 ≤ (up i).val := Nat.le_add_right _ _

/-- A sum over all rows of what is zero before the pad's end. -/
theorem sum_up (f : Fin 4224 → ℝ) (h : ∀ r : Fin 4224, ¬ 112 ≤ r.val → f r = 0) : ∑ r, f r = ∑ i, f (up i) := by
  have e := Fin.sum_univ_add (a := 112) (b := 4112) f
  refine e.trans ?_
  rw [Finset.sum_eq_zero fun a _ => h _ ?_, zero_add]
  · rfl
  · show ¬ 112 ≤ a.val
    have := a.isLt
    omega

end AttnTwo
end
-- ==== Proof.Two.AttnRefTerm.lean ====
/- The attention gradient: the reference's results as compositions of its stages, each stage a function of the arrays it reads. -/
module

public import proofs.«01_k».proof.Proof.Gen.AttnTwoReferenceIdeal.Run
public import proofs.«01_k».proof.Proof.Two.Soft

@[expose] public section
set_option maxRecDepth 1000000
noncomputable section
namespace AttnTwo.Ref
open Cert.AttnTwoReferenceIdeal Cert.AttnTwoReferenceIdeal.Gen Idealize.ShloMosaic Idealize.ShloMosaic.TcCoe Idealize.SL.Sem

abbrev X := FVec Ideal S4224x2048 .bf16
abbrev X3 := FVec Ideal S4224x16x128 .f32
abbrev Q3 := FVec Ideal S4112x16x128 .f32
abbrev Cs := FVec Ideal S16x4224 .f32
abbrev T := FVec Ideal S16x4112x4224 .f32
abbrev R1 := FVec Ideal S16x4112 .f32
abbrev R2 := FVec Ideal S16x4112x1 .f32
abbrev G3 := FVec Ideal S16x128x4112 .f32

/-- A matrix split into heads. -/
def heads (x : X) : X3 := shapeCast _ (extf .f32 x bitsLt_bf16_f32) shapeCasts_S4224x2048_S4224x16x128

/-- The rows kept. -/
def kept (x : X3) : Q3 := extractStridedSlice S4112x16x128 ![112, 0, 0] x slices_S4224x16x128_S4112x16x128_112_0_0

/-- The scores. -/
def score (q : Q3) (k : X3) (c : Cs) : T :=
  addf (mulf (Host.dotGeneral dot_S4112x16x128_S4224x16x128_S16x4112x4224_2_2_0_0_1_1 none q k)
      (broadcastInDim S16x4112x4224 ![] bcast_S_S16x4112x4224 (constant S_ .f32 0x3DB504F3#32)))
    (subf (broadcastInDim S16x4112x4224 ![0, 1, 2] bcast_S16x4112x1_S16x4112x4224_0_1_2
        (broadcastInDim S16x4112x1 ![0, 1] bcast_S16x4112_S16x4112x1_0_1
          (extractStridedSlice S16x4112 ![0, 112] c slices_S16x4224_S16x4112_0_112)))
      (broadcastInDim S16x4112x4224 ![0, 1, 2] bcast_S16x1x4224_S16x4112x4224_0_1_2
        (broadcastInDim S16x1x4224 ![0, 2] bcast_S16x4224_S16x1x4224_0_2 c)))

/-- Which keys a query sees. -/
def mask : IVec S4112x4224 1 :=
  andi
    (cmpi .sle
      (broadcastInDim S4112x4224 ![0, 1] bcast_S1x4224_S4112x4224_0_1
        (broadcastInDim S1x4224 ![1] bcast_S4224_S1x4224_1 (iotaInDim S4224 32 0)))
      (broadcastInDim S4112x4224 ![0, 1] bcast_S4112x1_S4112x4224_0_1
        (broadcastInDim S4112x1 ![0] bcast_S4112_S4112x1_0
          (addi (broadcastInDim S4112 ![] bcast_S_S4112 (constantI S_ 32 112#32)) (iotaInDim S4112 32 0)))))
    (broadcastInDim S4112x4224 ![0, 1] bcast_S1x4224_S4112x4224_0_1
      (cmpi .sge (broadcastInDim S1x4224 ![1] bcast_S4224_S1x4224_1 (iotaInDim S4224 32 0))
        (broadcastInDim S1x4224 ![] bcast_S_S1x4224 (constantI S_ 32 112#32))))

/-- The scores seen. -/
def seen (s : T) : T :=
  select (broadcastInDim S16x4112x4224 ![1, 2] bcast_S4112x4224_S16x4112x4224_1_2 mask) s
    (broadcastInDim S16x4112x4224 ![] bcast_S_S16x4112x4224 (id (constant S_ .f32 0xFF800000#32)))

/-- The largest score of a query. -/
def largest (s : T) : R1 :=
  maximumf (broadcastInDim S16x4112 ![] bcast_S_S16x4112 (constant S_ .f32 0xFF800000#32))
    (Host.reduce FloatOps.maximumf s (constant S_ .f32 0xFF800000#32) reducesTo_S16x4112x4224_S16x4112_d2 h_S_)

/-- The weights before they are normalized. -/
def weight (s : T) (x : R1) : T :=
  Host.exp (subf s (broadcastInDim S16x4112x4224 ![0, 1, 2] bcast_S16x4112x1_S16x4112x4224_0_1_2
    (broadcastInDim S16x4112x1 ![0, 1] bcast_S16x4112_S16x4112x1_0_1 x)))

/-- The sum over the keys. -/
def total (e : T) : R1 := Host.reduceAdd e (constant S_ .f32 0x00000000#32) reducesTo_S16x4112x4224_S16x4112_d2 h_S_

def col1 (x : R1) : R2 := broadcastInDim S16x4112x1 ![0, 1] bcast_S16x4112_S16x4112x1_0_1 x

/-- Quotients by the normalizer. -/
def over (e : T) (l : R2) : T := Host.divf e (broadcastInDim S16x4112x4224 ![0, 1, 2] bcast_S16x4112x1_S16x4112x4224_0_1_2 l)

/-- The gradient of the output, head first. -/
def grad (x : Q3) : G3 := transpose S16x128x4112 [1, 2, 0] x transposes_S4112x16x128_S16x128x4112_1_2_0

/-- The gradient of the weights. -/
def dweight (g : G3) (v : X3) : T := Host.dotGeneral dot_S16x128x4112_S4224x16x128_S16x4112x4224_1_2_2_0_0_1 none g v

/-- The gradient of the values. -/
def dvalue (g : G3) (p : T) : FVec Ideal S4224x2048 .f32 :=
  shapeCast _ (transpose S4224x16x128 [2, 0, 1] (Host.dotGeneral dot_S16x128x4112_S16x4112x4224_S16x128x4224_2_1_1_2_0_0 none g p)
    transposes_S16x128x4224_S4224x16x128_2_0_1) shapeCasts_S4224x16x128_S4224x2048

/-- The sum the normalizer's gradient takes. -/
def inner (w : T) (l : R2) (e : T) : R1 :=
  total (mulf (mulf w (broadcastInDim S16x4112x4224 ![0, 1, 2] bcast_S16x4112x1_S16x4112x4224_0_1_2
    (Host.divf (broadcastInDim S16x4112x1 ![] bcast_S_S16x4112x1 (constant S_ .f32 0x3F800000#32)) (mulf l l)))) e)

/-- A sum along a unit axis. -/
def flat (x : R2) : R1 := Host.reduceAdd x (constant S_ .f32 0x00000000#32) reducesTo_S16x4112x1_S16x4112_d2 h_S_

/-- The gradient of the scores, `d` the normalizer's part. -/
def dscore (w : T) (l : R2) (e : T) (d : R1) : T :=
  select (broadcastInDim S16x4112x4224 ![1, 2] bcast_S4112x4224_S16x4112x4224_1_2 mask)
    (mulf (addf (over w l) (broadcastInDim S16x4112x4224 ![0, 1] bcast_S16x4112_S16x4112x4224_0_1 d)) e)
    (broadcastInDim S16x4112x4224 ![] bcast_S_S16x4112x4224 (constant S_ .f32 0x00000000#32))

/-- The gradient of the bias. -/
def dbias (s : T) (u : R1) : FVec Ideal S16x11x1x384 .f32 :=
  shapeCast _ (addf
    (Host.reduceAdd (shapeCast _ (Host.reduceAdd (Host.negf s) (constant S_ .f32 0x00000000#32) reducesTo_S16x4112x4224_S16x4224_d1 h_S_)
        shapeCasts_S16x4224_S16x1x4224)
      (constant S_ .f32 0x00000000#32) reducesTo_S16x1x4224_S16x4224_d1 h_S_)
    (pad S16x4224 ![0, 112] ![0, 0] ![0, 0] u (constant S_ .f32 0x00000000#32) pads_S16x4112_S16x4224_000_11200 h_S_))
    shapeCasts_S16x4224_S16x11x1x384

/-- The gradient of the scores before the bias, scaled. -/
def scaled (s : T) : T := mulf s (broadcastInDim S16x4112x4224 ![] bcast_S_S16x4112x4224 (constant S_ .f32 0x3DB504F3#32))

/-- The gradient of the keys. -/
def dkey (s : T) (q : Q3) : FVec Ideal S4224x2048 .f32 :=
  shapeCast _ (transpose S4224x16x128 [1, 0, 2] (Host.dotGeneral dot_S16x4112x4224_S4112x16x128_S16x4224x128_1_0_2_2_0_1 none s q)
    transposes_S16x4224x128_S4224x16x128_1_0_2) shapeCasts_S4224x16x128_S4224x2048

/-- The gradient of the queries. -/
def dquery (s : T) (k : X3) : FVec Ideal S4224x2048 .f32 :=
  shapeCast _ (pad S4224x16x128 ![112, 0, 0] ![0, 0, 0] ![0, 0, 0]
    (transpose S4112x16x128 [1, 0, 2] (Host.dotGeneral dot_S16x4112x4224_S4224x16x128_S16x4112x128_2_0_1_2_0_1 none s k)
      transposes_S16x4112x128_S4112x16x128_1_0_2)
    (constant S_ .f32 0x00000000#32) pads_S4112x16x128_S4224x16x128_11200_000_000 h_S_) shapeCasts_S4224x16x128_S4224x2048

section
variable (q k v g : X) (c : Cs)

def tS : T := seen (score (kept (heads q)) (heads k) c)
def tE : T := weight (tS q k c) (largest (tS q k c))
def tL : R2 := col1 (total (tE q k c))
def tP : T := over (tE q k c) (tL q k c)
def tG : G3 := grad (kept (heads g))
def tW : T := dweight (tG g) (heads v)
def tU : R1 := flat (Host.negf (shapeCast _ (inner (tW v g) (tL q k c) (tE q k c)) shapeCasts_S16x4112_S16x4112x1))
def tD : T := dscore (tW v g) (tL q k c) (tE q k c) (tU q k v g c)
end

variable (m : (ℓ : Loc nD τ sig) → Buf (Elt Ideal) ℓ) (d : Dev nD)

abbrev aq : X := m ((d.tc : Thread nD τ).loc main_arg0)
abbrev ak : X := m ((d.tc : Thread nD τ).loc main_arg1)
abbrev av : X := m ((d.tc : Thread nD τ).loc main_arg2)
abbrev ac : Cs := m ((d.tc : Thread nD τ).loc main_arg3)
abbrev ag : X := m ((d.tc : Thread nD τ).loc main_arg4)
abbrev bk : FVec Ideal S4224x2048 .f32 := m ((d.tc : Thread nD τ).loc main_arg5)
abbrev bv : FVec Ideal S4224x2048 .f32 := m ((d.tc : Thread nD τ).loc main_arg6)
abbrev bc : FVec Ideal S16x11x1x384 .f32 := m ((d.tc : Thread nD τ).loc main_arg7)

theorem res2 : Value.res_main_v103 m d = addf (bv m d) (dvalue (tG (ag m d)) (tP (aq m d) (ak m d) (ac m d))) := rfl

theorem res1 : Value.res_main_v102 m d =
    addf (bk m d) (dkey (scaled (tD (aq m d) (ak m d) (av m d) (ag m d) (ac m d))) (kept (heads (aq m d)))) := rfl

theorem res0 : Value.res_main_v98 m d =
    dquery (scaled (tD (aq m d) (ak m d) (av m d) (ag m d) (ac m d))) (heads (ak m d)) := rfl

theorem res3 : Value.res_main_v104 m d = addf (bc m d) (dbias (tD (aq m d) (ak m d) (av m d) (ag m d) (ac m d))
    (flat (shapeCast _ (total (tD (aq m d) (ak m d) (av m d) (ag m d) (ac m d))) shapeCasts_S16x4112_S16x4112x1))) := rfl

end AttnTwo.Ref
end
-- ==== Proof.Two.AttnRefValue.lean ====
/- The attention gradient: the reference's four results, entry by entry, for arguments that are real numbers. -/
module

public import proofs.«01_k».proof.Proof.Two.AttnRefTerm
public import Idealize.ShloMosaic.Lib.Pointwise
public import Idealize.ShloMosaic.Lib.WordCmp
public import Idealize.ShloMosaic.Lib.IdealHost

@[expose] public section
set_option maxRecDepth 1000000
noncomputable section
namespace AttnTwo
open Idealize.ShloMosaic

theorem bot_word : Ideal.ofBits .f32 4286578688#32 = ⊥ := by simp [Ideal.ofBits, Ideal.ieee]

/-- The arguments hold the real numbers of `D`. -/
structure Real' (D : Data) (q k v g : FVec Ideal Cert.AttnTwoReferenceIdeal.S4224x2048 .bf16) (c : FVec Ideal Cert.AttnTwoReferenceIdeal.S16x4224 .f32) : Prop where
  q : ∀ r x, q (ix2 r x) = (D.Q r x : EReal)
  k : ∀ r x, k (ix2 r x) = (D.K r x : EReal)
  v : ∀ r x, v (ix2 r x) = (D.V r x : EReal)
  g : ∀ r x, g (ix2 r x) = (D.G r x : EReal)
  c : ∀ h r, c (ix2 h r) = (D.C h r : EReal)

theorem hc_div (h : Fin 16) (e : Fin 128) (p) : (⟨(hc h e).val / 128, p⟩ : Fin 16) = h := by
  have := e.isLt
  exact Fin.ext (show (128 * h.val + e.val) / 128 = h.val by omega)

theorem hc_mod (h : Fin 16) (e : Fin 128) (p) : (⟨(hc h e).val % 128, p⟩ : Fin 128) = e := by
  have := e.isLt
  exact Fin.ext (show (128 * h.val + e.val) % 128 = e.val by omega)

theorem ite_coe (P : Prop) [Decidable P] (a b : ℝ) : (if P then (a : EReal) else (b : EReal)) = ((if P then a else b : ℝ) : EReal) := by
  split <;> rfl

namespace Ref
open Cert.AttnTwoReferenceIdeal Cert.AttnTwoReferenceIdeal.Gen Idealize.ShloMosaic Idealize.ShloMosaic.TcCoe Idealize.SL.Sem

theorem mask_select' {α : Type} (i : Fin 4112) (j : Fin 4224) (A B : α) :
    Scalar.select (IntOp.andi (IntOp.cmpi .sle (BitVec.ofNat 32 j.val) (IntOp.addi (112#32) (BitVec.ofNat 32 i.val)))
      (IntOp.cmpi .sge (BitVec.ofNat 32 j.val) 112#32)) A B = if 112 ≤ j.val ∧ j.val ≤ (up i).val then A else B := by
  have e : IntOp.addi (112#32) (BitVec.ofNat 32 i.val) = BitVec.ofNat 32 (up i).val := (BitVec.ofNat_add _ _).symm
  rw [e]
  exact mask_select _ _ (up i).isLt j.isLt A B

section stages
variable (h : Fin 16) (i : Fin 4112) (r j : Fin 4224) (e : Fin 128)

theorem heads_at (x : X) : heads x (ix3 r h e) = x (ix2 r (hc h e)) := by
  pointwise [heads]
  exact congrArg (fun z => x (ix2 r z)) (Fin.ext (congrArg (· + e.val) (Nat.mul_comm _ _)))
theorem kept_at (x : X3) : kept x (ix3 i h e) = x (ix3 (up i) h e) := by pointwise [kept]; rfl
theorem score_at (q : Q3) (k : X3) (c : Cs) : score q k c (ix3 h i j) =
    (∑ x, q (ix3 i h x) * k (ix3 j h x)) * Ideal.ofBits .f32 1035273459#32 + (c (ix2 h (up i)) - c (ix2 h j)) := by
  pointwise [score]; rfl
theorem seen_at (s : T) : seen s (ix3 h i j) = if 112 ≤ j.val ∧ j.val ≤ (up i).val then s (ix3 h i j) else ⊥ := by
  pointwise [seen, mask]
  rw [mask_select']
  exact if_congr Iff.rfl rfl bot_word

theorem rmax (s : T) (c : FVec Ideal S_ .f32) : Host.reduce FloatOps.maximumf s c reducesTo_S16x4112x4224_S16x4112_d2 h_S_ (ix2 h i)
    = Finset.univ.fold max (c (Shape.Idx.first h_S_)) fun k => s (ix3 h i k) := by
  simp only [pointwise]

theorem max_at (x : R1) : maximumf (broadcastInDim S16x4112 ![] bcast_S_S16x4112 (constant S_ .f32 0xFF800000#32)) x (ix2 h i)
    = max (Ideal.ofBits .f32 4286578688#32) (x (ix2 h i)) := by pointwise []

theorem const_at (w : BitVec 32) (k : S_.Idx) : constant (F := Ideal) S_ .f32 w k = Ideal.ofBits .f32 w := rfl

theorem largest_at (s : T) : largest s (ix2 h i) = Finset.univ.fold max ⊥ fun k => s (ix3 h i k) := by
  unfold largest
  rw [max_at, rmax, const_at, bot_word, max_eq_right bot_le]

theorem weight_at (s : T) (x : R1) : weight s x (ix3 h i j) = Ideal.exp (s (ix3 h i j) - x (ix2 h i)) := by pointwise [weight]
theorem total_at (s : T) : total s (ix2 h i) = ∑ x, s (ix3 h i x) := by pointwise [total]
theorem col1_at (s : R1) : col1 s (ix3 h i 0) = s (ix2 h i) := by pointwise [col1]
theorem over_at (s : T) (l : R2) : over s l (ix3 h i j) = Ideal.div (s (ix3 h i j)) (l (ix3 h i 0)) := by pointwise [over]
theorem grad_at (x : Q3) : grad x (ix3 h e i) = x (ix3 i h e) := by pointwise [grad]
theorem dweight_at (g : G3) (v : X3) : dweight g v (ix3 h i j) = ∑ x, g (ix3 h x i) * v (ix3 j h x) := by pointwise [dweight]
theorem dvalue_at (g : G3) (p : T) : dvalue g p (ix2 j (hc h e)) = ∑ x, g (ix3 h e x) * p (ix3 h x j) := by
  pointwise [dvalue]
  rw [hc_div, hc_mod]
theorem inner_at (w : T) (l : R2) (s : T) : inner w l s (ix2 h i) =
    ∑ x, w (ix3 h i x) * Ideal.div 1 (l (ix3 h i 0) * l (ix3 h i 0)) * s (ix3 h i x) := by pointwise [inner, total]
theorem flat_neg (l : R1) : flat (Host.negf (shapeCast _ l shapeCasts_S16x4112_S16x4112x1)) (ix2 h i) = -l (ix2 h i) := by
  pointwise [flat]
  rw [Fin.sum_univ_one]
theorem flat_at (l : R1) : flat (shapeCast _ l shapeCasts_S16x4112_S16x4112x1) (ix2 h i) = l (ix2 h i) := by
  pointwise [flat]
  rw [Fin.sum_univ_one]
theorem dscore_at (w : T) (l : R2) (s : T) (d : R1) : dscore w l s d (ix3 h i j) =
    if 112 ≤ j.val ∧ j.val ≤ (up i).val then (Ideal.div (w (ix3 h i j)) (l (ix3 h i 0)) + d (ix2 h i)) * s (ix3 h i j) else 0 := by
  pointwise [dscore, mask, over]
  rw [mask_select']
theorem dbias_at (s : T) (u : R1) (hu : ∀ i, u (ix2 h i) = 0) (x : Fin 11) (y : Fin 384) :
    dbias s u (ix4 h x 0 y) = ∑ i, -s (ix3 h i (row x.val y)) := by
  pointwise [dbias]
  have e : (⟨x.val * 384 + y.val, by have := x.isLt; have := y.isLt; omega⟩ : Fin 4224) = row x.val y :=
    Fin.ext ((congrArg (· + y.val) (Nat.mul_comm _ _)).trans (row_val _ _ x.isLt).symm)
  rw [Fin.sum_univ_one]
  refine Eq.trans (congrArg₂ (· + ·) (Finset.sum_congr rfl fun n _ => congrArg (fun z => -s (ix3 h n z)) e) ?_) (add_zero _)
  split
  · exact hu _
  · rfl
theorem dkey_at (s : T) (q : Q3) : dkey (scaled s) q (ix2 j (hc h e)) =
    ∑ x, s (ix3 h x j) * Ideal.ofBits .f32 1035273459#32 * q (ix3 x h e) := by
  pointwise [dkey, scaled]
  rw [hc_div, hc_mod]
theorem dquery_low (s : T) (k : X3) (hj : ¬ 112 ≤ r.val) : dquery (scaled s) k (ix2 r (hc h e)) = 0 := by
  pointwise [dquery, scaled]
  rw [dif_neg (fun z => hj z.1.1)]
theorem dquery_up (s : T) (k : X3) : dquery (scaled s) k (ix2 (up i) (hc h e)) =
    ∑ x, s (ix3 h i x) * Ideal.ofBits .f32 1035273459#32 * k (ix3 x h e) := by
  pointwise [dquery, scaled]
  have e1 : (⟨(up i).val - 112, by have := i.isLt; show 112 + i.val - 112 < 4112; omega⟩ : Fin 4112) = i :=
    Fin.ext (show 112 + i.val - 112 = i.val by omega)
  rw [dif_pos ⟨⟨up_le i, by have := i.isLt; show 112 + i.val - 112 < 4112; omega⟩, by have := h.isLt; rw [show (hc h e).val / 128 = h.val from congrArg Fin.val (hc_div h e (by have := (hc h e).isLt; omega))]; omega, Nat.mod_lt _ (by omega)⟩]
  refine Finset.sum_congr rfl fun x _ => congrArg₂ (· * ·) (congrArg (· * _) ?_) ?_
  · exact congrArg₂ (fun a b => s (ix3 a b x)) (hc_div h e _) e1
  · exact congrArg₂ (fun a b => k (ix3 x a b)) (hc_div h e _) (hc_mod h e _)
end stages

section real
variable {D : Data} {q k v g : X} {c : Cs} (A : Real' D q k v g c) (h : Fin 16) (i : Fin 4112) (r j : Fin 4224) (e : Fin 128)
include A

theorem q_at : kept (heads q) (ix3 i h e) = (D.Q (up i) (hc h e) : EReal) := by rw [kept_at, heads_at, A.q]
theorem k_at : heads k (ix3 r h e) = (D.K r (hc h e) : EReal) := by rw [heads_at, A.k]
theorem v_at : heads v (ix3 r h e) = (D.V r (hc h e) : EReal) := by rw [heads_at, A.v]
theorem g_at : tG g (ix3 h e i) = (D.G (up i) (hc h e) : EReal) := by unfold tG; rw [grad_at, kept_at, heads_at, A.g]

theorem tS_at : tS q k c (ix3 h i j) = D.ms h (up i) j := by
  unfold tS Data.ms
  rw [seen_at]
  refine if_congr Iff.rfl ?_ rfl
  rw [score_at, A.c, A.c, Finset.sum_congr rfl fun x _ => congrArg₂ (· * ·) (q_at A h i x) (k_at A h j x), scl_word]
  simp only [← EReal.coe_mul, ← coe_sum, ← EReal.coe_add, ← EReal.coe_sub]
  rfl

theorem tE_at : tE q k c (ix3 h i j) = (D.ex h (up i) j : EReal) := by
  unfold tE
  rw [weight_at, largest_at, tS_at A, ← D.ex_coe, ← D.mx_coe h (up i) (up_le i)]
  exact congrArg (fun f => Ideal.exp (_ - Finset.fold max ⊥ f Finset.univ)) (funext fun n => tS_at A h i n)

theorem tL_at : tL q k c (ix3 h i 0) = (D.nl h (up i) : EReal) := by
  unfold tL Data.nl
  rw [col1_at, total_at, coe_sum]
  exact Finset.sum_congr rfl fun n _ => tE_at A h i n

theorem tP_at : tP q k c (ix3 h i j) = ((D.head h).p (up i) j : EReal) := by
  unfold tP
  rw [over_at, tE_at A, tL_at A, div_coe _ _ (D.nl_pos h _ (up_le i)).ne', D.head_p h _ _ (up_le i)]
  rfl

theorem tW_at : tW v g (ix3 h i j) = (D.dp h (up i) j : EReal) := by
  unfold tW Data.dp
  rw [dweight_at, coe_sum]
  exact Finset.sum_congr rfl fun x _ => by rw [g_at A, v_at A, EReal.coe_mul]

theorem tU_at : tU q k v g c (ix2 h i) =
    ((-(∑ n, D.dp h (up i) n * (1 / (D.nl h (up i) * D.nl h (up i))) * D.ex h (up i) n) : ℝ) : EReal) := by
  have hl := (D.nl_pos h _ (up_le i)).ne'
  unfold tU
  rw [flat_neg, inner_at, EReal.coe_neg, coe_sum]
  refine congrArg _ (Finset.sum_congr rfl fun n _ => ?_)
  rw [tW_at A, tL_at A, tE_at A, ← EReal.coe_mul, ← EReal.coe_one, div_coe _ _ (mul_ne_zero hl hl), ← EReal.coe_mul, ← EReal.coe_mul]

theorem tD_at : tD q k v g c (ix3 h i j) = ((D.head h).ds (up i) j : EReal) := by
  unfold tD
  rw [dscore_at, tW_at A, tL_at A, tE_at A, tU_at A, div_coe _ _ (D.nl_pos h _ (up_le i)).ne', ← EReal.coe_add, ← EReal.coe_mul,
    D.ds_quotient h _ _ (up_le i)]
  split
  · rfl
  · rename_i hn
    unfold Head.ds Head.p
    rw [if_neg hn, zero_mul]
    rfl

theorem dv_at : dvalue (tG g) (tP q k c) (ix2 j (hc h e)) = ((∑ r, (D.head h).p r j * (D.head h).d r e : ℝ) : EReal) := by
  rw [dvalue_at, sum_up _ (fun r hr => by rw [D.head_p_low h r j hr, zero_mul]), coe_sum]
  exact Finset.sum_congr rfl fun x _ => by rw [g_at A, tP_at A, ← EReal.coe_mul, mul_comm]; rfl

theorem dk_at : dkey (scaled (tD q k v g c)) (kept (heads q)) (ix2 j (hc h e))
    = (((∑ r, (D.head h).ds r j * (D.head h).q r e) * scl : ℝ) : EReal) := by
  rw [dkey_at, sum_up _ (fun r hr => by rw [D.head_ds_low h r j hr, zero_mul]), Finset.sum_mul, coe_sum]
  exact Finset.sum_congr rfl fun x _ => by
    rw [q_at A, tD_at A, scl_word, ← EReal.coe_mul, ← EReal.coe_mul, mul_right_comm]; rfl

theorem dq_at : dquery (scaled (tD q k v g c)) (heads k) (ix2 r (hc h e))
    = (((∑ j, (D.head h).ds r j * (D.head h).k j e) * scl : ℝ) : EReal) := by
  by_cases hr : 112 ≤ r.val
  · obtain ⟨i, rfl⟩ : ∃ i, r = up i := ⟨⟨r.val - 112, by have := r.isLt; omega⟩, Fin.ext (show r.val = 112 + (r.val - 112) by omega)⟩
    rw [dquery_up, Finset.sum_mul, coe_sum]
    exact Finset.sum_congr rfl fun x _ => by
      rw [k_at A, tD_at A, scl_word, ← EReal.coe_mul, ← EReal.coe_mul, mul_right_comm]; rfl
  · rw [dquery_low _ _ _ _ _ hr, Finset.sum_eq_zero fun j _ => by rw [D.head_ds_low h r j hr, zero_mul], zero_mul]
    rfl

theorem dc_at (x : Fin 11) (y : Fin 384) : dbias (tD q k v g c) (flat (shapeCast _ (total (tD q k v g c)) shapeCasts_S16x4112_S16x4112x1)) (ix4 h x 0 y)
    = ((0 - ∑ r, (D.head h).ds r (row x.val y) : ℝ) : EReal) := by
  rw [dbias_at h _ _ ?_ x y, zero_sub, sum_up _ (fun r hr => D.head_ds_low h r _ hr), ← Finset.sum_neg_distrib, coe_sum]
  · exact Finset.sum_congr rfl fun n _ => by rw [tD_at A, EReal.coe_neg]
  · intro n
    rw [flat_at, total_at, Finset.sum_congr rfl fun j _ => tD_at A h n j, ← coe_sum, D.head_ds_sum]
    rfl

end real
end Ref
end AttnTwo
end
-- ==== Proof.Two.AttnFinite.lean ====
/- The attention gradient's precondition: every entry of the arguments is a real number. -/
module

public import proofs.«01_k».proof.Defs
public import proofs.«01_k».proof.Proof.Two.AttnRefValue

@[expose] public section
set_option maxRecDepth 1000000
noncomputable section
namespace AttnTwo.Finite
open Cert.Pre_finite_two Idealize.ShloMosaic Idealize.ShloMosaic.TcCoe

theorem facts : Cert.Pre_finite_two.Facts where
  transposes_S16x4224_S4224x16_1_0 := by decide
  bitsLt_bf16_f32 := by decide
  concatenates_S4224x2048_S4224x2048_S4224x2048_S4224x2048_S4224x16_S4224x8208_d1 := by decide
  bcast_S_S4224x8208 := by decide

variable [Cert.Pre_finite_two.Facts] (q k v : FVec Ideal S4224x2048 .bf16) (c : FVec Ideal S16x4224 .f32) (g : FVec Ideal S4224x2048 .bf16)
  (bk bv : FVec Ideal S4224x2048 .f32) (bc : FVec Ideal S16x11x1x384 .f32)

theorem q_at (r : Fin 4224) (x : Fin 2048) : fn q k v c g bk bv bc (ix2 r ⟨x.val, by have := x.isLt; omega⟩)
    = Ideal.cmp .olt (max (q (ix2 r x)) (-(q (ix2 r x)))) (Ideal.ofBits .f32 0x7F800000#32) := by
  pointwise [fn]
  rfl

theorem k_at (r : Fin 4224) (x : Fin 2048) : fn q k v c g bk bv bc (ix2 r ⟨2048 + x.val, by have := x.isLt; omega⟩)
    = Ideal.cmp .olt (max (k (ix2 r x)) (-(k (ix2 r x)))) (Ideal.ofBits .f32 0x7F800000#32) := by
  pointwise [fn]
  rfl

theorem v_at (r : Fin 4224) (x : Fin 2048) : fn q k v c g bk bv bc (ix2 r ⟨4096 + x.val, by have := x.isLt; omega⟩)
    = Ideal.cmp .olt (max (v (ix2 r x)) (-(v (ix2 r x)))) (Ideal.ofBits .f32 0x7F800000#32) := by
  pointwise [fn]
  have hv := x.isLt
  have e : ∀ hl, (⟨4096 + x.val - 2048 - 2048, hl⟩ : Fin 2048) = x := fun _ => Fin.ext (by show 4096 + x.val - 2048 - 2048 = x.val; omega)
  rw [dif_neg (show ¬ 4096 + x.val < 2048 by omega), dif_neg (show ¬ 4096 + x.val - 2048 < 2048 by omega), dif_pos (show 4096 + x.val - 2048 - 2048 < 2048 by omega), e]
  rfl

theorem g_at (r : Fin 4224) (x : Fin 2048) : fn q k v c g bk bv bc (ix2 r ⟨6144 + x.val, by have := x.isLt; omega⟩)
    = Ideal.cmp .olt (max (g (ix2 r x)) (-(g (ix2 r x)))) (Ideal.ofBits .f32 0x7F800000#32) := by
  pointwise [fn]
  have hv := x.isLt
  have e : ∀ hl, (⟨6144 + x.val - 2048 - 2048 - 2048, hl⟩ : Fin 2048) = x := fun _ => Fin.ext (by show 6144 + x.val - 2048 - 2048 - 2048 = x.val; omega)
  rw [dif_neg (show ¬ 6144 + x.val < 2048 by omega), dif_neg (show ¬ 6144 + x.val - 2048 < 2048 by omega), dif_neg (show ¬ 6144 + x.val - 2048 - 2048 < 2048 by omega), dif_pos (show 6144 + x.val - 2048 - 2048 - 2048 < 2048 by omega), e]
  rfl

theorem c_at (h : Fin 16) (r : Fin 4224) : fn q k v c g bk bv bc (ix2 r ⟨8192 + h.val, by have := h.isLt; omega⟩)
    = Ideal.cmp .olt (max (c (ix2 h r)) (-(c (ix2 h r)))) (Ideal.ofBits .f32 0x7F800000#32) := by
  pointwise [fn]
  have hv := h.isLt
  have e : ∀ hl, (⟨8192 + h.val - 2048 - 2048 - 2048 - 2048, hl⟩ : Fin 16) = h := fun _ => Fin.ext (by show 8192 + h.val - 2048 - 2048 - 2048 - 2048 = h.val; omega)
  rw [dif_neg (show ¬ 8192 + h.val < 2048 by omega), dif_neg (show ¬ 8192 + h.val - 2048 < 2048 by omega), dif_neg (show ¬ 8192 + h.val - 2048 - 2048 < 2048 by omega), dif_neg (show ¬ 8192 + h.val - 2048 - 2048 - 2048 < 2048 by omega), e]
  rfl

theorem top_word : Ideal.ofBits .f32 0x7F800000#32 = ⊤ := by simp [Ideal.ofBits, Ideal.ieee]

theorem real_of (x : EReal) (h : Ideal.cmp .olt (max x (-x)) (Ideal.ofBits .f32 0x7F800000#32) = 1#1) : x = (x.toReal : EReal) := by
  rw [top_word] at h
  have h' : max x (-x) < ⊤ := by
    by_contra hn
    have : Ideal.cmp .olt (max x (-x)) ⊤ = BitVec.ofBool (decide (max x (-x) < ⊤)) := rfl
    rw [this, decide_eq_false hn] at h
    exact absurd h (by decide)
  refine (EReal.coe_toReal ?_ ?_).symm
  · rintro rfl; simp at h'
  · rintro rfl; simp at h'

/-- The real numbers the arguments hold, where they hold real numbers. -/
def dataOf (q k v : FVec Ideal S4224x2048 .bf16) (c : FVec Ideal S16x4224 .f32) (g : FVec Ideal S4224x2048 .bf16) : Data where
  Q r x := EReal.toReal (q (ix2 r x))
  K r x := EReal.toReal (k (ix2 r x))
  V r x := EReal.toReal (v (ix2 r x))
  G r x := EReal.toReal (g (ix2 r x))
  C h r := EReal.toReal (c (ix2 h r))

/-- Under the precondition every entry of the arguments is a real number. -/
theorem real (hf : fn q k v c g bk bv bc = fun _ => 1#1) : Real' (dataOf q k v c g) q k v g c where
  q r x := real_of _ ((q_at q k v c g bk bv bc r x).symm.trans (congrFun hf _))
  k r x := real_of _ ((k_at q k v c g bk bv bc r x).symm.trans (congrFun hf _))
  v r x := real_of _ ((v_at q k v c g bk bv bc r x).symm.trans (congrFun hf _))
  g r x := real_of _ ((g_at q k v c g bk bv bc r x).symm.trans (congrFun hf _))
  c h r := real_of _ ((c_at q k v c g bk bv bc h r).symm.trans (congrFun hf _))

end AttnTwo.Finite
end
-- ==== Proof.Two.LoopEq.lean ====
module

public import proofs.«01_k».proof.Proof.Two.Model
public import proofs.«01_k».proof.Proof.Gen.AttnTwoKernelIdeal.Loops

/-! The two loops of the attention gradient leave what the model says. -/

@[expose] public section
set_option maxRecDepth 16384
noncomputable section
namespace AttnTwo
open Cert.AttnTwoKernelIdeal Cert.AttnTwoKernelIdeal.Gen
open Idealize.ShloMosaic Idealize.ShloMosaic.TcCoe Idealize.ShloMosaic.Tactic
open Idealize.SL Idealize.SL.RA Idealize.SL.BI

variable {F : FTy → Type} [FloatOps F]

theorem readAt_tile {e : EltTy} (v : View sig .tc .vmem S4224x128 e) (f : v.ty.Contents (Elt F)) (b : ℕ) (hb : b < 11) {off : Fin 2 → ℕ}
    (h : off = ![384 * b, 0]) (inb : ∀ a, off a + S384x128.size a ≤ S4224x128.size a) :
    v.readAt (Elt F) (Rect.unit (s := S4224x128) off S384x128.size inb).toLoadRect f = tile (v.read (Elt F) f) b :=
  (View.readAt_unit v f inb rfl inb).trans (window_tile _ b hb off h inb)

theorem readAt_tile3 {e : EltTy} (v : View sig .tc .vmem S1x4224x128 e) (f : v.ty.Contents (Elt F)) (b : ℕ) (hb : b < 11) {off : Fin 3 → ℕ}
    (h : off = ![0, 384 * b, 0]) (inb : ∀ a, off a + S1x384x128.size a ≤ S1x4224x128.size a) :
    v.readAt (Elt F) (Rect.unit (s := S1x4224x128) off S1x384x128.size inb).toLoadRect f = tile3 (v.read (Elt F) f) b :=
  (View.readAt_unit v f inb rfl inb).trans (window_tile3 _ b hb off h inb)

theorem read_put {e : EltTy} (v : View sig .tc .vmem S4224x128 e) (f : v.ty.Contents (Elt F)) (b : ℕ) {off : Fin 2 → ℕ}
    (h : off = ![384 * b, 0]) (inb : ∀ a, off a + S384x128.size a ≤ S4224x128.size a) (w : Vec F S384x128 e) (L : List (View.Piece (Elt F) S4224x128 e)) :
    v.read (Elt F) (v.writes (Elt F) f (⟨Rect.unit off S384x128.size inb, w⟩ :: L)) = putTile (v.read (Elt F) (v.writes (Elt F) f L)) b w :=
  View.read_writes_cons_put v f inb w L h

theorem tripR1 (𝒱 : Variants) (cc : Dev nD) (bd : Option 𝒱.V) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S4224x128 .bf16) (harg6 : arg6.IsWhole) (arg7 : Memref sig .tc .vmem S1x4224x128 .f32) (harg7 : arg7.IsWhole) (arg8 : Memref sig .tc .vmem S4224x128 .f32) (harg8 : arg8.IsWhole) (arg9 : Memref sig .tc .vmem S1x1x1x384 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S1x1x1x384 .f32) (harg12 : arg12.IsWhole) (arg13 : Memref sig .tc .vmem S4224x128 .f32) (harg13 : arg13.IsWhole) (arg14 : Memref sig .tc .vmem S384x128 .f32) (harg14 : arg14.IsWhole) (arg15 : Memref sig .tc .vmem S384x128 .f32) (harg15 : arg15.IsWhole) (arg16 : Memref sig .tc .vmem S1x1x1x384 .f32) (harg16 : arg16.IsWhole) (I : Ins F) (k0_h2 : k0_cond2 i = 1#1) (X2 : BufTy.Contents (Elt F) arg2.view.ty) (X5 : BufTy.Contents (Elt F) arg5.view.ty) (X6 : BufTy.Contents (Elt F) arg6.view.ty) (X7 : BufTy.Contents (Elt F) arg7.view.ty) (X8 : BufTy.Contents (Elt F) arg8.view.ty) (hX2 : arg2.view.read (Elt F) X2 = I.q) (hX5 : arg5.view.read (Elt F) X5 = I.o) (hX6 : arg6.view.read (Elt F) X6 = I.d) (hX7 : arg7.view.read (Elt F) X7 = I.l) (hX8 : arg8.view.read (Elt F) X8 = I.c) (k : Fin (k0_t1_loop i).trips) (acc : Carry F) (f : BufTy.Contents (Elt F) arg13.view.ty) :
    tripR_k0_t1 (F := F) 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) I.k I.v (k0_pay41 I.ct) k0_h2 (Scalar.addi (BitVec.ofNat 32 (i 1).val) 1#32) X2 X5 X6 X7 X8 k acc f = (below1 i I k (acc, arg13.view.read (Elt F) f)).1
    ∧ ∀ (G : BufTy.Contents (Elt F) arg13.view.ty) (L : List (View.Piece (Elt F) S4224x128 .f32)), f = arg13.view.writes (Elt F) G L →
      arg13.view.read (Elt F) (arg13.view.writes (Elt F) G (tripL_k0_t1 (F := F) 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) I.k I.v (k0_pay41 I.ct) k0_h2 (Scalar.addi (BitVec.ofNat 32 (i 1).val) 1#32) X2 X5 X6 X7 X8 k acc f ++ L)) = (below1 i I k (acc, arg13.view.read (Elt F) f)).2 := by
  have hb : (col i).val + 1 + k.val < 11 := by have := k.isLt; have := trips1 i; omega
  unfold tripR_k0_t1 tripL_k0_t1 trip_k0_t1
  dsimp only
  refine ⟨?_, fun G L hf => ?_⟩
  · simp only [trip_k0_t1.sl.r, trip_k0_t1.sl.r_1, trip_k0_t1.sl.r_2, trip_k0_t1.sl.r_3, trip_k0_t1.sl.r_4]
    simp only [readAt_tile _ _ _ hb (off3 i k), readAt_tile3 _ _ _ hb (off4 i k), hX2, hX5, hX6, hX7, hX8]
    rfl
  · subst hf
    rw [List.singleton_append, read_put _ _ _ (off3 i k)]
    simp only [trip_k0_t1.sl.r, trip_k0_t1.sl.r_1, trip_k0_t1.sl.r_2, trip_k0_t1.sl.r_3, trip_k0_t1.sl.r_4]
    simp only [readAt_tile _ _ _ hb (off3 i k), readAt_tile3 _ _ _ hb (off4 i k), hX2, hX5, hX6, hX7, hX8]
    rfl

theorem st1_eq (𝒱 : Variants) (cc : Dev nD) (bd : Option 𝒱.V) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S4224x128 .bf16) (harg6 : arg6.IsWhole) (arg7 : Memref sig .tc .vmem S1x4224x128 .f32) (harg7 : arg7.IsWhole) (arg8 : Memref sig .tc .vmem S4224x128 .f32) (harg8 : arg8.IsWhole) (arg9 : Memref sig .tc .vmem S1x1x1x384 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S1x1x1x384 .f32) (harg12 : arg12.IsWhole) (arg13 : Memref sig .tc .vmem S4224x128 .f32) (harg13 : arg13.IsWhole) (arg14 : Memref sig .tc .vmem S384x128 .f32) (harg14 : arg14.IsWhole) (arg15 : Memref sig .tc .vmem S384x128 .f32) (harg15 : arg15.IsWhole) (arg16 : Memref sig .tc .vmem S1x1x1x384 .f32) (harg16 : arg16.IsWhole) (I : Ins F) (k0_h2 : k0_cond2 i = 1#1) (X2 : BufTy.Contents (Elt F) arg2.view.ty) (X5 : BufTy.Contents (Elt F) arg5.view.ty) (X6 : BufTy.Contents (Elt F) arg6.view.ty) (X7 : BufTy.Contents (Elt F) arg7.view.ty) (X8 : BufTy.Contents (Elt F) arg8.view.ty) (hX2 : arg2.view.read (Elt F) X2 = I.q) (hX5 : arg5.view.read (Elt F) X5 = I.o) (hX6 : arg6.view.read (Elt F) X6 = I.d) (hX7 : arg7.view.read (Elt F) X7 = I.l) (hX8 : arg8.view.read (Elt F) X8 = I.c) (G : BufTy.Contents (Elt F) arg13.view.ty) (init : Carry F) : ∀ n : ℕ, n ≤ (k0_t1_loop i).trips →
    (st_k0_t1 (F := F) 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) I.k I.v (k0_pay41 I.ct) k0_h2 (Scalar.addi (BitVec.ofNat 32 (i 1).val) 1#32) X2 X5 X6 X7 X8 G init n).1 = (loop1 i I (init, arg13.view.read (Elt F) G) n).1
    ∧ arg13.view.read (Elt F) (arg13.view.writes (Elt F) G (st_k0_t1 (F := F) 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) I.k I.v (k0_pay41 I.ct) k0_h2 (Scalar.addi (BitVec.ofNat 32 (i 1).val) 1#32) X2 X5 X6 X7 X8 G init n).2) = (loop1 i I (init, arg13.view.read (Elt F) G) n).2
  | 0, _ => ⟨rfl, rfl⟩
  | n + 1, hn => by
    obtain ⟨h1, h2⟩ := st1_eq 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 I k0_h2 X2 X5 X6 X7 X8 hX2 hX5 hX6 hX7 hX8 G init n (by omega)
    have hlt : n < (k0_t1_loop i).trips := by omega
    have e := st_k0_t1_succ (F := F) 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) I.k I.v (k0_pay41 I.ct) k0_h2 (Scalar.addi (BitVec.ofNat 32 (i 1).val) 1#32) X2 X5 X6 X7 X8 G init ⟨n, hlt⟩
    have hl : loop1 i I (init, arg13.view.read (Elt F) G) (n + 1) = below1 i I ⟨n, hlt⟩ (loop1 i I (init, arg13.view.read (Elt F) G) n) := dif_pos hlt
    rw [hl]
    have t := tripR1 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 I k0_h2 X2 X5 X6 X7 X8 hX2 hX5 hX6 hX7 hX8 ⟨n, hlt⟩ (st_k0_t1 (F := F) 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) I.k I.v (k0_pay41 I.ct) k0_h2 (Scalar.addi (BitVec.ofNat 32 (i 1).val) 1#32) X2 X5 X6 X7 X8 G init n).1 (arg13.view.writes (Elt F) G (st_k0_t1 (F := F) 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) I.k I.v (k0_pay41 I.ct) k0_h2 (Scalar.addi (BitVec.ofNat 32 (i 1).val) 1#32) X2 X5 X6 X7 X8 G init n).2)
    have hs : ((st_k0_t1 (F := F) 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) I.k I.v (k0_pay41 I.ct) k0_h2 (Scalar.addi (BitVec.ofNat 32 (i 1).val) 1#32) X2 X5 X6 X7 X8 G init n).1, arg13.view.read (Elt F) (arg13.view.writes (Elt F) G (st_k0_t1 (F := F) 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) I.k I.v (k0_pay41 I.ct) k0_h2 (Scalar.addi (BitVec.ofNat 32 (i 1).val) 1#32) X2 X5 X6 X7 X8 G init n).2)) = loop1 i I (init, arg13.view.read (Elt F) G) n := Prod.ext h1 h2
    rw [hs] at t
    exact ⟨(congrArg Prod.fst e).trans t.1, (congrArg (fun z => arg13.view.read (Elt F) (arg13.view.writes (Elt F) G z.2)) e).trans (t.2 G _ rfl)⟩

theorem tripR3 (𝒱 : Variants) (cc : Dev nD) (bd : Option 𝒱.V) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S4224x128 .bf16) (harg6 : arg6.IsWhole) (arg7 : Memref sig .tc .vmem S1x4224x128 .f32) (harg7 : arg7.IsWhole) (arg8 : Memref sig .tc .vmem S4224x128 .f32) (harg8 : arg8.IsWhole) (arg9 : Memref sig .tc .vmem S1x1x1x384 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S1x1x1x384 .f32) (harg12 : arg12.IsWhole) (arg13 : Memref sig .tc .vmem S4224x128 .f32) (harg13 : arg13.IsWhole) (arg14 : Memref sig .tc .vmem S384x128 .f32) (harg14 : arg14.IsWhole) (arg15 : Memref sig .tc .vmem S384x128 .f32) (harg15 : arg15.IsWhole) (arg16 : Memref sig .tc .vmem S1x1x1x384 .f32) (harg16 : arg16.IsWhole) (I : Ins F) (k0_h2 : ¬(k0_cond2 i = 1#1)) (X2 : BufTy.Contents (Elt F) arg2.view.ty) (X5 : BufTy.Contents (Elt F) arg5.view.ty) (X6 : BufTy.Contents (Elt F) arg6.view.ty) (X7 : BufTy.Contents (Elt F) arg7.view.ty) (X8 : BufTy.Contents (Elt F) arg8.view.ty) (hX2 : arg2.view.read (Elt F) X2 = I.q) (hX5 : arg5.view.read (Elt F) X5 = I.o) (hX6 : arg6.view.read (Elt F) X6 = I.d) (hX7 : arg7.view.read (Elt F) X7 = I.l) (hX8 : arg8.view.read (Elt F) X8 = I.c) (k : Fin (k0_t3_loop i).trips) (acc : Carry F) (f : BufTy.Contents (Elt F) arg13.view.ty) :
    tripR_k0_t3 (F := F) 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) I.k I.v (k0_pay41 I.ct) k0_h2 (Scalar.addi (BitVec.ofNat 32 (i 1).val) 1#32) X2 X5 X6 X7 X8 k acc f = (below3 i I k (acc, arg13.view.read (Elt F) f)).1
    ∧ ∀ (G : BufTy.Contents (Elt F) arg13.view.ty) (L : List (View.Piece (Elt F) S4224x128 .f32)), f = arg13.view.writes (Elt F) G L →
      arg13.view.read (Elt F) (arg13.view.writes (Elt F) G (tripL_k0_t3 (F := F) 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) I.k I.v (k0_pay41 I.ct) k0_h2 (Scalar.addi (BitVec.ofNat 32 (i 1).val) 1#32) X2 X5 X6 X7 X8 k acc f ++ L)) = (below3 i I k (acc, arg13.view.read (Elt F) f)).2 := by
  have hb : (col i).val + 1 + k.val < 11 := by have := k.isLt; have := trips3 i; omega
  unfold tripR_k0_t3 tripL_k0_t3 trip_k0_t3
  dsimp only
  refine ⟨?_, fun G L hf => ?_⟩
  · simp only [trip_k0_t3.sl.r, trip_k0_t3.sl.r_1, trip_k0_t3.sl.r_2, trip_k0_t3.sl.r_3]
    simp only [readAt_tile _ _ _ hb (off7 i k), readAt_tile3 _ _ _ hb (off8 i k), hX2, hX5, hX6, hX7, hX8]
    rfl
  · subst hf
    rw [List.singleton_append, read_put _ _ _ (off7 i k)]
    simp only [trip_k0_t3.sl.r, trip_k0_t3.sl.r_1, trip_k0_t3.sl.r_2, trip_k0_t3.sl.r_3]
    simp only [readAt_tile _ _ _ hb (off7 i k), readAt_tile3 _ _ _ hb (off8 i k), hX2, hX5, hX6, hX7, hX8]
    rfl

theorem st3_eq (𝒱 : Variants) (cc : Dev nD) (bd : Option 𝒱.V) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S4224x128 .bf16) (harg6 : arg6.IsWhole) (arg7 : Memref sig .tc .vmem S1x4224x128 .f32) (harg7 : arg7.IsWhole) (arg8 : Memref sig .tc .vmem S4224x128 .f32) (harg8 : arg8.IsWhole) (arg9 : Memref sig .tc .vmem S1x1x1x384 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S1x1x1x384 .f32) (harg12 : arg12.IsWhole) (arg13 : Memref sig .tc .vmem S4224x128 .f32) (harg13 : arg13.IsWhole) (arg14 : Memref sig .tc .vmem S384x128 .f32) (harg14 : arg14.IsWhole) (arg15 : Memref sig .tc .vmem S384x128 .f32) (harg15 : arg15.IsWhole) (arg16 : Memref sig .tc .vmem S1x1x1x384 .f32) (harg16 : arg16.IsWhole) (I : Ins F) (k0_h2 : ¬(k0_cond2 i = 1#1)) (X2 : BufTy.Contents (Elt F) arg2.view.ty) (X5 : BufTy.Contents (Elt F) arg5.view.ty) (X6 : BufTy.Contents (Elt F) arg6.view.ty) (X7 : BufTy.Contents (Elt F) arg7.view.ty) (X8 : BufTy.Contents (Elt F) arg8.view.ty) (hX2 : arg2.view.read (Elt F) X2 = I.q) (hX5 : arg5.view.read (Elt F) X5 = I.o) (hX6 : arg6.view.read (Elt F) X6 = I.d) (hX7 : arg7.view.read (Elt F) X7 = I.l) (hX8 : arg8.view.read (Elt F) X8 = I.c) (G : BufTy.Contents (Elt F) arg13.view.ty) (init : Carry F) : ∀ n : ℕ, n ≤ (k0_t3_loop i).trips →
    (st_k0_t3 (F := F) 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) I.k I.v (k0_pay41 I.ct) k0_h2 (Scalar.addi (BitVec.ofNat 32 (i 1).val) 1#32) X2 X5 X6 X7 X8 G init n).1 = (loop3 i I (init, arg13.view.read (Elt F) G) n).1
    ∧ arg13.view.read (Elt F) (arg13.view.writes (Elt F) G (st_k0_t3 (F := F) 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) I.k I.v (k0_pay41 I.ct) k0_h2 (Scalar.addi (BitVec.ofNat 32 (i 1).val) 1#32) X2 X5 X6 X7 X8 G init n).2) = (loop3 i I (init, arg13.view.read (Elt F) G) n).2
  | 0, _ => ⟨rfl, rfl⟩
  | n + 1, hn => by
    obtain ⟨h1, h2⟩ := st3_eq 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 I k0_h2 X2 X5 X6 X7 X8 hX2 hX5 hX6 hX7 hX8 G init n (by omega)
    have hlt : n < (k0_t3_loop i).trips := by omega
    have e := st_k0_t3_succ (F := F) 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) I.k I.v (k0_pay41 I.ct) k0_h2 (Scalar.addi (BitVec.ofNat 32 (i 1).val) 1#32) X2 X5 X6 X7 X8 G init ⟨n, hlt⟩
    have hl : loop3 i I (init, arg13.view.read (Elt F) G) (n + 1) = below3 i I ⟨n, hlt⟩ (loop3 i I (init, arg13.view.read (Elt F) G) n) := dif_pos hlt
    rw [hl]
    have t := tripR3 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 I k0_h2 X2 X5 X6 X7 X8 hX2 hX5 hX6 hX7 hX8 ⟨n, hlt⟩ (st_k0_t3 (F := F) 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) I.k I.v (k0_pay41 I.ct) k0_h2 (Scalar.addi (BitVec.ofNat 32 (i 1).val) 1#32) X2 X5 X6 X7 X8 G init n).1 (arg13.view.writes (Elt F) G (st_k0_t3 (F := F) 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) I.k I.v (k0_pay41 I.ct) k0_h2 (Scalar.addi (BitVec.ofNat 32 (i 1).val) 1#32) X2 X5 X6 X7 X8 G init n).2)
    have hs : ((st_k0_t3 (F := F) 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) I.k I.v (k0_pay41 I.ct) k0_h2 (Scalar.addi (BitVec.ofNat 32 (i 1).val) 1#32) X2 X5 X6 X7 X8 G init n).1, arg13.view.read (Elt F) (arg13.view.writes (Elt F) G (st_k0_t3 (F := F) 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) I.k I.v (k0_pay41 I.ct) k0_h2 (Scalar.addi (BitVec.ofNat 32 (i 1).val) 1#32) X2 X5 X6 X7 X8 G init n).2)) = loop3 i I (init, arg13.view.read (Elt F) G) n := Prod.ext h1 h2
    rw [hs] at t
    exact ⟨(congrArg Prod.fst e).trans t.1, (congrArg (fun z => arg13.view.read (Elt F) (arg13.view.writes (Elt F) G z.2)) e).trans (t.2 G _ rfl)⟩

end AttnTwo
end
-- ==== Proof.Two.Body.lean ====
module

public import proofs.«01_k».proof.Proof.Two.LoopEq
public import proofs.«01_k».proof.Proof.Gen.AttnTwoKernelIdeal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut

/-! The body at one point: with the blocks it is given and the gradient of the queries as the point
before left it, it leaves what the model says. -/

@[expose] public section
set_option maxRecDepth 16384
noncomputable section
namespace AttnTwo
open Cert.AttnTwoKernelIdeal Cert.AttnTwoKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem fin1 (𝒱 : Variants) (cc : Dev nD) (bd : Option 𝒱.V) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S4224x128 .bf16) (harg6 : arg6.IsWhole) (arg7 : Memref sig .tc .vmem S1x4224x128 .f32) (harg7 : arg7.IsWhole) (arg8 : Memref sig .tc .vmem S4224x128 .f32) (harg8 : arg8.IsWhole) (arg9 : Memref sig .tc .vmem S1x1x1x384 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S1x1x1x384 .f32) (harg12 : arg12.IsWhole) (arg13 : Memref sig .tc .vmem S4224x128 .f32) (harg13 : arg13.IsWhole) (arg14 : Memref sig .tc .vmem S384x128 .f32) (harg14 : arg14.IsWhole) (arg15 : Memref sig .tc .vmem S384x128 .f32) (harg15 : arg15.IsWhole) (arg16 : Memref sig .tc .vmem S1x1x1x384 .f32) (harg16 : arg16.IsWhole) (I : Ins F) (y : Vec F S4224x128 .f32) (k0_h2 : k0_cond2 i = 1#1) (X2 : BufTy.Contents (Elt F) arg2.view.ty) (X5 : BufTy.Contents (Elt F) arg5.view.ty) (X6 : BufTy.Contents (Elt F) arg6.view.ty) (X7 : BufTy.Contents (Elt F) arg7.view.ty) (X8 : BufTy.Contents (Elt F) arg8.view.ty) (hX2 : arg2.view.read (Elt F) X2 = I.q) (hX5 : arg5.view.read (Elt F) X5 = I.o) (hX6 : arg6.view.read (Elt F) X6 = I.d) (hX7 : arg7.view.read (Elt F) X7 = I.l) (hX8 : arg8.view.read (Elt F) X8 = I.c) (hj : (col i).val = 0)
    (v3 : Vec F S384x128 .bf16) (v4 : Vec F S384x128 .bf16) (v6 : FVec F S1x384 .f32) (h3 : v3 = I.k) (h4 : v4 = I.v) (h6 : v6 = k0_pay41 I.ct)
    (G : BufTy.Contents (Elt F) arg13.view.ty) (init : Carry F) (hi : init = (diag i I k0_pay40).1) (hG : arg13.view.read (Elt F) G = (diag i I k0_pay40).2) :
    (st_k0_t1 (F := F) 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) v3 v4 v6 k0_h2 (Scalar.addi (BitVec.ofNat 32 (i 1).val) 1#32) X2 X5 X6 X7 X8 G init (k0_t1_loop i).trips).1 = (point i I y).1
    ∧ arg13.view.read (Elt F) (arg13.view.writes (Elt F) G (st_k0_t1 (F := F) 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) v3 v4 v6 k0_h2 (Scalar.addi (BitVec.ofNat 32 (i 1).val) 1#32) X2 X5 X6 X7 X8 G init (k0_t1_loop i).trips).2) = (point i I y).2 := by
  subst h3 h4 h6
  have e := st1_eq 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 I k0_h2 X2 X5 X6 X7 X8 hX2 hX5 hX6 hX7 hX8 G init (k0_t1_loop i).trips le_rfl
  have hp : point i I y = loop1 i I (init, arg13.view.read (Elt F) G) (k0_t1_loop i).trips := by
    rw [hi, hG]; exact if_pos hj
  rw [hp]; exact e

theorem fin3 (𝒱 : Variants) (cc : Dev nD) (bd : Option 𝒱.V) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S4224x128 .bf16) (harg6 : arg6.IsWhole) (arg7 : Memref sig .tc .vmem S1x4224x128 .f32) (harg7 : arg7.IsWhole) (arg8 : Memref sig .tc .vmem S4224x128 .f32) (harg8 : arg8.IsWhole) (arg9 : Memref sig .tc .vmem S1x1x1x384 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S1x1x1x384 .f32) (harg12 : arg12.IsWhole) (arg13 : Memref sig .tc .vmem S4224x128 .f32) (harg13 : arg13.IsWhole) (arg14 : Memref sig .tc .vmem S384x128 .f32) (harg14 : arg14.IsWhole) (arg15 : Memref sig .tc .vmem S384x128 .f32) (harg15 : arg15.IsWhole) (arg16 : Memref sig .tc .vmem S1x1x1x384 .f32) (harg16 : arg16.IsWhole) (I : Ins F) (y : Vec F S4224x128 .f32) (k0_h2 : ¬(k0_cond2 i = 1#1)) (X2 : BufTy.Contents (Elt F) arg2.view.ty) (X5 : BufTy.Contents (Elt F) arg5.view.ty) (X6 : BufTy.Contents (Elt F) arg6.view.ty) (X7 : BufTy.Contents (Elt F) arg7.view.ty) (X8 : BufTy.Contents (Elt F) arg8.view.ty) (hX2 : arg2.view.read (Elt F) X2 = I.q) (hX5 : arg5.view.read (Elt F) X5 = I.o) (hX6 : arg6.view.read (Elt F) X6 = I.d) (hX7 : arg7.view.read (Elt F) X7 = I.l) (hX8 : arg8.view.read (Elt F) X8 = I.c) (hj : ¬(col i).val = 0)
    (v3 : Vec F S384x128 .bf16) (v4 : Vec F S384x128 .bf16) (v6 : FVec F S1x384 .f32) (h3 : v3 = I.k) (h4 : v4 = I.v) (h6 : v6 = k0_pay41 I.ct)
    (G : BufTy.Contents (Elt F) arg13.view.ty) (init : Carry F) (hi : init = (diag i I y).1) (hG : arg13.view.read (Elt F) G = (diag i I y).2) :
    (st_k0_t3 (F := F) 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v3 v4 v6 k0_h2 (Scalar.addi (BitVec.ofNat 32 (i 1).val) 1#32) X2 X5 X6 X7 X8 G init (k0_t3_loop i).trips).1 = (point i I y).1
    ∧ arg13.view.read (Elt F) (arg13.view.writes (Elt F) G (st_k0_t3 (F := F) 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v3 v4 v6 k0_h2 (Scalar.addi (BitVec.ofNat 32 (i 1).val) 1#32) X2 X5 X6 X7 X8 G init (k0_t3_loop i).trips).2) = (point i I y).2 := by
  subst h3 h4 h6
  have e := st3_eq 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 I k0_h2 X2 X5 X6 X7 X8 hX2 hX5 hX6 hX7 hX8 G init (k0_t3_loop i).trips le_rfl
  have hp : point i I y = loop3 i I (init, arg13.view.read (Elt F) G) (k0_t3_loop i).trips := by
    rw [hi, hG]; exact if_neg hj
  rw [hp]; exact e

theorem diag_fst (i : grid0.Coords) (I : Ins F) (y : Vec F S4224x128 .f32)
    (v3 : Vec F S384x128 .bf16) (v4 : Vec F S384x128 .bf16) (v5 : Vec F S1x1x1x384 .f32) (v13 v15 : Vec F S384x128 .bf16) (v17 : Vec F S1x384x128 .f32) (v21 v32 : Vec F S384x128 .f32)
    (h3 : v3 = I.k) (h4 : v4 = I.v) (h5 : v5 = I.ct) (h13 : v13 = tile I.q (col i).val) (h15 : v15 = tile I.d (col i).val) (h17 : v17 = tile3 I.l (col i).val)
    (h21 : v21 = tile I.c (col i).val) (h32 : v32 = tile I.o (col i).val) :
    ((k0_pay52 (BitVec.ofNat 32 (i 1).val) v3 v4 (k0_pay41 v5) k0_pay42 v13 v15 (k0_pay45 v17) (k0_pay46 i v21) (k0_pay47 v15 v32),
      k0_pay51 (BitVec.ofNat 32 (i 1).val) v3 (k0_pay41 v5) k0_pay43 v13 v15 (k0_pay45 v17) (k0_pay46 i v21),
      k0_pay53 (BitVec.ofNat 32 (i 1).val) v3 v4 (k0_pay41 v5) k0_pay44 v13 v15 (k0_pay45 v17) (k0_pay46 i v21) (k0_pay47 v15 v32)) : Carry F)
      = (diag i I y).1 := by
  subst h3 h4 h5 h13 h15 h17 h21 h32; rfl

theorem diag_snd (i : grid0.Coords) (I : Ins F) (y : Vec F S4224x128 .f32)
    (v3 : Vec F S384x128 .bf16) (v4 : Vec F S384x128 .bf16) (v5 : Vec F S1x1x1x384 .f32) (v13 v15 : Vec F S384x128 .bf16) (v17 : Vec F S1x384x128 .f32) (v21 v32 v75 : Vec F S384x128 .f32)
    (z : Vec F S4224x128 .f32) (hz : z = y)
    (h3 : v3 = I.k) (h4 : v4 = I.v) (h5 : v5 = I.ct) (h13 : v13 = tile I.q (col i).val) (h15 : v15 = tile I.d (col i).val) (h17 : v17 = tile3 I.l (col i).val)
    (h21 : v21 = tile I.c (col i).val) (h32 : v32 = tile I.o (col i).val) (h75 : v75 = tile y (col i).val) :
    putTile z (col i).val (k0_pay54 (BitVec.ofNat 32 (i 1).val) v3 v4 (k0_pay41 v5) v13 v15 (k0_pay45 v17) (k0_pay46 i v21) (k0_pay47 v15 v32) v75)
      = (diag i I y).2 := by
  subst h3 h4 h5 h13 h15 h17 h21 h32 h75 hz; rfl

set_option maxHeartbeats 4000000 in
theorem sound_first (c : Dev nD) (E : Set ℕ) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S4224x128 .bf16) (harg6 : arg6.IsWhole) (arg7 : Memref sig .tc .vmem S1x4224x128 .f32) (harg7 : arg7.IsWhole) (arg8 : Memref sig .tc .vmem S4224x128 .f32) (harg8 : arg8.IsWhole) (arg9 : Memref sig .tc .vmem S1x1x1x384 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S1x1x1x384 .f32) (harg12 : arg12.IsWhole) (arg13 : Memref sig .tc .vmem S4224x128 .f32) (harg13 : arg13.IsWhole) (arg14 : Memref sig .tc .vmem S384x128 .f32) (harg14 : arg14.IsWhole) (arg15 : Memref sig .tc .vmem S384x128 .f32) (harg15 : arg15.IsWhole) (arg16 : Memref sig .tc .vmem S1x1x1x384 .f32) (harg16 : arg16.IsWhole) (I : Ins F) (y : Vec F S4224x128 .f32) (hj : (col i).val = 0) (K : PUnit → sProp 𝕄) :
    iprop(owns (c : Thread nD τ) arg2 fullShare I.q ∗ owns (c : Thread nD τ) arg3 fullShare I.k ∗ owns (c : Thread nD τ) arg4 fullShare I.v ∗ owns (c : Thread nD τ) arg5 fullShare I.o ∗ owns (c : Thread nD τ) arg6 fullShare I.d ∗ owns (c : Thread nD τ) arg7 fullShare I.l ∗ owns (c : Thread nD τ) arg8 fullShare I.c ∗ owns (c : Thread nD τ) arg9 fullShare I.ct ∗ owns (c : Thread nD τ) arg10 fullShare I.pk ∗ owns (c : Thread nD τ) arg11 fullShare I.pv ∗ owns (c : Thread nD τ) arg12 fullShare I.pc ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare I.q ∗ owns (c : Thread nD τ) arg3 fullShare I.k ∗ owns (c : Thread nD τ) arg4 fullShare I.v ∗ owns (c : Thread nD τ) arg5 fullShare I.o ∗ owns (c : Thread nD τ) arg6 fullShare I.d ∗ owns (c : Thread nD τ) arg7 fullShare I.l ∗ owns (c : Thread nD τ) arg8 fullShare I.c ∗ owns (c : Thread nD τ) arg9 fullShare I.ct ∗ owns (c : Thread nD τ) arg10 fullShare I.pk ∗ owns (c : Thread nD τ) arg11 fullShare I.pv ∗ owns (c : Thread nD τ) arg12 fullShare I.pc ∗ owns (c : Thread nD τ) arg13 fullShare (point i I y).2 ∗ owns (c : Thread nD τ) arg14 fullShare (k0_pay21 (point i I y).1.1 I.pk) ∗ owns (c : Thread nD τ) arg15 fullShare (k0_pay22 (point i I y).1.2.1 I.pv) ∗ owns (c : Thread nD τ) arg16 fullShare (k0_pay23 (point i I y).1.2.2 I.pc)) -∗ K ⟨⟩))
      ⊢ wp frame (wpE (defs₀ (F := F)) Variants.none c none) E (cc0_attn_bwd_0 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_attn_bwd_0_eq_skeleton]; unfold cc0_attn_bwd_0_skel
  simp only [k0_part5_eq_skeleton, k0_part6_eq_skeleton]

  have ht2 : (k0_t2_loop i).trips = 0 := trips2 i
  have ht4 : (k0_t4_loop i).trips = 0 := trips4 i
  have hc : Scalar.cmpi .ne (Scalar.extui (Scalar.cmpi .eq (BitVec.ofNat 32 (i 1).val) 0#32)) 0#32 = 1#1 := (cond2 i).mpr hj
  have hc2 : k0_cond2 i = 1#1 := (cond2 i).mpr hj
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, Hk⟩
  sl_exec (disch := sl_exact hc)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists f11; isplitr; · ipureintro; exact hf11
    iexact H11
  isplitl [H12]
  · iexists f12; isplitr; · ipureintro; exact hf12
    iexact H12
  isplitl [H13]
  · iexists _; isplitr
    swap; · iexact H13
    ipureintro
    have htU : Scf.trips (k0_t2_loop i).lb (k0_t2_loop i).ub (k0_t2_loop i).st = 0 := ht2
    simp only [htU, st_k0_t2, List.nil_append]
    rw [View.writes_append]
    refine (fin1 _ _ _ i arg2 harg2 arg3 harg3 arg4 harg4 arg5 harg5 arg6 harg6 arg7 harg7 arg8 harg8 arg9 harg9 arg10 harg10 arg11 harg11 arg12 harg12 arg13 harg13 arg14 harg14 arg15 harg15 arg16 harg16 I y hc2 f2 f5 f6 f7 f8 hf2 hf5 hf6 hf7 hf8 hj _ _ _ ((View.readAt_full _ _ _).trans hf3) ((View.readAt_full _ _ _).trans hf4) (congrArg k0_pay41 ((View.readAt_full _ _ _).trans hf9)) _ _ ?_ ?_).2
    · exact diag_fst i I _ _ _ _ _ _ _ _ _ ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5))
    · refine (read_put _ _ _ (off1 i) _ _ _).trans ?_
      exact diag_snd i I _ _ _ _ _ _ _ _ _ _ _ (View.read_writes_full _ _ _ _ _) ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5)) ((readAt_tile _ _ _ (col i).isLt (off1 i) _).trans (congrArg (fun z => tile z (col i).val) (View.read_writes_full _ _ _ _ _)))
  isplitl [H14]
  · iexists _; isplitr
    swap; · iexact H14
    ipureintro
    have htU : Scf.trips (k0_t2_loop i).lb (k0_t2_loop i).ub (k0_t2_loop i).st = 0 := ht2
    simp only [htU, st_k0_t2, List.nil_append]
    rw [View.read_writes_full]
    refine congrArg₂ (fun (z : Carry F) p => k0_pay21 z.1 p) (fin1 _ _ _ i arg2 harg2 arg3 harg3 arg4 harg4 arg5 harg5 arg6 harg6 arg7 harg7 arg8 harg8 arg9 harg9 arg10 harg10 arg11 harg11 arg12 harg12 arg13 harg13 arg14 harg14 arg15 harg15 arg16 harg16 I y hc2 f2 f5 f6 f7 f8 hf2 hf5 hf6 hf7 hf8 hj _ _ _ ((View.readAt_full _ _ _).trans hf3) ((View.readAt_full _ _ _).trans hf4) (congrArg k0_pay41 ((View.readAt_full _ _ _).trans hf9)) _ _ ?_ ?_).1 ((View.readAt_full _ _ _).trans hf10)
    · exact diag_fst i I _ _ _ _ _ _ _ _ _ ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5))
    · refine (read_put _ _ _ (off1 i) _ _ _).trans ?_
      exact diag_snd i I _ _ _ _ _ _ _ _ _ _ _ (View.read_writes_full _ _ _ _ _) ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5)) ((readAt_tile _ _ _ (col i).isLt (off1 i) _).trans (congrArg (fun z => tile z (col i).val) (View.read_writes_full _ _ _ _ _)))
  isplitl [H15]
  · iexists _; isplitr
    swap; · iexact H15
    ipureintro
    have htU : Scf.trips (k0_t2_loop i).lb (k0_t2_loop i).ub (k0_t2_loop i).st = 0 := ht2
    simp only [htU, st_k0_t2, List.nil_append]
    rw [View.read_writes_full]
    refine congrArg₂ (fun (z : Carry F) p => k0_pay22 z.2.1 p) (fin1 _ _ _ i arg2 harg2 arg3 harg3 arg4 harg4 arg5 harg5 arg6 harg6 arg7 harg7 arg8 harg8 arg9 harg9 arg10 harg10 arg11 harg11 arg12 harg12 arg13 harg13 arg14 harg14 arg15 harg15 arg16 harg16 I y hc2 f2 f5 f6 f7 f8 hf2 hf5 hf6 hf7 hf8 hj _ _ _ ((View.readAt_full _ _ _).trans hf3) ((View.readAt_full _ _ _).trans hf4) (congrArg k0_pay41 ((View.readAt_full _ _ _).trans hf9)) _ _ ?_ ?_).1 ((View.readAt_full _ _ _).trans hf11)
    · exact diag_fst i I _ _ _ _ _ _ _ _ _ ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5))
    · refine (read_put _ _ _ (off1 i) _ _ _).trans ?_
      exact diag_snd i I _ _ _ _ _ _ _ _ _ _ _ (View.read_writes_full _ _ _ _ _) ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5)) ((readAt_tile _ _ _ (col i).isLt (off1 i) _).trans (congrArg (fun z => tile z (col i).val) (View.read_writes_full _ _ _ _ _)))
  · iexists _; isplitr
    swap; · iexact H16
    ipureintro
    have htU : Scf.trips (k0_t2_loop i).lb (k0_t2_loop i).ub (k0_t2_loop i).st = 0 := ht2
    simp only [htU, st_k0_t2, List.nil_append]
    rw [View.read_writes_full]
    refine congrArg₂ (fun (z : Carry F) p => k0_pay23 z.2.2 p) (fin1 _ _ _ i arg2 harg2 arg3 harg3 arg4 harg4 arg5 harg5 arg6 harg6 arg7 harg7 arg8 harg8 arg9 harg9 arg10 harg10 arg11 harg11 arg12 harg12 arg13 harg13 arg14 harg14 arg15 harg15 arg16 harg16 I y hc2 f2 f5 f6 f7 f8 hf2 hf5 hf6 hf7 hf8 hj _ _ _ ((View.readAt_full _ _ _).trans hf3) ((View.readAt_full _ _ _).trans hf4) (congrArg k0_pay41 ((View.readAt_full _ _ _).trans hf9)) _ _ ?_ ?_).1 ((View.readAt_full _ _ _).trans hf12)
    · exact diag_fst i I _ _ _ _ _ _ _ _ _ ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5))
    · refine (read_put _ _ _ (off1 i) _ _ _).trans ?_
      exact diag_snd i I _ _ _ _ _ _ _ _ _ _ _ (View.read_writes_full _ _ _ _ _) ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5)) ((readAt_tile _ _ _ (col i).isLt (off1 i) _).trans (congrArg (fun z => tile z (col i).val) (View.read_writes_full _ _ _ _ _)))

set_option maxHeartbeats 4000000 in
theorem sound_other (c : Dev nD) (E : Set ℕ) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S4224x128 .bf16) (harg6 : arg6.IsWhole) (arg7 : Memref sig .tc .vmem S1x4224x128 .f32) (harg7 : arg7.IsWhole) (arg8 : Memref sig .tc .vmem S4224x128 .f32) (harg8 : arg8.IsWhole) (arg9 : Memref sig .tc .vmem S1x1x1x384 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S1x1x1x384 .f32) (harg12 : arg12.IsWhole) (arg13 : Memref sig .tc .vmem S4224x128 .f32) (harg13 : arg13.IsWhole) (arg14 : Memref sig .tc .vmem S384x128 .f32) (harg14 : arg14.IsWhole) (arg15 : Memref sig .tc .vmem S384x128 .f32) (harg15 : arg15.IsWhole) (arg16 : Memref sig .tc .vmem S1x1x1x384 .f32) (harg16 : arg16.IsWhole) (I : Ins F) (y : Vec F S4224x128 .f32) (hj : ¬(col i).val = 0) (K : PUnit → sProp 𝕄) :
    iprop(owns (c : Thread nD τ) arg2 fullShare I.q ∗ owns (c : Thread nD τ) arg3 fullShare I.k ∗ owns (c : Thread nD τ) arg4 fullShare I.v ∗ owns (c : Thread nD τ) arg5 fullShare I.o ∗ owns (c : Thread nD τ) arg6 fullShare I.d ∗ owns (c : Thread nD τ) arg7 fullShare I.l ∗ owns (c : Thread nD τ) arg8 fullShare I.c ∗ owns (c : Thread nD τ) arg9 fullShare I.ct ∗ owns (c : Thread nD τ) arg10 fullShare I.pk ∗ owns (c : Thread nD τ) arg11 fullShare I.pv ∗ owns (c : Thread nD τ) arg12 fullShare I.pc ∗ owns (c : Thread nD τ) arg13 fullShare y ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare I.q ∗ owns (c : Thread nD τ) arg3 fullShare I.k ∗ owns (c : Thread nD τ) arg4 fullShare I.v ∗ owns (c : Thread nD τ) arg5 fullShare I.o ∗ owns (c : Thread nD τ) arg6 fullShare I.d ∗ owns (c : Thread nD τ) arg7 fullShare I.l ∗ owns (c : Thread nD τ) arg8 fullShare I.c ∗ owns (c : Thread nD τ) arg9 fullShare I.ct ∗ owns (c : Thread nD τ) arg10 fullShare I.pk ∗ owns (c : Thread nD τ) arg11 fullShare I.pv ∗ owns (c : Thread nD τ) arg12 fullShare I.pc ∗ owns (c : Thread nD τ) arg13 fullShare (point i I y).2 ∗ owns (c : Thread nD τ) arg14 fullShare (k0_pay21 (point i I y).1.1 I.pk) ∗ owns (c : Thread nD τ) arg15 fullShare (k0_pay22 (point i I y).1.2.1 I.pv) ∗ owns (c : Thread nD τ) arg16 fullShare (k0_pay23 (point i I y).1.2.2 I.pc)) -∗ K ⟨⟩))
      ⊢ wp frame (wpE (defs₀ (F := F)) Variants.none c none) E (cc0_attn_bwd_0 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_attn_bwd_0_eq_skeleton]; unfold cc0_attn_bwd_0_skel
  simp only [k0_part5_eq_skeleton, k0_part6_eq_skeleton]

  have ht2 : (k0_t2_loop i).trips = 0 := trips2 i
  have ht4 : (k0_t4_loop i).trips = 0 := trips4 i
  have hc : ¬(Scalar.cmpi .ne (Scalar.extui (Scalar.cmpi .eq (BitVec.ofNat 32 (i 1).val) 0#32)) 0#32 = 1#1) := fun h => hj ((cond2 i).mp h)
  have hc2 : ¬(k0_cond2 i = 1#1) := fun h => hj ((cond2 i).mp h)
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, Hk⟩
  sl_exec (disch := sl_exact hc)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists f11; isplitr; · ipureintro; exact hf11
    iexact H11
  isplitl [H12]
  · iexists f12; isplitr; · ipureintro; exact hf12
    iexact H12
  isplitl [H13]
  · iexists _; isplitr
    swap; · iexact H13
    ipureintro
    have htU : Scf.trips (k0_t4_loop i).lb (k0_t4_loop i).ub (k0_t4_loop i).st = 0 := ht4
    simp only [htU, st_k0_t4, List.nil_append]
    rw [View.writes_append]
    refine (fin3 _ _ _ i arg2 harg2 arg3 harg3 arg4 harg4 arg5 harg5 arg6 harg6 arg7 harg7 arg8 harg8 arg9 harg9 arg10 harg10 arg11 harg11 arg12 harg12 arg13 harg13 arg14 harg14 arg15 harg15 arg16 harg16 I y hc2 f2 f5 f6 f7 f8 hf2 hf5 hf6 hf7 hf8 hj _ _ _ ((View.readAt_full _ _ _).trans hf3) ((View.readAt_full _ _ _).trans hf4) (congrArg k0_pay41 ((View.readAt_full _ _ _).trans hf9)) _ _ ?_ ?_).2
    · exact diag_fst i I _ _ _ _ _ _ _ _ _ ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5))
    · refine (read_put _ _ _ (off1 i) _ _ _).trans ?_
      exact diag_snd i I _ _ _ _ _ _ _ _ _ _ _ hf13 ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5)) ((readAt_tile _ _ _ (col i).isLt (off1 i) _).trans (congrArg (fun z => tile z (col i).val) hf13))
  isplitl [H14]
  · iexists _; isplitr
    swap; · iexact H14
    ipureintro
    have htU : Scf.trips (k0_t4_loop i).lb (k0_t4_loop i).ub (k0_t4_loop i).st = 0 := ht4
    simp only [htU, st_k0_t4, List.nil_append]
    rw [View.read_writes_full]
    refine congrArg₂ (fun (z : Carry F) p => k0_pay21 z.1 p) (fin3 _ _ _ i arg2 harg2 arg3 harg3 arg4 harg4 arg5 harg5 arg6 harg6 arg7 harg7 arg8 harg8 arg9 harg9 arg10 harg10 arg11 harg11 arg12 harg12 arg13 harg13 arg14 harg14 arg15 harg15 arg16 harg16 I y hc2 f2 f5 f6 f7 f8 hf2 hf5 hf6 hf7 hf8 hj _ _ _ ((View.readAt_full _ _ _).trans hf3) ((View.readAt_full _ _ _).trans hf4) (congrArg k0_pay41 ((View.readAt_full _ _ _).trans hf9)) _ _ ?_ ?_).1 ((View.readAt_full _ _ _).trans hf10)
    · exact diag_fst i I _ _ _ _ _ _ _ _ _ ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5))
    · refine (read_put _ _ _ (off1 i) _ _ _).trans ?_
      exact diag_snd i I _ _ _ _ _ _ _ _ _ _ _ hf13 ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5)) ((readAt_tile _ _ _ (col i).isLt (off1 i) _).trans (congrArg (fun z => tile z (col i).val) hf13))
  isplitl [H15]
  · iexists _; isplitr
    swap; · iexact H15
    ipureintro
    have htU : Scf.trips (k0_t4_loop i).lb (k0_t4_loop i).ub (k0_t4_loop i).st = 0 := ht4
    simp only [htU, st_k0_t4, List.nil_append]
    rw [View.read_writes_full]
    refine congrArg₂ (fun (z : Carry F) p => k0_pay22 z.2.1 p) (fin3 _ _ _ i arg2 harg2 arg3 harg3 arg4 harg4 arg5 harg5 arg6 harg6 arg7 harg7 arg8 harg8 arg9 harg9 arg10 harg10 arg11 harg11 arg12 harg12 arg13 harg13 arg14 harg14 arg15 harg15 arg16 harg16 I y hc2 f2 f5 f6 f7 f8 hf2 hf5 hf6 hf7 hf8 hj _ _ _ ((View.readAt_full _ _ _).trans hf3) ((View.readAt_full _ _ _).trans hf4) (congrArg k0_pay41 ((View.readAt_full _ _ _).trans hf9)) _ _ ?_ ?_).1 ((View.readAt_full _ _ _).trans hf11)
    · exact diag_fst i I _ _ _ _ _ _ _ _ _ ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5))
    · refine (read_put _ _ _ (off1 i) _ _ _).trans ?_
      exact diag_snd i I _ _ _ _ _ _ _ _ _ _ _ hf13 ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5)) ((readAt_tile _ _ _ (col i).isLt (off1 i) _).trans (congrArg (fun z => tile z (col i).val) hf13))
  · iexists _; isplitr
    swap; · iexact H16
    ipureintro
    have htU : Scf.trips (k0_t4_loop i).lb (k0_t4_loop i).ub (k0_t4_loop i).st = 0 := ht4
    simp only [htU, st_k0_t4, List.nil_append]
    rw [View.read_writes_full]
    refine congrArg₂ (fun (z : Carry F) p => k0_pay23 z.2.2 p) (fin3 _ _ _ i arg2 harg2 arg3 harg3 arg4 harg4 arg5 harg5 arg6 harg6 arg7 harg7 arg8 harg8 arg9 harg9 arg10 harg10 arg11 harg11 arg12 harg12 arg13 harg13 arg14 harg14 arg15 harg15 arg16 harg16 I y hc2 f2 f5 f6 f7 f8 hf2 hf5 hf6 hf7 hf8 hj _ _ _ ((View.readAt_full _ _ _).trans hf3) ((View.readAt_full _ _ _).trans hf4) (congrArg k0_pay41 ((View.readAt_full _ _ _).trans hf9)) _ _ ?_ ?_).1 ((View.readAt_full _ _ _).trans hf12)
    · exact diag_fst i I _ _ _ _ _ _ _ _ _ ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5))
    · refine (read_put _ _ _ (off1 i) _ _ _).trans ?_
      exact diag_snd i I _ _ _ _ _ _ _ _ _ _ _ hf13 ((View.readAt_full _ _ _).trans hf3) ((View.readAt_full _ _ _).trans hf4) ((View.readAt_full _ _ _).trans hf9) ((readAt_tile _ _ _ (col i).isLt (off1 i) _).trans (congrArg (fun z => tile z (col i).val) hf2)) ((readAt_tile _ _ _ (col i).isLt (off1 i) _).trans (congrArg (fun z => tile z (col i).val) hf6)) ((readAt_tile3 _ _ _ (col i).isLt (off2 i) _).trans (congrArg (fun z => tile3 z (col i).val) hf7)) ((readAt_tile _ _ _ (col i).isLt (off1 i) _).trans (congrArg (fun z => tile z (col i).val) hf8)) ((readAt_tile _ _ _ (col i).isLt (off1 i) _).trans (congrArg (fun z => tile z (col i).val) hf5)) ((readAt_tile _ _ _ (col i).isLt (off1 i) _).trans (congrArg (fun z => tile z (col i).val) hf13))

end AttnTwo
end
-- ==== Proof.Two.Run.lean ====
module

public import proofs.«01_k».proof.Proof.Two.Body
public import proofs.«01_k».proof.Proof.Gen.AttnTwoKernel.Frame
public import proofs.«01_k».proof.Proof.Gen.AttnTwoReferenceIdeal.Run

/-! The run of the attention gradient's pallas_call, at any values: the proof data, the body at every
point of the grid, the run, and the frames of the kernel, of its idealization and of the reference. -/

@[expose] public section
set_option maxRecDepth 16384
noncomputable section
namespace AttnTwo
open Cert.AttnTwoKernelIdeal Cert.AttnTwoKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the point `t` is given: its windows' blocks. -/
def ins (c : Dev nD) (t : Fin cfg0.N) : Ins F where
  q := iblk m c 0 t
  k := iblk m c 1 t
  v := iblk m c 2 t
  o := iblk m c 3 t
  d := iblk m c 4 t
  l := iblk m c 5 t
  c := iblk m c 6 t
  ct := iblk m c 7 t
  pk := iblk m c 8 t
  pv := iblk m c 9 t
  pc := iblk m c 10 t

/-- The gradient of the queries as point `n` leaves it. -/
def dqAt (c : Dev nD) : ℕ → Vec F S4224x128 .f32
  | 0 => (point (grid0.coords ⟨0, by decide⟩) (ins m c ⟨0, by decide⟩) k0_pay40).2
  | n + 1 => if h : n + 1 < cfg0.N then (point (grid0.coords ⟨n + 1, h⟩) (ins m c ⟨n + 1, h⟩) (dqAt c n)).2 else dqAt c n

/-- What point `n` finds of it: of no matter in the first column. -/
def dqBefore (c : Dev nD) : ℕ → Vec F S4224x128 .f32
  | 0 => k0_pay40
  | n + 1 => dqAt m c n

/-- What point `t` leaves. -/
def left (c : Dev nD) (t : Fin cfg0.N) : St F := point (grid0.coords t) (ins m c t) (dqBefore m c t.val)

theorem dqAt_eq (c : Dev nD) (t : Fin cfg0.N) : dqAt m c t.val = (left m c t).2 := by
  obtain ⟨n, hn⟩ := t
  cases n with
  | zero => rfl
  | succ n => exact dif_pos hn

/-- In the first column the point does not look at what it finds. -/
theorem point_first (i : grid0.Coords) (I : Ins F) (h : (col i).val = 0) (y z : Vec F S4224x128 .f32) : point i I y = point i I z := by
  unfold point; rw [if_pos h, if_pos h]

theorem col_coords : ∀ t : Fin cfg0.N, (col (grid0.coords t)).val = t.val % 11 :=
  (by decide +kernel : ∀ t : Fin grid0.N, (col (grid0.coords t)).val = t.val % 11)

/-- The proof data: each input's buffer at its block, the outputs' at what the model leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (left m c t).2
    | ⟨12, _⟩ => k0_pay21 (left m c t).1.1 (iblk m c 8 t)
    | ⟨13, _⟩ => k0_pay22 (left m c t).1.2.1 (iblk m c 9 t)
    | ⟨14, _⟩ => k0_pay23 (left m c t).1.2.2 (iblk m c 10 t)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (left m c t).2 := by dsimp only [dats]
theorem after0_12 (c : Dev nD) (t : Fin cfg0.N) : (dats m 0 c).after 12 t = k0_pay21 (left m c t).1.1 (iblk m c 8 t) := by dsimp only [dats]
theorem after0_13 (c : Dev nD) (t : Fin cfg0.N) : (dats m 0 c).after 13 t = k0_pay22 (left m c t).1.2.1 (iblk m c 9 t) := by dsimp only [dats]
theorem after0_14 (c : Dev nD) (t : Fin cfg0.N) : (dats m 0 c).after 14 t = k0_pay23 (left m c t).1.2.2 (iblk m c 10 t) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d

/-- Past the first column the body finds the gradient of the queries as the point before left it. -/
theorem before0_11 (c : Dev nD) (t : Fin cfg0.N) (ht : ¬ t.val % 11 = 0) (d) : (dats m 0 c).before 11 t d = dqBefore m c t.val := by
  have h0 : t.val ≠ 0 := fun h => ht (by rw [h])
  rw [(dats m 0 c).before_out_kept 11 rfl t h0
    (by
      have h := flush0_11 ⟨t.val - 1, Nat.lt_of_le_of_lt (Nat.sub_le _ _) t.isLt⟩
      have hn : ¬ (t.val - 1) % 11 = 10 := by omega
      exact Bool.eq_false_iff.mpr fun e => hn (h.mp e))
    (fun _ => rfl) (fun _ _ => rfl) d, after0_11]
  have e := dqAt_eq m c ⟨t.val - 1, Nat.lt_of_le_of_lt (Nat.sub_le _ _) t.isLt⟩
  rw [← e]
  obtain ⟨n, hn⟩ := t
  cases n with
  | zero => exact absurd rfl h0
  | succ n => rfl

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 16000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have hcol : (col (grid0.coords t)).val = t.val % 11 := col_coords t
  by_cases ht : t.val % 11 = 0
  · iapply (sound_first c Set.univ (grid0.coords t) _ _ _ _ _ _ _ _ _ _ _ _ _ _ _ _ _ _ _ _ _ _ _ _ _ _ _ _ _ _ (ins m c t) (dqBefore m c t.val) (hcol.trans ht) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    iintro ⟨H0, H1, H2, H3, H4, H5, H6, H7, H8, H9, H10, H11, H12, H13, H14⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · rw [before0_11 m c t ht]
    iapply (sound_other c Set.univ (grid0.coords t) _ _ _ _ _ _ _ _ _ _ _ _ _ _ _ _ _ _ _ _ _ _ _ _ _ _ _ _ _ _ (ins m c t) (dqBefore m c t.val) (fun h => ht (hcol.symm.trans h)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    iintro ⟨H0, H1, H2, H3, H4, H5, H6, H7, H8, H9, H10, H11, H12, H13, H14⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The body table's row at point `t`'s slots. -/
theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) Gen.launch0 defs₀ Variants.none m ρ main
    (hbody := fun c => (body_obligation m c).loose) (hshare := fun c w => by unfold Dat.share; split <;> rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The run leaves the arguments as they were and the counters at zero, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end AttnTwo
end
-- ==== Proof.Two.AttnHost.lean ====
/- The attention gradient: what the kernel's host lines prepare, as compositions of their stages. -/
module

public import proofs.«01_k».proof.Proof.Two.Run
public import proofs.«01_k».proof.Proof.Two.Soft
public import Idealize.ShloMosaic.Lib.StableHlo.RunRead

@[expose] public section
set_option maxRecDepth 1000000
noncomputable section
namespace AttnTwo.Host
open Cert.AttnTwoKernelIdeal Cert.AttnTwoKernelIdeal.Gen Idealize.ShloMosaic Idealize.ShloMosaic.TcCoe Idealize.SL.Sem Idealize.ShloMosaic.StableHlo

abbrev X := FVec Ideal S4224x2048 .bf16
abbrev X3 := FVec Ideal S4224x16x128 .f32
abbrev Q3 := FVec Ideal S4112x16x128 .f32
abbrev Cs := FVec Ideal S16x4224 .f32
abbrev T := FVec Ideal S16x4112x4224 .f32
abbrev R1 := FVec Ideal S16x4112 .f32
abbrev R2 := FVec Ideal S16x4112x1 .f32

/-- A matrix split into heads. -/
def heads (x : X) : X3 := shapeCast _ (extf .f32 x bitsLt_bf16_f32) shapeCasts_S4224x2048_S4224x16x128

/-- The rows kept, split into heads. -/
def kept (x : X) : Q3 :=
  shapeCast _ (extf .f32 (extractStridedSlice S4112x2048 ![112, 0] x slices_S4224x2048_S4112x2048_112_0) bitsLt_bf16_f32)
    shapeCasts_S4112x2048_S4112x16x128

/-- The scores. -/
def score (q : Q3) (k : X3) (c : Cs) : T :=
  addf (mulf (Host.dotGeneral dot_S4112x16x128_S4224x16x128_S16x4112x4224_2_2_0_0_1_1 none q k)
      (broadcastInDim S16x4112x4224 ![] bcast_S_S16x4112x4224 (constant S_ .f32 0x3DB504F3#32)))
    (subf (broadcastInDim S16x4112x4224 ![0, 1, 2] bcast_S16x4112x1_S16x4112x4224_0_1_2
        (broadcastInDim S16x4112x1 ![0, 1] bcast_S16x4112_S16x4112x1_0_1
          (extractStridedSlice S16x4112 ![0, 112] c slices_S16x4224_S16x4112_0_112)))
      (broadcastInDim S16x4112x4224 ![0, 1, 2] bcast_S16x1x4224_S16x4112x4224_0_1_2
        (broadcastInDim S16x1x4224 ![0, 2] bcast_S16x4224_S16x1x4224_0_2 c)))

/-- Which keys a query sees. -/
def mask : IVec S4112x4224 1 :=
  andi
    (cmpi .sle
      (broadcastInDim S4112x4224 ![0, 1] bcast_S1x4224_S4112x4224_0_1
        (broadcastInDim S1x4224 ![1] bcast_S4224_S1x4224_1 (iotaInDim S4224 32 0)))
      (broadcastInDim S4112x4224 ![0, 1] bcast_S4112x1_S4112x4224_0_1
        (addi (broadcastInDim S4112x1 ![] bcast_S_S4112x1 (constantI S_ 32 112#32))
          (broadcastInDim S4112x1 ![0] bcast_S4112_S4112x1_0 (iotaInDim S4112 32 0)))))
    (broadcastInDim S4112x4224 ![0, 1] bcast_S1x4224_S4112x4224_0_1
      (cmpi .sge (broadcastInDim S1x4224 ![1] bcast_S4224_S1x4224_1 (iotaInDim S4224 32 0))
        (broadcastInDim S1x4224 ![] bcast_S_S1x4224 (constantI S_ 32 112#32))))

/-- The scores seen. -/
def seen (s : T) : T :=
  select (broadcastInDim S16x4112x4224 ![1, 2] bcast_S4112x4224_S16x4112x4224_1_2 mask) s
    (broadcastInDim S16x4112x4224 ![] bcast_S_S16x4112x4224 (id (constant S_ .f32 0xFF800000#32)))

/-- The largest score of a query. -/
def largest (s : T) : R1 :=
  Host.reduce FloatOps.maximumf s (constant S_ .f32 0xFF800000#32) reducesTo_S16x4112x4224_S16x4112_d2 h_S_

def col1 (x : R1) : R2 := broadcastInDim S16x4112x1 ![0, 1] bcast_S16x4112_S16x4112x1_0_1 x

/-- The weights before they are normalized. -/
def weight (s : T) (x : R2) : T :=
  Host.exp (subf s (broadcastInDim S16x4112x4224 ![0, 1, 2] bcast_S16x4112x1_S16x4112x4224_0_1_2 x))

/-- The sum over the keys. -/
def total (e : T) : R1 := Host.reduceAdd e (constant S_ .f32 0x00000000#32) reducesTo_S16x4112x4224_S16x4112_d2 h_S_

/-- Quotients by the normalizer. -/
def over (e : T) (l : R2) : T := Host.divf e (broadcastInDim S16x4112x4224 ![0, 1, 2] bcast_S16x4112x1_S16x4112x4224_0_1_2 l)

/-- The output, zero on the rows before the pad's end. -/
def out (v : X3) (p : T) : FVec Ideal S4224x2048 .f32 :=
  pad S4224x2048 ![112, 0] ![0, 0] ![0, 0]
    (shapeCast _ (transpose S4112x16x128 [2, 0, 1]
      (Host.dotGeneral dot_S4224x16x128_S16x4112x4224_S16x128x4112_0_2_2_1_1_0 none v p) transposes_S16x128x4112_S4112x16x128_2_0_1)
      shapeCasts_S4112x16x128_S4112x2048)
    (sitofp .f32 (constantI S_ 32 0#32)) pads_S4112x2048_S4224x2048_11200_000 h_S_

/-- The logarithm of the normalizer, in every lane. -/
def lse (x l : R2) : FVec Ideal S16x4224x128 .f32 :=
  broadcastInDim S16x4224x128 ![0, 1, 2] bcast_S16x4224x1_S16x4224x128_0_1_2
    (pad S16x4224x1 ![0, 112, 0] ![0, 0, 0] ![0, 0, 0] (addf x (Host.log l)) (sitofp .f32 (constantI S_ 32 0#32))
      pads_S16x4112x1_S16x4224x1_000_11200_000 h_S_)

/-- The bias, a lane a head. -/
def biasLanes (c : Cs) : FVec Ideal S4224x128 .f32 :=
  pad S4224x128 ![0, 0] ![0, 112] ![0, 0] (transpose S4224x16 [1, 0] c transposes_S16x4224_S4224x16_1_0)
    (sitofp .f32 (constantI S_ 32 0#32)) pads_S4224x16_S4224x128_000_01120 h_S_

/-- The bias, a block a column of the grid. -/
def biasBlocks (c : Cs) : FVec Ideal S16x11x1x384 .f32 := shapeCast _ c shapeCasts_S16x4224_S16x11x1x384

section
variable (q k v : X) (c : Cs)
def tS : T := seen (score (kept q) (heads k) c)
def tM : R2 := col1 (largest (tS q k c))
def tE : T := weight (tS q k c) (tM q k c)
def tL : R2 := col1 (total (tE q k c))
def tO : FVec Ideal S4224x2048 .f32 := out (heads v) (over (tE q k c) (tL q k c))
end

variable (m : (ℓ : Loc nD τ sig) → Buf (Elt Ideal) ℓ) (d : Dev nD)

abbrev aq : X := m ((d.tc : Thread nD τ).loc main_arg0)
abbrev ak : X := m ((d.tc : Thread nD τ).loc main_arg1)
abbrev av : X := m ((d.tc : Thread nD τ).loc main_arg2)
abbrev ac : Cs := m ((d.tc : Thread nD τ).loc main_arg3)
abbrev ag : X := m ((d.tc : Thread nD τ).loc main_arg4)
abbrev bk : FVec Ideal S4224x2048 .f32 := m ((d.tc : Thread nD τ).loc main_arg5)
abbrev bv : FVec Ideal S4224x2048 .f32 := m ((d.tc : Thread nD τ).loc main_arg6)
abbrev bc : FVec Ideal S16x11x1x384 .f32 := m ((d.tc : Thread nD τ).loc main_arg7)

theorem read_o : V m d main_v45 = tO (aq m d) (ak m d) (av m d) (ac m d) := by
  simp only [V, hostOps0, hostOps0_1, hostOps0_2, hostOps0_3, hostOps0_4, hostOps0_5, hostOps0_6, hostOps0_7, hostOps0_8,
    List.flatten_cons, List.flatten_nil, List.append_nil, List.cons_append, List.nil_append, TRef.nullary, TRef.unary, TRef.binary,
    TRef.ternary, TRef.toBuf, TRef.ofBuf, cast_eq]
  after_results_simp <;> rfl

theorem read_l : V m d main_v49 = lse (tM (aq m d) (ak m d) (ac m d)) (tL (aq m d) (ak m d) (ac m d)) := by
  simp only [V, hostOps0, hostOps0_1, hostOps0_2, hostOps0_3, hostOps0_4, hostOps0_5, hostOps0_6, hostOps0_7, hostOps0_8,
    List.flatten_cons, List.flatten_nil, List.append_nil, List.cons_append, List.nil_append, TRef.nullary, TRef.unary, TRef.binary,
    TRef.ternary, TRef.toBuf, TRef.ofBuf, cast_eq]
  after_results_simp <;> rfl

theorem read_c : V m d main_v51 = biasLanes (ac m d) := by
  simp only [V, hostOps0, hostOps0_1, hostOps0_2, hostOps0_3, hostOps0_4, hostOps0_5, hostOps0_6, hostOps0_7, hostOps0_8,
    List.flatten_cons, List.flatten_nil, List.append_nil, List.cons_append, List.nil_append, TRef.nullary, TRef.unary, TRef.binary,
    TRef.ternary, TRef.toBuf, TRef.ofBuf, cast_eq]
  after_results_simp <;> rfl

theorem read_ct : V m d main_v52 = biasBlocks (ac m d) := by
  simp only [V, hostOps0, hostOps0_1, hostOps0_2, hostOps0_3, hostOps0_4, hostOps0_5, hostOps0_6, hostOps0_7, hostOps0_8,
    List.flatten_cons, List.flatten_nil, List.append_nil, List.cons_append, List.nil_append, TRef.nullary, TRef.unary, TRef.binary,
    TRef.ternary, TRef.toBuf, TRef.ofBuf, cast_eq]
  after_results_simp <;> rfl

end AttnTwo.Host
end
-- ==== Proof.Two.AttnReads.lean ====
/- The attention gradient: the blocks each point of the kernel's grid is given, for arguments that are real numbers. -/
module

public import proofs.«01_k».proof.Proof.Two.AttnHost
public import proofs.«01_k».proof.Proof.Two.AttnRefValue
public import Idealize.ShloMosaic.Lib.Pipeline.ValueKit

@[expose] public section
set_option maxRecDepth 1000000
noncomputable section
namespace AttnTwo.Host
open Cert.AttnTwoKernelIdeal Cert.AttnTwoKernelIdeal.Gen Idealize.ShloMosaic Idealize.ShloMosaic.TcCoe Idealize.SL.Sem Idealize.ShloMosaic.StableHlo

theorem zero_word : FloatOps.sitofp (F := Ideal) .f32 (0#32) = (0 : EReal) := by simp [FloatOps.sitofp]

theorem sub_up (i : Fin 4112) (p) : (⟨(up i).val - 112, p⟩ : Fin 4112) = i := Fin.ext (show 112 + i.val - 112 = i.val by omega)

theorem up_lt (i : Fin 4112) : (up i).val - 112 < 4112 := by have := i.isLt; show 112 + i.val - 112 < 4112; omega

section stages
variable (h : Fin 16) (i : Fin 4112) (r j : Fin 4224) (e : Fin 128)

theorem heads_at (x : X) : heads x (ix3 r h e) = x (ix2 r (hc h e)) := by
  pointwise [heads]
  exact congrArg (fun z => x (ix2 r z)) (Fin.ext (congrArg (· + e.val) (Nat.mul_comm _ _)))
theorem kept_at (x : X) : kept x (ix3 i h e) = x (ix2 (up i) (hc h e)) := by
  pointwise [kept]
  exact congrArg (fun z => x (ix2 (up i) z)) (Fin.ext (congrArg (· + e.val) (Nat.mul_comm _ _)))
theorem score_at (q : Q3) (k : X3) (c : Cs) : score q k c (ix3 h i j) =
    (∑ x, q (ix3 i h x) * k (ix3 j h x)) * Ideal.ofBits .f32 1035273459#32 + (c (ix2 h (up i)) - c (ix2 h j)) := by
  pointwise [score]; rfl
theorem seen_at (s : T) : seen s (ix3 h i j) = if 112 ≤ j.val ∧ j.val ≤ (up i).val then s (ix3 h i j) else ⊥ := by
  pointwise [seen, mask]
  rw [Ref.mask_select']
  exact if_congr Iff.rfl rfl bot_word
theorem rmax (s : T) (c : FVec Ideal S_ .f32) : Host.reduce FloatOps.maximumf s c reducesTo_S16x4112x4224_S16x4112_d2 h_S_ (ix2 h i)
    = Finset.univ.fold max (c (Shape.Idx.first h_S_)) fun k => s (ix3 h i k) := by
  simp only [pointwise]
theorem const_at (w : BitVec 32) (k : S_.Idx) : constant (F := Ideal) S_ .f32 w k = Ideal.ofBits .f32 w := rfl
theorem largest_at (s : T) : largest s (ix2 h i) = Finset.univ.fold max ⊥ fun k => s (ix3 h i k) := by
  unfold largest
  rw [rmax, const_at, bot_word]
theorem col1_at (s : R1) : col1 s (ix3 h i 0) = s (ix2 h i) := by pointwise [col1]
theorem weight_at (s : T) (x : R2) : weight s x (ix3 h i j) = Ideal.exp (s (ix3 h i j) - x (ix3 h i 0)) := by pointwise [weight]
theorem total_at (s : T) : total s (ix2 h i) = ∑ x, s (ix3 h i x) := by pointwise [total]
theorem over_at (s : T) (l : R2) : over s l (ix3 h i j) = Ideal.div (s (ix3 h i j)) (l (ix3 h i 0)) := by pointwise [over]
theorem out_low (v : X3) (p : T) (hr : ¬ 112 ≤ r.val) : out v p (ix2 r (hc h e)) = 0 := by
  pointwise [out]
  rw [dif_neg (fun z => hr z.1)]
  exact zero_word
theorem out_up (v : X3) (p : T) : out v p (ix2 (up i) (hc h e)) = ∑ x, v (ix3 x h e) * p (ix3 h i x) := by
  pointwise [out]
  rw [dif_pos ⟨up_le i, up_lt i⟩]
  refine Finset.sum_congr rfl fun x _ => congrArg₂ (· * ·) ?_ ?_
  · exact congrArg₂ (fun a b => v (ix3 x a b)) (hc_div h e _) (hc_mod h e _)
  · exact congrArg₂ (fun a b => p (ix3 a b x)) (hc_div h e _) (sub_up i _)
theorem lse_low (x l : R2) (hr : ¬ 112 ≤ r.val) : lse x l (ix3 h r e) = 0 := by
  pointwise [lse]
  rw [dif_neg (fun z => hr z.1)]
  exact zero_word
theorem lse_up (x l : R2) : lse x l (ix3 h (up i) e) = x (ix3 h i 0) + Ideal.log (l (ix3 h i 0)) := by
  pointwise [lse]
  rw [dif_pos ⟨up_le i, up_lt i⟩, sub_up]
theorem lanes_at (c : Cs) : biasLanes c (ix2 r ⟨h.val, by have := h.isLt; omega⟩) = c (ix2 h r) := by
  pointwise [biasLanes]
theorem blocks_at (c : Cs) (x : Fin 11) (y : Fin 384) : biasBlocks c (ix4 h x 0 y) = c (ix2 h (row x.val y)) := by
  pointwise [biasBlocks]
  exact congrArg (fun z => c (ix2 h z)) (Fin.ext ((congrArg (· + y.val) (Nat.mul_comm _ _)).trans (row_val _ _ x.isLt).symm))
end stages

theorem idx0 : ∀ t : Fin cfg0.N, win0_0.index t = ![0, t.val / 11] := (by decide +kernel : ∀ t : Fin grid0.N, _)
theorem idx1 : ∀ t : Fin cfg0.N, win0_1.index t = ![t.val % 11, t.val / 11] := (by decide +kernel : ∀ t : Fin grid0.N, _)
theorem idx2 : ∀ t : Fin cfg0.N, win0_2.index t = ![t.val % 11, t.val / 11] := (by decide +kernel : ∀ t : Fin grid0.N, _)
theorem idx3 : ∀ t : Fin cfg0.N, win0_3.index t = ![0, t.val / 11] := (by decide +kernel : ∀ t : Fin grid0.N, _)
theorem idx4 : ∀ t : Fin cfg0.N, win0_4.index t = ![0, t.val / 11] := (by decide +kernel : ∀ t : Fin grid0.N, _)
theorem idx5 : ∀ t : Fin cfg0.N, win0_5.index t = ![t.val / 11, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val / 11, t.val % 11, 0, 0] := (by decide +kernel : ∀ t : Fin grid0.N, _)
theorem coords0 : ∀ t : Fin cfg0.N, ((grid0.coords t) 0).val = t.val / 11 := (by decide +kernel : ∀ t : Fin grid0.N, _)

/-- The head of a point. -/
def hd (t : Fin cfg0.N) : Fin 16 := ⟨t.val / 11, by have : t.val < 176 := t.isLt; omega⟩

variable (m : (ℓ : Loc nD τ sig) → Buf (Elt Ideal) ℓ) (d : Dev nD) (t : Fin cfg0.N)

theorem blk0 (r : Fin 4224) (e : Fin 128) : iblk m d 0 t (ix2 r e) = aq m d (ix2 r (hc (hd t) e)) := by
  blk_simp [iblk]
  rw [V_main_arg0]
  refine congrArg _ (funext fun k => Fin.ext ?_)
  fin_cases k <;> blk_simp [idx0, hc, hd, row] <;> (try rfl) <;> simp <;> omega

theorem blk1 (x : Fin 384) (e : Fin 128) : iblk m d 1 t (ix2 x e) = ak m d (ix2 (row (t.val % 11) x) (hc (hd t) e)) := by
  blk_simp [iblk]
  rw [V_main_arg1]
  refine congrArg _ (funext fun k => Fin.ext ?_)
  fin_cases k <;> blk_simp [idx1, hc, hd, row] <;> (try rfl) <;> simp <;> omega

theorem blk2 (x : Fin 384) (e : Fin 128) : iblk m d 2 t (ix2 x e) = av m d (ix2 (row (t.val % 11) x) (hc (hd t) e)) := by
  blk_simp [iblk]
  rw [V_main_arg2]
  refine congrArg _ (funext fun k => Fin.ext ?_)
  fin_cases k <;> blk_simp [idx2, hc, hd, row] <;> (try rfl) <;> simp <;> omega

theorem blk3 (r : Fin 4224) (e : Fin 128) : iblk m d 3 t (ix2 r e) = tO (aq m d) (ak m d) (av m d) (ac m d) (ix2 r (hc (hd t) e)) := by
  blk_simp [iblk]
  rw [read_o]
  refine congrArg _ (funext fun k => Fin.ext ?_)
  fin_cases k <;> blk_simp [idx3, hc, hd, row] <;> (try rfl) <;> simp <;> omega

theorem blk4 (r : Fin 4224) (e : Fin 128) : iblk m d 4 t (ix2 r e) = ag m d (ix2 r (hc (hd t) e)) := by
  blk_simp [iblk]
  rw [V_main_arg4]
  refine congrArg _ (funext fun k => Fin.ext ?_)
  fin_cases k <;> blk_simp [idx4, hc, hd, row] <;> (try rfl) <;> simp <;> omega

theorem blk5 (r : Fin 4224) (e : Fin 128) : iblk m d 5 t (ix3 0 r e) = lse (tM (aq m d) (ak m d) (ac m d)) (tL (aq m d) (ak m d) (ac m d)) (ix3 (hd t) r e) := by
  blk_simp [iblk]
  rw [read_l]
  refine congrArg _ (funext fun k => Fin.ext ?_)
  fin_cases k <;> blk_simp [idx5, hc, hd, row] <;> (try rfl) <;> simp <;> omega

theorem blk6 (r : Fin 4224) (e : Fin 128) : iblk m d 6 t (ix2 r e) = biasLanes (ac m d) (ix2 r e) := by
  blk_simp [iblk]
  rw [read_c]
  refine congrArg _ (funext fun k => Fin.ext ?_)
  fin_cases k <;> blk_simp [idx6, hc, hd, row] <;> (try rfl) <;> simp <;> omega

theorem blk7 (x : Fin 384) : iblk m d 7 t (ix4 0 0 0 x) = biasBlocks (ac m d) (ix4 (hd t) ⟨t.val % 11, Nat.mod_lt _ (by omega)⟩ 0 x) := by
  blk_simp [iblk]
  rw [read_ct]
  refine congrArg _ (funext fun k => Fin.ext ?_)
  fin_cases k <;> blk_simp [idx7, hc, hd, row] <;> (try rfl) <;> simp <;> omega

theorem idx8 : ∀ t : Fin cfg0.N, win0_8.index t = ![t.val % 11, t.val / 11] := (by decide +kernel : ∀ t : Fin grid0.N, _)
theorem idx9 : ∀ t : Fin cfg0.N, win0_9.index t = ![t.val % 11, t.val / 11] := (by decide +kernel : ∀ t : Fin grid0.N, _)
theorem idx10 : ∀ t : Fin cfg0.N, win0_10.index t = ![t.val / 11, t.val % 11, 0, 0] := (by decide +kernel : ∀ t : Fin grid0.N, _)

theorem blk8 (x : Fin 384) (e : Fin 128) : iblk m d 8 t (ix2 x e) = bk m d (ix2 (row (t.val % 11) x) (hc (hd t) e)) := by
  blk_simp [iblk]
  rw [V_main_arg5]
  refine congrArg _ (funext fun k => Fin.ext ?_)
  fin_cases k <;> blk_simp [idx8, hc, hd, row] <;> (try rfl) <;> simp <;> omega

theorem blk9 (x : Fin 384) (e : Fin 128) : iblk m d 9 t (ix2 x e) = bv m d (ix2 (row (t.val % 11) x) (hc (hd t) e)) := by
  blk_simp [iblk]
  rw [V_main_arg6]
  refine congrArg _ (funext fun k => Fin.ext ?_)
  fin_cases k <;> blk_simp [idx9, hc, hd, row] <;> (try rfl) <;> simp <;> omega

theorem blk10 (x : Fin 384) : iblk m d 10 t (ix4 0 0 0 x) = bc m d (ix4 (hd t) ⟨t.val % 11, Nat.mod_lt _ (by omega)⟩ 0 x) := by
  blk_simp [iblk]
  rw [V_main_arg7]
  refine congrArg _ (funext fun k => Fin.ext ?_)
  fin_cases k <;> blk_simp [idx10, hc, hd, row] <;> (try rfl) <;> simp <;> omega

section real
variable {D : Data} {q k v g : X} {c : Cs} (A : Real' D q k v g c) (h : Fin 16) (i : Fin 4112) (r j : Fin 4224) (e : Fin 128)
include A

theorem tS_at : tS q k c (ix3 h i j) = D.ms h (up i) j := by
  unfold tS Data.ms
  rw [seen_at]
  refine if_congr Iff.rfl ?_ rfl
  rw [score_at, A.c, A.c, Finset.sum_congr rfl fun x _ => congrArg₂ (· * ·) ((kept_at h i x q).trans (A.q _ _)) ((heads_at h j x k).trans (A.k _ _)), scl_word]
  simp only [← EReal.coe_mul, ← coe_sum, ← EReal.coe_add, ← EReal.coe_sub]
  rfl

theorem tM_at : tM q k c (ix3 h i 0) = (D.mx h (up i) : EReal) := by
  unfold tM
  rw [col1_at, largest_at, ← D.mx_coe h (up i) (up_le i)]
  exact congrArg (fun f => Finset.fold max ⊥ f Finset.univ) (funext fun n => tS_at A h i n)

theorem tE_at : tE q k c (ix3 h i j) = (D.ex h (up i) j : EReal) := by
  unfold tE
  rw [weight_at, tM_at A, tS_at A, D.ex_coe]

theorem tL_at : tL q k c (ix3 h i 0) = (D.nl h (up i) : EReal) := by
  unfold tL Data.nl
  rw [col1_at, total_at, coe_sum]
  exact Finset.sum_congr rfl fun n _ => tE_at A h i n

theorem exists_up (hr : 112 ≤ r.val) : ∃ i, r = up i :=
  ⟨⟨r.val - 112, by have := r.isLt; omega⟩, Fin.ext (show r.val = 112 + (r.val - 112) by omega)⟩

theorem tO_at : tO q k v c (ix2 r (hc h e)) = ((D.head h).o r e : EReal) := by
  unfold tO
  show _ = ((if 112 ≤ r.val then ∑ j, D.pr h r j * D.V j (hc h e) else 0 : ℝ) : EReal)
  by_cases hr : 112 ≤ r.val
  · obtain ⟨i, rfl⟩ := exists_up A r hr
    rw [if_pos hr, out_up, coe_sum]
    exact Finset.sum_congr rfl fun j _ => by
      rw [heads_at, A.v, over_at, tE_at A, tL_at A, div_coe _ _ (D.nl_pos h _ hr).ne', ← EReal.coe_mul, mul_comm]; rfl
  · rw [if_neg hr, out_low _ _ _ _ _ hr]; rfl

theorem lse_at : lse (tM q k c) (tL q k c) (ix3 h r e) = ((D.head h).l r : EReal) := by
  show _ = ((if 112 ≤ r.val then D.mx h r + Real.log (D.nl h r) else 0 : ℝ) : EReal)
  by_cases hr : 112 ≤ r.val
  · obtain ⟨i, rfl⟩ := exists_up A r hr
    rw [if_pos hr, lse_up, tM_at A, tL_at A, log_coe _ (D.nl_pos h _ hr), ← EReal.coe_add]
  · rw [if_neg hr, lse_low _ _ _ _ _ hr]; rfl
end real

set_option maxHeartbeats 2000000 in
/-- What a point is given, when the arguments are real numbers. -/
theorem reads {D : Data} (A : Real' D (aq m d) (ak m d) (av m d) (ag m d) (ac m d)) :
    Reads (D.head (hd t)) (grid0.coords t) (ins m d t) := by
  have hcol := col_coords t
  have hlane : lane (grid0.coords t) = ⟨(hd t).val, by have := (hd t).isLt; omega⟩ := Fin.ext (coords0 t)
  constructor
  · intro r e; exact (blk0 m d t r e).trans (A.q _ _)
  · intro x e; exact ((blk1 m d t x e).trans (A.k _ _)).trans (congrArg (fun n => (((D.head (hd t)).k (row n x) e : ℝ) : EReal)) hcol.symm)
  · intro x e; exact ((blk2 m d t x e).trans (A.v _ _)).trans (congrArg (fun n => (((D.head (hd t)).v (row n x) e : ℝ) : EReal)) hcol.symm)
  · intro r e; exact (blk3 m d t r e).trans (tO_at A _ _ _)
  · intro r e; exact (blk4 m d t r e).trans (A.g _ _)
  · intro r; exact (blk5 m d t r 0).trans (lse_at A _ _ _)
  · intro r; rw [hlane]; exact (blk6 m d t r _).trans ((lanes_at _ _ _).trans (A.c _ _))
  · intro x; exact ((blk7 m d t x).trans ((blocks_at _ _ _ _).trans (A.c _ _))).trans (congrArg (fun n => (((D.head (hd t)).c (row n x) : ℝ) : EReal)) hcol.symm)

end AttnTwo.Host
end
-- ==== Proof.Two.Sweep.lean ====
/- A grid point of the attention gradient over the reals: the sums it leaves. -/
module

public import proofs.«01_k».proof.Proof.Two.Head

@[expose] public section
set_option maxRecDepth 16384
noncomputable section
namespace AttnTwo
open Cert.AttnTwoKernelIdeal Cert.AttnTwoKernelIdeal.Gen
open Idealize.ShloMosaic Idealize.ShloMosaic.TcCoe

theorem putTile_at {α : Type} (y : S4224x128.Idx → α) (b : ℕ) (hb : b < 11) (w : S384x128.Idx → α) (b' : ℕ) (hb' : b' < 11) (a : Fin 384) (e : Fin 128) :
    putTile y b w (ix2 (row b' a) e) = if b' = b then w (ix2 a e) else y (ix2 (row b' a) e) := by
  have ha := a.isLt
  unfold putTile VecWindow.put
  by_cases h : b' = b
  · subst h
    rw [if_pos rfl, dif_pos]
    · refine congrArg w (funext fun t => Fin.ext ?_)
      fin_cases t
      · show (row b' a).val - 384 * b' = a.val
        rw [row_val _ _ hb]; omega
      · show e.val - 0 = e.val
        omega
    · intro t
      fin_cases t
      · show 384 * b' ≤ (row b' a).val ∧ (row b' a).val < 384 * b' + 384
        rw [row_val _ _ hb]; omega
      · show 0 ≤ e.val ∧ e.val < 0 + 128
        have := e.isLt; omega
  · rw [if_neg h, dif_neg]
    intro hall
    have h0 : 384 * b ≤ (row b' a).val ∧ (row b' a).val < 384 * b + 384 := hall 0
    rw [row_val _ _ hb'] at h0
    omega

namespace Head
variable (H : Head)

/-- What block `b` of the queries adds to its gradient in column `j`. -/
def dqC (j : ℕ) (r : Fin 4224) (e : Fin 128) : ℝ := (∑ x, H.ds r (row j x) * H.k (row j x) e) * scl

/-- The gradient of the queries after the columns before `j`. -/
def dqPre (j : ℕ) (r : Fin 4224) (e : Fin 128) : ℝ := ∑ n ∈ Finset.range j, H.dqC n r e

theorem ds_zero (i j : Fin 4224) (h : i.val < j.val) : H.ds i j = 0 := by
  unfold ds p; rw [if_neg (by omega), zero_mul]

theorem p_zero (i j : Fin 4224) (h : i.val < j.val) : H.p i j = 0 := by
  unfold p; rw [if_neg (by omega)]

end Head

/-- The state after `n` blocks of the column: the three sums, and the gradient of the queries added to `z`. -/
structure Sums (H : Head) (j n : ℕ) (z : Fin 4224 → Fin 128 → ℝ) (s : St Ideal) : Prop where
  dk : ∀ x e, s.1.1 (ix2 x e) = ((∑ b ∈ Finset.range n, ∑ a, H.ds (row (j + b) a) (row j x) * H.q (row (j + b) a) e : ℝ) : EReal)
  dv : ∀ x e, s.1.2.1 (ix2 x e) = ((∑ b ∈ Finset.range n, ∑ a, H.p (row (j + b) a) (row j x) * H.d (row (j + b) a) e : ℝ) : EReal)
  dc : ∀ x, s.1.2.2 (ix2 0 x) = ((0 - ∑ b ∈ Finset.range n, ∑ a, H.ds (row (j + b) a) (row j x) : ℝ) : EReal)
  dq : ∀ b, b < 11 → ∀ a e, s.2 (ix2 (row b a) e) = ((z (row b a) e + if j ≤ b ∧ b < j + n then H.dqC j (row b a) e else 0 : ℝ) : EReal)

section
variable {H : Head} {i : grid0.Coords} {I : Ins Ideal} (R : Reads H i I)
include R

theorem Sums.step {n b : ℕ} {z : Fin 4224 → Fin 128 → ℝ} {s t : St Ideal} (h : Sums H (col i).val n z s) (hb : b = (col i).val + n) (hn : b < 11)
    (P D : S384x384.Idx → EReal)
    (hp : ∀ a x, P (ix2 a x) = (H.p (row b a) (row (col i).val x) : EReal))
    (hd : ∀ a x, D (ix2 a x) = (H.ds (row b a) (row (col i).val x) : EReal))
    (t1 : ∀ x e, t.1.1 (ix2 x e) = s.1.1 (ix2 x e) + ∑ a, D (ix2 a x) * I.q (ix2 (row b a) e))
    (t2 : ∀ x e, t.1.2.1 (ix2 x e) = s.1.2.1 (ix2 x e) + ∑ a, P (ix2 a x) * I.d (ix2 (row b a) e))
    (t3 : ∀ x, t.1.2.2 (ix2 0 x) = s.1.2.2 (ix2 0 x) - ∑ a, D (ix2 a x))
    (w : S384x128.Idx → EReal) (t4 : t.2 = putTile s.2 b w)
    (hw : ∀ a e, w (ix2 a e) = s.2 (ix2 (row b a) e) + (∑ x, D (ix2 a x) * I.k (ix2 x e)) * Ideal.ofBits .f32 1035273459#32) :
    Sums H (col i).val (n + 1) z t where
  dk x e := by
    rw [t1, h.dk, Finset.sum_range_succ, EReal.coe_add, coe_sum Finset.univ, ← hb]
    refine congrArg _ (Finset.sum_congr rfl fun a _ => ?_)
    rw [hd, R.q, EReal.coe_mul]
  dv x e := by
    rw [t2, h.dv, Finset.sum_range_succ, EReal.coe_add, coe_sum Finset.univ, ← hb]
    refine congrArg _ (Finset.sum_congr rfl fun a _ => ?_)
    rw [hp, R.d, EReal.coe_mul]
  dc x := by
    rw [t3, h.dc, Finset.sum_range_succ, ← sub_sub]
    refine Eq.trans ?_ (EReal.coe_sub _ _).symm
    rw [coe_sum Finset.univ, ← hb]
    refine congrArg _ (Finset.sum_congr rfl fun a _ => ?_)
    rw [hd]
  dq b' hb' a e := by
    rw [t4, putTile_at _ _ hn _ _ hb']
    by_cases e' : b' = b
    · subst e'
      rw [if_pos rfl, hw, h.dq _ hb', if_neg (by omega), if_pos (by omega), add_zero, EReal.coe_add, scl_word]
      unfold Head.dqC
      rw [EReal.coe_mul, coe_sum]
      refine congrArg (fun z => _ + z * _) (Finset.sum_congr rfl fun x _ => ?_)
      rw [hd, R.k, EReal.coe_mul]
    · rw [if_neg e', h.dq _ hb']
      by_cases hin : (col i).val ≤ b' ∧ b' < (col i).val + n
      · rw [if_pos hin, if_pos (by omega)]
      · rw [if_neg hin, if_neg (by omega)]

/-- The block on the diagonal. -/
theorem sums_diag (z : Fin 4224 → Fin 128 → ℝ) (y : Vec Ideal S4224x128 .f32) (hy : ∀ r e, y (ix2 r e) = (z r e : EReal)) :
    Sums H (col i).val 1 z (diag i I y) := by
  have h0 : Sums H (col i).val 0 z ((k0_pay42, k0_pay43, k0_pay44), y) :=
    { dk := fun x e => by rw [Finset.sum_range_zero]; pointwise [k0_pay42]; rfl
      dv := fun x e => by rw [Finset.sum_range_zero]; pointwise [k0_pay43]; rfl
      dc := fun x => by rw [Finset.sum_range_zero, sub_zero]; pointwise [k0_pay44]; rfl
      dq := fun b _ a e => by show y _ = _; rw [hy, if_neg (by omega), add_zero] }
  refine Sums.step R h0 (b := (col i).val) (Nat.add_zero _).symm (col i).isLt _ _ (p0_at R) (ds0_at R) ?_ ?_ ?_ _ rfl ?_
  · intro x e; unfold diag; dsimp only; pointwise [k0_pay52, k0_pay50]; rfl
  · intro x e; unfold diag; dsimp only; pointwise [k0_pay51]; rfl
  · intro x; unfold diag; dsimp only; pointwise [k0_pay53]
  · intro a e; pointwise [k0_pay54, k0_pay50]; rfl

theorem sums_loop1 (z : Fin 4224 → Fin 128 → ℝ) (s : St Ideal) (hs : Sums H (col i).val 1 z s) :
    ∀ n, n ≤ (k0_t1_loop i).trips → Sums H (col i).val (n + 1) z (loop1 i I s n)
  | 0, _ => hs
  | n + 1, hn => by
    have ih := sums_loop1 z s hs n (by omega)
    have hk : n < 10 - (col i).val := lt_of_lt_of_eq (Nat.lt_of_succ_le hn) (trips1 i)
    have e : loop1 i I s (n + 1) = below1 i I ⟨n, hn⟩ (loop1 i I s n) := dif_pos (Nat.lt_of_succ_le hn)
    rw [e]
    refine Sums.step R ih (b := (col i).val + 1 + n) (by omega) (by omega) _ _ (p1_at R ⟨n, hn⟩) (ds1_at R ⟨n, hn⟩) ?_ ?_ ?_ _ rfl ?_
    · intro x e; unfold below1; dsimp only; pointwise [k0_pay5, k0_pay3]; rfl
    · intro x e; unfold below1; dsimp only; pointwise [k0_pay4]; rfl
    · intro x; unfold below1; dsimp only; pointwise [k0_pay6]
    · intro a e; pointwise [k0_pay7, k0_pay3]; rfl

theorem sums_loop3 (h0 : (col i).val ≠ 0) (z : Fin 4224 → Fin 128 → ℝ) (s : St Ideal) (hs : Sums H (col i).val 1 z s) :
    ∀ n, n ≤ (k0_t3_loop i).trips → Sums H (col i).val (n + 1) z (loop3 i I s n)
  | 0, _ => hs
  | n + 1, hn => by
    have ih := sums_loop3 h0 z s hs n (by omega)
    have hk : n < 10 - (col i).val := lt_of_lt_of_eq (Nat.lt_of_succ_le hn) (trips3 i)
    have e : loop3 i I s (n + 1) = below3 i I ⟨n, hn⟩ (loop3 i I s n) := dif_pos (Nat.lt_of_succ_le hn)
    rw [e]
    refine Sums.step R ih (b := (col i).val + 1 + n) (by omega) (by omega) _ _ (p3_at R h0 n (by omega)) (ds3_at R h0 n (by omega)) ?_ ?_ ?_ _ rfl ?_
    · intro x e; unfold below3; dsimp only; pointwise [k0_pay15, k0_pay34]; rfl
    · intro x e; unfold below3; dsimp only; pointwise [k0_pay35]; rfl
    · intro x; unfold below3; dsimp only; pointwise [k0_pay16]
    · intro a e; pointwise [k0_pay17, k0_pay34]; rfl

/-- The whole point. -/
theorem sums_point (z : Fin 4224 → Fin 128 → ℝ) (y : Vec Ideal S4224x128 .f32)
    (hy : ∀ r e, (if (col i).val = 0 then 0 else y (ix2 r e)) = (z r e : EReal)) :
    Sums H (col i).val (11 - (col i).val) z (point i I y) := by
  have hb := (col i).isLt
  unfold point
  by_cases h0 : (col i).val = 0
  · rw [if_pos h0]
    have h := sums_loop1 R z _ (sums_diag R z (k0_pay40 (F := Ideal)) (fun r e => by rw [← hy, if_pos h0]; pointwise [k0_pay40])) _ le_rfl
    have e : (k0_t1_loop i).trips + 1 = 11 - (col i).val := by rw [trips1]; omega
    rw [e] at h
    exact h
  · rw [if_neg h0]
    have h := sums_loop3 R h0 z _ (sums_diag R z y (fun r e => by rw [← hy, if_neg h0])) _ le_rfl
    have e : (k0_t3_loop i).trips + 1 = 11 - (col i).val := by rw [trips3]; omega
    rw [e] at h
    exact h

end

/-- A sum over all rows, block by block. -/
theorem sum_rows (f : Fin 4224 → ℝ) : ∑ r, f r = ∑ b ∈ Finset.range 11, ∑ a, f (row b a) := by
  rw [← Fin.sum_univ_eq_sum_range (fun b => ∑ a, f (row b a)) 11, ← Fintype.sum_prod_type']
  refine (Fintype.sum_equiv (finProdFinEquiv.trans (finCongr (by norm_num))) _ _ fun x => ?_).symm
  refine congrArg f (Fin.ext ?_)
  have h1 := x.1.isLt
  rw [row_val _ _ h1]
  show 384 * x.1.val + x.2.val = x.2.val + 384 * x.1.val
  omega

theorem sum_rows_from (f : Fin 4224 → ℝ) (j : ℕ) (hj : j < 11) (h : ∀ r : Fin 4224, r.val < 384 * j → f r = 0) :
    ∑ b ∈ Finset.range (11 - j), ∑ a, f (row (j + b) a) = ∑ r, f r := by
  rw [sum_rows, ← Finset.sum_range_add_sum_Ico _ (show j ≤ 11 by omega), Finset.sum_Ico_eq_sum_range]
  refine (zero_add _).symm.trans (congrArg (· + _) (Finset.sum_eq_zero ?_).symm)
  intro b hb
  have hb := Finset.mem_range.1 hb
  refine Finset.sum_eq_zero fun a _ => h _ ?_
  rw [row_val _ _ (by omega)]
  have := a.isLt
  omega

theorem row_div (r : Fin 4224) : row (r.val / 384) ⟨r.val % 384, Nat.mod_lt _ (by omega)⟩ = r := by
  have h := r.isLt
  refine Fin.ext ?_
  rw [row_val _ _ (by omega)]
  show 384 * (r.val / 384) + r.val % 384 = r.val
  omega

section
variable {H : Head} {i : grid0.Coords} {I : Ins Ideal} (R : Reads H i I) (y : Vec Ideal S4224x128 .f32)
  (hy : ∀ r e, (if (col i).val = 0 then 0 else y (ix2 r e)) = (H.dqPre (col i).val r e : EReal))
include R hy

theorem point_dk (x : Fin 384) (e : Fin 128) :
    k0_pay21 (point i I y).1.1 I.pk (ix2 x e) = (((∑ r, H.ds r (row (col i).val x) * H.q r e) * scl : ℝ) : EReal) + I.pk (ix2 x e) := by
  have hb := (col i).isLt
  pointwise [k0_pay21]
  rw [(sums_point R _ y hy).dk, scl_word, EReal.coe_mul,
    sum_rows_from (fun r => H.ds r (row (col i).val x) * H.q r e) _ hb (fun r h => by rw [H.ds_zero _ _ (by rw [row_val _ _ hb]; omega), zero_mul])]

theorem point_dv (x : Fin 384) (e : Fin 128) :
    k0_pay22 (point i I y).1.2.1 I.pv (ix2 x e) = ((∑ r, H.p r (row (col i).val x) * H.d r e : ℝ) : EReal) + I.pv (ix2 x e) := by
  have hb := (col i).isLt
  pointwise [k0_pay22]
  rw [(sums_point R _ y hy).dv,
    sum_rows_from (fun r => H.p r (row (col i).val x) * H.d r e) _ hb (fun r h => by rw [H.p_zero _ _ (by rw [row_val _ _ hb]; omega), zero_mul])]

theorem point_dc (x : Fin 384) :
    k0_pay23 (point i I y).1.2.2 I.pc (ix4 0 0 0 x) = ((0 - ∑ r, H.ds r (row (col i).val x) : ℝ) : EReal) + I.pc (ix4 0 0 0 x) := by
  have hb := (col i).isLt
  pointwise [k0_pay23]
  rw [(sums_point R _ y hy).dc,
    sum_rows_from (fun r => H.ds r (row (col i).val x)) _ hb (fun r h => H.ds_zero _ _ (by rw [row_val _ _ hb]; omega))]

theorem point_dq (r : Fin 4224) (e : Fin 128) :
    (point i I y).2 (ix2 r e) = (H.dqPre ((col i).val + 1) r e : EReal) := by
  have hb := (col i).isLt
  have hr := r.isLt
  have h := (sums_point R _ y hy).dq (r.val / 384) (by omega) ⟨r.val % 384, Nat.mod_lt _ (by omega)⟩ e
  rw [row_div] at h
  rw [h]
  unfold Head.dqPre
  rw [Finset.sum_range_succ]
  split
  · rfl
  · rename_i hn
    have e0 : H.dqC (col i).val r e = 0 := by
      unfold Head.dqC
      rw [Finset.sum_eq_zero, zero_mul]
      intro x _
      rw [H.ds_zero _ _ (by rw [row_val _ _ hb]; omega), zero_mul]
    rw [e0]

end

theorem dqPre_all (H : Head) (r : Fin 4224) (e : Fin 128) : H.dqPre 11 r e = (∑ j, H.ds r j * H.k j e) * scl := by
  unfold Head.dqPre Head.dqC
  rw [← Finset.sum_mul, sum_rows]

end AttnTwo
end
-- ==== Proof.Two.AttnValue.lean ====
/- The attention gradient: the kernel's four results, entry by entry, for arguments that are real numbers. -/
module

public import proofs.«01_k».proof.Proof.Two.AttnReads
public import proofs.«01_k».proof.Proof.Two.Sweep

@[expose] public section
set_option maxRecDepth 1000000
noncomputable section
namespace AttnTwo.Host
open Cert.AttnTwoKernelIdeal Cert.AttnTwoKernelIdeal.Gen Idealize.ShloMosaic Idealize.ShloMosaic.TcCoe Idealize.SL.Sem

variable (m : (ℓ : Loc nD τ sig) → Buf (Elt Ideal) ℓ) (d : Dev nD) {D : Data}
variable (A : Real' D (aq m d) (ak m d) (av m d) (ag m d) (ac m d))

/-- An array whose entry `e` of head `h` in row `r` is `f h r e`. -/
def laid (f : Fin 16 → Fin 4224 → Fin 128 → ℝ) : FVec Ideal S4224x2048 .f32 := fun i =>
  (f ⟨(i 1).val / 128, Nat.div_lt_of_lt_mul (i 1).isLt⟩ (i 0) ⟨(i 1).val % 128, Nat.mod_lt _ (by omega)⟩ : EReal)

theorem laid_at (f : Fin 16 → Fin 4224 → Fin 128 → ℝ) (h : Fin 16) (r : Fin 4224) (e : Fin 128) :
    laid f (ix2 r (hc h e)) = (f h r e : EReal) :=
  congrArg₂ (fun a b => ((f a r b : ℝ) : EReal)) (hc_div h e _) (hc_mod h e _)

/-- An array whose entry of head `h` at `r` is `f h r`, in blocks. -/
def blocks (f : Fin 16 → Fin 4224 → ℝ) : FVec Ideal S16x11x1x384 .f32 := fun i => (f (i 0) (row (i 1).val (i 3)) : EReal)

include A

theorem hy_of (t : Fin cfg0.N)
    (ih : ¬ t.val % 11 = 0 → ∀ r e, dqBefore m d t.val (ix2 r e) = ((D.head (hd t)).dqPre (t.val % 11) r e : EReal)) (r : Fin 4224) (e : Fin 128) :
    (if (col (grid0.coords t)).val = 0 then 0 else dqBefore m d t.val (ix2 r e)) = ((D.head (hd t)).dqPre (col (grid0.coords t)).val r e : EReal) := by
  rw [col_coords]
  by_cases h : t.val % 11 = 0
  · rw [if_pos h, h]; rfl
  · rw [if_neg h]; exact ih h r e

theorem dq_step (t : Fin cfg0.N)
    (ih : ¬ t.val % 11 = 0 → ∀ r e, dqBefore m d t.val (ix2 r e) = ((D.head (hd t)).dqPre (t.val % 11) r e : EReal)) (r : Fin 4224) (e : Fin 128) :
    (left m d t).2 (ix2 r e) = ((D.head (hd t)).dqPre (t.val % 11 + 1) r e : EReal) := by
  have h := point_dq (reads m d t A) (dqBefore m d t.val) (hy_of m d A t ih) r e
  rw [col_coords] at h
  exact h

theorem dq_before : ∀ n (hn : n < cfg0.N), ¬ n % 11 = 0 → ∀ r e,
    dqBefore m d n (ix2 r e) = ((D.head (hd ⟨n, hn⟩)).dqPre (n % 11) r e : EReal) := by
  intro n
  induction n with
  | zero => intro _ h; exact absurd rfl h
  | succ n ih =>
    intro hn h r e
    have hn' : n < cfg0.N := Nat.lt_of_succ_lt hn
    have e1 : (n + 1) % 11 = n % 11 + 1 := by omega
    have e2 : hd ⟨n + 1, hn⟩ = hd ⟨n, hn'⟩ := Fin.ext (show (n + 1) / 11 = n / 11 by omega)
    rw [e1, e2]
    exact (congrFun (dqAt_eq m d ⟨n, hn'⟩) _).trans (dq_step m d A ⟨n, hn'⟩ (ih hn') r e)

theorem hy (t : Fin cfg0.N) (r : Fin 4224) (e : Fin 128) :
    (if (col (grid0.coords t)).val = 0 then 0 else dqBefore m d t.val (ix2 r e)) = ((D.head (hd t)).dqPre (col (grid0.coords t)).val r e : EReal) :=
  hy_of m d A t (dq_before m d A t.val t.isLt) r e

theorem dq_left (t : Fin cfg0.N) (ht : t.val % 11 = 10) (r : Fin 4224) (e : Fin 128) :
    (left m d t).2 (ix2 r e) = (((∑ j, (D.head (hd t)).ds r j * (D.head (hd t)).k j e) * scl : ℝ) : EReal) := by
  rw [← dqPre_all]
  have h := dq_step m d A t (dq_before m d A t.val t.isLt) r e
  rwa [ht] at h

theorem dk_left (t : Fin cfg0.N) (x : Fin 384) (e : Fin 128) : k0_pay21 (left m d t).1.1 (iblk m d 8 t) (ix2 x e)
    = (((∑ r, (D.head (hd t)).ds r (row (t.val % 11) x) * (D.head (hd t)).q r e) * scl : ℝ) : EReal) + bk m d (ix2 (row (t.val % 11) x) (hc (hd t) e)) := by
  have h := point_dk (reads m d t A) (dqBefore m d t.val) (hy m d A t) x e
  rw [col_coords] at h
  exact h.trans (congrArg (_ + ·) (blk8 m d t x e))

theorem dv_left (t : Fin cfg0.N) (x : Fin 384) (e : Fin 128) : k0_pay22 (left m d t).1.2.1 (iblk m d 9 t) (ix2 x e)
    = ((∑ r, (D.head (hd t)).p r (row (t.val % 11) x) * (D.head (hd t)).d r e : ℝ) : EReal) + bv m d (ix2 (row (t.val % 11) x) (hc (hd t) e)) := by
  have h := point_dv (reads m d t A) (dqBefore m d t.val) (hy m d A t) x e
  rw [col_coords] at h
  exact h.trans (congrArg (_ + ·) (blk9 m d t x e))

theorem dc_left (t : Fin cfg0.N) (x : Fin 384) : k0_pay23 (left m d t).1.2.2 (iblk m d 10 t) (ix4 0 0 0 x)
    = ((0 - ∑ r, (D.head (hd t)).ds r (row (t.val % 11) x) : ℝ) : EReal) + bc m d (ix4 (hd t) ⟨t.val % 11, Nat.mod_lt _ (by omega)⟩ 0 x) := by
  have h := point_dc (reads m d t A) (dqBefore m d t.val) (hy m d A t) x
  rw [col_coords] at h
  exact h.trans (congrArg (_ + ·) (blk10 m d t x))

omit A

theorem idx11 : ∀ t : Fin cfg0.N, win0_11.index t = ![0, t.val / 11] := (by decide +kernel : ∀ t : Fin grid0.N, _)
theorem idx12 : ∀ t : Fin cfg0.N, win0_12.index t = ![t.val % 11, t.val / 11] := (by decide +kernel : ∀ t : Fin grid0.N, _)
theorem idx13 : ∀ t : Fin cfg0.N, win0_13.index t = ![t.val % 11, t.val / 11] := (by decide +kernel : ∀ t : Fin grid0.N, _)
theorem idx14 : ∀ t : Fin cfg0.N, win0_14.index t = ![t.val / 11, t.val % 11, 0, 0] := (by decide +kernel : ∀ t : Fin grid0.N, _)

theorem emb11 (t : Fin cfg0.N) (r : Fin 4224) (e : Fin 128) :
    ((View.whole main_v53_0).slice (win0_11.rect t)).emb (ix2 r e) = ix2 r (hc (hd t) e) := by
  refine funext fun k => Fin.ext ?_
  fin_cases k <;> blk_simp [idx11, hc, hd] <;> (try rfl) <;> simp <;> omega

theorem emb12 (t : Fin cfg0.N) (x : Fin 384) (e : Fin 128) :
    ((View.whole main_v53_1).slice (win0_12.rect t)).emb (ix2 x e) = ix2 (row (t.val % 11) x) (hc (hd t) e) := by
  refine funext fun k => Fin.ext ?_
  fin_cases k <;> blk_simp [idx12, hc, hd, row] <;> (try rfl) <;> simp <;> omega

theorem emb13 (t : Fin cfg0.N) (x : Fin 384) (e : Fin 128) :
    ((View.whole main_v53_2).slice (win0_13.rect t)).emb (ix2 x e) = ix2 (row (t.val % 11) x) (hc (hd t) e) := by
  refine funext fun k => Fin.ext ?_
  fin_cases k <;> blk_simp [idx13, hc, hd, row] <;> (try rfl) <;> simp <;> omega

theorem emb14 (t : Fin cfg0.N) (x : Fin 384) :
    ((View.whole main_v53_3).slice (win0_14.rect t)).emb (ix4 0 0 0 x) = ix4 (hd t) ⟨t.val % 11, Nat.mod_lt _ (by omega)⟩ 0 x := by
  refine funext fun k => Fin.ext ?_
  fin_cases k <;> blk_simp [idx14, hd] <;> (try rfl) <;> simp

include A

/-- The gradient of the queries, as the kernel leaves it. -/
theorem final11 : (dats m 0 d).arrAt 11 cfg0.N = laid (fun h r e => (∑ j, (D.head h).ds r j * (D.head h).k j e) * scl) := by
  refine (dats m 0 d).arrAt_eq_of_covers 11 _ (by decide +kernel) fun t hf y => ?_
  blk_simp
  rw [after0_11]
  obtain ⟨r, e, rfl⟩ : ∃ (r : Fin 4224) (e : Fin 128), y = ix2 r e := ⟨y 0, y 1, eq_ix2 y⟩
  rw [emb11, laid_at]
  exact dq_left m d A t ((flush0_11 t).mp hf) r e

/-- The gradient of the keys, as the kernel leaves it. -/
theorem final12 : (dats m 0 d).arrAt 12 cfg0.N = addf (laid (fun h j e => (∑ r, (D.head h).ds r j * (D.head h).q r e) * scl)) (bk m d) := by
  refine (dats m 0 d).arrAt_eq_of_covers 12 _ (by decide +kernel) fun t hf y => ?_
  blk_simp
  rw [after0_12]
  obtain ⟨r, e, rfl⟩ : ∃ (r : Fin 384) (e : Fin 128), y = ix2 r e := ⟨y 0, y 1, eq_ix2 y⟩
  rw [emb12]
  show _ = laid _ (ix2 _ _) + bk m d (ix2 _ _)
  rw [laid_at]
  exact dk_left m d A t r e

/-- The gradient of the values, as the kernel leaves it. -/
theorem final13 : (dats m 0 d).arrAt 13 cfg0.N = addf (laid (fun h j e => ∑ r, (D.head h).p r j * (D.head h).d r e)) (bv m d) := by
  refine (dats m 0 d).arrAt_eq_of_covers 13 _ (by decide +kernel) fun t hf y => ?_
  blk_simp
  rw [after0_13]
  obtain ⟨r, e, rfl⟩ : ∃ (r : Fin 384) (e : Fin 128), y = ix2 r e := ⟨y 0, y 1, eq_ix2 y⟩
  rw [emb13]
  show _ = laid _ (ix2 _ _) + bv m d (ix2 _ _)
  rw [laid_at]
  exact dv_left m d A t r e

/-- The gradient of the bias, as the kernel leaves it. -/
theorem final14 : (dats m 0 d).arrAt 14 cfg0.N = addf (blocks (fun h j => 0 - ∑ r, (D.head h).ds r j)) (bc m d) := by
  refine (dats m 0 d).arrAt_eq_of_covers 14 _ (by decide +kernel) fun t hf y => ?_
  blk_simp
  rw [after0_14]
  obtain ⟨a, b, c, x, rfl⟩ : ∃ (a : Fin 1) (b : Fin 1) (c : Fin 1) (x : Fin 384), y = ix4 a b c x := ⟨y 0, y 1, y 2, y 3, eq_ix4 y⟩
  obtain rfl : a = 0 := Subsingleton.elim _ _
  obtain rfl : b = 0 := Subsingleton.elim _ _
  obtain rfl : c = 0 := Subsingleton.elim _ _
  rw [emb14]
  exact dc_left m d A t x

end AttnTwo.Host
end
-- ==== Proof.Two.Attn.lean ====
/- The attention gradient: the kernel's results are the reference's. -/
module

public import proofs.«01_k».proof.Defs
public import proofs.«01_k».proof.Proof.Two.AttnFinite
public import proofs.«01_k».proof.Proof.Two.AttnValue
public import proofs.«01_k».proof.Proof.Two.Run
public import proofs.«01_k».proof.Proof.Gen.AttnTwoReferenceIdeal.Run

@[expose] public section

set_option maxRecDepth 100000

noncomputable section

namespace Cert.Proof.AttnTwo

open Idealize.ShloMosaic Idealize.ShloMosaic.TcCoe Idealize.SL.Sem
open _root_.AttnTwo
open _root_.AttnTwo.Host (laid laid_at blocks)

theorem col_eq (x : Fin 2048) : ∃ (h : Fin 16) (e : Fin 128), x = hc h e :=
  ⟨⟨x.val / 128, by have := x.isLt; omega⟩, ⟨x.val % 128, by omega⟩, Fin.ext (by show x.val = 128 * (x.val / 128) + x.val % 128; omega)⟩

/-- Two arrays of head columns are equal when they agree at every head, row and column of the head. -/
theorem eq_laid (f : Fin 16 → Fin 4224 → Fin 128 → ℝ) (a : FVec Ideal Cert.AttnTwoReferenceIdeal.S4224x2048 .f32)
    (H : ∀ h r e, a (ix2 r (hc h e)) = (f h r e : EReal)) : a = laid f := by
  funext i
  obtain ⟨r, x, rfl⟩ : ∃ (r : Fin 4224) (x : Fin 2048), i = ix2 r x := ⟨i 0, i 1, eq_ix2 i⟩
  obtain ⟨h, e, rfl⟩ := col_eq x
  exact (H h r e).trans (laid_at f h r e).symm

theorem eq_blocks (f : Fin 16 → Fin 4224 → ℝ) (a : FVec Ideal Cert.AttnTwoReferenceIdeal.S16x11x1x384 .f32)
    (H : ∀ h x y, a (ix4 h x 0 y) = (f h (row x.val y) : EReal)) : a = blocks f := by
  funext i
  obtain ⟨h, x, z, y, rfl⟩ : ∃ (h : Fin 16) (x : Fin 11) (z : Fin 1) (y : Fin 384), i = ix4 h x z y := ⟨i 0, i 1, i 2, i 3, eq_ix4 i⟩
  obtain rfl : z = 0 := Subsingleton.elim _ _
  exact H h x y

theorem addf_swap {s : Shape} (a b : FVec Ideal s .f32) : addf a b = addf b a := funext fun i => add_comm (a i : EReal) (b i : EReal)

section reference
open Cert.AttnTwoReferenceIdeal
variable (m' : (ℓ : Loc nD τ sig) → Buf (Elt Ideal) ℓ) (c : Dev nD) {D : Data} {q k v g : FVec Ideal S4224x2048 .bf16} {b : FVec Ideal S16x4224 .f32}
variable (A : Real' D q k v g b) (hq : Ref.aq m' c = q) (hk : Ref.ak m' c = k) (hv : Ref.av m' c = v) (hb : Ref.ac m' c = b) (hg : Ref.ag m' c = g)
variable {bk bv : FVec Ideal S4224x2048 .f32} {bc : FVec Ideal S16x11x1x384 .f32}
include A hq hk hv hb hg

theorem ref0 : Value.res_main_v98 m' c = laid (fun h r e => (∑ j, (D.head h).ds r j * (D.head h).k j e) * scl) := by
  rw [Ref.res0, hq, hk, hv, hb, hg]
  exact eq_laid _ _ fun h r e => Ref.dq_at A h r e

theorem ref1 (hbk : Ref.bk m' c = bk) : Value.res_main_v102 m' c = addf (laid (fun h j e => (∑ r, (D.head h).ds r j * (D.head h).q r e) * scl)) bk := by
  rw [Ref.res1, hq, hk, hv, hb, hg, hbk]
  exact (addf_swap _ _).trans <| congrArg (addf · bk) (eq_laid _ _ fun h j e => Ref.dk_at A h j e)

theorem ref2 (hbv : Ref.bv m' c = bv) : Value.res_main_v103 m' c = addf (laid (fun h j e => ∑ r, (D.head h).p r j * (D.head h).d r e)) bv := by
  rw [Ref.res2, hq, hk, hb, hg, hbv]
  exact (addf_swap _ _).trans <| congrArg (addf · bv) (eq_laid _ _ fun h j e => Ref.dv_at A h j e)

theorem ref3 (hbc : Ref.bc m' c = bc) : Value.res_main_v104 m' c = addf (blocks (fun h j => 0 - ∑ r, (D.head h).ds r j)) bc := by
  rw [Ref.res3, hq, hk, hv, hb, hg, hbc]
  exact (addf_swap _ _).trans <| congrArg (addf · bc) (eq_blocks _ _ fun h x y => Ref.dc_at A h x y)

end reference

set_option maxHeartbeats 4000000 in
open Cert.AttnTwoKernelIdeal Cert.AttnTwoKernelIdeal.Gen in
/-- The kernel's run: its four results and its unchanged arguments. -/
theorem run_kernel (m : (ℓ : Loc nD τ sig) → Buf (Elt Ideal) ℓ) (ρ : Dev nD → PrngReg) (D : Dev nD → Data)
    (A : ∀ d, Real' (D d) (Host.aq m d) (Host.ak m d) (Host.av m d) (Host.ag m d) (Host.ac m d)) :
    θ_run (defs (F := Ideal)) (onTc (τ := τ) (main (F := Ideal))) ⟨m, fun _ => 0, ρ⟩ (fun r => ∀ c : Dev nD,
      r.2.mem ((c.tc : Thread nD τ).loc main_v53_0) = laid (fun h r e => (∑ j, ((D c).head h).ds r j * ((D c).head h).k j e) * scl)
      ∧ r.2.mem ((c.tc : Thread nD τ).loc main_v53_1) = addf (laid (fun h j e => (∑ r, ((D c).head h).ds r j * ((D c).head h).q r e) * scl)) (Host.bk m c)
      ∧ r.2.mem ((c.tc : Thread nD τ).loc main_v53_2) = addf (laid (fun h j e => ∑ r, ((D c).head h).p r j * ((D c).head h).d r e)) (Host.bv m c)
      ∧ r.2.mem ((c.tc : Thread nD τ).loc main_v53_3) = addf (blocks (fun h j => 0 - ∑ r, ((D c).head h).ds r j)) (Host.bc m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 11).trans (Host.final11 m c (A c)), ((h c).1 12).trans (Host.final12 m c (A c)),
      ((h c).1 13).trans (Host.final13 m c (A c)), ((h c).1 14).trans (Host.final14 m c (A c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).1 8).trans (((dats m 0 c).arrAt_in 8 rfl _).trans ((A_eq m c 8).trans (V_main_arg5 m c))),
      ((h c).1 9).trans (((dats m 0 c).arrAt_in 9 rfl _).trans ((A_eq m c 9).trans (V_main_arg6 m c))),
      ((h c).1 10).trans (((dats m 0 c).arrAt_in 10 rfl _).trans ((A_eq m c 10).trans (V_main_arg7 m c)))⟩) (run_main m ρ)

theorem value : Cert.algebraic_AttnTwoKernelIdeal_AttnTwoReferenceIdeal_pre_finite_two (hAttnTwoKernelIdeal := Cert.AttnTwoKernelIdeal.Gen.facts)
    (hAttnTwoReferenceIdeal := Cert.AttnTwoReferenceIdeal.Gen.facts) (hPre_finite_two := Finite.facts) := by
  intro m g m' g' hpre hagree
  have A := fun c => @Finite.real Finite.facts _ _ _ _ _ _ _ _ (hpre c)
  refine ⟨_, _, _, _, run_kernel m g _ A, (θ_run Cert.AttnTwoReferenceIdeal.defs _ _).mono (fun r h c => ?_) (Cert.AttnTwoReferenceIdeal.Value.run m' g')⟩
  obtain ⟨a0, a1, a2, a3, a4, a5, a6, a7⟩ := hagree c
  exact ⟨(h c).1.trans (ref0 m' c (A c) a0 a1 a2 a3 a4), (h c).2.1.trans (ref1 m' c (A c) a0 a1 a2 a3 a4 a5),
    (h c).2.2.1.trans (ref2 m' c (A c) a0 a1 a2 a3 a4 a6), (h c).2.2.2.1.trans (ref3 m' c (A c) a0 a1 a2 a3 a4 a7), (h c).2.2.2.2⟩

end Cert.Proof.AttnTwo

end
-- ==== Proof.Two.AttnFrames.lean ====
/- The frames of the attention gradient: of the kernel, of its idealization and of the reference. -/
module

public import proofs.«01_k».proof.Defs
public import proofs.«01_k».proof.Proof.Two.Run

@[expose] public section

noncomputable section

namespace Cert.Proof.AttnTwo

open Idealize.ShloMosaic Idealize.ShloMosaic.TcCoe Idealize.SL.Sem

set_option maxHeartbeats 4000000
set_option maxRecDepth 100000

/-- The kernel and its idealization have the same body table at the machine's floats. -/
theorem table : Cert.AttnTwoKernel.defs₀ (F := Bits) = Cert.AttnTwoKernelIdeal.defs₀ (F := Bits) := by
  unfold Cert.AttnTwoKernel.defs₀ Cert.AttnTwoKernelIdeal.defs₀
  refine congrArg Defs.onTc (funext fun l => funext fun a => ?_)
  match l, a with
  | 0, (t, s) =>
    change Cert.AttnTwoKernel.cc0_attn_bwd_0 .. = Cert.AttnTwoKernelIdeal.cc0_attn_bwd_0 ..
    exact rfl

/-- They have the same host program. -/
theorem host : Cert.AttnTwoKernel.main (F := Bits) = Cert.AttnTwoKernelIdeal.main (F := Bits) := rfl

theorem frame_kernel : Cert.quiescent_AttnTwoKernel (hAttnTwoKernel := Cert.AttnTwoKernel.Gen.facts) := by
  intro m ρ _
  have h := _root_.AttnTwo.frame (F := Bits) m ρ
  unfold Cert.AttnTwoKernelIdeal.defs at h
  unfold Cert.AttnTwoKernel.defs
  rw [← table] at h
  rw [host]
  exact h

theorem frame_ideal : Cert.quiescent_AttnTwoKernelIdeal (hAttnTwoKernelIdeal := Cert.AttnTwoKernelIdeal.Gen.facts) :=
  fun m ρ _ => _root_.AttnTwo.frame (F := Ideal) m ρ

theorem frame_ideal_pre [Cert.Pre_finite_two.Facts] : Cert.quiescent_AttnTwoKernelIdeal_pre_finite_two (hAttnTwoKernelIdeal := Cert.AttnTwoKernelIdeal.Gen.facts) :=
  fun m ρ _ => _root_.AttnTwo.frame (F := Ideal) m ρ

theorem frame_reference : Cert.quiescent_AttnTwoReferenceIdeal (hAttnTwoReferenceIdeal := Cert.AttnTwoReferenceIdeal.Gen.facts) :=
  fun m ρ _ => (θ_run Cert.AttnTwoReferenceIdeal.defs _ _).mono
    (fun r h => ⟨fun c => (h c).2.2.2.2, sem_eq_zero_of_no_sems (by decide) r.2⟩) (Cert.AttnTwoReferenceIdeal.Value.run m ρ)

theorem frame_reference_pre [Cert.Pre_finite_two.Facts] : Cert.quiescent_AttnTwoReferenceIdeal_pre_finite_two (hAttnTwoReferenceIdeal := Cert.AttnTwoReferenceIdeal.Gen.facts) :=
  fun m ρ _ => (θ_run Cert.AttnTwoReferenceIdeal.defs _ _).mono
    (fun r h => ⟨fun c => (h c).2.2.2.2, sem_eq_zero_of_no_sems (by decide) r.2⟩) (Cert.AttnTwoReferenceIdeal.Value.run m ρ)

end Cert.Proof.AttnTwo

end
-- ==== Proof.DownDep.lean ====
/- The gradient of the feed-forward's second product in its first factor, ordered by a token. Frames, and the kernel's result. -/
module

public import proofs.«01_k».proof.Defs
public import proofs.«01_k».proof.Proof.Gen.DownDepKernel.Frame
public import proofs.«01_k».proof.Proof.Gen.DownDepKernelIdeal.Value
public import proofs.«01_k».proof.Proof.Gen.DownDepReferenceIdeal.Run
public import proofs.«01_k».proof.Proof.Tiles

@[expose] public section

set_option maxRecDepth 1000000

noncomputable section

namespace Cert.Proof.DownDep

open Idealize.ShloMosaic Idealize.ShloMosaic.TcCoe Idealize.SL.Sem

/-- The entries of the two factors. -/
abbrev A (x : FVec Ideal Cert.DownDepKernelIdeal.S4224x2048 .bf16) (r : Fin 4224) (k : Fin 2048) : EReal := x (ix2 r k)
abbrev B (y : FVec Ideal Cert.DownDepKernelIdeal.S5632x2048 .bf16) (k : Fin 2048) (q : Fin 5632) : EReal := y (ix2 q k)

/-- The product. -/
def result (y : FVec Ideal Cert.DownDepKernelIdeal.S5632x2048 .bf16) (x : FVec Ideal Cert.DownDepKernelIdeal.S4224x2048 .bf16) : FVec Ideal Cert.DownDepKernelIdeal.S4224x5632 .bf16 :=
  fun i => ∑ k : Fin 2048, A x (i 0) k * B y k (i 1)

section kernel
open Cert.DownDepKernelIdeal Cert.DownDepKernelIdeal.Gen
variable (m : (ℓ : Loc nD τ sig) → Buf (Elt Ideal) ℓ) (c : Dev nD)

theorem idx0 : ∀ t : Fin cfg0.N, win0_0.index t = ![t.val / 4, 0] := (by decide +kernel : ∀ t : Fin grid0.N, _)
theorem idx1 : ∀ t : Fin cfg0.N, win0_1.index t = ![t.val % 4, 0] := (by decide +kernel : ∀ t : Fin grid0.N, _)
theorem idxo : ∀ t : Fin cfg0.N, win0_3.index t = ![t.val / 4, t.val % 4] := (by decide +kernel : ∀ t : Fin grid0.N, _)

/-- The row, the column and the inner place of the blocks of point `t`. -/
def rowOf (n : ℕ) (a : Fin 1056) : Fin 4224 := Tiles.at' 4224 1056 (by omega) (n / 4) a
def colOf (n : ℕ) (b : Fin 1408) : Fin 5632 := Tiles.at' 5632 1408 (by omega) (n % 4) b
def inOf (j : ℕ) (x : Fin 2048) : Fin 2048 := Tiles.at' 2048 2048 (by omega) j x

theorem row_val (t : Fin cfg0.N) (a : Fin 1056) : (rowOf t.val a).val = t.val / 4 * 1056 + a.val := by
  have : t.val < 16 := t.isLt
  rw [rowOf, Tiles.at_val (w := 1056) (by omega) 4 rfl _ (by omega)]
theorem col_val (t : Fin cfg0.N) (b : Fin 1408) : (colOf t.val b).val = t.val % 4 * 1408 + b.val := by
  rw [colOf, Tiles.at_val (w := 1408) (by omega) 4 rfl _ (by omega)]
theorem in_val (t : Fin cfg0.N) (x : Fin 2048) : (inOf (0) x).val = x.val := by
  rw [inOf, Tiles.at_val (w := 2048) (by omega) 1 rfl _ (by omega)]; omega

theorem blk0 (t : Fin cfg0.N) (a : Fin 1056) (k : Fin 2048) :
    iblk m c 0 t (ix2 a k) = A (m ((c.tc : Thread nD τ).loc main_arg1)) (rowOf t.val a) (inOf (0) k) := by
  have h1 := row_val t a
  have h2 := in_val t k
  blk_simp [iblk]
  rw [V_main_arg1]
  refine congrArg _ (funext fun j => Fin.ext ?_)
  fin_cases j <;> blk_simp [idx0]
  · exact h1.symm
  · exact h2.symm

theorem blk1 (t : Fin cfg0.N) (b : Fin 1408) (k : Fin 2048) :
    iblk m c 1 t (ix2 b k) = B (m ((c.tc : Thread nD τ).loc main_arg0)) (inOf (0) k) (colOf t.val b) := by
  have h1 := col_val t b
  have h2 := in_val t k
  blk_simp [iblk]
  rw [V_main_arg0]
  refine congrArg _ (funext fun j => Fin.ext ?_)
  fin_cases j <;> blk_simp [idx1]
  · exact h1.symm
  · exact h2.symm

theorem embo (t : Fin cfg0.N) (a : Fin 1056) (b : Fin 1408) :
    ((View.whole main_v0).slice (win0_3.rect t)).emb (ix2 a b) = ix2 (rowOf t.val a) (colOf t.val b) := by
  have h1 := row_val t a
  have h2 := col_val t b
  refine funext fun j => Fin.ext ?_
  fin_cases j <;> blk_simp [idxo]
  · exact h1.symm
  · exact h2.symm

theorem pay (x0 : Vec Ideal S1056x2048 .bf16) (x1 : Vec Ideal S1408x2048 .bf16) (a : Fin 1056) (b : Fin 1408) :
    k0_pay1 x0 x1 (ix2 a b) = ∑ k : Fin 2048, x0 (ix2 a k) * x1 (ix2 b k) := by
  pointwise [k0_pay1]

theorem in_zero (k : Fin 2048) : inOf 0 k = k := by
  refine Fin.ext ?_
  rw [inOf, Tiles.at_val (w := 2048) (by omega) 1 rfl _ (by omega)]
  omega

theorem dot_blk (t : Fin cfg0.N) (a : Fin 1056) (b : Fin 1408) (x0 : Vec Ideal S1056x2048 .bf16) (x1 : Vec Ideal S1408x2048 .bf16)
    (h0 : x0 = iblk m c 0 t) (h1 : x1 = iblk m c 1 t) : ∑ k : Fin 2048, x0 (ix2 a k) * x1 (ix2 b k)
      = ∑ k : Fin 2048, A (m ((c.tc : Thread nD τ).loc main_arg1)) (rowOf t.val a) k * B (m ((c.tc : Thread nD τ).loc main_arg0)) k (colOf t.val b) := by
  subst h0 h1
  exact Tiles.dot_congr (fun k => (blk0 m c t a k).trans (by rw [in_zero])) (fun k => (blk1 m c t b k).trans (by rw [in_zero]))

theorem final : (dats m 0 c).arrAt 3 cfg0.N = result (m ((c.tc : Thread nD τ).loc main_arg0)) (m ((c.tc : Thread nD τ).loc main_arg1)) := by
  refine (dats m 0 c).arrAt_eq_of_covers 3 _ (by decide +kernel) fun t hf y => ?_
  blk_simp
  rw [after0_3]
  frame_out
  obtain ⟨a, b, rfl⟩ : ∃ (a : Fin 1056) (b : Fin 1408), y = ix2 a b := ⟨y 0, y 1, eq_ix2 y⟩
  rw [embo, pay]
  exact dot_blk m c t a b _ _ rfl rfl

end kernel

theorem frame_kernel : Cert.quiescent_DownDepKernel (hDownDepKernel := Cert.DownDepKernel.Gen.facts) :=
  fun m ρ _ => Cert.DownDepKernel.Gen.frame m ρ

theorem frame_ideal : Cert.quiescent_DownDepKernelIdeal (hDownDepKernelIdeal := Cert.DownDepKernelIdeal.Gen.facts) :=
  fun m ρ _ => Cert.DownDepKernelIdeal.Gen.frame m ρ

theorem frame_reference : Cert.quiescent_DownDepReferenceIdeal (hDownDepReferenceIdeal := Cert.DownDepReferenceIdeal.Gen.facts) :=
  fun m ρ _ => (θ_run Cert.DownDepReferenceIdeal.defs _ _).mono
    (fun r h => ⟨fun c => (h c).2, sem_eq_zero_of_no_sems (by decide) r.2⟩) (Cert.DownDepReferenceIdeal.Value.run m ρ)

theorem value : Cert.algebraic_DownDepKernelIdeal_DownDepReferenceIdeal (hDownDepKernelIdeal := Cert.DownDepKernelIdeal.Gen.facts)
    (hDownDepReferenceIdeal := Cert.DownDepReferenceIdeal.Gen.facts) := by
  intro m g m' g' _ hagree
  refine ⟨_, (θ_run Cert.DownDepKernelIdeal.defs _ _).mono
      (fun r h c => ⟨(h c).1.trans (final m c), (h c).2⟩) (Cert.DownDepKernelIdeal.Value.run_blocks m g),
    (θ_run Cert.DownDepReferenceIdeal.defs _ _).mono (fun r h c => ⟨(h c).1.trans ?_, (h c).2⟩) (Cert.DownDepReferenceIdeal.Value.run m' g')⟩
  rw [(hagree c).1, (hagree c).2.1]
  funext i
  obtain ⟨a, b, rfl⟩ : ∃ (a : Fin 4224) (b : Fin 5632), i = ix2 a b := ⟨i 0, i 1, eq_ix2 i⟩
  pointwise []
  try rfl

end Cert.Proof.DownDep

end
-- ==== Proof.AOutDep.lean ====
/- The gradient of the convolution mixer's last product in its first factor, ordered by a token. Frames, and the kernel's result. -/
module

public import proofs.«01_k».proof.Defs
public import proofs.«01_k».proof.Proof.Gen.AOutDepKernel.Frame
public import proofs.«01_k».proof.Proof.Gen.AOutDepKernelIdeal.Value
public import proofs.«01_k».proof.Proof.Gen.AOutDepReferenceIdeal.Run
public import proofs.«01_k».proof.Proof.Tiles

@[expose] public section

set_option maxRecDepth 1000000

noncomputable section

namespace Cert.Proof.AOutDep

open Idealize.ShloMosaic Idealize.ShloMosaic.TcCoe Idealize.SL.Sem

/-- The entries of the two factors. -/
abbrev A (x : FVec Ideal Cert.AOutDepKernelIdeal.S4224x2048 .bf16) (r : Fin 4224) (k : Fin 2048) : EReal := x (ix2 r k)
abbrev B (y : FVec Ideal Cert.AOutDepKernelIdeal.S2048x2048 .bf16) (k : Fin 2048) (q : Fin 2048) : EReal := y (ix2 q k)

/-- The product. -/
def result (y : FVec Ideal Cert.AOutDepKernelIdeal.S2048x2048 .bf16) (x : FVec Ideal Cert.AOutDepKernelIdeal.S4224x2048 .bf16) : FVec Ideal Cert.AOutDepKernelIdeal.S4224x2048 .f32 :=
  fun i => ∑ k : Fin 2048, A x (i 0) k * B y k (i 1)

section kernel
open Cert.AOutDepKernelIdeal Cert.AOutDepKernelIdeal.Gen
variable (m : (ℓ : Loc nD τ sig) → Buf (Elt Ideal) ℓ) (c : Dev nD)

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idxo : ∀ t : Fin cfg0.N, win0_3.index t = ![t.val / 2, t.val % 2] := (by decide +kernel : ∀ t : Fin grid0.N, _)

/-- The row, the column and the inner place of the blocks of point `t`. -/
def rowOf (n : ℕ) (a : Fin 1056) : Fin 4224 := Tiles.at' 4224 1056 (by omega) (n / 2) a
def colOf (n : ℕ) (b : Fin 1024) : Fin 2048 := Tiles.at' 2048 1024 (by omega) (n % 2) b
def inOf (j : ℕ) (x : Fin 2048) : Fin 2048 := Tiles.at' 2048 2048 (by omega) j x

theorem row_val (t : Fin cfg0.N) (a : Fin 1056) : (rowOf t.val a).val = t.val / 2 * 1056 + a.val := by
  have : t.val < 8 := t.isLt
  rw [rowOf, Tiles.at_val (w := 1056) (by omega) 4 rfl _ (by omega)]
theorem col_val (t : Fin cfg0.N) (b : Fin 1024) : (colOf t.val b).val = t.val % 2 * 1024 + b.val := by
  rw [colOf, Tiles.at_val (w := 1024) (by omega) 2 rfl _ (by omega)]
theorem in_val (t : Fin cfg0.N) (x : Fin 2048) : (inOf (0) x).val = x.val := by
  rw [inOf, Tiles.at_val (w := 2048) (by omega) 1 rfl _ (by omega)]; omega

theorem blk0 (t : Fin cfg0.N) (a : Fin 1056) (k : Fin 2048) :
    iblk m c 0 t (ix2 a k) = A (m ((c.tc : Thread nD τ).loc main_arg1)) (rowOf t.val a) (inOf (0) k) := by
  have h1 := row_val t a
  have h2 := in_val t k
  blk_simp [iblk]
  rw [V_main_arg1]
  refine congrArg _ (funext fun j => Fin.ext ?_)
  fin_cases j <;> blk_simp [idx0]
  · exact h1.symm
  · exact h2.symm

theorem blk1 (t : Fin cfg0.N) (b : Fin 1024) (k : Fin 2048) :
    iblk m c 1 t (ix2 b k) = B (m ((c.tc : Thread nD τ).loc main_arg0)) (inOf (0) k) (colOf t.val b) := by
  have h1 := col_val t b
  have h2 := in_val t k
  blk_simp [iblk]
  rw [V_main_arg0]
  refine congrArg _ (funext fun j => Fin.ext ?_)
  fin_cases j <;> blk_simp [idx1]
  · exact h1.symm
  · exact h2.symm

theorem embo (t : Fin cfg0.N) (a : Fin 1056) (b : Fin 1024) :
    ((View.whole main_v0).slice (win0_3.rect t)).emb (ix2 a b) = ix2 (rowOf t.val a) (colOf t.val b) := by
  have h1 := row_val t a
  have h2 := col_val t b
  refine funext fun j => Fin.ext ?_
  fin_cases j <;> blk_simp [idxo]
  · exact h1.symm
  · exact h2.symm

theorem pay (x0 : Vec Ideal S1056x2048 .bf16) (x1 : Vec Ideal S1024x2048 .bf16) (a : Fin 1056) (b : Fin 1024) :
    k0_pay1 x0 x1 (ix2 a b) = ∑ k : Fin 2048, x0 (ix2 a k) * x1 (ix2 b k) := by
  pointwise [k0_pay1]

theorem in_zero (k : Fin 2048) : inOf 0 k = k := by
  refine Fin.ext ?_
  rw [inOf, Tiles.at_val (w := 2048) (by omega) 1 rfl _ (by omega)]
  omega

theorem dot_blk (t : Fin cfg0.N) (a : Fin 1056) (b : Fin 1024) (x0 : Vec Ideal S1056x2048 .bf16) (x1 : Vec Ideal S1024x2048 .bf16)
    (h0 : x0 = iblk m c 0 t) (h1 : x1 = iblk m c 1 t) : ∑ k : Fin 2048, x0 (ix2 a k) * x1 (ix2 b k)
      = ∑ k : Fin 2048, A (m ((c.tc : Thread nD τ).loc main_arg1)) (rowOf t.val a) k * B (m ((c.tc : Thread nD τ).loc main_arg0)) k (colOf t.val b) := by
  subst h0 h1
  exact Tiles.dot_congr (fun k => (blk0 m c t a k).trans (by rw [in_zero])) (fun k => (blk1 m c t b k).trans (by rw [in_zero]))

theorem final : (dats m 0 c).arrAt 3 cfg0.N = result (m ((c.tc : Thread nD τ).loc main_arg0)) (m ((c.tc : Thread nD τ).loc main_arg1)) := by
  refine (dats m 0 c).arrAt_eq_of_covers 3 _ (by decide +kernel) fun t hf y => ?_
  blk_simp
  rw [after0_3]
  frame_out
  obtain ⟨a, b, rfl⟩ : ∃ (a : Fin 1056) (b : Fin 1024), y = ix2 a b := ⟨y 0, y 1, eq_ix2 y⟩
  rw [embo, pay]
  exact dot_blk m c t a b _ _ rfl rfl

end kernel

theorem frame_kernel : Cert.quiescent_AOutDepKernel (hAOutDepKernel := Cert.AOutDepKernel.Gen.facts) :=
  fun m ρ _ => Cert.AOutDepKernel.Gen.frame m ρ

theorem frame_ideal : Cert.quiescent_AOutDepKernelIdeal (hAOutDepKernelIdeal := Cert.AOutDepKernelIdeal.Gen.facts) :=
  fun m ρ _ => Cert.AOutDepKernelIdeal.Gen.frame m ρ

theorem frame_reference : Cert.quiescent_AOutDepReferenceIdeal (hAOutDepReferenceIdeal := Cert.AOutDepReferenceIdeal.Gen.facts) :=
  fun m ρ _ => (θ_run Cert.AOutDepReferenceIdeal.defs _ _).mono
    (fun r h => ⟨fun c => (h c).2, sem_eq_zero_of_no_sems (by decide) r.2⟩) (Cert.AOutDepReferenceIdeal.Value.run m ρ)

theorem value : Cert.algebraic_AOutDepKernelIdeal_AOutDepReferenceIdeal (hAOutDepKernelIdeal := Cert.AOutDepKernelIdeal.Gen.facts)
    (hAOutDepReferenceIdeal := Cert.AOutDepReferenceIdeal.Gen.facts) := by
  intro m g m' g' _ hagree
  refine ⟨_, (θ_run Cert.AOutDepKernelIdeal.defs _ _).mono
      (fun r h c => ⟨(h c).1.trans (final m c), (h c).2⟩) (Cert.AOutDepKernelIdeal.Value.run_blocks m g),
    (θ_run Cert.AOutDepReferenceIdeal.defs _ _).mono (fun r h c => ⟨(h c).1.trans ?_, (h c).2⟩) (Cert.AOutDepReferenceIdeal.Value.run m' g')⟩
  rw [(hagree c).1, (hagree c).2.1]
  funext i
  obtain ⟨a, b, rfl⟩ : ∃ (a : Fin 4224) (b : Fin 2048), i = ix2 a b := ⟨i 0, i 1, eq_ix2 i⟩
  pointwise []
  try rfl

end Cert.Proof.AOutDep

end
-- ==== Proof.BODep.lean ====
/- The gradient of the attention's last product in its first factor, ordered by a token. Frames, and the kernel's result. -/
module

public import proofs.«01_k».proof.Defs
public import proofs.«01_k».proof.Proof.Gen.BODepKernel.Frame
public import proofs.«01_k».proof.Proof.Gen.BODepKernelIdeal.Value
public import proofs.«01_k».proof.Proof.Gen.BODepReferenceIdeal.Run
public import proofs.«01_k».proof.Proof.Tiles

@[expose] public section

set_option maxRecDepth 1000000

noncomputable section

namespace Cert.Proof.BODep

open Idealize.ShloMosaic Idealize.ShloMosaic.TcCoe Idealize.SL.Sem

/-- The entries of the two factors. -/
abbrev A (x : FVec Ideal Cert.BODepKernelIdeal.S4224x2048 .bf16) (r : Fin 4224) (k : Fin 2048) : EReal := x (ix2 r k)
abbrev B (y : FVec Ideal Cert.BODepKernelIdeal.S2048x2048 .bf16) (k : Fin 2048) (q : Fin 2048) : EReal := y (ix2 q k)

/-- The product. -/
def result (y : FVec Ideal Cert.BODepKernelIdeal.S2048x2048 .bf16) (x : FVec Ideal Cert.BODepKernelIdeal.S4224x2048 .bf16) : FVec Ideal Cert.BODepKernelIdeal.S4224x2048 .bf16 :=
  fun i => ∑ k : Fin 2048, A x (i 0) k * B y k (i 1)

section kernel
open Cert.BODepKernelIdeal Cert.BODepKernelIdeal.Gen
variable (m : (ℓ : Loc nD τ sig) → Buf (Elt Ideal) ℓ) (c : Dev nD)

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idxo : ∀ t : Fin cfg0.N, win0_3.index t = ![t.val / 2, t.val % 2] := (by decide +kernel : ∀ t : Fin grid0.N, _)

/-- The row, the column and the inner place of the blocks of point `t`. -/
def rowOf (n : ℕ) (a : Fin 1056) : Fin 4224 := Tiles.at' 4224 1056 (by omega) (n / 2) a
def colOf (n : ℕ) (b : Fin 1024) : Fin 2048 := Tiles.at' 2048 1024 (by omega) (n % 2) b
def inOf (j : ℕ) (x : Fin 2048) : Fin 2048 := Tiles.at' 2048 2048 (by omega) j x

theorem row_val (t : Fin cfg0.N) (a : Fin 1056) : (rowOf t.val a).val = t.val / 2 * 1056 + a.val := by
  have : t.val < 8 := t.isLt
  rw [rowOf, Tiles.at_val (w := 1056) (by omega) 4 rfl _ (by omega)]
theorem col_val (t : Fin cfg0.N) (b : Fin 1024) : (colOf t.val b).val = t.val % 2 * 1024 + b.val := by
  rw [colOf, Tiles.at_val (w := 1024) (by omega) 2 rfl _ (by omega)]
theorem in_val (t : Fin cfg0.N) (x : Fin 2048) : (inOf (0) x).val = x.val := by
  rw [inOf, Tiles.at_val (w := 2048) (by omega) 1 rfl _ (by omega)]; omega

theorem blk0 (t : Fin cfg0.N) (a : Fin 1056) (k : Fin 2048) :
    iblk m c 0 t (ix2 a k) = A (m ((c.tc : Thread nD τ).loc main_arg1)) (rowOf t.val a) (inOf (0) k) := by
  have h1 := row_val t a
  have h2 := in_val t k
  blk_simp [iblk]
  rw [V_main_arg1]
  refine congrArg _ (funext fun j => Fin.ext ?_)
  fin_cases j <;> blk_simp [idx0]
  · exact h1.symm
  · exact h2.symm

theorem blk1 (t : Fin cfg0.N) (b : Fin 1024) (k : Fin 2048) :
    iblk m c 1 t (ix2 b k) = B (m ((c.tc : Thread nD τ).loc main_arg0)) (inOf (0) k) (colOf t.val b) := by
  have h1 := col_val t b
  have h2 := in_val t k
  blk_simp [iblk]
  rw [V_main_arg0]
  refine congrArg _ (funext fun j => Fin.ext ?_)
  fin_cases j <;> blk_simp [idx1]
  · exact h1.symm
  · exact h2.symm

theorem embo (t : Fin cfg0.N) (a : Fin 1056) (b : Fin 1024) :
    ((View.whole main_v0).slice (win0_3.rect t)).emb (ix2 a b) = ix2 (rowOf t.val a) (colOf t.val b) := by
  have h1 := row_val t a
  have h2 := col_val t b
  refine funext fun j => Fin.ext ?_
  fin_cases j <;> blk_simp [idxo]
  · exact h1.symm
  · exact h2.symm

theorem pay (x0 : Vec Ideal S1056x2048 .bf16) (x1 : Vec Ideal S1024x2048 .bf16) (a : Fin 1056) (b : Fin 1024) :
    k0_pay1 x0 x1 (ix2 a b) = ∑ k : Fin 2048, x0 (ix2 a k) * x1 (ix2 b k) := by
  pointwise [k0_pay1]

theorem in_zero (k : Fin 2048) : inOf 0 k = k := by
  refine Fin.ext ?_
  rw [inOf, Tiles.at_val (w := 2048) (by omega) 1 rfl _ (by omega)]
  omega

theorem dot_blk (t : Fin cfg0.N) (a : Fin 1056) (b : Fin 1024) (x0 : Vec Ideal S1056x2048 .bf16) (x1 : Vec Ideal S1024x2048 .bf16)
    (h0 : x0 = iblk m c 0 t) (h1 : x1 = iblk m c 1 t) : ∑ k : Fin 2048, x0 (ix2 a k) * x1 (ix2 b k)
      = ∑ k : Fin 2048, A (m ((c.tc : Thread nD τ).loc main_arg1)) (rowOf t.val a) k * B (m ((c.tc : Thread nD τ).loc main_arg0)) k (colOf t.val b) := by
  subst h0 h1
  exact Tiles.dot_congr (fun k => (blk0 m c t a k).trans (by rw [in_zero])) (fun k => (blk1 m c t b k).trans (by rw [in_zero]))

theorem final : (dats m 0 c).arrAt 3 cfg0.N = result (m ((c.tc : Thread nD τ).loc main_arg0)) (m ((c.tc : Thread nD τ).loc main_arg1)) := by
  refine (dats m 0 c).arrAt_eq_of_covers 3 _ (by decide +kernel) fun t hf y => ?_
  blk_simp
  rw [after0_3]
  frame_out
  obtain ⟨a, b, rfl⟩ : ∃ (a : Fin 1056) (b : Fin 1024), y = ix2 a b := ⟨y 0, y 1, eq_ix2 y⟩
  rw [embo, pay]
  exact dot_blk m c t a b _ _ rfl rfl

end kernel

theorem frame_kernel : Cert.quiescent_BODepKernel (hBODepKernel := Cert.BODepKernel.Gen.facts) :=
  fun m ρ _ => Cert.BODepKernel.Gen.frame m ρ

theorem frame_ideal : Cert.quiescent_BODepKernelIdeal (hBODepKernelIdeal := Cert.BODepKernelIdeal.Gen.facts) :=
  fun m ρ _ => Cert.BODepKernelIdeal.Gen.frame m ρ

theorem frame_reference : Cert.quiescent_BODepReferenceIdeal (hBODepReferenceIdeal := Cert.BODepReferenceIdeal.Gen.facts) :=
  fun m ρ _ => (θ_run Cert.BODepReferenceIdeal.defs _ _).mono
    (fun r h => ⟨fun c => (h c).2, sem_eq_zero_of_no_sems (by decide) r.2⟩) (Cert.BODepReferenceIdeal.Value.run m ρ)

theorem value : Cert.algebraic_BODepKernelIdeal_BODepReferenceIdeal (hBODepKernelIdeal := Cert.BODepKernelIdeal.Gen.facts)
    (hBODepReferenceIdeal := Cert.BODepReferenceIdeal.Gen.facts) := by
  intro m g m' g' _ hagree
  refine ⟨_, (θ_run Cert.BODepKernelIdeal.defs _ _).mono
      (fun r h c => ⟨(h c).1.trans (final m c), (h c).2⟩) (Cert.BODepKernelIdeal.Value.run_blocks m g),
    (θ_run Cert.BODepReferenceIdeal.defs _ _).mono (fun r h c => ⟨(h c).1.trans ?_, (h c).2⟩) (Cert.BODepReferenceIdeal.Value.run m' g')⟩
  rw [(hagree c).1, (hagree c).2.1]
  funext i
  obtain ⟨a, b, rfl⟩ : ∃ (a : Fin 4224) (b : Fin 2048), i = ix2 a b := ⟨i 0, i 1, eq_ix2 i⟩
  pointwise []
  try rfl

end Cert.Proof.BODep

end
-- ==== Proof.lean ====
/- The certificate's proof. -/
module

public import proofs.«01_k».proof.Defs
public import proofs.«01_k».proof.Proof.Gen.Kernel.Frame
public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.ReferenceIdeal.Run
public import proofs.«01_k».proof.Proof.Gate
public import proofs.«01_k».proof.Proof.AttnFrames
public import proofs.«01_k».proof.Proof.Attn
public import proofs.«01_k».proof.Proof.Gen.DownDxKernel.Frame
public import proofs.«01_k».proof.Proof.Gen.DownDxKernelIdeal.Frame
public import proofs.«01_k».proof.Proof.Gen.DownDxKernelIdeal.Skeleton
public import proofs.«01_k».proof.Proof.Gen.DownDxKernelIdeal.Value
public import proofs.«01_k».proof.Proof.Gen.DownDxReferenceIdeal.Run
public import proofs.«01_k».proof.Proof.Gen.DownDwKernel.Frame
public import proofs.«01_k».proof.Proof.Gen.DownDwKernelIdeal.Frame
public import proofs.«01_k».proof.Proof.Gen.DownDwKernelIdeal.Skeleton
public import proofs.«01_k».proof.Proof.Gen.DownDwKernelIdeal.Value
public import proofs.«01_k».proof.Proof.Gen.DownDwReferenceIdeal.Run
public import proofs.«01_k».proof.Proof.Gen.GuDxKernel.Frame
public import proofs.«01_k».proof.Proof.Gen.GuDxKernelIdeal.Frame
public import proofs.«01_k».proof.Proof.Gen.GuDxKernelIdeal.Skeleton
public import proofs.«01_k».proof.Proof.Gen.GuDxKernelIdeal.Value
public import proofs.«01_k».proof.Proof.Gen.GuDxReferenceIdeal.Run
public import proofs.«01_k».proof.Proof.Gen.GuDwKernel.Frame
public import proofs.«01_k».proof.Proof.Gen.GuDwKernelIdeal.Frame
public import proofs.«01_k».proof.Proof.Gen.GuDwKernelIdeal.Skeleton
public import proofs.«01_k».proof.Proof.Gen.GuDwKernelIdeal.Value
public import proofs.«01_k».proof.Proof.Gen.GuDwReferenceIdeal.Run
public import proofs.«01_k».proof.Proof.Gen.AOutDxKernel.Frame
public import proofs.«01_k».proof.Proof.Gen.AOutDxKernelIdeal.Frame
public import proofs.«01_k».proof.Proof.Gen.AOutDxKernelIdeal.Skeleton
public import proofs.«01_k».proof.Proof.Gen.AOutDxKernelIdeal.Value
public import proofs.«01_k».proof.Proof.Gen.AOutDxReferenceIdeal.Run
public import proofs.«01_k».proof.Proof.Gen.AOutDwKernel.Frame
public import proofs.«01_k».proof.Proof.Gen.AOutDwKernelIdeal.Frame
public import proofs.«01_k».proof.Proof.Gen.AOutDwKernelIdeal.Skeleton
public import proofs.«01_k».proof.Proof.Gen.AOutDwKernelIdeal.Value
public import proofs.«01_k».proof.Proof.Gen.AOutDwReferenceIdeal.Run
public import proofs.«01_k».proof.Proof.Gen.AInDxKernel.Frame
public import proofs.«01_k».proof.Proof.Gen.AInDxKernelIdeal.Frame
public import proofs.«01_k».proof.Proof.Gen.AInDxKernelIdeal.Skeleton
public import proofs.«01_k».proof.Proof.Gen.AInDxKernelIdeal.Value
public import proofs.«01_k».proof.Proof.Gen.AInDxReferenceIdeal.Run
public import proofs.«01_k».proof.Proof.Gen.AInDwKernel.Frame
public import proofs.«01_k».proof.Proof.Gen.AInDwKernelIdeal.Frame
public import proofs.«01_k».proof.Proof.Gen.AInDwKernelIdeal.Skeleton
public import proofs.«01_k».proof.Proof.Gen.AInDwKernelIdeal.Value
public import proofs.«01_k».proof.Proof.Gen.AInDwReferenceIdeal.Run
public import proofs.«01_k».proof.Proof.Gen.BODxKernel.Frame
public import proofs.«01_k».proof.Proof.Gen.BODxKernelIdeal.Frame
public import proofs.«01_k».proof.Proof.Gen.BODxKernelIdeal.Skeleton
public import proofs.«01_k».proof.Proof.Gen.BODxKernelIdeal.Value
public import proofs.«01_k».proof.Proof.Gen.BODxReferenceIdeal.Run
public import proofs.«01_k».proof.Proof.Gen.BODwKernel.Frame
public import proofs.«01_k».proof.Proof.Gen.BODwKernelIdeal.Frame
public import proofs.«01_k».proof.Proof.Gen.BODwKernelIdeal.Skeleton
public import proofs.«01_k».proof.Proof.Gen.BODwKernelIdeal.Value
public import proofs.«01_k».proof.Proof.Gen.BODwReferenceIdeal.Run
public import proofs.«01_k».proof.Proof.Gen.KvDxKernel.Frame
public import proofs.«01_k».proof.Proof.Gen.KvDxKernelIdeal.Frame
public import proofs.«01_k».proof.Proof.Gen.KvDxKernelIdeal.Skeleton
public import proofs.«01_k».proof.Proof.Gen.KvDxKernelIdeal.Value
public import proofs.«01_k».proof.Proof.Gen.KvDxReferenceIdeal.Run
public import proofs.«01_k».proof.Proof.Gen.KvDwKernel.Frame
public import proofs.«01_k».proof.Proof.Gen.KvDwKernelIdeal.Frame
public import proofs.«01_k».proof.Proof.Gen.KvDwKernelIdeal.Skeleton
public import proofs.«01_k».proof.Proof.Gen.KvDwKernelIdeal.Value
public import proofs.«01_k».proof.Proof.Gen.KvDwReferenceIdeal.Run
public import proofs.«01_k».proof.Proof.Gen.GuKernel.Frame
public import proofs.«01_k».proof.Proof.Gen.GuKernelIdeal.Frame
public import proofs.«01_k».proof.Proof.Gen.GuKernelIdeal.Skeleton
public import proofs.«01_k».proof.Proof.Gen.GuKernelIdeal.Value
public import proofs.«01_k».proof.Proof.Gen.GuReferenceIdeal.Run
public import proofs.«01_k».proof.Proof.Gen.DownKernel.Frame
public import proofs.«01_k».proof.Proof.Gen.DownKernelIdeal.Frame
public import proofs.«01_k».proof.Proof.Gen.DownKernelIdeal.Skeleton
public import proofs.«01_k».proof.Proof.Gen.DownKernelIdeal.Value
public import proofs.«01_k».proof.Proof.Gen.DownReferenceIdeal.Run
public import proofs.«01_k».proof.Proof.Gen.AInKernel.Frame
public import proofs.«01_k».proof.Proof.Gen.AInKernelIdeal.Frame
public import proofs.«01_k».proof.Proof.Gen.AInKernelIdeal.Skeleton
public import proofs.«01_k».proof.Proof.Gen.AInKernelIdeal.Value
public import proofs.«01_k».proof.Proof.Gen.AInReferenceIdeal.Run
public import proofs.«01_k».proof.Proof.Gen.AOutKernel.Frame
public import proofs.«01_k».proof.Proof.Gen.AOutKernelIdeal.Frame
public import proofs.«01_k».proof.Proof.Gen.AOutKernelIdeal.Skeleton
public import proofs.«01_k».proof.Proof.Gen.AOutKernelIdeal.Value
public import proofs.«01_k».proof.Proof.Gen.AOutReferenceIdeal.Run
public import proofs.«01_k».proof.Proof.Gen.KvKernel.Frame
public import proofs.«01_k».proof.Proof.Gen.KvKernelIdeal.Frame
public import proofs.«01_k».proof.Proof.Gen.KvKernelIdeal.Skeleton
public import proofs.«01_k».proof.Proof.Gen.KvKernelIdeal.Value
public import proofs.«01_k».proof.Proof.Gen.KvReferenceIdeal.Run
public import proofs.«01_k».proof.Proof.Gen.BQKernel.Frame
public import proofs.«01_k».proof.Proof.Gen.BQKernelIdeal.Frame
public import proofs.«01_k».proof.Proof.Gen.BQKernelIdeal.Skeleton
public import proofs.«01_k».proof.Proof.Gen.BQKernelIdeal.Value
public import proofs.«01_k».proof.Proof.Gen.BQReferenceIdeal.Run
public import proofs.«01_k».proof.Proof.Gen.BOKernel.Frame
public import proofs.«01_k».proof.Proof.Gen.BOKernelIdeal.Frame
public import proofs.«01_k».proof.Proof.Gen.BOKernelIdeal.Skeleton
public import proofs.«01_k».proof.Proof.Gen.BOKernelIdeal.Value
public import proofs.«01_k».proof.Proof.Gen.BOReferenceIdeal.Run
public import proofs.«01_k».proof.Proof.DownDx
public import proofs.«01_k».proof.Proof.DownDw
public import proofs.«01_k».proof.Proof.GuDx
public import proofs.«01_k».proof.Proof.GuDw
public import proofs.«01_k».proof.Proof.AOutDx
public import proofs.«01_k».proof.Proof.AOutDw
public import proofs.«01_k».proof.Proof.AInDx
public import proofs.«01_k».proof.Proof.AInDw
public import proofs.«01_k».proof.Proof.BODx
public import proofs.«01_k».proof.Proof.BODw
public import proofs.«01_k».proof.Proof.KvDx
public import proofs.«01_k».proof.Proof.KvDw
public import proofs.«01_k».proof.Proof.Gu
public import proofs.«01_k».proof.Proof.Down
public import proofs.«01_k».proof.Proof.AIn
public import proofs.«01_k».proof.Proof.AOut
public import proofs.«01_k».proof.Proof.Kv
public import proofs.«01_k».proof.Proof.BQ
public import proofs.«01_k».proof.Proof.BO
public import proofs.«01_k».proof.Proof.Gen.AttnTwoKernel.Frame
public import proofs.«01_k».proof.Proof.Gen.AttnTwoKernelIdeal.Frame
public import proofs.«01_k».proof.Proof.Gen.AttnTwoKernelIdeal.Skeleton
public import proofs.«01_k».proof.Proof.Gen.AttnTwoKernelIdeal.Loops
public import proofs.«01_k».proof.Proof.Gen.AttnTwoReferenceIdeal.Run
public import proofs.«01_k».proof.Proof.Gen.DownDepKernel.Frame
public import proofs.«01_k».proof.Proof.Gen.DownDepKernelIdeal.Frame
public import proofs.«01_k».proof.Proof.Gen.DownDepKernelIdeal.Skeleton
public import proofs.«01_k».proof.Proof.Gen.DownDepKernelIdeal.Value
public import proofs.«01_k».proof.Proof.Gen.DownDepReferenceIdeal.Run
public import proofs.«01_k».proof.Proof.Gen.AOutDepKernel.Frame
public import proofs.«01_k».proof.Proof.Gen.AOutDepKernelIdeal.Frame
public import proofs.«01_k».proof.Proof.Gen.AOutDepKernelIdeal.Skeleton
public import proofs.«01_k».proof.Proof.Gen.AOutDepKernelIdeal.Value
public import proofs.«01_k».proof.Proof.Gen.AOutDepReferenceIdeal.Run
public import proofs.«01_k».proof.Proof.Gen.BODepKernel.Frame
public import proofs.«01_k».proof.Proof.Gen.BODepKernelIdeal.Frame
public import proofs.«01_k».proof.Proof.Gen.BODepKernelIdeal.Skeleton
public import proofs.«01_k».proof.Proof.Gen.BODepKernelIdeal.Value
public import proofs.«01_k».proof.Proof.Gen.BODepReferenceIdeal.Run
public import proofs.«01_k».proof.Proof.Two.Attn
public import proofs.«01_k».proof.Proof.Two.AttnFrames
public import proofs.«01_k».proof.Proof.DownDep
public import proofs.«01_k».proof.Proof.AOutDep
public import proofs.«01_k».proof.Proof.BODep

@[expose] public section

noncomputable section

namespace Cert.Proof

open Idealize.ShloMosaic Idealize.SL.Sem

theorem claim : Cert.Claim :=
  ⟨Cert.GateKernel.Gen.facts, Cert.GateKernelIdeal.Gen.facts, Cert.GateReferenceIdeal.Gen.facts,
    Cert.Kernel.Gen.facts, Cert.KernelIdeal.Gen.facts, Cert.ReferenceIdeal.Gen.facts, Cert.DownDxKernel.Gen.facts,
    Cert.DownDxKernelIdeal.Gen.facts, Cert.DownDxReferenceIdeal.Gen.facts, Cert.DownDwKernel.Gen.facts,
    Cert.DownDwKernelIdeal.Gen.facts, Cert.DownDwReferenceIdeal.Gen.facts, Cert.GuDxKernel.Gen.facts,
    Cert.GuDxKernelIdeal.Gen.facts, Cert.GuDxReferenceIdeal.Gen.facts, Cert.GuDwKernel.Gen.facts,
    Cert.GuDwKernelIdeal.Gen.facts, Cert.GuDwReferenceIdeal.Gen.facts, Cert.AOutDxKernel.Gen.facts,
    Cert.AOutDxKernelIdeal.Gen.facts, Cert.AOutDxReferenceIdeal.Gen.facts, Cert.AOutDwKernel.Gen.facts,
    Cert.AOutDwKernelIdeal.Gen.facts, Cert.AOutDwReferenceIdeal.Gen.facts, Cert.AInDxKernel.Gen.facts,
    Cert.AInDxKernelIdeal.Gen.facts, Cert.AInDxReferenceIdeal.Gen.facts, Cert.AInDwKernel.Gen.facts,
    Cert.AInDwKernelIdeal.Gen.facts, Cert.AInDwReferenceIdeal.Gen.facts, Cert.BODxKernel.Gen.facts,
    Cert.BODxKernelIdeal.Gen.facts, Cert.BODxReferenceIdeal.Gen.facts, Cert.BODwKernel.Gen.facts,
    Cert.BODwKernelIdeal.Gen.facts, Cert.BODwReferenceIdeal.Gen.facts, Cert.KvDxKernel.Gen.facts,
    Cert.KvDxKernelIdeal.Gen.facts, Cert.KvDxReferenceIdeal.Gen.facts, Cert.KvDwKernel.Gen.facts,
    Cert.KvDwKernelIdeal.Gen.facts, Cert.KvDwReferenceIdeal.Gen.facts, Cert.GuKernel.Gen.facts,
    Cert.GuKernelIdeal.Gen.facts, Cert.GuReferenceIdeal.Gen.facts, Cert.DownKernel.Gen.facts,
    Cert.DownKernelIdeal.Gen.facts, Cert.DownReferenceIdeal.Gen.facts, Cert.AInKernel.Gen.facts,
    Cert.AInKernelIdeal.Gen.facts, Cert.AInReferenceIdeal.Gen.facts, Cert.AOutKernel.Gen.facts,
    Cert.AOutKernelIdeal.Gen.facts, Cert.AOutReferenceIdeal.Gen.facts, Cert.KvKernel.Gen.facts,
    Cert.KvKernelIdeal.Gen.facts, Cert.KvReferenceIdeal.Gen.facts, Cert.BQKernel.Gen.facts,
    Cert.BQKernelIdeal.Gen.facts, Cert.BQReferenceIdeal.Gen.facts, Cert.BOKernel.Gen.facts,
    Cert.BOKernelIdeal.Gen.facts, Cert.BOReferenceIdeal.Gen.facts, Cert.AttnTwoKernel.Gen.facts,
    Cert.AttnTwoKernelIdeal.Gen.facts, Cert.AttnTwoReferenceIdeal.Gen.facts, Cert.DownDepKernel.Gen.facts,
    Cert.DownDepKernelIdeal.Gen.facts, Cert.DownDepReferenceIdeal.Gen.facts, Cert.AOutDepKernel.Gen.facts,
    Cert.AOutDepKernelIdeal.Gen.facts, Cert.AOutDepReferenceIdeal.Gen.facts, Cert.BODepKernel.Gen.facts,
    Cert.BODepKernelIdeal.Gen.facts, Cert.BODepReferenceIdeal.Gen.facts, _root_.Attn.Finite.facts,
    _root_.AttnTwo.Finite.facts, Gate.frame_kernel, Gate.frame_ideal, Gate.frame_reference, Attn.frame_kernel,
    Attn.frame_ideal, @Attn.frame_ideal_pre _root_.Attn.Finite.facts, Attn.frame_reference,
    @Attn.frame_reference_pre _root_.Attn.Finite.facts, DownDx.frame_kernel, DownDx.frame_ideal,
    DownDx.frame_reference, DownDw.frame_kernel, DownDw.frame_ideal, DownDw.frame_reference, GuDx.frame_kernel,
    GuDx.frame_ideal, GuDx.frame_reference, GuDw.frame_kernel, GuDw.frame_ideal, GuDw.frame_reference,
    AOutDx.frame_kernel, AOutDx.frame_ideal, AOutDx.frame_reference, AOutDw.frame_kernel, AOutDw.frame_ideal,
    AOutDw.frame_reference, AInDx.frame_kernel, AInDx.frame_ideal, AInDx.frame_reference, AInDw.frame_kernel,
    AInDw.frame_ideal, AInDw.frame_reference, BODx.frame_kernel, BODx.frame_ideal, BODx.frame_reference,
    BODw.frame_kernel, BODw.frame_ideal, BODw.frame_reference, KvDx.frame_kernel, KvDx.frame_ideal,
    KvDx.frame_reference, KvDw.frame_kernel, KvDw.frame_ideal, KvDw.frame_reference, Gu.frame_kernel,
    Gu.frame_ideal, Gu.frame_reference, Down.frame_kernel, Down.frame_ideal, Down.frame_reference, AIn.frame_kernel,
    AIn.frame_ideal, AIn.frame_reference, AOut.frame_kernel, AOut.frame_ideal, AOut.frame_reference,
    Kv.frame_kernel, Kv.frame_ideal, Kv.frame_reference, BQ.frame_kernel, BQ.frame_ideal, BQ.frame_reference,
    BO.frame_kernel, BO.frame_ideal, BO.frame_reference, AttnTwo.frame_kernel, AttnTwo.frame_ideal,
    @AttnTwo.frame_ideal_pre _root_.AttnTwo.Finite.facts, AttnTwo.frame_reference,
    @AttnTwo.frame_reference_pre _root_.AttnTwo.Finite.facts, DownDep.frame_kernel, DownDep.frame_ideal,
    DownDep.frame_reference, AOutDep.frame_kernel, AOutDep.frame_ideal, AOutDep.frame_reference, BODep.frame_kernel,
    BODep.frame_ideal, BODep.frame_reference, trivial, Gate.value, trivial, Attn.value, trivial, DownDx.value,
    trivial, DownDw.value, trivial, GuDx.value, trivial, GuDw.value, trivial, AOutDx.value, trivial, AOutDw.value,
    trivial, AInDx.value, trivial, AInDw.value, trivial, BODx.value, trivial, BODw.value, trivial, KvDx.value,
    trivial, KvDw.value, trivial, Gu.value, trivial, Down.value, trivial, AIn.value, trivial, AOut.value, trivial,
    Kv.value, trivial, BQ.value, trivial, BO.value, trivial, AttnTwo.value, trivial, DownDep.value, trivial,
    AOutDep.value, trivial, BODep.value⟩

end Cert.Proof

end
